-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradIdeal_finite_acts [hPre_finite_acts : Cert.Pre_finite_acts.Facts] (m : (ℓ : Loc Cert.ActGradIdeal.nD Cert.ActGradIdeal.τ Cert.ActGradIdeal.sig) → Buf (Elt Ideal) ℓ) : Prop :=
  ∀ c : Dev Cert.ActGradIdeal.nD,
    (Cert.Pre_finite_acts.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))) = (fun _ => 1#1)

def Pre_ActGradReferenceIdeal (m : (ℓ : Loc Cert.ActGradReferenceIdeal.nD Cert.ActGradReferenceIdeal.τ Cert.ActGradReferenceIdeal.sig) → Buf (Elt Ideal) ℓ) : Prop :=
  True

def Pre_ActGradReferenceIdeal_finite_acts [hPre_finite_acts : Cert.Pre_finite_acts.Facts] (m : (ℓ : Loc Cert.ActGradReferenceIdeal.nD Cert.ActGradReferenceIdeal.τ Cert.ActGradReferenceIdeal.sig) → Buf (Elt Ideal) ℓ) : Prop :=
  ∀ c : Dev Cert.ActGradReferenceIdeal.nD,
    (Cert.Pre_finite_acts.fn (F := Ideal) (m ((c.tc : Thread Cert.ActGradReferenceIdeal.nD Cert.ActGradReferenceIdeal.τ).loc Cert.ActGradReferenceIdeal.main_arg0)) (m ((c.tc : Thread Cert.ActGradReferenceIdeal.nD Cert.ActGradReferenceIdeal.τ).loc Cert.ActGradReferenceIdeal.main_arg1)) (m ((c.tc : Thread Cert.ActGradReferenceIdeal.nD Cert.ActGradReferenceIdeal.τ).loc Cert.ActGradReferenceIdeal.main_arg2)) (m ((c.tc : Thread Cert.ActGradReferenceIdeal.nD Cert.ActGradReferenceIdeal.τ).loc Cert.ActGradReferenceIdeal.main_arg3))) = (fun _ => 1#1)

def Pre_InputGrad (m : (ℓ : Loc Cert.InputGrad.nD Cert.InputGrad.τ Cert.InputGrad.sig) → Buf (Elt Bits) ℓ) : Prop :=
  True

def Pre_InputGradIdeal (m : (ℓ : Loc Cert.InputGradIdeal.nD Cert.InputGradIdeal.τ Cert.InputGradIdeal.sig) → Buf (Elt Ideal) ℓ) : Prop :=
  True

def Pre_InputGradReferenceIdeal (m : (ℓ : Loc Cert.InputGradReferenceIdeal.nD Cert.InputGradReferenceIdeal.τ Cert.InputGradReferenceIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradReferenceIdeal (m : (ℓ : Loc Cert.UpGradReferenceIdeal.nD Cert.UpGradReferenceIdeal.τ Cert.UpGradReferenceIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradReferenceIdeal (m : (ℓ : Loc Cert.DownGradReferenceIdeal.nD Cert.DownGradReferenceIdeal.τ Cert.DownGradReferenceIdeal.sig) → Buf (Elt Ideal) ℓ) : Prop :=
  True

def Pre_MergeGrad (m : (ℓ : Loc Cert.MergeGrad.nD Cert.MergeGrad.τ Cert.MergeGrad.sig) → Buf (Elt Bits) ℓ) : Prop :=
  True

def Pre_MergeGradIdeal (m : (ℓ : Loc Cert.MergeGradIdeal.nD Cert.MergeGradIdeal.τ Cert.MergeGradIdeal.sig) → Buf (Elt Ideal) ℓ) : Prop :=
  True

def Pre_MergeGradReferenceIdeal (m : (ℓ : Loc Cert.MergeGradReferenceIdeal.nD Cert.MergeGradReferenceIdeal.τ Cert.MergeGradReferenceIdeal.sig) → Buf (Elt Ideal) ℓ) : Prop :=
  True

def Pre_MixInputGrad (m : (ℓ : Loc Cert.MixInputGrad.nD Cert.MixInputGrad.τ Cert.MixInputGrad.sig) → Buf (Elt Bits) ℓ) : Prop :=
  True

def Pre_MixInputGradIdeal (m : (ℓ : Loc Cert.MixInputGradIdeal.nD Cert.MixInputGradIdeal.τ Cert.MixInputGradIdeal.sig) → Buf (Elt Ideal) ℓ) : Prop :=
  True

def Pre_MixInputGradReferenceIdeal (m : (ℓ : Loc Cert.MixInputGradReferenceIdeal.nD Cert.MixInputGradReferenceIdeal.τ Cert.MixInputGradReferenceIdeal.sig) → Buf (Elt Ideal) ℓ) : Prop :=
  True

def Pre_InWeightGrad (m : (ℓ : Loc Cert.InWeightGrad.nD Cert.InWeightGrad.τ Cert.InWeightGrad.sig) → Buf (Elt Bits) ℓ) : Prop :=
  True

def Pre_InWeightGradIdeal (m : (ℓ : Loc Cert.InWeightGradIdeal.nD Cert.InWeightGradIdeal.τ Cert.InWeightGradIdeal.sig) → Buf (Elt Ideal) ℓ) : Prop :=
  True

def Pre_InWeightGradReferenceIdeal (m : (ℓ : Loc Cert.InWeightGradReferenceIdeal.nD Cert.InWeightGradReferenceIdeal.τ Cert.InWeightGradReferenceIdeal.sig) → Buf (Elt Ideal) ℓ) : Prop :=
  True

def Pre_GatedHalves (m : (ℓ : Loc Cert.GatedHalves.nD Cert.GatedHalves.τ Cert.GatedHalves.sig) → Buf (Elt Bits) ℓ) : Prop :=
  True

def Pre_GatedHalvesIdeal (m : (ℓ : Loc Cert.GatedHalvesIdeal.nD Cert.GatedHalvesIdeal.τ Cert.GatedHalvesIdeal.sig) → Buf (Elt Ideal) ℓ) : Prop :=
  True

def Pre_GatedHalvesReferenceIdeal (m : (ℓ : Loc Cert.GatedHalvesReferenceIdeal.nD Cert.GatedHalvesReferenceIdeal.τ Cert.GatedHalvesReferenceIdeal.sig) → Buf (Elt Ideal) ℓ) : Prop :=
  True

def Pre_HalfLayer (m : (ℓ : Loc Cert.HalfLayer.nD Cert.HalfLayer.τ Cert.HalfLayer.sig) → Buf (Elt Bits) ℓ) : Prop :=
  True

def Pre_HalfLayerIdeal (m : (ℓ : Loc Cert.HalfLayerIdeal.nD Cert.HalfLayerIdeal.τ Cert.HalfLayerIdeal.sig) → Buf (Elt Ideal) ℓ) : Prop :=
  True

def Pre_HalfLayerReferenceIdeal (m : (ℓ : Loc Cert.HalfLayerReferenceIdeal.nD Cert.HalfLayerReferenceIdeal.τ Cert.HalfLayerReferenceIdeal.sig) → Buf (Elt Ideal) ℓ) : Prop :=
  True

def Pre_AttnForward (m : (ℓ : Loc Cert.AttnForward.nD Cert.AttnForward.τ Cert.AttnForward.sig) → Buf (Elt Bits) ℓ) : Prop :=
  True

def Pre_AttnForwardIdeal (m : (ℓ : Loc Cert.AttnForwardIdeal.nD Cert.AttnForwardIdeal.τ Cert.AttnForwardIdeal.sig) → Buf (Elt Ideal) ℓ) : Prop :=
  True

def Pre_AttnForwardIdeal_finite_rows [hPre_finite_rows : Cert.Pre_finite_rows.Facts] (m : (ℓ : Loc Cert.AttnForwardIdeal.nD Cert.AttnForwardIdeal.τ Cert.AttnForwardIdeal.sig) → Buf (Elt Ideal) ℓ) : Prop :=
  ∀ c : Dev Cert.AttnForwardIdeal.nD,
    (Cert.Pre_finite_rows.fn (F := Ideal) (m ((c.tc : Thread Cert.AttnForwardIdeal.nD Cert.AttnForwardIdeal.τ).loc Cert.AttnForwardIdeal.main_arg0)) (m ((c.tc : Thread Cert.AttnForwardIdeal.nD Cert.AttnForwardIdeal.τ).loc Cert.AttnForwardIdeal.main_arg1))) = (fun _ => 1#1)

def Pre_AttnForwardReferenceIdeal (m : (ℓ : Loc Cert.AttnForwardReferenceIdeal.nD Cert.AttnForwardReferenceIdeal.τ Cert.AttnForwardReferenceIdeal.sig) → Buf (Elt Ideal) ℓ) : Prop :=
  True

def Pre_AttnForwardReferenceIdeal_finite_rows [hPre_finite_rows : Cert.Pre_finite_rows.Facts] (m : (ℓ : Loc Cert.AttnForwardReferenceIdeal.nD Cert.AttnForwardReferenceIdeal.τ Cert.AttnForwardReferenceIdeal.sig) → Buf (Elt Ideal) ℓ) : Prop :=
  ∀ c : Dev Cert.AttnForwardReferenceIdeal.nD,
    (Cert.Pre_finite_rows.fn (F := Ideal) (m ((c.tc : Thread Cert.AttnForwardReferenceIdeal.nD Cert.AttnForwardReferenceIdeal.τ).loc Cert.AttnForwardReferenceIdeal.main_arg0)) (m ((c.tc : Thread Cert.AttnForwardReferenceIdeal.nD Cert.AttnForwardReferenceIdeal.τ).loc Cert.AttnForwardReferenceIdeal.main_arg1))) = (fun _ => 1#1)

def Pre_MixColumns (m : (ℓ : Loc Cert.MixColumns.nD Cert.MixColumns.τ Cert.MixColumns.sig) → Buf (Elt Bits) ℓ) : Prop :=
  True

def Pre_MixColumnsIdeal (m : (ℓ : Loc Cert.MixColumnsIdeal.nD Cert.MixColumnsIdeal.τ Cert.MixColumnsIdeal.sig) → Buf (Elt Ideal) ℓ) : Prop :=
  True

def Pre_MixColumnsReferenceIdeal (m : (ℓ : Loc Cert.MixColumnsReferenceIdeal.nD Cert.MixColumnsReferenceIdeal.τ Cert.MixColumnsReferenceIdeal.sig) → Buf (Elt Ideal) ℓ) : Prop :=
  True

def Pre_GateColumns (m : (ℓ : Loc Cert.GateColumns.nD Cert.GateColumns.τ Cert.GateColumns.sig) → Buf (Elt Bits) ℓ) : Prop :=
  True

def Pre_GateColumnsIdeal (m : (ℓ : Loc Cert.GateColumnsIdeal.nD Cert.GateColumnsIdeal.τ Cert.GateColumnsIdeal.sig) → Buf (Elt Ideal) ℓ) : Prop :=
  True

def Pre_GateColumnsReferenceIdeal (m : (ℓ : Loc Cert.GateColumnsReferenceIdeal.nD Cert.GateColumnsReferenceIdeal.τ Cert.GateColumnsReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_OutWeightGrad (m : (ℓ : Loc Cert.OutWeightGrad.nD Cert.OutWeightGrad.τ Cert.OutWeightGrad.sig) → Buf (Elt Bits) ℓ) : Prop :=
  True

def Pre_OutWeightGradIdeal (m : (ℓ : Loc Cert.OutWeightGradIdeal.nD Cert.OutWeightGradIdeal.τ Cert.OutWeightGradIdeal.sig) → Buf (Elt Ideal) ℓ) : Prop :=
  True

def Pre_OutWeightGradReferenceIdeal (m : (ℓ : Loc Cert.OutWeightGradReferenceIdeal.nD Cert.OutWeightGradReferenceIdeal.τ Cert.OutWeightGradReferenceIdeal.sig) → Buf (Elt Ideal) ℓ) : Prop :=
  True

def Pre_AttnOutGrad (m : (ℓ : Loc Cert.AttnOutGrad.nD Cert.AttnOutGrad.τ Cert.AttnOutGrad.sig) → Buf (Elt Bits) ℓ) : Prop :=
  True

def Pre_AttnOutGradIdeal (m : (ℓ : Loc Cert.AttnOutGradIdeal.nD Cert.AttnOutGradIdeal.τ Cert.AttnOutGradIdeal.sig) → Buf (Elt Ideal) ℓ) : Prop :=
  True

def Pre_AttnOutGradReferenceIdeal (m : (ℓ : Loc Cert.AttnOutGradReferenceIdeal.nD Cert.AttnOutGradReferenceIdeal.τ Cert.AttnOutGradReferenceIdeal.sig) → Buf (Elt Ideal) ℓ) : Prop :=
  True

def Pre_RecOutGrad (m : (ℓ : Loc Cert.RecOutGrad.nD Cert.RecOutGrad.τ Cert.RecOutGrad.sig) → Buf (Elt Bits) ℓ) : Prop :=
  True

def Pre_RecOutGradIdeal (m : (ℓ : Loc Cert.RecOutGradIdeal.nD Cert.RecOutGradIdeal.τ Cert.RecOutGradIdeal.sig) → Buf (Elt Ideal) ℓ) : Prop :=
  True

def Pre_RecOutGradReferenceIdeal (m : (ℓ : Loc Cert.RecOutGradReferenceIdeal.nD Cert.RecOutGradReferenceIdeal.τ Cert.RecOutGradReferenceIdeal.sig) → Buf (Elt Ideal) ℓ) : Prop :=
  True

def Pre_AttnProjGrad (m : (ℓ : Loc Cert.AttnProjGrad.nD Cert.AttnProjGrad.τ Cert.AttnProjGrad.sig) → Buf (Elt Bits) ℓ) : Prop :=
  True

def Pre_AttnProjGradIdeal (m : (ℓ : Loc Cert.AttnProjGradIdeal.nD Cert.AttnProjGradIdeal.τ Cert.AttnProjGradIdeal.sig) → Buf (Elt Ideal) ℓ) : Prop :=
  True

def Pre_AttnProjGradReferenceIdeal (m : (ℓ : Loc Cert.AttnProjGradReferenceIdeal.nD Cert.AttnProjGradReferenceIdeal.τ Cert.AttnProjGradReferenceIdeal.sig) → Buf (Elt Ideal) ℓ) : Prop :=
  True

def Pre_RecProjGrad (m : (ℓ : Loc Cert.RecProjGrad.nD Cert.RecProjGrad.τ Cert.RecProjGrad.sig) → Buf (Elt Bits) ℓ) : Prop :=
  True

def Pre_RecProjGradIdeal (m : (ℓ : Loc Cert.RecProjGradIdeal.nD Cert.RecProjGradIdeal.τ Cert.RecProjGradIdeal.sig) → Buf (Elt Ideal) ℓ) : Prop :=
  True

def Pre_RecProjGradReferenceIdeal (m : (ℓ : Loc Cert.RecProjGradReferenceIdeal.nD Cert.RecProjGradReferenceIdeal.τ Cert.RecProjGradReferenceIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradReferenceIdeal (m : (ℓ : Loc Cert.NormGradReferenceIdeal.nD Cert.NormGradReferenceIdeal.τ Cert.NormGradReferenceIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormReferenceIdeal (m : (ℓ : Loc Cert.FirstNormReferenceIdeal.nD Cert.FirstNormReferenceIdeal.τ Cert.FirstNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2)
      ∧ r.2.mem ((c.tc : Thread Cert.ActGrad.nD Cert.ActGrad.τ).loc Cert.ActGrad.main_arg3) = m ((c.tc : Thread Cert.ActGrad.nD Cert.ActGrad.τ).loc Cert.ActGrad.main_arg3))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradIdeal_pre_finite_acts [hActGradIdeal : Cert.ActGradIdeal.Facts] [hPre_finite_acts : Cert.Pre_finite_acts.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal_finite_acts m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradReferenceIdeal [hActGradReferenceIdeal : Cert.ActGradReferenceIdeal.Facts] : Prop :=
  ∀ (m : (ℓ : Loc Cert.ActGradReferenceIdeal.nD Cert.ActGradReferenceIdeal.τ Cert.ActGradReferenceIdeal.sig) → Buf (Elt Ideal) ℓ) (g : Dev Cert.ActGradReferenceIdeal.nD → PrngReg), Pre_ActGradReferenceIdeal m →
    θ_run (Cert.ActGradReferenceIdeal.defs (F := Ideal)) (onTc (τ := Cert.ActGradReferenceIdeal.τ) (Cert.ActGradReferenceIdeal.main (F := Ideal))) ⟨m, fun _ => 0, g⟩ (fun r => (∀ c : Dev Cert.ActGradReferenceIdeal.nD,
      r.2.mem ((c.tc : Thread Cert.ActGradReferenceIdeal.nD Cert.ActGradReferenceIdeal.τ).loc Cert.ActGradReferenceIdeal.main_arg0) = m ((c.tc : Thread Cert.ActGradReferenceIdeal.nD Cert.ActGradReferenceIdeal.τ).loc Cert.ActGradReferenceIdeal.main_arg0)
      ∧ r.2.mem ((c.tc : Thread Cert.ActGradReferenceIdeal.nD Cert.ActGradReferenceIdeal.τ).loc Cert.ActGradReferenceIdeal.main_arg1) = m ((c.tc : Thread Cert.ActGradReferenceIdeal.nD Cert.ActGradReferenceIdeal.τ).loc Cert.ActGradReferenceIdeal.main_arg1)
      ∧ r.2.mem ((c.tc : Thread Cert.ActGradReferenceIdeal.nD Cert.ActGradReferenceIdeal.τ).loc Cert.ActGradReferenceIdeal.main_arg2) = m ((c.tc : Thread Cert.ActGradReferenceIdeal.nD Cert.ActGradReferenceIdeal.τ).loc Cert.ActGradReferenceIdeal.main_arg2)
      ∧ r.2.mem ((c.tc : Thread Cert.ActGradReferenceIdeal.nD Cert.ActGradReferenceIdeal.τ).loc Cert.ActGradReferenceIdeal.main_arg3) = m ((c.tc : Thread Cert.ActGradReferenceIdeal.nD Cert.ActGradReferenceIdeal.τ).loc Cert.ActGradReferenceIdeal.main_arg3))
      ∧ r.2.sem = fun _ => 0)

def quiescent_ActGradReferenceIdeal_pre_finite_acts [hActGradReferenceIdeal : Cert.ActGradReferenceIdeal.Facts] [hPre_finite_acts : Cert.Pre_finite_acts.Facts] : Prop :=
  ∀ (m : (ℓ : Loc Cert.ActGradReferenceIdeal.nD Cert.ActGradReferenceIdeal.τ Cert.ActGradReferenceIdeal.sig) → Buf (Elt Ideal) ℓ) (g : Dev Cert.ActGradReferenceIdeal.nD → PrngReg), Pre_ActGradReferenceIdeal_finite_acts m →
    θ_run (Cert.ActGradReferenceIdeal.defs (F := Ideal)) (onTc (τ := Cert.ActGradReferenceIdeal.τ) (Cert.ActGradReferenceIdeal.main (F := Ideal))) ⟨m, fun _ => 0, g⟩ (fun r => (∀ c : Dev Cert.ActGradReferenceIdeal.nD,
      r.2.mem ((c.tc : Thread Cert.ActGradReferenceIdeal.nD Cert.ActGradReferenceIdeal.τ).loc Cert.ActGradReferenceIdeal.main_arg0) = m ((c.tc : Thread Cert.ActGradReferenceIdeal.nD Cert.ActGradReferenceIdeal.τ).loc Cert.ActGradReferenceIdeal.main_arg0)
      ∧ r.2.mem ((c.tc : Thread Cert.ActGradReferenceIdeal.nD Cert.ActGradReferenceIdeal.τ).loc Cert.ActGradReferenceIdeal.main_arg1) = m ((c.tc : Thread Cert.ActGradReferenceIdeal.nD Cert.ActGradReferenceIdeal.τ).loc Cert.ActGradReferenceIdeal.main_arg1)
      ∧ r.2.mem ((c.tc : Thread Cert.ActGradReferenceIdeal.nD Cert.ActGradReferenceIdeal.τ).loc Cert.ActGradReferenceIdeal.main_arg2) = m ((c.tc : Thread Cert.ActGradReferenceIdeal.nD Cert.ActGradReferenceIdeal.τ).loc Cert.ActGradReferenceIdeal.main_arg2)
      ∧ r.2.mem ((c.tc : Thread Cert.ActGradReferenceIdeal.nD Cert.ActGradReferenceIdeal.τ).loc Cert.ActGradReferenceIdeal.main_arg3) = m ((c.tc : Thread Cert.ActGradReferenceIdeal.nD Cert.ActGradReferenceIdeal.τ).loc Cert.ActGradReferenceIdeal.main_arg3))
      ∧ r.2.sem = fun _ => 0)

def quiescent_InputGrad [hInputGrad : Cert.InputGrad.Facts] : Prop :=
  ∀ (m : (ℓ : Loc Cert.InputGrad.nD Cert.InputGrad.τ Cert.InputGrad.sig) → Buf (Elt Bits) ℓ) (g : Dev Cert.InputGrad.nD → PrngReg), Pre_InputGrad m →
    θ_run (Cert.InputGrad.defs (F := Bits)) (onTc (τ := Cert.InputGrad.τ) (Cert.InputGrad.main (F := Bits))) ⟨m, fun _ => 0, g⟩ (fun r => (∀ c : Dev Cert.InputGrad.nD,
      r.2.mem ((c.tc : Thread Cert.InputGrad.nD Cert.InputGrad.τ).loc Cert.InputGrad.main_arg0) = m ((c.tc : Thread Cert.InputGrad.nD Cert.InputGrad.τ).loc Cert.InputGrad.main_arg0)
      ∧ r.2.mem ((c.tc : Thread Cert.InputGrad.nD Cert.InputGrad.τ).loc Cert.InputGrad.main_arg1) = m ((c.tc : Thread Cert.InputGrad.nD Cert.InputGrad.τ).loc Cert.InputGrad.main_arg1)
      ∧ r.2.mem ((c.tc : Thread Cert.InputGrad.nD Cert.InputGrad.τ).loc Cert.InputGrad.main_arg2) = m ((c.tc : Thread Cert.InputGrad.nD Cert.InputGrad.τ).loc Cert.InputGrad.main_arg2))
      ∧ r.2.sem = fun _ => 0)

def quiescent_InputGradIdeal [hInputGradIdeal : Cert.InputGradIdeal.Facts] : Prop :=
  ∀ (m : (ℓ : Loc Cert.InputGradIdeal.nD Cert.InputGradIdeal.τ Cert.InputGradIdeal.sig) → Buf (Elt Ideal) ℓ) (g : Dev Cert.InputGradIdeal.nD → PrngReg), Pre_InputGradIdeal m →
    θ_run (Cert.InputGradIdeal.defs (F := Ideal)) (onTc (τ := Cert.InputGradIdeal.τ) (Cert.InputGradIdeal.main (F := Ideal))) ⟨m, fun _ => 0, g⟩ (fun r => (∀ c : Dev Cert.InputGradIdeal.nD,
      r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
      ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
      ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2))
      ∧ r.2.sem = fun _ => 0)

def quiescent_InputGradReferenceIdeal [hInputGradReferenceIdeal : Cert.InputGradReferenceIdeal.Facts] : Prop :=
  ∀ (m : (ℓ : Loc Cert.InputGradReferenceIdeal.nD Cert.InputGradReferenceIdeal.τ Cert.InputGradReferenceIdeal.sig) → Buf (Elt Ideal) ℓ) (g : Dev Cert.InputGradReferenceIdeal.nD → PrngReg), Pre_InputGradReferenceIdeal m →
    θ_run (Cert.InputGradReferenceIdeal.defs (F := Ideal)) (onTc (τ := Cert.InputGradReferenceIdeal.τ) (Cert.InputGradReferenceIdeal.main (F := Ideal))) ⟨m, fun _ => 0, g⟩ (fun r => (∀ c : Dev Cert.InputGradReferenceIdeal.nD,
      r.2.mem ((c.tc : Thread Cert.InputGradReferenceIdeal.nD Cert.InputGradReferenceIdeal.τ).loc Cert.InputGradReferenceIdeal.main_arg0) = m ((c.tc : Thread Cert.InputGradReferenceIdeal.nD Cert.InputGradReferenceIdeal.τ).loc Cert.InputGradReferenceIdeal.main_arg0)
      ∧ r.2.mem ((c.tc : Thread Cert.InputGradReferenceIdeal.nD Cert.InputGradReferenceIdeal.τ).loc Cert.InputGradReferenceIdeal.main_arg1) = m ((c.tc : Thread Cert.InputGradReferenceIdeal.nD Cert.InputGradReferenceIdeal.τ).loc Cert.InputGradReferenceIdeal.main_arg1)
      ∧ r.2.mem ((c.tc : Thread Cert.InputGradReferenceIdeal.nD Cert.InputGradReferenceIdeal.τ).loc Cert.InputGradReferenceIdeal.main_arg2) = m ((c.tc : Thread Cert.InputGradReferenceIdeal.nD Cert.InputGradReferenceIdeal.τ).loc Cert.InputGradReferenceIdeal.main_arg2))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradReferenceIdeal [hUpGradReferenceIdeal : Cert.UpGradReferenceIdeal.Facts] : Prop :=
  ∀ (m : (ℓ : Loc Cert.UpGradReferenceIdeal.nD Cert.UpGradReferenceIdeal.τ Cert.UpGradReferenceIdeal.sig) → Buf (Elt Ideal) ℓ) (g : Dev Cert.UpGradReferenceIdeal.nD → PrngReg), Pre_UpGradReferenceIdeal m →
    θ_run (Cert.UpGradReferenceIdeal.defs (F := Ideal)) (onTc (τ := Cert.UpGradReferenceIdeal.τ) (Cert.UpGradReferenceIdeal.main (F := Ideal))) ⟨m, fun _ => 0, g⟩ (fun r => (∀ c : Dev Cert.UpGradReferenceIdeal.nD,
      r.2.mem ((c.tc : Thread Cert.UpGradReferenceIdeal.nD Cert.UpGradReferenceIdeal.τ).loc Cert.UpGradReferenceIdeal.main_arg0) = m ((c.tc : Thread Cert.UpGradReferenceIdeal.nD Cert.UpGradReferenceIdeal.τ).loc Cert.UpGradReferenceIdeal.main_arg0)
      ∧ r.2.mem ((c.tc : Thread Cert.UpGradReferenceIdeal.nD Cert.UpGradReferenceIdeal.τ).loc Cert.UpGradReferenceIdeal.main_arg1) = m ((c.tc : Thread Cert.UpGradReferenceIdeal.nD Cert.UpGradReferenceIdeal.τ).loc Cert.UpGradReferenceIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradReferenceIdeal [hDownGradReferenceIdeal : Cert.DownGradReferenceIdeal.Facts] : Prop :=
  ∀ (m : (ℓ : Loc Cert.DownGradReferenceIdeal.nD Cert.DownGradReferenceIdeal.τ Cert.DownGradReferenceIdeal.sig) → Buf (Elt Ideal) ℓ) (g : Dev Cert.DownGradReferenceIdeal.nD → PrngReg), Pre_DownGradReferenceIdeal m →
    θ_run (Cert.DownGradReferenceIdeal.defs (F := Ideal)) (onTc (τ := Cert.DownGradReferenceIdeal.τ) (Cert.DownGradReferenceIdeal.main (F := Ideal))) ⟨m, fun _ => 0, g⟩ (fun r => (∀ c : Dev Cert.DownGradReferenceIdeal.nD,
      r.2.mem ((c.tc : Thread Cert.DownGradReferenceIdeal.nD Cert.DownGradReferenceIdeal.τ).loc Cert.DownGradReferenceIdeal.main_arg0) = m ((c.tc : Thread Cert.DownGradReferenceIdeal.nD Cert.DownGradReferenceIdeal.τ).loc Cert.DownGradReferenceIdeal.main_arg0)
      ∧ r.2.mem ((c.tc : Thread Cert.DownGradReferenceIdeal.nD Cert.DownGradReferenceIdeal.τ).loc Cert.DownGradReferenceIdeal.main_arg1) = m ((c.tc : Thread Cert.DownGradReferenceIdeal.nD Cert.DownGradReferenceIdeal.τ).loc Cert.DownGradReferenceIdeal.main_arg1))
      ∧ r.2.sem = fun _ => 0)

def quiescent_MergeGrad [hMergeGrad : Cert.MergeGrad.Facts] : Prop :=
  ∀ (m : (ℓ : Loc Cert.MergeGrad.nD Cert.MergeGrad.τ Cert.MergeGrad.sig) → Buf (Elt Bits) ℓ) (g : Dev Cert.MergeGrad.nD → PrngReg), Pre_MergeGrad m →
    θ_run (Cert.MergeGrad.defs (F := Bits)) (onTc (τ := Cert.MergeGrad.τ) (Cert.MergeGrad.main (F := Bits))) ⟨m, fun _ => 0, g⟩ (fun r => (∀ c : Dev Cert.MergeGrad.nD,
      r.2.mem ((c.tc : Thread Cert.MergeGrad.nD Cert.MergeGrad.τ).loc Cert.MergeGrad.main_arg0) = m ((c.tc : Thread Cert.MergeGrad.nD Cert.MergeGrad.τ).loc Cert.MergeGrad.main_arg0)
      ∧ r.2.mem ((c.tc : Thread Cert.MergeGrad.nD Cert.MergeGrad.τ).loc Cert.MergeGrad.main_arg1) = m ((c.tc : Thread Cert.MergeGrad.nD Cert.MergeGrad.τ).loc Cert.MergeGrad.main_arg1)
      ∧ r.2.mem ((c.tc : Thread Cert.MergeGrad.nD Cert.MergeGrad.τ).loc Cert.MergeGrad.main_arg2) = m ((c.tc : Thread Cert.MergeGrad.nD Cert.MergeGrad.τ).loc Cert.MergeGrad.main_arg2)
      ∧ r.2.mem ((c.tc : Thread Cert.MergeGrad.nD Cert.MergeGrad.τ).loc Cert.MergeGrad.main_arg3) = m ((c.tc : Thread Cert.MergeGrad.nD Cert.MergeGrad.τ).loc Cert.MergeGrad.main_arg3)
      ∧ r.2.mem ((c.tc : Thread Cert.MergeGrad.nD Cert.MergeGrad.τ).loc Cert.MergeGrad.main_arg4) = m ((c.tc : Thread Cert.MergeGrad.nD Cert.MergeGrad.τ).loc Cert.MergeGrad.main_arg4))
      ∧ r.2.sem = fun _ => 0)

def quiescent_MergeGradIdeal [hMergeGradIdeal : Cert.MergeGradIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg), Pre_MergeGradIdeal m →
    θ_run (Cert.MergeGradIdeal.defs (F := Ideal)) (onTc (τ := Cert.MergeGradIdeal.τ) (Cert.MergeGradIdeal.main (F := Ideal))) ⟨m, fun _ => 0, g⟩ (fun r => (∀ c : Dev Cert.MergeGradIdeal.nD,
      r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
      ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
      ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
      ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
      ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ r.2.sem = fun _ => 0)

def quiescent_MergeGradReferenceIdeal [hMergeGradReferenceIdeal : Cert.MergeGradReferenceIdeal.Facts] : Prop :=
  ∀ (m : (ℓ : Loc Cert.MergeGradReferenceIdeal.nD Cert.MergeGradReferenceIdeal.τ Cert.MergeGradReferenceIdeal.sig) → Buf (Elt Ideal) ℓ) (g : Dev Cert.MergeGradReferenceIdeal.nD → PrngReg), Pre_MergeGradReferenceIdeal m →
    θ_run (Cert.MergeGradReferenceIdeal.defs (F := Ideal)) (onTc (τ := Cert.MergeGradReferenceIdeal.τ) (Cert.MergeGradReferenceIdeal.main (F := Ideal))) ⟨m, fun _ => 0, g⟩ (fun r => (∀ c : Dev Cert.MergeGradReferenceIdeal.nD,
      r.2.mem ((c.tc : Thread Cert.MergeGradReferenceIdeal.nD Cert.MergeGradReferenceIdeal.τ).loc Cert.MergeGradReferenceIdeal.main_arg0) = m ((c.tc : Thread Cert.MergeGradReferenceIdeal.nD Cert.MergeGradReferenceIdeal.τ).loc Cert.MergeGradReferenceIdeal.main_arg0)
      ∧ r.2.mem ((c.tc : Thread Cert.MergeGradReferenceIdeal.nD Cert.MergeGradReferenceIdeal.τ).loc Cert.MergeGradReferenceIdeal.main_arg1) = m ((c.tc : Thread Cert.MergeGradReferenceIdeal.nD Cert.MergeGradReferenceIdeal.τ).loc Cert.MergeGradReferenceIdeal.main_arg1)
      ∧ r.2.mem ((c.tc : Thread Cert.MergeGradReferenceIdeal.nD Cert.MergeGradReferenceIdeal.τ).loc Cert.MergeGradReferenceIdeal.main_arg2) = m ((c.tc : Thread Cert.MergeGradReferenceIdeal.nD Cert.MergeGradReferenceIdeal.τ).loc Cert.MergeGradReferenceIdeal.main_arg2)
      ∧ r.2.mem ((c.tc : Thread Cert.MergeGradReferenceIdeal.nD Cert.MergeGradReferenceIdeal.τ).loc Cert.MergeGradReferenceIdeal.main_arg3) = m ((c.tc : Thread Cert.MergeGradReferenceIdeal.nD Cert.MergeGradReferenceIdeal.τ).loc Cert.MergeGradReferenceIdeal.main_arg3)
      ∧ r.2.mem ((c.tc : Thread Cert.MergeGradReferenceIdeal.nD Cert.MergeGradReferenceIdeal.τ).loc Cert.MergeGradReferenceIdeal.main_arg4) = m ((c.tc : Thread Cert.MergeGradReferenceIdeal.nD Cert.MergeGradReferenceIdeal.τ).loc Cert.MergeGradReferenceIdeal.main_arg4))
      ∧ r.2.sem = fun _ => 0)

def quiescent_MixInputGrad [hMixInputGrad : Cert.MixInputGrad.Facts] : Prop :=
  ∀ (m : (ℓ : Loc Cert.MixInputGrad.nD Cert.MixInputGrad.τ Cert.MixInputGrad.sig) → Buf (Elt Bits) ℓ) (g : Dev Cert.MixInputGrad.nD → PrngReg), Pre_MixInputGrad m →
    θ_run (Cert.MixInputGrad.defs (F := Bits)) (onTc (τ := Cert.MixInputGrad.τ) (Cert.MixInputGrad.main (F := Bits))) ⟨m, fun _ => 0, g⟩ (fun r => (∀ c : Dev Cert.MixInputGrad.nD,
      r.2.mem ((c.tc : Thread Cert.MixInputGrad.nD Cert.MixInputGrad.τ).loc Cert.MixInputGrad.main_arg0) = m ((c.tc : Thread Cert.MixInputGrad.nD Cert.MixInputGrad.τ).loc Cert.MixInputGrad.main_arg0)
      ∧ r.2.mem ((c.tc : Thread Cert.MixInputGrad.nD Cert.MixInputGrad.τ).loc Cert.MixInputGrad.main_arg1) = m ((c.tc : Thread Cert.MixInputGrad.nD Cert.MixInputGrad.τ).loc Cert.MixInputGrad.main_arg1))
      ∧ r.2.sem = fun _ => 0)

def quiescent_MixInputGradIdeal [hMixInputGradIdeal : Cert.MixInputGradIdeal.Facts] : Prop :=
  ∀ (m : (ℓ : Loc Cert.MixInputGradIdeal.nD Cert.MixInputGradIdeal.τ Cert.MixInputGradIdeal.sig) → Buf (Elt Ideal) ℓ) (g : Dev Cert.MixInputGradIdeal.nD → PrngReg), Pre_MixInputGradIdeal m →
    θ_run (Cert.MixInputGradIdeal.defs (F := Ideal)) (onTc (τ := Cert.MixInputGradIdeal.τ) (Cert.MixInputGradIdeal.main (F := Ideal))) ⟨m, fun _ => 0, g⟩ (fun r => (∀ c : Dev Cert.MixInputGradIdeal.nD,
      r.2.mem ((c.tc : Thread Cert.MixInputGradIdeal.nD Cert.MixInputGradIdeal.τ).loc Cert.MixInputGradIdeal.main_arg0) = m ((c.tc : Thread Cert.MixInputGradIdeal.nD Cert.MixInputGradIdeal.τ).loc Cert.MixInputGradIdeal.main_arg0)
      ∧ r.2.mem ((c.tc : Thread Cert.MixInputGradIdeal.nD Cert.MixInputGradIdeal.τ).loc Cert.MixInputGradIdeal.main_arg1) = m ((c.tc : Thread Cert.MixInputGradIdeal.nD Cert.MixInputGradIdeal.τ).loc Cert.MixInputGradIdeal.main_arg1))
      ∧ r.2.sem = fun _ => 0)

def quiescent_MixInputGradReferenceIdeal [hMixInputGradReferenceIdeal : Cert.MixInputGradReferenceIdeal.Facts] : Prop :=
  ∀ (m : (ℓ : Loc Cert.MixInputGradReferenceIdeal.nD Cert.MixInputGradReferenceIdeal.τ Cert.MixInputGradReferenceIdeal.sig) → Buf (Elt Ideal) ℓ) (g : Dev Cert.MixInputGradReferenceIdeal.nD → PrngReg), Pre_MixInputGradReferenceIdeal m →
    θ_run (Cert.MixInputGradReferenceIdeal.defs (F := Ideal)) (onTc (τ := Cert.MixInputGradReferenceIdeal.τ) (Cert.MixInputGradReferenceIdeal.main (F := Ideal))) ⟨m, fun _ => 0, g⟩ (fun r => (∀ c : Dev Cert.MixInputGradReferenceIdeal.nD,
      r.2.mem ((c.tc : Thread Cert.MixInputGradReferenceIdeal.nD Cert.MixInputGradReferenceIdeal.τ).loc Cert.MixInputGradReferenceIdeal.main_arg0) = m ((c.tc : Thread Cert.MixInputGradReferenceIdeal.nD Cert.MixInputGradReferenceIdeal.τ).loc Cert.MixInputGradReferenceIdeal.main_arg0)
      ∧ r.2.mem ((c.tc : Thread Cert.MixInputGradReferenceIdeal.nD Cert.MixInputGradReferenceIdeal.τ).loc Cert.MixInputGradReferenceIdeal.main_arg1) = m ((c.tc : Thread Cert.MixInputGradReferenceIdeal.nD Cert.MixInputGradReferenceIdeal.τ).loc Cert.MixInputGradReferenceIdeal.main_arg1))
      ∧ r.2.sem = fun _ => 0)

def quiescent_InWeightGrad [hInWeightGrad : Cert.InWeightGrad.Facts] : Prop :=
  ∀ (m : (ℓ : Loc Cert.InWeightGrad.nD Cert.InWeightGrad.τ Cert.InWeightGrad.sig) → Buf (Elt Bits) ℓ) (g : Dev Cert.InWeightGrad.nD → PrngReg), Pre_InWeightGrad m →
    θ_run (Cert.InWeightGrad.defs (F := Bits)) (onTc (τ := Cert.InWeightGrad.τ) (Cert.InWeightGrad.main (F := Bits))) ⟨m, fun _ => 0, g⟩ (fun r => (∀ c : Dev Cert.InWeightGrad.nD,
      r.2.mem ((c.tc : Thread Cert.InWeightGrad.nD Cert.InWeightGrad.τ).loc Cert.InWeightGrad.main_arg0) = m ((c.tc : Thread Cert.InWeightGrad.nD Cert.InWeightGrad.τ).loc Cert.InWeightGrad.main_arg0)
      ∧ r.2.mem ((c.tc : Thread Cert.InWeightGrad.nD Cert.InWeightGrad.τ).loc Cert.InWeightGrad.main_arg1) = m ((c.tc : Thread Cert.InWeightGrad.nD Cert.InWeightGrad.τ).loc Cert.InWeightGrad.main_arg1))
      ∧ r.2.sem = fun _ => 0)

def quiescent_InWeightGradIdeal [hInWeightGradIdeal : Cert.InWeightGradIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg), Pre_InWeightGradIdeal m →
    θ_run (Cert.InWeightGradIdeal.defs (F := Ideal)) (onTc (τ := Cert.InWeightGradIdeal.τ) (Cert.InWeightGradIdeal.main (F := Ideal))) ⟨m, fun _ => 0, g⟩ (fun r => (∀ c : Dev Cert.InWeightGradIdeal.nD,
      r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
      ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ r.2.sem = fun _ => 0)

def quiescent_InWeightGradReferenceIdeal [hInWeightGradReferenceIdeal : Cert.InWeightGradReferenceIdeal.Facts] : Prop :=
  ∀ (m : (ℓ : Loc Cert.InWeightGradReferenceIdeal.nD Cert.InWeightGradReferenceIdeal.τ Cert.InWeightGradReferenceIdeal.sig) → Buf (Elt Ideal) ℓ) (g : Dev Cert.InWeightGradReferenceIdeal.nD → PrngReg), Pre_InWeightGradReferenceIdeal m →
    θ_run (Cert.InWeightGradReferenceIdeal.defs (F := Ideal)) (onTc (τ := Cert.InWeightGradReferenceIdeal.τ) (Cert.InWeightGradReferenceIdeal.main (F := Ideal))) ⟨m, fun _ => 0, g⟩ (fun r => (∀ c : Dev Cert.InWeightGradReferenceIdeal.nD,
      r.2.mem ((c.tc : Thread Cert.InWeightGradReferenceIdeal.nD Cert.InWeightGradReferenceIdeal.τ).loc Cert.InWeightGradReferenceIdeal.main_arg0) = m ((c.tc : Thread Cert.InWeightGradReferenceIdeal.nD Cert.InWeightGradReferenceIdeal.τ).loc Cert.InWeightGradReferenceIdeal.main_arg0)
      ∧ r.2.mem ((c.tc : Thread Cert.InWeightGradReferenceIdeal.nD Cert.InWeightGradReferenceIdeal.τ).loc Cert.InWeightGradReferenceIdeal.main_arg1) = m ((c.tc : Thread Cert.InWeightGradReferenceIdeal.nD Cert.InWeightGradReferenceIdeal.τ).loc Cert.InWeightGradReferenceIdeal.main_arg1))
      ∧ r.2.sem = fun _ => 0)

def quiescent_GatedHalves [hGatedHalves : Cert.GatedHalves.Facts] : Prop :=
  ∀ (m : (ℓ : Loc Cert.GatedHalves.nD Cert.GatedHalves.τ Cert.GatedHalves.sig) → Buf (Elt Bits) ℓ) (g : Dev Cert.GatedHalves.nD → PrngReg), Pre_GatedHalves m →
    θ_run (Cert.GatedHalves.defs (F := Bits)) (onTc (τ := Cert.GatedHalves.τ) (Cert.GatedHalves.main (F := Bits))) ⟨m, fun _ => 0, g⟩ (fun r => (∀ c : Dev Cert.GatedHalves.nD,
      r.2.mem ((c.tc : Thread Cert.GatedHalves.nD Cert.GatedHalves.τ).loc Cert.GatedHalves.main_arg0) = m ((c.tc : Thread Cert.GatedHalves.nD Cert.GatedHalves.τ).loc Cert.GatedHalves.main_arg0)
      ∧ r.2.mem ((c.tc : Thread Cert.GatedHalves.nD Cert.GatedHalves.τ).loc Cert.GatedHalves.main_arg1) = m ((c.tc : Thread Cert.GatedHalves.nD Cert.GatedHalves.τ).loc Cert.GatedHalves.main_arg1))
      ∧ r.2.sem = fun _ => 0)

def quiescent_GatedHalvesIdeal [hGatedHalvesIdeal : Cert.GatedHalvesIdeal.Facts] : Prop :=
  ∀ (m : (ℓ : Loc Cert.GatedHalvesIdeal.nD Cert.GatedHalvesIdeal.τ Cert.GatedHalvesIdeal.sig) → Buf (Elt Ideal) ℓ) (g : Dev Cert.GatedHalvesIdeal.nD → PrngReg), Pre_GatedHalvesIdeal m →
    θ_run (Cert.GatedHalvesIdeal.defs (F := Ideal)) (onTc (τ := Cert.GatedHalvesIdeal.τ) (Cert.GatedHalvesIdeal.main (F := Ideal))) ⟨m, fun _ => 0, g⟩ (fun r => (∀ c : Dev Cert.GatedHalvesIdeal.nD,
      r.2.mem ((c.tc : Thread Cert.GatedHalvesIdeal.nD Cert.GatedHalvesIdeal.τ).loc Cert.GatedHalvesIdeal.main_arg0) = m ((c.tc : Thread Cert.GatedHalvesIdeal.nD Cert.GatedHalvesIdeal.τ).loc Cert.GatedHalvesIdeal.main_arg0)
      ∧ r.2.mem ((c.tc : Thread Cert.GatedHalvesIdeal.nD Cert.GatedHalvesIdeal.τ).loc Cert.GatedHalvesIdeal.main_arg1) = m ((c.tc : Thread Cert.GatedHalvesIdeal.nD Cert.GatedHalvesIdeal.τ).loc Cert.GatedHalvesIdeal.main_arg1))
      ∧ r.2.sem = fun _ => 0)

def quiescent_GatedHalvesReferenceIdeal [hGatedHalvesReferenceIdeal : Cert.GatedHalvesReferenceIdeal.Facts] : Prop :=
  ∀ (m : (ℓ : Loc Cert.GatedHalvesReferenceIdeal.nD Cert.GatedHalvesReferenceIdeal.τ Cert.GatedHalvesReferenceIdeal.sig) → Buf (Elt Ideal) ℓ) (g : Dev Cert.GatedHalvesReferenceIdeal.nD → PrngReg), Pre_GatedHalvesReferenceIdeal m →
    θ_run (Cert.GatedHalvesReferenceIdeal.defs (F := Ideal)) (onTc (τ := Cert.GatedHalvesReferenceIdeal.τ) (Cert.GatedHalvesReferenceIdeal.main (F := Ideal))) ⟨m, fun _ => 0, g⟩ (fun r => (∀ c : Dev Cert.GatedHalvesReferenceIdeal.nD,
      r.2.mem ((c.tc : Thread Cert.GatedHalvesReferenceIdeal.nD Cert.GatedHalvesReferenceIdeal.τ).loc Cert.GatedHalvesReferenceIdeal.main_arg0) = m ((c.tc : Thread Cert.GatedHalvesReferenceIdeal.nD Cert.GatedHalvesReferenceIdeal.τ).loc Cert.GatedHalvesReferenceIdeal.main_arg0)
      ∧ r.2.mem ((c.tc : Thread Cert.GatedHalvesReferenceIdeal.nD Cert.GatedHalvesReferenceIdeal.τ).loc Cert.GatedHalvesReferenceIdeal.main_arg1) = m ((c.tc : Thread Cert.GatedHalvesReferenceIdeal.nD Cert.GatedHalvesReferenceIdeal.τ).loc Cert.GatedHalvesReferenceIdeal.main_arg1))
      ∧ r.2.sem = fun _ => 0)

def quiescent_HalfLayer [hHalfLayer : Cert.HalfLayer.Facts] : Prop :=
  ∀ (m : (ℓ : Loc Cert.HalfLayer.nD Cert.HalfLayer.τ Cert.HalfLayer.sig) → Buf (Elt Bits) ℓ) (g : Dev Cert.HalfLayer.nD → PrngReg), Pre_HalfLayer m →
    θ_run (Cert.HalfLayer.defs (F := Bits)) (onTc (τ := Cert.HalfLayer.τ) (Cert.HalfLayer.main (F := Bits))) ⟨m, fun _ => 0, g⟩ (fun r => (∀ c : Dev Cert.HalfLayer.nD,
      r.2.mem ((c.tc : Thread Cert.HalfLayer.nD Cert.HalfLayer.τ).loc Cert.HalfLayer.main_arg0) = m ((c.tc : Thread Cert.HalfLayer.nD Cert.HalfLayer.τ).loc Cert.HalfLayer.main_arg0)
      ∧ r.2.mem ((c.tc : Thread Cert.HalfLayer.nD Cert.HalfLayer.τ).loc Cert.HalfLayer.main_arg1) = m ((c.tc : Thread Cert.HalfLayer.nD Cert.HalfLayer.τ).loc Cert.HalfLayer.main_arg1)
      ∧ r.2.mem ((c.tc : Thread Cert.HalfLayer.nD Cert.HalfLayer.τ).loc Cert.HalfLayer.main_arg2) = m ((c.tc : Thread Cert.HalfLayer.nD Cert.HalfLayer.τ).loc Cert.HalfLayer.main_arg2)
      ∧ r.2.mem ((c.tc : Thread Cert.HalfLayer.nD Cert.HalfLayer.τ).loc Cert.HalfLayer.main_arg3) = m ((c.tc : Thread Cert.HalfLayer.nD Cert.HalfLayer.τ).loc Cert.HalfLayer.main_arg3))
      ∧ r.2.sem = fun _ => 0)

def quiescent_HalfLayerIdeal [hHalfLayerIdeal : Cert.HalfLayerIdeal.Facts] : Prop :=
  ∀ (m : (ℓ : Loc Cert.HalfLayerIdeal.nD Cert.HalfLayerIdeal.τ Cert.HalfLayerIdeal.sig) → Buf (Elt Ideal) ℓ) (g : Dev Cert.HalfLayerIdeal.nD → PrngReg), Pre_HalfLayerIdeal m →
    θ_run (Cert.HalfLayerIdeal.defs (F := Ideal)) (onTc (τ := Cert.HalfLayerIdeal.τ) (Cert.HalfLayerIdeal.main (F := Ideal))) ⟨m, fun _ => 0, g⟩ (fun r => (∀ c : Dev Cert.HalfLayerIdeal.nD,
      r.2.mem ((c.tc : Thread Cert.HalfLayerIdeal.nD Cert.HalfLayerIdeal.τ).loc Cert.HalfLayerIdeal.main_arg0) = m ((c.tc : Thread Cert.HalfLayerIdeal.nD Cert.HalfLayerIdeal.τ).loc Cert.HalfLayerIdeal.main_arg0)
      ∧ r.2.mem ((c.tc : Thread Cert.HalfLayerIdeal.nD Cert.HalfLayerIdeal.τ).loc Cert.HalfLayerIdeal.main_arg1) = m ((c.tc : Thread Cert.HalfLayerIdeal.nD Cert.HalfLayerIdeal.τ).loc Cert.HalfLayerIdeal.main_arg1)
      ∧ r.2.mem ((c.tc : Thread Cert.HalfLayerIdeal.nD Cert.HalfLayerIdeal.τ).loc Cert.HalfLayerIdeal.main_arg2) = m ((c.tc : Thread Cert.HalfLayerIdeal.nD Cert.HalfLayerIdeal.τ).loc Cert.HalfLayerIdeal.main_arg2)
      ∧ r.2.mem ((c.tc : Thread Cert.HalfLayerIdeal.nD Cert.HalfLayerIdeal.τ).loc Cert.HalfLayerIdeal.main_arg3) = m ((c.tc : Thread Cert.HalfLayerIdeal.nD Cert.HalfLayerIdeal.τ).loc Cert.HalfLayerIdeal.main_arg3))
      ∧ r.2.sem = fun _ => 0)

def quiescent_HalfLayerReferenceIdeal [hHalfLayerReferenceIdeal : Cert.HalfLayerReferenceIdeal.Facts] : Prop :=
  ∀ (m : (ℓ : Loc Cert.HalfLayerReferenceIdeal.nD Cert.HalfLayerReferenceIdeal.τ Cert.HalfLayerReferenceIdeal.sig) → Buf (Elt Ideal) ℓ) (g : Dev Cert.HalfLayerReferenceIdeal.nD → PrngReg), Pre_HalfLayerReferenceIdeal m →
    θ_run (Cert.HalfLayerReferenceIdeal.defs (F := Ideal)) (onTc (τ := Cert.HalfLayerReferenceIdeal.τ) (Cert.HalfLayerReferenceIdeal.main (F := Ideal))) ⟨m, fun _ => 0, g⟩ (fun r => (∀ c : Dev Cert.HalfLayerReferenceIdeal.nD,
      r.2.mem ((c.tc : Thread Cert.HalfLayerReferenceIdeal.nD Cert.HalfLayerReferenceIdeal.τ).loc Cert.HalfLayerReferenceIdeal.main_arg0) = m ((c.tc : Thread Cert.HalfLayerReferenceIdeal.nD Cert.HalfLayerReferenceIdeal.τ).loc Cert.HalfLayerReferenceIdeal.main_arg0)
      ∧ r.2.mem ((c.tc : Thread Cert.HalfLayerReferenceIdeal.nD Cert.HalfLayerReferenceIdeal.τ).loc Cert.HalfLayerReferenceIdeal.main_arg1) = m ((c.tc : Thread Cert.HalfLayerReferenceIdeal.nD Cert.HalfLayerReferenceIdeal.τ).loc Cert.HalfLayerReferenceIdeal.main_arg1)
      ∧ r.2.mem ((c.tc : Thread Cert.HalfLayerReferenceIdeal.nD Cert.HalfLayerReferenceIdeal.τ).loc Cert.HalfLayerReferenceIdeal.main_arg2) = m ((c.tc : Thread Cert.HalfLayerReferenceIdeal.nD Cert.HalfLayerReferenceIdeal.τ).loc Cert.HalfLayerReferenceIdeal.main_arg2)
      ∧ r.2.mem ((c.tc : Thread Cert.HalfLayerReferenceIdeal.nD Cert.HalfLayerReferenceIdeal.τ).loc Cert.HalfLayerReferenceIdeal.main_arg3) = m ((c.tc : Thread Cert.HalfLayerReferenceIdeal.nD Cert.HalfLayerReferenceIdeal.τ).loc Cert.HalfLayerReferenceIdeal.main_arg3))
      ∧ r.2.sem = fun _ => 0)

def quiescent_AttnForward [hAttnForward : Cert.AttnForward.Facts] : Prop :=
  ∀ (m : (ℓ : Loc Cert.AttnForward.nD Cert.AttnForward.τ Cert.AttnForward.sig) → Buf (Elt Bits) ℓ) (g : Dev Cert.AttnForward.nD → PrngReg), Pre_AttnForward m →
    θ_run (Cert.AttnForward.defs (F := Bits)) (onTc (τ := Cert.AttnForward.τ) (Cert.AttnForward.main (F := Bits))) ⟨m, fun _ => 0, g⟩ (fun r => (∀ c : Dev Cert.AttnForward.nD,
      r.2.mem ((c.tc : Thread Cert.AttnForward.nD Cert.AttnForward.τ).loc Cert.AttnForward.main_arg0) = m ((c.tc : Thread Cert.AttnForward.nD Cert.AttnForward.τ).loc Cert.AttnForward.main_arg0)
      ∧ r.2.mem ((c.tc : Thread Cert.AttnForward.nD Cert.AttnForward.τ).loc Cert.AttnForward.main_arg1) = m ((c.tc : Thread Cert.AttnForward.nD Cert.AttnForward.τ).loc Cert.AttnForward.main_arg1))
      ∧ r.2.sem = fun _ => 0)

def quiescent_AttnForwardIdeal [hAttnForwardIdeal : Cert.AttnForwardIdeal.Facts] : Prop :=
  ∀ (m : (ℓ : Loc Cert.AttnForwardIdeal.nD Cert.AttnForwardIdeal.τ Cert.AttnForwardIdeal.sig) → Buf (Elt Ideal) ℓ) (g : Dev Cert.AttnForwardIdeal.nD → PrngReg), Pre_AttnForwardIdeal m →
    θ_run (Cert.AttnForwardIdeal.defs (F := Ideal)) (onTc (τ := Cert.AttnForwardIdeal.τ) (Cert.AttnForwardIdeal.main (F := Ideal))) ⟨m, fun _ => 0, g⟩ (fun r => (∀ c : Dev Cert.AttnForwardIdeal.nD,
      r.2.mem ((c.tc : Thread Cert.AttnForwardIdeal.nD Cert.AttnForwardIdeal.τ).loc Cert.AttnForwardIdeal.main_arg0) = m ((c.tc : Thread Cert.AttnForwardIdeal.nD Cert.AttnForwardIdeal.τ).loc Cert.AttnForwardIdeal.main_arg0)
      ∧ r.2.mem ((c.tc : Thread Cert.AttnForwardIdeal.nD Cert.AttnForwardIdeal.τ).loc Cert.AttnForwardIdeal.main_arg1) = m ((c.tc : Thread Cert.AttnForwardIdeal.nD Cert.AttnForwardIdeal.τ).loc Cert.AttnForwardIdeal.main_arg1))
      ∧ r.2.sem = fun _ => 0)

def quiescent_AttnForwardIdeal_pre_finite_rows [hAttnForwardIdeal : Cert.AttnForwardIdeal.Facts] [hPre_finite_rows : Cert.Pre_finite_rows.Facts] : Prop :=
  ∀ (m : (ℓ : Loc Cert.AttnForwardIdeal.nD Cert.AttnForwardIdeal.τ Cert.AttnForwardIdeal.sig) → Buf (Elt Ideal) ℓ) (g : Dev Cert.AttnForwardIdeal.nD → PrngReg), Pre_AttnForwardIdeal_finite_rows m →
    θ_run (Cert.AttnForwardIdeal.defs (F := Ideal)) (onTc (τ := Cert.AttnForwardIdeal.τ) (Cert.AttnForwardIdeal.main (F := Ideal))) ⟨m, fun _ => 0, g⟩ (fun r => (∀ c : Dev Cert.AttnForwardIdeal.nD,
      r.2.mem ((c.tc : Thread Cert.AttnForwardIdeal.nD Cert.AttnForwardIdeal.τ).loc Cert.AttnForwardIdeal.main_arg0) = m ((c.tc : Thread Cert.AttnForwardIdeal.nD Cert.AttnForwardIdeal.τ).loc Cert.AttnForwardIdeal.main_arg0)
      ∧ r.2.mem ((c.tc : Thread Cert.AttnForwardIdeal.nD Cert.AttnForwardIdeal.τ).loc Cert.AttnForwardIdeal.main_arg1) = m ((c.tc : Thread Cert.AttnForwardIdeal.nD Cert.AttnForwardIdeal.τ).loc Cert.AttnForwardIdeal.main_arg1))
      ∧ r.2.sem = fun _ => 0)

def quiescent_AttnForwardReferenceIdeal [hAttnForwardReferenceIdeal : Cert.AttnForwardReferenceIdeal.Facts] : Prop :=
  ∀ (m : (ℓ : Loc Cert.AttnForwardReferenceIdeal.nD Cert.AttnForwardReferenceIdeal.τ Cert.AttnForwardReferenceIdeal.sig) → Buf (Elt Ideal) ℓ) (g : Dev Cert.AttnForwardReferenceIdeal.nD → PrngReg), Pre_AttnForwardReferenceIdeal m →
    θ_run (Cert.AttnForwardReferenceIdeal.defs (F := Ideal)) (onTc (τ := Cert.AttnForwardReferenceIdeal.τ) (Cert.AttnForwardReferenceIdeal.main (F := Ideal))) ⟨m, fun _ => 0, g⟩ (fun r => (∀ c : Dev Cert.AttnForwardReferenceIdeal.nD,
      r.2.mem ((c.tc : Thread Cert.AttnForwardReferenceIdeal.nD Cert.AttnForwardReferenceIdeal.τ).loc Cert.AttnForwardReferenceIdeal.main_arg0) = m ((c.tc : Thread Cert.AttnForwardReferenceIdeal.nD Cert.AttnForwardReferenceIdeal.τ).loc Cert.AttnForwardReferenceIdeal.main_arg0)
      ∧ r.2.mem ((c.tc : Thread Cert.AttnForwardReferenceIdeal.nD Cert.AttnForwardReferenceIdeal.τ).loc Cert.AttnForwardReferenceIdeal.main_arg1) = m ((c.tc : Thread Cert.AttnForwardReferenceIdeal.nD Cert.AttnForwardReferenceIdeal.τ).loc Cert.AttnForwardReferenceIdeal.main_arg1))
      ∧ r.2.sem = fun _ => 0)

def quiescent_AttnForwardReferenceIdeal_pre_finite_rows [hAttnForwardReferenceIdeal : Cert.AttnForwardReferenceIdeal.Facts] [hPre_finite_rows : Cert.Pre_finite_rows.Facts] : Prop :=
  ∀ (m : (ℓ : Loc Cert.AttnForwardReferenceIdeal.nD Cert.AttnForwardReferenceIdeal.τ Cert.AttnForwardReferenceIdeal.sig) → Buf (Elt Ideal) ℓ) (g : Dev Cert.AttnForwardReferenceIdeal.nD → PrngReg), Pre_AttnForwardReferenceIdeal_finite_rows m →
    θ_run (Cert.AttnForwardReferenceIdeal.defs (F := Ideal)) (onTc (τ := Cert.AttnForwardReferenceIdeal.τ) (Cert.AttnForwardReferenceIdeal.main (F := Ideal))) ⟨m, fun _ => 0, g⟩ (fun r => (∀ c : Dev Cert.AttnForwardReferenceIdeal.nD,
      r.2.mem ((c.tc : Thread Cert.AttnForwardReferenceIdeal.nD Cert.AttnForwardReferenceIdeal.τ).loc Cert.AttnForwardReferenceIdeal.main_arg0) = m ((c.tc : Thread Cert.AttnForwardReferenceIdeal.nD Cert.AttnForwardReferenceIdeal.τ).loc Cert.AttnForwardReferenceIdeal.main_arg0)
      ∧ r.2.mem ((c.tc : Thread Cert.AttnForwardReferenceIdeal.nD Cert.AttnForwardReferenceIdeal.τ).loc Cert.AttnForwardReferenceIdeal.main_arg1) = m ((c.tc : Thread Cert.AttnForwardReferenceIdeal.nD Cert.AttnForwardReferenceIdeal.τ).loc Cert.AttnForwardReferenceIdeal.main_arg1))
      ∧ r.2.sem = fun _ => 0)

def quiescent_MixColumns [hMixColumns : Cert.MixColumns.Facts] : Prop :=
  ∀ (m : (ℓ : Loc Cert.MixColumns.nD Cert.MixColumns.τ Cert.MixColumns.sig) → Buf (Elt Bits) ℓ) (g : Dev Cert.MixColumns.nD → PrngReg), Pre_MixColumns m →
    θ_run (Cert.MixColumns.defs (F := Bits)) (onTc (τ := Cert.MixColumns.τ) (Cert.MixColumns.main (F := Bits))) ⟨m, fun _ => 0, g⟩ (fun r => (∀ c : Dev Cert.MixColumns.nD,
      r.2.mem ((c.tc : Thread Cert.MixColumns.nD Cert.MixColumns.τ).loc Cert.MixColumns.main_arg0) = m ((c.tc : Thread Cert.MixColumns.nD Cert.MixColumns.τ).loc Cert.MixColumns.main_arg0)
      ∧ r.2.mem ((c.tc : Thread Cert.MixColumns.nD Cert.MixColumns.τ).loc Cert.MixColumns.main_arg1) = m ((c.tc : Thread Cert.MixColumns.nD Cert.MixColumns.τ).loc Cert.MixColumns.main_arg1))
      ∧ r.2.sem = fun _ => 0)

def quiescent_MixColumnsIdeal [hMixColumnsIdeal : Cert.MixColumnsIdeal.Facts] : Prop :=
  ∀ (m : (ℓ : Loc Cert.MixColumnsIdeal.nD Cert.MixColumnsIdeal.τ Cert.MixColumnsIdeal.sig) → Buf (Elt Ideal) ℓ) (g : Dev Cert.MixColumnsIdeal.nD → PrngReg), Pre_MixColumnsIdeal m →
    θ_run (Cert.MixColumnsIdeal.defs (F := Ideal)) (onTc (τ := Cert.MixColumnsIdeal.τ) (Cert.MixColumnsIdeal.main (F := Ideal))) ⟨m, fun _ => 0, g⟩ (fun r => (∀ c : Dev Cert.MixColumnsIdeal.nD,
      r.2.mem ((c.tc : Thread Cert.MixColumnsIdeal.nD Cert.MixColumnsIdeal.τ).loc Cert.MixColumnsIdeal.main_arg0) = m ((c.tc : Thread Cert.MixColumnsIdeal.nD Cert.MixColumnsIdeal.τ).loc Cert.MixColumnsIdeal.main_arg0)
      ∧ r.2.mem ((c.tc : Thread Cert.MixColumnsIdeal.nD Cert.MixColumnsIdeal.τ).loc Cert.MixColumnsIdeal.main_arg1) = m ((c.tc : Thread Cert.MixColumnsIdeal.nD Cert.MixColumnsIdeal.τ).loc Cert.MixColumnsIdeal.main_arg1))
      ∧ r.2.sem = fun _ => 0)

def quiescent_MixColumnsReferenceIdeal [hMixColumnsReferenceIdeal : Cert.MixColumnsReferenceIdeal.Facts] : Prop :=
  ∀ (m : (ℓ : Loc Cert.MixColumnsReferenceIdeal.nD Cert.MixColumnsReferenceIdeal.τ Cert.MixColumnsReferenceIdeal.sig) → Buf (Elt Ideal) ℓ) (g : Dev Cert.MixColumnsReferenceIdeal.nD → PrngReg), Pre_MixColumnsReferenceIdeal m →
    θ_run (Cert.MixColumnsReferenceIdeal.defs (F := Ideal)) (onTc (τ := Cert.MixColumnsReferenceIdeal.τ) (Cert.MixColumnsReferenceIdeal.main (F := Ideal))) ⟨m, fun _ => 0, g⟩ (fun r => (∀ c : Dev Cert.MixColumnsReferenceIdeal.nD,
      r.2.mem ((c.tc : Thread Cert.MixColumnsReferenceIdeal.nD Cert.MixColumnsReferenceIdeal.τ).loc Cert.MixColumnsReferenceIdeal.main_arg0) = m ((c.tc : Thread Cert.MixColumnsReferenceIdeal.nD Cert.MixColumnsReferenceIdeal.τ).loc Cert.MixColumnsReferenceIdeal.main_arg0)
      ∧ r.2.mem ((c.tc : Thread Cert.MixColumnsReferenceIdeal.nD Cert.MixColumnsReferenceIdeal.τ).loc Cert.MixColumnsReferenceIdeal.main_arg1) = m ((c.tc : Thread Cert.MixColumnsReferenceIdeal.nD Cert.MixColumnsReferenceIdeal.τ).loc Cert.MixColumnsReferenceIdeal.main_arg1))
      ∧ r.2.sem = fun _ => 0)

def quiescent_GateColumns [hGateColumns : Cert.GateColumns.Facts] : Prop :=
  ∀ (m : (ℓ : Loc Cert.GateColumns.nD Cert.GateColumns.τ Cert.GateColumns.sig) → Buf (Elt Bits) ℓ) (g : Dev Cert.GateColumns.nD → PrngReg), Pre_GateColumns m →
    θ_run (Cert.GateColumns.defs (F := Bits)) (onTc (τ := Cert.GateColumns.τ) (Cert.GateColumns.main (F := Bits))) ⟨m, fun _ => 0, g⟩ (fun r => (∀ c : Dev Cert.GateColumns.nD,
      r.2.mem ((c.tc : Thread Cert.GateColumns.nD Cert.GateColumns.τ).loc Cert.GateColumns.main_arg0) = m ((c.tc : Thread Cert.GateColumns.nD Cert.GateColumns.τ).loc Cert.GateColumns.main_arg0)
      ∧ r.2.mem ((c.tc : Thread Cert.GateColumns.nD Cert.GateColumns.τ).loc Cert.GateColumns.main_arg1) = m ((c.tc : Thread Cert.GateColumns.nD Cert.GateColumns.τ).loc Cert.GateColumns.main_arg1))
      ∧ r.2.sem = fun _ => 0)

def quiescent_GateColumnsIdeal [hGateColumnsIdeal : Cert.GateColumnsIdeal.Facts] : Prop :=
  ∀ (m : (ℓ : Loc Cert.GateColumnsIdeal.nD Cert.GateColumnsIdeal.τ Cert.GateColumnsIdeal.sig) → Buf (Elt Ideal) ℓ) (g : Dev Cert.GateColumnsIdeal.nD → PrngReg), Pre_GateColumnsIdeal m →
    θ_run (Cert.GateColumnsIdeal.defs (F := Ideal)) (onTc (τ := Cert.GateColumnsIdeal.τ) (Cert.GateColumnsIdeal.main (F := Ideal))) ⟨m, fun _ => 0, g⟩ (fun r => (∀ c : Dev Cert.GateColumnsIdeal.nD,
      r.2.mem ((c.tc : Thread Cert.GateColumnsIdeal.nD Cert.GateColumnsIdeal.τ).loc Cert.GateColumnsIdeal.main_arg0) = m ((c.tc : Thread Cert.GateColumnsIdeal.nD Cert.GateColumnsIdeal.τ).loc Cert.GateColumnsIdeal.main_arg0)
      ∧ r.2.mem ((c.tc : Thread Cert.GateColumnsIdeal.nD Cert.GateColumnsIdeal.τ).loc Cert.GateColumnsIdeal.main_arg1) = m ((c.tc : Thread Cert.GateColumnsIdeal.nD Cert.GateColumnsIdeal.τ).loc Cert.GateColumnsIdeal.main_arg1))
      ∧ r.2.sem = fun _ => 0)

def quiescent_GateColumnsReferenceIdeal [hGateColumnsReferenceIdeal : Cert.GateColumnsReferenceIdeal.Facts] : Prop :=
  ∀ (m : (ℓ : Loc Cert.GateColumnsReferenceIdeal.nD Cert.GateColumnsReferenceIdeal.τ Cert.GateColumnsReferenceIdeal.sig) → Buf (Elt Ideal) ℓ) (g : Dev Cert.GateColumnsReferenceIdeal.nD → PrngReg), Pre_GateColumnsReferenceIdeal m →
    θ_run (Cert.GateColumnsReferenceIdeal.defs (F := Ideal)) (onTc (τ := Cert.GateColumnsReferenceIdeal.τ) (Cert.GateColumnsReferenceIdeal.main (F := Ideal))) ⟨m, fun _ => 0, g⟩ (fun r => (∀ c : Dev Cert.GateColumnsReferenceIdeal.nD,
      r.2.mem ((c.tc : Thread Cert.GateColumnsReferenceIdeal.nD Cert.GateColumnsReferenceIdeal.τ).loc Cert.GateColumnsReferenceIdeal.main_arg0) = m ((c.tc : Thread Cert.GateColumnsReferenceIdeal.nD Cert.GateColumnsReferenceIdeal.τ).loc Cert.GateColumnsReferenceIdeal.main_arg0)
      ∧ r.2.mem ((c.tc : Thread Cert.GateColumnsReferenceIdeal.nD Cert.GateColumnsReferenceIdeal.τ).loc Cert.GateColumnsReferenceIdeal.main_arg1) = m ((c.tc : Thread Cert.GateColumnsReferenceIdeal.nD Cert.GateColumnsReferenceIdeal.τ).loc Cert.GateColumnsReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_OutWeightGrad [hOutWeightGrad : Cert.OutWeightGrad.Facts] : Prop :=
  ∀ (m : (ℓ : Loc Cert.OutWeightGrad.nD Cert.OutWeightGrad.τ Cert.OutWeightGrad.sig) → Buf (Elt Bits) ℓ) (g : Dev Cert.OutWeightGrad.nD → PrngReg), Pre_OutWeightGrad m →
    θ_run (Cert.OutWeightGrad.defs (F := Bits)) (onTc (τ := Cert.OutWeightGrad.τ) (Cert.OutWeightGrad.main (F := Bits))) ⟨m, fun _ => 0, g⟩ (fun r => (∀ c : Dev Cert.OutWeightGrad.nD,
      r.2.mem ((c.tc : Thread Cert.OutWeightGrad.nD Cert.OutWeightGrad.τ).loc Cert.OutWeightGrad.main_arg0) = m ((c.tc : Thread Cert.OutWeightGrad.nD Cert.OutWeightGrad.τ).loc Cert.OutWeightGrad.main_arg0)
      ∧ r.2.mem ((c.tc : Thread Cert.OutWeightGrad.nD Cert.OutWeightGrad.τ).loc Cert.OutWeightGrad.main_arg1) = m ((c.tc : Thread Cert.OutWeightGrad.nD Cert.OutWeightGrad.τ).loc Cert.OutWeightGrad.main_arg1))
      ∧ r.2.sem = fun _ => 0)

def quiescent_OutWeightGradIdeal [hOutWeightGradIdeal : Cert.OutWeightGradIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg), Pre_OutWeightGradIdeal m →
    θ_run (Cert.OutWeightGradIdeal.defs (F := Ideal)) (onTc (τ := Cert.OutWeightGradIdeal.τ) (Cert.OutWeightGradIdeal.main (F := Ideal))) ⟨m, fun _ => 0, g⟩ (fun r => (∀ c : Dev Cert.OutWeightGradIdeal.nD,
      r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
      ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ r.2.sem = fun _ => 0)

def quiescent_OutWeightGradReferenceIdeal [hOutWeightGradReferenceIdeal : Cert.OutWeightGradReferenceIdeal.Facts] : Prop :=
  ∀ (m : (ℓ : Loc Cert.OutWeightGradReferenceIdeal.nD Cert.OutWeightGradReferenceIdeal.τ Cert.OutWeightGradReferenceIdeal.sig) → Buf (Elt Ideal) ℓ) (g : Dev Cert.OutWeightGradReferenceIdeal.nD → PrngReg), Pre_OutWeightGradReferenceIdeal m →
    θ_run (Cert.OutWeightGradReferenceIdeal.defs (F := Ideal)) (onTc (τ := Cert.OutWeightGradReferenceIdeal.τ) (Cert.OutWeightGradReferenceIdeal.main (F := Ideal))) ⟨m, fun _ => 0, g⟩ (fun r => (∀ c : Dev Cert.OutWeightGradReferenceIdeal.nD,
      r.2.mem ((c.tc : Thread Cert.OutWeightGradReferenceIdeal.nD Cert.OutWeightGradReferenceIdeal.τ).loc Cert.OutWeightGradReferenceIdeal.main_arg0) = m ((c.tc : Thread Cert.OutWeightGradReferenceIdeal.nD Cert.OutWeightGradReferenceIdeal.τ).loc Cert.OutWeightGradReferenceIdeal.main_arg0)
      ∧ r.2.mem ((c.tc : Thread Cert.OutWeightGradReferenceIdeal.nD Cert.OutWeightGradReferenceIdeal.τ).loc Cert.OutWeightGradReferenceIdeal.main_arg1) = m ((c.tc : Thread Cert.OutWeightGradReferenceIdeal.nD Cert.OutWeightGradReferenceIdeal.τ).loc Cert.OutWeightGradReferenceIdeal.main_arg1))
      ∧ r.2.sem = fun _ => 0)

def quiescent_AttnOutGrad [hAttnOutGrad : Cert.AttnOutGrad.Facts] : Prop :=
  ∀ (m : (ℓ : Loc Cert.AttnOutGrad.nD Cert.AttnOutGrad.τ Cert.AttnOutGrad.sig) → Buf (Elt Bits) ℓ) (g : Dev Cert.AttnOutGrad.nD → PrngReg), Pre_AttnOutGrad m →
    θ_run (Cert.AttnOutGrad.defs (F := Bits)) (onTc (τ := Cert.AttnOutGrad.τ) (Cert.AttnOutGrad.main (F := Bits))) ⟨m, fun _ => 0, g⟩ (fun r => (∀ c : Dev Cert.AttnOutGrad.nD,
      r.2.mem ((c.tc : Thread Cert.AttnOutGrad.nD Cert.AttnOutGrad.τ).loc Cert.AttnOutGrad.main_arg0) = m ((c.tc : Thread Cert.AttnOutGrad.nD Cert.AttnOutGrad.τ).loc Cert.AttnOutGrad.main_arg0)
      ∧ r.2.mem ((c.tc : Thread Cert.AttnOutGrad.nD Cert.AttnOutGrad.τ).loc Cert.AttnOutGrad.main_arg1) = m ((c.tc : Thread Cert.AttnOutGrad.nD Cert.AttnOutGrad.τ).loc Cert.AttnOutGrad.main_arg1))
      ∧ r.2.sem = fun _ => 0)

def quiescent_AttnOutGradIdeal [hAttnOutGradIdeal : Cert.AttnOutGradIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg), Pre_AttnOutGradIdeal m →
    θ_run (Cert.AttnOutGradIdeal.defs (F := Ideal)) (onTc (τ := Cert.AttnOutGradIdeal.τ) (Cert.AttnOutGradIdeal.main (F := Ideal))) ⟨m, fun _ => 0, g⟩ (fun r => (∀ c : Dev Cert.AttnOutGradIdeal.nD,
      r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
      ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1))
      ∧ r.2.sem = fun _ => 0)

def quiescent_AttnOutGradReferenceIdeal [hAttnOutGradReferenceIdeal : Cert.AttnOutGradReferenceIdeal.Facts] : Prop :=
  ∀ (m : (ℓ : Loc Cert.AttnOutGradReferenceIdeal.nD Cert.AttnOutGradReferenceIdeal.τ Cert.AttnOutGradReferenceIdeal.sig) → Buf (Elt Ideal) ℓ) (g : Dev Cert.AttnOutGradReferenceIdeal.nD → PrngReg), Pre_AttnOutGradReferenceIdeal m →
    θ_run (Cert.AttnOutGradReferenceIdeal.defs (F := Ideal)) (onTc (τ := Cert.AttnOutGradReferenceIdeal.τ) (Cert.AttnOutGradReferenceIdeal.main (F := Ideal))) ⟨m, fun _ => 0, g⟩ (fun r => (∀ c : Dev Cert.AttnOutGradReferenceIdeal.nD,
      r.2.mem ((c.tc : Thread Cert.AttnOutGradReferenceIdeal.nD Cert.AttnOutGradReferenceIdeal.τ).loc Cert.AttnOutGradReferenceIdeal.main_arg0) = m ((c.tc : Thread Cert.AttnOutGradReferenceIdeal.nD Cert.AttnOutGradReferenceIdeal.τ).loc Cert.AttnOutGradReferenceIdeal.main_arg0)
      ∧ r.2.mem ((c.tc : Thread Cert.AttnOutGradReferenceIdeal.nD Cert.AttnOutGradReferenceIdeal.τ).loc Cert.AttnOutGradReferenceIdeal.main_arg1) = m ((c.tc : Thread Cert.AttnOutGradReferenceIdeal.nD Cert.AttnOutGradReferenceIdeal.τ).loc Cert.AttnOutGradReferenceIdeal.main_arg1))
      ∧ r.2.sem = fun _ => 0)

def quiescent_RecOutGrad [hRecOutGrad : Cert.RecOutGrad.Facts] : Prop :=
  ∀ (m : (ℓ : Loc Cert.RecOutGrad.nD Cert.RecOutGrad.τ Cert.RecOutGrad.sig) → Buf (Elt Bits) ℓ) (g : Dev Cert.RecOutGrad.nD → PrngReg), Pre_RecOutGrad m →
    θ_run (Cert.RecOutGrad.defs (F := Bits)) (onTc (τ := Cert.RecOutGrad.τ) (Cert.RecOutGrad.main (F := Bits))) ⟨m, fun _ => 0, g⟩ (fun r => (∀ c : Dev Cert.RecOutGrad.nD,
      r.2.mem ((c.tc : Thread Cert.RecOutGrad.nD Cert.RecOutGrad.τ).loc Cert.RecOutGrad.main_arg0) = m ((c.tc : Thread Cert.RecOutGrad.nD Cert.RecOutGrad.τ).loc Cert.RecOutGrad.main_arg0)
      ∧ r.2.mem ((c.tc : Thread Cert.RecOutGrad.nD Cert.RecOutGrad.τ).loc Cert.RecOutGrad.main_arg1) = m ((c.tc : Thread Cert.RecOutGrad.nD Cert.RecOutGrad.τ).loc Cert.RecOutGrad.main_arg1))
      ∧ r.2.sem = fun _ => 0)

def quiescent_RecOutGradIdeal [hRecOutGradIdeal : Cert.RecOutGradIdeal.Facts] : Prop :=
  ∀ (m : (ℓ : Loc Cert.RecOutGradIdeal.nD Cert.RecOutGradIdeal.τ Cert.RecOutGradIdeal.sig) → Buf (Elt Ideal) ℓ) (g : Dev Cert.RecOutGradIdeal.nD → PrngReg), Pre_RecOutGradIdeal m →
    θ_run (Cert.RecOutGradIdeal.defs (F := Ideal)) (onTc (τ := Cert.RecOutGradIdeal.τ) (Cert.RecOutGradIdeal.main (F := Ideal))) ⟨m, fun _ => 0, g⟩ (fun r => (∀ c : Dev Cert.RecOutGradIdeal.nD,
      r.2.mem ((c.tc : Thread Cert.RecOutGradIdeal.nD Cert.RecOutGradIdeal.τ).loc Cert.RecOutGradIdeal.main_arg0) = m ((c.tc : Thread Cert.RecOutGradIdeal.nD Cert.RecOutGradIdeal.τ).loc Cert.RecOutGradIdeal.main_arg0)
      ∧ r.2.mem ((c.tc : Thread Cert.RecOutGradIdeal.nD Cert.RecOutGradIdeal.τ).loc Cert.RecOutGradIdeal.main_arg1) = m ((c.tc : Thread Cert.RecOutGradIdeal.nD Cert.RecOutGradIdeal.τ).loc Cert.RecOutGradIdeal.main_arg1))
      ∧ r.2.sem = fun _ => 0)

def quiescent_RecOutGradReferenceIdeal [hRecOutGradReferenceIdeal : Cert.RecOutGradReferenceIdeal.Facts] : Prop :=
  ∀ (m : (ℓ : Loc Cert.RecOutGradReferenceIdeal.nD Cert.RecOutGradReferenceIdeal.τ Cert.RecOutGradReferenceIdeal.sig) → Buf (Elt Ideal) ℓ) (g : Dev Cert.RecOutGradReferenceIdeal.nD → PrngReg), Pre_RecOutGradReferenceIdeal m →
    θ_run (Cert.RecOutGradReferenceIdeal.defs (F := Ideal)) (onTc (τ := Cert.RecOutGradReferenceIdeal.τ) (Cert.RecOutGradReferenceIdeal.main (F := Ideal))) ⟨m, fun _ => 0, g⟩ (fun r => (∀ c : Dev Cert.RecOutGradReferenceIdeal.nD,
      r.2.mem ((c.tc : Thread Cert.RecOutGradReferenceIdeal.nD Cert.RecOutGradReferenceIdeal.τ).loc Cert.RecOutGradReferenceIdeal.main_arg0) = m ((c.tc : Thread Cert.RecOutGradReferenceIdeal.nD Cert.RecOutGradReferenceIdeal.τ).loc Cert.RecOutGradReferenceIdeal.main_arg0)
      ∧ r.2.mem ((c.tc : Thread Cert.RecOutGradReferenceIdeal.nD Cert.RecOutGradReferenceIdeal.τ).loc Cert.RecOutGradReferenceIdeal.main_arg1) = m ((c.tc : Thread Cert.RecOutGradReferenceIdeal.nD Cert.RecOutGradReferenceIdeal.τ).loc Cert.RecOutGradReferenceIdeal.main_arg1))
      ∧ r.2.sem = fun _ => 0)

def quiescent_AttnProjGrad [hAttnProjGrad : Cert.AttnProjGrad.Facts] : Prop :=
  ∀ (m : (ℓ : Loc Cert.AttnProjGrad.nD Cert.AttnProjGrad.τ Cert.AttnProjGrad.sig) → Buf (Elt Bits) ℓ) (g : Dev Cert.AttnProjGrad.nD → PrngReg), Pre_AttnProjGrad m →
    θ_run (Cert.AttnProjGrad.defs (F := Bits)) (onTc (τ := Cert.AttnProjGrad.τ) (Cert.AttnProjGrad.main (F := Bits))) ⟨m, fun _ => 0, g⟩ (fun r => (∀ c : Dev Cert.AttnProjGrad.nD,
      r.2.mem ((c.tc : Thread Cert.AttnProjGrad.nD Cert.AttnProjGrad.τ).loc Cert.AttnProjGrad.main_arg0) = m ((c.tc : Thread Cert.AttnProjGrad.nD Cert.AttnProjGrad.τ).loc Cert.AttnProjGrad.main_arg0)
      ∧ r.2.mem ((c.tc : Thread Cert.AttnProjGrad.nD Cert.AttnProjGrad.τ).loc Cert.AttnProjGrad.main_arg1) = m ((c.tc : Thread Cert.AttnProjGrad.nD Cert.AttnProjGrad.τ).loc Cert.AttnProjGrad.main_arg1))
      ∧ r.2.sem = fun _ => 0)

def quiescent_AttnProjGradIdeal [hAttnProjGradIdeal : Cert.AttnProjGradIdeal.Facts] : Prop :=
  ∀ (m : (ℓ : Loc Cert.AttnProjGradIdeal.nD Cert.AttnProjGradIdeal.τ Cert.AttnProjGradIdeal.sig) → Buf (Elt Ideal) ℓ) (g : Dev Cert.AttnProjGradIdeal.nD → PrngReg), Pre_AttnProjGradIdeal m →
    θ_run (Cert.AttnProjGradIdeal.defs (F := Ideal)) (onTc (τ := Cert.AttnProjGradIdeal.τ) (Cert.AttnProjGradIdeal.main (F := Ideal))) ⟨m, fun _ => 0, g⟩ (fun r => (∀ c : Dev Cert.AttnProjGradIdeal.nD,
      r.2.mem ((c.tc : Thread Cert.AttnProjGradIdeal.nD Cert.AttnProjGradIdeal.τ).loc Cert.AttnProjGradIdeal.main_arg0) = m ((c.tc : Thread Cert.AttnProjGradIdeal.nD Cert.AttnProjGradIdeal.τ).loc Cert.AttnProjGradIdeal.main_arg0)
      ∧ r.2.mem ((c.tc : Thread Cert.AttnProjGradIdeal.nD Cert.AttnProjGradIdeal.τ).loc Cert.AttnProjGradIdeal.main_arg1) = m ((c.tc : Thread Cert.AttnProjGradIdeal.nD Cert.AttnProjGradIdeal.τ).loc Cert.AttnProjGradIdeal.main_arg1))
      ∧ r.2.sem = fun _ => 0)

def quiescent_AttnProjGradReferenceIdeal [hAttnProjGradReferenceIdeal : Cert.AttnProjGradReferenceIdeal.Facts] : Prop :=
  ∀ (m : (ℓ : Loc Cert.AttnProjGradReferenceIdeal.nD Cert.AttnProjGradReferenceIdeal.τ Cert.AttnProjGradReferenceIdeal.sig) → Buf (Elt Ideal) ℓ) (g : Dev Cert.AttnProjGradReferenceIdeal.nD → PrngReg), Pre_AttnProjGradReferenceIdeal m →
    θ_run (Cert.AttnProjGradReferenceIdeal.defs (F := Ideal)) (onTc (τ := Cert.AttnProjGradReferenceIdeal.τ) (Cert.AttnProjGradReferenceIdeal.main (F := Ideal))) ⟨m, fun _ => 0, g⟩ (fun r => (∀ c : Dev Cert.AttnProjGradReferenceIdeal.nD,
      r.2.mem ((c.tc : Thread Cert.AttnProjGradReferenceIdeal.nD Cert.AttnProjGradReferenceIdeal.τ).loc Cert.AttnProjGradReferenceIdeal.main_arg0) = m ((c.tc : Thread Cert.AttnProjGradReferenceIdeal.nD Cert.AttnProjGradReferenceIdeal.τ).loc Cert.AttnProjGradReferenceIdeal.main_arg0)
      ∧ r.2.mem ((c.tc : Thread Cert.AttnProjGradReferenceIdeal.nD Cert.AttnProjGradReferenceIdeal.τ).loc Cert.AttnProjGradReferenceIdeal.main_arg1) = m ((c.tc : Thread Cert.AttnProjGradReferenceIdeal.nD Cert.AttnProjGradReferenceIdeal.τ).loc Cert.AttnProjGradReferenceIdeal.main_arg1))
      ∧ r.2.sem = fun _ => 0)

def quiescent_RecProjGrad [hRecProjGrad : Cert.RecProjGrad.Facts] : Prop :=
  ∀ (m : (ℓ : Loc Cert.RecProjGrad.nD Cert.RecProjGrad.τ Cert.RecProjGrad.sig) → Buf (Elt Bits) ℓ) (g : Dev Cert.RecProjGrad.nD → PrngReg), Pre_RecProjGrad m →
    θ_run (Cert.RecProjGrad.defs (F := Bits)) (onTc (τ := Cert.RecProjGrad.τ) (Cert.RecProjGrad.main (F := Bits))) ⟨m, fun _ => 0, g⟩ (fun r => (∀ c : Dev Cert.RecProjGrad.nD,
      r.2.mem ((c.tc : Thread Cert.RecProjGrad.nD Cert.RecProjGrad.τ).loc Cert.RecProjGrad.main_arg0) = m ((c.tc : Thread Cert.RecProjGrad.nD Cert.RecProjGrad.τ).loc Cert.RecProjGrad.main_arg0)
      ∧ r.2.mem ((c.tc : Thread Cert.RecProjGrad.nD Cert.RecProjGrad.τ).loc Cert.RecProjGrad.main_arg1) = m ((c.tc : Thread Cert.RecProjGrad.nD Cert.RecProjGrad.τ).loc Cert.RecProjGrad.main_arg1))
      ∧ r.2.sem = fun _ => 0)

def quiescent_RecProjGradIdeal [hRecProjGradIdeal : Cert.RecProjGradIdeal.Facts] : Prop :=
  ∀ (m : (ℓ : Loc Cert.RecProjGradIdeal.nD Cert.RecProjGradIdeal.τ Cert.RecProjGradIdeal.sig) → Buf (Elt Ideal) ℓ) (g : Dev Cert.RecProjGradIdeal.nD → PrngReg), Pre_RecProjGradIdeal m →
    θ_run (Cert.RecProjGradIdeal.defs (F := Ideal)) (onTc (τ := Cert.RecProjGradIdeal.τ) (Cert.RecProjGradIdeal.main (F := Ideal))) ⟨m, fun _ => 0, g⟩ (fun r => (∀ c : Dev Cert.RecProjGradIdeal.nD,
      r.2.mem ((c.tc : Thread Cert.RecProjGradIdeal.nD Cert.RecProjGradIdeal.τ).loc Cert.RecProjGradIdeal.main_arg0) = m ((c.tc : Thread Cert.RecProjGradIdeal.nD Cert.RecProjGradIdeal.τ).loc Cert.RecProjGradIdeal.main_arg0)
      ∧ r.2.mem ((c.tc : Thread Cert.RecProjGradIdeal.nD Cert.RecProjGradIdeal.τ).loc Cert.RecProjGradIdeal.main_arg1) = m ((c.tc : Thread Cert.RecProjGradIdeal.nD Cert.RecProjGradIdeal.τ).loc Cert.RecProjGradIdeal.main_arg1))
      ∧ r.2.sem = fun _ => 0)

def quiescent_RecProjGradReferenceIdeal [hRecProjGradReferenceIdeal : Cert.RecProjGradReferenceIdeal.Facts] : Prop :=
  ∀ (m : (ℓ : Loc Cert.RecProjGradReferenceIdeal.nD Cert.RecProjGradReferenceIdeal.τ Cert.RecProjGradReferenceIdeal.sig) → Buf (Elt Ideal) ℓ) (g : Dev Cert.RecProjGradReferenceIdeal.nD → PrngReg), Pre_RecProjGradReferenceIdeal m →
    θ_run (Cert.RecProjGradReferenceIdeal.defs (F := Ideal)) (onTc (τ := Cert.RecProjGradReferenceIdeal.τ) (Cert.RecProjGradReferenceIdeal.main (F := Ideal))) ⟨m, fun _ => 0, g⟩ (fun r => (∀ c : Dev Cert.RecProjGradReferenceIdeal.nD,
      r.2.mem ((c.tc : Thread Cert.RecProjGradReferenceIdeal.nD Cert.RecProjGradReferenceIdeal.τ).loc Cert.RecProjGradReferenceIdeal.main_arg0) = m ((c.tc : Thread Cert.RecProjGradReferenceIdeal.nD Cert.RecProjGradReferenceIdeal.τ).loc Cert.RecProjGradReferenceIdeal.main_arg0)
      ∧ r.2.mem ((c.tc : Thread Cert.RecProjGradReferenceIdeal.nD Cert.RecProjGradReferenceIdeal.τ).loc Cert.RecProjGradReferenceIdeal.main_arg1) = m ((c.tc : Thread Cert.RecProjGradReferenceIdeal.nD Cert.RecProjGradReferenceIdeal.τ).loc Cert.RecProjGradReferenceIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ r.2.sem = fun _ => 0)

def quiescent_NormGradReferenceIdeal [hNormGradReferenceIdeal : Cert.NormGradReferenceIdeal.Facts] : Prop :=
  ∀ (m : (ℓ : Loc Cert.NormGradReferenceIdeal.nD Cert.NormGradReferenceIdeal.τ Cert.NormGradReferenceIdeal.sig) → Buf (Elt Ideal) ℓ) (g : Dev Cert.NormGradReferenceIdeal.nD → PrngReg), Pre_NormGradReferenceIdeal m →
    θ_run (Cert.NormGradReferenceIdeal.defs (F := Ideal)) (onTc (τ := Cert.NormGradReferenceIdeal.τ) (Cert.NormGradReferenceIdeal.main (F := Ideal))) ⟨m, fun _ => 0, g⟩ (fun r => (∀ c : Dev Cert.NormGradReferenceIdeal.nD,
      r.2.mem ((c.tc : Thread Cert.NormGradReferenceIdeal.nD Cert.NormGradReferenceIdeal.τ).loc Cert.NormGradReferenceIdeal.main_arg0) = m ((c.tc : Thread Cert.NormGradReferenceIdeal.nD Cert.NormGradReferenceIdeal.τ).loc Cert.NormGradReferenceIdeal.main_arg0)
      ∧ r.2.mem ((c.tc : Thread Cert.NormGradReferenceIdeal.nD Cert.NormGradReferenceIdeal.τ).loc Cert.NormGradReferenceIdeal.main_arg1) = m ((c.tc : Thread Cert.NormGradReferenceIdeal.nD Cert.NormGradReferenceIdeal.τ).loc Cert.NormGradReferenceIdeal.main_arg1)
      ∧ r.2.mem ((c.tc : Thread Cert.NormGradReferenceIdeal.nD Cert.NormGradReferenceIdeal.τ).loc Cert.NormGradReferenceIdeal.main_arg2) = m ((c.tc : Thread Cert.NormGradReferenceIdeal.nD Cert.NormGradReferenceIdeal.τ).loc Cert.NormGradReferenceIdeal.main_arg2)
      ∧ r.2.mem ((c.tc : Thread Cert.NormGradReferenceIdeal.nD Cert.NormGradReferenceIdeal.τ).loc Cert.NormGradReferenceIdeal.main_arg3) = m ((c.tc : Thread Cert.NormGradReferenceIdeal.nD Cert.NormGradReferenceIdeal.τ).loc Cert.NormGradReferenceIdeal.main_arg3))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormReferenceIdeal [hFirstNormReferenceIdeal : Cert.FirstNormReferenceIdeal.Facts] : Prop :=
  ∀ (m : (ℓ : Loc Cert.FirstNormReferenceIdeal.nD Cert.FirstNormReferenceIdeal.τ Cert.FirstNormReferenceIdeal.sig) → Buf (Elt Ideal) ℓ) (g : Dev Cert.FirstNormReferenceIdeal.nD → PrngReg), Pre_FirstNormReferenceIdeal m →
    θ_run (Cert.FirstNormReferenceIdeal.defs (F := Ideal)) (onTc (τ := Cert.FirstNormReferenceIdeal.τ) (Cert.FirstNormReferenceIdeal.main (F := Ideal))) ⟨m, fun _ => 0, g⟩ (fun r => (∀ c : Dev Cert.FirstNormReferenceIdeal.nD,
      r.2.mem ((c.tc : Thread Cert.FirstNormReferenceIdeal.nD Cert.FirstNormReferenceIdeal.τ).loc Cert.FirstNormReferenceIdeal.main_arg0) = m ((c.tc : Thread Cert.FirstNormReferenceIdeal.nD Cert.FirstNormReferenceIdeal.τ).loc Cert.FirstNormReferenceIdeal.main_arg0)
      ∧ r.2.mem ((c.tc : Thread Cert.FirstNormReferenceIdeal.nD Cert.FirstNormReferenceIdeal.τ).loc Cert.FirstNormReferenceIdeal.main_arg1) = m ((c.tc : Thread Cert.FirstNormReferenceIdeal.nD Cert.FirstNormReferenceIdeal.τ).loc Cert.FirstNormReferenceIdeal.main_arg1))
      ∧ r.2.sem = fun _ => 0)

def preserves_Kernel_KernelIdeal : Prop :=
  IdealRules.named_const.Statement Cert.KernelIdeal.κ "scale_log2e" .f32 0x3E16C740#32 (((3424635 / 33554432) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_ActGrad_ActGradIdeal : Prop :=
  True

def algebraic_ActGradIdeal_ActGradReferenceIdeal_pre_finite_acts [hActGradIdeal : Cert.ActGradIdeal.Facts] [hActGradReferenceIdeal : Cert.ActGradReferenceIdeal.Facts] [hPre_finite_acts : Cert.Pre_finite_acts.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradReferenceIdeal.nD Cert.ActGradReferenceIdeal.τ Cert.ActGradReferenceIdeal.sig) → Buf (Elt Ideal) ℓ) (g' : Dev Cert.ActGradReferenceIdeal.nD → PrngReg), Pre_ActGradIdeal_finite_acts m →
    (∀ c : Dev Cert.ActGradIdeal.nD,
      m' ((c.tc : Thread Cert.ActGradReferenceIdeal.nD Cert.ActGradReferenceIdeal.τ).loc Cert.ActGradReferenceIdeal.main_arg0) = m ((c.tc : Thread Cert.ActGradIdeal.nD Cert.ActGradIdeal.τ).loc Cert.ActGradIdeal.main_arg0)
      ∧ m' ((c.tc : Thread Cert.ActGradReferenceIdeal.nD Cert.ActGradReferenceIdeal.τ).loc Cert.ActGradReferenceIdeal.main_arg1) = m ((c.tc : Thread Cert.ActGradIdeal.nD Cert.ActGradIdeal.τ).loc Cert.ActGradIdeal.main_arg1)
      ∧ m' ((c.tc : Thread Cert.ActGradReferenceIdeal.nD Cert.ActGradReferenceIdeal.τ).loc Cert.ActGradReferenceIdeal.main_arg2) = m ((c.tc : Thread Cert.ActGradIdeal.nD Cert.ActGradIdeal.τ).loc Cert.ActGradIdeal.main_arg2)
      ∧ m' ((c.tc : Thread Cert.ActGradReferenceIdeal.nD Cert.ActGradReferenceIdeal.τ).loc Cert.ActGradReferenceIdeal.main_arg3) = m ((c.tc : Thread Cert.ActGradIdeal.nD Cert.ActGradIdeal.τ).loc Cert.ActGradIdeal.main_arg3)) →
    ∃ (v0 : (c : Dev Cert.ActGradIdeal.nD) → Buf (Elt Ideal) ((c.tc : Thread Cert.ActGradIdeal.nD Cert.ActGradIdeal.τ).loc Cert.ActGradIdeal.main_v1_0)) (v1 : (c : Dev Cert.ActGradIdeal.nD) → Buf (Elt Ideal) ((c.tc : Thread Cert.ActGradIdeal.nD Cert.ActGradIdeal.τ).loc Cert.ActGradIdeal.main_v1_1)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v1_0) = v0 c
          ∧ r.2.mem ((c.tc : Thread Cert.ActGradIdeal.nD Cert.ActGradIdeal.τ).loc Cert.ActGradIdeal.main_v1_1) = v1 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
          ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ θ_run (Cert.ActGradReferenceIdeal.defs (F := Ideal)) (onTc (τ := Cert.ActGradReferenceIdeal.τ) (Cert.ActGradReferenceIdeal.main (F := Ideal))) ⟨m', fun _ => 0, g'⟩ (fun r => ∀ c : Dev Cert.ActGradReferenceIdeal.nD,
          r.2.mem ((c.tc : Thread Cert.ActGradReferenceIdeal.nD Cert.ActGradReferenceIdeal.τ).loc Cert.ActGradReferenceIdeal.main_v14) = v0 c
          ∧ r.2.mem ((c.tc : Thread Cert.ActGradReferenceIdeal.nD Cert.ActGradReferenceIdeal.τ).loc Cert.ActGradReferenceIdeal.main_v15) = v1 c
          ∧ r.2.mem ((c.tc : Thread Cert.ActGradReferenceIdeal.nD Cert.ActGradReferenceIdeal.τ).loc Cert.ActGradReferenceIdeal.main_arg0) = m' ((c.tc : Thread Cert.ActGradReferenceIdeal.nD Cert.ActGradReferenceIdeal.τ).loc Cert.ActGradReferenceIdeal.main_arg0)
          ∧ r.2.mem ((c.tc : Thread Cert.ActGradReferenceIdeal.nD Cert.ActGradReferenceIdeal.τ).loc Cert.ActGradReferenceIdeal.main_arg1) = m' ((c.tc : Thread Cert.ActGradReferenceIdeal.nD Cert.ActGradReferenceIdeal.τ).loc Cert.ActGradReferenceIdeal.main_arg1)
          ∧ r.2.mem ((c.tc : Thread Cert.ActGradReferenceIdeal.nD Cert.ActGradReferenceIdeal.τ).loc Cert.ActGradReferenceIdeal.main_arg2) = m' ((c.tc : Thread Cert.ActGradReferenceIdeal.nD Cert.ActGradReferenceIdeal.τ).loc Cert.ActGradReferenceIdeal.main_arg2)
          ∧ r.2.mem ((c.tc : Thread Cert.ActGradReferenceIdeal.nD Cert.ActGradReferenceIdeal.τ).loc Cert.ActGradReferenceIdeal.main_arg3) = m' ((c.tc : Thread Cert.ActGradReferenceIdeal.nD Cert.ActGradReferenceIdeal.τ).loc Cert.ActGradReferenceIdeal.main_arg3))

def preserves_InputGrad_InputGradIdeal : Prop :=
  True

def algebraic_InputGradIdeal_InputGradReferenceIdeal [hInputGradIdeal : Cert.InputGradIdeal.Facts] [hInputGradReferenceIdeal : Cert.InputGradReferenceIdeal.Facts] : Prop :=
  ∀ (m : (ℓ : Loc Cert.InputGradIdeal.nD Cert.InputGradIdeal.τ Cert.InputGradIdeal.sig) → Buf (Elt Ideal) ℓ) (g : Dev Cert.InputGradIdeal.nD → PrngReg)
    (m' : (ℓ : Loc Cert.InputGradReferenceIdeal.nD Cert.InputGradReferenceIdeal.τ Cert.InputGradReferenceIdeal.sig) → Buf (Elt Ideal) ℓ) (g' : Dev Cert.InputGradReferenceIdeal.nD → PrngReg), Pre_InputGradIdeal m →
    (∀ c : Dev Cert.InputGradIdeal.nD,
      m' ((c.tc : Thread Cert.InputGradReferenceIdeal.nD Cert.InputGradReferenceIdeal.τ).loc Cert.InputGradReferenceIdeal.main_arg0) = m ((c.tc : Thread Cert.InputGradIdeal.nD Cert.InputGradIdeal.τ).loc Cert.InputGradIdeal.main_arg0)
      ∧ m' ((c.tc : Thread Cert.InputGradReferenceIdeal.nD Cert.InputGradReferenceIdeal.τ).loc Cert.InputGradReferenceIdeal.main_arg1) = m ((c.tc : Thread Cert.InputGradIdeal.nD Cert.InputGradIdeal.τ).loc Cert.InputGradIdeal.main_arg1)
      ∧ m' ((c.tc : Thread Cert.InputGradReferenceIdeal.nD Cert.InputGradReferenceIdeal.τ).loc Cert.InputGradReferenceIdeal.main_arg2) = m ((c.tc : Thread Cert.InputGradIdeal.nD Cert.InputGradIdeal.τ).loc Cert.InputGradIdeal.main_arg2)) →
    ∃ (v0 : (c : Dev Cert.InputGradIdeal.nD) → Buf (Elt Ideal) ((c.tc : Thread Cert.InputGradIdeal.nD Cert.InputGradIdeal.τ).loc Cert.InputGradIdeal.main_v3)),
      θ_run (Cert.InputGradIdeal.defs (F := Ideal)) (onTc (τ := Cert.InputGradIdeal.τ) (Cert.InputGradIdeal.main (F := Ideal))) ⟨m, fun _ => 0, g⟩ (fun r => ∀ c : Dev Cert.InputGradIdeal.nD,
          r.2.mem ((c.tc : Thread Cert.InputGradIdeal.nD Cert.InputGradIdeal.τ).loc Cert.InputGradIdeal.main_v3) = v0 c
          ∧ r.2.mem ((c.tc : Thread Cert.InputGradIdeal.nD Cert.InputGradIdeal.τ).loc Cert.InputGradIdeal.main_arg0) = m ((c.tc : Thread Cert.InputGradIdeal.nD Cert.InputGradIdeal.τ).loc Cert.InputGradIdeal.main_arg0)
          ∧ r.2.mem ((c.tc : Thread Cert.InputGradIdeal.nD Cert.InputGradIdeal.τ).loc Cert.InputGradIdeal.main_arg1) = m ((c.tc : Thread Cert.InputGradIdeal.nD Cert.InputGradIdeal.τ).loc Cert.InputGradIdeal.main_arg1)
          ∧ r.2.mem ((c.tc : Thread Cert.InputGradIdeal.nD Cert.InputGradIdeal.τ).loc Cert.InputGradIdeal.main_arg2) = m ((c.tc : Thread Cert.InputGradIdeal.nD Cert.InputGradIdeal.τ).loc Cert.InputGradIdeal.main_arg2))
      ∧ θ_run (Cert.InputGradReferenceIdeal.defs (F := Ideal)) (onTc (τ := Cert.InputGradReferenceIdeal.τ) (Cert.InputGradReferenceIdeal.main (F := Ideal))) ⟨m', fun _ => 0, g'⟩ (fun r => ∀ c : Dev Cert.InputGradReferenceIdeal.nD,
          r.2.mem ((c.tc : Thread Cert.InputGradReferenceIdeal.nD Cert.InputGradReferenceIdeal.τ).loc Cert.InputGradReferenceIdeal.main_v8) = v0 c
          ∧ r.2.mem ((c.tc : Thread Cert.InputGradReferenceIdeal.nD Cert.InputGradReferenceIdeal.τ).loc Cert.InputGradReferenceIdeal.main_arg0) = m' ((c.tc : Thread Cert.InputGradReferenceIdeal.nD Cert.InputGradReferenceIdeal.τ).loc Cert.InputGradReferenceIdeal.main_arg0)
          ∧ r.2.mem ((c.tc : Thread Cert.InputGradReferenceIdeal.nD Cert.InputGradReferenceIdeal.τ).loc Cert.InputGradReferenceIdeal.main_arg1) = m' ((c.tc : Thread Cert.InputGradReferenceIdeal.nD Cert.InputGradReferenceIdeal.τ).loc Cert.InputGradReferenceIdeal.main_arg1)
          ∧ r.2.mem ((c.tc : Thread Cert.InputGradReferenceIdeal.nD Cert.InputGradReferenceIdeal.τ).loc Cert.InputGradReferenceIdeal.main_arg2) = m' ((c.tc : Thread Cert.InputGradReferenceIdeal.nD Cert.InputGradReferenceIdeal.τ).loc Cert.InputGradReferenceIdeal.main_arg2))

def preserves_UpGrad_UpGradIdeal : Prop :=
  True

def algebraic_UpGradIdeal_UpGradReferenceIdeal [hUpGradIdeal : Cert.UpGradIdeal.Facts] [hUpGradReferenceIdeal : Cert.UpGradReferenceIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradReferenceIdeal.nD Cert.UpGradReferenceIdeal.τ Cert.UpGradReferenceIdeal.sig) → Buf (Elt Ideal) ℓ) (g' : Dev Cert.UpGradReferenceIdeal.nD → PrngReg), Pre_UpGradIdeal m →
    (∀ c : Dev Cert.UpGradIdeal.nD,
      m' ((c.tc : Thread Cert.UpGradReferenceIdeal.nD Cert.UpGradReferenceIdeal.τ).loc Cert.UpGradReferenceIdeal.main_arg0) = m ((c.tc : Thread Cert.UpGradIdeal.nD Cert.UpGradIdeal.τ).loc Cert.UpGradIdeal.main_arg0)
      ∧ m' ((c.tc : Thread Cert.UpGradReferenceIdeal.nD Cert.UpGradReferenceIdeal.τ).loc Cert.UpGradReferenceIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradReferenceIdeal.defs (F := Ideal)) (onTc (τ := Cert.UpGradReferenceIdeal.τ) (Cert.UpGradReferenceIdeal.main (F := Ideal))) ⟨m', fun _ => 0, g'⟩ (fun r => ∀ c : Dev Cert.UpGradReferenceIdeal.nD,
          r.2.mem ((c.tc : Thread Cert.UpGradReferenceIdeal.nD Cert.UpGradReferenceIdeal.τ).loc Cert.UpGradReferenceIdeal.main_v6) = v0 c
          ∧ r.2.mem ((c.tc : Thread Cert.UpGradReferenceIdeal.nD Cert.UpGradReferenceIdeal.τ).loc Cert.UpGradReferenceIdeal.main_arg0) = m' ((c.tc : Thread Cert.UpGradReferenceIdeal.nD Cert.UpGradReferenceIdeal.τ).loc Cert.UpGradReferenceIdeal.main_arg0)
          ∧ r.2.mem ((c.tc : Thread Cert.UpGradReferenceIdeal.nD Cert.UpGradReferenceIdeal.τ).loc Cert.UpGradReferenceIdeal.main_arg1) = m' ((c.tc : Thread Cert.UpGradReferenceIdeal.nD Cert.UpGradReferenceIdeal.τ).loc Cert.UpGradReferenceIdeal.main_arg1))

def preserves_DownGrad_DownGradIdeal : Prop :=
  True

def algebraic_DownGradIdeal_DownGradReferenceIdeal [hDownGradIdeal : Cert.DownGradIdeal.Facts] [hDownGradReferenceIdeal : Cert.DownGradReferenceIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradReferenceIdeal.nD Cert.DownGradReferenceIdeal.τ Cert.DownGradReferenceIdeal.sig) → Buf (Elt Ideal) ℓ) (g' : Dev Cert.DownGradReferenceIdeal.nD → PrngReg), Pre_DownGradIdeal m →
    (∀ c : Dev Cert.DownGradIdeal.nD,
      m' ((c.tc : Thread Cert.DownGradReferenceIdeal.nD Cert.DownGradReferenceIdeal.τ).loc Cert.DownGradReferenceIdeal.main_arg0) = m ((c.tc : Thread Cert.DownGradIdeal.nD Cert.DownGradIdeal.τ).loc Cert.DownGradIdeal.main_arg0)
      ∧ m' ((c.tc : Thread Cert.DownGradReferenceIdeal.nD Cert.DownGradReferenceIdeal.τ).loc Cert.DownGradReferenceIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradReferenceIdeal.defs (F := Ideal)) (onTc (τ := Cert.DownGradReferenceIdeal.τ) (Cert.DownGradReferenceIdeal.main (F := Ideal))) ⟨m', fun _ => 0, g'⟩ (fun r => ∀ c : Dev Cert.DownGradReferenceIdeal.nD,
          r.2.mem ((c.tc : Thread Cert.DownGradReferenceIdeal.nD Cert.DownGradReferenceIdeal.τ).loc Cert.DownGradReferenceIdeal.main_v9) = v0 c
          ∧ r.2.mem ((c.tc : Thread Cert.DownGradReferenceIdeal.nD Cert.DownGradReferenceIdeal.τ).loc Cert.DownGradReferenceIdeal.main_arg0) = m' ((c.tc : Thread Cert.DownGradReferenceIdeal.nD Cert.DownGradReferenceIdeal.τ).loc Cert.DownGradReferenceIdeal.main_arg0)
          ∧ r.2.mem ((c.tc : Thread Cert.DownGradReferenceIdeal.nD Cert.DownGradReferenceIdeal.τ).loc Cert.DownGradReferenceIdeal.main_arg1) = m' ((c.tc : Thread Cert.DownGradReferenceIdeal.nD Cert.DownGradReferenceIdeal.τ).loc Cert.DownGradReferenceIdeal.main_arg1))

def preserves_MergeGrad_MergeGradIdeal : Prop :=
  True

def algebraic_MergeGradIdeal_MergeGradReferenceIdeal [hMergeGradIdeal : Cert.MergeGradIdeal.Facts] [hMergeGradReferenceIdeal : Cert.MergeGradReferenceIdeal.Facts] : Prop :=
  ∀ (m : (ℓ : Loc Cert.MergeGradIdeal.nD Cert.MergeGradIdeal.τ Cert.MergeGradIdeal.sig) → Buf (Elt Ideal) ℓ) (g : Dev Cert.MergeGradIdeal.nD → PrngReg)
    (m' : (ℓ : Loc Cert.MergeGradReferenceIdeal.nD Cert.MergeGradReferenceIdeal.τ Cert.MergeGradReferenceIdeal.sig) → Buf (Elt Ideal) ℓ) (g' : Dev Cert.MergeGradReferenceIdeal.nD → PrngReg), Pre_MergeGradIdeal m →
    (∀ c : Dev Cert.MergeGradIdeal.nD,
      m' ((c.tc : Thread Cert.MergeGradReferenceIdeal.nD Cert.MergeGradReferenceIdeal.τ).loc Cert.MergeGradReferenceIdeal.main_arg0) = m ((c.tc : Thread Cert.MergeGradIdeal.nD Cert.MergeGradIdeal.τ).loc Cert.MergeGradIdeal.main_arg0)
      ∧ m' ((c.tc : Thread Cert.MergeGradReferenceIdeal.nD Cert.MergeGradReferenceIdeal.τ).loc Cert.MergeGradReferenceIdeal.main_arg1) = m ((c.tc : Thread Cert.MergeGradIdeal.nD Cert.MergeGradIdeal.τ).loc Cert.MergeGradIdeal.main_arg1)
      ∧ m' ((c.tc : Thread Cert.MergeGradReferenceIdeal.nD Cert.MergeGradReferenceIdeal.τ).loc Cert.MergeGradReferenceIdeal.main_arg2) = m ((c.tc : Thread Cert.MergeGradIdeal.nD Cert.MergeGradIdeal.τ).loc Cert.MergeGradIdeal.main_arg2)
      ∧ m' ((c.tc : Thread Cert.MergeGradReferenceIdeal.nD Cert.MergeGradReferenceIdeal.τ).loc Cert.MergeGradReferenceIdeal.main_arg3) = m ((c.tc : Thread Cert.MergeGradIdeal.nD Cert.MergeGradIdeal.τ).loc Cert.MergeGradIdeal.main_arg3)
      ∧ m' ((c.tc : Thread Cert.MergeGradReferenceIdeal.nD Cert.MergeGradReferenceIdeal.τ).loc Cert.MergeGradReferenceIdeal.main_arg4) = m ((c.tc : Thread Cert.MergeGradIdeal.nD Cert.MergeGradIdeal.τ).loc Cert.MergeGradIdeal.main_arg4)) →
    ∃ (v0 : (c : Dev Cert.MergeGradIdeal.nD) → Buf (Elt Ideal) ((c.tc : Thread Cert.MergeGradIdeal.nD Cert.MergeGradIdeal.τ).loc Cert.MergeGradIdeal.main_v1_0)) (v1 : (c : Dev Cert.MergeGradIdeal.nD) → Buf (Elt Ideal) ((c.tc : Thread Cert.MergeGradIdeal.nD Cert.MergeGradIdeal.τ).loc Cert.MergeGradIdeal.main_v1_1)) (v2 : (c : Dev Cert.MergeGradIdeal.nD) → Buf (Elt Ideal) ((c.tc : Thread Cert.MergeGradIdeal.nD Cert.MergeGradIdeal.τ).loc Cert.MergeGradIdeal.main_v1_2)) (v3 : (c : Dev Cert.MergeGradIdeal.nD) → Buf (Elt Ideal) ((c.tc : Thread Cert.MergeGradIdeal.nD Cert.MergeGradIdeal.τ).loc Cert.MergeGradIdeal.main_v1_3)),
      θ_run (Cert.MergeGradIdeal.defs (F := Ideal)) (onTc (τ := Cert.MergeGradIdeal.τ) (Cert.MergeGradIdeal.main (F := Ideal))) ⟨m, fun _ => 0, g⟩ (fun r => ∀ c : Dev Cert.MergeGradIdeal.nD,
          r.2.mem ((c.tc : Thread Cert.MergeGradIdeal.nD Cert.MergeGradIdeal.τ).loc Cert.MergeGradIdeal.main_v1_0) = v0 c
          ∧ r.2.mem ((c.tc : Thread Cert.MergeGradIdeal.nD Cert.MergeGradIdeal.τ).loc Cert.MergeGradIdeal.main_v1_1) = v1 c
          ∧ r.2.mem ((c.tc : Thread Cert.MergeGradIdeal.nD Cert.MergeGradIdeal.τ).loc Cert.MergeGradIdeal.main_v1_2) = v2 c
          ∧ r.2.mem ((c.tc : Thread Cert.MergeGradIdeal.nD Cert.MergeGradIdeal.τ).loc Cert.MergeGradIdeal.main_v1_3) = v3 c
          ∧ r.2.mem ((c.tc : Thread Cert.MergeGradIdeal.nD Cert.MergeGradIdeal.τ).loc Cert.MergeGradIdeal.main_arg0) = m ((c.tc : Thread Cert.MergeGradIdeal.nD Cert.MergeGradIdeal.τ).loc Cert.MergeGradIdeal.main_arg0)
          ∧ r.2.mem ((c.tc : Thread Cert.MergeGradIdeal.nD Cert.MergeGradIdeal.τ).loc Cert.MergeGradIdeal.main_arg1) = m ((c.tc : Thread Cert.MergeGradIdeal.nD Cert.MergeGradIdeal.τ).loc Cert.MergeGradIdeal.main_arg1)
          ∧ r.2.mem ((c.tc : Thread Cert.MergeGradIdeal.nD Cert.MergeGradIdeal.τ).loc Cert.MergeGradIdeal.main_arg2) = m ((c.tc : Thread Cert.MergeGradIdeal.nD Cert.MergeGradIdeal.τ).loc Cert.MergeGradIdeal.main_arg2)
          ∧ r.2.mem ((c.tc : Thread Cert.MergeGradIdeal.nD Cert.MergeGradIdeal.τ).loc Cert.MergeGradIdeal.main_arg3) = m ((c.tc : Thread Cert.MergeGradIdeal.nD Cert.MergeGradIdeal.τ).loc Cert.MergeGradIdeal.main_arg3)
          ∧ r.2.mem ((c.tc : Thread Cert.MergeGradIdeal.nD Cert.MergeGradIdeal.τ).loc Cert.MergeGradIdeal.main_arg4) = m ((c.tc : Thread Cert.MergeGradIdeal.nD Cert.MergeGradIdeal.τ).loc Cert.MergeGradIdeal.main_arg4))
      ∧ θ_run (Cert.MergeGradReferenceIdeal.defs (F := Ideal)) (onTc (τ := Cert.MergeGradReferenceIdeal.τ) (Cert.MergeGradReferenceIdeal.main (F := Ideal))) ⟨m', fun _ => 0, g'⟩ (fun r => ∀ c : Dev Cert.MergeGradReferenceIdeal.nD,
          r.2.mem ((c.tc : Thread Cert.MergeGradReferenceIdeal.nD Cert.MergeGradReferenceIdeal.τ).loc Cert.MergeGradReferenceIdeal.main_v35) = v0 c
          ∧ r.2.mem ((c.tc : Thread Cert.MergeGradReferenceIdeal.nD Cert.MergeGradReferenceIdeal.τ).loc Cert.MergeGradReferenceIdeal.main_v36) = v1 c
          ∧ r.2.mem ((c.tc : Thread Cert.MergeGradReferenceIdeal.nD Cert.MergeGradReferenceIdeal.τ).loc Cert.MergeGradReferenceIdeal.main_v37) = v2 c
          ∧ r.2.mem ((c.tc : Thread Cert.MergeGradReferenceIdeal.nD Cert.MergeGradReferenceIdeal.τ).loc Cert.MergeGradReferenceIdeal.main_v38) = v3 c
          ∧ r.2.mem ((c.tc : Thread Cert.MergeGradReferenceIdeal.nD Cert.MergeGradReferenceIdeal.τ).loc Cert.MergeGradReferenceIdeal.main_arg0) = m' ((c.tc : Thread Cert.MergeGradReferenceIdeal.nD Cert.MergeGradReferenceIdeal.τ).loc Cert.MergeGradReferenceIdeal.main_arg0)
          ∧ r.2.mem ((c.tc : Thread Cert.MergeGradReferenceIdeal.nD Cert.MergeGradReferenceIdeal.τ).loc Cert.MergeGradReferenceIdeal.main_arg1) = m' ((c.tc : Thread Cert.MergeGradReferenceIdeal.nD Cert.MergeGradReferenceIdeal.τ).loc Cert.MergeGradReferenceIdeal.main_arg1)
          ∧ r.2.mem ((c.tc : Thread Cert.MergeGradReferenceIdeal.nD Cert.MergeGradReferenceIdeal.τ).loc Cert.MergeGradReferenceIdeal.main_arg2) = m' ((c.tc : Thread Cert.MergeGradReferenceIdeal.nD Cert.MergeGradReferenceIdeal.τ).loc Cert.MergeGradReferenceIdeal.main_arg2)
          ∧ r.2.mem ((c.tc : Thread Cert.MergeGradReferenceIdeal.nD Cert.MergeGradReferenceIdeal.τ).loc Cert.MergeGradReferenceIdeal.main_arg3) = m' ((c.tc : Thread Cert.MergeGradReferenceIdeal.nD Cert.MergeGradReferenceIdeal.τ).loc Cert.MergeGradReferenceIdeal.main_arg3)
          ∧ r.2.mem ((c.tc : Thread Cert.MergeGradReferenceIdeal.nD Cert.MergeGradReferenceIdeal.τ).loc Cert.MergeGradReferenceIdeal.main_arg4) = m' ((c.tc : Thread Cert.MergeGradReferenceIdeal.nD Cert.MergeGradReferenceIdeal.τ).loc Cert.MergeGradReferenceIdeal.main_arg4))

def preserves_MixInputGrad_MixInputGradIdeal : Prop :=
  True

def algebraic_MixInputGradIdeal_MixInputGradReferenceIdeal [hMixInputGradIdeal : Cert.MixInputGradIdeal.Facts] [hMixInputGradReferenceIdeal : Cert.MixInputGradReferenceIdeal.Facts] : Prop :=
  ∀ (m : (ℓ : Loc Cert.MixInputGradIdeal.nD Cert.MixInputGradIdeal.τ Cert.MixInputGradIdeal.sig) → Buf (Elt Ideal) ℓ) (g : Dev Cert.MixInputGradIdeal.nD → PrngReg)
    (m' : (ℓ : Loc Cert.MixInputGradReferenceIdeal.nD Cert.MixInputGradReferenceIdeal.τ Cert.MixInputGradReferenceIdeal.sig) → Buf (Elt Ideal) ℓ) (g' : Dev Cert.MixInputGradReferenceIdeal.nD → PrngReg), Pre_MixInputGradIdeal m →
    (∀ c : Dev Cert.MixInputGradIdeal.nD,
      m' ((c.tc : Thread Cert.MixInputGradReferenceIdeal.nD Cert.MixInputGradReferenceIdeal.τ).loc Cert.MixInputGradReferenceIdeal.main_arg0) = m ((c.tc : Thread Cert.MixInputGradIdeal.nD Cert.MixInputGradIdeal.τ).loc Cert.MixInputGradIdeal.main_arg0)
      ∧ m' ((c.tc : Thread Cert.MixInputGradReferenceIdeal.nD Cert.MixInputGradReferenceIdeal.τ).loc Cert.MixInputGradReferenceIdeal.main_arg1) = m ((c.tc : Thread Cert.MixInputGradIdeal.nD Cert.MixInputGradIdeal.τ).loc Cert.MixInputGradIdeal.main_arg1)) →
    ∃ (v0 : (c : Dev Cert.MixInputGradIdeal.nD) → Buf (Elt Ideal) ((c.tc : Thread Cert.MixInputGradIdeal.nD Cert.MixInputGradIdeal.τ).loc Cert.MixInputGradIdeal.main_v1)),
      θ_run (Cert.MixInputGradIdeal.defs (F := Ideal)) (onTc (τ := Cert.MixInputGradIdeal.τ) (Cert.MixInputGradIdeal.main (F := Ideal))) ⟨m, fun _ => 0, g⟩ (fun r => ∀ c : Dev Cert.MixInputGradIdeal.nD,
          r.2.mem ((c.tc : Thread Cert.MixInputGradIdeal.nD Cert.MixInputGradIdeal.τ).loc Cert.MixInputGradIdeal.main_v1) = v0 c
          ∧ r.2.mem ((c.tc : Thread Cert.MixInputGradIdeal.nD Cert.MixInputGradIdeal.τ).loc Cert.MixInputGradIdeal.main_arg0) = m ((c.tc : Thread Cert.MixInputGradIdeal.nD Cert.MixInputGradIdeal.τ).loc Cert.MixInputGradIdeal.main_arg0)
          ∧ r.2.mem ((c.tc : Thread Cert.MixInputGradIdeal.nD Cert.MixInputGradIdeal.τ).loc Cert.MixInputGradIdeal.main_arg1) = m ((c.tc : Thread Cert.MixInputGradIdeal.nD Cert.MixInputGradIdeal.τ).loc Cert.MixInputGradIdeal.main_arg1))
      ∧ θ_run (Cert.MixInputGradReferenceIdeal.defs (F := Ideal)) (onTc (τ := Cert.MixInputGradReferenceIdeal.τ) (Cert.MixInputGradReferenceIdeal.main (F := Ideal))) ⟨m', fun _ => 0, g'⟩ (fun r => ∀ c : Dev Cert.MixInputGradReferenceIdeal.nD,
          r.2.mem ((c.tc : Thread Cert.MixInputGradReferenceIdeal.nD Cert.MixInputGradReferenceIdeal.τ).loc Cert.MixInputGradReferenceIdeal.main_v4) = v0 c
          ∧ r.2.mem ((c.tc : Thread Cert.MixInputGradReferenceIdeal.nD Cert.MixInputGradReferenceIdeal.τ).loc Cert.MixInputGradReferenceIdeal.main_arg0) = m' ((c.tc : Thread Cert.MixInputGradReferenceIdeal.nD Cert.MixInputGradReferenceIdeal.τ).loc Cert.MixInputGradReferenceIdeal.main_arg0)
          ∧ r.2.mem ((c.tc : Thread Cert.MixInputGradReferenceIdeal.nD Cert.MixInputGradReferenceIdeal.τ).loc Cert.MixInputGradReferenceIdeal.main_arg1) = m' ((c.tc : Thread Cert.MixInputGradReferenceIdeal.nD Cert.MixInputGradReferenceIdeal.τ).loc Cert.MixInputGradReferenceIdeal.main_arg1))

def preserves_InWeightGrad_InWeightGradIdeal : Prop :=
  True

def algebraic_InWeightGradIdeal_InWeightGradReferenceIdeal [hInWeightGradIdeal : Cert.InWeightGradIdeal.Facts] [hInWeightGradReferenceIdeal : Cert.InWeightGradReferenceIdeal.Facts] : Prop :=
  ∀ (m : (ℓ : Loc Cert.InWeightGradIdeal.nD Cert.InWeightGradIdeal.τ Cert.InWeightGradIdeal.sig) → Buf (Elt Ideal) ℓ) (g : Dev Cert.InWeightGradIdeal.nD → PrngReg)
    (m' : (ℓ : Loc Cert.InWeightGradReferenceIdeal.nD Cert.InWeightGradReferenceIdeal.τ Cert.InWeightGradReferenceIdeal.sig) → Buf (Elt Ideal) ℓ) (g' : Dev Cert.InWeightGradReferenceIdeal.nD → PrngReg), Pre_InWeightGradIdeal m →
    (∀ c : Dev Cert.InWeightGradIdeal.nD,
      m' ((c.tc : Thread Cert.InWeightGradReferenceIdeal.nD Cert.InWeightGradReferenceIdeal.τ).loc Cert.InWeightGradReferenceIdeal.main_arg0) = m ((c.tc : Thread Cert.InWeightGradIdeal.nD Cert.InWeightGradIdeal.τ).loc Cert.InWeightGradIdeal.main_arg0)
      ∧ m' ((c.tc : Thread Cert.InWeightGradReferenceIdeal.nD Cert.InWeightGradReferenceIdeal.τ).loc Cert.InWeightGradReferenceIdeal.main_arg1) = m ((c.tc : Thread Cert.InWeightGradIdeal.nD Cert.InWeightGradIdeal.τ).loc Cert.InWeightGradIdeal.main_arg1)) →
    ∃ (v0 : (c : Dev Cert.InWeightGradIdeal.nD) → Buf (Elt Ideal) ((c.tc : Thread Cert.InWeightGradIdeal.nD Cert.InWeightGradIdeal.τ).loc Cert.InWeightGradIdeal.main_v0)),
      θ_run (Cert.InWeightGradIdeal.defs (F := Ideal)) (onTc (τ := Cert.InWeightGradIdeal.τ) (Cert.InWeightGradIdeal.main (F := Ideal))) ⟨m, fun _ => 0, g⟩ (fun r => ∀ c : Dev Cert.InWeightGradIdeal.nD,
          r.2.mem ((c.tc : Thread Cert.InWeightGradIdeal.nD Cert.InWeightGradIdeal.τ).loc Cert.InWeightGradIdeal.main_v0) = v0 c
          ∧ r.2.mem ((c.tc : Thread Cert.InWeightGradIdeal.nD Cert.InWeightGradIdeal.τ).loc Cert.InWeightGradIdeal.main_arg0) = m ((c.tc : Thread Cert.InWeightGradIdeal.nD Cert.InWeightGradIdeal.τ).loc Cert.InWeightGradIdeal.main_arg0)
          ∧ r.2.mem ((c.tc : Thread Cert.InWeightGradIdeal.nD Cert.InWeightGradIdeal.τ).loc Cert.InWeightGradIdeal.main_arg1) = m ((c.tc : Thread Cert.InWeightGradIdeal.nD Cert.InWeightGradIdeal.τ).loc Cert.InWeightGradIdeal.main_arg1))
      ∧ θ_run (Cert.InWeightGradReferenceIdeal.defs (F := Ideal)) (onTc (τ := Cert.InWeightGradReferenceIdeal.τ) (Cert.InWeightGradReferenceIdeal.main (F := Ideal))) ⟨m', fun _ => 0, g'⟩ (fun r => ∀ c : Dev Cert.InWeightGradReferenceIdeal.nD,
          r.2.mem ((c.tc : Thread Cert.InWeightGradReferenceIdeal.nD Cert.InWeightGradReferenceIdeal.τ).loc Cert.InWeightGradReferenceIdeal.main_v5) = v0 c
          ∧ r.2.mem ((c.tc : Thread Cert.InWeightGradReferenceIdeal.nD Cert.InWeightGradReferenceIdeal.τ).loc Cert.InWeightGradReferenceIdeal.main_arg0) = m' ((c.tc : Thread Cert.InWeightGradReferenceIdeal.nD Cert.InWeightGradReferenceIdeal.τ).loc Cert.InWeightGradReferenceIdeal.main_arg0)
          ∧ r.2.mem ((c.tc : Thread Cert.InWeightGradReferenceIdeal.nD Cert.InWeightGradReferenceIdeal.τ).loc Cert.InWeightGradReferenceIdeal.main_arg1) = m' ((c.tc : Thread Cert.InWeightGradReferenceIdeal.nD Cert.InWeightGradReferenceIdeal.τ).loc Cert.InWeightGradReferenceIdeal.main_arg1))

def preserves_GatedHalves_GatedHalvesIdeal : Prop :=
  True

def algebraic_GatedHalvesIdeal_GatedHalvesReferenceIdeal [hGatedHalvesIdeal : Cert.GatedHalvesIdeal.Facts] [hGatedHalvesReferenceIdeal : Cert.GatedHalvesReferenceIdeal.Facts] : Prop :=
  ∀ (m : (ℓ : Loc Cert.GatedHalvesIdeal.nD Cert.GatedHalvesIdeal.τ Cert.GatedHalvesIdeal.sig) → Buf (Elt Ideal) ℓ) (g : Dev Cert.GatedHalvesIdeal.nD → PrngReg)
    (m' : (ℓ : Loc Cert.GatedHalvesReferenceIdeal.nD Cert.GatedHalvesReferenceIdeal.τ Cert.GatedHalvesReferenceIdeal.sig) → Buf (Elt Ideal) ℓ) (g' : Dev Cert.GatedHalvesReferenceIdeal.nD → PrngReg), Pre_GatedHalvesIdeal m →
    (∀ c : Dev Cert.GatedHalvesIdeal.nD,
      m' ((c.tc : Thread Cert.GatedHalvesReferenceIdeal.nD Cert.GatedHalvesReferenceIdeal.τ).loc Cert.GatedHalvesReferenceIdeal.main_arg0) = m ((c.tc : Thread Cert.GatedHalvesIdeal.nD Cert.GatedHalvesIdeal.τ).loc Cert.GatedHalvesIdeal.main_arg0)
      ∧ m' ((c.tc : Thread Cert.GatedHalvesReferenceIdeal.nD Cert.GatedHalvesReferenceIdeal.τ).loc Cert.GatedHalvesReferenceIdeal.main_arg1) = m ((c.tc : Thread Cert.GatedHalvesIdeal.nD Cert.GatedHalvesIdeal.τ).loc Cert.GatedHalvesIdeal.main_arg1)) →
    ∃ (v0 : (c : Dev Cert.GatedHalvesIdeal.nD) → Buf (Elt Ideal) ((c.tc : Thread Cert.GatedHalvesIdeal.nD Cert.GatedHalvesIdeal.τ).loc Cert.GatedHalvesIdeal.main_v0_0)) (v1 : (c : Dev Cert.GatedHalvesIdeal.nD) → Buf (Elt Ideal) ((c.tc : Thread Cert.GatedHalvesIdeal.nD Cert.GatedHalvesIdeal.τ).loc Cert.GatedHalvesIdeal.main_v0_1)) (v2 : (c : Dev Cert.GatedHalvesIdeal.nD) → Buf (Elt Ideal) ((c.tc : Thread Cert.GatedHalvesIdeal.nD Cert.GatedHalvesIdeal.τ).loc Cert.GatedHalvesIdeal.main_v0_2)),
      θ_run (Cert.GatedHalvesIdeal.defs (F := Ideal)) (onTc (τ := Cert.GatedHalvesIdeal.τ) (Cert.GatedHalvesIdeal.main (F := Ideal))) ⟨m, fun _ => 0, g⟩ (fun r => ∀ c : Dev Cert.GatedHalvesIdeal.nD,
          r.2.mem ((c.tc : Thread Cert.GatedHalvesIdeal.nD Cert.GatedHalvesIdeal.τ).loc Cert.GatedHalvesIdeal.main_v0_0) = v0 c
          ∧ r.2.mem ((c.tc : Thread Cert.GatedHalvesIdeal.nD Cert.GatedHalvesIdeal.τ).loc Cert.GatedHalvesIdeal.main_v0_1) = v1 c
          ∧ r.2.mem ((c.tc : Thread Cert.GatedHalvesIdeal.nD Cert.GatedHalvesIdeal.τ).loc Cert.GatedHalvesIdeal.main_v0_2) = v2 c
          ∧ r.2.mem ((c.tc : Thread Cert.GatedHalvesIdeal.nD Cert.GatedHalvesIdeal.τ).loc Cert.GatedHalvesIdeal.main_arg0) = m ((c.tc : Thread Cert.GatedHalvesIdeal.nD Cert.GatedHalvesIdeal.τ).loc Cert.GatedHalvesIdeal.main_arg0)
          ∧ r.2.mem ((c.tc : Thread Cert.GatedHalvesIdeal.nD Cert.GatedHalvesIdeal.τ).loc Cert.GatedHalvesIdeal.main_arg1) = m ((c.tc : Thread Cert.GatedHalvesIdeal.nD Cert.GatedHalvesIdeal.τ).loc Cert.GatedHalvesIdeal.main_arg1))
      ∧ θ_run (Cert.GatedHalvesReferenceIdeal.defs (F := Ideal)) (onTc (τ := Cert.GatedHalvesReferenceIdeal.τ) (Cert.GatedHalvesReferenceIdeal.main (F := Ideal))) ⟨m', fun _ => 0, g'⟩ (fun r => ∀ c : Dev Cert.GatedHalvesReferenceIdeal.nD,
          r.2.mem ((c.tc : Thread Cert.GatedHalvesReferenceIdeal.nD Cert.GatedHalvesReferenceIdeal.τ).loc Cert.GatedHalvesReferenceIdeal.main_v5) = v0 c
          ∧ r.2.mem ((c.tc : Thread Cert.GatedHalvesReferenceIdeal.nD Cert.GatedHalvesReferenceIdeal.τ).loc Cert.GatedHalvesReferenceIdeal.main_v6) = v1 c
          ∧ r.2.mem ((c.tc : Thread Cert.GatedHalvesReferenceIdeal.nD Cert.GatedHalvesReferenceIdeal.τ).loc Cert.GatedHalvesReferenceIdeal.main_v9) = v2 c
          ∧ r.2.mem ((c.tc : Thread Cert.GatedHalvesReferenceIdeal.nD Cert.GatedHalvesReferenceIdeal.τ).loc Cert.GatedHalvesReferenceIdeal.main_arg0) = m' ((c.tc : Thread Cert.GatedHalvesReferenceIdeal.nD Cert.GatedHalvesReferenceIdeal.τ).loc Cert.GatedHalvesReferenceIdeal.main_arg0)
          ∧ r.2.mem ((c.tc : Thread Cert.GatedHalvesReferenceIdeal.nD Cert.GatedHalvesReferenceIdeal.τ).loc Cert.GatedHalvesReferenceIdeal.main_arg1) = m' ((c.tc : Thread Cert.GatedHalvesReferenceIdeal.nD Cert.GatedHalvesReferenceIdeal.τ).loc Cert.GatedHalvesReferenceIdeal.main_arg1))

def preserves_HalfLayer_HalfLayerIdeal : Prop :=
  True

def algebraic_HalfLayerIdeal_HalfLayerReferenceIdeal [hHalfLayerIdeal : Cert.HalfLayerIdeal.Facts] [hHalfLayerReferenceIdeal : Cert.HalfLayerReferenceIdeal.Facts] : Prop :=
  ∀ (m : (ℓ : Loc Cert.HalfLayerIdeal.nD Cert.HalfLayerIdeal.τ Cert.HalfLayerIdeal.sig) → Buf (Elt Ideal) ℓ) (g : Dev Cert.HalfLayerIdeal.nD → PrngReg)
    (m' : (ℓ : Loc Cert.HalfLayerReferenceIdeal.nD Cert.HalfLayerReferenceIdeal.τ Cert.HalfLayerReferenceIdeal.sig) → Buf (Elt Ideal) ℓ) (g' : Dev Cert.HalfLayerReferenceIdeal.nD → PrngReg), Pre_HalfLayerIdeal m →
    (∀ c : Dev Cert.HalfLayerIdeal.nD,
      m' ((c.tc : Thread Cert.HalfLayerReferenceIdeal.nD Cert.HalfLayerReferenceIdeal.τ).loc Cert.HalfLayerReferenceIdeal.main_arg0) = m ((c.tc : Thread Cert.HalfLayerIdeal.nD Cert.HalfLayerIdeal.τ).loc Cert.HalfLayerIdeal.main_arg0)
      ∧ m' ((c.tc : Thread Cert.HalfLayerReferenceIdeal.nD Cert.HalfLayerReferenceIdeal.τ).loc Cert.HalfLayerReferenceIdeal.main_arg1) = m ((c.tc : Thread Cert.HalfLayerIdeal.nD Cert.HalfLayerIdeal.τ).loc Cert.HalfLayerIdeal.main_arg1)
      ∧ m' ((c.tc : Thread Cert.HalfLayerReferenceIdeal.nD Cert.HalfLayerReferenceIdeal.τ).loc Cert.HalfLayerReferenceIdeal.main_arg2) = m ((c.tc : Thread Cert.HalfLayerIdeal.nD Cert.HalfLayerIdeal.τ).loc Cert.HalfLayerIdeal.main_arg2)
      ∧ m' ((c.tc : Thread Cert.HalfLayerReferenceIdeal.nD Cert.HalfLayerReferenceIdeal.τ).loc Cert.HalfLayerReferenceIdeal.main_arg3) = m ((c.tc : Thread Cert.HalfLayerIdeal.nD Cert.HalfLayerIdeal.τ).loc Cert.HalfLayerIdeal.main_arg3)) →
    ∃ (v0 : (c : Dev Cert.HalfLayerIdeal.nD) → Buf (Elt Ideal) ((c.tc : Thread Cert.HalfLayerIdeal.nD Cert.HalfLayerIdeal.τ).loc Cert.HalfLayerIdeal.main_v0_0)) (v1 : (c : Dev Cert.HalfLayerIdeal.nD) → Buf (Elt Ideal) ((c.tc : Thread Cert.HalfLayerIdeal.nD Cert.HalfLayerIdeal.τ).loc Cert.HalfLayerIdeal.main_v0_1)),
      θ_run (Cert.HalfLayerIdeal.defs (F := Ideal)) (onTc (τ := Cert.HalfLayerIdeal.τ) (Cert.HalfLayerIdeal.main (F := Ideal))) ⟨m, fun _ => 0, g⟩ (fun r => ∀ c : Dev Cert.HalfLayerIdeal.nD,
          r.2.mem ((c.tc : Thread Cert.HalfLayerIdeal.nD Cert.HalfLayerIdeal.τ).loc Cert.HalfLayerIdeal.main_v0_0) = v0 c
          ∧ r.2.mem ((c.tc : Thread Cert.HalfLayerIdeal.nD Cert.HalfLayerIdeal.τ).loc Cert.HalfLayerIdeal.main_v0_1) = v1 c
          ∧ r.2.mem ((c.tc : Thread Cert.HalfLayerIdeal.nD Cert.HalfLayerIdeal.τ).loc Cert.HalfLayerIdeal.main_arg0) = m ((c.tc : Thread Cert.HalfLayerIdeal.nD Cert.HalfLayerIdeal.τ).loc Cert.HalfLayerIdeal.main_arg0)
          ∧ r.2.mem ((c.tc : Thread Cert.HalfLayerIdeal.nD Cert.HalfLayerIdeal.τ).loc Cert.HalfLayerIdeal.main_arg1) = m ((c.tc : Thread Cert.HalfLayerIdeal.nD Cert.HalfLayerIdeal.τ).loc Cert.HalfLayerIdeal.main_arg1)
          ∧ r.2.mem ((c.tc : Thread Cert.HalfLayerIdeal.nD Cert.HalfLayerIdeal.τ).loc Cert.HalfLayerIdeal.main_arg2) = m ((c.tc : Thread Cert.HalfLayerIdeal.nD Cert.HalfLayerIdeal.τ).loc Cert.HalfLayerIdeal.main_arg2)
          ∧ r.2.mem ((c.tc : Thread Cert.HalfLayerIdeal.nD Cert.HalfLayerIdeal.τ).loc Cert.HalfLayerIdeal.main_arg3) = m ((c.tc : Thread Cert.HalfLayerIdeal.nD Cert.HalfLayerIdeal.τ).loc Cert.HalfLayerIdeal.main_arg3))
      ∧ θ_run (Cert.HalfLayerReferenceIdeal.defs (F := Ideal)) (onTc (τ := Cert.HalfLayerReferenceIdeal.τ) (Cert.HalfLayerReferenceIdeal.main (F := Ideal))) ⟨m', fun _ => 0, g'⟩ (fun r => ∀ c : Dev Cert.HalfLayerReferenceIdeal.nD,
          r.2.mem ((c.tc : Thread Cert.HalfLayerReferenceIdeal.nD Cert.HalfLayerReferenceIdeal.τ).loc Cert.HalfLayerReferenceIdeal.main_v5) = v0 c
          ∧ r.2.mem ((c.tc : Thread Cert.HalfLayerReferenceIdeal.nD Cert.HalfLayerReferenceIdeal.τ).loc Cert.HalfLayerReferenceIdeal.main_v20) = v1 c
          ∧ r.2.mem ((c.tc : Thread Cert.HalfLayerReferenceIdeal.nD Cert.HalfLayerReferenceIdeal.τ).loc Cert.HalfLayerReferenceIdeal.main_arg0) = m' ((c.tc : Thread Cert.HalfLayerReferenceIdeal.nD Cert.HalfLayerReferenceIdeal.τ).loc Cert.HalfLayerReferenceIdeal.main_arg0)
          ∧ r.2.mem ((c.tc : Thread Cert.HalfLayerReferenceIdeal.nD Cert.HalfLayerReferenceIdeal.τ).loc Cert.HalfLayerReferenceIdeal.main_arg1) = m' ((c.tc : Thread Cert.HalfLayerReferenceIdeal.nD Cert.HalfLayerReferenceIdeal.τ).loc Cert.HalfLayerReferenceIdeal.main_arg1)
          ∧ r.2.mem ((c.tc : Thread Cert.HalfLayerReferenceIdeal.nD Cert.HalfLayerReferenceIdeal.τ).loc Cert.HalfLayerReferenceIdeal.main_arg2) = m' ((c.tc : Thread Cert.HalfLayerReferenceIdeal.nD Cert.HalfLayerReferenceIdeal.τ).loc Cert.HalfLayerReferenceIdeal.main_arg2)
          ∧ r.2.mem ((c.tc : Thread Cert.HalfLayerReferenceIdeal.nD Cert.HalfLayerReferenceIdeal.τ).loc Cert.HalfLayerReferenceIdeal.main_arg3) = m' ((c.tc : Thread Cert.HalfLayerReferenceIdeal.nD Cert.HalfLayerReferenceIdeal.τ).loc Cert.HalfLayerReferenceIdeal.main_arg3))

def preserves_AttnForward_AttnForwardIdeal : Prop :=
  IdealRules.named_const.Statement Cert.AttnForwardIdeal.κ "mask" .f32 0xF149F2CA#32 ⊥
  ∧ IdealRules.named_const.Statement Cert.AttnForwardIdeal.κ "scale_log2e" .f32 0x3E16C740#32 (((3424635 / 33554432) * (Real.log 2)⁻¹ : ℝ) : EReal)
  ∧ IdealRules.named_const.Statement Cert.AttnForwardIdeal.κ "log2e" .f32 0x3FB8AA3B#32 (((Real.log 2)⁻¹ : ℝ) : EReal)

def algebraic_AttnForwardIdeal_AttnForwardReferenceIdeal_pre_finite_rows [hAttnForwardIdeal : Cert.AttnForwardIdeal.Facts] [hAttnForwardReferenceIdeal : Cert.AttnForwardReferenceIdeal.Facts] [hPre_finite_rows : Cert.Pre_finite_rows.Facts] : Prop :=
  ∀ (m : (ℓ : Loc Cert.AttnForwardIdeal.nD Cert.AttnForwardIdeal.τ Cert.AttnForwardIdeal.sig) → Buf (Elt Ideal) ℓ) (g : Dev Cert.AttnForwardIdeal.nD → PrngReg)
    (m' : (ℓ : Loc Cert.AttnForwardReferenceIdeal.nD Cert.AttnForwardReferenceIdeal.τ Cert.AttnForwardReferenceIdeal.sig) → Buf (Elt Ideal) ℓ) (g' : Dev Cert.AttnForwardReferenceIdeal.nD → PrngReg), Pre_AttnForwardIdeal_finite_rows m →
    (∀ c : Dev Cert.AttnForwardIdeal.nD,
      m' ((c.tc : Thread Cert.AttnForwardReferenceIdeal.nD Cert.AttnForwardReferenceIdeal.τ).loc Cert.AttnForwardReferenceIdeal.main_arg0) = m ((c.tc : Thread Cert.AttnForwardIdeal.nD Cert.AttnForwardIdeal.τ).loc Cert.AttnForwardIdeal.main_arg0)
      ∧ m' ((c.tc : Thread Cert.AttnForwardReferenceIdeal.nD Cert.AttnForwardReferenceIdeal.τ).loc Cert.AttnForwardReferenceIdeal.main_arg1) = m ((c.tc : Thread Cert.AttnForwardIdeal.nD Cert.AttnForwardIdeal.τ).loc Cert.AttnForwardIdeal.main_arg1)) →
    ∃ (v0 : (c : Dev Cert.AttnForwardIdeal.nD) → Buf (Elt Ideal) ((c.tc : Thread Cert.AttnForwardIdeal.nD Cert.AttnForwardIdeal.τ).loc Cert.AttnForwardIdeal.main_v4_0)) (v1 : (c : Dev Cert.AttnForwardIdeal.nD) → Buf (Elt Ideal) ((c.tc : Thread Cert.AttnForwardIdeal.nD Cert.AttnForwardIdeal.τ).loc Cert.AttnForwardIdeal.main_v4_1)),
      θ_run (Cert.AttnForwardIdeal.defs (F := Ideal)) (onTc (τ := Cert.AttnForwardIdeal.τ) (Cert.AttnForwardIdeal.main (F := Ideal))) ⟨m, fun _ => 0, g⟩ (fun r => ∀ c : Dev Cert.AttnForwardIdeal.nD,
          r.2.mem ((c.tc : Thread Cert.AttnForwardIdeal.nD Cert.AttnForwardIdeal.τ).loc Cert.AttnForwardIdeal.main_v4_0) = v0 c
          ∧ r.2.mem ((c.tc : Thread Cert.AttnForwardIdeal.nD Cert.AttnForwardIdeal.τ).loc Cert.AttnForwardIdeal.main_v4_1) = v1 c
          ∧ r.2.mem ((c.tc : Thread Cert.AttnForwardIdeal.nD Cert.AttnForwardIdeal.τ).loc Cert.AttnForwardIdeal.main_arg0) = m ((c.tc : Thread Cert.AttnForwardIdeal.nD Cert.AttnForwardIdeal.τ).loc Cert.AttnForwardIdeal.main_arg0)
          ∧ r.2.mem ((c.tc : Thread Cert.AttnForwardIdeal.nD Cert.AttnForwardIdeal.τ).loc Cert.AttnForwardIdeal.main_arg1) = m ((c.tc : Thread Cert.AttnForwardIdeal.nD Cert.AttnForwardIdeal.τ).loc Cert.AttnForwardIdeal.main_arg1))
      ∧ θ_run (Cert.AttnForwardReferenceIdeal.defs (F := Ideal)) (onTc (τ := Cert.AttnForwardReferenceIdeal.τ) (Cert.AttnForwardReferenceIdeal.main (F := Ideal))) ⟨m', fun _ => 0, g'⟩ (fun r => ∀ c : Dev Cert.AttnForwardReferenceIdeal.nD,
          r.2.mem ((c.tc : Thread Cert.AttnForwardReferenceIdeal.nD Cert.AttnForwardReferenceIdeal.τ).loc Cert.AttnForwardReferenceIdeal.main_v32) = v0 c
          ∧ r.2.mem ((c.tc : Thread Cert.AttnForwardReferenceIdeal.nD Cert.AttnForwardReferenceIdeal.τ).loc Cert.AttnForwardReferenceIdeal.main_v39) = v1 c
          ∧ r.2.mem ((c.tc : Thread Cert.AttnForwardReferenceIdeal.nD Cert.AttnForwardReferenceIdeal.τ).loc Cert.AttnForwardReferenceIdeal.main_arg0) = m' ((c.tc : Thread Cert.AttnForwardReferenceIdeal.nD Cert.AttnForwardReferenceIdeal.τ).loc Cert.AttnForwardReferenceIdeal.main_arg0)
          ∧ r.2.mem ((c.tc : Thread Cert.AttnForwardReferenceIdeal.nD Cert.AttnForwardReferenceIdeal.τ).loc Cert.AttnForwardReferenceIdeal.main_arg1) = m' ((c.tc : Thread Cert.AttnForwardReferenceIdeal.nD Cert.AttnForwardReferenceIdeal.τ).loc Cert.AttnForwardReferenceIdeal.main_arg1))

def preserves_MixColumns_MixColumnsIdeal : Prop :=
  True

def algebraic_MixColumnsIdeal_MixColumnsReferenceIdeal [hMixColumnsIdeal : Cert.MixColumnsIdeal.Facts] [hMixColumnsReferenceIdeal : Cert.MixColumnsReferenceIdeal.Facts] : Prop :=
  ∀ (m : (ℓ : Loc Cert.MixColumnsIdeal.nD Cert.MixColumnsIdeal.τ Cert.MixColumnsIdeal.sig) → Buf (Elt Ideal) ℓ) (g : Dev Cert.MixColumnsIdeal.nD → PrngReg)
    (m' : (ℓ : Loc Cert.MixColumnsReferenceIdeal.nD Cert.MixColumnsReferenceIdeal.τ Cert.MixColumnsReferenceIdeal.sig) → Buf (Elt Ideal) ℓ) (g' : Dev Cert.MixColumnsReferenceIdeal.nD → PrngReg), Pre_MixColumnsIdeal m →
    (∀ c : Dev Cert.MixColumnsIdeal.nD,
      m' ((c.tc : Thread Cert.MixColumnsReferenceIdeal.nD Cert.MixColumnsReferenceIdeal.τ).loc Cert.MixColumnsReferenceIdeal.main_arg0) = m ((c.tc : Thread Cert.MixColumnsIdeal.nD Cert.MixColumnsIdeal.τ).loc Cert.MixColumnsIdeal.main_arg0)
      ∧ m' ((c.tc : Thread Cert.MixColumnsReferenceIdeal.nD Cert.MixColumnsReferenceIdeal.τ).loc Cert.MixColumnsReferenceIdeal.main_arg1) = m ((c.tc : Thread Cert.MixColumnsIdeal.nD Cert.MixColumnsIdeal.τ).loc Cert.MixColumnsIdeal.main_arg1)) →
    ∃ (v0 : (c : Dev Cert.MixColumnsIdeal.nD) → Buf (Elt Ideal) ((c.tc : Thread Cert.MixColumnsIdeal.nD Cert.MixColumnsIdeal.τ).loc Cert.MixColumnsIdeal.main_v0)),
      θ_run (Cert.MixColumnsIdeal.defs (F := Ideal)) (onTc (τ := Cert.MixColumnsIdeal.τ) (Cert.MixColumnsIdeal.main (F := Ideal))) ⟨m, fun _ => 0, g⟩ (fun r => ∀ c : Dev Cert.MixColumnsIdeal.nD,
          r.2.mem ((c.tc : Thread Cert.MixColumnsIdeal.nD Cert.MixColumnsIdeal.τ).loc Cert.MixColumnsIdeal.main_v0) = v0 c
          ∧ r.2.mem ((c.tc : Thread Cert.MixColumnsIdeal.nD Cert.MixColumnsIdeal.τ).loc Cert.MixColumnsIdeal.main_arg0) = m ((c.tc : Thread Cert.MixColumnsIdeal.nD Cert.MixColumnsIdeal.τ).loc Cert.MixColumnsIdeal.main_arg0)
          ∧ r.2.mem ((c.tc : Thread Cert.MixColumnsIdeal.nD Cert.MixColumnsIdeal.τ).loc Cert.MixColumnsIdeal.main_arg1) = m ((c.tc : Thread Cert.MixColumnsIdeal.nD Cert.MixColumnsIdeal.τ).loc Cert.MixColumnsIdeal.main_arg1))
      ∧ θ_run (Cert.MixColumnsReferenceIdeal.defs (F := Ideal)) (onTc (τ := Cert.MixColumnsReferenceIdeal.τ) (Cert.MixColumnsReferenceIdeal.main (F := Ideal))) ⟨m', fun _ => 0, g'⟩ (fun r => ∀ c : Dev Cert.MixColumnsReferenceIdeal.nD,
          r.2.mem ((c.tc : Thread Cert.MixColumnsReferenceIdeal.nD Cert.MixColumnsReferenceIdeal.τ).loc Cert.MixColumnsReferenceIdeal.main_v3) = v0 c
          ∧ r.2.mem ((c.tc : Thread Cert.MixColumnsReferenceIdeal.nD Cert.MixColumnsReferenceIdeal.τ).loc Cert.MixColumnsReferenceIdeal.main_arg0) = m' ((c.tc : Thread Cert.MixColumnsReferenceIdeal.nD Cert.MixColumnsReferenceIdeal.τ).loc Cert.MixColumnsReferenceIdeal.main_arg0)
          ∧ r.2.mem ((c.tc : Thread Cert.MixColumnsReferenceIdeal.nD Cert.MixColumnsReferenceIdeal.τ).loc Cert.MixColumnsReferenceIdeal.main_arg1) = m' ((c.tc : Thread Cert.MixColumnsReferenceIdeal.nD Cert.MixColumnsReferenceIdeal.τ).loc Cert.MixColumnsReferenceIdeal.main_arg1))

def preserves_GateColumns_GateColumnsIdeal : Prop :=
  True

def algebraic_GateColumnsIdeal_GateColumnsReferenceIdeal [hGateColumnsIdeal : Cert.GateColumnsIdeal.Facts] [hGateColumnsReferenceIdeal : Cert.GateColumnsReferenceIdeal.Facts] : Prop :=
  ∀ (m : (ℓ : Loc Cert.GateColumnsIdeal.nD Cert.GateColumnsIdeal.τ Cert.GateColumnsIdeal.sig) → Buf (Elt Ideal) ℓ) (g : Dev Cert.GateColumnsIdeal.nD → PrngReg)
    (m' : (ℓ : Loc Cert.GateColumnsReferenceIdeal.nD Cert.GateColumnsReferenceIdeal.τ Cert.GateColumnsReferenceIdeal.sig) → Buf (Elt Ideal) ℓ) (g' : Dev Cert.GateColumnsReferenceIdeal.nD → PrngReg), Pre_GateColumnsIdeal m →
    (∀ c : Dev Cert.GateColumnsIdeal.nD,
      m' ((c.tc : Thread Cert.GateColumnsReferenceIdeal.nD Cert.GateColumnsReferenceIdeal.τ).loc Cert.GateColumnsReferenceIdeal.main_arg0) = m ((c.tc : Thread Cert.GateColumnsIdeal.nD Cert.GateColumnsIdeal.τ).loc Cert.GateColumnsIdeal.main_arg0)
      ∧ m' ((c.tc : Thread Cert.GateColumnsReferenceIdeal.nD Cert.GateColumnsReferenceIdeal.τ).loc Cert.GateColumnsReferenceIdeal.main_arg1) = m ((c.tc : Thread Cert.GateColumnsIdeal.nD Cert.GateColumnsIdeal.τ).loc Cert.GateColumnsIdeal.main_arg1)) →
    ∃ (v0 : (c : Dev Cert.GateColumnsIdeal.nD) → Buf (Elt Ideal) ((c.tc : Thread Cert.GateColumnsIdeal.nD Cert.GateColumnsIdeal.τ).loc Cert.GateColumnsIdeal.main_v0)),
      θ_run (Cert.GateColumnsIdeal.defs (F := Ideal)) (onTc (τ := Cert.GateColumnsIdeal.τ) (Cert.GateColumnsIdeal.main (F := Ideal))) ⟨m, fun _ => 0, g⟩ (fun r => ∀ c : Dev Cert.GateColumnsIdeal.nD,
          r.2.mem ((c.tc : Thread Cert.GateColumnsIdeal.nD Cert.GateColumnsIdeal.τ).loc Cert.GateColumnsIdeal.main_v0) = v0 c
          ∧ r.2.mem ((c.tc : Thread Cert.GateColumnsIdeal.nD Cert.GateColumnsIdeal.τ).loc Cert.GateColumnsIdeal.main_arg0) = m ((c.tc : Thread Cert.GateColumnsIdeal.nD Cert.GateColumnsIdeal.τ).loc Cert.GateColumnsIdeal.main_arg0)
          ∧ r.2.mem ((c.tc : Thread Cert.GateColumnsIdeal.nD Cert.GateColumnsIdeal.τ).loc Cert.GateColumnsIdeal.main_arg1) = m ((c.tc : Thread Cert.GateColumnsIdeal.nD Cert.GateColumnsIdeal.τ).loc Cert.GateColumnsIdeal.main_arg1))
      ∧ θ_run (Cert.GateColumnsReferenceIdeal.defs (F := Ideal)) (onTc (τ := Cert.GateColumnsReferenceIdeal.τ) (Cert.GateColumnsReferenceIdeal.main (F := Ideal))) ⟨m', fun _ => 0, g'⟩ (fun r => ∀ c : Dev Cert.GateColumnsReferenceIdeal.nD,
          r.2.mem ((c.tc : Thread Cert.GateColumnsReferenceIdeal.nD Cert.GateColumnsReferenceIdeal.τ).loc Cert.GateColumnsReferenceIdeal.main_v4) = v0 c
          ∧ r.2.mem ((c.tc : Thread Cert.GateColumnsReferenceIdeal.nD Cert.GateColumnsReferenceIdeal.τ).loc Cert.GateColumnsReferenceIdeal.main_arg0) = m' ((c.tc : Thread Cert.GateColumnsReferenceIdeal.nD Cert.GateColumnsReferenceIdeal.τ).loc Cert.GateColumnsReferenceIdeal.main_arg0)
          ∧ r.2.mem ((c.tc : Thread Cert.GateColumnsReferenceIdeal.nD Cert.GateColumnsReferenceIdeal.τ).loc Cert.GateColumnsReferenceIdeal.main_arg1) = m' ((c.tc : Thread Cert.GateColumnsReferenceIdeal.nD Cert.GateColumnsReferenceIdeal.τ).loc Cert.GateColumnsReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v24) = v0 c
          ∧ r.2.mem ((c.tc : Thread Cert.MergeReferenceIdeal.nD Cert.MergeReferenceIdeal.τ).loc Cert.MergeReferenceIdeal.main_v25) = v1 c
          ∧ r.2.mem ((c.tc : Thread Cert.MergeReferenceIdeal.nD Cert.MergeReferenceIdeal.τ).loc Cert.MergeReferenceIdeal.main_v26) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_v18) = v1 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_OutWeightGrad_OutWeightGradIdeal : Prop :=
  True

def algebraic_OutWeightGradIdeal_OutWeightGradReferenceIdeal [hOutWeightGradIdeal : Cert.OutWeightGradIdeal.Facts] [hOutWeightGradReferenceIdeal : Cert.OutWeightGradReferenceIdeal.Facts] : Prop :=
  ∀ (m : (ℓ : Loc Cert.OutWeightGradIdeal.nD Cert.OutWeightGradIdeal.τ Cert.OutWeightGradIdeal.sig) → Buf (Elt Ideal) ℓ) (g : Dev Cert.OutWeightGradIdeal.nD → PrngReg)
    (m' : (ℓ : Loc Cert.OutWeightGradReferenceIdeal.nD Cert.OutWeightGradReferenceIdeal.τ Cert.OutWeightGradReferenceIdeal.sig) → Buf (Elt Ideal) ℓ) (g' : Dev Cert.OutWeightGradReferenceIdeal.nD → PrngReg), Pre_OutWeightGradIdeal m →
    (∀ c : Dev Cert.OutWeightGradIdeal.nD,
      m' ((c.tc : Thread Cert.OutWeightGradReferenceIdeal.nD Cert.OutWeightGradReferenceIdeal.τ).loc Cert.OutWeightGradReferenceIdeal.main_arg0) = m ((c.tc : Thread Cert.OutWeightGradIdeal.nD Cert.OutWeightGradIdeal.τ).loc Cert.OutWeightGradIdeal.main_arg0)
      ∧ m' ((c.tc : Thread Cert.OutWeightGradReferenceIdeal.nD Cert.OutWeightGradReferenceIdeal.τ).loc Cert.OutWeightGradReferenceIdeal.main_arg1) = m ((c.tc : Thread Cert.OutWeightGradIdeal.nD Cert.OutWeightGradIdeal.τ).loc Cert.OutWeightGradIdeal.main_arg1)) →
    ∃ (v0 : (c : Dev Cert.OutWeightGradIdeal.nD) → Buf (Elt Ideal) ((c.tc : Thread Cert.OutWeightGradIdeal.nD Cert.OutWeightGradIdeal.τ).loc Cert.OutWeightGradIdeal.main_v0)),
      θ_run (Cert.OutWeightGradIdeal.defs (F := Ideal)) (onTc (τ := Cert.OutWeightGradIdeal.τ) (Cert.OutWeightGradIdeal.main (F := Ideal))) ⟨m, fun _ => 0, g⟩ (fun r => ∀ c : Dev Cert.OutWeightGradIdeal.nD,
          r.2.mem ((c.tc : Thread Cert.OutWeightGradIdeal.nD Cert.OutWeightGradIdeal.τ).loc Cert.OutWeightGradIdeal.main_v0) = v0 c
          ∧ r.2.mem ((c.tc : Thread Cert.OutWeightGradIdeal.nD Cert.OutWeightGradIdeal.τ).loc Cert.OutWeightGradIdeal.main_arg0) = m ((c.tc : Thread Cert.OutWeightGradIdeal.nD Cert.OutWeightGradIdeal.τ).loc Cert.OutWeightGradIdeal.main_arg0)
          ∧ r.2.mem ((c.tc : Thread Cert.OutWeightGradIdeal.nD Cert.OutWeightGradIdeal.τ).loc Cert.OutWeightGradIdeal.main_arg1) = m ((c.tc : Thread Cert.OutWeightGradIdeal.nD Cert.OutWeightGradIdeal.τ).loc Cert.OutWeightGradIdeal.main_arg1))
      ∧ θ_run (Cert.OutWeightGradReferenceIdeal.defs (F := Ideal)) (onTc (τ := Cert.OutWeightGradReferenceIdeal.τ) (Cert.OutWeightGradReferenceIdeal.main (F := Ideal))) ⟨m', fun _ => 0, g'⟩ (fun r => ∀ c : Dev Cert.OutWeightGradReferenceIdeal.nD,
          r.2.mem ((c.tc : Thread Cert.OutWeightGradReferenceIdeal.nD Cert.OutWeightGradReferenceIdeal.τ).loc Cert.OutWeightGradReferenceIdeal.main_v5) = v0 c
          ∧ r.2.mem ((c.tc : Thread Cert.OutWeightGradReferenceIdeal.nD Cert.OutWeightGradReferenceIdeal.τ).loc Cert.OutWeightGradReferenceIdeal.main_arg0) = m' ((c.tc : Thread Cert.OutWeightGradReferenceIdeal.nD Cert.OutWeightGradReferenceIdeal.τ).loc Cert.OutWeightGradReferenceIdeal.main_arg0)
          ∧ r.2.mem ((c.tc : Thread Cert.OutWeightGradReferenceIdeal.nD Cert.OutWeightGradReferenceIdeal.τ).loc Cert.OutWeightGradReferenceIdeal.main_arg1) = m' ((c.tc : Thread Cert.OutWeightGradReferenceIdeal.nD Cert.OutWeightGradReferenceIdeal.τ).loc Cert.OutWeightGradReferenceIdeal.main_arg1))

def preserves_AttnOutGrad_AttnOutGradIdeal : Prop :=
  True

def algebraic_AttnOutGradIdeal_AttnOutGradReferenceIdeal [hAttnOutGradIdeal : Cert.AttnOutGradIdeal.Facts] [hAttnOutGradReferenceIdeal : Cert.AttnOutGradReferenceIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg)
    (m' : (ℓ : Loc Cert.AttnOutGradReferenceIdeal.nD Cert.AttnOutGradReferenceIdeal.τ Cert.AttnOutGradReferenceIdeal.sig) → Buf (Elt Ideal) ℓ) (g' : Dev Cert.AttnOutGradReferenceIdeal.nD → PrngReg), Pre_AttnOutGradIdeal m →
    (∀ c : Dev Cert.AttnOutGradIdeal.nD,
      m' ((c.tc : Thread Cert.AttnOutGradReferenceIdeal.nD Cert.AttnOutGradReferenceIdeal.τ).loc Cert.AttnOutGradReferenceIdeal.main_arg0) = m ((c.tc : Thread Cert.AttnOutGradIdeal.nD Cert.AttnOutGradIdeal.τ).loc Cert.AttnOutGradIdeal.main_arg0)
      ∧ m' ((c.tc : Thread Cert.AttnOutGradReferenceIdeal.nD Cert.AttnOutGradReferenceIdeal.τ).loc Cert.AttnOutGradReferenceIdeal.main_arg1) = m ((c.tc : Thread Cert.AttnOutGradIdeal.nD Cert.AttnOutGradIdeal.τ).loc Cert.AttnOutGradIdeal.main_arg1)) →
    ∃ (v0 : (c : Dev Cert.AttnOutGradIdeal.nD) → Buf (Elt Ideal) ((c.tc : Thread Cert.AttnOutGradIdeal.nD Cert.AttnOutGradIdeal.τ).loc Cert.AttnOutGradIdeal.main_v1)),
      θ_run (Cert.AttnOutGradIdeal.defs (F := Ideal)) (onTc (τ := Cert.AttnOutGradIdeal.τ) (Cert.AttnOutGradIdeal.main (F := Ideal))) ⟨m, fun _ => 0, g⟩ (fun r => ∀ c : Dev Cert.AttnOutGradIdeal.nD,
          r.2.mem ((c.tc : Thread Cert.AttnOutGradIdeal.nD Cert.AttnOutGradIdeal.τ).loc Cert.AttnOutGradIdeal.main_v1) = v0 c
          ∧ r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
          ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1))
      ∧ θ_run (Cert.AttnOutGradReferenceIdeal.defs (F := Ideal)) (onTc (τ := Cert.AttnOutGradReferenceIdeal.τ) (Cert.AttnOutGradReferenceIdeal.main (F := Ideal))) ⟨m', fun _ => 0, g'⟩ (fun r => ∀ c : Dev Cert.AttnOutGradReferenceIdeal.nD,
          r.2.mem ((c.tc : Thread Cert.AttnOutGradReferenceIdeal.nD Cert.AttnOutGradReferenceIdeal.τ).loc Cert.AttnOutGradReferenceIdeal.main_v5) = v0 c
          ∧ r.2.mem ((c.tc : Thread Cert.AttnOutGradReferenceIdeal.nD Cert.AttnOutGradReferenceIdeal.τ).loc Cert.AttnOutGradReferenceIdeal.main_arg0) = m' ((c.tc : Thread Cert.AttnOutGradReferenceIdeal.nD Cert.AttnOutGradReferenceIdeal.τ).loc Cert.AttnOutGradReferenceIdeal.main_arg0)
          ∧ r.2.mem ((c.tc : Thread Cert.AttnOutGradReferenceIdeal.nD Cert.AttnOutGradReferenceIdeal.τ).loc Cert.AttnOutGradReferenceIdeal.main_arg1) = m' ((c.tc : Thread Cert.AttnOutGradReferenceIdeal.nD Cert.AttnOutGradReferenceIdeal.τ).loc Cert.AttnOutGradReferenceIdeal.main_arg1))

def preserves_RecOutGrad_RecOutGradIdeal : Prop :=
  True

def algebraic_RecOutGradIdeal_RecOutGradReferenceIdeal [hRecOutGradIdeal : Cert.RecOutGradIdeal.Facts] [hRecOutGradReferenceIdeal : Cert.RecOutGradReferenceIdeal.Facts] : Prop :=
  ∀ (m : (ℓ : Loc Cert.RecOutGradIdeal.nD Cert.RecOutGradIdeal.τ Cert.RecOutGradIdeal.sig) → Buf (Elt Ideal) ℓ) (g : Dev Cert.RecOutGradIdeal.nD → PrngReg)
    (m' : (ℓ : Loc Cert.RecOutGradReferenceIdeal.nD Cert.RecOutGradReferenceIdeal.τ Cert.RecOutGradReferenceIdeal.sig) → Buf (Elt Ideal) ℓ) (g' : Dev Cert.RecOutGradReferenceIdeal.nD → PrngReg), Pre_RecOutGradIdeal m →
    (∀ c : Dev Cert.RecOutGradIdeal.nD,
      m' ((c.tc : Thread Cert.RecOutGradReferenceIdeal.nD Cert.RecOutGradReferenceIdeal.τ).loc Cert.RecOutGradReferenceIdeal.main_arg0) = m ((c.tc : Thread Cert.RecOutGradIdeal.nD Cert.RecOutGradIdeal.τ).loc Cert.RecOutGradIdeal.main_arg0)
      ∧ m' ((c.tc : Thread Cert.RecOutGradReferenceIdeal.nD Cert.RecOutGradReferenceIdeal.τ).loc Cert.RecOutGradReferenceIdeal.main_arg1) = m ((c.tc : Thread Cert.RecOutGradIdeal.nD Cert.RecOutGradIdeal.τ).loc Cert.RecOutGradIdeal.main_arg1)) →
    ∃ (v0 : (c : Dev Cert.RecOutGradIdeal.nD) → Buf (Elt Ideal) ((c.tc : Thread Cert.RecOutGradIdeal.nD Cert.RecOutGradIdeal.τ).loc Cert.RecOutGradIdeal.main_v1)),
      θ_run (Cert.RecOutGradIdeal.defs (F := Ideal)) (onTc (τ := Cert.RecOutGradIdeal.τ) (Cert.RecOutGradIdeal.main (F := Ideal))) ⟨m, fun _ => 0, g⟩ (fun r => ∀ c : Dev Cert.RecOutGradIdeal.nD,
          r.2.mem ((c.tc : Thread Cert.RecOutGradIdeal.nD Cert.RecOutGradIdeal.τ).loc Cert.RecOutGradIdeal.main_v1) = v0 c
          ∧ r.2.mem ((c.tc : Thread Cert.RecOutGradIdeal.nD Cert.RecOutGradIdeal.τ).loc Cert.RecOutGradIdeal.main_arg0) = m ((c.tc : Thread Cert.RecOutGradIdeal.nD Cert.RecOutGradIdeal.τ).loc Cert.RecOutGradIdeal.main_arg0)
          ∧ r.2.mem ((c.tc : Thread Cert.RecOutGradIdeal.nD Cert.RecOutGradIdeal.τ).loc Cert.RecOutGradIdeal.main_arg1) = m ((c.tc : Thread Cert.RecOutGradIdeal.nD Cert.RecOutGradIdeal.τ).loc Cert.RecOutGradIdeal.main_arg1))
      ∧ θ_run (Cert.RecOutGradReferenceIdeal.defs (F := Ideal)) (onTc (τ := Cert.RecOutGradReferenceIdeal.τ) (Cert.RecOutGradReferenceIdeal.main (F := Ideal))) ⟨m', fun _ => 0, g'⟩ (fun r => ∀ c : Dev Cert.RecOutGradReferenceIdeal.nD,
          r.2.mem ((c.tc : Thread Cert.RecOutGradReferenceIdeal.nD Cert.RecOutGradReferenceIdeal.τ).loc Cert.RecOutGradReferenceIdeal.main_v5) = v0 c
          ∧ r.2.mem ((c.tc : Thread Cert.RecOutGradReferenceIdeal.nD Cert.RecOutGradReferenceIdeal.τ).loc Cert.RecOutGradReferenceIdeal.main_arg0) = m' ((c.tc : Thread Cert.RecOutGradReferenceIdeal.nD Cert.RecOutGradReferenceIdeal.τ).loc Cert.RecOutGradReferenceIdeal.main_arg0)
          ∧ r.2.mem ((c.tc : Thread Cert.RecOutGradReferenceIdeal.nD Cert.RecOutGradReferenceIdeal.τ).loc Cert.RecOutGradReferenceIdeal.main_arg1) = m' ((c.tc : Thread Cert.RecOutGradReferenceIdeal.nD Cert.RecOutGradReferenceIdeal.τ).loc Cert.RecOutGradReferenceIdeal.main_arg1))

def preserves_AttnProjGrad_AttnProjGradIdeal : Prop :=
  True

def algebraic_AttnProjGradIdeal_AttnProjGradReferenceIdeal [hAttnProjGradIdeal : Cert.AttnProjGradIdeal.Facts] [hAttnProjGradReferenceIdeal : Cert.AttnProjGradReferenceIdeal.Facts] : Prop :=
  ∀ (m : (ℓ : Loc Cert.AttnProjGradIdeal.nD Cert.AttnProjGradIdeal.τ Cert.AttnProjGradIdeal.sig) → Buf (Elt Ideal) ℓ) (g : Dev Cert.AttnProjGradIdeal.nD → PrngReg)
    (m' : (ℓ : Loc Cert.AttnProjGradReferenceIdeal.nD Cert.AttnProjGradReferenceIdeal.τ Cert.AttnProjGradReferenceIdeal.sig) → Buf (Elt Ideal) ℓ) (g' : Dev Cert.AttnProjGradReferenceIdeal.nD → PrngReg), Pre_AttnProjGradIdeal m →
    (∀ c : Dev Cert.AttnProjGradIdeal.nD,
      m' ((c.tc : Thread Cert.AttnProjGradReferenceIdeal.nD Cert.AttnProjGradReferenceIdeal.τ).loc Cert.AttnProjGradReferenceIdeal.main_arg0) = m ((c.tc : Thread Cert.AttnProjGradIdeal.nD Cert.AttnProjGradIdeal.τ).loc Cert.AttnProjGradIdeal.main_arg0)
      ∧ m' ((c.tc : Thread Cert.AttnProjGradReferenceIdeal.nD Cert.AttnProjGradReferenceIdeal.τ).loc Cert.AttnProjGradReferenceIdeal.main_arg1) = m ((c.tc : Thread Cert.AttnProjGradIdeal.nD Cert.AttnProjGradIdeal.τ).loc Cert.AttnProjGradIdeal.main_arg1)) →
    ∃ (v0 : (c : Dev Cert.AttnProjGradIdeal.nD) → Buf (Elt Ideal) ((c.tc : Thread Cert.AttnProjGradIdeal.nD Cert.AttnProjGradIdeal.τ).loc Cert.AttnProjGradIdeal.main_v0)),
      θ_run (Cert.AttnProjGradIdeal.defs (F := Ideal)) (onTc (τ := Cert.AttnProjGradIdeal.τ) (Cert.AttnProjGradIdeal.main (F := Ideal))) ⟨m, fun _ => 0, g⟩ (fun r => ∀ c : Dev Cert.AttnProjGradIdeal.nD,
          r.2.mem ((c.tc : Thread Cert.AttnProjGradIdeal.nD Cert.AttnProjGradIdeal.τ).loc Cert.AttnProjGradIdeal.main_v0) = v0 c
          ∧ r.2.mem ((c.tc : Thread Cert.AttnProjGradIdeal.nD Cert.AttnProjGradIdeal.τ).loc Cert.AttnProjGradIdeal.main_arg0) = m ((c.tc : Thread Cert.AttnProjGradIdeal.nD Cert.AttnProjGradIdeal.τ).loc Cert.AttnProjGradIdeal.main_arg0)
          ∧ r.2.mem ((c.tc : Thread Cert.AttnProjGradIdeal.nD Cert.AttnProjGradIdeal.τ).loc Cert.AttnProjGradIdeal.main_arg1) = m ((c.tc : Thread Cert.AttnProjGradIdeal.nD Cert.AttnProjGradIdeal.τ).loc Cert.AttnProjGradIdeal.main_arg1))
      ∧ θ_run (Cert.AttnProjGradReferenceIdeal.defs (F := Ideal)) (onTc (τ := Cert.AttnProjGradReferenceIdeal.τ) (Cert.AttnProjGradReferenceIdeal.main (F := Ideal))) ⟨m', fun _ => 0, g'⟩ (fun r => ∀ c : Dev Cert.AttnProjGradReferenceIdeal.nD,
          r.2.mem ((c.tc : Thread Cert.AttnProjGradReferenceIdeal.nD Cert.AttnProjGradReferenceIdeal.τ).loc Cert.AttnProjGradReferenceIdeal.main_v5) = v0 c
          ∧ r.2.mem ((c.tc : Thread Cert.AttnProjGradReferenceIdeal.nD Cert.AttnProjGradReferenceIdeal.τ).loc Cert.AttnProjGradReferenceIdeal.main_arg0) = m' ((c.tc : Thread Cert.AttnProjGradReferenceIdeal.nD Cert.AttnProjGradReferenceIdeal.τ).loc Cert.AttnProjGradReferenceIdeal.main_arg0)
          ∧ r.2.mem ((c.tc : Thread Cert.AttnProjGradReferenceIdeal.nD Cert.AttnProjGradReferenceIdeal.τ).loc Cert.AttnProjGradReferenceIdeal.main_arg1) = m' ((c.tc : Thread Cert.AttnProjGradReferenceIdeal.nD Cert.AttnProjGradReferenceIdeal.τ).loc Cert.AttnProjGradReferenceIdeal.main_arg1))

def preserves_RecProjGrad_RecProjGradIdeal : Prop :=
  True

def algebraic_RecProjGradIdeal_RecProjGradReferenceIdeal [hRecProjGradIdeal : Cert.RecProjGradIdeal.Facts] [hRecProjGradReferenceIdeal : Cert.RecProjGradReferenceIdeal.Facts] : Prop :=
  ∀ (m : (ℓ : Loc Cert.RecProjGradIdeal.nD Cert.RecProjGradIdeal.τ Cert.RecProjGradIdeal.sig) → Buf (Elt Ideal) ℓ) (g : Dev Cert.RecProjGradIdeal.nD → PrngReg)
    (m' : (ℓ : Loc Cert.RecProjGradReferenceIdeal.nD Cert.RecProjGradReferenceIdeal.τ Cert.RecProjGradReferenceIdeal.sig) → Buf (Elt Ideal) ℓ) (g' : Dev Cert.RecProjGradReferenceIdeal.nD → PrngReg), Pre_RecProjGradIdeal m →
    (∀ c : Dev Cert.RecProjGradIdeal.nD,
      m' ((c.tc : Thread Cert.RecProjGradReferenceIdeal.nD Cert.RecProjGradReferenceIdeal.τ).loc Cert.RecProjGradReferenceIdeal.main_arg0) = m ((c.tc : Thread Cert.RecProjGradIdeal.nD Cert.RecProjGradIdeal.τ).loc Cert.RecProjGradIdeal.main_arg0)
      ∧ m' ((c.tc : Thread Cert.RecProjGradReferenceIdeal.nD Cert.RecProjGradReferenceIdeal.τ).loc Cert.RecProjGradReferenceIdeal.main_arg1) = m ((c.tc : Thread Cert.RecProjGradIdeal.nD Cert.RecProjGradIdeal.τ).loc Cert.RecProjGradIdeal.main_arg1)) →
    ∃ (v0 : (c : Dev Cert.RecProjGradIdeal.nD) → Buf (Elt Ideal) ((c.tc : Thread Cert.RecProjGradIdeal.nD Cert.RecProjGradIdeal.τ).loc Cert.RecProjGradIdeal.main_v0)),
      θ_run (Cert.RecProjGradIdeal.defs (F := Ideal)) (onTc (τ := Cert.RecProjGradIdeal.τ) (Cert.RecProjGradIdeal.main (F := Ideal))) ⟨m, fun _ => 0, g⟩ (fun r => ∀ c : Dev Cert.RecProjGradIdeal.nD,
          r.2.mem ((c.tc : Thread Cert.RecProjGradIdeal.nD Cert.RecProjGradIdeal.τ).loc Cert.RecProjGradIdeal.main_v0) = v0 c
          ∧ r.2.mem ((c.tc : Thread Cert.RecProjGradIdeal.nD Cert.RecProjGradIdeal.τ).loc Cert.RecProjGradIdeal.main_arg0) = m ((c.tc : Thread Cert.RecProjGradIdeal.nD Cert.RecProjGradIdeal.τ).loc Cert.RecProjGradIdeal.main_arg0)
          ∧ r.2.mem ((c.tc : Thread Cert.RecProjGradIdeal.nD Cert.RecProjGradIdeal.τ).loc Cert.RecProjGradIdeal.main_arg1) = m ((c.tc : Thread Cert.RecProjGradIdeal.nD Cert.RecProjGradIdeal.τ).loc Cert.RecProjGradIdeal.main_arg1))
      ∧ θ_run (Cert.RecProjGradReferenceIdeal.defs (F := Ideal)) (onTc (τ := Cert.RecProjGradReferenceIdeal.τ) (Cert.RecProjGradReferenceIdeal.main (F := Ideal))) ⟨m', fun _ => 0, g'⟩ (fun r => ∀ c : Dev Cert.RecProjGradReferenceIdeal.nD,
          r.2.mem ((c.tc : Thread Cert.RecProjGradReferenceIdeal.nD Cert.RecProjGradReferenceIdeal.τ).loc Cert.RecProjGradReferenceIdeal.main_v6) = v0 c
          ∧ r.2.mem ((c.tc : Thread Cert.RecProjGradReferenceIdeal.nD Cert.RecProjGradReferenceIdeal.τ).loc Cert.RecProjGradReferenceIdeal.main_arg0) = m' ((c.tc : Thread Cert.RecProjGradReferenceIdeal.nD Cert.RecProjGradReferenceIdeal.τ).loc Cert.RecProjGradReferenceIdeal.main_arg0)
          ∧ r.2.mem ((c.tc : Thread Cert.RecProjGradReferenceIdeal.nD Cert.RecProjGradReferenceIdeal.τ).loc Cert.RecProjGradReferenceIdeal.main_arg1) = m' ((c.tc : Thread Cert.RecProjGradReferenceIdeal.nD Cert.RecProjGradReferenceIdeal.τ).loc Cert.RecProjGradReferenceIdeal.main_arg1))

def preserves_NormGrad_NormGradIdeal : Prop :=
  True

def algebraic_NormGradIdeal_NormGradReferenceIdeal [hNormGradIdeal : Cert.NormGradIdeal.Facts] [hNormGradReferenceIdeal : Cert.NormGradReferenceIdeal.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradReferenceIdeal.nD Cert.NormGradReferenceIdeal.τ Cert.NormGradReferenceIdeal.sig) → Buf (Elt Ideal) ℓ) (g' : Dev Cert.NormGradReferenceIdeal.nD → PrngReg), Pre_NormGradIdeal m →
    (∀ c : Dev Cert.NormGradIdeal.nD,
      m' ((c.tc : Thread Cert.NormGradReferenceIdeal.nD Cert.NormGradReferenceIdeal.τ).loc Cert.NormGradReferenceIdeal.main_arg0) = m ((c.tc : Thread Cert.NormGradIdeal.nD Cert.NormGradIdeal.τ).loc Cert.NormGradIdeal.main_arg0)
      ∧ m' ((c.tc : Thread Cert.NormGradReferenceIdeal.nD Cert.NormGradReferenceIdeal.τ).loc Cert.NormGradReferenceIdeal.main_arg1) = m ((c.tc : Thread Cert.NormGradIdeal.nD Cert.NormGradIdeal.τ).loc Cert.NormGradIdeal.main_arg1)
      ∧ m' ((c.tc : Thread Cert.NormGradReferenceIdeal.nD Cert.NormGradReferenceIdeal.τ).loc Cert.NormGradReferenceIdeal.main_arg2) = m ((c.tc : Thread Cert.NormGradIdeal.nD Cert.NormGradIdeal.τ).loc Cert.NormGradIdeal.main_arg2)
      ∧ m' ((c.tc : Thread Cert.NormGradReferenceIdeal.nD Cert.NormGradReferenceIdeal.τ).loc Cert.NormGradReferenceIdeal.main_arg3) = m ((c.tc : Thread Cert.NormGradIdeal.nD Cert.NormGradIdeal.τ).loc Cert.NormGradIdeal.main_arg3)) →
    ∃ (v0 : (c : Dev Cert.NormGradIdeal.nD) → Buf (Elt Ideal) ((c.tc : Thread Cert.NormGradIdeal.nD Cert.NormGradIdeal.τ).loc Cert.NormGradIdeal.main_v0_0)) (v1 : (c : Dev Cert.NormGradIdeal.nD) → Buf (Elt Ideal) ((c.tc : Thread Cert.NormGradIdeal.nD Cert.NormGradIdeal.τ).loc Cert.NormGradIdeal.main_v0_1)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v0_0) = v0 c
          ∧ r.2.mem ((c.tc : Thread Cert.NormGradIdeal.nD Cert.NormGradIdeal.τ).loc Cert.NormGradIdeal.main_v0_1) = v1 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3))
      ∧ θ_run (Cert.NormGradReferenceIdeal.defs (F := Ideal)) (onTc (τ := Cert.NormGradReferenceIdeal.τ) (Cert.NormGradReferenceIdeal.main (F := Ideal))) ⟨m', fun _ => 0, g'⟩ (fun r => ∀ c : Dev Cert.NormGradReferenceIdeal.nD,
          r.2.mem ((c.tc : Thread Cert.NormGradReferenceIdeal.nD Cert.NormGradReferenceIdeal.τ).loc Cert.NormGradReferenceIdeal.main_v38) = v0 c
          ∧ r.2.mem ((c.tc : Thread Cert.NormGradReferenceIdeal.nD Cert.NormGradReferenceIdeal.τ).loc Cert.NormGradReferenceIdeal.main_v23) = v1 c
          ∧ r.2.mem ((c.tc : Thread Cert.NormGradReferenceIdeal.nD Cert.NormGradReferenceIdeal.τ).loc Cert.NormGradReferenceIdeal.main_arg0) = m' ((c.tc : Thread Cert.NormGradReferenceIdeal.nD Cert.NormGradReferenceIdeal.τ).loc Cert.NormGradReferenceIdeal.main_arg0)
          ∧ r.2.mem ((c.tc : Thread Cert.NormGradReferenceIdeal.nD Cert.NormGradReferenceIdeal.τ).loc Cert.NormGradReferenceIdeal.main_arg1) = m' ((c.tc : Thread Cert.NormGradReferenceIdeal.nD Cert.NormGradReferenceIdeal.τ).loc Cert.NormGradReferenceIdeal.main_arg1)
          ∧ r.2.mem ((c.tc : Thread Cert.NormGradReferenceIdeal.nD Cert.NormGradReferenceIdeal.τ).loc Cert.NormGradReferenceIdeal.main_arg2) = m' ((c.tc : Thread Cert.NormGradReferenceIdeal.nD Cert.NormGradReferenceIdeal.τ).loc Cert.NormGradReferenceIdeal.main_arg2)
          ∧ r.2.mem ((c.tc : Thread Cert.NormGradReferenceIdeal.nD Cert.NormGradReferenceIdeal.τ).loc Cert.NormGradReferenceIdeal.main_arg3) = m' ((c.tc : Thread Cert.NormGradReferenceIdeal.nD Cert.NormGradReferenceIdeal.τ).loc Cert.NormGradReferenceIdeal.main_arg3))

def preserves_FirstNorm_FirstNormIdeal : Prop :=
  True

def algebraic_FirstNormIdeal_FirstNormReferenceIdeal [hFirstNormIdeal : Cert.FirstNormIdeal.Facts] [hFirstNormReferenceIdeal : Cert.FirstNormReferenceIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormReferenceIdeal.nD Cert.FirstNormReferenceIdeal.τ Cert.FirstNormReferenceIdeal.sig) → Buf (Elt Ideal) ℓ) (g' : Dev Cert.FirstNormReferenceIdeal.nD → PrngReg), Pre_FirstNormIdeal m →
    (∀ c : Dev Cert.FirstNormIdeal.nD,
      m' ((c.tc : Thread Cert.FirstNormReferenceIdeal.nD Cert.FirstNormReferenceIdeal.τ).loc Cert.FirstNormReferenceIdeal.main_arg0) = m ((c.tc : Thread Cert.FirstNormIdeal.nD Cert.FirstNormIdeal.τ).loc Cert.FirstNormIdeal.main_arg0)
      ∧ m' ((c.tc : Thread Cert.FirstNormReferenceIdeal.nD Cert.FirstNormReferenceIdeal.τ).loc Cert.FirstNormReferenceIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v0)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v0) = v0 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormReferenceIdeal.defs (F := Ideal)) (onTc (τ := Cert.FirstNormReferenceIdeal.τ) (Cert.FirstNormReferenceIdeal.main (F := Ideal))) ⟨m', fun _ => 0, g'⟩ (fun r => ∀ c : Dev Cert.FirstNormReferenceIdeal.nD,
          r.2.mem ((c.tc : Thread Cert.FirstNormReferenceIdeal.nD Cert.FirstNormReferenceIdeal.τ).loc Cert.FirstNormReferenceIdeal.main_v14) = v0 c
          ∧ r.2.mem ((c.tc : Thread Cert.FirstNormReferenceIdeal.nD Cert.FirstNormReferenceIdeal.τ).loc Cert.FirstNormReferenceIdeal.main_arg0) = m' ((c.tc : Thread Cert.FirstNormReferenceIdeal.nD Cert.FirstNormReferenceIdeal.τ).loc Cert.FirstNormReferenceIdeal.main_arg0)
          ∧ r.2.mem ((c.tc : Thread Cert.FirstNormReferenceIdeal.nD Cert.FirstNormReferenceIdeal.τ).loc Cert.FirstNormReferenceIdeal.main_arg1) = m' ((c.tc : Thread Cert.FirstNormReferenceIdeal.nD Cert.FirstNormReferenceIdeal.τ).loc Cert.FirstNormReferenceIdeal.main_arg1))

def Claim : Prop :=
  ∃ (hKernel : Cert.Kernel.Facts) (hKernelIdeal : Cert.KernelIdeal.Facts) (hReferenceIdeal : Cert.ReferenceIdeal.Facts) (hActGrad : Cert.ActGrad.Facts) (hActGradIdeal : Cert.ActGradIdeal.Facts) (hActGradReferenceIdeal : Cert.ActGradReferenceIdeal.Facts) (hInputGrad : Cert.InputGrad.Facts) (hInputGradIdeal : Cert.InputGradIdeal.Facts) (hInputGradReferenceIdeal : Cert.InputGradReferenceIdeal.Facts) (hUpGrad : Cert.UpGrad.Facts) (hUpGradIdeal : Cert.UpGradIdeal.Facts) (hUpGradReferenceIdeal : Cert.UpGradReferenceIdeal.Facts) (hDownGrad : Cert.DownGrad.Facts) (hDownGradIdeal : Cert.DownGradIdeal.Facts) (hDownGradReferenceIdeal : Cert.DownGradReferenceIdeal.Facts) (hMergeGrad : Cert.MergeGrad.Facts) (hMergeGradIdeal : Cert.MergeGradIdeal.Facts) (hMergeGradReferenceIdeal : Cert.MergeGradReferenceIdeal.Facts) (hMixInputGrad : Cert.MixInputGrad.Facts) (hMixInputGradIdeal : Cert.MixInputGradIdeal.Facts) (hMixInputGradReferenceIdeal : Cert.MixInputGradReferenceIdeal.Facts) (hInWeightGrad : Cert.InWeightGrad.Facts) (hInWeightGradIdeal : Cert.InWeightGradIdeal.Facts) (hInWeightGradReferenceIdeal : Cert.InWeightGradReferenceIdeal.Facts) (hGatedHalves : Cert.GatedHalves.Facts) (hGatedHalvesIdeal : Cert.GatedHalvesIdeal.Facts) (hGatedHalvesReferenceIdeal : Cert.GatedHalvesReferenceIdeal.Facts) (hHalfLayer : Cert.HalfLayer.Facts) (hHalfLayerIdeal : Cert.HalfLayerIdeal.Facts) (hHalfLayerReferenceIdeal : Cert.HalfLayerReferenceIdeal.Facts) (hAttnForward : Cert.AttnForward.Facts) (hAttnForwardIdeal : Cert.AttnForwardIdeal.Facts) (hAttnForwardReferenceIdeal : Cert.AttnForwardReferenceIdeal.Facts) (hMixColumns : Cert.MixColumns.Facts) (hMixColumnsIdeal : Cert.MixColumnsIdeal.Facts) (hMixColumnsReferenceIdeal : Cert.MixColumnsReferenceIdeal.Facts) (hGateColumns : Cert.GateColumns.Facts) (hGateColumnsIdeal : Cert.GateColumnsIdeal.Facts) (hGateColumnsReferenceIdeal : Cert.GateColumnsReferenceIdeal.Facts) (hMerge : Cert.Merge.Facts) (hMergeIdeal : Cert.MergeIdeal.Facts) (hMergeReferenceIdeal : Cert.MergeReferenceIdeal.Facts) (hMixOut : Cert.MixOut.Facts) (hMixOutIdeal : Cert.MixOutIdeal.Facts) (hMixOutReferenceIdeal : Cert.MixOutReferenceIdeal.Facts) (hOutWeightGrad : Cert.OutWeightGrad.Facts) (hOutWeightGradIdeal : Cert.OutWeightGradIdeal.Facts) (hOutWeightGradReferenceIdeal : Cert.OutWeightGradReferenceIdeal.Facts) (hAttnOutGrad : Cert.AttnOutGrad.Facts) (hAttnOutGradIdeal : Cert.AttnOutGradIdeal.Facts) (hAttnOutGradReferenceIdeal : Cert.AttnOutGradReferenceIdeal.Facts) (hRecOutGrad : Cert.RecOutGrad.Facts) (hRecOutGradIdeal : Cert.RecOutGradIdeal.Facts) (hRecOutGradReferenceIdeal : Cert.RecOutGradReferenceIdeal.Facts) (hAttnProjGrad : Cert.AttnProjGrad.Facts) (hAttnProjGradIdeal : Cert.AttnProjGradIdeal.Facts) (hAttnProjGradReferenceIdeal : Cert.AttnProjGradReferenceIdeal.Facts) (hRecProjGrad : Cert.RecProjGrad.Facts) (hRecProjGradIdeal : Cert.RecProjGradIdeal.Facts) (hRecProjGradReferenceIdeal : Cert.RecProjGradReferenceIdeal.Facts) (hNormGrad : Cert.NormGrad.Facts) (hNormGradIdeal : Cert.NormGradIdeal.Facts) (hNormGradReferenceIdeal : Cert.NormGradReferenceIdeal.Facts) (hFirstNorm : Cert.FirstNorm.Facts) (hFirstNormIdeal : Cert.FirstNormIdeal.Facts) (hFirstNormReferenceIdeal : Cert.FirstNormReferenceIdeal.Facts) (hPre_finite : Cert.Pre_finite.Facts) (hPre_finite_acts : Cert.Pre_finite_acts.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_ActGrad (hActGrad := hActGrad)
    ∧ quiescent_ActGradIdeal (hActGradIdeal := hActGradIdeal)
    ∧ quiescent_ActGradIdeal_pre_finite_acts (hActGradIdeal := hActGradIdeal) (hPre_finite_acts := hPre_finite_acts)
    ∧ quiescent_ActGradReferenceIdeal (hActGradReferenceIdeal := hActGradReferenceIdeal)
    ∧ quiescent_ActGradReferenceIdeal_pre_finite_acts (hActGradReferenceIdeal := hActGradReferenceIdeal) (hPre_finite_acts := hPre_finite_acts)
    ∧ quiescent_InputGrad (hInputGrad := hInputGrad)
    ∧ quiescent_InputGradIdeal (hInputGradIdeal := hInputGradIdeal)
    ∧ quiescent_InputGradReferenceIdeal (hInputGradReferenceIdeal := hInputGradReferenceIdeal)
    ∧ quiescent_UpGrad (hUpGrad := hUpGrad)
    ∧ quiescent_UpGradIdeal (hUpGradIdeal := hUpGradIdeal)
    ∧ quiescent_UpGradReferenceIdeal (hUpGradReferenceIdeal := hUpGradReferenceIdeal)
    ∧ quiescent_DownGrad (hDownGrad := hDownGrad)
    ∧ quiescent_DownGradIdeal (hDownGradIdeal := hDownGradIdeal)
    ∧ quiescent_DownGradReferenceIdeal (hDownGradReferenceIdeal := hDownGradReferenceIdeal)
    ∧ quiescent_MergeGrad (hMergeGrad := hMergeGrad)
    ∧ quiescent_MergeGradIdeal (hMergeGradIdeal := hMergeGradIdeal)
    ∧ quiescent_MergeGradReferenceIdeal (hMergeGradReferenceIdeal := hMergeGradReferenceIdeal)
    ∧ quiescent_MixInputGrad (hMixInputGrad := hMixInputGrad)
    ∧ quiescent_MixInputGradIdeal (hMixInputGradIdeal := hMixInputGradIdeal)
    ∧ quiescent_MixInputGradReferenceIdeal (hMixInputGradReferenceIdeal := hMixInputGradReferenceIdeal)
    ∧ quiescent_InWeightGrad (hInWeightGrad := hInWeightGrad)
    ∧ quiescent_InWeightGradIdeal (hInWeightGradIdeal := hInWeightGradIdeal)
    ∧ quiescent_InWeightGradReferenceIdeal (hInWeightGradReferenceIdeal := hInWeightGradReferenceIdeal)
    ∧ quiescent_GatedHalves (hGatedHalves := hGatedHalves)
    ∧ quiescent_GatedHalvesIdeal (hGatedHalvesIdeal := hGatedHalvesIdeal)
    ∧ quiescent_GatedHalvesReferenceIdeal (hGatedHalvesReferenceIdeal := hGatedHalvesReferenceIdeal)
    ∧ quiescent_HalfLayer (hHalfLayer := hHalfLayer)
    ∧ quiescent_HalfLayerIdeal (hHalfLayerIdeal := hHalfLayerIdeal)
    ∧ quiescent_HalfLayerReferenceIdeal (hHalfLayerReferenceIdeal := hHalfLayerReferenceIdeal)
    ∧ quiescent_AttnForward (hAttnForward := hAttnForward)
    ∧ quiescent_AttnForwardIdeal (hAttnForwardIdeal := hAttnForwardIdeal)
    ∧ quiescent_AttnForwardIdeal_pre_finite_rows (hAttnForwardIdeal := hAttnForwardIdeal) (hPre_finite_rows := hPre_finite_rows)
    ∧ quiescent_AttnForwardReferenceIdeal (hAttnForwardReferenceIdeal := hAttnForwardReferenceIdeal)
    ∧ quiescent_AttnForwardReferenceIdeal_pre_finite_rows (hAttnForwardReferenceIdeal := hAttnForwardReferenceIdeal) (hPre_finite_rows := hPre_finite_rows)
    ∧ quiescent_MixColumns (hMixColumns := hMixColumns)
    ∧ quiescent_MixColumnsIdeal (hMixColumnsIdeal := hMixColumnsIdeal)
    ∧ quiescent_MixColumnsReferenceIdeal (hMixColumnsReferenceIdeal := hMixColumnsReferenceIdeal)
    ∧ quiescent_GateColumns (hGateColumns := hGateColumns)
    ∧ quiescent_GateColumnsIdeal (hGateColumnsIdeal := hGateColumnsIdeal)
    ∧ quiescent_GateColumnsReferenceIdeal (hGateColumnsReferenceIdeal := hGateColumnsReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_OutWeightGrad (hOutWeightGrad := hOutWeightGrad)
    ∧ quiescent_OutWeightGradIdeal (hOutWeightGradIdeal := hOutWeightGradIdeal)
    ∧ quiescent_OutWeightGradReferenceIdeal (hOutWeightGradReferenceIdeal := hOutWeightGradReferenceIdeal)
    ∧ quiescent_AttnOutGrad (hAttnOutGrad := hAttnOutGrad)
    ∧ quiescent_AttnOutGradIdeal (hAttnOutGradIdeal := hAttnOutGradIdeal)
    ∧ quiescent_AttnOutGradReferenceIdeal (hAttnOutGradReferenceIdeal := hAttnOutGradReferenceIdeal)
    ∧ quiescent_RecOutGrad (hRecOutGrad := hRecOutGrad)
    ∧ quiescent_RecOutGradIdeal (hRecOutGradIdeal := hRecOutGradIdeal)
    ∧ quiescent_RecOutGradReferenceIdeal (hRecOutGradReferenceIdeal := hRecOutGradReferenceIdeal)
    ∧ quiescent_AttnProjGrad (hAttnProjGrad := hAttnProjGrad)
    ∧ quiescent_AttnProjGradIdeal (hAttnProjGradIdeal := hAttnProjGradIdeal)
    ∧ quiescent_AttnProjGradReferenceIdeal (hAttnProjGradReferenceIdeal := hAttnProjGradReferenceIdeal)
    ∧ quiescent_RecProjGrad (hRecProjGrad := hRecProjGrad)
    ∧ quiescent_RecProjGradIdeal (hRecProjGradIdeal := hRecProjGradIdeal)
    ∧ quiescent_RecProjGradReferenceIdeal (hRecProjGradReferenceIdeal := hRecProjGradReferenceIdeal)
    ∧ quiescent_NormGrad (hNormGrad := hNormGrad)
    ∧ quiescent_NormGradIdeal (hNormGradIdeal := hNormGradIdeal)
    ∧ quiescent_NormGradReferenceIdeal (hNormGradReferenceIdeal := hNormGradReferenceIdeal)
    ∧ quiescent_FirstNorm (hFirstNorm := hFirstNorm)
    ∧ quiescent_FirstNormIdeal (hFirstNormIdeal := hFirstNormIdeal)
    ∧ quiescent_FirstNormReferenceIdeal (hFirstNormReferenceIdeal := hFirstNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_ActGrad_ActGradIdeal
    ∧ algebraic_ActGradIdeal_ActGradReferenceIdeal_pre_finite_acts (hActGradIdeal := hActGradIdeal) (hActGradReferenceIdeal := hActGradReferenceIdeal) (hPre_finite_acts := hPre_finite_acts)
    ∧ preserves_InputGrad_InputGradIdeal
    ∧ algebraic_InputGradIdeal_InputGradReferenceIdeal (hInputGradIdeal := hInputGradIdeal) (hInputGradReferenceIdeal := hInputGradReferenceIdeal)
    ∧ preserves_UpGrad_UpGradIdeal
    ∧ algebraic_UpGradIdeal_UpGradReferenceIdeal (hUpGradIdeal := hUpGradIdeal) (hUpGradReferenceIdeal := hUpGradReferenceIdeal)
    ∧ preserves_DownGrad_DownGradIdeal
    ∧ algebraic_DownGradIdeal_DownGradReferenceIdeal (hDownGradIdeal := hDownGradIdeal) (hDownGradReferenceIdeal := hDownGradReferenceIdeal)
    ∧ preserves_MergeGrad_MergeGradIdeal
    ∧ algebraic_MergeGradIdeal_MergeGradReferenceIdeal (hMergeGradIdeal := hMergeGradIdeal) (hMergeGradReferenceIdeal := hMergeGradReferenceIdeal)
    ∧ preserves_MixInputGrad_MixInputGradIdeal
    ∧ algebraic_MixInputGradIdeal_MixInputGradReferenceIdeal (hMixInputGradIdeal := hMixInputGradIdeal) (hMixInputGradReferenceIdeal := hMixInputGradReferenceIdeal)
    ∧ preserves_InWeightGrad_InWeightGradIdeal
    ∧ algebraic_InWeightGradIdeal_InWeightGradReferenceIdeal (hInWeightGradIdeal := hInWeightGradIdeal) (hInWeightGradReferenceIdeal := hInWeightGradReferenceIdeal)
    ∧ preserves_GatedHalves_GatedHalvesIdeal
    ∧ algebraic_GatedHalvesIdeal_GatedHalvesReferenceIdeal (hGatedHalvesIdeal := hGatedHalvesIdeal) (hGatedHalvesReferenceIdeal := hGatedHalvesReferenceIdeal)
    ∧ preserves_HalfLayer_HalfLayerIdeal
    ∧ algebraic_HalfLayerIdeal_HalfLayerReferenceIdeal (hHalfLayerIdeal := hHalfLayerIdeal) (hHalfLayerReferenceIdeal := hHalfLayerReferenceIdeal)
    ∧ preserves_AttnForward_AttnForwardIdeal
    ∧ algebraic_AttnForwardIdeal_AttnForwardReferenceIdeal_pre_finite_rows (hAttnForwardIdeal := hAttnForwardIdeal) (hAttnForwardReferenceIdeal := hAttnForwardReferenceIdeal) (hPre_finite_rows := hPre_finite_rows)
    ∧ preserves_MixColumns_MixColumnsIdeal
    ∧ algebraic_MixColumnsIdeal_MixColumnsReferenceIdeal (hMixColumnsIdeal := hMixColumnsIdeal) (hMixColumnsReferenceIdeal := hMixColumnsReferenceIdeal)
    ∧ preserves_GateColumns_GateColumnsIdeal
    ∧ algebraic_GateColumnsIdeal_GateColumnsReferenceIdeal (hGateColumnsIdeal := hGateColumnsIdeal) (hGateColumnsReferenceIdeal := hGateColumnsReferenceIdeal)
    ∧ preserves_Merge_MergeIdeal
    ∧ algebraic_MergeIdeal_MergeReferenceIdeal (hMergeIdeal := hMergeIdeal) (hMergeReferenceIdeal := hMergeReferenceIdeal)
    ∧ preserves_MixOut_MixOutIdeal
    ∧ algebraic_MixOutIdeal_MixOutReferenceIdeal (hMixOutIdeal := hMixOutIdeal) (hMixOutReferenceIdeal := hMixOutReferenceIdeal)
    ∧ preserves_OutWeightGrad_OutWeightGradIdeal
    ∧ algebraic_OutWeightGradIdeal_OutWeightGradReferenceIdeal (hOutWeightGradIdeal := hOutWeightGradIdeal) (hOutWeightGradReferenceIdeal := hOutWeightGradReferenceIdeal)
    ∧ preserves_AttnOutGrad_AttnOutGradIdeal
    ∧ algebraic_AttnOutGradIdeal_AttnOutGradReferenceIdeal (hAttnOutGradIdeal := hAttnOutGradIdeal) (hAttnOutGradReferenceIdeal := hAttnOutGradReferenceIdeal)
    ∧ preserves_RecOutGrad_RecOutGradIdeal
    ∧ algebraic_RecOutGradIdeal_RecOutGradReferenceIdeal (hRecOutGradIdeal := hRecOutGradIdeal) (hRecOutGradReferenceIdeal := hRecOutGradReferenceIdeal)
    ∧ preserves_AttnProjGrad_AttnProjGradIdeal
    ∧ algebraic_AttnProjGradIdeal_AttnProjGradReferenceIdeal (hAttnProjGradIdeal := hAttnProjGradIdeal) (hAttnProjGradReferenceIdeal := hAttnProjGradReferenceIdeal)
    ∧ preserves_RecProjGrad_RecProjGradIdeal
    ∧ algebraic_RecProjGradIdeal_RecProjGradReferenceIdeal (hRecProjGradIdeal := hRecProjGradIdeal) (hRecProjGradReferenceIdeal := hRecProjGradReferenceIdeal)
    ∧ preserves_NormGrad_NormGradIdeal
    ∧ algebraic_NormGradIdeal_NormGradReferenceIdeal (hNormGradIdeal := hNormGradIdeal) (hNormGradReferenceIdeal := hNormGradReferenceIdeal)
    ∧ preserves_FirstNorm_FirstNormIdeal
    ∧ algebraic_FirstNormIdeal_FirstNormReferenceIdeal (hFirstNormIdeal := hFirstNormIdeal) (hFirstNormReferenceIdeal := hFirstNormReferenceIdeal)
-- ==== Pre_finite.lean ====
abbrev S8448x1024 : Shape := ⟨2, ![8448, 1024]⟩
abbrev S8448x2048 : Shape := ⟨2, ![8448, 2048]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x2048 : S_.BroadcastsInDim S8448x2048 (![] : Fin 0 → Fin S8448x2048.rank)
  reducesTo_S8448x2048_S_d0_1 : S8448x2048.ReducesTo [0, 1] S_

variable [Facts]

def fn {F : FTy → Type} [FloatOps F] (main_arg0 : FVec F S8448x1024 .bf16) (main_arg1 : FVec F S8448x2048 .bf16) (main_arg2 : FVec F S8448x1024 .bf16) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S8448x2048 .f32 := (extf .f32 · bitsLt_bf16_f32) main_arg1
  let main_v6 : FVec F S8448x2048 .f32 := Host.absf main_v5
  let main_cst_0 : FVec F S_ .f32 := constant S_ .f32 0x7F800000#32
  let main_v7 : FVec F S8448x2048 .f32 := broadcastInDim S8448x2048 ![] bcast_S_S8448x2048 main_cst_0
  let main_v8 : IVec S8448x2048 1 := cmpf .olt main_v6 main_v7
  let main_c_1 : IVec S_ 1 := constantI S_ 1 1#1
  let main_v9 : IVec S_ 1 := (fun x v => Host.reduce IntOp.andi x v reducesTo_S8448x2048_S_d0_1 h_S_) main_v8 main_c_1
  let main_v10 : IVec S_ 1 := andi main_v4 main_v9
  let main_v11 : FVec F S8448x1024 .f32 := (extf .f32 · bitsLt_bf16_f32) main_arg2
  let main_v12 : FVec F S8448x1024 .f32 := Host.absf main_v11
  let main_cst_2 : FVec F S_ .f32 := constant S_ .f32 0x7F800000#32
  let main_v13 : FVec F S8448x1024 .f32 := broadcastInDim S8448x1024 ![] bcast_S_S8448x1024 main_cst_2
  let main_v14 : IVec S8448x1024 1 := cmpf .olt main_v12 main_v13
  let main_c_3 : IVec S_ 1 := constantI S_ 1 1#1
  let main_v15 : IVec S_ 1 := (fun x v => Host.reduce IntOp.andi x v reducesTo_S8448x1024_S_d0_1 h_S_) main_v14 main_c_3
  let main_v16 : IVec S_ 1 := andi main_v10 main_v15
  main_v16
-- ==== Pre_finite_acts.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8448x2816 : S_.BroadcastsInDim S8448x2816 (![] : Fin 0 → Fin S8448x2816.rank)
  reducesTo_S8448x2816_S_d0_1 : S8448x2816.ReducesTo [0, 1] S_

variable [Facts]

def fn {F : FTy → Type} [FloatOps F] (main_arg0 : FVec F S8448x1024 .f32) (main_arg1 : FVec F S2816x1024 .bf16) (main_arg2 : FVec F S8448x2816 .bf16) (main_arg3 : FVec F S8448x2816 .bf16) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8448x2816 .f32 := (extf .f32 · bitsLt_bf16_f32) main_arg3
  let main_v11 : FVec F S8448x2816 .f32 := Host.absf main_v10
  let main_cst_2 : FVec F S_ .f32 := constant S_ .f32 0x7F800000#32
  let main_v12 : FVec F S8448x2816 .f32 := broadcastInDim S8448x2816 ![] bcast_S_S8448x2816 main_cst_2
  let main_v13 : IVec S8448x2816 1 := cmpf .olt main_v11 main_v12
  let main_c_3 : IVec S_ 1 := constantI S_ 1 1#1
  let main_v14 : IVec S_ 1 := (fun x v => Host.reduce IntOp.andi x v reducesTo_S8448x2816_S_d0_1 h_S_) main_v13 main_c_3
  let main_v15 : IVec S_ 1 := andi main_v9 main_v14
  main_v15
-- ==== Pre_finite_rows.lean ====
abbrev S8448x1024 : Shape := ⟨2, ![8448, 1024]⟩
abbrev S8448x2048 : Shape := ⟨2, ![8448, 2048]⟩
abbrev S_ : Shape := ⟨0, ![]⟩
abbrev S67584x256 : Shape := ⟨2, ![67584, 256]⟩
abbrev S67584x128 : Shape := ⟨2, ![67584, 128]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  shapeCasts_S8448x2048_S67584x256 : S8448x2048.ShapeCasts S67584x256
  slices_S67584x256_S67584x128_0_0 : S67584x256.Slices ![0, 0] S67584x128
  bcast_S_S67584x128 : S_.BroadcastsInDim S67584x128 (![] : Fin 0 → Fin S67584x128.rank)
  reducesTo_S67584x128_S_d0_1 : S67584x128.ReducesTo [0, 1] S_

variable [Facts]

def fn {F : FTy → Type} [FloatOps F] (main_arg0 : FVec F S8448x1024 .bf16) (main_arg1 : FVec F S8448x2048 .bf16) : IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S67584x256 .bf16 := shapeCast S67584x256 main_arg1 shapeCasts_S8448x2048_S67584x256
  let main_v6 : FVec F S67584x128 .bf16 := (extractStridedSlice S67584x128 ![0, 0] · slices_S67584x256_S67584x128_0_0) main_v5
  let main_v7 : FVec F S67584x128 .f32 := (extf .f32 · bitsLt_bf16_f32) main_v6
  let main_v8 : FVec F S67584x128 .f32 := Host.absf main_v7
  let main_cst_0 : FVec F S_ .f32 := constant S_ .f32 0x7F800000#32
  let main_v9 : FVec F S67584x128 .f32 := broadcastInDim S67584x128 ![] bcast_S_S67584x128 main_cst_0
  let main_v10 : IVec S67584x128 1 := cmpf .olt main_v8 main_v9
  let main_c_1 : IVec S_ 1 := constantI S_ 1 1#1
  let main_v11 : IVec S_ 1 := (fun x v => Host.reduce IntOp.andi x v reducesTo_S67584x128_S_d0_1 h_S_) main_v10 main_c_1
  let main_v12 : IVec S_ 1 := andi main_v4 main_v11
  main_v12
-- ==== Kernel.lean ====
abbrev S8448x1024 : Shape := ⟨2, ![8448, 1024]⟩
abbrev S8448x2048 : Shape := ⟨2, ![8448, 2048]⟩
abbrev S8448x8x128 : Shape := ⟨3, ![8448, 8, 128]⟩
abbrev S8x8448x128 : Shape := ⟨3, ![8, 8448, 128]⟩
abbrev S8448x8x2x128 : Shape := ⟨4, ![8448, 8, 2, 128]⟩
abbrev S8x2x8448x128 : Shape := ⟨4, ![8, 2, 8448, 128]⟩
abbrev S_ : Shape := ⟨0, ![]⟩
abbrev S8x1x8448x128 : Shape := ⟨4, ![8, 1, 8448, 128]⟩
abbrev S8x8448x8448 : Shape := ⟨3, ![8, 8448, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S8x8448 : Shape := ⟨2, ![8, 8448]⟩
abbrev S8x8448x1 : Shape := ⟨3, ![8, 8448, 1]⟩
abbrev S8x11x1x768 : Shape := ⟨4, ![8, 11, 1, 768]⟩
abbrev S8448x128 : Shape := ⟨2, ![8448, 128]⟩
abbrev S768x128 : Shape := ⟨2, ![768, 128]⟩
abbrev S1x11x1x768 : Shape := ⟨4, ![1, 11, 1, 768]⟩
abbrev S768x256 : Shape := ⟨2, ![768, 256]⟩
abbrev S11x1x768 : Shape := ⟨3, ![11, 1, 768]⟩
abbrev S768 : Shape := ⟨1, ![768]⟩
abbrev S768x1 : Shape := ⟨2, ![768, 1]⟩
abbrev S128x768 : Shape := ⟨2, ![128, 768]⟩
abbrev S1x768 : Shape := ⟨2, ![1, 768]⟩
abbrev S1x1x768 : Shape := ⟨3, ![1, 1, 768]⟩
abbrev S768x768 : Shape := ⟨2, ![768, 768]⟩
abbrev S1x1x1x768 : Shape := ⟨4, ![1, 1, 1, 768]⟩

abbrev nBuf : Space → Nat
  | .hbm => 53
  | .vmem => 17
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S8448x1024, .bf16⟩
  | .hbm, ⟨3, _⟩ => ⟨S8448x1024, .f32⟩
  | .hbm, ⟨4, _⟩ => ⟨S8448x8x128, .f32⟩
  | .hbm, ⟨5, _⟩ => ⟨S8x8448x128, .f32⟩
  | .hbm, ⟨6, _⟩ => ⟨S8448x2048, .f32⟩
  | .hbm, ⟨7, _⟩ => ⟨S8448x8x2x128, .f32⟩
  | .hbm, ⟨8, _⟩ => ⟨S8x2x8448x128, .f32⟩
  | .hbm, ⟨9, _⟩ => ⟨S_, .f32⟩
  | .hbm, ⟨10, _⟩ => ⟨S8x8448x128, .f32⟩
  | .hbm, ⟨11, _⟩ => ⟨S8x8448x128, .f32⟩
  | .hbm, ⟨12, _⟩ => ⟨S8x1x8448x128, .f32⟩
  | .hbm, ⟨13, _⟩ => ⟨S8x8448x128, .f32⟩
  | .hbm, ⟨14, _⟩ => ⟨S8x8448x8448, .f32⟩
  | .hbm, ⟨15, _⟩ => ⟨S8448, .i32⟩
  | .hbm, ⟨16, _⟩ => ⟨S1x8448, .i32⟩
  | .hbm, ⟨17, _⟩ => ⟨S8448x1, .i32⟩
  | .hbm, ⟨18, _⟩ => ⟨S8448x8448, .i32⟩
  | .hbm, ⟨19, _⟩ => ⟨S8448x8448, .i32⟩
  | .hbm, ⟨20, _⟩ => ⟨S8448x8448, .i1⟩
  | .hbm, ⟨21, _⟩ => ⟨S_, .f32⟩
  | .hbm, ⟨22, _⟩ => ⟨S_, .f32⟩
  | .hbm, ⟨23, _⟩ => ⟨S8x8448x8448, .i1⟩
  | .hbm, ⟨24, _⟩ => ⟨S8x8448x8448, .f32⟩
  | .hbm, ⟨25, _⟩ => ⟨S8x8448x8448, .f32⟩
  | .hbm, ⟨26, _⟩ => ⟨S_, .f32⟩
  | .hbm, ⟨27, _⟩ => ⟨S8x8448, .f32⟩
  | .hbm, ⟨28, _⟩ => ⟨S8x8448x1, .f32⟩
  | .hbm, ⟨29, _⟩ => ⟨S8x8448x8448, .f32⟩
  | .hbm, ⟨30, _⟩ => ⟨S8x8448x8448, .f32⟩
  | .hbm, ⟨31, _⟩ => ⟨S8x8448x8448, .f32⟩
  | .hbm, ⟨32, _⟩ => ⟨S_, .f32⟩
  | .hbm, ⟨33, _⟩ => ⟨S8x8448, .f32⟩
  | .hbm, ⟨34, _⟩ => ⟨S8x8448x1, .f32⟩
  | .hbm, ⟨35, _⟩ => ⟨S8x8448x8448, .f32⟩
  | .hbm, ⟨36, _⟩ => ⟨S8x8448x8448, .f32⟩
  | .hbm, ⟨37, _⟩ => ⟨S8x1x8448x128, .f32⟩
  | .hbm, ⟨38, _⟩ => ⟨S8x8448x128, .f32⟩
  | .hbm, ⟨39, _⟩ => ⟨S8x8448x128, .f32⟩
  | .hbm, ⟨40, _⟩ => ⟨S8448x8x128, .f32⟩
  | .hbm, ⟨41, _⟩ => ⟨S8448x1024, .f32⟩
  | .hbm, ⟨42, _⟩ => ⟨S8448x1024, .bf16⟩
  | .hbm, ⟨43, _⟩ => ⟨S8x8448, .f32⟩
  | .hbm, ⟨44, _⟩ => ⟨S8x8448, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8x8448, .f32⟩
  | .hbm, ⟨49, _⟩ => ⟨S8x8448, .f32⟩
  | .hbm, ⟨50, _⟩ => ⟨S8x11x1x768, .f32⟩
  | .hbm, ⟨51, _⟩ => ⟨S8448x1024, .f32⟩
  | .hbm, ⟨52, _⟩ => ⟨S8448x2048, .bf16⟩
  | .local _ .vmem, ⟨0, _⟩ => ⟨S8448x128, .bf16⟩
  | .local _ .vmem, ⟨1, _⟩ => ⟨S8448x128, .bf16⟩
  | .local _ .vmem, ⟨2, _⟩ => ⟨S8448x128, .bf16⟩
  | .local _ .vmem, ⟨3, _⟩ => ⟨S8448x128, .bf16⟩
  | .local _ .vmem, ⟨4, _⟩ => ⟨S8448x128, .bf16⟩
  | .local _ .vmem, ⟨5, _⟩ => ⟨S8448x128, .bf16⟩
  | .local _ .vmem, ⟨6, _⟩ => ⟨S768x128, .bf16⟩
  | .local _ .vmem, ⟨7, _⟩ => ⟨S768x128, .bf16⟩
  | .local _ .vmem, ⟨8, _⟩ => ⟨S768x128, .bf16⟩
  | .local _ .vmem, ⟨9, _⟩ => ⟨S768x128, .bf16⟩
  | .local _ .vmem, ⟨10, _⟩ => ⟨S1x11x1x768, .f32⟩
  | .local _ .vmem, ⟨11, _⟩ => ⟨S1x11x1x768, .f32⟩
  | .local _ .vmem, ⟨12, _⟩ => ⟨S8448x128, .f32⟩
  | .local _ .vmem, ⟨13, _⟩ => ⟨S8448x128, .f32⟩
  | .local _ .vmem, ⟨14, _⟩ => ⟨S768x256, .bf16⟩
  | .local _ .vmem, ⟨15, _⟩ => ⟨S768x256, .bf16⟩
  | .local _ .vmem, ⟨16, _⟩ => ⟨S11x1x768, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40_0 : Ref sig .tc := ⟨.hbm, 51, rfl⟩
abbrev main_v40_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c768_i32_5 : BitVec 32 := 768#32
  let v11 : BitVec 32 := Scalar.muli arg1 c768_i32_5
  v11
def k0_off1 (i : grid0.Coords) : Fin 2 → Nat :=
  let arg1 : BitVec 32 := BitVec.ofNat 32 (i 1).val
  let c768_i32_5 : BitVec 32 := 768#32
  let v11 : BitVec 32 := Scalar.muli arg1 c768_i32_5
  let v12 : BitVec 32 := v11
  let v13 : Index := Scalar.indexCast v12
  let c0_6 : Index := 0#32
  ![v13.toNat, 0]
def k0_off2 (i : grid0.Coords) : Fin 4 → Nat :=
  let c0_10 : Index := 0#32
  let arg1 : BitVec 32 := BitVec.ofNat 32 (i 1).val
  let v20 : Index := Scalar.indexCast arg1
  let c0_11 : Index := 0#32
  let c0_12 : Index := 0#32
  ![0, v20.toNat, 0, 0]
def k0_off3 (i : grid0.Coords) : Fin 3 → Nat :=
  let arg1 : BitVec 32 := BitVec.ofNat 32 (i 1).val
  let v39 : Index := Scalar.indexCast arg1
  let c0_17 : Index := 0#32
  let c0_18 : Index := 0#32
  ![v39.toNat, 0, 0]
@[reducible] def k0_t1_loop (i : grid0.Coords) : Scf.Loop 32 :=
  let arg1 : BitVec 32 := BitVec.ofNat 32 (i 1).val
  let c1_i32 : BitVec 32 := 1#32
  let v55 : BitVec 32 := Scalar.addi arg1 c1_i32
  let c11_i32 : BitVec 32 := 11#32
  let v56 : BitVec 32 := Scalar.subi c11_i32 v55
  let c1_i32_23 : BitVec 32 := 1#32
  let v58 : BitVec 32 := Scalar.divsi v56 c1_i32_23
  let v59 : BitVec 32 := Scalar.muli v58 c1_i32_23
  let v60 : BitVec 32 := Scalar.addi v55 v59
  let c1_i32_24 : BitVec 32 := 1#32
  ⟨v55, v60, c1_i32_24⟩
def k0_mult2 (i : grid0.Coords) (k0_t1 : Fin (k0_t1_loop i).trips) : BitVec 32 :=
  let arg1 : BitVec 32 := BitVec.ofNat 32 (i 1).val
  let c1_i32 : BitVec 32 := 1#32
  let v55 : BitVec 32 := Scalar.addi arg1 c1_i32
  let c1_i32_24 : BitVec 32 := 1#32
  let arg11 : BitVec 32 := Scf.iv v55 c1_i32_24 k0_t1
  let c768_i32_29 : BitVec 32 := 768#32
  let v68 : BitVec 32 := Scalar.muli arg11 c768_i32_29
  v68
def k0_off4 (i : grid0.Coords) (k0_t1 : Fin (k0_t1_loop i).trips) : Fin 2 → Nat :=
  let arg1 : BitVec 32 := BitVec.ofNat 32 (i 1).val
  let c1_i32 : BitVec 32 := 1#32
  let v55 : BitVec 32 := Scalar.addi arg1 c1_i32
  let c1_i32_24 : BitVec 32 := 1#32
  let arg11 : BitVec 32 := Scf.iv v55 c1_i32_24 k0_t1
  let c768_i32_29 : BitVec 32 := 768#32
  let v68 : BitVec 32 := Scalar.muli arg11 c768_i32_29
  let v69 : BitVec 32 := v68
  let v70 : Index := Scalar.indexCast v69
  let c0_30 : Index := 0#32
  ![v70.toNat, 0]
def k0_off5 (i : grid0.Coords) (k0_t1 : Fin (k0_t1_loop i).trips) : Fin 4 → Nat :=
  let c0_34 : Index := 0#32
  let arg1 : BitVec 32 := BitVec.ofNat 32 (i 1).val
  let c1_i32 : BitVec 32 := 1#32
  let v55 : BitVec 32 := Scalar.addi arg1 c1_i32
  let c1_i32_24 : BitVec 32 := 1#32
  let arg11 : BitVec 32 := Scf.iv v55 c1_i32_24 k0_t1
  let v77 : Index := Scalar.indexCast arg11
  let c0_35 : Index := 0#32
  let c0_36 : Index := 0#32
  ![0, v77.toNat, 0, 0]
def k0_off6 (i : grid0.Coords) (k0_t1 : Fin (k0_t1_loop i).trips) : Fin 3 → Nat :=
  let arg1 : BitVec 32 := BitVec.ofNat 32 (i 1).val
  let c1_i32 : BitVec 32 := 1#32
  let v55 : BitVec 32 := Scalar.addi arg1 c1_i32
  let c1_i32_24 : BitVec 32 := 1#32
  let arg11 : BitVec 32 := Scf.iv v55 c1_i32_24 k0_t1
  let v87 : Index := Scalar.indexCast arg11
  let c0_39 : Index := 0#32
  let c0_40 : Index := 0#32
  ![v87.toNat, 0, 0]
@[reducible] def k0_t2_loop (i : grid0.Coords) : Scf.Loop 32 :=
  let arg1 : BitVec 32 := BitVec.ofNat 32 (i 1).val
  let c1_i32 : BitVec 32 := 1#32
  let v55 : BitVec 32 := Scalar.addi arg1 c1_i32
  let c11_i32 : BitVec 32 := 11#32
  let v56 : BitVec 32 := Scalar.subi c11_i32 v55
  let c1_i32_23 : BitVec 32 := 1#32
  let v58 : BitVec 32 := Scalar.divsi v56 c1_i32_23
  let v59 : BitVec 32 := Scalar.muli v58 c1_i32_23
  let v60 : BitVec 32 := Scalar.addi v55 v59
  let v57 : BitVec 32 := Scalar.addi v55 v56
  let c1_i32_25 : BitVec 32 := 1#32
  ⟨v60, v57, c1_i32_25⟩
def k0_mult3 (i : grid0.Coords) (k0_t2 : Fin (k0_t2_loop i).trips) : BitVec 32 :=
  let arg1 : BitVec 32 := BitVec.ofNat 32 (i 1).val
  let c1_i32 : BitVec 32 := 1#32
  let v55 : BitVec 32 := Scalar.addi arg1 c1_i32
  let c11_i32 : BitVec 32 := 11#32
  let v56 : BitVec 32 := Scalar.subi c11_i32 v55
  let c1_i32_23 : BitVec 32 := 1#32
  let v58 : BitVec 32 := Scalar.divsi v56 c1_i32_23
  let v59 : BitVec 32 := Scalar.muli v58 c1_i32_23
  let v60 : BitVec 32 := Scalar.addi v55 v59
  let c1_i32_25 : BitVec 32 := 1#32
  let arg11 : BitVec 32 := Scf.iv v60 c1_i32_25 k0_t2
  let c768_i32_29 : BitVec 32 := 768#32
  let v68 : BitVec 32 := Scalar.muli arg11 c768_i32_29
  v68
def k0_off7 (i : grid0.Coords) (k0_t2 : Fin (k0_t2_loop i).trips) : Fin 2 → Nat :=
  let arg1 : BitVec 32 := BitVec.ofNat 32 (i 1).val
  let c1_i32 : BitVec 32 := 1#32
  let v55 : BitVec 32 := Scalar.addi arg1 c1_i32
  let c11_i32 : BitVec 32 := 11#32
  let v56 : BitVec 32 := Scalar.subi c11_i32 v55
  let c1_i32_23 : BitVec 32 := 1#32
  let v58 : BitVec 32 := Scalar.divsi v56 c1_i32_23
  let v59 : BitVec 32 := Scalar.muli v58 c1_i32_23
  let v60 : BitVec 32 := Scalar.addi v55 v59
  let c1_i32_25 : BitVec 32 := 1#32
  let arg11 : BitVec 32 := Scf.iv v60 c1_i32_25 k0_t2
  let c768_i32_29 : BitVec 32 := 768#32
  let v68 : BitVec 32 := Scalar.muli arg11 c768_i32_29
  let v69 : BitVec 32 := v68
  let v70 : Index := Scalar.indexCast v69
  let c0_30 : Index := 0#32
  ![v70.toNat, 0]
def k0_off8 (i : grid0.Coords) (k0_t2 : Fin (k0_t2_loop i).trips) : Fin 4 → Nat :=
  let c0_34 : Index := 0#32
  let arg1 : BitVec 32 := BitVec.ofNat 32 (i 1).val
  let c1_i32 : BitVec 32 := 1#32
  let v55 : BitVec 32 := Scalar.addi arg1 c1_i32
  let c11_i32 : BitVec 32 := 11#32
  let v56 : BitVec 32 := Scalar.subi c11_i32 v55
  let c1_i32_23 : BitVec 32 := 1#32
  let v58 : BitVec 32 := Scalar.divsi v56 c1_i32_23
  let v59 : BitVec 32 := Scalar.muli v58 c1_i32_23
  let v60 : BitVec 32 := Scalar.addi v55 v59
  let c1_i32_25 : BitVec 32 := 1#32
  let arg11 : BitVec 32 := Scf.iv v60 c1_i32_25 k0_t2
  let v77 : Index := Scalar.indexCast arg11
  let c0_35 : Index := 0#32
  let c0_36 : Index := 0#32
  ![0, v77.toNat, 0, 0]
def k0_off9 (i : grid0.Coords) (k0_t2 : Fin (k0_t2_loop i).trips) : Fin 3 → Nat :=
  let arg1 : BitVec 32 := BitVec.ofNat 32 (i 1).val
  let c1_i32 : BitVec 32 := 1#32
  let v55 : BitVec 32 := Scalar.addi arg1 c1_i32
  let c11_i32 : BitVec 32 := 11#32
  let v56 : BitVec 32 := Scalar.subi c11_i32 v55
  let c1_i32_23 : BitVec 32 := 1#32
  let v58 : BitVec 32 := Scalar.divsi v56 c1_i32_23
  let v59 : BitVec 32 := Scalar.muli v58 c1_i32_23
  let v60 : BitVec 32 := Scalar.addi v55 v59
  let c1_i32_25 : BitVec 32 := 1#32
  let arg11 : BitVec 32 := Scf.iv v60 c1_i32_25 k0_t2
  let v87 : Index := Scalar.indexCast arg11
  let c0_39 : Index := 0#32
  let c0_40 : Index := 0#32
  ![v87.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8448x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8448x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x11x1x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8448x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "scale_log2e" => some (((3424635 / 33554432) * (Real.log 2)⁻¹ : ℝ) : EReal)
  | _ => none
-- ==== ReferenceIdeal.lean ====
abbrev S8448x1024 : Shape := ⟨2, ![8448, 1024]⟩
abbrev S8448x2048 : Shape := ⟨2, ![8448, 2048]⟩
abbrev S8448x8x128 : Shape := ⟨3, ![8448, 8, 128]⟩
abbrev S8x8448x128 : Shape := ⟨3, ![8, 8448, 128]⟩
abbrev S8448x8x2x128 : Shape := ⟨4, ![8448, 8, 2, 128]⟩
abbrev S8448x8x1x128 : Shape := ⟨4, ![8448, 8, 1, 128]⟩
abbrev S_ : Shape := ⟨0, ![]⟩
abbrev S8x8448x8448 : Shape := ⟨3, ![8, 8448, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S8x8448 : Shape := ⟨2, ![8, 8448]⟩
abbrev S8x8448x1 : Shape := ⟨3, ![8, 8448, 1]⟩
abbrev S8x128x8448 : Shape := ⟨3, ![8, 128, 8448]⟩

abbrev nBuf : Space → Nat
  | .hbm => 105
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S8448x1024, .bf16⟩
  | .hbm, ⟨3, _⟩ => ⟨S8448x1024, .f32⟩
  | .hbm, ⟨4, _⟩ => ⟨S8448x8x128, .f32⟩
  | .hbm, ⟨5, _⟩ => ⟨S8x8448x128, .f32⟩
  | .hbm, ⟨6, _⟩ => ⟨S8448x2048, .f32⟩
  | .hbm, ⟨7, _⟩ => ⟨S8448x8x2x128, .f32⟩
  | .hbm, ⟨8, _⟩ => ⟨S8448x8x1x128, .f32⟩
  | .hbm, ⟨9, _⟩ => ⟨S8448x8x128, .f32⟩
  | .hbm, ⟨10, _⟩ => ⟨S8x8448x128, .f32⟩
  | .hbm, ⟨11, _⟩ => ⟨S8448x8x1x128, .f32⟩
  | .hbm, ⟨12, _⟩ => ⟨S8448x8x128, .f32⟩
  | .hbm, ⟨13, _⟩ => ⟨S8x8448x128, .f32⟩
  | .hbm, ⟨14, _⟩ => ⟨S8448x1024, .f32⟩
  | .hbm, ⟨15, _⟩ => ⟨S8448x8x128, .f32⟩
  | .hbm, ⟨16, _⟩ => ⟨S8x8448x128, .f32⟩
  | .hbm, ⟨17, _⟩ => ⟨S_, .f32⟩
  | .hbm, ⟨18, _⟩ => ⟨S8x8448x128, .f32⟩
  | .hbm, ⟨19, _⟩ => ⟨S8x8448x128, .f32⟩
  | .hbm, ⟨20, _⟩ => ⟨S8x8448x8448, .f32⟩
  | .hbm, ⟨21, _⟩ => ⟨S8448, .i32⟩
  | .hbm, ⟨22, _⟩ => ⟨S8448, .i32⟩
  | .hbm, ⟨23, _⟩ => ⟨S1x8448, .i32⟩
  | .hbm, ⟨24, _⟩ => ⟨S8448x1, .i32⟩
  | .hbm, ⟨25, _⟩ => ⟨S8448x8448, .i32⟩
  | .hbm, ⟨26, _⟩ => ⟨S8448x8448, .i32⟩
  | .hbm, ⟨27, _⟩ => ⟨S8448x8448, .i1⟩
  | .hbm, ⟨28, _⟩ => ⟨S_, .f32⟩
  | .hbm, ⟨29, _⟩ => ⟨S_, .f32⟩
  | .hbm, ⟨30, _⟩ => ⟨S8x8448x8448, .i1⟩
  | .hbm, ⟨31, _⟩ => ⟨S8x8448x8448, .f32⟩
  | .hbm, ⟨32, _⟩ => ⟨S8x8448x8448, .f32⟩
  | .hbm, ⟨33, _⟩ => ⟨S_, .f32⟩
  | .hbm, ⟨34, _⟩ => ⟨S8x8448x8448, .f32⟩
  | .hbm, ⟨35, _⟩ => ⟨S_, .f32⟩
  | .hbm, ⟨36, _⟩ => ⟨S8x8448, .f32⟩
  | .hbm, ⟨37, _⟩ => ⟨S8x8448x1, .f32⟩
  | .hbm, ⟨38, _⟩ => ⟨S8x8448x8448, .f32⟩
  | .hbm, ⟨39, _⟩ => ⟨S8x8448x8448, .i1⟩
  | .hbm, ⟨40, _⟩ => ⟨S8x8448x8448, .f32⟩
  | .hbm, ⟨41, _⟩ => ⟨S_, .f32⟩
  | .hbm, ⟨42, _⟩ => ⟨S8x8448, .f32⟩
  | .hbm, ⟨43, _⟩ => ⟨S_, .f32⟩
  | .hbm, ⟨44, _⟩ => ⟨S8x8448, .f32⟩
  | .hbm, ⟨45, _⟩ => ⟨S8x8448, .f32⟩
  | .hbm, ⟨46, _⟩ => ⟨S_, .f32⟩
  | .hbm, ⟨47, _⟩ => ⟨S8x8448, .f32⟩
  | .hbm, ⟨48, _⟩ => ⟨S8x8448, .i1⟩
  | .hbm, ⟨49, _⟩ => ⟨S_, .f32⟩
  | .hbm, ⟨50, _⟩ => ⟨S8x8448, .f32⟩
  | .hbm, ⟨51, _⟩ => ⟨S8x8448, .i1⟩
  | .hbm, ⟨52, _⟩ => ⟨S_, .f32⟩
  | .hbm, ⟨53, _⟩ => ⟨S8x8448, .f32⟩
  | .hbm, ⟨54, _⟩ => ⟨S_, .f32⟩
  | .hbm, ⟨55, _⟩ => ⟨S8x8448, .f32⟩
  | .hbm, ⟨56, _⟩ => ⟨S_, .f32⟩
  | .hbm, ⟨57, _⟩ => ⟨S8x8448, .f32⟩
  | .hbm, ⟨58, _⟩ => ⟨S8x8448, .f32⟩
  | .hbm, ⟨59, _⟩ => ⟨S8x8448, .f32⟩
  | .hbm, ⟨60, _⟩ => ⟨S8x8448x1, .f32⟩
  | .hbm, ⟨61, _⟩ => ⟨S8x8448x8448, .f32⟩
  | .hbm, ⟨62, _⟩ => ⟨S8x8448x8448, .f32⟩
  | .hbm, ⟨63, _⟩ => ⟨S8x8448x8448, .f32⟩
  | .hbm, ⟨64, _⟩ => ⟨S_, .f32⟩
  | .hbm, ⟨65, _⟩ => ⟨S8x8448, .f32⟩
  | .hbm, ⟨66, _⟩ => ⟨S8x8448x1, .f32⟩
  | .hbm, ⟨67, _⟩ => ⟨S8x8448x8448, .f32⟩
  | .hbm, ⟨68, _⟩ => ⟨S8x8448x8448, .f32⟩
  | .hbm, ⟨69, _⟩ => ⟨S8x8448x1, .f32⟩
  | .hbm, ⟨70, _⟩ => ⟨S_, .f32⟩
  | .hbm, ⟨71, _⟩ => ⟨S8x8448x1, .f32⟩
  | .hbm, ⟨72, _⟩ => ⟨S8x8448x1, .f32⟩
  | .hbm, ⟨73, _⟩ => ⟨S8x8448x128, .f32⟩
  | .hbm, ⟨74, _⟩ => ⟨S8x128x8448, .f32⟩
  | .hbm, ⟨75, _⟩ => ⟨S8x8448x128, .f32⟩
  | .hbm, ⟨76, _⟩ => ⟨S8x8448x8448, .f32⟩
  | .hbm, ⟨77, _⟩ => ⟨S8x8448x8448, .f32⟩
  | .hbm, ⟨78, _⟩ => ⟨S8x8448x8448, .f32⟩
  | .hbm, ⟨79, _⟩ => ⟨S8x8448x8448, .f32⟩
  | .hbm, ⟨80, _⟩ => ⟨S_, .f32⟩
  | .hbm, ⟨81, _⟩ => ⟨S8x8448, .f32⟩
  | .hbm, ⟨82, _⟩ => ⟨S8x8448x1, .f32⟩
  | .hbm, ⟨83, _⟩ => ⟨S8x8448x1, .f32⟩
  | .hbm, ⟨84, _⟩ => ⟨S8x8448x8448, .f32⟩
  | .hbm, ⟨85, _⟩ => ⟨S8x8448x8448, .f32⟩
  | .hbm, ⟨86, _⟩ => ⟨S_, .f32⟩
  | .hbm, ⟨87, _⟩ => ⟨S8x8448, .f32⟩
  | .hbm, ⟨88, _⟩ => ⟨S8x8448x8448, .f32⟩
  | .hbm, ⟨89, _⟩ => ⟨S8x8448x8448, .f32⟩
  | .hbm, ⟨90, _⟩ => ⟨S8x8448x8448, .f32⟩
  | .hbm, ⟨91, _⟩ => ⟨S_, .f32⟩
  | .hbm, ⟨92, _⟩ => ⟨S8x8448x8448, .f32⟩
  | .hbm, ⟨93, _⟩ => ⟨S8x8448x8448, .f32⟩
  | .hbm, ⟨94, _⟩ => ⟨S8x8448x128, .f32⟩
  | .hbm, ⟨95, _⟩ => ⟨S8x8448x128, .f32⟩
  | .hbm, ⟨96, _⟩ => ⟨S8448x8x128, .f32⟩
  | .hbm, ⟨97, _⟩ => ⟨S8448x8x128, .f32⟩
  | .hbm, ⟨98, _⟩ => ⟨S8448x8x1x128, .f32⟩
  | .hbm, ⟨99, _⟩ => ⟨S8448x8x1x128, .f32⟩
  | .hbm, ⟨100, _⟩ => ⟨S8448x8x2x128, .f32⟩
  | .hbm, ⟨101, _⟩ => ⟨S8448x8x128, .f32⟩
  | .hbm, ⟨102, _⟩ => ⟨S8448x1024, .f32⟩
  | .hbm, ⟨103, _⟩ => ⟨S8448x2048, .f32⟩
  | .hbm, ⟨104, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_call0_v0 : Ref sig .tc := ⟨.hbm, 29, rfl⟩
abbrev main_v24_1 : Ref sig .tc := ⟨.hbm, 30, rfl⟩
abbrev main_call0_v2 : Ref sig .tc := ⟨.hbm, 31, rfl⟩
abbrev main_v24_0 : Ref sig .tc := ⟨.hbm, 32, rfl⟩
abbrev main_call0_cst : Ref sig .tc := ⟨.hbm, 33, rfl⟩
abbrev main_v24_2 : Ref sig .tc := ⟨.hbm, 34, rfl⟩
abbrev main_cst_1 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call1_cst : Ref sig .tc := ⟨.hbm, 91, rfl⟩
abbrev main_call1_v0 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== ActGrad.lean ====
abbrev S8448x1024 : Shape := ⟨2, ![8448, 1024]⟩
abbrev S2816x1024 : Shape := ⟨2, ![2816, 1024]⟩
abbrev S8448x2816 : Shape := ⟨2, ![8448, 2816]⟩
abbrev S1024x2816 : Shape := ⟨2, ![1024, 2816]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 7
  | .vmem => 12
  | .smem => 0
  | _ => 0

abbrev bufTy : (tb : Table) → Fin (tcTables nBuf tb) → BufTy
  | .hbm, ⟨0, _⟩ => ⟨S8448x1024, .f32⟩
  | .hbm, ⟨1, _⟩ => ⟨S2816x1024, .bf16⟩
  | .hbm, ⟨2, _⟩ => ⟨S8448x2816, .bf16⟩
  | .hbm, ⟨3, _⟩ => ⟨S8448x2816, .bf16⟩
  | .hbm, ⟨4, _⟩ => ⟨S1024x2816, .bf16⟩
  | .hbm, ⟨5, _⟩ => ⟨S8448x2816, .bf16⟩
  | .hbm, ⟨6, _⟩ => ⟨S8448x2816, .bf16⟩
  | .local _ .vmem, ⟨0, _⟩ => ⟨S768x1024, .f32⟩
  | .local _ .vmem, ⟨1, _⟩ => ⟨S768x1024, .f32⟩
  | .local _ .vmem, ⟨2, _⟩ => ⟨S1024x1408, .bf16⟩
  | .local _ .vmem, ⟨3, _⟩ => ⟨S1024x1408, .bf16⟩
  | .local _ .vmem, ⟨4, _⟩ => ⟨S768x1408, .bf16⟩
  | .local _ .vmem, ⟨5, _⟩ => ⟨S768x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActGradReferenceIdeal.lean ====
abbrev S8448x1024 : Shape := ⟨2, ![8448, 1024]⟩
abbrev S2816x1024 : Shape := ⟨2, ![2816, 1024]⟩
abbrev S8448x2816 : Shape := ⟨2, ![8448, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S2816x1024, .bf16⟩
  | .hbm, ⟨2, _⟩ => ⟨S8448x2816, .bf16⟩
  | .hbm, ⟨3, _⟩ => ⟨S8448x2816, .bf16⟩
  | .hbm, ⟨4, _⟩ => ⟨S8448x2816, .f32⟩
  | .hbm, ⟨5, _⟩ => ⟨S8448x2816, .f32⟩
  | .hbm, ⟨6, _⟩ => ⟨S8448x2816, .f32⟩
  | .hbm, ⟨7, _⟩ => ⟨S8448x2816, .f32⟩
  | .hbm, ⟨8, _⟩ => ⟨S_, .f32⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .f32⟩
  | .hbm, ⟨20, _⟩ => ⟨S2816x1024, .f32⟩
  | .hbm, ⟨21, _⟩ => ⟨S8448x1024, .f32⟩
  | .hbm, ⟨22, _⟩ => ⟨S_, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S8448x2816, .f32⟩
  | .hbm, ⟨29, _⟩ => ⟨S8448x2816, .f32⟩
  | .hbm, ⟨30, _⟩ => ⟨S8448x2816, .f32⟩
  | .hbm, ⟨31, _⟩ => ⟨S8448x2816, .f32⟩
  | .hbm, ⟨32, _⟩ => ⟨S8448x2816, .f32⟩
  | .hbm, ⟨33, _⟩ => ⟨S8448x2816, .f32⟩
  | .hbm, ⟨34, _⟩ => ⟨S8448x2816, .f32⟩
  | .hbm, ⟨35, _⟩ => ⟨S8448x2816, .bf16⟩
  | .hbm, ⟨36, _⟩ => ⟨S8448x2816, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== InputGrad.lean ====
abbrev S8448x2816 : Shape := ⟨2, ![8448, 2816]⟩
abbrev S1024x5632 : Shape := ⟨2, ![1024, 5632]⟩
abbrev S5632x1024 : Shape := ⟨2, ![5632, 1024]⟩
abbrev S2816x1024 : Shape := ⟨2, ![2816, 1024]⟩
abbrev S8448x1024 : Shape := ⟨2, ![8448, 1024]⟩
abbrev S768x2816 : Shape := ⟨2, ![768, 2816]⟩
abbrev S2816x512 : Shape := ⟨2, ![2816, 512]⟩
abbrev S768x512 : Shape := ⟨2, ![768, 512]⟩

abbrev nBuf : Space → Nat
  | .hbm => 7
  | .vmem => 10
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S1024x5632, .bf16⟩
  | .hbm, ⟨3, _⟩ => ⟨S5632x1024, .bf16⟩
  | .hbm, ⟨4, _⟩ => ⟨S2816x1024, .bf16⟩
  | .hbm, ⟨5, _⟩ => ⟨S2816x1024, .bf16⟩
  | .hbm, ⟨6, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S768x2816, .bf16⟩
  | .local _ .vmem, ⟨3, _⟩ => ⟨S768x2816, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .bf16⟩
  | .local _ .vmem, ⟨7, _⟩ => ⟨S2816x512, .bf16⟩
  | .local _ .vmem, ⟨8, _⟩ => ⟨S768x512, .f32⟩
  | .local _ .vmem, ⟨9, _⟩ => ⟨S768x512, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InputGradReferenceIdeal.lean ====
abbrev S8448x2816 : Shape := ⟨2, ![8448, 2816]⟩
abbrev S1024x5632 : Shape := ⟨2, ![1024, 5632]⟩
abbrev S_ : Shape := ⟨0, ![]⟩
abbrev S8448x1024 : Shape := ⟨2, ![8448, 1024]⟩
abbrev S8448x5632 : Shape := ⟨2, ![8448, 5632]⟩

abbrev nBuf : Space → Nat
  | .hbm => 13
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x2816, .bf16⟩
  | .hbm, ⟨2, _⟩ => ⟨S1024x5632, .bf16⟩
  | .hbm, ⟨3, _⟩ => ⟨S_, .f32⟩
  | .hbm, ⟨4, _⟩ => ⟨S8448x1024, .f32⟩
  | .hbm, ⟨5, _⟩ => ⟨S1024x5632, .f32⟩
  | .hbm, ⟨6, _⟩ => ⟨S8448x5632, .f32⟩
  | .hbm, ⟨7, _⟩ => ⟨S8448x2816, .f32⟩
  | .hbm, ⟨8, _⟩ => ⟨S8448x2816, .f32⟩
  | .hbm, ⟨9, _⟩ => ⟨S8448x2816, .f32⟩
  | .hbm, ⟨10, _⟩ => ⟨S8448x2816, .f32⟩
  | .hbm, ⟨11, _⟩ => ⟨S8448x5632, .f32⟩
  | .hbm, ⟨12, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== UpGrad.lean ====
abbrev S8448x1024 : Shape := ⟨2, ![8448, 1024]⟩
abbrev S8448x2816 : Shape := ⟨2, ![8448, 2816]⟩
abbrev S1024x2816 : Shape := ⟨2, ![1024, 2816]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S1024x2816, .bf16⟩
  | .local _ .vmem, ⟨0, _⟩ => ⟨S768x1024, .bf16⟩
  | .local _ .vmem, ⟨1, _⟩ => ⟨S768x1024, .bf16⟩
  | .local _ .vmem, ⟨2, _⟩ => ⟨S768x1408, .bf16⟩
  | .local _ .vmem, ⟨3, _⟩ => ⟨S768x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpGradReferenceIdeal.lean ====
abbrev S8448x1024 : Shape := ⟨2, ![8448, 1024]⟩
abbrev S8448x2816 : Shape := ⟨2, ![8448, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2816, .bf16⟩
  | .hbm, ⟨2, _⟩ => ⟨S_, .f32⟩
  | .hbm, ⟨3, _⟩ => ⟨S1024x2816, .f32⟩
  | .hbm, ⟨4, _⟩ => ⟨S8448x1024, .f32⟩
  | .hbm, ⟨5, _⟩ => ⟨S8448x2816, .f32⟩
  | .hbm, ⟨6, _⟩ => ⟨S8448x2816, .f32⟩
  | .hbm, ⟨7, _⟩ => ⟨S2816x1024, .f32⟩
  | .hbm, ⟨8, _⟩ => ⟨S1024x2816, .f32⟩
  | .hbm, ⟨9, _⟩ => ⟨S1024x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownGrad.lean ====
abbrev S8448x2816 : Shape := ⟨2, ![8448, 2816]⟩
abbrev S8448x1024 : Shape := ⟨2, ![8448, 1024]⟩
abbrev S2816x1024 : Shape := ⟨2, ![2816, 1024]⟩
abbrev S768x1408 : Shape := ⟨2, ![768, 1408]⟩
abbrev S768x1024 : Shape := ⟨2, ![768, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S2816x1024, .bf16⟩
  | .local _ .vmem, ⟨0, _⟩ => ⟨S768x1408, .bf16⟩
  | .local _ .vmem, ⟨1, _⟩ => ⟨S768x1408, .bf16⟩
  | .local _ .vmem, ⟨2, _⟩ => ⟨S768x1024, .f32⟩
  | .local _ .vmem, ⟨3, _⟩ => ⟨S768x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradReferenceIdeal.lean ====
abbrev S8448x2816 : Shape := ⟨2, ![8448, 2816]⟩
abbrev S8448x1024 : Shape := ⟨2, ![8448, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .f32⟩
  | .hbm, ⟨2, _⟩ => ⟨S_, .f32⟩
  | .hbm, ⟨3, _⟩ => ⟨S2816x1024, .f32⟩
  | .hbm, ⟨4, _⟩ => ⟨S8448x2816, .f32⟩
  | .hbm, ⟨5, _⟩ => ⟨S8448x1024, .f32⟩
  | .hbm, ⟨6, _⟩ => ⟨S_, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448x1024, .f32⟩
  | .hbm, ⟨11, _⟩ => ⟨S8448x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== MergeGrad.lean ====
abbrev S8448x1024 : Shape := ⟨2, ![8448, 1024]⟩
abbrev S1024x1024 : Shape := ⟨2, ![1024, 1024]⟩
abbrev S8448x2048 : Shape := ⟨2, ![8448, 2048]⟩
abbrev S768x1024 : Shape := ⟨2, ![768, 1024]⟩
abbrev S1024x512 : Shape := ⟨2, ![1024, 512]⟩
abbrev S768x512 : Shape := ⟨2, ![768, 512]⟩

abbrev nBuf : Space → Nat
  | .hbm => 10
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S1024x1024, .bf16⟩
  | .hbm, ⟨2, _⟩ => ⟨S8448x1024, .bf16⟩
  | .hbm, ⟨3, _⟩ => ⟨S8448x1024, .bf16⟩
  | .hbm, ⟨4, _⟩ => ⟨S8448x2048, .bf16⟩
  | .hbm, ⟨5, _⟩ => ⟨S1024x1024, .bf16⟩
  | .hbm, ⟨6, _⟩ => ⟨S8448x1024, .bf16⟩
  | .hbm, ⟨7, _⟩ => ⟨S8448x1024, .bf16⟩
  | .hbm, ⟨8, _⟩ => ⟨S8448x1024, .bf16⟩
  | .hbm, ⟨9, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1024x512, .bf16⟩
  | .local _ .vmem, ⟨3, _⟩ => ⟨S1024x512, .bf16⟩
  | .local _ .vmem, ⟨4, _⟩ => ⟨S768x512, .bf16⟩
  | .local _ .vmem, ⟨5, _⟩ => ⟨S768x512, .bf16⟩
  | .local _ .vmem, ⟨6, _⟩ => ⟨S768x512, .bf16⟩
  | .local _ .vmem, ⟨7, _⟩ => ⟨S768x512, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S768x512, .bf16⟩
  | .local _ .vmem, ⟨13, _⟩ => ⟨S768x512, .bf16⟩
  | .local _ .vmem, ⟨14, _⟩ => ⟨S768x512, .bf16⟩
  | .local _ .vmem, ⟨15, _⟩ => ⟨S768x512, .bf16⟩
  | .local _ .vmem, ⟨16, _⟩ => ⟨S768x512, .bf16⟩
  | .local _ .vmem, ⟨17, _⟩ => ⟨S768x512, .bf16⟩
  | .local _ .vmem, ⟨18, _⟩ => ⟨S768x512, .bf16⟩
  | .local _ .vmem, ⟨19, _⟩ => ⟨S768x512, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S768x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S768x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeGradReferenceIdeal.lean ====
abbrev S8448x1024 : Shape := ⟨2, ![8448, 1024]⟩
abbrev S1024x1024 : Shape := ⟨2, ![1024, 1024]⟩
abbrev S8448x2048 : Shape := ⟨2, ![8448, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1024x1024, .bf16⟩
  | .hbm, ⟨2, _⟩ => ⟨S8448x1024, .bf16⟩
  | .hbm, ⟨3, _⟩ => ⟨S8448x1024, .bf16⟩
  | .hbm, ⟨4, _⟩ => ⟨S8448x2048, .bf16⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448x1024, .f32⟩
  | .hbm, ⟨14, _⟩ => ⟨S8448x1024, .f32⟩
  | .hbm, ⟨15, _⟩ => ⟨S_, .f32⟩
  | .hbm, ⟨16, _⟩ => ⟨S8448x1024, .f32⟩
  | .hbm, ⟨17, _⟩ => ⟨S8448x1024, .f32⟩
  | .hbm, ⟨18, _⟩ => ⟨S_, .f32⟩
  | .hbm, ⟨19, _⟩ => ⟨S8448x1024, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S1024x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S8448x1024, .bf16⟩
  | .hbm, ⟨47, _⟩ => ⟨S8448x1024, .bf16⟩
  | .hbm, ⟨48, _⟩ => ⟨S8448x1024, .bf16⟩
  | .hbm, ⟨49, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== MixInputGrad.lean ====
abbrev S8448x5120 : Shape := ⟨2, ![8448, 5120]⟩
abbrev S1024x5120 : Shape := ⟨2, ![1024, 5120]⟩
abbrev S5120x1024 : Shape := ⟨2, ![5120, 1024]⟩
abbrev S8448x1024 : Shape := ⟨2, ![8448, 1024]⟩
abbrev S768x5120 : Shape := ⟨2, ![768, 5120]⟩
abbrev S5120x512 : Shape := ⟨2, ![5120, 512]⟩
abbrev S768x512 : Shape := ⟨2, ![768, 512]⟩

abbrev nBuf : Space → Nat
  | .hbm => 4
  | .vmem => 6
  | .smem => 0
  | _ => 0

abbrev bufTy : (tb : Table) → Fin (tcTables nBuf tb) → BufTy
  | .hbm, ⟨0, _⟩ => ⟨S8448x5120, .bf16⟩
  | .hbm, ⟨1, _⟩ => ⟨S1024x5120, .bf16⟩
  | .hbm, ⟨2, _⟩ => ⟨S5120x1024, .bf16⟩
  | .hbm, ⟨3, _⟩ => ⟨S8448x1024, .f32⟩
  | .local _ .vmem, ⟨0, _⟩ => ⟨S768x5120, .bf16⟩
  | .local _ .vmem, ⟨1, _⟩ => ⟨S768x5120, .bf16⟩
  | .local _ .vmem, ⟨2, _⟩ => ⟨S5120x512, .bf16⟩
  | .local _ .vmem, ⟨3, _⟩ => ⟨S5120x512, .bf16⟩
  | .local _ .vmem, ⟨4, _⟩ => ⟨S768x512, .f32⟩
  | .local _ .vmem, ⟨5, _⟩ => ⟨S768x512, .f32⟩
  | _, _ => ⟨S8448x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5120x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixInputGradReferenceIdeal.lean ====
abbrev S8448x5120 : Shape := ⟨2, ![8448, 5120]⟩
abbrev S1024x5120 : Shape := ⟨2, ![1024, 5120]⟩
abbrev S_ : Shape := ⟨0, ![]⟩
abbrev S8448x1024 : Shape := ⟨2, ![8448, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8448x5120, .bf16⟩
  | .hbm, ⟨1, _⟩ => ⟨S1024x5120, .bf16⟩
  | .hbm, ⟨2, _⟩ => ⟨S_, .f32⟩
  | .hbm, ⟨3, _⟩ => ⟨S8448x1024, .f32⟩
  | .hbm, ⟨4, _⟩ => ⟨S1024x5120, .f32⟩
  | .hbm, ⟨5, _⟩ => ⟨S8448x5120, .f32⟩
  | .hbm, ⟨6, _⟩ => ⟨S8448x5120, .f32⟩
  | .hbm, ⟨7, _⟩ => ⟨S8448x1024, .f32⟩
  | _, _ => ⟨S8448x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InWeightGrad.lean ====
abbrev S8448x1024 : Shape := ⟨2, ![8448, 1024]⟩
abbrev S8448x5120 : Shape := ⟨2, ![8448, 5120]⟩
abbrev S1024x5120 : Shape := ⟨2, ![1024, 5120]⟩
abbrev S768x1024 : Shape := ⟨2, ![768, 1024]⟩
abbrev S768x1280 : Shape := ⟨2, ![768, 1280]⟩
abbrev S1024x1280 : Shape := ⟨2, ![1024, 1280]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x5120, .bf16⟩
  | .hbm, ⟨2, _⟩ => ⟨S1024x5120, .f32⟩
  | .local _ .vmem, ⟨0, _⟩ => ⟨S768x1024, .bf16⟩
  | .local _ .vmem, ⟨1, _⟩ => ⟨S768x1024, .bf16⟩
  | .local _ .vmem, ⟨2, _⟩ => ⟨S768x1280, .bf16⟩
  | .local _ .vmem, ⟨3, _⟩ => ⟨S768x1280, .bf16⟩
  | .local _ .vmem, ⟨4, _⟩ => ⟨S1024x1280, .f32⟩
  | .local _ .vmem, ⟨5, _⟩ => ⟨S1024x1280, .f32⟩
  | .local _ .vmem, ⟨6, _⟩ => ⟨S1024x1280, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InWeightGradReferenceIdeal.lean ====
abbrev S8448x1024 : Shape := ⟨2, ![8448, 1024]⟩
abbrev S8448x5120 : Shape := ⟨2, ![8448, 5120]⟩
abbrev S_ : Shape := ⟨0, ![]⟩
abbrev S1024x5120 : Shape := ⟨2, ![1024, 5120]⟩
abbrev S5120x1024 : Shape := ⟨2, ![5120, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x5120, .bf16⟩
  | .hbm, ⟨2, _⟩ => ⟨S_, .f32⟩
  | .hbm, ⟨3, _⟩ => ⟨S1024x5120, .f32⟩
  | .hbm, ⟨4, _⟩ => ⟨S8448x1024, .f32⟩
  | .hbm, ⟨5, _⟩ => ⟨S8448x5120, .f32⟩
  | .hbm, ⟨6, _⟩ => ⟨S8448x5120, .f32⟩
  | .hbm, ⟨7, _⟩ => ⟨S5120x1024, .f32⟩
  | .hbm, ⟨8, _⟩ => ⟨S1024x5120, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GatedHalves.lean ====
abbrev S8448x1024 : Shape := ⟨2, ![8448, 1024]⟩
abbrev S1024x5632 : Shape := ⟨2, ![1024, 5632]⟩
abbrev S8448x2816 : Shape := ⟨2, ![8448, 2816]⟩
abbrev S768x1024 : Shape := ⟨2, ![768, 1024]⟩
abbrev S1024x1408 : Shape := ⟨2, ![1024, 1408]⟩
abbrev S768x1408 : Shape := ⟨2, ![768, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x2816, .bf16⟩
  | .hbm, ⟨3, _⟩ => ⟨S8448x2816, .bf16⟩
  | .hbm, ⟨4, _⟩ => ⟨S8448x2816, .bf16⟩
  | .local _ .vmem, ⟨0, _⟩ => ⟨S768x1024, .bf16⟩
  | .local _ .vmem, ⟨1, _⟩ => ⟨S768x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S768x1408, .bf16⟩
  | .local _ .vmem, ⟨7, _⟩ => ⟨S768x1408, .bf16⟩
  | .local _ .vmem, ⟨8, _⟩ => ⟨S768x1408, .bf16⟩
  | .local _ .vmem, ⟨9, _⟩ => ⟨S768x1408, .bf16⟩
  | .local _ .vmem, ⟨10, _⟩ => ⟨S768x1408, .bf16⟩
  | .local _ .vmem, ⟨11, _⟩ => ⟨S768x1408, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GatedHalvesReferenceIdeal.lean ====
abbrev S8448x1024 : Shape := ⟨2, ![8448, 1024]⟩
abbrev S1024x5632 : Shape := ⟨2, ![1024, 5632]⟩
abbrev S8448x5632 : Shape := ⟨2, ![8448, 5632]⟩
abbrev S8448x2816 : Shape := ⟨2, ![8448, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5632, .bf16⟩
  | .hbm, ⟨2, _⟩ => ⟨S8448x1024, .f32⟩
  | .hbm, ⟨3, _⟩ => ⟨S1024x5632, .f32⟩
  | .hbm, ⟨4, _⟩ => ⟨S8448x5632, .f32⟩
  | .hbm, ⟨5, _⟩ => ⟨S8448x2816, .f32⟩
  | .hbm, ⟨6, _⟩ => ⟨S8448x2816, .f32⟩
  | .hbm, ⟨7, _⟩ => ⟨S8448x2816, .bf16⟩
  | .hbm, ⟨8, _⟩ => ⟨S8448x2816, .bf16⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x2816, .f32⟩
  | .hbm, ⟨16, _⟩ => ⟨S8448x2816, .f32⟩
  | .hbm, ⟨17, _⟩ => ⟨S8448x2816, .f32⟩
  | .hbm, ⟨18, _⟩ => ⟨S8448x2816, .f32⟩
  | .hbm, ⟨19, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== HalfLayer.lean ====
abbrev S8448x2816 : Shape := ⟨2, ![8448, 2816]⟩
abbrev S2816x1024 : Shape := ⟨2, ![2816, 1024]⟩
abbrev S8448x1024 : Shape := ⟨2, ![8448, 1024]⟩
abbrev S1x1024 : Shape := ⟨2, ![1, 1024]⟩
abbrev S768x2816 : Shape := ⟨2, ![768, 2816]⟩
abbrev S768x1024 : Shape := ⟨2, ![768, 1024]⟩
abbrev S768 : Shape := ⟨1, ![768]⟩
abbrev S768x1 : Shape := ⟨2, ![768, 1]⟩

abbrev nBuf : Space → Nat
  | .hbm => 6
  | .vmem => 10
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .bf16⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== HalfLayerReferenceIdeal.lean ====
abbrev S8448x2816 : Shape := ⟨2, ![8448, 2816]⟩
abbrev S2816x1024 : Shape := ⟨2, ![2816, 1024]⟩
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .hbm, ⟨3, _⟩ => ⟨S1x1024, .f32⟩
  | .hbm, ⟨4, _⟩ => ⟨S8448x2816, .f32⟩
  | .hbm, ⟨5, _⟩ => ⟨S2816x1024, .f32⟩
  | .hbm, ⟨6, _⟩ => ⟨S8448x1024, .f32⟩
  | .hbm, ⟨7, _⟩ => ⟨S_, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S8448x1024, .f32⟩
  | .hbm, ⟨23, _⟩ => ⟨S8448x1024, .f32⟩
  | .hbm, ⟨24, _⟩ => ⟨S1024, .f32⟩
  | .hbm, ⟨25, _⟩ => ⟨S1x1024, .f32⟩
  | .hbm, ⟨26, _⟩ => ⟨S8448x1024, .f32⟩
  | .hbm, ⟨27, _⟩ => ⟨S8448x1024, .f32⟩
  | .hbm, ⟨28, _⟩ => ⟨S8448x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== AttnForward.lean ====
abbrev S8448x1024 : Shape := ⟨2, ![8448, 1024]⟩
abbrev S8448x2048 : Shape := ⟨2, ![8448, 2048]⟩
abbrev S11x768x8x2x128 : Shape := ⟨5, ![11, 768, 8, 2, 128]⟩
abbrev S11x768x8x1x128 : Shape := ⟨5, ![11, 768, 8, 1, 128]⟩
abbrev S11x768x8x128 : Shape := ⟨4, ![11, 768, 8, 128]⟩
abbrev S8x11x128x768 : Shape := ⟨4, ![8, 11, 128, 768]⟩
abbrev S8x11x1x768 : Shape := ⟨4, ![8, 11, 1, 768]⟩
abbrev S768x128 : Shape := ⟨2, ![768, 128]⟩
abbrev S8448x128 : Shape := ⟨2, ![8448, 128]⟩
abbrev S1x11x128x768 : Shape := ⟨4, ![1, 11, 128, 768]⟩
abbrev S1x1x1x768 : Shape := ⟨4, ![1, 1, 1, 768]⟩
abbrev S1x768 : Shape := ⟨2, ![1, 768]⟩
abbrev S128x768 : Shape := ⟨2, ![128, 768]⟩
abbrev S768x768 : Shape := ⟨2, ![768, 768]⟩
abbrev S768 : Shape := ⟨1, ![768]⟩
abbrev S1x1x128x768 : Shape := ⟨4, ![1, 1, 128, 768]⟩
abbrev S768x1 : Shape := ⟨2, ![768, 1]⟩

abbrev nBuf : Space → Nat
  | .hbm => 8
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S11x768x8x2x128, .bf16⟩
  | .hbm, ⟨3, _⟩ => ⟨S11x768x8x1x128, .bf16⟩
  | .hbm, ⟨4, _⟩ => ⟨S11x768x8x128, .bf16⟩
  | .hbm, ⟨5, _⟩ => ⟨S8x11x128x768, .bf16⟩
  | .hbm, ⟨6, _⟩ => ⟨S8448x1024, .bf16⟩
  | .hbm, ⟨7, _⟩ => ⟨S8x11x1x768, .f32⟩
  | .local _ .vmem, ⟨0, _⟩ => ⟨S768x128, .bf16⟩
  | .local _ .vmem, ⟨1, _⟩ => ⟨S768x128, .bf16⟩
  | .local _ .vmem, ⟨2, _⟩ => ⟨S8448x128, .bf16⟩
  | .local _ .vmem, ⟨3, _⟩ => ⟨S8448x128, .bf16⟩
  | .local _ .vmem, ⟨4, _⟩ => ⟨S1x11x128x768, .bf16⟩
  | .local _ .vmem, ⟨5, _⟩ => ⟨S1x11x128x768, .bf16⟩
  | .local _ .vmem, ⟨6, _⟩ => ⟨S768x128, .bf16⟩
  | .local _ .vmem, ⟨7, _⟩ => ⟨S768x128, .bf16⟩
  | .local _ .vmem, ⟨8, _⟩ => ⟨S1x1x1x768, .f32⟩
  | .local _ .vmem, ⟨9, _⟩ => ⟨S1x1x1x768, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 11], ![false, false]⟩

@[reducible] def k0_t1_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_3 : BitVec 32 := 1#32
  ⟨c0_i32, v12, c1_i32_3⟩
def k0_mult1 (i : grid0.Coords) (k0_t1 : Fin (k0_t1_loop i).trips) : BitVec 32 :=
  let c0_i32 : BitVec 32 := 0#32
  let c1_i32_3 : BitVec 32 := 1#32
  let arg7 : BitVec 32 := Scf.iv c0_i32 c1_i32_3 k0_t1
  let c768_i32_26 : BitVec 32 := 768#32
  let v67 : BitVec 32 := Scalar.muli arg7 c768_i32_26
  v67
def k0_off1 (i : grid0.Coords) (k0_t1 : Fin (k0_t1_loop i).trips) : Fin 2 → Nat :=
  let c0_i32 : BitVec 32 := 0#32
  let c1_i32_3 : BitVec 32 := 1#32
  let arg7 : BitVec 32 := Scf.iv c0_i32 c1_i32_3 k0_t1
  let c768_i32_26 : BitVec 32 := 768#32
  let v67 : BitVec 32 := Scalar.muli arg7 c768_i32_26
  let v68 : BitVec 32 := v67
  let v69 : Index := Scalar.indexCast v68
  let c0_27 : Index := 0#32
  ![v69.toNat, 0]
def k0_off2 (i : grid0.Coords) (k0_t1 : Fin (k0_t1_loop i).trips) : Fin 4 → Nat :=
  let c0_33 : Index := 0#32
  let c0_i32 : BitVec 32 := 0#32
  let c1_i32_3 : BitVec 32 := 1#32
  let arg7 : BitVec 32 := Scf.iv c0_i32 c1_i32_3 k0_t1
  let v90 : Index := Scalar.indexCast arg7
  let c0_34 : Index := 0#32
  let c0_35 : Index := 0#32
  ![0, v90.toNat, 0, 0]
@[reducible] def k0_t2_loop (i : grid0.Coords) : Scf.Loop 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let v9 : BitVec 32 := Scalar.addi c0_i32 v8
  let c1_i32_4 : BitVec 32 := 1#32
  ⟨v12, v9, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg7 : BitVec 32 := Scf.iv v12 c1_i32_4 k0_t2
  let c768_i32_26 : BitVec 32 := 768#32
  let v67 : BitVec 32 := Scalar.muli arg7 c768_i32_26
  v67
def k0_off3 (i : grid0.Coords) (k0_t2 : Fin (k0_t2_loop i).trips) : Fin 2 → Nat :=
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg7 : BitVec 32 := Scf.iv v12 c1_i32_4 k0_t2
  let c768_i32_26 : BitVec 32 := 768#32
  let v67 : BitVec 32 := Scalar.muli arg7 c768_i32_26
  let v68 : BitVec 32 := v67
  let v69 : Index := Scalar.indexCast v68
  let c0_27 : Index := 0#32
  ![v69.toNat, 0]
def k0_off4 (i : grid0.Coords) (k0_t2 : Fin (k0_t2_loop i).trips) : Fin 4 → Nat :=
  let c0_33 : Index := 0#32
  let c0_i32 : BitVec 32 := 0#32
  let arg1 : BitVec 32 := BitVec.ofNat 32 (i 1).val
  let v8 : BitVec 32 := Scalar.subi arg1 c0_i32
  let c1_i32 : BitVec 32 := 1#32
  let v10 : BitVec 32 := Scalar.divsi v8 c1_i32
  let v11 : BitVec 32 := Scalar.muli v10 c1_i32
  let v12 : BitVec 32 := Scalar.addi c0_i32 v11
  let c1_i32_4 : BitVec 32 := 1#32
  let arg7 : BitVec 32 := Scf.iv v12 c1_i32_4 k0_t2
  let v90 : Index := Scalar.indexCast arg7
  let c0_34 : Index := 0#32
  let c0_35 : Index := 0#32
  ![0, v90.toNat, 0, 0]
def k0_mult3 (i : grid0.Coords) : BitVec 32 :=
  let arg1 : BitVec 32 := BitVec.ofNat 32 (i 1).val
  let c768_i32_5 : BitVec 32 := 768#32
  let v15 : BitVec 32 := Scalar.muli arg1 c768_i32_5
  v15
def k0_off5 (i : grid0.Coords) : Fin 2 → Nat :=
  let arg1 : BitVec 32 := BitVec.ofNat 32 (i 1).val
  let c768_i32_5 : BitVec 32 := 768#32
  let v15 : BitVec 32 := Scalar.muli arg1 c768_i32_5
  let v16 : BitVec 32 := v15
  let v17 : Index := Scalar.indexCast v16
  let c0_6 : Index := 0#32
  ![v17.toNat, 0]
def k0_off6 (i : grid0.Coords) : Fin 4 → Nat :=
  let c0_14 : Index := 0#32
  let arg1 : BitVec 32 := BitVec.ofNat 32 (i 1).val
  let v47 : Index := Scalar.indexCast arg1
  let c0_15 : Index := 0#32
  let c0_16 : Index := 0#32
  ![0, v47.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x11x128x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnForwardIdeal.lean ====
variable {F : FTy → Type} [FloatOps F] [Named F]
def κ : String → Option EReal := fun
  | "log2e" => some (((Real.log 2)⁻¹ : ℝ) : EReal)
  | "mask" => some ⊥
  | "scale_log2e" => some (((3424635 / 33554432) * (Real.log 2)⁻¹ : ℝ) : EReal)
  | _ => none
-- ==== AttnForwardReferenceIdeal.lean ====
abbrev S8448x1024 : Shape := ⟨2, ![8448, 1024]⟩
abbrev S8448x2048 : Shape := ⟨2, ![8448, 2048]⟩
abbrev S8448x8x128 : Shape := ⟨3, ![8448, 8, 128]⟩
abbrev S8x8448x128 : Shape := ⟨3, ![8, 8448, 128]⟩
abbrev S8448x8x2x128 : Shape := ⟨4, ![8448, 8, 2, 128]⟩
abbrev S8x2x8448x128 : Shape := ⟨4, ![8, 2, 8448, 128]⟩
abbrev S_ : Shape := ⟨0, ![]⟩
abbrev S8x1x8448x128 : Shape := ⟨4, ![8, 1, 8448, 128]⟩
abbrev S8x8448x8448 : Shape := ⟨3, ![8, 8448, 8448]⟩
abbrev S8448 : Shape := ⟨1, ![8448]⟩
abbrev S1x8448 : Shape := ⟨2, ![1, 8448]⟩
abbrev S8448x1 : Shape := ⟨2, ![8448, 1]⟩
abbrev S8448x8448 : Shape := ⟨2, ![8448, 8448]⟩
abbrev S8x8448 : Shape := ⟨2, ![8, 8448]⟩
abbrev S8x8448x1 : Shape := ⟨3, ![8, 8448, 1]⟩
abbrev S8x11x1x768 : Shape := ⟨4, ![8, 11, 1, 768]⟩

abbrev nBuf : Space → Nat
  | .hbm => 50
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x2048, .bf16⟩
  | .hbm, ⟨2, _⟩ => ⟨S8448x1024, .f32⟩
  | .hbm, ⟨3, _⟩ => ⟨S8448x8x128, .f32⟩
  | .hbm, ⟨4, _⟩ => ⟨S8x8448x128, .f32⟩
  | .hbm, ⟨5, _⟩ => ⟨S8448x2048, .f32⟩
  | .hbm, ⟨6, _⟩ => ⟨S8448x8x2x128, .f32⟩
  | .hbm, ⟨7, _⟩ => ⟨S8x2x8448x128, .f32⟩
  | .hbm, ⟨8, _⟩ => ⟨S_, .f32⟩
  | .hbm, ⟨9, _⟩ => ⟨S8x8448x128, .f32⟩
  | .hbm, ⟨10, _⟩ => ⟨S8x8448x128, .f32⟩
  | .hbm, ⟨11, _⟩ => ⟨S8x1x8448x128, .f32⟩
  | .hbm, ⟨12, _⟩ => ⟨S8x8448x128, .f32⟩
  | .hbm, ⟨13, _⟩ => ⟨S8x8448x8448, .f32⟩
  | .hbm, ⟨14, _⟩ => ⟨S8448, .i32⟩
  | .hbm, ⟨15, _⟩ => ⟨S1x8448, .i32⟩
  | .hbm, ⟨16, _⟩ => ⟨S8448x1, .i32⟩
  | .hbm, ⟨17, _⟩ => ⟨S8448x8448, .i32⟩
  | .hbm, ⟨18, _⟩ => ⟨S8448x8448, .i32⟩
  | .hbm, ⟨19, _⟩ => ⟨S8448x8448, .i1⟩
  | .hbm, ⟨20, _⟩ => ⟨S_, .f32⟩
  | .hbm, ⟨21, _⟩ => ⟨S_, .f32⟩
  | .hbm, ⟨22, _⟩ => ⟨S8x8448x8448, .i1⟩
  | .hbm, ⟨23, _⟩ => ⟨S8x8448x8448, .f32⟩
  | .hbm, ⟨24, _⟩ => ⟨S8x8448x8448, .f32⟩
  | .hbm, ⟨25, _⟩ => ⟨S_, .f32⟩
  | .hbm, ⟨26, _⟩ => ⟨S8x8448, .f32⟩
  | .hbm, ⟨27, _⟩ => ⟨S8x8448x1, .f32⟩
  | .hbm, ⟨28, _⟩ => ⟨S8x8448x8448, .f32⟩
  | .hbm, ⟨29, _⟩ => ⟨S8x8448x8448, .f32⟩
  | .hbm, ⟨30, _⟩ => ⟨S8x8448x8448, .f32⟩
  | .hbm, ⟨31, _⟩ => ⟨S_, .f32⟩
  | .hbm, ⟨32, _⟩ => ⟨S8x8448, .f32⟩
  | .hbm, ⟨33, _⟩ => ⟨S8x8448x1, .f32⟩
  | .hbm, ⟨34, _⟩ => ⟨S8x8448x8448, .f32⟩
  | .hbm, ⟨35, _⟩ => ⟨S8x8448x8448, .f32⟩
  | .hbm, ⟨36, _⟩ => ⟨S8x1x8448x128, .f32⟩
  | .hbm, ⟨37, _⟩ => ⟨S8x8448x128, .f32⟩
  | .hbm, ⟨38, _⟩ => ⟨S8x8448x128, .f32⟩
  | .hbm, ⟨39, _⟩ => ⟨S8448x8x128, .f32⟩
  | .hbm, ⟨40, _⟩ => ⟨S8448x1024, .f32⟩
  | .hbm, ⟨41, _⟩ => ⟨S8448x1024, .bf16⟩
  | .hbm, ⟨42, _⟩ => ⟨S8x8448, .f32⟩
  | .hbm, ⟨43, _⟩ => ⟨S8x8448, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S8x8448, .f32⟩
  | .hbm, ⟨48, _⟩ => ⟨S8x8448, .f32⟩
  | .hbm, ⟨49, _⟩ => ⟨S8x11x1x768, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== MixColumns.lean ====
abbrev S8448x1024 : Shape := ⟨2, ![8448, 1024]⟩
abbrev S1024x5120 : Shape := ⟨2, ![1024, 5120]⟩
abbrev S8448x3072 : Shape := ⟨2, ![8448, 3072]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x5120, .bf16⟩
  | .hbm, ⟨2, _⟩ => ⟨S8448x3072, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MixColumnsReferenceIdeal.lean ====
abbrev S8448x1024 : Shape := ⟨2, ![8448, 1024]⟩
abbrev S1024x5120 : Shape := ⟨2, ![1024, 5120]⟩
abbrev S8448x5120 : Shape := ⟨2, ![8448, 5120]⟩
abbrev S8448x3072 : Shape := ⟨2, ![8448, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5120, .bf16⟩
  | .hbm, ⟨2, _⟩ => ⟨S8448x1024, .f32⟩
  | .hbm, ⟨3, _⟩ => ⟨S1024x5120, .f32⟩
  | .hbm, ⟨4, _⟩ => ⟨S8448x5120, .f32⟩
  | .hbm, ⟨5, _⟩ => ⟨S8448x3072, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateColumns.lean ====
abbrev S8448x1024 : Shape := ⟨2, ![8448, 1024]⟩
abbrev S1024x5120 : Shape := ⟨2, ![1024, 5120]⟩
abbrev S8448x2048 : Shape := ⟨2, ![8448, 2048]⟩
abbrev S768x1024 : Shape := ⟨2, ![768, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x5120, .bf16⟩
  | .hbm, ⟨2, _⟩ => ⟨S8448x2048, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GateColumnsReferenceIdeal.lean ====
abbrev S8448x1024 : Shape := ⟨2, ![8448, 1024]⟩
abbrev S1024x5120 : Shape := ⟨2, ![1024, 5120]⟩
abbrev S8448x5120 : Shape := ⟨2, ![8448, 5120]⟩
abbrev S8448x2048 : Shape := ⟨2, ![8448, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x5120, .bf16⟩
  | .hbm, ⟨2, _⟩ => ⟨S8448x1024, .f32⟩
  | .hbm, ⟨3, _⟩ => ⟨S1024x5120, .f32⟩
  | .hbm, ⟨4, _⟩ => ⟨S8448x5120, .f32⟩
  | .hbm, ⟨5, _⟩ => ⟨S8448x2048, .f32⟩
  | .hbm, ⟨6, _⟩ => ⟨S8448x2048, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Merge.lean ====
abbrev S8448x1024 : Shape := ⟨2, ![8448, 1024]⟩
abbrev S8448x512 : Shape := ⟨2, ![8448, 512]⟩
abbrev S1024x1024 : Shape := ⟨2, ![1024, 1024]⟩
abbrev S512x1024 : Shape := ⟨2, ![512, 1024]⟩
abbrev S8448x2048 : Shape := ⟨2, ![8448, 2048]⟩
abbrev S768x1024 : Shape := ⟨2, ![768, 1024]⟩
abbrev S768x512 : Shape := ⟨2, ![768, 512]⟩
abbrev S1024x512 : Shape := ⟨2, ![1024, 512]⟩
abbrev S512x512 : Shape := ⟨2, ![512, 512]⟩

abbrev nBuf : Space → Nat
  | .hbm => 8
  | .vmem => 18
  | .smem => 0
  | _ => 0

abbrev bufTy : (tb : Table) → Fin (tcTables nBuf tb) → BufTy
  | .hbm, ⟨0, _⟩ => ⟨S8448x1024, .bf16⟩
  | .hbm, ⟨1, _⟩ => ⟨S8448x512, .bf16⟩
  | .hbm, ⟨2, _⟩ => ⟨S1024x1024, .bf16⟩
  | .hbm, ⟨3, _⟩ => ⟨S512x1024, .bf16⟩
  | .hbm, ⟨4, _⟩ => ⟨S8448x2048, .bf16⟩
  | .hbm, ⟨5, _⟩ => ⟨S8448x1024, .bf16⟩
  | .hbm, ⟨6, _⟩ => ⟨S8448x1024, .bf16⟩
  | .hbm, ⟨7, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S768x512, .bf16⟩
  | .local _ .vmem, ⟨3, _⟩ => ⟨S768x512, .bf16⟩
  | .local _ .vmem, ⟨4, _⟩ => ⟨S1024x512, .bf16⟩
  | .local _ .vmem, ⟨5, _⟩ => ⟨S1024x512, .bf16⟩
  | .local _ .vmem, ⟨6, _⟩ => ⟨S512x512, .bf16⟩
  | .local _ .vmem, ⟨7, _⟩ => ⟨S512x512, .bf16⟩
  | .local _ .vmem, ⟨8, _⟩ => ⟨S768x512, .bf16⟩
  | .local _ .vmem, ⟨9, _⟩ => ⟨S768x512, .bf16⟩
  | .local _ .vmem, ⟨10, _⟩ => ⟨S768x512, .bf16⟩
  | .local _ .vmem, ⟨11, _⟩ => ⟨S768x512, .bf16⟩
  | .local _ .vmem, ⟨12, _⟩ => ⟨S768x512, .bf16⟩
  | .local _ .vmem, ⟨13, _⟩ => ⟨S768x512, .bf16⟩
  | .local _ .vmem, ⟨14, _⟩ => ⟨S768x512, .bf16⟩
  | .local _ .vmem, ⟨15, _⟩ => ⟨S768x512, .bf16⟩
  | .local _ .vmem, ⟨16, _⟩ => ⟨S768x512, .bf16⟩
  | .local _ .vmem, ⟨17, _⟩ => ⟨S768x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S768x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S768x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S768x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MergeReferenceIdeal.lean ====
abbrev S8448x1024 : Shape := ⟨2, ![8448, 1024]⟩
abbrev S8448x512 : Shape := ⟨2, ![8448, 512]⟩
abbrev S1024x1024 : Shape := ⟨2, ![1024, 1024]⟩
abbrev S512x1024 : Shape := ⟨2, ![512, 1024]⟩
abbrev S8448x2048 : Shape := ⟨2, ![8448, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x512, .bf16⟩
  | .hbm, ⟨2, _⟩ => ⟨S1024x1024, .bf16⟩
  | .hbm, ⟨3, _⟩ => ⟨S512x1024, .bf16⟩
  | .hbm, ⟨4, _⟩ => ⟨S8448x2048, .bf16⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S1024x1024, .f32⟩
  | .hbm, ⟨10, _⟩ => ⟨S8448x1024, .f32⟩
  | .hbm, ⟨11, _⟩ => ⟨S8448x512, .f32⟩
  | .hbm, ⟨12, _⟩ => ⟨S512x1024, .f32⟩
  | .hbm, ⟨13, _⟩ => ⟨S8448x1024, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S_, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S8448x1024, .f32⟩
  | .hbm, ⟨32, _⟩ => ⟨S8448x1024, .f32⟩
  | .hbm, ⟨33, _⟩ => ⟨S8448x1024, .bf16⟩
  | .hbm, ⟨34, _⟩ => ⟨S8448x1024, .bf16⟩
  | .hbm, ⟨35, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== MixOut.lean ====
abbrev S8448x1024 : Shape := ⟨2, ![8448, 1024]⟩
abbrev S1024x1024 : Shape := ⟨2, ![1024, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S1x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixOutReferenceIdeal.lean ====
abbrev S8448x1024 : Shape := ⟨2, ![8448, 1024]⟩
abbrev S1024x1024 : Shape := ⟨2, ![1024, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 26
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1x1024, .f32⟩
  | .hbm, ⟨4, _⟩ => ⟨S8448x1024, .f32⟩
  | .hbm, ⟨5, _⟩ => ⟨S1024x1024, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S_, .f32⟩
  | .hbm, ⟨10, _⟩ => ⟨S8448, .f32⟩
  | .hbm, ⟨11, _⟩ => ⟨S8448x1, .f32⟩
  | .hbm, ⟨12, _⟩ => ⟨S_, .f32⟩
  | .hbm, ⟨13, _⟩ => ⟨S8448x1, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== OutWeightGrad.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S1024x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .f32⟩
  | .local _ .vmem, ⟨3, _⟩ => ⟨S768x1024, .f32⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWeightGradReferenceIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .f32⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnOutGrad.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S1024x1024, .bf16⟩
  | .hbm, ⟨3, _⟩ => ⟨S8448x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnOutGradReferenceIdeal.lean ====
abbrev S8448x1024 : Shape := ⟨2, ![8448, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S_, .f32⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S8448x1024, .f32⟩
  | .hbm, ⟨8, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RecOutGrad.lean ====
abbrev S8448x1024 : Shape := ⟨2, ![8448, 1024]⟩
abbrev S512x1024 : Shape := ⟨2, ![512, 1024]⟩
abbrev S1024x512 : Shape := ⟨2, ![1024, 512]⟩
abbrev S8448x512 : Shape := ⟨2, ![8448, 512]⟩
abbrev S768x1024 : Shape := ⟨2, ![768, 1024]⟩
abbrev S768x512 : Shape := ⟨2, ![768, 512]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S1024x512, .bf16⟩
  | .hbm, ⟨3, _⟩ => ⟨S8448x512, .bf16⟩
  | .local _ .vmem, ⟨0, _⟩ => ⟨S768x1024, .bf16⟩
  | .local _ .vmem, ⟨1, _⟩ => ⟨S768x1024, .bf16⟩
  | .local _ .vmem, ⟨2, _⟩ => ⟨S1024x512, .bf16⟩
  | .local _ .vmem, ⟨3, _⟩ => ⟨S768x512, .bf16⟩
  | .local _ .vmem, ⟨4, _⟩ => ⟨S768x512, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  ![arg1.toNat, v0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RecOutGradReferenceIdeal.lean ====
abbrev S8448x1024 : Shape := ⟨2, ![8448, 1024]⟩
abbrev S512x1024 : Shape := ⟨2, ![512, 1024]⟩
abbrev S_ : Shape := ⟨0, ![]⟩
abbrev S8448x512 : Shape := ⟨2, ![8448, 512]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S512x1024, .bf16⟩
  | .hbm, ⟨2, _⟩ => ⟨S_, .f32⟩
  | .hbm, ⟨3, _⟩ => ⟨S8448x512, .f32⟩
  | .hbm, ⟨4, _⟩ => ⟨S512x1024, .f32⟩
  | .hbm, ⟨5, _⟩ => ⟨S8448x1024, .f32⟩
  | .hbm, ⟨6, _⟩ => ⟨S8448x1024, .f32⟩
  | .hbm, ⟨7, _⟩ => ⟨S8448x512, .f32⟩
  | .hbm, ⟨8, _⟩ => ⟨S8448x512, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnProjGrad.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== AttnProjGradReferenceIdeal.lean ====
abbrev S8448x1024 : Shape := ⟨2, ![8448, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S_, .f32⟩
  | .hbm, ⟨3, _⟩ => ⟨S1024x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== RecProjGrad.lean ====
abbrev S8448x512 : Shape := ⟨2, ![8448, 512]⟩
abbrev S8448x1024 : Shape := ⟨2, ![8448, 1024]⟩
abbrev S512x1024 : Shape := ⟨2, ![512, 1024]⟩
abbrev S768x512 : Shape := ⟨2, ![768, 512]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S512x1024, .bf16⟩
  | .local _ .vmem, ⟨0, _⟩ => ⟨S768x512, .bf16⟩
  | .local _ .vmem, ⟨1, _⟩ => ⟨S768x512, .bf16⟩
  | .local _ .vmem, ⟨2, _⟩ => ⟨S768x1024, .bf16⟩
  | .local _ .vmem, ⟨3, _⟩ => ⟨S768x1024, .bf16⟩
  | .local _ .vmem, ⟨4, _⟩ => ⟨S512x1024, .bf16⟩
  | .local _ .vmem, ⟨5, _⟩ => ⟨S512x1024, .f32⟩
  | _, _ => ⟨S8448x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RecProjGradReferenceIdeal.lean ====
abbrev S8448x512 : Shape := ⟨2, ![8448, 512]⟩
abbrev S8448x1024 : Shape := ⟨2, ![8448, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8448x512, .bf16⟩
  | .hbm, ⟨1, _⟩ => ⟨S8448x1024, .bf16⟩
  | .hbm, ⟨2, _⟩ => ⟨S_, .f32⟩
  | .hbm, ⟨3, _⟩ => ⟨S512x1024, .f32⟩
  | .hbm, ⟨4, _⟩ => ⟨S8448x512, .f32⟩
  | .hbm, ⟨5, _⟩ => ⟨S8448x1024, .f32⟩
  | .hbm, ⟨6, _⟩ => ⟨S8448x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S8448x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NormGrad.lean ====
abbrev S8448x1024 : Shape := ⟨2, ![8448, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S1x1024, .f32⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | .local _ .vmem, ⟨7, _⟩ => ⟨S768x1024, .f32⟩
  | .local _ .vmem, ⟨8, _⟩ => ⟨S768x1024, .f32⟩
  | .local _ .vmem, ⟨9, _⟩ => ⟨S1x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormGradReferenceIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .f32⟩
  | .hbm, ⟨3, _⟩ => ⟨S8448x1024, .f32⟩
  | .hbm, ⟨4, _⟩ => ⟨S8448x1024, .f32⟩
  | .hbm, ⟨5, _⟩ => ⟨S_, .f32⟩
  | .hbm, ⟨6, _⟩ => ⟨S8448, .f32⟩
  | .hbm, ⟨7, _⟩ => ⟨S8448x1, .f32⟩
  | .hbm, ⟨8, _⟩ => ⟨S_, .f32⟩
  | .hbm, ⟨9, _⟩ => ⟨S8448x1, .f32⟩
  | .hbm, ⟨10, _⟩ => ⟨S8448x1, .f32⟩
  | .hbm, ⟨11, _⟩ => ⟨S_, .f32⟩
  | .hbm, ⟨12, _⟩ => ⟨S8448x1, .f32⟩
  | .hbm, ⟨13, _⟩ => ⟨S8448x1, .f32⟩
  | .hbm, ⟨14, _⟩ => ⟨S8448x1, .f32⟩
  | .hbm, ⟨15, _⟩ => ⟨S8448x1, .f32⟩
  | .hbm, ⟨16, _⟩ => ⟨S_, .f32⟩
  | .hbm, ⟨17, _⟩ => ⟨S8448x1, .f32⟩
  | .hbm, ⟨18, _⟩ => ⟨S8448x1, .f32⟩
  | .hbm, ⟨19, _⟩ => ⟨S8448x1024, .f32⟩
  | .hbm, ⟨20, _⟩ => ⟨S8448x1024, .f32⟩
  | .hbm, ⟨21, _⟩ => ⟨S1024, .f32⟩
  | .hbm, ⟨22, _⟩ => ⟨S1x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8448x1024, .f32⟩
  | .hbm, ⟨35, _⟩ => ⟨S_, .f32⟩
  | .hbm, ⟨36, _⟩ => ⟨S8448, .f32⟩
  | .hbm, ⟨37, _⟩ => ⟨S8448x1, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1, .f32⟩
  | .hbm, ⟨42, _⟩ => ⟨S_, .f32⟩
  | .hbm, ⟨43, _⟩ => ⟨S8448x1, .f32⟩
  | .hbm, ⟨44, _⟩ => ⟨S8448x1, .f32⟩
  | .hbm, ⟨45, _⟩ => ⟨S_, .f32⟩
  | .hbm, ⟨46, _⟩ => ⟨S8448, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S8448x1024, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FirstNorm.lean ====
abbrev S8448x1024 : Shape := ⟨2, ![8448, 1024]⟩
abbrev S1x1024 : Shape := ⟨2, ![1, 1024]⟩
abbrev S768x1024 : Shape := ⟨2, ![768, 1024]⟩
abbrev S768 : Shape := ⟨1, ![768]⟩
abbrev S768x1 : Shape := ⟨2, ![768, 1]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .bf16⟩
  | .local _ .vmem, ⟨0, _⟩ => ⟨S768x1024, .f32⟩
  | .local _ .vmem, ⟨1, _⟩ => ⟨S768x1024, .f32⟩
  | .local _ .vmem, ⟨2, _⟩ => ⟨S1x1024, .f32⟩
  | .local _ .vmem, ⟨3, _⟩ => ⟨S768x1024, .bf16⟩
  | .local _ .vmem, ⟨4, _⟩ => ⟨S768x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FirstNormReferenceIdeal.lean ====
abbrev S8448x1024 : Shape := ⟨2, ![8448, 1024]⟩
abbrev S1x1024 : Shape := ⟨2, ![1, 1024]⟩
abbrev S_ : Shape := ⟨0, ![]⟩
abbrev S8448 : Shape := ⟨1, ![8448]⟩
abbrev S8448x1 : Shape := ⟨2, ![8448, 1]⟩
abbrev S1024 : Shape := ⟨1, ![1024]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S1x1024, .f32⟩
  | .hbm, ⟨2, _⟩ => ⟨S8448x1024, .f32⟩
  | .hbm, ⟨3, _⟩ => ⟨S_, .f32⟩
  | .hbm, ⟨4, _⟩ => ⟨S8448, .f32⟩
  | .hbm, ⟨5, _⟩ => ⟨S8448x1, .f32⟩
  | .hbm, ⟨6, _⟩ => ⟨S_, .f32⟩
  | .hbm, ⟨7, _⟩ => ⟨S8448x1, .f32⟩
  | .hbm, ⟨8, _⟩ => ⟨S8448x1, .f32⟩
  | .hbm, ⟨9, _⟩ => ⟨S_, .f32⟩
  | .hbm, ⟨10, _⟩ => ⟨S8448x1, .f32⟩
  | .hbm, ⟨11, _⟩ => ⟨S8448x1, .f32⟩
  | .hbm, ⟨12, _⟩ => ⟨S8448x1, .f32⟩
  | .hbm, ⟨13, _⟩ => ⟨S8448x1024, .f32⟩
  | .hbm, ⟨14, _⟩ => ⟨S8448x1024, .f32⟩
  | .hbm, ⟨15, _⟩ => ⟨S1024, .f32⟩
  | .hbm, ⟨16, _⟩ => ⟨S1x1024, .f32⟩
  | .hbm, ⟨17, _⟩ => ⟨S8448x1024, .f32⟩
  | .hbm, ⟨18, _⟩ => ⟨S8448x1024, .f32⟩
  | .hbm, ⟨19, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.PlainBody.lean ====
/- One grid point of the kernel as printed, over any float representation.  Nothing is said of what it computes: the six
   staged inputs come back as they were, and the two results' buffers and the scratch row of shares hold something. -/
module

public import proofs.«01_k».proof.Proof.Gen.Kernel.Frame
public import proofs.«01_k».proof.Proof.Gen.Kernel.Skeleton
public import proofs.«01_k».proof.Proof.Gen.Kernel.Loops

@[expose] public section

set_option maxRecDepth 16384

noncomputable section

namespace Cert.Kernel.Plain

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The test of the body's branch: the grid point is the first of its head. -/
abbrev IsFirst (i : grid0.Coords) : Prop :=
  (Scalar.cmpi .ne (Scalar.extui (Scalar.cmpi .eq (BitVec.ofNat 32 (i 1).val) 0#32)) 0#32) = 1#1

/-- What a point is given and gives back: the inputs' buffers at their contents, the rest at anything. -/
def held (c : Dev nD)
    (arg2 : Memref sig .tc .vmem S8448x128 .bf16) (harg2 : arg2.IsWhole)
    (arg3 : Memref sig .tc .vmem S8448x128 .bf16) (harg3 : arg3.IsWhole)
    (arg4 : Memref sig .tc .vmem S8448x128 .bf16) (harg4 : arg4.IsWhole)
    (arg5 : Memref sig .tc .vmem S768x128 .bf16) (harg5 : arg5.IsWhole)
    (arg6 : Memref sig .tc .vmem S768x128 .bf16) (harg6 : arg6.IsWhole)
    (arg7 : Memref sig .tc .vmem S1x11x1x768 .f32) (harg7 : arg7.IsWhole)
    (arg8 : Memref sig .tc .vmem S8448x128 .f32) (harg8 : arg8.IsWhole)
    (arg9 : Memref sig .tc .vmem S768x256 .bf16) (harg9 : arg9.IsWhole)
    (arg10 : Memref sig .tc .vmem S11x1x768 .f32) (harg10 : arg10.IsWhole)
    (x0 : Vec F S8448x128 .bf16)
    (x1 : Vec F S8448x128 .bf16)
    (x2 : Vec F S8448x128 .bf16)
    (x3 : Vec F S768x128 .bf16)
    (x4 : Vec F S768x128 .bf16)
    (x5 : Vec F S1x11x1x768 .f32) : sProp 𝕄 :=
  iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ (∃ d, owns (c : Thread nD τ) arg8 fullShare d)
      ∗ (∃ d, owns (c : Thread nD τ) arg9 fullShare d)
      ∗ (∃ d, owns (c : Thread nD τ) arg10 fullShare d))

set_option maxHeartbeats 2000000 in
/-- The body at the first point of a head. -/
theorem body_first (c : Dev nD) (i : grid0.Coords)
    (arg2 : Memref sig .tc .vmem S8448x128 .bf16) (harg2 : arg2.IsWhole)
    (arg3 : Memref sig .tc .vmem S8448x128 .bf16) (harg3 : arg3.IsWhole)
    (arg4 : Memref sig .tc .vmem S8448x128 .bf16) (harg4 : arg4.IsWhole)
    (arg5 : Memref sig .tc .vmem S768x128 .bf16) (harg5 : arg5.IsWhole)
    (arg6 : Memref sig .tc .vmem S768x128 .bf16) (harg6 : arg6.IsWhole)
    (arg7 : Memref sig .tc .vmem S1x11x1x768 .f32) (harg7 : arg7.IsWhole)
    (arg8 : Memref sig .tc .vmem S8448x128 .f32) (harg8 : arg8.IsWhole)
    (arg9 : Memref sig .tc .vmem S768x256 .bf16) (harg9 : arg9.IsWhole)
    (arg10 : Memref sig .tc .vmem S11x1x768 .f32) (harg10 : arg10.IsWhole)
    (x0 : Vec F S8448x128 .bf16)
    (x1 : Vec F S8448x128 .bf16)
    (x2 : Vec F S8448x128 .bf16)
    (x3 : Vec F S768x128 .bf16)
    (x4 : Vec F S768x128 .bf16)
    (x5 : Vec F S1x11x1x768 .f32)
    (hfirst : IsFirst i) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ (∃ d, owns (c : Thread nD τ) arg8 fullShare d)
      ∗ (∃ d, owns (c : Thread nD τ) arg9 fullShare d)
      ∗ (∃ d, owns (c : Thread nD τ) arg10 fullShare d)
      ∗ (held c arg2 harg2 arg3 harg3 arg4 harg4 arg5 harg5 arg6 harg6 arg7 harg7 arg8 harg8 arg9 harg9 arg10 harg10 x0 x1 x2 x3 x4 x5 -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10) K := by
    unfold held
    simp only [cc0_attn_bwd_eq_skeleton]; unfold cc0_attn_bwd_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hfirst)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

set_option maxHeartbeats 2000000 in
/-- The body at a later point of a head. -/
theorem body_later (c : Dev nD) (i : grid0.Coords)
    (arg2 : Memref sig .tc .vmem S8448x128 .bf16) (harg2 : arg2.IsWhole)
    (arg3 : Memref sig .tc .vmem S8448x128 .bf16) (harg3 : arg3.IsWhole)
    (arg4 : Memref sig .tc .vmem S8448x128 .bf16) (harg4 : arg4.IsWhole)
    (arg5 : Memref sig .tc .vmem S768x128 .bf16) (harg5 : arg5.IsWhole)
    (arg6 : Memref sig .tc .vmem S768x128 .bf16) (harg6 : arg6.IsWhole)
    (arg7 : Memref sig .tc .vmem S1x11x1x768 .f32) (harg7 : arg7.IsWhole)
    (arg8 : Memref sig .tc .vmem S8448x128 .f32) (harg8 : arg8.IsWhole)
    (arg9 : Memref sig .tc .vmem S768x256 .bf16) (harg9 : arg9.IsWhole)
    (arg10 : Memref sig .tc .vmem S11x1x768 .f32) (harg10 : arg10.IsWhole)
    (x0 : Vec F S8448x128 .bf16)
    (x1 : Vec F S8448x128 .bf16)
    (x2 : Vec F S8448x128 .bf16)
    (x3 : Vec F S768x128 .bf16)
    (x4 : Vec F S768x128 .bf16)
    (x5 : Vec F S1x11x1x768 .f32)
    (hfirst : ¬IsFirst i) (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ (∃ d, owns (c : Thread nD τ) arg8 fullShare d)
      ∗ (∃ d, owns (c : Thread nD τ) arg9 fullShare d)
      ∗ (∃ d, owns (c : Thread nD τ) arg10 fullShare d)
      ∗ (held c arg2 harg2 arg3 harg3 arg4 harg4 arg5 harg5 arg6 harg6 arg7 harg7 arg8 harg8 arg9 harg9 arg10 harg10 x0 x1 x2 x3 x4 x5 -∗ K ⟨⟩))
    ⊢ wp frame (wpE (defs₀ (F := F)) Variants.none c none) E (cc0_attn_bwd i arg2 harg2 arg3 harg3 arg4 harg4 arg5 harg5 arg6 harg6 arg7 harg7 arg8 harg8 arg9 harg9 arg10 harg10) K := by
    unfold held
    simp only [cc0_attn_bwd_eq_skeleton]; unfold cc0_attn_bwd_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hfirst)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    iexists _, _; isplitr; swap; · iexact H8
    ipureintro; rfl

end Cert.Kernel.Plain

end
-- ==== Proof.PlainFrame.lean ====
/- The kernel as printed, over any float representation: every run from zero counters ends, with the three arguments
   unchanged and every counter at zero.  Nothing is named of what the kernel leaves in its results. -/
module

public import proofs.«01_k».proof.Proof.PlainBody
public import Idealize.ShloMosaic.Lib.Claim

@[expose] public section

set_option maxRecDepth 16384

noncomputable section

namespace Cert.Kernel.Plain

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev buf0 (t : Fin cfg0.N) : Memref sig .tc .vmem S8448x128 .bf16 := win0_0.stage (cfg0.slots t 0)
abbrev whole0 (t : Fin cfg0.N) : (buf0 t).IsWhole := hstage0_0 ((cfg0.slots t 0).cast nbuf0_0)
abbrev buf1 (t : Fin cfg0.N) : Memref sig .tc .vmem S8448x128 .bf16 := win0_1.stage (cfg0.slots t 1)
abbrev whole1 (t : Fin cfg0.N) : (buf1 t).IsWhole := hstage0_1 ((cfg0.slots t 1).cast nbuf0_1)
abbrev buf2 (t : Fin cfg0.N) : Memref sig .tc .vmem S8448x128 .bf16 := win0_2.stage (cfg0.slots t 2)
abbrev whole2 (t : Fin cfg0.N) : (buf2 t).IsWhole := hstage0_2 ((cfg0.slots t 2).cast nbuf0_2)
abbrev buf3 (t : Fin cfg0.N) : Memref sig .tc .vmem S768x128 .bf16 := win0_3.stage (cfg0.slots t 3)
abbrev whole3 (t : Fin cfg0.N) : (buf3 t).IsWhole := hstage0_3 ((cfg0.slots t 3).cast nbuf0_3)
abbrev buf4 (t : Fin cfg0.N) : Memref sig .tc .vmem S768x128 .bf16 := win0_4.stage (cfg0.slots t 4)
abbrev whole4 (t : Fin cfg0.N) : (buf4 t).IsWhole := hstage0_4 ((cfg0.slots t 4).cast nbuf0_4)
abbrev buf5 (t : Fin cfg0.N) : Memref sig .tc .vmem S1x11x1x768 .f32 := win0_5.stage (cfg0.slots t 5)
abbrev whole5 (t : Fin cfg0.N) : (buf5 t).IsWhole := hstage0_5 ((cfg0.slots t 5).cast nbuf0_5)
abbrev buf6 (t : Fin cfg0.N) : Memref sig .tc .vmem S8448x128 .f32 := win0_6.stage (cfg0.slots t 6)
abbrev whole6 (t : Fin cfg0.N) : (buf6 t).IsWhole := hstage0_6 ((cfg0.slots t 6).cast nbuf0_6)
abbrev buf7 (t : Fin cfg0.N) : Memref sig .tc .vmem S768x256 .bf16 := win0_7.stage (cfg0.slots t 7)
abbrev whole7 (t : Fin cfg0.N) : (buf7 t).IsWhole := hstage0_7 ((cfg0.slots t 7).cast nbuf0_7)
/-- The scratch row of shares. -/
abbrev scratch : Memref sig .tc .vmem S11x1x768 .f32 := Memref.whole cc0_scratch0

/-- What the kernel keeps between points: the scratch at anything and the random register at some state. -/
theorem kept_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The proof data -/

/-- The two windows whose contents are not named: the results. -/
def unnamed : Fin 8 → Bool := fun w => w.val == 6 || w.val == 7

/-- The arrays as the launch finds them; each input's buffer at its block after every point; the same kept state throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t :=
  before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t :=
  before0_5_of m (dats m 0 c) (A_eq m c 5) (after5 m c) t d

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare d)
    ∗ (∃ d, owns (c : Thread nD τ) (buf7 t) fullShare d))

def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ (∃ d, owns (c : Thread nD τ) (buf6 t) fullShare d)
    ∗ (∃ d, owns (c : Thread nD τ) (buf7 t) fullShare d))

set_option maxHeartbeats 6400000 in
/-- The body at any point takes what the pipeline hands it to what the pipeline expects back. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5]
  rw [show (dats m 0 c).Φ t.succ = Pipeline.ΦA spec0 c from rfl, show (dats m 0 c).Φ t.castSucc = Pipeline.ΦA spec0 c from rfl, kept_eq]
  by_cases hfirst : IsFirst (grid0.coords t)
  · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((body_first c (grid0.coords t) _ _ _ _ _ _ _ _ _ _ _ _ _ _ _ _ _ _ (iblk m c 0 t) (iblk m c 1 t) (iblk m c 2 t) (iblk m c 3 t) (iblk m c 4 t) (iblk m c 5 t) hfirst) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    unfold held
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((body_later c (grid0.coords t) _ _ _ _ _ _ _ _ _ _ _ _ _ _ _ _ _ _ (iblk m c 0 t) (iblk m c 1 t) (iblk m c 2 t) (iblk m c 3 t) (iblk m c 4 t) (iblk m c 5 t) hfirst) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    unfold held
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem body_row (t : Fin cfg0.N) :
    defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ unnamed := fun t => by
  rw [bigSep_W0, bigSep_W0, body_row]
  exact triple_restated (body_sound m c t) rfl .rfl fun _ => .rfl

/-! ## The launch -/

-- the launch's implicit arguments are found by unifying against its conclusion
set_option backward.isDefEq.respectTransparency.types false in
/-- The whole program: the arrays the pipeline stages, and every counter at zero. -/
theorem launch : θ_run defs (onTc (τ := τ) (main (F := F))) (s₀ m ρ) (fun r =>
    (Pipeline.RDat.FramePost (cfgs 0) (fun c => (dats m 0 c).toRForget unnamed) (V m)) r ∧ r.2.sem = fun _ => 0) :=
  Pipeline.θ_run_frame_track_forget_shared (Q' := _) cfgs (dats m) (0 : Fin 1) launch₀0 defs₀ Variants.none unnamed m ρ main
    (hbody := fun c => (body_obligation m c).loose) (hq := fun _ _ _ => rfl)
    (howed := fun _ _ => rfl) (V := V m) (hmain := hmain m Variants.none) (hA := A_eq m)
    (hin := fun c => .rfl) (hout := fun c => .rfl)

/-- The frame: the three arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(Pipeline.RDat.FramePost.arr_in h.1 c 0 rfl).trans ((A_eq m c 0).trans (V_main_arg0 m c)),
      (Pipeline.RDat.FramePost.arr_in h.1 c 4 rfl).trans ((A_eq m c 4).trans (V_main_arg1 m c)),
      (Pipeline.RDat.FramePost.arr_in h.1 c 2 rfl).trans ((A_eq m c 2).trans (V_main_arg2 m c))⟩, h.2⟩) (launch m ρ)

end Cert.Kernel.Plain

end
-- ==== Proof.Words.lean ====
/-
Constants and comparisons that both programs read: minus infinity, the scale of the scores, the causal mask, and a row's maximum.
-/
module

public import Idealize.ShloMosaic.Lib.Pointwise
public import Idealize.ShloMosaic.Lib.IdealHost
public import Idealize.ShloMosaic.Lib.Tactic

@[expose] public section

noncomputable section

namespace Cert.Attention

open Idealize.ShloMosaic

theorem ofBits_neg_inf : (Ideal.ofBits .f32 0xFF800000#32 : EReal) = ⊥ := by
  simp [Ideal.ofBits, Ideal.ieee]

theorem ofBits_inf : (Ideal.ofBits .f32 0x7F800000#32 : EReal) = ⊤ := by
  simp [Ideal.ofBits, Ideal.ieee]

theorem ofBits_two : (Ideal.ofBits .f32 0x40000000#32 : EReal) = ((2 : ℝ) : EReal) := by
  simp [Ideal.ofBits, Ideal.ieee, -EReal.coe_mul]
  norm_num

theorem ofBits_scale : (Ideal.ofBits .f32 0x3DD105EC#32 : EReal) = ((3424635 / 33554432 : ℝ) : EReal) := by
  simp [Ideal.ofBits, Ideal.ieee, -EReal.coe_mul]
  norm_num

/-- The comparison of two positions below `8448`, as words. -/
theorem le_word (a r : Fin 8448) : IntOp.cmpi .sle (BitVec.ofNat 32 a.val) (BitVec.ofNat 32 r.val) = BitVec.ofBool (decide (a ≤ r)) := by
  have ha := a.isLt
  have hr := r.isLt
  have e1 : (BitVec.ofNat 32 a.val).toInt = a.val := by
    rw [BitVec.toInt_ofNat', Int.bmod_eq_of_le (by omega) (by omega)]
  have e2 : (BitVec.ofNat 32 r.val).toInt = r.val := by
    rw [BitVec.toInt_ofNat', Int.bmod_eq_of_le (by omega) (by omega)]
  show BitVec.ofBool (BitVec.sle _ _) = _
  rw [BitVec.sle, e1, e2]
  congr 1
  exact decide_eq_decide.mpr Int.ofNat_le

/-- A choice by that comparison. -/
theorem select_le {α : Type} (a r : Fin 8448) (x y : α) :
    Scalar.select (BitVec.ofBool (decide (a ≤ r))) x y = if a ≤ r then x else y := by
  unfold Scalar.select
  by_cases h : a ≤ r <;> simp [h]

/-- The maximum over the last of three axes, from minus infinity. -/
theorem last_max {A B C : ℕ} {u : Shape} (s : FVec Ideal ⟨3, ![A, B, C]⟩ .f32) (hu : 0 < u.numel)
    (h : (⟨3, ![A, B, C]⟩ : Shape).ReducesTo [2] ⟨2, ![A, B]⟩) (h' : (⟨3, ![A, B, C]⟩ : Shape).Reduces [2] ⟨2, ![A, B]⟩)
    (i : Fin A) (j : Fin B) :
    Host.reduce FloatOps.maximumf s (constant (F := Ideal) u .f32 0xFF800000#32) h hu (ix2 i j)
      = Finset.univ.fold max (Ideal.ofBits .f32 0xFF800000#32) fun k => s (ix3 i j k) := by
  refine (Host.reduce_eq_fold_single _ s _ h h' hu _).trans ?_
  show Finset.univ.fold max (Ideal.ofBits .f32 0xFF800000#32) (s ∘ h'.lift (ix2 i j)) = _
  congr 1
  funext k
  show s _ = s _
  congr 1
  funext c
  apply Fin.ext
  fin_cases c <;> rfl

/-- The same, against minus infinity. -/
theorem max_last_max {A B C : ℕ} {u : Shape} (b : FVec Ideal ⟨2, ![A, B]⟩ .f32) (s : FVec Ideal ⟨3, ![A, B, C]⟩ .f32) (hu : 0 < u.numel)
    (h : (⟨3, ![A, B, C]⟩ : Shape).ReducesTo [2] ⟨2, ![A, B]⟩) (h' : (⟨3, ![A, B, C]⟩ : Shape).Reduces [2] ⟨2, ![A, B]⟩)
    (i : Fin A) (j : Fin B) (hb : b (ix2 i j) = Ideal.ofBits .f32 0xFF800000#32) :
    maximumf b (Host.reduce FloatOps.maximumf s (constant (F := Ideal) u .f32 0xFF800000#32) h hu) (ix2 i j)
      = Finset.univ.fold max ⊥ fun k => s (ix3 i j k) := by
  show max (b (ix2 i j)) (Host.reduce FloatOps.maximumf s (constant (F := Ideal) u .f32 0xFF800000#32) h hu (ix2 i j)) = _
  rw [last_max _ _ _ h', hb, ofBits_neg_inf]
  exact max_eq_right bot_le

end Cert.Attention

end
-- ==== Proof.Finite.lean ====
/-
The precondition read: every entry of the arguments is a real number.
-/
module

public import proofs.«01_k».proof.Pre_finite
public import proofs.«01_k».proof.Proof.Words
public import Idealize.ShloMosaic.Lib.ReduceAll

@[expose] public section

noncomputable section

namespace Cert.Pre_finite

open Idealize.ShloMosaic Cert.Attention

instance facts : Facts where
  bitsLt_bf16_f32 := by decide
  bcast_S_S8448x1024 := by decide
  reducesTo_S8448x1024_S_d0_1 := by decide
  h_S_ := by decide
  bcast_S_S8448x2048 := by decide
  reducesTo_S8448x2048_S_d0_1 := by decide

/-- An extended real whose absolute value is below infinity is real. -/
theorem real_of_abs_lt (x : EReal) (h : Ideal.cmp .olt (max x (-x)) (Ideal.ofBits .f32 0x7F800000#32) = 1#1) : ∃ r : ℝ, x = (r : EReal) := by
  rw [ofBits_inf] at h
  have h' : max x (-x) < ⊤ := by
    by_contra hn
    have e : Ideal.cmp .olt (max x (-x)) ⊤ = 0#1 := by
      show BitVec.ofBool (decide (max x (-x) < ⊤)) = _
      rw [decide_eq_false hn]
      rfl
    rw [e] at h
    exact absurd h (by decide)
  have h1 : x ≠ ⊤ := fun e => by
    rw [e] at h'
    exact absurd h' (by simp)
  have h2 : x ≠ ⊥ := fun e => by
    rw [e] at h'
    exact absurd h' (by simp)
  exact ⟨x.toReal, (EReal.coe_toReal h1 h2).symm⟩

/-- An array all of whose absolute values are below infinity is an array of reals. -/
theorem reals_of_all {A B : ℕ} (x : FVec Ideal ⟨2, ![A, B]⟩ .bf16) (hb : S_.BroadcastsInDim ⟨2, ![A, B]⟩ ![])
    (hr : (⟨2, ![A, B]⟩ : Shape).ReducesTo [0, 1] S_) (hu : 0 < S_.numel) (hl : FTy.bits .bf16 < FTy.bits .f32) (j : S_.Idx)
    (h : Host.reduce IntOp.andi (cmpf .olt (Host.absf (extf .f32 x hl))
      (broadcastInDim ⟨2, ![A, B]⟩ ![] hb (constant (F := Ideal) S_ .f32 0x7F800000#32))) (constantI S_ 1 1#1) hr hu j = 1#1) :
    ∃ r : (⟨2, ![A, B]⟩ : Shape).Idx → ℝ, ∀ i, x i = (r i : EReal) := by
  have := fun i => real_of_abs_lt (x i) (Host.reduce_andi_all _ _ _ _ j h i)
  choose r hr using this
  exact ⟨r, hr⟩

theorem reals_of_fn (x0 : FVec Ideal S8448x1024 .bf16) (x1 : FVec Ideal S8448x2048 .bf16) (x2 : FVec Ideal S8448x1024 .bf16)
    (h : fn (F := Ideal) x0 x1 x2 = fun _ => 1#1) :
    ∃ (q : S8448x1024.Idx → ℝ) (kv : S8448x2048.Idx → ℝ) (g : S8448x1024.Idx → ℝ),
      (∀ i, x0 i = (q i : EReal)) ∧ (∀ i, x1 i = (kv i : EReal)) ∧ ∀ i, x2 i = (g i : EReal) := by
  have h := congrFun h ix0
  dsimp only [fn] at h
  obtain ⟨h01, h2⟩ := IntOp.andi_eq_one.1 h
  obtain ⟨h0, h1⟩ := IntOp.andi_eq_one.1 h01
  obtain ⟨q, hq⟩ := reals_of_all x0 _ _ _ _ ix0 h0
  obtain ⟨kv, hkv⟩ := reals_of_all x1 _ _ _ _ ix0 h1
  obtain ⟨g, hg⟩ := reals_of_all x2 _ _ _ _ ix0 h2
  exact ⟨q, kv, g, hq, hkv, hg⟩

end Cert.Pre_finite

end
-- ==== Proof.Tile.lean ====
/-
The vectors that the gradient kernel computes on one block of keys and one block of query rows, read at an index.

Over extended reals every vector expression of the body is a sum of products of its operands' elements. The lemmas here
give that sum for each of them: the softmax weights of a block (all of them, or the causal half on the diagonal block),
their gradients, and the block's shares of the three gradients.
-/
module

public import proofs.«01_k».proof.Proof.Gen.KernelIdeal.Skeleton
public import Idealize.ShloMosaic.Lib.Pointwise

@[expose] public section

set_option maxRecDepth 16384

noncomputable section

namespace Cert.KernelIdeal.Grad

open Cert.KernelIdeal.Gen
open Idealize.ShloMosaic Idealize.ShloMosaic.TcCoe

/-- The scale of the scores, over the logarithm of two. -/
def c2 : EReal := (((3424635 / 33554432) * (Real.log 2)⁻¹ : ℝ) : EReal)

/-- The scale of the scores. -/
def sc : EReal := ((3424635 / 33554432 : ℝ) : EReal)

theorem named_c2 : (Named.named κ "scale_log2e" 0x3E16C740#32 : Ideal .f32) = c2 :=
  IdealRules.named_const.ideal_named_scalar _ _ _ _ rfl

theorem ofBits_sc : (Ideal.ofBits .f32 0x3DD105EC#32 : EReal) = sc := by
  simp [Ideal.ofBits, Ideal.ieee, -EReal.coe_mul, sc]
  norm_num

variable (k v q g : Vec Ideal S768x128 .bf16) (l : Vec Ideal S1x1x1x768 .f32) (dl : Vec Ideal S1x1x768 .f32)

/-- The softmax weight of key `a` in query row `r`. -/
def wt (a r : Fin 768) : EReal :=
  Ideal.exp2 ((∑ d : Fin 128, k (ix2 a d) * q (ix2 r d)) * c2 - l (ix4 0 0 0 r))

/-- The gradient of a score, from the weight `p` of key `a` in row `r`. -/
def gs (p : EReal) (a r : Fin 768) : EReal :=
  p * ((∑ d : Fin 128, v (ix2 a d) * g (ix2 r d)) - dl (ix3 0 0 r))

theorem pay5_apply (a r : Fin 768) : k0_pay5 (F := Ideal) k q l (ix2 a r) = wt k q l a r := by
  pointwise [k0_pay5, wt]
  rw [named_c2]
  rfl

theorem pay6_apply (acc : FVec Ideal S768x128 .f32) (a : Fin 768) (d : Fin 128) :
    k0_pay6 (F := Ideal) k acc q g l (ix2 a d) = acc (ix2 a d) + ∑ r : Fin 768, wt k q l a r * g (ix2 r d) := by
  pointwise [k0_pay6]
  simp only [pay5_apply]

theorem pay7_apply (a r : Fin 768) : k0_pay7 (F := Ideal) k v q g l dl (ix2 a r) = gs v g dl (wt k q l a r) a r := by
  pointwise [k0_pay7, gs]
  simp only [pay5_apply]

theorem pay8_apply (acc : FVec Ideal S768x128 .f32) (a : Fin 768) (d : Fin 128) :
    k0_pay8 (F := Ideal) k v acc q g l dl (ix2 a d)
      = acc (ix2 a d) + ∑ r : Fin 768, gs v g dl (wt k q l a r) a r * q (ix2 r d) := by
  pointwise [k0_pay8]
  simp only [pay7_apply]

theorem pay9_apply (y : Vec Ideal S768x128 .f32) (r : Fin 768) (d : Fin 128) :
    k0_pay9 (F := Ideal) k v q g l dl y (ix2 r d)
      = y (ix2 r d) + ∑ a : Fin 768, gs v g dl (wt k q l a r) a r * k (ix2 a d) := by
  pointwise [k0_pay9]
  simp only [pay7_apply]

/-- The weight on the diagonal block: zero where the key comes after the row. -/
def wtM (a r : Fin 768) : EReal := if a.val ≤ r.val then wt k q l a r else 0

theorem mask_iff (i : grid0.Coords) (a r : Fin 768) :
    Scalar.cmpi .sle (Scalar.addi (Scalar.muli (BitVec.ofNat 32 (i 1).val) 768#32) (BitVec.ofNat 32 a.val))
        (Scalar.addi (Scalar.muli (BitVec.ofNat 32 (i 1).val) 768#32) (BitVec.ofNat 32 r.val)) = 1#1
      ↔ a.val ≤ r.val := by
  have hi : (i 1).val < 11 := (i 1).isLt
  have ha := a.isLt
  have hr := r.isLt
  have hm : Affine.IsInt (Scalar.muli (BitVec.ofNat 32 (i 1).val) 768#32) ((i 1).val * 768) :=
    Affine.muli (Affine.ofNat _ ⟨rfl, by omega⟩) (Affine.ofNat 768 ⟨rfl, by omega⟩) ⟨by norm_num, by omega, by omega⟩
  have h1 : Affine.IsInt (Scalar.addi (Scalar.muli (BitVec.ofNat 32 (i 1).val) 768#32) (BitVec.ofNat 32 a.val))
      ((i 1).val * 768 + a.val) := Affine.addi hm (Affine.ofNat _ ⟨rfl, by omega⟩) ⟨rfl, by omega, by omega⟩
  have h2 : Affine.IsInt (Scalar.addi (Scalar.muli (BitVec.ofNat 32 (i 1).val) 768#32) (BitVec.ofNat 32 r.val))
      ((i 1).val * 768 + r.val) := Affine.addi hm (Affine.ofNat _ ⟨rfl, by omega⟩) ⟨rfl, by omega, by omega⟩
  constructor
  · intro h
    by_contra hn
    exact Affine.sle_fails h1 h2 (by omega) h
  · intro h
    exact Affine.sle_holds h1 h2 (by omega)

theorem pay34_apply (i : grid0.Coords) (a r : Fin 768) : k0_pay34 (F := Ideal) i k q l (ix2 a r) = wtM k q l a r := by
  pointwise [k0_pay34, wtM, wt]
  rw [named_c2, Scalar.select]
  exact if_congr (mask_iff i a r) rfl rfl

theorem pay35_apply (i : grid0.Coords) (a : Fin 768) (d : Fin 128) :
    k0_pay35 (F := Ideal) i k q g l (ix2 a d) = ∑ r : Fin 768, wtM k q l a r * g (ix2 r d) := by
  pointwise [k0_pay35]
  simp only [pay34_apply]

theorem pay32_apply (a : Fin 768) (d : Fin 128) : k0_pay32 (F := Ideal) (ix2 a d) = 0 := by pointwise [k0_pay32]
theorem pay33_apply (a : Fin 768) (d : Fin 128) : k0_pay33 (F := Ideal) (ix2 a d) = 0 := by pointwise [k0_pay33]
theorem pay16_apply (a : Fin 8448) (d : Fin 128) : k0_pay16 (F := Ideal) (ix2 a d) = 0 := by pointwise [k0_pay16]
theorem pay1_apply (x y : FVec Ideal S768x128 .f32) (a : Fin 768) (d : Fin 128) :
    k0_pay1 (F := Ideal) x y (ix2 a d) = x (ix2 a d) + y (ix2 a d) := by pointwise [k0_pay1]

section
variable (p : FVec Ideal S768x768 .f32)

theorem pay2_apply (a r : Fin 768) : k0_pay2 (F := Ideal) v g p dl (ix2 a r) = gs v g dl (p (ix2 a r)) a r := by
  pointwise [k0_pay2, gs]

theorem pay3_apply (x : FVec Ideal S768x128 .f32) (a : Fin 768) (d : Fin 128) :
    k0_pay3 (F := Ideal) v x q g p dl (ix2 a d) = x (ix2 a d) + ∑ r : Fin 768, gs v g dl (p (ix2 a r)) a r * q (ix2 r d) := by
  pointwise [k0_pay3]
  simp only [pay2_apply]

theorem pay4_apply (y : Vec Ideal S768x128 .f32) (r : Fin 768) (d : Fin 128) :
    k0_pay4 (F := Ideal) k v g p dl y (ix2 r d) = y (ix2 r d) + ∑ a : Fin 768, gs v g dl (p (ix2 a r)) a r * k (ix2 a d) := by
  pointwise [k0_pay4]
  simp only [pay2_apply]
end

theorem pay15_apply (dk dv : FVec Ideal S768x128 .f32) (a : Fin 768) (d : Fin 256) :
    k0_pay15 (F := Ideal) dk dv (ix2 a d)
      = if h : d.val < 128 then dk (ix2 a ⟨d.val, h⟩) * sc else dv (ix2 a ⟨d.val - 128, by omega⟩) := by
  pointwise [k0_pay15]
  rw [ofBits_sc]

section
variable (x y : Vec Ideal S768x128 .bf16) (r : Fin 768)

/-- The product of two vectors' rows. -/
def rs : EReal := ∑ d : Fin 128, x (ix2 r d) * y (ix2 r d)

theorem pay17_apply : k0_pay17 (F := Ideal) x y (ix3 0 0 r) = rs x y r := by pointwise [k0_pay17, rs]
theorem pay18_apply : k0_pay18 (F := Ideal) x y (ix3 0 0 r) = rs x y r := by pointwise [k0_pay18, rs]
theorem pay21_apply : k0_pay21 (F := Ideal) x y (ix3 0 0 r) = rs x y r := by pointwise [k0_pay21, rs]
theorem pay24_apply : k0_pay24 (F := Ideal) x y (ix3 0 0 r) = rs x y r := by pointwise [k0_pay24, rs]
theorem pay25_apply : k0_pay25 (F := Ideal) x y (ix3 0 0 r) = rs x y r := by pointwise [k0_pay25, rs]
theorem pay28_apply : k0_pay28 (F := Ideal) x y (ix3 0 0 r) = rs x y r := by pointwise [k0_pay28, rs]
theorem pay31_apply : k0_pay31 (F := Ideal) x y (ix3 0 0 r) = rs x y r := by pointwise [k0_pay31, rs]

theorem pay20_apply : k0_pay20 (F := Ideal) (k0_pay19 x) y (ix3 0 0 r) = rs x y r := by pointwise [k0_pay20, k0_pay19, rs]
theorem pay23_apply : k0_pay23 (F := Ideal) (k0_pay22 x y) (ix3 0 0 r) = rs x y r := by pointwise [k0_pay23, k0_pay22, rs]
theorem pay27_apply : k0_pay27 (F := Ideal) (k0_pay26 x) y (ix3 0 0 r) = rs x y r := by pointwise [k0_pay27, k0_pay26, rs]
theorem pay30_apply : k0_pay30 (F := Ideal) (k0_pay29 x y) (ix3 0 0 r) = rs x y r := by pointwise [k0_pay30, k0_pay29, rs]
end

end Cert.KernelIdeal.Grad

end
-- ==== Proof.Share.lean ====
/-
What one key block contributes to the gradients, over all the rows of a head, and where the body's loads and stores lie.

A head has 8448 rows in 11 blocks of 768. The contribution of key block `j` is written here as sums over all rows: the
softmax weight of a key in an earlier row is zero, so the blocks of rows that the body skips add nothing.
-/
module

public import proofs.«01_k».proof.Proof.Tile
public import proofs.«01_k».proof.Proof.Gen.KernelIdeal.Frame
public import Idealize.ShloMosaic.Lib.WritesUnit

@[expose] public section

set_option maxRecDepth 16384

noncomputable section

namespace Cert.KernelIdeal.Grad

open Cert.KernelIdeal.Gen
open Idealize.ShloMosaic Idealize.ShloMosaic.TcCoe

/-! ## Rows and blocks of rows -/

/-- Row `r` of block `b`. -/
def row (b : ℕ) (r : Fin 768) : Fin 8448 := Fin.ofNat 8448 (768 * b + r.val)

theorem row_val {b : ℕ} (hb : b < 11) (r : Fin 768) : (row b r).val = 768 * b + r.val := by
  have := r.isLt
  exact Nat.mod_eq_of_lt (by omega)

/-- The block of a row. -/
def blockOf (R : Fin 8448) : Fin 11 := ⟨R.val / 768, by have := R.isLt; omega⟩

/-- A row's place in its block. -/
def inBlock (R : Fin 8448) : Fin 768 := ⟨R.val % 768, Nat.mod_lt _ (by norm_num)⟩

theorem blockOf_row {b : ℕ} (hb : b < 11) (r : Fin 768) : blockOf (row b r) = ⟨b, hb⟩ := by
  have := r.isLt
  exact Fin.ext (by rw [blockOf]; show (row b r).val / 768 = b; rw [row_val hb]; omega)

theorem inBlock_row {b : ℕ} (hb : b < 11) (r : Fin 768) : inBlock (row b r) = r := by
  have := r.isLt
  exact Fin.ext (by show (row b r).val % 768 = r.val; rw [row_val hb]; omega)

theorem row_blockOf (R : Fin 8448) : row (blockOf R).val (inBlock R) = R := by
  refine Fin.ext ?_
  rw [row_val (blockOf R).isLt]
  show 768 * (R.val / 768) + R.val % 768 = R.val
  omega

/-- A sum over all rows, block by block. -/
theorem sum_rows {M : Type} [AddCommMonoid M] (f : Fin 8448 → M) :
    ∑ b ∈ Finset.range 11, ∑ r : Fin 768, f (row b r) = ∑ R : Fin 8448, f R := by
  rw [Finset.sum_range (fun b => ∑ r : Fin 768, f (row b r)), ← Fintype.sum_prod_type']
  refine Fintype.sum_equiv ⟨fun p => row p.1.val p.2, fun R => (blockOf R, inBlock R), fun p => ?_, fun R => row_blockOf R⟩
    _ _ (fun p => rfl)
  exact Prod.ext (blockOf_row p.1.isLt p.2) (inBlock_row p.1.isLt p.2)

/-! ## One key block's contribution -/

section
variable (j : ℕ) (k v : Vec Ideal S768x128 .bf16) (q g : Vec Ideal S8448x128 .bf16) (l : Vec Ideal S1x11x1x768 .f32)
  (dl : Vec Ideal S11x1x768 .f32)

/-- The softmax weight of key `a` of block `j` in row `R`: zero where the key comes after the row. -/
def weight (a : Fin 768) (R : Fin 8448) : EReal :=
  if 768 * j + a.val ≤ R.val then
    Ideal.exp2 ((∑ d : Fin 128, k (ix2 a d) * q (ix2 R d)) * c2 - l (ix4 0 (blockOf R) 0 (inBlock R)))
  else 0

/-- The gradient of the score of key `a` in row `R`. -/
def scoreGrad (a : Fin 768) (R : Fin 8448) : EReal :=
  weight j k q l a R * ((∑ d : Fin 128, v (ix2 a d) * g (ix2 R d)) - dl (ix3 (blockOf R) 0 (inBlock R)))

/-- Block `j`'s share of the query gradient. -/
def dqShare (R : Fin 8448) (d : Fin 128) : EReal := ∑ a : Fin 768, scoreGrad j k v q g l dl a R * k (ix2 a d)

/-- The key gradient before scaling. -/
def dkSum (a : Fin 768) (d : Fin 128) : EReal := ∑ R : Fin 8448, scoreGrad j k v q g l dl a R * q (ix2 R d)

/-- The value gradient. -/
def dvSum (a : Fin 768) (d : Fin 128) : EReal := ∑ R : Fin 8448, weight j k q l a R * g (ix2 R d)

/-- The key and value gradients side by side, as the body stores them. -/
def dkvVec : Vec Ideal S768x256 .bf16 := fun y =>
  if h : (y 1).val < 128 then dkSum j k v q g l dl (y 0) ⟨(y 1).val, h⟩ * sc
  else dvSum j k q g l (y 0) ⟨(y 1).val - 128, by have : (y 1).val < 256 := (y 1).isLt; omega⟩

/-- The row sums of `o * g`, as the body keeps them. -/
def rowSums (o g : Vec Ideal S8448x128 .bf16) : Vec Ideal S11x1x768 .f32 := fun y =>
  ∑ d : Fin 128, o (ix2 (row (y 0).val (y 2)) d) * g (ix2 (row (y 0).val (y 2)) d)

theorem weight_of_lt {a : Fin 768} {R : Fin 8448} (h : R.val < 768 * j) : weight j k q l a R = 0 :=
  if_neg (by omega)

theorem scoreGrad_of_lt {a : Fin 768} {R : Fin 8448} (h : R.val < 768 * j) : scoreGrad j k v q g l dl a R = 0 := by
  rw [scoreGrad, weight_of_lt j k q l h, zero_mul]

theorem dqShare_of_lt {R : Fin 8448} (d : Fin 128) (h : R.val < 768 * j) : dqShare j k v q g l dl R d = 0 :=
  Finset.sum_eq_zero fun a _ => by rw [scoreGrad_of_lt j k v q g l dl h, zero_mul]

/-- The shares of the key gradient by block of rows. -/
def dkPart (a : Fin 768) (d : Fin 128) (b : ℕ) : EReal :=
  ∑ r : Fin 768, scoreGrad j k v q g l dl a (row b r) * q (ix2 (row b r) d)

/-- The shares of the value gradient by block of rows. -/
def dvPart (a : Fin 768) (d : Fin 128) (b : ℕ) : EReal :=
  ∑ r : Fin 768, weight j k q l a (row b r) * g (ix2 (row b r) d)

theorem sum_dkPart (a : Fin 768) (d : Fin 128) :
    ∑ b ∈ Finset.range 11, dkPart j k v q g l dl a d b = dkSum j k v q g l dl a d :=
  sum_rows fun R => scoreGrad j k v q g l dl a R * q (ix2 R d)

theorem sum_dvPart (a : Fin 768) (d : Fin 128) :
    ∑ b ∈ Finset.range 11, dvPart j k q g l a d b = dvSum j k q g l a d :=
  sum_rows fun R => weight j k q l a R * g (ix2 R d)

theorem dkPart_of_lt (hj : j < 11) (a : Fin 768) (d : Fin 128) {b : ℕ} (h : b < j) : dkPart j k v q g l dl a d b = 0 :=
  Finset.sum_eq_zero fun r _ => by
    rw [scoreGrad_of_lt j k v q g l dl (by rw [row_val (by omega)]; have := r.isLt; omega), zero_mul]

theorem dvPart_of_lt (hj : j < 11) (a : Fin 768) (d : Fin 128) {b : ℕ} (h : b < j) : dvPart j k q g l a d b = 0 :=
  Finset.sum_eq_zero fun r _ => by
    rw [weight_of_lt j k q l (by rw [row_val (by omega)]; have := r.isLt; omega), zero_mul]

/-- On the diagonal block the body's masked weight is the weight. -/
theorem wtM_eq (hj : j < 11) (qb : Vec Ideal S768x128 .bf16) (lb : Vec Ideal S1x1x1x768 .f32)
    (hq : ∀ r d, qb (ix2 r d) = q (ix2 (row j r) d)) (hl : ∀ r, lb (ix4 0 0 0 r) = l (ix4 0 ⟨j, hj⟩ 0 r)) (a r : Fin 768) :
    wtM k qb lb a r = weight j k q l a (row j r) := by
  rw [wtM, weight, wt, row_val hj, blockOf_row hj, inBlock_row hj, hl]
  simp only [hq]
  exact if_congr (by omega) rfl rfl

/-- On a later block of rows the body's weight is the weight. -/
theorem wt_eq {b : ℕ} (hb : b < 11) (hjb : j < b) (qb : Vec Ideal S768x128 .bf16) (lb : Vec Ideal S1x1x1x768 .f32)
    (hq : ∀ r d, qb (ix2 r d) = q (ix2 (row b r) d)) (hl : ∀ r, lb (ix4 0 0 0 r) = l (ix4 0 ⟨b, hb⟩ 0 r)) (a r : Fin 768) :
    wt k qb lb a r = weight j k q l a (row b r) := by
  have := a.isLt
  rw [wt, weight, row_val hb, blockOf_row hb, inBlock_row hb, hl, if_pos (by omega)]
  simp only [hq]

/-- The body's gradient of a score, in a block of rows. -/
theorem gs_eq {b : ℕ} (hb : b < 11) (gb : Vec Ideal S768x128 .bf16) (db : Vec Ideal S1x1x768 .f32)
    (hg : ∀ r d, gb (ix2 r d) = g (ix2 (row b r) d)) (hd : ∀ r, db (ix3 0 0 r) = dl (ix3 ⟨b, hb⟩ 0 r)) (a r : Fin 768) :
    gs v gb db (weight j k q l a (row b r)) a r = scoreGrad j k v q g l dl a (row b r) := by
  rw [gs, scoreGrad, blockOf_row hb, inBlock_row hb, hd]
  simp only [hg]

end

/-! ## Where the body loads and stores -/

section
variable (i : grid0.Coords)

theorem coord_lt : (i 1).val < 11 := (i 1).isLt

theorem isInt_j : Affine.IsInt (BitVec.ofNat 32 (i 1).val) (i 1).val :=
  Affine.ofNat _ ⟨rfl, by have := coord_lt i; omega⟩

theorem isInt_next : Affine.IsInt (Scalar.addi (BitVec.ofNat 32 (i 1).val) 1#32) ((i 1).val + 1) :=
  Affine.addi (isInt_j i) (Affine.ofNat 1 ⟨rfl, by omega⟩) ⟨rfl, by have := coord_lt i; omega, by have := coord_lt i; omega⟩

theorem off1_eq : k0_off1 i = ![768 * (i 1).val, 0] := by
  have hi := coord_lt i
  have h : Affine.IsInt (Scalar.muli (BitVec.ofNat 32 (i 1).val) 768#32) ((i 1).val * 768) :=
    Affine.muli (isInt_j i) (Affine.ofNat 768 ⟨rfl, by omega⟩) ⟨by norm_num, by omega, by omega⟩
  have := Affine.toNat_of h (by omega)
  show ![(Scalar.muli (BitVec.ofNat 32 (i 1).val) 768#32).toNat, 0] = _
  congr 1
  omega

theorem off2_eq : k0_off2 i = ![0, (i 1).val, 0, 0] := by
  have := Affine.toNat_of (isInt_j i) (by omega)
  show ![0, (BitVec.ofNat 32 (i 1).val).toNat, 0, 0] = _
  congr 2
  omega

theorem off3_eq : k0_off3 i = ![(i 1).val, 0, 0] := by
  have := Affine.toNat_of (isInt_j i) (by omega)
  show ![(BitVec.ofNat 32 (i 1).val).toNat, 0, 0] = _
  congr 1
  omega

theorem trips1_eq : (k0_t1_loop i).trips = 10 - (i 1).val := by
  revert i; decide +kernel

theorem trips2_eq : (k0_t2_loop i).trips = 0 := by
  revert i; decide +kernel

variable (n : Fin (k0_t1_loop i).trips)

theorem trip_lt : (i 1).val + 1 + n.val < 11 := by
  have h : n.val < 10 - (i 1).val := lt_of_lt_of_eq n.isLt (trips1_eq i)
  omega

theorem isInt_iv : Affine.IsInt (Scf.iv (Scalar.addi (BitVec.ofNat 32 (i 1).val) 1#32) 1#32 n) ((i 1).val + 1 + n.val) := by
  have := trip_lt i n
  exact Affine.iv (isInt_next i) (Affine.ofNat 1 ⟨rfl, by omega⟩) n.val ⟨by push_cast; ring, by omega, by omega⟩

theorem off4_eq : k0_off4 i n = ![768 * ((i 1).val + 1 + n.val), 0] := by
  have hi := trip_lt i n
  have h : Affine.IsInt (Scalar.muli (Scf.iv (Scalar.addi (BitVec.ofNat 32 (i 1).val) 1#32) 1#32 n) 768#32) (((i 1).val + 1 + n.val) * 768) :=
    Affine.muli (isInt_iv i n) (Affine.ofNat 768 ⟨rfl, by omega⟩) ⟨by norm_num, by omega, by omega⟩
  have := Affine.toNat_of h (by omega)
  show ![(Scalar.muli (Scf.iv (Scalar.addi (BitVec.ofNat 32 (i 1).val) 1#32) 1#32 n) 768#32).toNat, 0] = _
  congr 1
  omega

theorem off5_eq : k0_off5 i n = ![0, (i 1).val + 1 + n.val, 0, 0] := by
  have := Affine.toNat_of (isInt_iv i n) (by omega)
  show ![0, (Scf.iv (Scalar.addi (BitVec.ofNat 32 (i 1).val) 1#32) 1#32 n).toNat, 0, 0] = _
  congr 2
  omega

theorem off6_eq : k0_off6 i n = ![(i 1).val + 1 + n.val, 0, 0] := by
  have := Affine.toNat_of (isInt_iv i n) (by omega)
  show ![(Scf.iv (Scalar.addi (BitVec.ofNat 32 (i 1).val) 1#32) 1#32 n).toNat, 0, 0] = _
  congr 1
  omega
end

/-! ## Loads of a block -/

section
variable {e : EltTy}

/-- The load of 768 rows at `off`. -/
abbrev ldRows (M : Memref sig .tc .vmem S8448x128 e) (f : M.view.ty.Contents (Elt Ideal)) (off : Fin 2 → ℕ)
    (inb : ∀ a, off a + (![768, 128] : Fin 2 → ℕ) a ≤ S8448x128.size a) : Vec Ideal S768x128 e :=
  View.readAt (Elt Ideal) M.view (Rect.unit (s := S8448x128) off ![768, 128] inb).toLoadRect f

/-- The load of one row of the log-sums at `off`. -/
abbrev ldLse (M : Memref sig .tc .vmem S1x11x1x768 e) (f : M.view.ty.Contents (Elt Ideal)) (off : Fin 4 → ℕ)
    (inb : ∀ a, off a + (![1, 1, 1, 768] : Fin 4 → ℕ) a ≤ S1x11x1x768.size a) : Vec Ideal S1x1x1x768 e :=
  View.readAt (Elt Ideal) M.view (Rect.unit (s := S1x11x1x768) off ![1, 1, 1, 768] inb).toLoadRect f

/-- The load of one row of the row sums at `off`. -/
abbrev ldSums (M : Memref sig .tc .vmem S11x1x768 e) (f : M.view.ty.Contents (Elt Ideal)) (off : Fin 3 → ℕ)
    (inb : ∀ a, off a + (![1, 1, 768] : Fin 3 → ℕ) a ≤ S11x1x768.size a) : Vec Ideal S1x1x768 e :=
  View.readAt (Elt Ideal) M.view (Rect.unit (s := S11x1x768) off ![1, 1, 768] inb).toLoadRect f

/-- A load of 768 rows. -/
theorem read_rows (M : Memref sig .tc .vmem S8448x128 e) (f : M.view.ty.Contents (Elt Ideal)) {off : Fin 2 → ℕ}
    (inb : ∀ a, off a + (![768, 128] : Fin 2 → ℕ) a ≤ S8448x128.size a) {b : ℕ} (hb : b < 11) (h : off = ![768 * b, 0])
    (r : Fin 768) (d : Fin 128) :
    ldRows M f off inb (ix2 r d)
      = M.view.read (Elt Ideal) f (ix2 (row b r) d) := by
  subst h
  refine congrArg (M.view.read (Elt Ideal) f) (funext fun a => Fin.ext ?_)
  fin_cases a
  · show 768 * b + 1 * r.val = (row b r).val
    rw [row_val hb]; omega
  · show 0 + 1 * d.val = d.val
    omega

/-- A load of one row of the log-sums. -/
theorem read_lse (M : Memref sig .tc .vmem S1x11x1x768 e) (f : M.view.ty.Contents (Elt Ideal)) {off : Fin 4 → ℕ}
    (inb : ∀ a, off a + (![1, 1, 1, 768] : Fin 4 → ℕ) a ≤ S1x11x1x768.size a) {b : ℕ} (hb : b < 11) (h : off = ![0, b, 0, 0])
    (r : Fin 768) :
    ldLse M f off inb (ix4 0 0 0 r)
      = M.view.read (Elt Ideal) f (ix4 0 ⟨b, hb⟩ 0 r) := by
  subst h
  refine congrArg (M.view.read (Elt Ideal) f) (funext fun a => Fin.ext ?_)
  fin_cases a
  · rfl
  · show b + 1 * 0 = b
    omega
  · rfl
  · show 0 + 1 * r.val = r.val
    omega

/-- A load of one row of the row sums. -/
theorem read_dl (M : Memref sig .tc .vmem S11x1x768 e) (f : M.view.ty.Contents (Elt Ideal)) {off : Fin 3 → ℕ}
    (inb : ∀ a, off a + (![1, 1, 768] : Fin 3 → ℕ) a ≤ S11x1x768.size a) {b : ℕ} (hb : b < 11) (h : off = ![b, 0, 0])
    (r : Fin 768) :
    ldSums M f off inb (ix3 0 0 r)
      = M.view.read (Elt Ideal) f (ix3 ⟨b, hb⟩ 0 r) := by
  subst h
  refine congrArg (M.view.read (Elt Ideal) f) (funext fun a => Fin.ext ?_)
  fin_cases a
  · show b + 1 * 0 = b
    omega
  · rfl
  · show 0 + 1 * r.val = r.val
    omega

/-- A load of a whole block of keys or values. -/
theorem read_block (M : Memref sig .tc .vmem S768x128 e) (f : M.view.ty.Contents (Elt Ideal))
    (inb : ∀ a, (![0, 0] : Fin 2 → ℕ) a + (![768, 128] : Fin 2 → ℕ) a ≤ S768x128.size a) :
    View.readAt (Elt Ideal) M.view (Rect.unit (s := S768x128) ![0, 0] ![768, 128] inb).toLoadRect f
      = M.view.read (Elt Ideal) f := by
  funext x
  refine congrArg (M.view.read (Elt Ideal) f) (funext fun a => Fin.ext ?_)
  fin_cases a
  · show 0 + 1 * (x 0).val = (x 0).val
    omega
  · show 0 + 1 * (x 1).val = (x 1).val
    omega

/-- A read of an array of 8448 rows after a store of one block of 768 rows. -/
theorem read_write_rows (M : Memref sig .tc .vmem S8448x128 e) (f : M.view.ty.Contents (Elt Ideal)) {off : Fin 2 → ℕ}
    (inb : ∀ a, off a + (![768, 128] : Fin 2 → ℕ) a ≤ S8448x128.size a) {b : ℕ} (hb : b < 11) (h : off = ![768 * b, 0])
    (w : (⟨2, ![768, 128]⟩ : Shape).Idx → Elt Ideal e) (L : List (View.Piece (Elt Ideal) S8448x128 e)) (R : Fin 8448) (d : Fin 128) :
    M.view.read (Elt Ideal) (M.view.writes (Elt Ideal) f (⟨Rect.unit (s := S8448x128) off ![768, 128] inb, w⟩ :: L)) (ix2 R d)
      = if (blockOf R).val = b then w (ix2 (inBlock R) d) else M.view.read (Elt Ideal) (M.view.writes (Elt Ideal) f L) (ix2 R d) := by
  have hv := congrArg Fin.val (row_blockOf R)
  rw [row_val (blockOf R).isLt] at hv
  have hin := (inBlock R).isLt
  split
  · rename_i hR
    refine View.read_writes_cons_unit_of_mem M.view f inb w L (ix2 R d) (ix2 (inBlock R) d) h fun a => ?_
    fin_cases a
    · show R.val = 768 * b + (inBlock R).val
      omega
    · show d.val = 0 + d.val
      omega
  · rename_i hR
    refine View.read_writes_cons_unit_of_not_mem M.view f inb w L (ix2 R d) h (0 : Fin 2) ?_
    show R.val < 768 * b ∨ 768 * b + 768 ≤ R.val
    omega

end

end Cert.KernelIdeal.Grad

end
-- ==== Proof.LoopValue.lean ====
/-
The loop over the later blocks of rows, its carried sums and its stores in closed form.

Before its trip `n` the loop of key block `j` has taken in the blocks of rows up to `j + n`: the carried key and value
gradients are the sums over those blocks, and the query gradients of those blocks have received the key block's share.
-/
module

public import proofs.«01_k».proof.Proof.Share
public import proofs.«01_k».proof.Proof.Gen.KernelIdeal.Loops

@[expose] public section

set_option maxRecDepth 16384

noncomputable section

namespace Cert.KernelIdeal.Grad

open Cert.KernelIdeal.Gen
open Idealize.ShloMosaic Idealize.ShloMosaic.TcCoe

section
variable (c : Dev nD) (i : grid0.Coords)
  (qM : Memref sig .tc .vmem S8448x128 .bf16) (hq : qM.IsWhole) (oM : Memref sig .tc .vmem S8448x128 .bf16) (ho : oM.IsWhole)
  (gM : Memref sig .tc .vmem S8448x128 .bf16) (hg : gM.IsWhole) (kM : Memref sig .tc .vmem S768x128 .bf16) (hk : kM.IsWhole)
  (vM : Memref sig .tc .vmem S768x128 .bf16) (hv : vM.IsWhole) (lM : Memref sig .tc .vmem S1x11x1x768 .f32) (hl : lM.IsWhole)
  (dqM : Memref sig .tc .vmem S8448x128 .f32) (hdq : dqM.IsWhole) (dkvM : Memref sig .tc .vmem S768x256 .bf16) (hdkv : dkvM.IsWhole)
  (dlM : Memref sig .tc .vmem S11x1x768 .f32) (hdl : dlM.IsWhole) (bd : Option Variants.none.V)
  (k v : Vec Ideal S768x128 .bf16) (X : qM.view.ty.Contents (Elt Ideal)) (Y : gM.view.ty.Contents (Elt Ideal))
  (Z : lM.view.ty.Contents (Elt Ideal)) (D : dlM.view.ty.Contents (Elt Ideal)) (G : dqM.view.ty.Contents (Elt Ideal))
  (init : FVec Ideal S768x128 .f32 × FVec Ideal S768x128 .f32)

theorem tripR_eq (n : Fin (k0_t1_loop i).trips) (acc : FVec Ideal S768x128 .f32 × FVec Ideal S768x128 .f32)
    (f : dqM.view.ty.Contents (Elt Ideal)) :
    tripR_k0_t1 (F := Ideal) Variants.none c bd i qM hq oM ho gM hg kM hk vM hv lM hl dqM hdq dkvM hdkv dlM hdl k v X Y Z D n acc f
      = (k0_pay8 k v acc.1
          (ldRows qM X (k0_off4 i n) (k0_off4_inb i n))
          (ldRows gM Y (k0_off4 i n) (k0_off4_inb i n))
          (ldLse lM Z (k0_off5 i n) (k0_off5_inb i n))
          (ldSums dlM D (k0_off6 i n) (k0_off6_inb i n)),
        k0_pay6 k acc.2
          (ldRows qM X (k0_off4 i n) (k0_off4_inb i n))
          (ldRows gM Y (k0_off4 i n) (k0_off4_inb i n))
          (ldLse lM Z (k0_off5 i n) (k0_off5_inb i n))) := by
  unfold tripR_k0_t1 trip_k0_t1
  rfl

theorem tripL_eq (n : Fin (k0_t1_loop i).trips) (acc : FVec Ideal S768x128 .f32 × FVec Ideal S768x128 .f32)
    (f : dqM.view.ty.Contents (Elt Ideal)) :
    tripL_k0_t1 (F := Ideal) Variants.none c bd i qM hq oM ho gM hg kM hk vM hv lM hl dqM hdq dkvM hdkv dlM hdl k v X Y Z D n acc f
      = [⟨Rect.unit (s := S8448x128) (k0_off4 i n) ![768, 128] (k0_off4_inb i n), k0_pay9 k v
          (ldRows qM X (k0_off4 i n) (k0_off4_inb i n))
          (ldRows gM Y (k0_off4 i n) (k0_off4_inb i n))
          (ldLse lM Z (k0_off5 i n) (k0_off5_inb i n))
          (ldSums dlM D (k0_off6 i n) (k0_off6_inb i n))
          (ldRows dqM f (k0_off4 i n) (k0_off4_inb i n))⟩] := by
  unfold tripL_k0_t1 trip_k0_t1
  rfl

section
variable (n : Fin (k0_t1_loop i).trips)

/-- The gradient of a score in the block of rows of trip `n`, as the body computes it. -/
theorem trip_score (a r : Fin 768) :
    gs v (ldRows gM Y (k0_off4 i n) (k0_off4_inb i n))
        (ldSums dlM D (k0_off6 i n) (k0_off6_inb i n))
        (wt k (ldRows qM X (k0_off4 i n) (k0_off4_inb i n))
          (ldLse lM Z (k0_off5 i n) (k0_off5_inb i n)) a r) a r
      = scoreGrad (i 1).val k v (qM.view.read (Elt Ideal) X) (gM.view.read (Elt Ideal) Y) (lM.view.read (Elt Ideal) Z) (dlM.view.read (Elt Ideal) D) a (row ((i 1).val + 1 + n.val) r) := by
  rw [wt_eq (i 1).val k (qM.view.read (Elt Ideal) X) (lM.view.read (Elt Ideal) Z) (trip_lt i n) (by omega) _ _ (read_rows qM X _ (trip_lt i n) (off4_eq i n))
    (read_lse lM Z _ (trip_lt i n) (off5_eq i n)) a r]
  exact gs_eq (i 1).val k v (qM.view.read (Elt Ideal) X) (gM.view.read (Elt Ideal) Y) (lM.view.read (Elt Ideal) Z) (dlM.view.read (Elt Ideal) D) (trip_lt i n) _ _ (read_rows gM Y _ (trip_lt i n) (off4_eq i n))
    (read_dl dlM D _ (trip_lt i n) (off6_eq i n)) a r

theorem trip_dk (acc : FVec Ideal S768x128 .f32) (a : Fin 768) (d : Fin 128) :
    k0_pay8 k v acc
        (ldRows qM X (k0_off4 i n) (k0_off4_inb i n))
        (ldRows gM Y (k0_off4 i n) (k0_off4_inb i n))
        (ldLse lM Z (k0_off5 i n) (k0_off5_inb i n))
        (ldSums dlM D (k0_off6 i n) (k0_off6_inb i n)) (ix2 a d)
      = acc (ix2 a d) + dkPart (i 1).val k v (qM.view.read (Elt Ideal) X) (gM.view.read (Elt Ideal) Y) (lM.view.read (Elt Ideal) Z) (dlM.view.read (Elt Ideal) D) a d ((i 1).val + 1 + n.val) := by
  refine (pay8_apply _ _ _ _ _ _ _ _ _).trans (congrArg (acc (ix2 a d) + ·) (Finset.sum_congr rfl fun r _ => ?_))
  exact congrArg₂ (· * ·) (trip_score i qM gM lM dlM k v X Y Z D n a r) (read_rows qM X _ (trip_lt i n) (off4_eq i n) r d)

theorem trip_dv (acc : FVec Ideal S768x128 .f32) (a : Fin 768) (d : Fin 128) :
    k0_pay6 k acc
        (ldRows qM X (k0_off4 i n) (k0_off4_inb i n))
        (ldRows gM Y (k0_off4 i n) (k0_off4_inb i n))
        (ldLse lM Z (k0_off5 i n) (k0_off5_inb i n)) (ix2 a d)
      = acc (ix2 a d) + dvPart (i 1).val k (qM.view.read (Elt Ideal) X) (gM.view.read (Elt Ideal) Y) (lM.view.read (Elt Ideal) Z) a d ((i 1).val + 1 + n.val) := by
  refine (pay6_apply _ _ _ _ _ _ _).trans (congrArg (acc (ix2 a d) + ·) (Finset.sum_congr rfl fun r _ => ?_))
  exact congrArg₂ (· * ·)
    (wt_eq (i 1).val k (qM.view.read (Elt Ideal) X) (lM.view.read (Elt Ideal) Z) (trip_lt i n) (by omega) _ _ (read_rows qM X _ (trip_lt i n) (off4_eq i n))
      (read_lse lM Z _ (trip_lt i n) (off5_eq i n)) a r)
    (read_rows gM Y _ (trip_lt i n) (off4_eq i n) r d)

theorem trip_dq (f : dqM.view.ty.Contents (Elt Ideal)) (r : Fin 768) (d : Fin 128) :
    k0_pay9 k v
        (ldRows qM X (k0_off4 i n) (k0_off4_inb i n))
        (ldRows gM Y (k0_off4 i n) (k0_off4_inb i n))
        (ldLse lM Z (k0_off5 i n) (k0_off5_inb i n))
        (ldSums dlM D (k0_off6 i n) (k0_off6_inb i n))
        (ldRows dqM f (k0_off4 i n) (k0_off4_inb i n)) (ix2 r d)
      = dqM.view.read (Elt Ideal) f (ix2 (row ((i 1).val + 1 + n.val) r) d)
        + dqShare (i 1).val k v (qM.view.read (Elt Ideal) X) (gM.view.read (Elt Ideal) Y) (lM.view.read (Elt Ideal) Z) (dlM.view.read (Elt Ideal) D) (row ((i 1).val + 1 + n.val) r) d := by
  refine (pay9_apply _ _ _ _ _ _ _ _ _).trans
    (congrArg₂ (· + ·) (read_rows dqM f _ (trip_lt i n) (off4_eq i n) r d) (Finset.sum_congr rfl fun a _ => ?_))
  exact congrArg (· * k (ix2 a d)) (trip_score i qM gM lM dlM k v X Y Z D n a r)
end

/-- The carried sums before trip `n`. -/
theorem loop_sums (h1 : ∀ a d, init.1 (ix2 a d) = ∑ b ∈ Finset.range ((i 1).val + 1), dkPart (i 1).val k v (qM.view.read (Elt Ideal) X) (gM.view.read (Elt Ideal) Y) (lM.view.read (Elt Ideal) Z) (dlM.view.read (Elt Ideal) D) a d b)
    (h2 : ∀ a d, init.2 (ix2 a d) = ∑ b ∈ Finset.range ((i 1).val + 1), dvPart (i 1).val k (qM.view.read (Elt Ideal) X) (gM.view.read (Elt Ideal) Y) (lM.view.read (Elt Ideal) Z) a d b) (n : ℕ)
    (hn : n ≤ (k0_t1_loop i).trips) :
    (∀ a d, (st_k0_t1 (F := Ideal) Variants.none c bd i qM hq oM ho gM hg kM hk vM hv lM hl dqM hdq dkvM hdkv dlM hdl k v X Y Z D G init n).1.1 (ix2 a d) = ∑ b ∈ Finset.range ((i 1).val + 1 + n), dkPart (i 1).val k v (qM.view.read (Elt Ideal) X) (gM.view.read (Elt Ideal) Y) (lM.view.read (Elt Ideal) Z) (dlM.view.read (Elt Ideal) D) a d b)
    ∧ ∀ a d, (st_k0_t1 (F := Ideal) Variants.none c bd i qM hq oM ho gM hg kM hk vM hv lM hl dqM hdq dkvM hdkv dlM hdl k v X Y Z D G init n).1.2 (ix2 a d) = ∑ b ∈ Finset.range ((i 1).val + 1 + n), dvPart (i 1).val k (qM.view.read (Elt Ideal) X) (gM.view.read (Elt Ideal) Y) (lM.view.read (Elt Ideal) Z) a d b := by
  induction n with
  | zero => exact ⟨h1, h2⟩
  | succ n ih =>
    obtain ⟨ih1, ih2⟩ := ih (by omega)
    have hs := st_k0_t1_succ (F := Ideal) Variants.none c bd i qM hq oM ho gM hg kM hk vM hv lM hl dqM hdq dkvM hdkv dlM hdl k v
      X Y Z D G init ⟨n, hn⟩
    rw [tripR_eq] at hs
    constructor
    · intro a d
      rw [congrArg (fun s => s.1.1 (ix2 a d)) hs, show (i 1).val + 1 + (n + 1) = ((i 1).val + 1 + n) + 1 from rfl,
        Finset.sum_range_succ, ← ih1 a d]
      exact trip_dk i qM gM lM dlM k v X Y Z D ⟨n, hn⟩ _ a d
    · intro a d
      rw [congrArg (fun s => s.1.2 (ix2 a d)) hs, show (i 1).val + 1 + (n + 1) = ((i 1).val + 1 + n) + 1 from rfl,
        Finset.sum_range_succ, ← ih2 a d]
      exact trip_dv i qM gM lM k X Y Z ⟨n, hn⟩ _ a d

/-- The query gradients before trip `n`. -/
theorem loop_dq (y : Fin 8448 → Fin 128 → EReal)
    (h : ∀ R d, dqM.view.read (Elt Ideal) G (ix2 R d)
      = y R d + if (blockOf R).val ≤ (i 1).val then dqShare (i 1).val k v (qM.view.read (Elt Ideal) X) (gM.view.read (Elt Ideal) Y) (lM.view.read (Elt Ideal) Z) (dlM.view.read (Elt Ideal) D) R d else 0) (n : ℕ)
    (hn : n ≤ (k0_t1_loop i).trips) (R : Fin 8448) (d : Fin 128) :
    dqM.view.read (Elt Ideal) (dqM.view.writes (Elt Ideal) G (st_k0_t1 (F := Ideal) Variants.none c bd i qM hq oM ho gM hg kM hk vM hv lM hl dqM hdq dkvM hdkv dlM hdl k v X Y Z D G init n).2) (ix2 R d)
      = y R d + if (blockOf R).val ≤ (i 1).val + n then dqShare (i 1).val k v (qM.view.read (Elt Ideal) X) (gM.view.read (Elt Ideal) Y) (lM.view.read (Elt Ideal) Z) (dlM.view.read (Elt Ideal) D) R d else 0 := by
  induction n generalizing R d with
  | zero => exact h R d
  | succ n ih =>
    have hs := st_k0_t1_succ (F := Ideal) Variants.none c bd i qM hq oM ho gM hg kM hk vM hv lM hl dqM hdq dkvM hdkv dlM hdl k v
      X Y Z D G init ⟨n, hn⟩
    rw [tripL_eq] at hs
    have hs2 := congrArg Prod.snd hs
    refine (congrArg (fun L => dqM.view.read (Elt Ideal) (dqM.view.writes (Elt Ideal) G L) (ix2 R d)) hs2).trans ?_
    refine (read_write_rows dqM G _ (trip_lt i ⟨n, hn⟩) (off4_eq i ⟨n, hn⟩) _ _ R d).trans ?_
    split
    · rename_i hR
      have hR' : (blockOf R).val = (i 1).val + 1 + n := hR
      refine (trip_dq i qM gM lM dqM dlM k v X Y Z D ⟨n, hn⟩ _ (inBlock R) d).trans ?_
      show dqM.view.read (Elt Ideal) (dqM.view.writes (Elt Ideal) G (st_k0_t1 (F := Ideal) Variants.none c bd i qM hq oM ho gM hg kM hk vM hv lM hl dqM hdq dkvM hdkv dlM hdl k v X Y Z D G init n).2) (ix2 (row ((i 1).val + 1 + n) (inBlock R)) d)
        + dqShare _ _ _ _ _ _ _ (row ((i 1).val + 1 + n) (inBlock R)) d = _
      rw [← hR', row_blockOf, ih (by omega), if_neg (by omega), if_pos (by omega), add_zero]
    · rename_i hR
      have hR' : (blockOf R).val ≠ (i 1).val + 1 + n := hR
      refine (ih (by omega) R d).trans (congrArg (y R d + ·) (if_congr ?_ rfl rfl))
      omega

end

end Cert.KernelIdeal.Grad

end
-- ==== Proof.BodyRun.lean ====
/-
The body of the gradient kernel, run once for the first key block of a head and once for the other key blocks.

A point of the grid is a head and a block of 768 keys. At a head's first key block the body clears the head's query
gradients and computes the row sums of `o * do` into its scratch; at every key block it adds the block's share to the
query gradients and stores the block's key and value gradients. Each run below ends with the writes, last first, that the
body has made to the query gradients, to the key and value gradients and, at the first key block, to the scratch.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The point's key block is the head's first. -/
abbrev FirstBlock (i : grid0.Coords) : Prop :=
  (Scalar.cmpi .ne (Scalar.extui (Scalar.cmpi .eq (BitVec.ofNat 32 (i 1).val) 0#32)) 0#32) = 1#1

section
variable (c : Dev nD) (i : grid0.Coords)
  (qM : Memref sig .tc .vmem S8448x128 .bf16) (hq : qM.IsWhole) (oM : Memref sig .tc .vmem S8448x128 .bf16) (ho : oM.IsWhole)
  (gM : Memref sig .tc .vmem S8448x128 .bf16) (hg : gM.IsWhole) (kM : Memref sig .tc .vmem S768x128 .bf16) (hk : kM.IsWhole)
  (vM : Memref sig .tc .vmem S768x128 .bf16) (hv : vM.IsWhole) (lM : Memref sig .tc .vmem S1x11x1x768 .f32) (hl : lM.IsWhole)
  (dqM : Memref sig .tc .vmem S8448x128 .f32) (hdq : dqM.IsWhole) (dkvM : Memref sig .tc .vmem S768x256 .bf16) (hdkv : dkvM.IsWhole)
  (dlM : Memref sig .tc .vmem S11x1x768 .f32) (hdl : dlM.IsWhole)
  (q : Vec F S8448x128 .bf16) (o : Vec F S8448x128 .bf16) (g : Vec F S8448x128 .bf16) (k : Vec F S768x128 .bf16)
  (v : Vec F S768x128 .bf16) (l : Vec F S1x11x1x768 .f32)

set_option maxHeartbeats 4000000 in
/-- The body at a head's first key block: its writes to the query gradients, to the key and value gradients and to the row sums. -/
def runFirst (hc : FirstBlock i) :
    Σ' (Wq : List (View.Piece (Elt F) S8448x128 .f32)) (Wkv : List (View.Piece (Elt F) S768x256 .bf16)),
    { Wd : List (View.Piece (Elt F) S11x1x768 .f32) // ∀ (K : PUnit → sProp 𝕄),
      iprop(owns (c : Thread nD τ) qM fullShare q ∗ owns (c : Thread nD τ) oM fullShare o ∗ owns (c : Thread nD τ) gM fullShare g
          ∗ owns (c : Thread nD τ) kM fullShare k ∗ owns (c : Thread nD τ) vM fullShare v ∗ owns (c : Thread nD τ) lM fullShare l
          ∗ (∃ d, owns (c : Thread nD τ) dqM fullShare d) ∗ (∃ d, owns (c : Thread nD τ) dkvM fullShare d) ∗ (∃ d, owns (c : Thread nD τ) dlM fullShare d)
          ∗ (iprop(owns (c : Thread nD τ) qM fullShare q ∗ owns (c : Thread nD τ) oM fullShare o ∗ owns (c : Thread nD τ) gM fullShare g
              ∗ owns (c : Thread nD τ) kM fullShare k ∗ owns (c : Thread nD τ) vM fullShare v ∗ owns (c : Thread nD τ) lM fullShare l
              ∗ (∃ f, dqM.view.loc (c : Thread nD τ) ↦[dqM.view.set]{fullShare} dqM.view.writes (Elt F) f Wq)
              ∗ (∃ f, dkvM.view.loc (c : Thread nD τ) ↦[dkvM.view.set]{fullShare} dkvM.view.writes (Elt F) f Wkv)
              ∗ (∃ f, dlM.view.loc (c : Thread nD τ) ↦[dlM.view.set]{fullShare} dlM.view.writes (Elt F) f Wd)) -∗ K ⟨⟩))
        ⊢ wp frame (wpE (defs₀ (F := F)) Variants.none c none) Set.univ
            (cc0_attn_bwd i qM hq oM ho gM hg kM hk vM hv lM hl dqM hdq dkvM hdkv dlM hdl) K } := by
  refine ⟨?_, ?_, ?_, fun K => ?run⟩
  case run =>
    simp only [cc0_attn_bwd_eq_skeleton]; unfold cc0_attn_bwd_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := hq.eq_unread hf0; obtain rfl := ho.eq_unread hf1; obtain rfl := hg.eq_unread hf2
    obtain rfl := hk.eq_unread hf3; obtain rfl := hv.eq_unread hf4; obtain rfl := hl.eq_unread hf5
    sl_exec (disch := first | sl_exact hc)
    sl_step
    iapply Hk
    isplitl [H0]
    · iexists _; isplitr; · ipureintro; exact hq.read_unread _
      iexact H0
    isplitl [H1]
    · iexists _; isplitr; · ipureintro; exact ho.read_unread _
      iexact H1
    isplitl [H2]
    · iexists _; isplitr; · ipureintro; exact hg.read_unread _
      iexact H2
    isplitl [H3]
    · iexists _; isplitr; · ipureintro; exact hk.read_unread _
      iexact H3
    isplitl [H4]
    · iexists _; isplitr; · ipureintro; exact hv.read_unread _
      iexact H4
    isplitl [H5]
    · iexists _; isplitr; · ipureintro; exact hl.read_unread _
      iexact H5
    isplitl [H6]
    · iexists _; iexact H6
    isplitl [H7]
    · iexists _; iexact H7
    iexists _; iexact H8

set_option maxHeartbeats 4000000 in
/-- The body at any other key block, the query gradients found at `y` and the row sums at `d`: its writes to the query gradients and
    to the key and value gradients. -/
def runLater (hc : ¬ FirstBlock i) (y : Vec F S8448x128 .f32) (d : Vec F S11x1x768 .f32) :
    Σ' (Wq : List (View.Piece (Elt F) S8448x128 .f32)),
    { Wkv : List (View.Piece (Elt F) S768x256 .bf16) // ∀ (K : PUnit → sProp 𝕄),
      iprop(owns (c : Thread nD τ) qM fullShare q ∗ owns (c : Thread nD τ) oM fullShare o ∗ owns (c : Thread nD τ) gM fullShare g
          ∗ owns (c : Thread nD τ) kM fullShare k ∗ owns (c : Thread nD τ) vM fullShare v ∗ owns (c : Thread nD τ) lM fullShare l
          ∗ owns (c : Thread nD τ) dqM fullShare y ∗ (∃ e, owns (c : Thread nD τ) dkvM fullShare e) ∗ owns (c : Thread nD τ) dlM fullShare d
          ∗ (iprop(owns (c : Thread nD τ) qM fullShare q ∗ owns (c : Thread nD τ) oM fullShare o ∗ owns (c : Thread nD τ) gM fullShare g
              ∗ owns (c : Thread nD τ) kM fullShare k ∗ owns (c : Thread nD τ) vM fullShare v ∗ owns (c : Thread nD τ) lM fullShare l
              ∗ (dqM.view.loc (c : Thread nD τ) ↦[dqM.view.set]{fullShare} dqM.view.writes (Elt F) (hdq.unread y) Wq)
              ∗ (∃ f, dkvM.view.loc (c : Thread nD τ) ↦[dkvM.view.set]{fullShare} dkvM.view.writes (Elt F) f Wkv)
              ∗ owns (c : Thread nD τ) dlM fullShare d) -∗ K ⟨⟩))
        ⊢ wp frame (wpE (defs₀ (F := F)) Variants.none c none) Set.univ
            (cc0_attn_bwd i qM hq oM ho gM hg kM hk vM hv lM hl dqM hdq dkvM hdkv dlM hdl) K } := by
  refine ⟨?_, ?_, fun K => ?run⟩
  case run =>
    simp only [cc0_attn_bwd_eq_skeleton]; unfold cc0_attn_bwd_skel
    simp only [k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := hq.eq_unread hf0; obtain rfl := ho.eq_unread hf1; obtain rfl := hg.eq_unread hf2
    obtain rfl := hk.eq_unread hf3; obtain rfl := hv.eq_unread hf4; obtain rfl := hl.eq_unread hf5
    obtain rfl := hdq.eq_unread hf6; obtain rfl := hdl.eq_unread hf8
    sl_exec (disch := first | sl_exact hc)
    sl_step
    iapply Hk
    isplitl [H0]
    · iexists _; isplitr; · ipureintro; exact hq.read_unread _
      iexact H0
    isplitl [H1]
    · iexists _; isplitr; · ipureintro; exact ho.read_unread _
      iexact H1
    isplitl [H2]
    · iexists _; isplitr; · ipureintro; exact hg.read_unread _
      iexact H2
    isplitl [H3]
    · iexists _; isplitr; · ipureintro; exact hk.read_unread _
      iexact H3
    isplitl [H4]
    · iexists _; isplitr; · ipureintro; exact hv.read_unread _
      iexact H4
    isplitl [H5]
    · iexists _; isplitr; · ipureintro; exact hl.read_unread _
      iexact H5
    isplitl [H6]
    · iexact H6
    isplitl [H7]
    · iexists _; iexact H7
    iexists _; isplitr; · ipureintro; exact hdl.read_unread _
    iexact H8

end

end Cert.KernelIdeal.Grad

end
-- ==== Proof.RunValue.lean ====
/-
What the body leaves in its buffers, in closed form.

At every key block the body adds the block's share to the head's query gradients and stores the block's key and value
gradients; at a head's first key block it starts the query gradients from zero and stores the row sums of `o * g`.
-/
module

public import proofs.«01_k».proof.Proof.LoopValue
public import proofs.«01_k».proof.Proof.BodyRun

@[expose] public section

set_option maxRecDepth 16384

noncomputable section

namespace Cert.KernelIdeal.Grad

open Cert.KernelIdeal.Gen
open Idealize.ShloMosaic Idealize.ShloMosaic.TcCoe

section
variable (c : Dev nD) (i : grid0.Coords)
  (qM : Memref sig .tc .vmem S8448x128 .bf16) (hq : qM.IsWhole) (oM : Memref sig .tc .vmem S8448x128 .bf16) (ho : oM.IsWhole)
  (gM : Memref sig .tc .vmem S8448x128 .bf16) (hg : gM.IsWhole) (kM : Memref sig .tc .vmem S768x128 .bf16) (hk : kM.IsWhole)
  (vM : Memref sig .tc .vmem S768x128 .bf16) (hv : vM.IsWhole) (lM : Memref sig .tc .vmem S1x11x1x768 .f32) (hl : lM.IsWhole)
  (dqM : Memref sig .tc .vmem S8448x128 .f32) (hdq : dqM.IsWhole) (dkvM : Memref sig .tc .vmem S768x256 .bf16) (hdkv : dkvM.IsWhole)
  (dlM : Memref sig .tc .vmem S11x1x768 .f32) (hdl : dlM.IsWhole)

/-! ## The diagonal block -/

section
variable (k v : Vec Ideal S768x128 .bf16) (X : qM.view.ty.Contents (Elt Ideal)) (Y : gM.view.ty.Contents (Elt Ideal))
  (Z : lM.view.ty.Contents (Elt Ideal)) (D : dlM.view.ty.Contents (Elt Ideal))

theorem diag_weight (a r : Fin 768) :
    k0_pay34 (F := Ideal) i k (ldRows qM X (k0_off1 i) (k0_off1_inb i)) (ldLse lM Z (k0_off2 i) (k0_off2_inb i)) (ix2 a r)
      = weight (i 1).val k (qM.view.read (Elt Ideal) X) (lM.view.read (Elt Ideal) Z) a (row (i 1).val r) :=
  (pay34_apply _ _ _ i a r).trans
    (wtM_eq (i 1).val k _ _ (coord_lt i) _ _ (read_rows qM X _ (coord_lt i) (off1_eq i)) (read_lse lM Z _ (coord_lt i) (off2_eq i)) a r)

theorem diag_score (a r : Fin 768) :
    gs v (ldRows gM Y (k0_off1 i) (k0_off1_inb i)) (ldSums dlM D (k0_off3 i) (k0_off3_inb i))
        (k0_pay34 (F := Ideal) i k (ldRows qM X (k0_off1 i) (k0_off1_inb i)) (ldLse lM Z (k0_off2 i) (k0_off2_inb i)) (ix2 a r)) a r
      = scoreGrad (i 1).val k v (qM.view.read (Elt Ideal) X) (gM.view.read (Elt Ideal) Y) (lM.view.read (Elt Ideal) Z)
          (dlM.view.read (Elt Ideal) D) a (row (i 1).val r) := by
  rw [diag_weight]
  exact gs_eq (i 1).val k v _ _ _ _ (coord_lt i) _ _ (read_rows gM Y _ (coord_lt i) (off1_eq i))
    (read_dl dlM D _ (coord_lt i) (off3_eq i)) a r

theorem diag_dk (a : Fin 768) (d : Fin 128) :
    k0_pay3 (F := Ideal) v k0_pay32 (ldRows qM X (k0_off1 i) (k0_off1_inb i)) (ldRows gM Y (k0_off1 i) (k0_off1_inb i))
        (k0_pay34 i k (ldRows qM X (k0_off1 i) (k0_off1_inb i)) (ldLse lM Z (k0_off2 i) (k0_off2_inb i)))
        (ldSums dlM D (k0_off3 i) (k0_off3_inb i)) (ix2 a d)
      = ∑ b ∈ Finset.range ((i 1).val + 1), dkPart (i 1).val k v (qM.view.read (Elt Ideal) X) (gM.view.read (Elt Ideal) Y)
          (lM.view.read (Elt Ideal) Z) (dlM.view.read (Elt Ideal) D) a d b := by
  rw [Finset.sum_range_succ, Finset.sum_eq_zero fun b hb => dkPart_of_lt _ k v _ _ _ _ (coord_lt i) a d (Finset.mem_range.mp hb)]
  refine (pay3_apply _ _ _ _ _ _ _ _).trans (congrArg₂ (· + ·) (pay32_apply a d) (Finset.sum_congr rfl fun r _ => ?_))
  exact congrArg₂ (· * ·) (diag_score i qM gM lM dlM k v X Y Z D a r) (read_rows qM X _ (coord_lt i) (off1_eq i) r d)

theorem diag_dv (a : Fin 768) (d : Fin 128) :
    k0_pay1 (F := Ideal) k0_pay33 (k0_pay35 i k (ldRows qM X (k0_off1 i) (k0_off1_inb i)) (ldRows gM Y (k0_off1 i) (k0_off1_inb i))
        (ldLse lM Z (k0_off2 i) (k0_off2_inb i))) (ix2 a d)
      = ∑ b ∈ Finset.range ((i 1).val + 1), dvPart (i 1).val k (qM.view.read (Elt Ideal) X) (gM.view.read (Elt Ideal) Y)
          (lM.view.read (Elt Ideal) Z) a d b := by
  rw [Finset.sum_range_succ, Finset.sum_eq_zero fun b hb => dvPart_of_lt _ k _ _ _ (coord_lt i) a d (Finset.mem_range.mp hb)]
  refine (pay1_apply _ _ _ _).trans (congrArg₂ (· + ·) (pay33_apply a d)
    ((pay35_apply _ _ _ _ i a d).trans (Finset.sum_congr rfl fun r _ => ?_)))
  exact congrArg₂ (· * ·)
    (wtM_eq (i 1).val k _ _ (coord_lt i) _ _ (read_rows qM X _ (coord_lt i) (off1_eq i)) (read_lse lM Z _ (coord_lt i) (off2_eq i)) a r)
    (read_rows gM Y _ (coord_lt i) (off1_eq i) r d)

theorem diag_dq (y : Vec Ideal S768x128 .f32) (r : Fin 768) (d : Fin 128) :
    k0_pay4 (F := Ideal) k v (ldRows gM Y (k0_off1 i) (k0_off1_inb i))
        (k0_pay34 i k (ldRows qM X (k0_off1 i) (k0_off1_inb i)) (ldLse lM Z (k0_off2 i) (k0_off2_inb i)))
        (ldSums dlM D (k0_off3 i) (k0_off3_inb i)) y (ix2 r d)
      = y (ix2 r d) + dqShare (i 1).val k v (qM.view.read (Elt Ideal) X) (gM.view.read (Elt Ideal) Y)
          (lM.view.read (Elt Ideal) Z) (dlM.view.read (Elt Ideal) D) (row (i 1).val r) d := by
  refine (pay4_apply _ _ _ _ _ _ _ _).trans (congrArg (y (ix2 r d) + ·) (Finset.sum_congr rfl fun a _ => ?_))
  exact congrArg (· * k (ix2 a d)) (diag_score i qM gM lM dlM k v X Y Z D a r)

/-- The store of the diagonal block's share. -/
abbrev diagPiece (G' : dqM.view.ty.Contents (Elt Ideal)) : View.Piece (Elt Ideal) S8448x128 .f32 :=
  ⟨Rect.unit (s := S8448x128) (k0_off1 i) ![768, 128] (k0_off1_inb i),
    k0_pay4 (F := Ideal) k v (ldRows gM Y (k0_off1 i) (k0_off1_inb i))
      (k0_pay34 i k (ldRows qM X (k0_off1 i) (k0_off1_inb i)) (ldLse lM Z (k0_off2 i) (k0_off2_inb i)))
      (ldSums dlM D (k0_off3 i) (k0_off3_inb i)) (ldRows dqM G' (k0_off1 i) (k0_off1_inb i))⟩

/-- What the loop over the later blocks of rows starts from. -/
abbrev diagInit : FVec Ideal S768x128 .f32 × FVec Ideal S768x128 .f32 :=
  (k0_pay3 (F := Ideal) v k0_pay32 (ldRows qM X (k0_off1 i) (k0_off1_inb i)) (ldRows gM Y (k0_off1 i) (k0_off1_inb i))
      (k0_pay34 i k (ldRows qM X (k0_off1 i) (k0_off1_inb i)) (ldLse lM Z (k0_off2 i) (k0_off2_inb i)))
      (ldSums dlM D (k0_off3 i) (k0_off3_inb i)),
    k0_pay1 (F := Ideal) k0_pay33 (k0_pay35 i k (ldRows qM X (k0_off1 i) (k0_off1_inb i)) (ldRows gM Y (k0_off1 i) (k0_off1_inb i))
      (ldLse lM Z (k0_off2 i) (k0_off2_inb i))))

/-- The query gradients after the diagonal block, from `y`. -/
theorem diag_store (G : dqM.view.ty.Contents (Elt Ideal)) (L : List (View.Piece (Elt Ideal) S8448x128 .f32)) (y : Fin 8448 → Fin 128 → EReal)
    (hy : ∀ R d, dqM.view.read (Elt Ideal) (dqM.view.writes (Elt Ideal) G L) (ix2 R d) = y R d)
    (G' : dqM.view.ty.Contents (Elt Ideal)) (hy' : ∀ R d, dqM.view.read (Elt Ideal) G' (ix2 R d) = y R d) (R : Fin 8448) (d : Fin 128) :
    dqM.view.read (Elt Ideal) (dqM.view.writes (Elt Ideal) G
        (diagPiece i qM gM lM dqM dlM k v X Y Z D G' :: L)) (ix2 R d)
      = y R d + if (blockOf R).val ≤ (i 1).val then dqShare (i 1).val k v (qM.view.read (Elt Ideal) X) (gM.view.read (Elt Ideal) Y)
          (lM.view.read (Elt Ideal) Z) (dlM.view.read (Elt Ideal) D) R d else 0 := by
  refine (read_write_rows dqM G _ (coord_lt i) (off1_eq i) _ L R d).trans ?_
  split
  · rename_i hR
    refine (diag_dq i qM gM lM dlM k v X Y Z D _ (inBlock R) d).trans ?_
    rw [if_pos (le_of_eq hR), read_rows dqM G' _ (coord_lt i) (off1_eq i), hy', ← hR, row_blockOf]
  · rename_i hR
    rw [hy]
    split
    · rw [dqShare_of_lt]
      · exact (add_zero _).symm
      · have hv := congrArg Fin.val (row_blockOf R)
        rw [row_val (blockOf R).isLt] at hv
        have := (inBlock R).isLt
        omega
    · exact (add_zero _).symm

/-- The state of the loop over the later blocks of rows, at its end. -/
abbrev loopEnd (G : dqM.view.ty.Contents (Elt Ideal)) :
    (FVec Ideal S768x128 .f32 × FVec Ideal S768x128 .f32) × List (View.Piece (Elt Ideal) S8448x128 .f32) :=
  st_k0_t1 (F := Ideal) Variants.none c none i qM hq oM ho gM hg kM hk vM hv lM hl dqM hdq dkvM hdkv dlM hdl k v X Y Z D G
    (diagInit i qM gM lM dlM k v X Y Z D) (k0_t1_loop i).trips

/-- The loop that follows has no trip. -/
theorem noLoop (G : dqM.view.ty.Contents (Elt Ideal)) (init : FVec Ideal S768x128 .f32 × FVec Ideal S768x128 .f32) (n : ℕ) (hn : n = 0) :
    st_k0_t2 (F := Ideal) Variants.none c none i qM hq oM ho gM hg kM hk vM hv lM hl dqM hdq dkvM hdkv dlM hdl k v X Y Z D G init n
      = (init, []) := by
  subst hn
  rfl

/-- The body's store of the key and value gradients. -/
theorem end_dkv (G : dqM.view.ty.Contents (Elt Ideal)) (f : dkvM.view.ty.Contents (Elt Ideal))
    (inb : ∀ a, (![0, 0] : Fin 2 → ℕ) a + S768x256.size a ≤ S768x256.size a) :
    dkvM.view.read (Elt Ideal) (dkvM.view.writes (Elt Ideal) f
        [⟨Rect.unit (s := S768x256) ![0, 0] S768x256.size inb,
          k0_pay15 (F := Ideal)
            (loopEnd c i qM hq oM ho gM hg kM hk vM hv lM hl dqM hdq dkvM hdkv dlM hdl k v X Y Z D G).1.1
            (loopEnd c i qM hq oM ho gM hg kM hk vM hv lM hl dqM hdq dkvM hdkv dlM hdl k v X Y Z D G).1.2⟩])
      = dkvVec (i 1).val k v (qM.view.read (Elt Ideal) X) (gM.view.read (Elt Ideal) Y) (lM.view.read (Elt Ideal) Z)
          (dlM.view.read (Elt Ideal) D) := by
  obtain ⟨h1, h2⟩ := loop_sums c i qM hq oM ho gM hg kM hk vM hv lM hl dqM hdq dkvM hdkv dlM hdl none k v X Y Z D G
    (diagInit i qM gM lM dlM k v X Y Z D) (diag_dk i qM gM lM dlM k v X Y Z D) (diag_dv i qM gM lM k X Y Z)
    (k0_t1_loop i).trips le_rfl
  have hn : (i 1).val + 1 + (k0_t1_loop i).trips = 11 := by
    have := coord_lt i
    rw [trips1_eq]
    omega
  simp only [hn, sum_dkPart, sum_dvPart] at h1 h2
  funext x
  obtain ⟨a, d, rfl⟩ : ∃ (a : Fin 768) (d : Fin 256), x = ix2 a d := ⟨x 0, x 1, by funext b; fin_cases b <;> rfl⟩
  refine (View.read_writes_cons_unit_of_mem dkvM.view f inb _ [] (ix2 a d) (ix2 a d) rfl fun b => ?_).trans ?_
  · fin_cases b
    · exact (Nat.zero_add _).symm
    · exact (Nat.zero_add _).symm
  · refine (pay15_apply _ _ a d).trans ?_
    show _ = dite _ _ _
    refine dite_congr rfl (fun h => ?_) (fun h => ?_)
    · exact congrArg (· * sc) (h1 a ⟨d.val, h⟩)
    · exact h2 a ⟨d.val - 128, by have := d.isLt; omega⟩

/-- The body's stores to the query gradients add the key block's share. -/
theorem end_dq (G : dqM.view.ty.Contents (Elt Ideal)) (L : List (View.Piece (Elt Ideal) S8448x128 .f32)) (y : Fin 8448 → Fin 128 → EReal)
    (hy : ∀ R d, dqM.view.read (Elt Ideal) (dqM.view.writes (Elt Ideal) G L) (ix2 R d) = y R d)
    (G' : dqM.view.ty.Contents (Elt Ideal)) (hy' : ∀ R d, dqM.view.read (Elt Ideal) G' (ix2 R d) = y R d) (R : Fin 8448) (d : Fin 128) :
    dqM.view.read (Elt Ideal) (dqM.view.writes (Elt Ideal)
        (dqM.view.writes (Elt Ideal) G (diagPiece i qM gM lM dqM dlM k v X Y Z D G' :: L))
        (loopEnd c i qM hq oM ho gM hg kM hk vM hv lM hl dqM hdq dkvM hdkv dlM hdl k v X Y Z D
          (dqM.view.writes (Elt Ideal) G (diagPiece i qM gM lM dqM dlM k v X Y Z D G' :: L))).2) (ix2 R d)
      = y R d + dqShare (i 1).val k v (qM.view.read (Elt Ideal) X) (gM.view.read (Elt Ideal) Y) (lM.view.read (Elt Ideal) Z)
          (dlM.view.read (Elt Ideal) D) R d := by
  refine (loop_dq c i qM hq oM ho gM hg kM hk vM hv lM hl dqM hdq dkvM hdkv dlM hdl none k v X Y Z D _ _ y
    (diag_store i qM gM lM dqM dlM k v X Y Z D G L y hy G' hy') (k0_t1_loop i).trips le_rfl R d).trans ?_
  rw [if_pos]
  have := coord_lt i
  have := (blockOf R).isLt
  rw [trips1_eq]
  omega

end

/-! ## The two runs -/

section
variable (q : Vec Ideal S8448x128 .bf16) (o : Vec Ideal S8448x128 .bf16) (g : Vec Ideal S8448x128 .bf16) (k : Vec Ideal S768x128 .bf16)
  (v : Vec Ideal S768x128 .bf16) (l : Vec Ideal S1x11x1x768 .f32)

theorem ld_block (inb : ∀ a, (![0, 0] : Fin 2 → ℕ) a + (![768, 128] : Fin 2 → ℕ) a ≤ S768x128.size a) :
    View.readAt (Elt Ideal) kM.view (Rect.unit (s := S768x128) ![0, 0] ![768, 128] inb).toLoadRect (hk.unread k) = k :=
  (read_block kM _ inb).trans (hk.read_unread k)

section
variable (hc : ¬ FirstBlock i) (y : Vec Ideal S8448x128 .f32) (d : Vec Ideal S11x1x768 .f32)

theorem later_wq :
    (runLater c i qM hq oM ho gM hg kM hk vM hv lM hl dqM hdq dkvM hdkv dlM hdl q o g k v l hc y d).1
      = (loopEnd c i qM hq oM ho gM hg kM hk vM hv lM hl dqM hdq dkvM hdkv dlM hdl k v (hq.unread q) (hg.unread g) (hl.unread l) (hdl.unread d)
          (dqM.view.writes (Elt Ideal) (hdq.unread y)
            [diagPiece i qM gM lM dqM dlM k v (hq.unread q) (hg.unread g) (hl.unread l) (hdl.unread d) (hdq.unread y)])).2
        ++ [diagPiece i qM gM lM dqM dlM k v (hq.unread q) (hg.unread g) (hl.unread l) (hdl.unread d) (hdq.unread y)] := by
  unfold runLater
  dsimp only
  rw [noLoop (hn := by exact trips2_eq i)]
  conv_rhs => rw [← ld_block kM hk k inb_S768x128_S768x128_0_0, ← ld_block vM hv v inb_S768x128_S768x128_0_0]
  rfl

theorem later_wkv :
    (runLater c i qM hq oM ho gM hg kM hk vM hv lM hl dqM hdq dkvM hdkv dlM hdl q o g k v l hc y d).2.1
      = [⟨Rect.unit (s := S768x256) ![0, 0] S768x256.size inb_S768x256_S768x256_0_0,
          k0_pay15 (F := Ideal)
            (loopEnd c i qM hq oM ho gM hg kM hk vM hv lM hl dqM hdq dkvM hdkv dlM hdl k v (hq.unread q) (hg.unread g) (hl.unread l) (hdl.unread d)
              (dqM.view.writes (Elt Ideal) (hdq.unread y)
                [diagPiece i qM gM lM dqM dlM k v (hq.unread q) (hg.unread g) (hl.unread l) (hdl.unread d) (hdq.unread y)])).1.1
            (loopEnd c i qM hq oM ho gM hg kM hk vM hv lM hl dqM hdq dkvM hdkv dlM hdl k v (hq.unread q) (hg.unread g) (hl.unread l) (hdl.unread d)
              (dqM.view.writes (Elt Ideal) (hdq.unread y)
                [diagPiece i qM gM lM dqM dlM k v (hq.unread q) (hg.unread g) (hl.unread l) (hdl.unread d) (hdq.unread y)])).1.2⟩] := by
  unfold runLater
  dsimp only
  rw [noLoop (hn := by exact trips2_eq i)]
  conv_rhs => rw [← ld_block kM hk k inb_S768x128_S768x128_0_0, ← ld_block vM hv v inb_S768x128_S768x128_0_0]
  rfl

/-- The query gradients that the body leaves at a later key block. -/
theorem later_dq :
    dqM.view.read (Elt Ideal) (dqM.view.writes (Elt Ideal) (hdq.unread y)
        (runLater c i qM hq oM ho gM hg kM hk vM hv lM hl dqM hdq dkvM hdkv dlM hdl q o g k v l hc y d).1)
      = fun x => y x + dqShare (i 1).val k v q g l d (x 0) (x 1) := by
  funext x
  obtain ⟨R, e, rfl⟩ : ∃ (R : Fin 8448) (e : Fin 128), x = ix2 R e := ⟨x 0, x 1, by funext b; fin_cases b <;> rfl⟩
  have h := end_dq c i qM hq oM ho gM hg kM hk vM hv lM hl dqM hdq dkvM hdkv dlM hdl k v (hq.unread q) (hg.unread g) (hl.unread l)
    (hdl.unread d) (hdq.unread y) [] (fun R e => y (ix2 R e))
    (fun R e => congrFun (hdq.read_unread y) _) (hdq.unread y) (fun R e => congrFun (hdq.read_unread y) _) R e
  rw [hq.read_unread, hg.read_unread, hl.read_unread, hdl.read_unread] at h
  rw [later_wq, View.writes_append]
  exact h

/-- The key and value gradients that the body leaves at a later key block. -/
theorem later_dkv (f : dkvM.view.ty.Contents (Elt Ideal)) :
    dkvM.view.read (Elt Ideal) (dkvM.view.writes (Elt Ideal) f
        (runLater c i qM hq oM ho gM hg kM hk vM hv lM hl dqM hdq dkvM hdkv dlM hdl q o g k v l hc y d).2.1)
      = dkvVec (i 1).val k v q g l d := by
  rw [later_wkv]
  refine (end_dkv c i qM hq oM ho gM hg kM hk vM hv lM hl dqM hdq dkvM hdkv dlM hdl k v _ _ _ _ _ f _).trans ?_
  rw [hq.read_unread, hg.read_unread, hl.read_unread, hdl.read_unread]
end

end

end

end Cert.KernelIdeal.Grad

end
-- ==== Proof.FirstValue.lean ====
/-
What the body leaves at a head's first key block: the row sums of `o * do`, the query gradients started from zero, and the key and
value gradients of the block.
-/
module

public import proofs.«01_k».proof.Proof.RunValue

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI

/-! ## The stores of the row sums -/

section
variable (dlM : Memref sig .tc .vmem S11x1x768 .f32)

theorem sum_inb {n : ℕ} (h : n + 1 ≤ 11) (a : Fin 3) : (![n, 0, 0] : Fin 3 → ℕ) a + S1x1x768.size a ≤ S11x1x768.size a := by
  fin_cases a
  · exact h
  · exact le_rfl
  · exact le_rfl

/-- The stores of the first `n` blocks' row sums, last first. -/
def sumPieces (f : ℕ → FVec Ideal S1x1x768 .f32) : (n : ℕ) → n ≤ 11 → List (View.Piece (Elt Ideal) S11x1x768 .f32)
  | 0, _ => []
  | n + 1, h => ⟨Rect.unit (s := S11x1x768) ![n, 0, 0] S1x1x768.size (sum_inb h), f n⟩ :: sumPieces f n (Nat.le_of_succ_le h)

theorem read_sumPieces (f : ℕ → FVec Ideal S1x1x768 .f32) (G : dlM.view.ty.Contents (Elt Ideal)) (b : Fin 11) (r : Fin 768) (n : ℕ)
    (hn : n ≤ 11) (hb : b.val < n) :
    dlM.view.read (Elt Ideal) (dlM.view.writes (Elt Ideal) G (sumPieces f n hn)) (ix3 b 0 r) = f b.val (ix3 0 0 r) := by
  induction n with
  | zero => omega
  | succ n ih =>
    unfold sumPieces
    by_cases h : b.val = n
    · rw [h]
      refine View.read_writes_cons_unit_of_mem dlM.view G _ _ _ (ix3 b 0 r) (ix3 0 0 r) rfl fun a => ?_
      fin_cases a
      · exact h
      · rfl
      · exact (Nat.zero_add _).symm
    · exact (View.read_writes_cons_unit_of_not_mem dlM.view G _ _ _ (ix3 b 0 r) rfl 0
        (Or.inl (by show b.val < n; omega))).trans (ih _ (by omega))

end

section
variable (c : Dev nD) (i : grid0.Coords)
  (qM : Memref sig .tc .vmem S8448x128 .bf16) (hq : qM.IsWhole) (oM : Memref sig .tc .vmem S8448x128 .bf16) (ho : oM.IsWhole)
  (gM : Memref sig .tc .vmem S8448x128 .bf16) (hg : gM.IsWhole) (kM : Memref sig .tc .vmem S768x128 .bf16) (hk : kM.IsWhole)
  (vM : Memref sig .tc .vmem S768x128 .bf16) (hv : vM.IsWhole) (lM : Memref sig .tc .vmem S1x11x1x768 .f32) (hl : lM.IsWhole)
  (dqM : Memref sig .tc .vmem S8448x128 .f32) (hdq : dqM.IsWhole) (dkvM : Memref sig .tc .vmem S768x256 .bf16) (hdkv : dkvM.IsWhole)
  (dlM : Memref sig .tc .vmem S11x1x768 .f32) (hdl : dlM.IsWhole)
  (q : Vec Ideal S8448x128 .bf16) (o : Vec Ideal S8448x128 .bf16) (g : Vec Ideal S8448x128 .bf16) (k : Vec Ideal S768x128 .bf16)
  (v : Vec Ideal S768x128 .bf16) (l : Vec Ideal S1x11x1x768 .f32) (hc : FirstBlock i)

/-- The row sums that the body computes for block `n`. -/
def sumBlock (O : oM.view.ty.Contents (Elt Ideal)) (Y : gM.view.ty.Contents (Elt Ideal)) : ℕ → FVec Ideal S1x1x768 .f32
  | 0 => k0_pay17 (ldRows oM O ![0, 0] inb_S8448x128_S768x128_0_0) (ldRows gM Y ![0, 0] inb_S8448x128_S768x128_0_0)
  | 1 => k0_pay18 (ldRows oM O ![768, 0] inb_S8448x128_S768x128_768_0) (ldRows gM Y ![768, 0] inb_S8448x128_S768x128_768_0)
  | 2 => k0_pay20 (k0_pay19 (ldRows oM O ![1536, 0] inb_S8448x128_S768x128_1536_0)) (ldRows gM Y ![1536, 0] inb_S8448x128_S768x128_1536_0)
  | 3 => k0_pay21 (ldRows oM O ![2304, 0] inb_S8448x128_S768x128_2304_0) (ldRows gM Y ![2304, 0] inb_S8448x128_S768x128_2304_0)
  | 4 => k0_pay23 (k0_pay22 (ldRows oM O ![3072, 0] inb_S8448x128_S768x128_3072_0) (ldRows gM Y ![3072, 0] inb_S8448x128_S768x128_3072_0))
  | 5 => k0_pay24 (ldRows oM O ![3840, 0] inb_S8448x128_S768x128_3840_0) (ldRows gM Y ![3840, 0] inb_S8448x128_S768x128_3840_0)
  | 6 => k0_pay25 (ldRows oM O ![4608, 0] inb_S8448x128_S768x128_4608_0) (ldRows gM Y ![4608, 0] inb_S8448x128_S768x128_4608_0)
  | 7 => k0_pay27 (k0_pay26 (ldRows oM O ![5376, 0] inb_S8448x128_S768x128_5376_0)) (ldRows gM Y ![5376, 0] inb_S8448x128_S768x128_5376_0)
  | 8 => k0_pay28 (ldRows oM O ![6144, 0] inb_S8448x128_S768x128_6144_0) (ldRows gM Y ![6144, 0] inb_S8448x128_S768x128_6144_0)
  | 9 => k0_pay30 (k0_pay29 (ldRows oM O ![6912, 0] inb_S8448x128_S768x128_6912_0) (ldRows gM Y ![6912, 0] inb_S8448x128_S768x128_6912_0))
  | _ => k0_pay31 (ldRows oM O ![7680, 0] inb_S8448x128_S768x128_7680_0) (ldRows gM Y ![7680, 0] inb_S8448x128_S768x128_7680_0)

/-- A block's row sums are those of the rows it holds. -/
theorem sum_rs (O : oM.view.ty.Contents (Elt Ideal)) (Y : gM.view.ty.Contents (Elt Ideal)) {off : Fin 2 → ℕ}
    (inb : ∀ a, off a + (![768, 128] : Fin 2 → ℕ) a ≤ S8448x128.size a) {b : ℕ} (hb : b < 11) (h : off = ![768 * b, 0]) (r : Fin 768) :
    rs (ldRows oM O off inb) (ldRows gM Y off inb) r
      = ∑ d : Fin 128, oM.view.read (Elt Ideal) O (ix2 (row b r) d) * gM.view.read (Elt Ideal) Y (ix2 (row b r) d) :=
  Finset.sum_congr rfl fun d _ => by rw [read_rows oM O inb hb h r d, read_rows gM Y inb hb h r d]

theorem sumBlock_apply (O : oM.view.ty.Contents (Elt Ideal)) (Y : gM.view.ty.Contents (Elt Ideal)) (b : Fin 11) (r : Fin 768) :
    sumBlock oM gM O Y b.val (ix3 0 0 r)
      = ∑ d : Fin 128, oM.view.read (Elt Ideal) O (ix2 (row b.val r) d) * gM.view.read (Elt Ideal) Y (ix2 (row b.val r) d) := by
  match b with
  | ⟨0, _⟩ => exact (pay17_apply (ldRows oM O ![0, 0] inb_S8448x128_S768x128_0_0) (ldRows gM Y ![0, 0] inb_S8448x128_S768x128_0_0) r).trans (sum_rs oM gM O Y _ (b := 0) (by decide) rfl r)
  | ⟨1, _⟩ => exact (pay18_apply (ldRows oM O ![768, 0] inb_S8448x128_S768x128_768_0) (ldRows gM Y ![768, 0] inb_S8448x128_S768x128_768_0) r).trans (sum_rs oM gM O Y _ (b := 1) (by decide) rfl r)
  | ⟨2, _⟩ => exact (pay20_apply (ldRows oM O ![1536, 0] inb_S8448x128_S768x128_1536_0) (ldRows gM Y ![1536, 0] inb_S8448x128_S768x128_1536_0) r).trans (sum_rs oM gM O Y _ (b := 2) (by decide) rfl r)
  | ⟨3, _⟩ => exact (pay21_apply (ldRows oM O ![2304, 0] inb_S8448x128_S768x128_2304_0) (ldRows gM Y ![2304, 0] inb_S8448x128_S768x128_2304_0) r).trans (sum_rs oM gM O Y _ (b := 3) (by decide) rfl r)
  | ⟨4, _⟩ => exact (pay23_apply (ldRows oM O ![3072, 0] inb_S8448x128_S768x128_3072_0) (ldRows gM Y ![3072, 0] inb_S8448x128_S768x128_3072_0) r).trans (sum_rs oM gM O Y _ (b := 4) (by decide) rfl r)
  | ⟨5, _⟩ => exact (pay24_apply (ldRows oM O ![3840, 0] inb_S8448x128_S768x128_3840_0) (ldRows gM Y ![3840, 0] inb_S8448x128_S768x128_3840_0) r).trans (sum_rs oM gM O Y _ (b := 5) (by decide) rfl r)
  | ⟨6, _⟩ => exact (pay25_apply (ldRows oM O ![4608, 0] inb_S8448x128_S768x128_4608_0) (ldRows gM Y ![4608, 0] inb_S8448x128_S768x128_4608_0) r).trans (sum_rs oM gM O Y _ (b := 6) (by decide) rfl r)
  | ⟨7, _⟩ => exact (pay27_apply (ldRows oM O ![5376, 0] inb_S8448x128_S768x128_5376_0) (ldRows gM Y ![5376, 0] inb_S8448x128_S768x128_5376_0) r).trans (sum_rs oM gM O Y _ (b := 7) (by decide) rfl r)
  | ⟨8, _⟩ => exact (pay28_apply (ldRows oM O ![6144, 0] inb_S8448x128_S768x128_6144_0) (ldRows gM Y ![6144, 0] inb_S8448x128_S768x128_6144_0) r).trans (sum_rs oM gM O Y _ (b := 8) (by decide) rfl r)
  | ⟨9, _⟩ => exact (pay30_apply (ldRows oM O ![6912, 0] inb_S8448x128_S768x128_6912_0) (ldRows gM Y ![6912, 0] inb_S8448x128_S768x128_6912_0) r).trans (sum_rs oM gM O Y _ (b := 9) (by decide) rfl r)
  | ⟨10, _⟩ => exact (pay31_apply (ldRows oM O ![7680, 0] inb_S8448x128_S768x128_7680_0) (ldRows gM Y ![7680, 0] inb_S8448x128_S768x128_7680_0) r).trans (sum_rs oM gM O Y _ (b := 10) (by decide) rfl r)

theorem first_wd :
    (runFirst c i qM hq oM ho gM hg kM hk vM hv lM hl dqM hdq dkvM hdkv dlM hdl q o g k v l hc).2.2.1
      = sumPieces (sumBlock oM gM (ho.unread o) (hg.unread g)) 11 le_rfl := rfl

/-- The row sums that the body leaves in its scratch. -/
theorem read_first_wd (f : dlM.view.ty.Contents (Elt Ideal)) :
    dlM.view.read (Elt Ideal) (dlM.view.writes (Elt Ideal) f (sumPieces (sumBlock oM gM (ho.unread o) (hg.unread g)) 11 le_rfl))
      = rowSums o g := by
  funext x
  obtain ⟨b, r, rfl⟩ : ∃ (b : Fin 11) (r : Fin 768), x = ix3 b 0 r :=
    ⟨x 0, x 2, by funext a; fin_cases a <;> first | rfl | exact Subsingleton.elim (α := Fin 1) _ _⟩
  rw [read_sumPieces dlM _ f b r 11 le_rfl b.isLt, sumBlock_apply, ho.read_unread, hg.read_unread]
  rfl

/-- The store that clears the query gradients. -/
abbrev clearPiece : View.Piece (Elt Ideal) S8448x128 .f32 :=
  ⟨Rect.unit (s := S8448x128) ![0, 0] S8448x128.size inb_S8448x128_S8448x128_0_0, k0_pay16 (F := Ideal)⟩

theorem read_clear (G : dqM.view.ty.Contents (Elt Ideal)) (R : Fin 8448) (d : Fin 128) :
    dqM.view.read (Elt Ideal) (dqM.view.writes (Elt Ideal) G [clearPiece]) (ix2 R d) = 0 := by
  refine (View.read_writes_cons_unit_of_mem dqM.view G _ _ [] (ix2 R d) (ix2 R d) rfl fun b => ?_).trans (pay16_apply R d)
  fin_cases b
  · exact (Nat.zero_add _).symm
  · exact (Nat.zero_add _).symm

/-- The stores of the row sums, and what they leave in an arbitrary scratch. -/
abbrev sumWrites : dlM.view.ty.Contents (Elt Ideal) :=
  dlM.view.writes (Elt Ideal) dlM.view.junk (sumPieces (sumBlock oM gM (ho.unread o) (hg.unread g)) 11 le_rfl)

/-- The store of the diagonal block's share over the cleared query gradients. -/
abbrev firstDiag : View.Piece (Elt Ideal) S8448x128 .f32 :=
  diagPiece i qM gM lM dqM dlM k v (hq.unread q) (hg.unread g) (hl.unread l) (sumWrites oM ho gM hg dlM o g)
    (dqM.view.writes (Elt Ideal) dqM.view.junk [clearPiece])

abbrev firstEnd :
    (FVec Ideal S768x128 .f32 × FVec Ideal S768x128 .f32) × List (View.Piece (Elt Ideal) S8448x128 .f32) :=
  loopEnd c i qM hq oM ho gM hg kM hk vM hv lM hl dqM hdq dkvM hdkv dlM hdl k v (hq.unread q) (hg.unread g) (hl.unread l)
    (sumWrites oM ho gM hg dlM o g)
    (dqM.view.writes (Elt Ideal) dqM.view.junk (firstDiag i qM hq oM ho gM hg lM hl dqM dlM q o g k v l :: [clearPiece]))

theorem first_wq :
    (runFirst c i qM hq oM ho gM hg kM hk vM hv lM hl dqM hdq dkvM hdkv dlM hdl q o g k v l hc).1
      = (firstEnd c i qM hq oM ho gM hg kM hk vM hv lM hl dqM hdq dkvM hdkv dlM hdl q o g k v l).2
        ++ (firstDiag i qM hq oM ho gM hg lM hl dqM dlM q o g k v l :: [clearPiece]) := by
  unfold runFirst
  dsimp only
  rw [noLoop (hn := by exact trips2_eq i)]
  conv_rhs => rw [← ld_block kM hk k inb_S768x128_S768x128_0_0, ← ld_block vM hv v inb_S768x128_S768x128_0_0]
  rfl

theorem first_wkv :
    (runFirst c i qM hq oM ho gM hg kM hk vM hv lM hl dqM hdq dkvM hdkv dlM hdl q o g k v l hc).2.1
      = [⟨Rect.unit (s := S768x256) ![0, 0] S768x256.size inb_S768x256_S768x256_0_0,
          k0_pay15 (F := Ideal) (firstEnd c i qM hq oM ho gM hg kM hk vM hv lM hl dqM hdq dkvM hdkv dlM hdl q o g k v l).1.1
            (firstEnd c i qM hq oM ho gM hg kM hk vM hv lM hl dqM hdq dkvM hdkv dlM hdl q o g k v l).1.2⟩] := by
  unfold runFirst
  dsimp only
  rw [noLoop (hn := by exact trips2_eq i)]
  conv_rhs => rw [← ld_block kM hk k inb_S768x128_S768x128_0_0, ← ld_block vM hv v inb_S768x128_S768x128_0_0]
  rfl

/-- The row sums that the body leaves at a head's first key block. -/
theorem first_dl (f : dlM.view.ty.Contents (Elt Ideal)) :
    dlM.view.read (Elt Ideal) (dlM.view.writes (Elt Ideal) f
        (runFirst c i qM hq oM ho gM hg kM hk vM hv lM hl dqM hdq dkvM hdkv dlM hdl q o g k v l hc).2.2.1) = rowSums o g := by
  rw [first_wd]
  exact read_first_wd oM ho gM hg dlM o g f

/-- The key and value gradients that the body leaves at a head's first key block. -/
theorem first_dkv (f : dkvM.view.ty.Contents (Elt Ideal)) :
    dkvM.view.read (Elt Ideal) (dkvM.view.writes (Elt Ideal) f
        (runFirst c i qM hq oM ho gM hg kM hk vM hv lM hl dqM hdq dkvM hdkv dlM hdl q o g k v l hc).2.1)
      = dkvVec (i 1).val k v q g l (rowSums o g) := by
  rw [first_wkv]
  refine (end_dkv c i qM hq oM ho gM hg kM hk vM hv lM hl dqM hdq dkvM hdkv dlM hdl k v _ _ _ _ _ f _).trans ?_
  rw [hq.read_unread, hg.read_unread, hl.read_unread, read_first_wd oM ho gM hg dlM o g]

/-- The query gradients that the body leaves at a head's first key block. -/
theorem first_dq (f : dqM.view.ty.Contents (Elt Ideal)) :
    dqM.view.read (Elt Ideal) (dqM.view.writes (Elt Ideal) f
        (runFirst c i qM hq oM ho gM hg kM hk vM hv lM hl dqM hdq dkvM hdkv dlM hdl q o g k v l hc).1)
      = fun x => 0 + dqShare (i 1).val k v q g l (rowSums o g) (x 0) (x 1) := by
  rw [first_wq]
  refine (View.read_writes_of_cover dqM.view f dqM.view dqM.view.junk _ fun y =>
    ⟨clearPiece, List.mem_append_right _ (List.mem_cons_of_mem _ (List.mem_singleton.mpr rfl)), ?_⟩).trans ?_
  · rw [Rect.set_eq_univ_of_whole _ fun a => by fin_cases a <;> exact ⟨rfl, rfl, rfl⟩]
    exact Finset.mem_univ _
  · funext x
    obtain ⟨R, e, rfl⟩ : ∃ (R : Fin 8448) (e : Fin 128), x = ix2 R e := ⟨x 0, x 1, by funext b; fin_cases b <;> rfl⟩
    have h := end_dq c i qM hq oM ho gM hg kM hk vM hv lM hl dqM hdq dkvM hdkv dlM hdl k v (hq.unread q) (hg.unread g) (hl.unread l)
      (sumWrites oM ho gM hg dlM o g) dqM.view.junk [clearPiece] (fun _ _ => 0) (fun R e => read_clear dqM _ R e)
      (dqM.view.writes (Elt Ideal) dqM.view.junk [clearPiece]) (fun R e => read_clear dqM _ R e) R e
    rw [hq.read_unread, hg.read_unread, hl.read_unread, read_first_wd oM ho gM hg dlM o g] at h
    rw [View.writes_append]
    exact h

end

end Cert.KernelIdeal.Grad

end
-- ==== Proof.Windows.lean ====
/-
The windows of the gradient kernel at a point of its grid: head `t / 11`, key block `t % 11`. Each input block in terms of the array
that it is cut from, and what the two results' windows hold after the point.
-/
module

public import proofs.«01_k».proof.Proof.Share
public import Idealize.ShloMosaic.Lib.Pipeline.Value
public import Idealize.ShloMosaic.Lib.Pipeline.ValueKit

@[expose] public section

set_option maxRecDepth 16384

noncomputable section

namespace Cert.KernelIdeal.Grad

open Cert.KernelIdeal.Gen
open Idealize.ShloMosaic Idealize.ShloMosaic.TcCoe

/-! ## Blocks of arrays -/

section
variable {e : EltTy}

/-- Column `d` of head `h` in an array of eight heads of 128 columns. -/
def col (h : ℕ) (d : Fin 128) : Fin 1024 := Fin.ofNat 1024 (128 * h + d.val)
/-- Column `d` of head `h`'s keys, in an array of eight heads of 128 key and 128 value columns. -/
def keyCol (h : ℕ) (d : Fin 128) : Fin 2048 := Fin.ofNat 2048 (256 * h + d.val)
/-- Column `d` of head `h`'s values there. -/
def valCol (h : ℕ) (d : Fin 128) : Fin 2048 := Fin.ofNat 2048 (256 * h + 128 + d.val)

theorem col_val {h : ℕ} (hh : h < 8) (d : Fin 128) : (col h d).val = 128 * h + d.val := by
  have := d.isLt
  exact Nat.mod_eq_of_lt (by omega)
theorem keyCol_val {h : ℕ} (hh : h < 8) (d : Fin 128) : (keyCol h d).val = 256 * h + d.val := by
  have := d.isLt
  exact Nat.mod_eq_of_lt (by omega)
theorem valCol_val {h : ℕ} (hh : h < 8) (d : Fin 128) : (valCol h d).val = 256 * h + 128 + d.val := by
  have := d.isLt
  exact Nat.mod_eq_of_lt (by omega)

/-- Head `h`'s columns. -/
def headCols (X : Vec Ideal S8448x1024 e) (h : ℕ) : Vec Ideal S8448x128 e := fun y => X (ix2 (y 0) (col h (y 1)))
/-- Key block `j` of head `h`. -/
def keyBlock (X : Vec Ideal S8448x2048 e) (h j : ℕ) : Vec Ideal S768x128 e := fun y => X (ix2 (row j (y 0)) (keyCol h (y 1)))
/-- Value block `j` of head `h`. -/
def valBlock (X : Vec Ideal S8448x2048 e) (h j : ℕ) : Vec Ideal S768x128 e := fun y => X (ix2 (row j (y 0)) (valCol h (y 1)))
/-- Head `h`'s log-sums. -/
def headLse (L : Vec Ideal S8x11x1x768 e) (h : ℕ) : Vec Ideal S1x11x1x768 e := fun y => L (ix4 (Fin.ofNat 8 h) (y 1) 0 (y 3))

end

section
variable (q o g : Vec Ideal S8448x1024 .bf16) (kv : Vec Ideal S8448x2048 .bf16) (l : Vec Ideal S8x11x1x768 .f32)

/-- Head `h`'s row sums of `o * g`. -/
def headSums (h : ℕ) : Vec Ideal S11x1x768 .f32 := rowSums (headCols o h) (headCols g h)

/-- Head `h`'s query gradients after its first `n` key blocks. -/
def dqAfter (h n : ℕ) : Vec Ideal S8448x128 .f32 := fun y =>
  ∑ j ∈ Finset.range n, dqShare j (keyBlock kv h j) (valBlock kv h j) (headCols q h) (headCols g h) (headLse l h)
    (headSums o g h) (y 0) (y 1)

/-- Key block `j`'s key and value gradients in head `h`. -/
def dkvBlock (h j : ℕ) : Vec Ideal S768x256 .bf16 :=
  dkvVec j (keyBlock kv h j) (valBlock kv h j) (headCols q h) (headCols g h) (headLse l h) (headSums o g h)

theorem dqAfter_one (h : ℕ) : dqAfter q o g kv l h (0 + 1) = fun y =>
    0 + dqShare 0 (keyBlock kv h 0) (valBlock kv h 0) (headCols q h) (headCols g h) (headLse l h) (headSums o g h) (y 0) (y 1) := by
  funext y
  exact Finset.sum_range_succ _ _

theorem dqAfter_succ (h n : ℕ) : dqAfter q o g kv l h (n + 1) = fun y =>
    dqAfter q o g kv l h n y
      + dqShare n (keyBlock kv h n) (valBlock kv h n) (headCols q h) (headCols g h) (headLse l h) (headSums o g h) (y 0) (y 1) := by
  funext y
  exact Finset.sum_range_succ _ _

end

/-! ## The windows' blocks -/

theorem index0 : ∀ t : Fin grid0.N, win0_0.index t = ![0, t.val / 11] := by decide +kernel
theorem index1 : ∀ t : Fin grid0.N, win0_1.index t = ![0, t.val / 11] := by decide +kernel
theorem index2 : ∀ t : Fin grid0.N, win0_2.index t = ![0, t.val / 11] := by decide +kernel
theorem index3 : ∀ t : Fin grid0.N, win0_3.index t = ![t.val % 11, 2 * (t.val / 11)] := by decide +kernel
theorem index4 : ∀ t : Fin grid0.N, win0_4.index t = ![t.val % 11, 2 * (t.val / 11) + 1] := by decide +kernel
theorem index5 : ∀ t : Fin grid0.N, win0_5.index t = ![t.val / 11, 0, 0, 0] := by decide +kernel
theorem index6 : ∀ t : Fin grid0.N, win0_6.index t = ![0, t.val / 11] := by decide +kernel
theorem index7 : ∀ t : Fin grid0.N, win0_7.index t = ![t.val % 11, t.val / 11] := by decide +kernel

theorem coord0 (t : Fin grid0.N) : (grid0.coords t 0).val = t.val / 11 := by
  have ht : t.val < 88 := Nat.lt_of_lt_of_eq t.isLt N_0
  have : (grid0.coords t 0).val = t.val / 11 % 8 := Pipeline.Grid.coords_val t 0 (by decide) rfl
  omega
theorem coord1 (t : Fin grid0.N) : (grid0.coords t 1).val = t.val % 11 := by
  have : (grid0.coords t 1).val = t.val / 1 % 11 := Pipeline.Grid.coords_val t 1 (by decide) rfl
  omega

theorem head_lt (t : Fin grid0.N) : t.val / 11 < 8 := by
  have ht : t.val < 88 := Nat.lt_of_lt_of_eq t.isLt N_0
  omega
theorem block_lt (t : Fin grid0.N) : t.val % 11 < 11 := Nat.mod_lt _ (by decide)

variable (m : (ℓ : Loc nD τ sig) → Buf (Elt Ideal) ℓ) (c : Dev nD) (t : Fin cfg0.N)

theorem iblk0 : (iblk m c 0 t : Vec Ideal S8448x128 .bf16) = headCols (V m c main_arg0) (t.val / 11) := by
  funext y
  have := col_val (head_lt t) (y 1)
  blk_ext [iblk, headCols, index0 t]
theorem iblk1 : (iblk m c 1 t : Vec Ideal S8448x128 .bf16) = headCols (V m c main_v32) (t.val / 11) := by
  funext y
  have := col_val (head_lt t) (y 1)
  blk_ext [iblk, headCols, index1 t]
theorem iblk2 : (iblk m c 2 t : Vec Ideal S8448x128 .bf16) = headCols (V m c main_arg2) (t.val / 11) := by
  funext y
  have := col_val (head_lt t) (y 1)
  blk_ext [iblk, headCols, index2 t]
theorem iblk3 : (iblk m c 3 t : Vec Ideal S768x128 .bf16) = keyBlock (V m c main_arg1) (t.val / 11) (t.val % 11) := by
  funext y
  have := keyCol_val (head_lt t) (y 1)
  have := row_val (block_lt t) (y 0)
  blk_ext [iblk, keyBlock, index3 t]
theorem iblk4 : (iblk m c 4 t : Vec Ideal S768x128 .bf16) = valBlock (V m c main_arg1) (t.val / 11) (t.val % 11) := by
  funext y
  have := valCol_val (head_lt t) (y 1)
  have := row_val (block_lt t) (y 0)
  blk_ext [iblk, valBlock, index4 t]
theorem iblk5 : (iblk m c 5 t : Vec Ideal S1x11x1x768 .f32) = headLse (V m c main_v39) (t.val / 11) := by
  funext y
  have : (Fin.ofNat 8 (t.val / 11)).val = t.val / 11 := Nat.mod_eq_of_lt (head_lt t)
  blk_ext [iblk, headLse, index5 t]

end Cert.KernelIdeal.Grad

end
-- ==== Proof.Launch.lean ====
/-
The run of the gradient kernel's whole program: what each window holds after each point of the grid, the body's obligation there, the
launch, the frame, and what the two result arrays end with.
-/
module

public import proofs.«01_k».proof.Proof.FirstValue
public import proofs.«01_k».proof.Proof.Windows
public import Idealize.ShloMosaic.Lib.Claim

@[expose] public section

set_option maxRecDepth 16384

noncomputable section

namespace Cert.KernelIdeal.Grad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The staging buffers at a point -/

abbrev qStage (t : Fin cfg0.N) : Memref sig .tc .vmem S8448x128 .bf16 := win0_0.stage (cfg0.slots t 0)
abbrev qWhole (t : Fin cfg0.N) : (qStage t).IsWhole := hstage0_0 ((cfg0.slots t 0).cast nbuf0_0)
abbrev oStage (t : Fin cfg0.N) : Memref sig .tc .vmem S8448x128 .bf16 := win0_1.stage (cfg0.slots t 1)
abbrev oWhole (t : Fin cfg0.N) : (oStage t).IsWhole := hstage0_1 ((cfg0.slots t 1).cast nbuf0_1)
abbrev gStage (t : Fin cfg0.N) : Memref sig .tc .vmem S8448x128 .bf16 := win0_2.stage (cfg0.slots t 2)
abbrev gWhole (t : Fin cfg0.N) : (gStage t).IsWhole := hstage0_2 ((cfg0.slots t 2).cast nbuf0_2)
abbrev kStage (t : Fin cfg0.N) : Memref sig .tc .vmem S768x128 .bf16 := win0_3.stage (cfg0.slots t 3)
abbrev kWhole (t : Fin cfg0.N) : (kStage t).IsWhole := hstage0_3 ((cfg0.slots t 3).cast nbuf0_3)
abbrev vStage (t : Fin cfg0.N) : Memref sig .tc .vmem S768x128 .bf16 := win0_4.stage (cfg0.slots t 4)
abbrev vWhole (t : Fin cfg0.N) : (vStage t).IsWhole := hstage0_4 ((cfg0.slots t 4).cast nbuf0_4)
abbrev lStage (t : Fin cfg0.N) : Memref sig .tc .vmem S1x11x1x768 .f32 := win0_5.stage (cfg0.slots t 5)
abbrev lWhole (t : Fin cfg0.N) : (lStage t).IsWhole := hstage0_5 ((cfg0.slots t 5).cast nbuf0_5)
abbrev dqStage (t : Fin cfg0.N) : Memref sig .tc .vmem S8448x128 .f32 := win0_6.stage (cfg0.slots t 6)
abbrev dqWhole (t : Fin cfg0.N) : (dqStage t).IsWhole := hstage0_6 ((cfg0.slots t 6).cast nbuf0_6)
abbrev dkvStage (t : Fin cfg0.N) : Memref sig .tc .vmem S768x256 .bf16 := win0_7.stage (cfg0.slots t 7)
abbrev dkvWhole (t : Fin cfg0.N) : (dkvStage t).IsWhole := hstage0_7 ((cfg0.slots t 7).cast nbuf0_7)
/-- The scratch that keeps a head's row sums. -/
abbrev sumsRef : Memref sig .tc .vmem S11x1x768 .f32 := Memref.whole cc0_scratch0

theorem first_iff (t : Fin cfg0.N) : FirstBlock (grid0.coords t) ↔ t.val % 11 = 0 := by
  have h1 := coord1 t
  have h2 := block_lt t
  simp only [FirstBlock, h1]
  word_cmp

/-- The kernel's own scratch and the generator's register, at some contents. -/
theorem scratch_eq (c : Dev nD) : (Pipeline.ΦA spec0 c : sProp 𝕄)
    = iprop(iprop((∃ d, owns (c : Thread nD τ) sumsRef fullShare d)) ∗ (∃ r, prngReg c r)) := by
  unfold Pipeline.ΦA; rw [scopedRest0_eq]; simp only [sumsRef, owns_whole]; try rfl

variable (m : (ℓ : Loc nD τ sig) → Buf (Elt Ideal) ℓ) (ρ : Dev nD → PrngReg)

/-! ## What the windows and the scratch hold -/

/-- Head `h`'s row sums. -/
abbrev sumsOf (c : Dev nD) (h : ℕ) : Vec Ideal S11x1x768 .f32 := headSums (V m c main_v32) (V m c main_arg2) h

/-- Head `h`'s query gradients after `n` key blocks. -/
abbrev dqOf (c : Dev nD) (h n : ℕ) : Vec Ideal S8448x128 .f32 :=
  dqAfter (V m c main_arg0) (V m c main_v32) (V m c main_arg2) (V m c main_arg1) (V m c main_v39) h n

/-- Key block `j`'s gradients in head `h`. -/
abbrev dkvOf (c : Dev nD) (h j : ℕ) : Vec Ideal S768x256 .bf16 :=
  dkvBlock (V m c main_arg0) (V m c main_v32) (V m c main_arg2) (V m c main_arg1) (V m c main_v39) h j

/-- Between points: before the first the scratch holds anything, after a point it holds the row sums of the point's head. -/
def between (c : Dev nD) (n : ℕ) : sProp 𝕄 :=
  if n = 0 then Pipeline.ΦA spec0 c
  else iprop(iprop(owns (c : Thread nD τ) sumsRef fullShare (sumsOf m c ((n - 1) / 11))) ∗ (∃ r, prngReg c r))

theorem between_zero (c : Dev nD) (n : ℕ) (h : n = 0) : between m c n = Pipeline.ΦA spec0 c := if_pos h
theorem between_pos (c : Dev nD) (n : ℕ) (h : n ≠ 0) : between m c n
    = iprop(iprop(owns (c : Thread nD τ) sumsRef fullShare (sumsOf m c ((n - 1) / 11))) ∗ (∃ r, prngReg c r)) := if_neg h
theorem between_succ (c : Dev nD) (n : ℕ) : between m c (n + 1)
    = iprop(iprop(owns (c : Thread nD τ) sumsRef fullShare (sumsOf m c (n / 11))) ∗ (∃ r, prngReg c r)) := if_neg (Nat.succ_ne_zero n)

/-- The data of the kernel's pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqOf m c (t.val / 11) (t.val % 11 + 1)
    | ⟨7, _⟩ => dkvOf m c (t.val / 11) (t.val % 11)
  Φ t := between m c t.val
  q w := Pipeline.shareOf spec0 w
  owed _ := 0

theorem dats_A (c : Dev nD) (w : Fin cfg0.W) : (dats m 0 c).A w = V m c (Pipeline.arrRef spec0 w) := by dsimp only [dats]

section
variable (c : Dev nD) (t : Fin cfg0.N)

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = dqOf m c (t.val / 11) (t.val % 11 + 1) := by dsimp only [dats]
theorem after7 : (dats m 0 c).after 7 t = dkvOf m c (t.val / 11) (t.val % 11) := by dsimp only [dats]

theorem before0 (d) : (dats m 0 c).before 0 t d = iblk m c 0 t := before0_0_of m (dats m 0 c) (dats_A m c 0) (after0 m c) t d
theorem before1 (d) : (dats m 0 c).before 1 t d = iblk m c 1 t := before0_1_of m (dats m 0 c) (dats_A m c 1) (after1 m c) t d
theorem before2 (d) : (dats m 0 c).before 2 t d = iblk m c 2 t := before0_2_of m (dats m 0 c) (dats_A m c 2) (after2 m c) t d
theorem before3 (d) : (dats m 0 c).before 3 t d = iblk m c 3 t := before0_3_of m (dats m 0 c) (dats_A m c 3) (after3 m c) t d
theorem before4 (d) : (dats m 0 c).before 4 t d = iblk m c 4 t := before0_4_of m (dats m 0 c) (dats_A m c 4) (after4 m c) t d
theorem before5 (d) : (dats m 0 c).before 5 t d = iblk m c 5 t := before0_5_of m (dats m 0 c) (dats_A m c 5) (after5 m c) t d

/-- At a later key block of a head the query gradients are found as the block before left them. -/
theorem before6 (h : t.val % 11 ≠ 0) (d) : (dats m 0 c).before 6 t d = dqOf m c (t.val / 11) (t.val % 11) := by
  have ht : t.val ≠ 0 := fun h0 => h (by rw [h0])
  have hp : t.val - 1 < cfg0.N := Nat.lt_of_le_of_lt (Nat.sub_le _ _) t.isLt
  have hfl : (cfg0.win 6).flush ⟨t.val - 1, hp⟩ = false := by
    by_contra hf
    have := (flush0_6 ⟨t.val - 1, hp⟩).mp (by simpa using hf)
    dsimp only at this
    omega
  rw [(dats m 0 c).before_out_kept 6 rfl t ht hfl (fun _ => rfl) (fun _ _ => rfl) d, after6]
  dsimp only
  rw [show (t.val - 1) / 11 = t.val / 11 by omega, show (t.val - 1) % 11 + 1 = t.val % 11 by omega]

/-! ## The body at a point -/

/-- What the body is called with at point `t`, -/
def bodyPre : sProp 𝕄 :=
  iprop((dats m 0 c).Φ t.castSucc ∗ (dats m 0 c).owesAt () t.castSucc
    ∗ (∃ d, owns (c : Thread nD τ) (qStage t) fullShare ((dats m 0 c).before 0 t d))
    ∗ (∃ d, owns (c : Thread nD τ) (oStage t) fullShare ((dats m 0 c).before 1 t d))
    ∗ (∃ d, owns (c : Thread nD τ) (gStage t) fullShare ((dats m 0 c).before 2 t d))
    ∗ (∃ d, owns (c : Thread nD τ) (kStage t) fullShare ((dats m 0 c).before 3 t d))
    ∗ (∃ d, owns (c : Thread nD τ) (vStage t) fullShare ((dats m 0 c).before 4 t d))
    ∗ (∃ d, owns (c : Thread nD τ) (lStage t) fullShare ((dats m 0 c).before 5 t d))
    ∗ (∃ d, owns (c : Thread nD τ) (dqStage t) fullShare ((dats m 0 c).before 6 t d))
    ∗ (∃ d, owns (c : Thread nD τ) (dkvStage t) fullShare ((dats m 0 c).before 7 t d)))

/-- and what it returns. -/
def bodyPost : sProp 𝕄 :=
  iprop((dats m 0 c).Φ t.succ ∗ (dats m 0 c).owesAt () t.succ
    ∗ owns (c : Thread nD τ) (qStage t) fullShare ((dats m 0 c).after 0 t)
    ∗ owns (c : Thread nD τ) (oStage t) fullShare ((dats m 0 c).after 1 t)
    ∗ owns (c : Thread nD τ) (gStage t) fullShare ((dats m 0 c).after 2 t)
    ∗ owns (c : Thread nD τ) (kStage t) fullShare ((dats m 0 c).after 3 t)
    ∗ owns (c : Thread nD τ) (vStage t) fullShare ((dats m 0 c).after 4 t)
    ∗ owns (c : Thread nD τ) (lStage t) fullShare ((dats m 0 c).after 5 t)
    ∗ owns (c : Thread nD τ) (dqStage t) fullShare ((dats m 0 c).after 6 t)
    ∗ owns (c : Thread nD τ) (dkvStage t) fullShare ((dats m 0 c).after 7 t))

set_option maxHeartbeats 3200000 in
/-- The body at a head's first key block. -/
theorem body_first (h0 : t.val % 11 = 0) :
    bodyPre m c t ⊢ wp frame (wpE (defs₀ (F := Ideal)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    after0, after1, after2, after3, after4, after5, after6, after7]
  rw [show (dats m 0 c).Φ t.succ = between m c (t.val + 1) from rfl, between_succ,
    show (dats m 0 c).Φ t.castSucc = between m c t.val from rfl]
  have hstart : between m c t.val
      ⊢ (iprop(iprop((∃ d, owns (c : Thread nD τ) sumsRef fullShare d)) ∗ (∃ r, prngReg c r)) : sProp 𝕄) := by
    by_cases hz : t.val = 0
    · rw [between_zero m c _ hz, scratch_eq]
    · rw [between_pos m c _ hz]
      iintro ⟨HS, Hg⟩
      isplitl [HS]
      · iexists _; iexact HS
      iexact Hg
  rw [iblk0, iblk1, iblk2, iblk3, iblk4, iblk5]
  iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HS := hstart $$ HS
  icases HS with ⟨HS, Hg⟩
  iapply ((runFirst c (grid0.coords t) (qStage t) (qWhole t) (oStage t) (oWhole t) (gStage t) (gWhole t) (kStage t) (kWhole t) (vStage t) (vWhole t) (lStage t) (lWhole t) (dqStage t) (dqWhole t) (dkvStage t) (dkvWhole t) sumsRef (Memref.isWhole_whole _)
        (headCols (V m c main_arg0) (t.val / 11)) (headCols (V m c main_v32) (t.val / 11)) (headCols (V m c main_arg2) (t.val / 11))
        (keyBlock (V m c main_arg1) (t.val / 11) (t.val % 11)) (valBlock (V m c main_arg1) (t.val / 11) (t.val % 11))
        (headLse (V m c main_v39) (t.val / 11)) ((first_iff t).mpr h0)).2.2.2 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS]; · iexact HS
  iintro ⟨H0, H1, H2, H3, H4, H5, ⟨%e6, H6⟩, ⟨%e7, H7⟩, ⟨%es, HS⟩⟩
  isplitl [HS Hg]
  · isplitl [HS]
    · unfold owns; iexists _; isplitr
      swap; · iexact HS
      ipureintro; exact first_dl ..
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    refine (first_dq ..).trans ?_
    rw [dqOf, h0, dqAfter_one, coord1, h0]
    rfl
  unfold owns; iexists _; isplitr
  swap; · iexact H7
  ipureintro
  refine (first_dkv ..).trans ?_
  rw [coord1]
  rfl

set_option maxHeartbeats 3200000 in
/-- The body at a later key block. -/
theorem body_later (h0 : ¬ t.val % 11 = 0) :
    bodyPre m c t ⊢ wp frame (wpE (defs₀ (F := Ideal)) Variants.none c none) Set.univ (bodyAt0 t) (fun _ => bodyPost m c t) := by
  unfold bodyPre bodyPost bodyAt0
  simp only [before0, before1, before2, before3, before4, before5, before6 m c t h0]
  rw [show (dats m 0 c).owesAt () t.succ = (dats m 0 c).owesAt () t.castSucc from rfl,
    after0, after1, after2, after3, after4, after5, after6, after7]
  rw [show (dats m 0 c).Φ t.succ = between m c (t.val + 1) from rfl, between_succ,
    show (dats m 0 c).Φ t.castSucc = between m c t.val from rfl, between_pos m c _ (fun hz => h0 (by rw [hz])),
    show (t.val - 1) / 11 = t.val / 11 by omega]
  rw [iblk0, iblk1, iblk2, iblk3, iblk4, iblk5]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((runLater c (grid0.coords t) (qStage t) (qWhole t) (oStage t) (oWhole t) (gStage t) (gWhole t) (kStage t) (kWhole t) (vStage t) (vWhole t) (lStage t) (lWhole t) (dqStage t) (dqWhole t) (dkvStage t) (dkvWhole t) sumsRef (Memref.isWhole_whole _)
        (headCols (V m c main_arg0) (t.val / 11)) (headCols (V m c main_v32) (t.val / 11)) (headCols (V m c main_arg2) (t.val / 11))
        (keyBlock (V m c main_arg1) (t.val / 11) (t.val % 11)) (valBlock (V m c main_arg1) (t.val / 11) (t.val % 11))
        (headLse (V m c main_v39) (t.val / 11)) (fun h => h0 ((first_iff t).mp h))
        (dqOf m c (t.val / 11) (t.val % 11)) (sumsOf m c (t.val / 11))).2.2 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS]; · iexact HS
  iintro ⟨H0, H1, H2, H3, H4, H5, H6, ⟨%e7, H7⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro
    refine (later_dq ..).trans ?_
    refine Eq.trans ?_ (dqAfter_succ ..).symm
    rw [coord1]
  unfold owns; iexists _; isplitr
  swap; · iexact H7
  ipureintro
  refine (later_dkv ..).trans ?_
  rw [coord1]
  rfl

/-- The body table's row at the point's slots is the body there. -/
theorem body_row : defs₀ (F := Ideal) .tc cfg0.body (cfg0.bodyArgs t (cfg0.slots t)) = bodyAt0 t := by
  unfold defs₀; rw [Defs.onTc_tc]

end

theorem body_obligation (c : Dev nD) : BodyObligation (dats m 0 c) (defs₀ (F := Ideal)) Variants.none () Set.univ := fun t => by
  rw [bigSep_W0, bigSep_W0, body_row]
  by_cases h0 : t.val % 11 = 0
  · exact triple_restated (body_first m c t h0) rfl .rfl fun _ => .rfl
  · exact triple_restated (body_later m c t h0) rfl .rfl fun _ => .rfl

/-! ## The launch -/

theorem launch_in (c : Dev nD) : Pipeline.ΦA spec0 c ⊢ (dats m 0 c).Φ 0 := by
  rw [show (dats m 0 c).Φ 0 = between m c 0 from rfl, between_zero m c 0 rfl]

theorem launch_out (c : Dev nD) : (dats m 0 c).Φ (Fin.last cfg0.N) ⊢ Pipeline.ΦA spec0 c := by
  rw [show (dats m 0 c).Φ (Fin.last cfg0.N) = between m c cfg0.N from rfl,
    between_pos m c cfg0.N (by have : cfg0.N = 88 := N_0; omega), scratch_eq]
  iintro ⟨HS, Hg⟩
  isplitl [HS]
  · iexists _; iexact HS
  iexact Hg

set_option backward.isDefEq.respectTransparency.types false in
/-- The whole program runs, leaves each window's array as the pipeline's data say and every counter at zero. -/
theorem run_launch : θ_run defs (onTc (τ := τ) (main (F := Ideal))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := dats_A m) (hin := launch_in m) (hout := launch_out m)

/-- The arguments end unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_launch m ρ)))
    ((θ_run defs _ _).mono (fun _ h => h.2) (run_launch m ρ))

/-! ## The result arrays -/

/-- The query gradients that the program ends with. -/
def dqResult (c : Dev nD) : Vec Ideal S8448x1024 .f32 := fun y =>
  dqOf m c ((y 1).val / 128) 11 (ix2 (y 0) ⟨(y 1).val % 128, Nat.mod_lt _ (by decide)⟩)

/-- The key and value gradients that the program ends with. -/
def dkvResult (c : Dev nD) : Vec Ideal S8448x2048 .bf16 := fun y =>
  dkvOf m c ((y 1).val / 256) ((y 0).val / 768)
    (ix2 ⟨(y 0).val % 768, Nat.mod_lt _ (by decide)⟩ ⟨(y 1).val % 256, Nat.mod_lt _ (by decide)⟩)

theorem dq_array (c : Dev nD) : (dats m 0 c).arrAt 6 (cfgs 0).N = dqResult m c := by
  refine (dats m 0 c).arrAt_eq_of_covers 6 _ (by decide +kernel) fun t hf y => ?_
  have ht := (flush0_6 t).mp hf
  blk_simp
  rw [after6, ht]
  show dqOf m c _ _ y = dqOf m c _ _ _
  have e : ((((cfg0.win 6).blk t).view.emb y) 1 : ℕ) = 128 * (t.val / 11) + (y 1).val := by
    blk_simp [index6 t]
    omega
  have e0 : ((((cfg0.win 6).blk t).view.emb y) 0 : ℕ) = (y 0).val := by
    blk_simp [index6 t]
  have hy : (y 1).val < 128 := (y 1).isLt
  have h1 : ((((cfg0.win 6).blk t).view.emb y) 1 : ℕ) / 128 = t.val / 11 := by omega
  have h2 : ((((cfg0.win 6).blk t).view.emb y) 1 : ℕ) % 128 = (y 1).val := by omega
  rw [h1]
  refine congrArg (dqOf m c (t.val / 11) 11) (funext fun a => Fin.ext ?_)
  fin_cases a
  · exact e0.symm
  · exact h2.symm

theorem dkv_array (c : Dev nD) : (dats m 0 c).arrAt 7 (cfgs 0).N = dkvResult m c := by
  refine (dats m 0 c).arrAt_eq_of_covers 7 _ (by decide +kernel) fun t hf y => ?_
  blk_simp
  rw [after7]
  show dkvOf m c _ _ y = dkvOf m c _ _ _
  have e : ((((cfg0.win 7).blk t).view.emb y) 1 : ℕ) = 256 * (t.val / 11) + (y 1).val := by
    blk_simp [index7 t]
    omega
  have e0 : ((((cfg0.win 7).blk t).view.emb y) 0 : ℕ) = 768 * (t.val % 11) + (y 0).val := by
    blk_simp [index7 t]
    omega
  have hy : (y 1).val < 256 := (y 1).isLt
  have hy0 : (y 0).val < 768 := (y 0).isLt
  have h1 : ((((cfg0.win 7).blk t).view.emb y) 1 : ℕ) / 256 = t.val / 11 := by omega
  have h2 : ((((cfg0.win 7).blk t).view.emb y) 1 : ℕ) % 256 = (y 1).val := by omega
  have h3 : ((((cfg0.win 7).blk t).view.emb y) 0 : ℕ) / 768 = t.val % 11 := by omega
  have h4 : ((((cfg0.win 7).blk t).view.emb y) 0 : ℕ) % 768 = (y 0).val := by omega
  rw [h1, h3]
  refine congrArg (dkvOf m c (t.val / 11) (t.val % 11)) (funext fun a => Fin.ext ?_)
  fin_cases a
  · exact h4.symm
  · exact h2.symm

/-- The program ends with these results. -/
theorem run_results : θ_run defs (onTc (τ := τ) (main (F := Ideal))) ⟨m, fun _ => 0, ρ⟩ (fun r => ∀ c : Dev nD,
      r.2.mem ((c.tc : Thread nD τ).loc main_v40_0) = dqResult m c ∧ r.2.mem ((c.tc : Thread nD τ).loc main_v40_1) = dkvResult m c) :=
  (θ_run defs _ _).mono (fun _ h c => ⟨((h.1 c).1 6).trans (dq_array m c), ((h.1 c).1 7).trans (dkv_array m c)⟩) (run_launch m ρ)

end Cert.KernelIdeal.Grad

end
-- ==== Proof.RefStages.lean ====
/-
The reference's two results, named stage by stage, and each stage read at an index.
-/
module

public import proofs.«01_k».proof.Proof.Gen.ReferenceIdeal.Run
public import Idealize.ShloMosaic.Lib.Pointwise
public import proofs.«01_k».proof.Proof.Words

@[expose] public section

set_option maxRecDepth 16384

noncomputable section

namespace Cert.ReferenceIdeal.Grad

open Cert.ReferenceIdeal.Gen Cert.ReferenceIdeal.Value
open Idealize.ShloMosaic Idealize.ShloMosaic.TcCoe Cert.Attention

/-- A square of scores for each head. -/
abbrev Sq : Type := FVec Ideal S8x8448x8448 .f32
/-- A row of 128 columns for each head and row. -/
abbrev Hd : Type := FVec Ideal S8x8448x128 .f32
/-- One number for each head and row. -/
abbrev Rw : Type := FVec Ideal S8x8448 .f32

/-- The heads of an array of eight heads. -/
def heads (x : FVec Ideal S8448x1024 .bf16) : Hd :=
  transpose S8x8448x128 [1, 0, 2] (shapeCast _ (extf .f32 x bitsLt_bf16_f32) shapeCasts_S8448x1024_S8448x8x128)
    transposes_S8448x8x128_S8x8448x128_1_0_2
/-- The scaled queries. -/
def scaled (x : FVec Ideal S8448x1024 .bf16) : Hd :=
  mulf (heads x) (broadcastInDim S8x8448x128 ![] bcast_S_S8x8448x128 (constant S_ .f32 0x3DD105EC#32))
/-- The keys. -/
def keys (x : FVec Ideal S8448x2048 .bf16) : Hd :=
  transpose S8x8448x128 [1, 0, 2]
    (shapeCast _ (extractStridedSlice S8448x8x1x128 ![0, 0, 0, 0]
      (shapeCast _ (extf .f32 x bitsLt_bf16_f32) shapeCasts_S8448x2048_S8448x8x2x128) slices_S8448x8x2x128_S8448x8x1x128_0_0_0_0)
      shapeCasts_S8448x8x1x128_S8448x8x128) transposes_S8448x8x128_S8x8448x128_1_0_2
/-- The values. -/
def vals (x : FVec Ideal S8448x2048 .bf16) : Hd :=
  transpose S8x8448x128 [1, 0, 2]
    (shapeCast _ (extractStridedSlice S8448x8x1x128 ![0, 0, 1, 0]
      (shapeCast _ (extf .f32 x bitsLt_bf16_f32) shapeCasts_S8448x2048_S8448x8x2x128) slices_S8448x8x2x128_S8448x8x1x128_0_0_1_0)
      shapeCasts_S8448x8x1x128_S8448x8x128) transposes_S8448x8x128_S8x8448x128_1_0_2

/-- Where a key comes no later than the query. -/
def mask : IVec S8x8448x8448 1 :=
  broadcastInDim S8x8448x8448 ![1, 2] bcast_S8448x8448_S8x8448x8448_1_2
    (cmpi .sle
      (broadcastInDim S8448x8448 ![0, 1] bcast_S1x8448_S8448x8448_0_1 (broadcastInDim S1x8448 ![1] bcast_S8448_S1x8448_1 (iotaInDim S8448 32 0)))
      (broadcastInDim S8448x8448 ![0, 1] bcast_S8448x1_S8448x8448_0_1 (broadcastInDim S8448x1 ![0] bcast_S8448_S8448x1_0 (iotaInDim S8448 32 0))))

/-- The products of rows of two arrays of heads. -/
def products (x y : Hd) : Sq := Host.dotGeneral dot_S8x8448x128_S8x8448x128_S8x8448x8448_2_2_1_1_0_0 none x y
/-- The masked scores. -/
def scores (x y : Hd) : Sq :=
  select mask (products x y) (broadcastInDim S8x8448x8448 ![] bcast_S_S8x8448x8448 (id (constant S_ .f32 0xFF800000#32)))
/-- Each row's maximum. -/
def rowMax (s : Sq) : Rw :=
  maximumf (broadcastInDim S8x8448 ![] bcast_S_S8x8448 (constant S_ .f32 0xFF800000#32))
    (Host.reduce FloatOps.maximumf s (constant S_ .f32 0xFF800000#32) reducesTo_S8x8448x8448_S8x8448_d2 h_S_)
/-- One number for each row, as a column. -/
def column (x : Rw) : FVec Ideal S8x8448x1 .f32 := broadcastInDim S8x8448x1 ![0, 1] bcast_S8x8448_S8x8448x1_0_1 x
/-- A column along the keys. -/
def along (x : FVec Ideal S8x8448x1 .f32) : Sq := broadcastInDim S8x8448x8448 ![0, 1, 2] bcast_S8x8448x1_S8x8448x8448_0_1_2 x
/-- The exponentials of the scores less the row's maximum. -/
def expd (s : Sq) : Sq := Host.exp (subf s (along (column (rowMax s))))
/-- Each row's sum. -/
def total (e : Sq) : Rw := Host.reduceAdd e (constant S_ .f32 0x00000000#32) reducesTo_S8x8448x8448_S8x8448_d2 h_S_
/-- The softmax. -/
def soft (e : Sq) : Sq := Host.divf e (along (column (total e)))
/-- The gradient of the scores, of the exponentials `e` and the gradient `p` of the softmax. -/
def scoreGrad (e p : Sq) : Sq :=
  select mask
    (mulf (addf (Host.divf p (along (column (total e))))
        (broadcastInDim S8x8448x8448 ![0, 1] bcast_S8x8448_S8x8448x8448_0_1
          (Host.reduceAdd (Host.negf (shapeCast _ (total (mulf (mulf p (along
              (Host.divf (broadcastInDim S8x8448x1 ![] bcast_S_S8x8448x1 (constant S_ .f32 0x3F800000#32))
                (mulf (column (total e)) (column (total e)))))) e)) shapeCasts_S8x8448_S8x8448x1))
            (constant S_ .f32 0x00000000#32) reducesTo_S8x8448x1_S8x8448_d2 h_S_))) e)
    (broadcastInDim S8x8448x8448 ![] bcast_S_S8x8448x8448 (constant S_ .f32 0x00000000#32))
/-- The gradient of the queries. -/
def queryGrad (ds : Sq) (k : Hd) : FVec Ideal S8448x1024 .f32 :=
  shapeCast _ (transpose S8448x8x128 [1, 0, 2] (Host.dotGeneral dot_S8x8448x8448_S8x8448x128_S8x8448x128_2_1_1_2_0_0 none ds k)
    transposes_S8x8448x128_S8448x8x128_1_0_2) shapeCasts_S8448x8x128_S8448x1024
/-- The gradients of the keys and of the values. -/
def keyValGrad (ds p : Sq) (q g : Hd) : FVec Ideal S8448x2048 .bf16 :=
  truncf .bf16 (shapeCast _ (concatenate S8448x8x2x128 2
    [⟨S8448x8x1x128, (broadcastInDim S8448x8x1x128 ![0, 1, 3] bcast_S8448x8x128_S8448x8x1x128_0_1_3 (transpose S8448x8x128 [1, 0, 2]
        (Host.dotGeneral dot_S8x8448x8448_S8x8448x128_S8x8448x128_1_1_2_2_0_0 none ds q) transposes_S8x8448x128_S8448x8x128_1_0_2))⟩,
     ⟨S8448x8x1x128, (broadcastInDim S8448x8x1x128 ![0, 1, 3] bcast_S8448x8x128_S8448x8x1x128_0_1_3 (transpose S8448x8x128 [1, 0, 2]
        (transpose S8x8448x128 [0, 2, 1] (Host.dotGeneral dot_S8x8448x128_S8x8448x8448_S8x128x8448_1_1_2_2_0_0 none g p)
          transposes_S8x128x8448_S8x8448x128_0_2_1) transposes_S8x8448x128_S8448x8x128_1_0_2))⟩]
    concatenates_S8448x8x1x128_S8448x8x1x128_S8448x8x2x128_d2) shapeCasts_S8448x8x2x128_S8448x2048) bitsLt_bf16_f32

section
variable (m : (ℓ : Loc nD τ sig) → Buf (Elt Ideal) ℓ) (c : Dev nD)

/-- The exponentials of the program's scores. -/
def exps (x0 : FVec Ideal S8448x1024 .bf16) (x1 : FVec Ideal S8448x2048 .bf16) : Sq := expd (scores (scaled x0) (keys x1))
/-- The gradient of the program's scores. -/
def grads (x0 : FVec Ideal S8448x1024 .bf16) (x1 : FVec Ideal S8448x2048 .bf16) (x2 : FVec Ideal S8448x1024 .bf16) : Sq :=
  scoreGrad (exps x0 x1) (products (heads x2) (vals x1))

theorem result0 : res_out0 m c
    = queryGrad (grads (m ((c.tc : Thread nD τ).loc main_arg0)) (m ((c.tc : Thread nD τ).loc main_arg1)) (m ((c.tc : Thread nD τ).loc main_arg2)))
        (keys (m ((c.tc : Thread nD τ).loc main_arg1))) := rfl

theorem result1 : res_out1 m c
    = keyValGrad (grads (m ((c.tc : Thread nD τ).loc main_arg0)) (m ((c.tc : Thread nD τ).loc main_arg1)) (m ((c.tc : Thread nD τ).loc main_arg2)))
        (soft (exps (m ((c.tc : Thread nD τ).loc main_arg0)) (m ((c.tc : Thread nD τ).loc main_arg1))))
        (scaled (m ((c.tc : Thread nD τ).loc main_arg0))) (heads (m ((c.tc : Thread nD τ).loc main_arg2))) := rfl

end

/-! ## The stages at an index -/

section
variable (h : Fin 8) (r a : Fin 8448) (d : Fin 128)

theorem heads_at (x : FVec Ideal S8448x1024 .bf16) : heads x (ix3 h r d) = x (ix2 r ⟨h.val * 128 + d.val, by omega⟩) := by
  pointwise [heads]
theorem keys_at (x : FVec Ideal S8448x2048 .bf16) : keys x (ix3 h r d) = x (ix2 r ⟨h.val * 256 + d.val, by omega⟩) := by
  pointwise [keys]
theorem vals_at (x : FVec Ideal S8448x2048 .bf16) : vals x (ix3 h r d) = x (ix2 r ⟨h.val * 256 + 128 + d.val, by omega⟩) := by
  pointwise [vals]
theorem scaled_at (x : FVec Ideal S8448x1024 .bf16) :
    scaled x (ix3 h r d) = x (ix2 r ⟨h.val * 128 + d.val, by omega⟩) * ((3424635 / 33554432 : ℝ) : EReal) := by
  rw [← ofBits_scale, ← heads_at h r d x]
  pointwise [scaled]
theorem products_at (x y : Hd) : products x y (ix3 h r a) = ∑ d, x (ix3 h r d) * y (ix3 h a d) := by
  pointwise [products]
theorem mask_at : mask (ix3 h r a) = BitVec.ofBool (decide (a ≤ r)) := by
  pointwise [mask]
  exact le_word a r
theorem scores_at (x y : Hd) : scores x y (ix3 h r a) = if a ≤ r then products x y (ix3 h r a) else ⊥ := by
  rw [← select_le, ← mask_at h, ← ofBits_neg_inf]
  pointwise [scores]
  rfl
theorem rowMax_at (s : Sq) : rowMax s (ix2 h r) = Finset.univ.fold max ⊥ fun a => s (ix3 h r a) := by
  unfold rowMax
  refine max_last_max (A := 8) (B := 8448) (C := 8448) _ s h_S_ reducesTo_S8x8448x8448_S8x8448_d2 (by decide) h r ?_
  pointwise
theorem along_at (x : Rw) : along (column x) (ix3 h r a) = x (ix2 h r) := by
  pointwise [along, column]
theorem expd_at (s : Sq) : expd s (ix3 h r a) = Ideal.exp (s (ix3 h r a) - rowMax s (ix2 h r)) := by
  rw [← along_at h r a (rowMax s)]
  pointwise [expd]
theorem total_at (e : Sq) : total e (ix2 h r) = ∑ a, e (ix3 h r a) := by
  pointwise [total]
theorem soft_at (e : Sq) : soft e (ix3 h r a) = Ideal.div (e (ix3 h r a)) (total e (ix2 h r)) := by
  rw [← along_at h r a (total e)]
  pointwise [soft]
/-- Each row's sum of the gradients of the weights, over the square of the row's sum. -/
theorem inner_at (e p : Sq) : total (mulf (mulf p (along
              (Host.divf (broadcastInDim S8x8448x1 ![] bcast_S_S8x8448x1 (constant S_ .f32 0x3F800000#32))
                (mulf (column (total e)) (column (total e)))))) e) (ix2 h r)
    = ∑ b, p (ix3 h r b) * Ideal.div 1 (total e (ix2 h r) * total e (ix2 h r)) * e (ix3 h r b) := by
  rw [total_at]
  refine Finset.sum_congr rfl fun b _ => ?_
  pointwise [along, column]
theorem scoreGrad_at (e p : Sq) : Grad.scoreGrad e p (ix3 h r a) = if a ≤ r then
      (Ideal.div (p (ix3 h r a)) (total e (ix2 h r))
        + -∑ b, p (ix3 h r b) * Ideal.div 1 (total e (ix2 h r) * total e (ix2 h r)) * e (ix3 h r b)) * e (ix3 h r a)
    else 0 := by
  rw [← select_le, ← mask_at h, ← inner_at, ← along_at h r a (total e)]
  pointwise [Grad.scoreGrad]
  rw [Fin.sum_univ_one]
theorem queryGrad_at (ds : Sq) (k : Hd) (R : Fin 8448) (C : Fin 1024) : Grad.queryGrad ds k (ix2 R C)
    = ∑ x, ds (ix3 ⟨C.val / 128, by omega⟩ R x) * k (ix3 ⟨C.val / 128, by omega⟩ x ⟨C.val % 128, by omega⟩) := by
  pointwise [Grad.queryGrad]
theorem keyValGrad_at (ds p : Sq) (q g : Hd) (R : Fin 8448) (C : Fin 2048) : keyValGrad ds p q g (ix2 R C)
    = if _ : C.val / 128 % 2 < 1 then
        ∑ x, ds (ix3 ⟨C.val / 256, by omega⟩ x R) * q (ix3 ⟨C.val / 256, by omega⟩ x ⟨C.val % 128, by omega⟩)
      else ∑ x, g (ix3 ⟨C.val / 256, by omega⟩ x ⟨C.val % 128, by omega⟩) * p (ix3 ⟨C.val / 256, by omega⟩ x R) := by
  pointwise [keyValGrad]
end

end Cert.ReferenceIdeal.Grad

end
-- ==== Proof.HostStages.lean ====
/-
What the program computes before its launch: the attention's output and each row's log-sum, named stage by stage and read at an index.
-/
module

public import proofs.«01_k».proof.Proof.Gen.KernelIdeal
public import proofs.«01_k».proof.Proof.RefStages

@[expose] public section

set_option maxRecDepth 16384

noncomputable section

namespace Cert.KernelIdeal.Host

open Cert.KernelIdeal.Gen
open Idealize.ShloMosaic Idealize.ShloMosaic.TcCoe Cert.Attention Cert.ReferenceIdeal.Grad

/-- The keys. -/
def keyHeads (x : FVec Ideal S8448x2048 .bf16) : Hd :=
  shapeCast _ (extractStridedSlice S8x1x8448x128 ![0, 0, 0, 0]
    (transpose S8x2x8448x128 [1, 2, 0, 3] (shapeCast _ (extf .f32 x bitsLt_bf16_f32) shapeCasts_S8448x2048_S8448x8x2x128)
      transposes_S8448x8x2x128_S8x2x8448x128_1_2_0_3) slices_S8x2x8448x128_S8x1x8448x128_0_0_0_0) shapeCasts_S8x1x8448x128_S8x8448x128
/-- The values. -/
def valHeads (x : FVec Ideal S8448x2048 .bf16) : Hd :=
  shapeCast _ (extractStridedSlice S8x1x8448x128 ![0, 1, 0, 0]
    (transpose S8x2x8448x128 [1, 2, 0, 3] (shapeCast _ (extf .f32 x bitsLt_bf16_f32) shapeCasts_S8448x2048_S8448x8x2x128)
      transposes_S8448x8x2x128_S8x2x8448x128_1_2_0_3) slices_S8x2x8448x128_S8x1x8448x128_0_1_0_0) shapeCasts_S8x1x8448x128_S8x8448x128
/-- Each row's maximum. -/
def rowTop (s : Sq) : Rw :=
  Host.reduce FloatOps.maximumf s (constant S_ .f32 0xFF800000#32) reducesTo_S8x8448x8448_S8x8448_d2 h_S_
/-- The exponentials of the scores less the row's maximum. -/
def expTop (s : Sq) : Sq := Host.exp (subf s (along (column (rowTop s))))
/-- The output, of the softmax and the values. -/
def output (p : Sq) (v : Hd) : FVec Ideal S8448x1024 .bf16 :=
  truncf .bf16 (shapeCast _ (transpose S8448x8x128 [1, 0, 2]
    (Host.dotGeneral dot_S8x8448x8448_S8x8448x128_S8x8448x128_2_1_1_2_0_0 none p v) transposes_S8x8448x128_S8448x8x128_1_0_2)
    shapeCasts_S8448x8x128_S8448x1024) bitsLt_bf16_f32
/-- Each row's log-sum to the base two in blocks of rows, of the rows' maxima and sums. -/
def logSums (x y : Rw) : FVec Ideal S8x11x1x768 .f32 :=
  shapeCast _ (Host.divf (addf x (Host.log y))
    (broadcastInDim S8x8448 ![] bcast_S_S8x8448 (id (Host.log (constant S_ .f32 0x40000000#32))))) shapeCasts_S8x8448_S8x11x1x768

/-- The program's scores. -/
def allScores (x0 : FVec Ideal S8448x1024 .bf16) (x1 : FVec Ideal S8448x2048 .bf16) : Sq := scores (scaled x0) (keyHeads x1)

section
variable (h : Fin 8) (r a : Fin 8448) (d : Fin 128)

theorem keyHeads_eq (x : FVec Ideal S8448x2048 .bf16) : keyHeads x = keys x := by
  funext j
  idx_vars j
  rw [keys_at]
  pointwise [keyHeads]
theorem valHeads_eq (x : FVec Ideal S8448x2048 .bf16) : valHeads x = vals x := by
  funext j
  idx_vars j
  rw [vals_at]
  pointwise [valHeads]
theorem rowTop_at (s : Sq) : rowTop s (ix2 h r) = Finset.univ.fold max ⊥ fun a => s (ix3 h r a) := by
  rw [← ofBits_neg_inf]
  exact last_max (A := 8) (B := 8448) (C := 8448) s h_S_ reducesTo_S8x8448x8448_S8x8448_d2 (by decide) h r
theorem expTop_at (s : Sq) : expTop s (ix3 h r a) = Ideal.exp (s (ix3 h r a) - rowTop s (ix2 h r)) := by
  rw [← along_at h r a (rowTop s)]
  pointwise [expTop]
theorem output_at (p : Sq) (v : Hd) (R : Fin 8448) (C : Fin 1024) : output p v (ix2 R C)
    = ∑ x, p (ix3 ⟨C.val / 128, by omega⟩ R x) * v (ix3 ⟨C.val / 128, by omega⟩ x ⟨C.val % 128, by omega⟩) := by
  pointwise [output]
/-- A constant's logarithm. -/
theorem log_constant (w : BitVec 32) (i : S_.Idx) : (id (Host.log (constant (F := Ideal) S_ .f32 w)) : FVec Ideal S_ .f32) i
    = Ideal.log (Ideal.ofBits .f32 w) := rfl
theorem logSums_at (x y : Rw) (b : Fin 11) (i : Fin 768) : logSums x y (ix4 h b 0 i)
    = Ideal.div (x (ix2 h ⟨b.val * 768 + i.val, by omega⟩) + Ideal.log (y (ix2 h ⟨b.val * 768 + i.val, by omega⟩)))
        (Ideal.log ((2 : ℝ) : EReal)) := by
  rw [← ofBits_two, ← log_constant _ ix0]
  pointwise [logSums]
end

end Cert.KernelIdeal.Host

end
-- ==== Proof.HostRun.lean ====
/-
What two of the launch's arguments hold when it is entered: the attention's output and each row's log-sum.
-/
module

public import proofs.«01_k».proof.Proof.Gen.KernelIdeal.Frame
public import proofs.«01_k».proof.Proof.HostStages
public import Idealize.ShloMosaic.Lib.Claim

@[expose] public section

set_option maxRecDepth 16384

noncomputable section

namespace Cert.KernelIdeal.Host

open Cert.KernelIdeal.Gen
open Idealize.ShloMosaic Idealize.ShloMosaic.TcCoe Cert.Attention Cert.ReferenceIdeal.Grad

section
variable (m : (ℓ : Loc nD τ sig) → Buf (Elt Ideal) ℓ) (c : Dev nD)

theorem V_output : V m c main_v32
    = output (soft (expTop (allScores (m ((c.tc : Thread nD τ).loc main_arg0)) (m ((c.tc : Thread nD τ).loc main_arg1)))))
        (valHeads (m ((c.tc : Thread nD τ).loc main_arg1))) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_logSums : V m c main_v39
    = logSums (rowTop (allScores (m ((c.tc : Thread nD τ).loc main_arg0)) (m ((c.tc : Thread nD τ).loc main_arg1))))
        (total (expTop (allScores (m ((c.tc : Thread nD τ).loc main_arg0)) (m ((c.tc : Thread nD τ).loc main_arg1))))) := by
  show StableHlo.after (List.flatten [hostOps0, hostOps0_1, hostOps0_2]) (fun b => m (c, b)) _ = _
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end

end Cert.KernelIdeal.Host

end
-- ==== Proof.Softmax.lean ====
/-
Causal softmax attention of one head over the reals, and its gradient: the weights, the row sums, the gradients of the scores, and
the gradients of queries, keys and values. Nothing here speaks of a program.
-/
module

public import Mathlib.Analysis.SpecialFunctions.Pow.Real
public import Mathlib.Data.EReal.Inv
public import Mathlib.Algebra.BigOperators.Field

@[expose] public section

noncomputable section

namespace Cert.Attention

variable {n w : ℕ} (q k v g : Fin n → Fin w → ℝ)

/-- The score of query `r` at key `a`. -/
def score (r a : Fin n) : ℝ := ∑ d, q r d * k a d
/-- The exponential of the score, for a key that comes no later than the query. -/
def expo (r a : Fin n) : ℝ := if a ≤ r then Real.exp (score q k r a) else 0
/-- The sum of a query's exponentials. -/
def norm (r : Fin n) : ℝ := ∑ a, expo q k r a
/-- The softmax weight. -/
def weight (r a : Fin n) : ℝ := expo q k r a / norm q k r
/-- The gradient of a weight. -/
def weightGrad (r a : Fin n) : ℝ := ∑ d, g r d * v a d
/-- The mean of a query's weight gradients under its weights. -/
def mean (r : Fin n) : ℝ := ∑ a, weight q k r a * weightGrad v g r a
/-- The gradient of a score. -/
def scoreGrad (r a : Fin n) : ℝ := weight q k r a * (weightGrad v g r a - mean q k v g r)
/-- The attention's output. -/
def out (r : Fin n) (d : Fin w) : ℝ := ∑ a, weight q k r a * v a d
/-- The gradient of a query. -/
def queryGrad (r : Fin n) (d : Fin w) : ℝ := ∑ a, scoreGrad q k v g r a * k a d
/-- The gradient of a key. -/
def keyGrad (a : Fin n) (d : Fin w) : ℝ := ∑ r, scoreGrad q k v g r a * q r d
/-- The gradient of a value. -/
def valGrad (a : Fin n) (d : Fin w) : ℝ := ∑ r, weight q k r a * g r d

theorem norm_pos (r : Fin n) : 0 < norm q k r := by
  refine Finset.sum_pos' (fun a _ => ?_) ⟨r, Finset.mem_univ _, ?_⟩
  · unfold expo
    split
    · exact (Real.exp_pos _).le
    · exact le_rfl
  · rw [expo, if_pos le_rfl]
    exact Real.exp_pos _

/-- The mean is the product of the output's row with the row of its gradient. -/
theorem mean_eq (r : Fin n) : mean q k v g r = ∑ d, out q k v r d * g r d := by
  simp only [mean, out, weightGrad, Finset.mul_sum, Finset.sum_mul]
  rw [Finset.sum_comm]
  refine Finset.sum_congr rfl fun d _ => Finset.sum_congr rfl fun a _ => ?_
  ring

/-! ## The same with the scores shifted by a number for each query -/

section
variable (s : Fin n → ℝ)

/-- The exponential of the score less the query's shift. -/
def shifted (r a : Fin n) : ℝ := if a ≤ r then Real.exp (score q k r a - s r) else 0
/-- Their sum. -/
def shiftedNorm (r : Fin n) : ℝ := ∑ a, shifted q k s r a

theorem shifted_eq (r a : Fin n) : shifted q k s r a = expo q k r a * Real.exp (-s r) := by
  unfold shifted expo
  split
  · rw [← Real.exp_add, sub_eq_add_neg]
  · rw [zero_mul]

theorem shiftedNorm_eq (r : Fin n) : shiftedNorm q k s r = norm q k r * Real.exp (-s r) := by
  simp only [shiftedNorm, norm, shifted_eq, Finset.sum_mul]

theorem shiftedNorm_pos (r : Fin n) : 0 < shiftedNorm q k s r := by
  rw [shiftedNorm_eq]
  exact mul_pos (norm_pos q k r) (Real.exp_pos _)

/-- The shift does not change the weights. -/
theorem shifted_weight (r a : Fin n) : shifted q k s r a / shiftedNorm q k s r = weight q k r a := by
  rw [shifted_eq, shiftedNorm_eq, weight, mul_div_mul_right _ _ (Real.exp_pos _).ne']

/-- The weight of a key as a power of two: the score over `log 2`, less the row's log-sum over `log 2`. -/
theorem two_rpow (r a : Fin n) (ha : a ≤ r) (x : ℝ) (hx : x = score q k r a * (Real.log 2)⁻¹) :
    (2 : ℝ) ^ (x - (s r + Real.log (shiftedNorm q k s r)) / Real.log 2) = weight q k r a := by
  have h2 : Real.log 2 ≠ 0 := (Real.log_pos (by norm_num)).ne'
  have e : Real.log 2 * (x - (s r + Real.log (shiftedNorm q k s r)) / Real.log 2)
      = (score q k r a - s r) - Real.log (shiftedNorm q k s r) := by
    subst hx
    field_simp
    ring
  rw [Real.rpow_def_of_pos (by norm_num), e, Real.exp_sub, Real.exp_log (shiftedNorm_pos q k s r), ← shifted_weight q k s, shifted,
    if_pos ha]

/-- The gradient of a score as the quotient's derivative gives it. -/
theorem quotient_grad (r a : Fin n) :
    (weightGrad v g r a / shiftedNorm q k s r
        + -∑ b, weightGrad v g r b * (1 / (shiftedNorm q k s r * shiftedNorm q k s r)) * shifted q k s r b) * shifted q k s r a
      = scoreGrad q k v g r a := by
  have hl : shiftedNorm q k s r ≠ 0 := (shiftedNorm_pos q k s r).ne'
  have e : ∑ b, weightGrad v g r b * (1 / (shiftedNorm q k s r * shiftedNorm q k s r)) * shifted q k s r b
      = mean q k v g r / shiftedNorm q k s r := by
    rw [mean, Finset.sum_div]
    refine Finset.sum_congr rfl fun b _ => ?_
    rw [← shifted_weight q k s]
    field_simp
  rw [e, scoreGrad, ← shifted_weight q k s]
  field_simp
  ring

end

/-- No gradient for a key that comes later than the query. -/
theorem scoreGrad_of_lt (r a : Fin n) (ha : ¬ a ≤ r) : scoreGrad q k v g r a = 0 := by
  rw [scoreGrad, weight, expo, if_neg ha, zero_div, zero_mul]

theorem weight_of_lt (r a : Fin n) (ha : ¬ a ≤ r) : weight q k r a = 0 := by
  rw [weight, expo, if_neg ha, zero_div]

/-! ## Extended reals -/

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The greatest of reals and `⊥`, one of them real, is real. -/
theorem fold_max_real {ι : Type} [Fintype ι] (f : ι → EReal) (i : ι) (hi : f i ≠ ⊥) (hf : ∀ j, f j ≠ ⊤) :
    ∃ x : ℝ, Finset.univ.fold max ⊥ f = (x : EReal) := by
  have h : Finset.univ.fold max ⊥ f = Finset.univ.sup f := rfl
  rw [h]
  have h1 : Finset.univ.sup f ≠ ⊤ := by
    have : Finset.univ.sup f < ⊤ := (Finset.sup_lt_iff (by exact bot_lt_top)).mpr fun j _ => lt_top_iff_ne_top.mpr (hf j)
    exact this.ne
  have h2 : Finset.univ.sup f ≠ ⊥ := fun e => hi (le_bot_iff.mp (e ▸ Finset.le_sup (f := f) (Finset.mem_univ i)))
  exact ⟨_, (EReal.coe_toReal h1 h2).symm⟩

end Cert.Attention

end
-- ==== Proof.RefValue.lean ====
/-
The reference's results at finite arguments: each stage, and the two results, as real numbers of the attention's gradient.
-/
module

public import proofs.«01_k».proof.Proof.RefStages
public import proofs.«01_k».proof.Proof.Softmax

@[expose] public section

set_option maxRecDepth 16384

noncomputable section

namespace Cert.Attention

open Idealize.ShloMosaic

/-- The exponential of a masked score less its row's maximum. -/
theorem exp_masked (p : Prop) [Decidable p] (x s : ℝ) :
    Ideal.exp ((if p then (x : EReal) else ⊥) - (s : EReal)) = ((if p then Real.exp (x - s) else 0 : ℝ) : EReal) := by
  split
  · rw [← EReal.coe_sub, Ideal.exp_coe]
  · rw [EReal.bot_sub, Ideal.exp_bot, EReal.coe_zero]

theorem div_real (x y : ℝ) (hy : y ≠ 0) : Ideal.div (x : EReal) (y : EReal) = ((x / y : ℝ) : EReal) := by
  rw [Ideal.div_coe hy, ← EReal.coe_mul, mul_one_div]

end Cert.Attention

namespace Cert.ReferenceIdeal.Grad

open Cert.ReferenceIdeal.Gen Cert.ReferenceIdeal.Value
open Idealize.ShloMosaic Idealize.ShloMosaic.TcCoe Cert.Attention

/-! ## The heads of real arrays -/

section
variable (q g : S8448x1024.Idx → ℝ) (kv : S8448x2048.Idx → ℝ)

/-- Head `h`'s scaled queries. -/
def headQ (h : Fin 8) (r : Fin 8448) (d : Fin 128) : ℝ := q (ix2 r ⟨h.val * 128 + d.val, by omega⟩) * (3424635 / 33554432)
/-- Head `h`'s columns. -/
def headG (h : Fin 8) (r : Fin 8448) (d : Fin 128) : ℝ := g (ix2 r ⟨h.val * 128 + d.val, by omega⟩)
/-- Head `h`'s keys. -/
def headK (h : Fin 8) (r : Fin 8448) (d : Fin 128) : ℝ := kv (ix2 r ⟨h.val * 256 + d.val, by omega⟩)
/-- Head `h`'s values. -/
def headV (h : Fin 8) (r : Fin 8448) (d : Fin 128) : ℝ := kv (ix2 r ⟨h.val * 256 + 128 + d.val, by omega⟩)

end

section
variable {q g : S8448x1024.Idx → ℝ} {kv : S8448x2048.Idx → ℝ}
variable {x0 x2 : FVec Ideal S8448x1024 .bf16} {x1 : FVec Ideal S8448x2048 .bf16}
variable (h0 : ∀ i, x0 i = (q i : EReal)) (h1 : ∀ i, x1 i = (kv i : EReal)) (h2 : ∀ i, x2 i = (g i : EReal))
variable (h : Fin 8) (r a : Fin 8448) (d : Fin 128)

include h0 in
theorem scaled_real : scaled x0 (ix3 h r d) = (headQ q h r d : EReal) := by
  rw [scaled_at, h0, ← EReal.coe_mul, headQ]
include h2 in
theorem heads_real : heads x2 (ix3 h r d) = (headG g h r d : EReal) := by
  rw [heads_at, h2, headG]
include h1 in
theorem keys_real : keys x1 (ix3 h r d) = (headK kv h r d : EReal) := by
  rw [keys_at, h1, headK]
include h1 in
theorem vals_real : vals x1 (ix3 h r d) = (headV kv h r d : EReal) := by
  rw [vals_at, h1, headV]

end

/-! ## The stages at real heads -/

section
variable {Q K V G : Fin 8 → Fin 8448 → Fin 128 → ℝ} {s : Fin 8 → Fin 8448 → ℝ}
variable {x y : Hd} (hx : ∀ h r d, x (ix3 h r d) = (Q h r d : EReal)) (hy : ∀ h r d, y (ix3 h r d) = (K h r d : EReal))
variable (h : Fin 8) (r a : Fin 8448) (d : Fin 128)

include hx hy in
theorem products_real : products x y (ix3 h r a) = ((∑ d, Q h r d * K h a d : ℝ) : EReal) := by
  rw [products_at, coe_sum]
  refine Finset.sum_congr rfl fun d _ => ?_
  rw [hx, hy, EReal.coe_mul]

include hx hy in
theorem scores_real : scores x y (ix3 h r a) = if a ≤ r then (score (Q h) (K h) r a : EReal) else ⊥ := by
  rw [scores_at, products_real hx hy, score]

variable {S E P : Sq}

/-- A row's greatest score is real: a query has itself among its keys. -/
theorem top_real (hS : ∀ h r a, S (ix3 h r a) = if a ≤ r then (score (Q h) (K h) r a : EReal) else ⊥) :
    ∃ s : ℝ, (Finset.univ.fold max ⊥ fun a => S (ix3 h r a)) = (s : EReal) := by
  refine fold_max_real _ r ?_ fun a => ?_
  · rw [hS, if_pos le_rfl]
    exact EReal.coe_ne_bot _
  · rw [hS]
    split
    · exact EReal.coe_ne_top _
    · exact bot_ne_top

theorem total_real (hE : ∀ h r a, E (ix3 h r a) = (shifted (Q h) (K h) (s h) r a : EReal)) :
    total E (ix2 h r) = (shiftedNorm (Q h) (K h) (s h) r : EReal) := by
  rw [total_at, shiftedNorm, coe_sum]
  exact Finset.sum_congr rfl fun a _ => hE h r a

theorem soft_real (hE : ∀ h r a, E (ix3 h r a) = (shifted (Q h) (K h) (s h) r a : EReal)) :
    soft E (ix3 h r a) = (weight (Q h) (K h) r a : EReal) := by
  rw [soft_at, total_real h r hE, hE, div_real _ _ (shiftedNorm_pos ..).ne', shifted_weight]

theorem expd_real (hS : ∀ h r a, S (ix3 h r a) = if a ≤ r then (score (Q h) (K h) r a : EReal) else ⊥)
    (hs : ∀ h r, rowMax S (ix2 h r) = (s h r : EReal)) : expd S (ix3 h r a) = (shifted (Q h) (K h) (s h) r a : EReal) := by
  rw [expd_at, hS, hs, exp_masked, shifted]

theorem scoreGrad_real (hE : ∀ h r a, E (ix3 h r a) = (shifted (Q h) (K h) (s h) r a : EReal))
    (hP : ∀ h r a, P (ix3 h r a) = (weightGrad (V h) (G h) r a : EReal)) :
    Grad.scoreGrad E P (ix3 h r a) = (Attention.scoreGrad (Q h) (K h) (V h) (G h) r a : EReal) := by
  have hl := (shiftedNorm_pos (Q h) (K h) (s h) r).ne'
  rw [scoreGrad_at]
  split
  · have e : ∀ b, P (ix3 h r b) * Ideal.div 1 (total E (ix2 h r) * total E (ix2 h r)) * E (ix3 h r b)
        = ((weightGrad (V h) (G h) r b * (1 / (shiftedNorm (Q h) (K h) (s h) r * shiftedNorm (Q h) (K h) (s h) r))
            * shifted (Q h) (K h) (s h) r b : ℝ) : EReal) := fun b => by
      rw [hP, hE, total_real h r hE, ← EReal.coe_mul, ← EReal.coe_one, div_real _ _ (mul_ne_zero hl hl), EReal.coe_mul, EReal.coe_mul]
    rw [Finset.sum_congr rfl fun b _ => e b, ← coe_sum, hP, hE, total_real h r hE, div_real _ _ hl, ← EReal.coe_neg, ← EReal.coe_add,
      ← EReal.coe_mul, quotient_grad]
  · next ha => rw [scoreGrad_of_lt _ _ _ _ _ _ ha, EReal.coe_zero]

theorem queryGrad_real (hE : ∀ h r a, E (ix3 h r a) = (Attention.scoreGrad (Q h) (K h) (V h) (G h) r a : EReal))
    (hy : ∀ h r d, y (ix3 h r d) = (K h r d : EReal)) (R : Fin 8448) (C : Fin 1024) :
    Grad.queryGrad E y (ix2 R C) = (Attention.queryGrad (Q ⟨C.val / 128, by omega⟩) (K ⟨C.val / 128, by omega⟩) (V ⟨C.val / 128, by omega⟩)
      (G ⟨C.val / 128, by omega⟩) R ⟨C.val % 128, by omega⟩ : EReal) := by
  rw [queryGrad_at, Attention.queryGrad, coe_sum]
  refine Finset.sum_congr rfl fun a _ => ?_
  rw [hE, hy, EReal.coe_mul]

theorem keyValGrad_real (hE : ∀ h r a, E (ix3 h r a) = (Attention.scoreGrad (Q h) (K h) (V h) (G h) r a : EReal))
    (hP : ∀ h r a, P (ix3 h r a) = (weight (Q h) (K h) r a : EReal)) (hx : ∀ h r d, x (ix3 h r d) = (Q h r d : EReal))
    (hy : ∀ h r d, y (ix3 h r d) = (G h r d : EReal)) (R : Fin 8448) (C : Fin 2048) :
    keyValGrad E P x y (ix2 R C) = ((if C.val / 128 % 2 < 1 then
        keyGrad (Q ⟨C.val / 256, by omega⟩) (K ⟨C.val / 256, by omega⟩) (V ⟨C.val / 256, by omega⟩) (G ⟨C.val / 256, by omega⟩) R
          ⟨C.val % 128, by omega⟩
      else valGrad (Q ⟨C.val / 256, by omega⟩) (K ⟨C.val / 256, by omega⟩) (G ⟨C.val / 256, by omega⟩) R ⟨C.val % 128, by omega⟩ : ℝ)
        : EReal) := by
  rw [keyValGrad_at]
  split
  · rw [keyGrad, coe_sum]
    refine Finset.sum_congr rfl fun r _ => ?_
    rw [hE, hx, EReal.coe_mul]
  · rw [valGrad, coe_sum]
    refine Finset.sum_congr rfl fun r _ => ?_
    rw [hP, hy, mul_comm, EReal.coe_mul]

end

/-! ## The program's stages -/

section
variable {q g : S8448x1024.Idx → ℝ} {kv : S8448x2048.Idx → ℝ}
variable {x0 x2 : FVec Ideal S8448x1024 .bf16} {x1 : FVec Ideal S8448x2048 .bf16}
variable (h0 : ∀ i, x0 i = (q i : EReal)) (h1 : ∀ i, x1 i = (kv i : EReal)) (h2 : ∀ i, x2 i = (g i : EReal))

include h0 h1 in
theorem exps_real : ∃ s : Fin 8 → Fin 8448 → ℝ, ∀ h r a, exps x0 x1 (ix3 h r a) = (shifted (headQ q h) (headK kv h) (s h) r a : EReal) := by
  have hS := scores_real (scaled_real h0) (keys_real h1)
  choose s hs using fun h r => top_real h r hS
  exact ⟨s, fun h r a => expd_real h r a hS fun h r => (rowMax_at h r _).trans (hs h r)⟩

include h0 h1 h2 in
theorem grads_real (h : Fin 8) (r a : Fin 8448) : grads x0 x1 x2 (ix3 h r a)
    = (Attention.scoreGrad (headQ q h) (headK kv h) (headV kv h) (headG g h) r a : EReal) := by
  obtain ⟨s, hs⟩ := exps_real h0 h1
  exact scoreGrad_real (V := headV kv) (G := headG g) h r a hs (products_real (heads_real h2) (vals_real h1))

include h0 h1 in
theorem weights_real (h : Fin 8) (r a : Fin 8448) : soft (exps x0 x1) (ix3 h r a) = (weight (headQ q h) (headK kv h) r a : EReal) := by
  obtain ⟨s, hs⟩ := exps_real h0 h1
  exact soft_real h r a hs

end

end Cert.ReferenceIdeal.Grad

end
-- ==== Proof.KernelValue.lean ====
/-
The kernel's results at finite arguments, as real numbers of the attention's gradient, from the output and the log-sums that the
kernel is called on.
-/
module

public import proofs.«01_k».proof.Proof.Windows
public import proofs.«01_k».proof.Proof.RefValue

@[expose] public section

set_option maxRecDepth 16384

noncomputable section

namespace Cert.KernelIdeal.Grad

open Cert.KernelIdeal.Gen
open Idealize.ShloMosaic Idealize.ShloMosaic.TcCoe
open Cert.ReferenceIdeal.Grad (headQ headG headK headV)

section
variable {q g : S8448x1024.Idx → ℝ} {kv : S8448x2048.Idx → ℝ} {s : Fin 8 → Fin 8448 → ℝ}
variable {x0 o x2 : Vec Ideal S8448x1024 .bf16} {x1 : Vec Ideal S8448x2048 .bf16} {l : Vec Ideal S8x11x1x768 .f32}
variable (h0 : ∀ i, x0 i = (q i : EReal)) (h1 : ∀ i, x1 i = (kv i : EReal)) (h2 : ∀ i, x2 i = (g i : EReal))
variable (ho : ∀ (h : Fin 8) (r : Fin 8448) (d : Fin 128),
  o (ix2 r (col h d)) = (Attention.out (headQ q h) (headK kv h) (headV kv h) r d : EReal))
variable (hl : ∀ (h : Fin 8) (r : Fin 8448), l (ix4 h (blockOf r) 0 (inBlock r))
  = (((s h r + Real.log (Attention.shiftedNorm (headQ q h) (headK kv h) (s h) r)) / Real.log 2 : ℝ) : EReal))
variable (h : Fin 8) (j : Fin 11) (a : Fin 768) (r : Fin 8448) (d : Fin 128)

theorem col_eq : col h d = ⟨h.val * 128 + d.val, by omega⟩ := Fin.ext (by rw [col_val h.isLt]; show _ = h.val * 128 + d.val; omega)
theorem keyCol_eq : keyCol h d = ⟨h.val * 256 + d.val, by omega⟩ :=
  Fin.ext (by rw [keyCol_val h.isLt]; show _ = h.val * 256 + d.val; omega)
theorem valCol_eq : valCol h d = ⟨h.val * 256 + 128 + d.val, by omega⟩ :=
  Fin.ext (by rw [valCol_val h.isLt]; show _ = h.val * 256 + 128 + d.val; omega)

include h0 in
theorem queries_real : headCols x0 h (ix2 r d) * sc = (headQ q h r d : EReal) := by
  show x0 (ix2 r (col h d)) * sc = _
  rw [h0, col_eq, sc, ← EReal.coe_mul, headQ]

include h2 in
theorem cols_real : headCols x2 h (ix2 r d) = (headG g h r d : EReal) := by
  show x2 (ix2 r (col h d)) = _
  rw [h2, col_eq, headG]

include h1 in
theorem keyBlock_real : keyBlock x1 h j (ix2 a d) = (headK kv h (row j a) d : EReal) := by
  show x1 (ix2 (row j a) (keyCol h d)) = _
  rw [h1, keyCol_eq, headK]

include h1 in
theorem valBlock_real : valBlock x1 h j (ix2 a d) = (headV kv h (row j a) d : EReal) := by
  show x1 (ix2 (row j a) (valCol h d)) = _
  rw [h1, valCol_eq, headV]

include hl in
theorem lse_real : headLse l h (ix4 0 (blockOf r) 0 (inBlock r))
    = (((s h r + Real.log (Attention.shiftedNorm (headQ q h) (headK kv h) (s h) r)) / Real.log 2 : ℝ) : EReal) := by
  show l (ix4 (Fin.ofNat 8 h.val) (blockOf r) 0 (inBlock r)) = _
  rw [Fin.ofNat_val_eq_self, hl]

include ho h2 in
theorem sums_real : headSums o x2 h (ix3 (blockOf r) 0 (inBlock r))
    = (Attention.mean (headQ q h) (headK kv h) (headV kv h) (headG g h) r : EReal) := by
  show (∑ d : Fin 128, headCols o h (ix2 (row (blockOf r).val (inBlock r)) d) * headCols x2 h (ix2 (row (blockOf r).val (inBlock r)) d)) = _
  rw [row_blockOf, Attention.mean_eq, Attention.coe_sum]
  refine Finset.sum_congr rfl fun d _ => ?_
  rw [cols_real h2, EReal.coe_mul]
  exact congrArg (· * _) (ho h r d)

include h0 h1 hl in
theorem weight_real : weight j (keyBlock x1 h j) (headCols x0 h) (headLse l h) a r
    = (Attention.weight (headQ q h) (headK kv h) r (row j a) : EReal) := by
  have hle : 768 * j.val + a.val ≤ r.val ↔ row j a ≤ r := by rw [Fin.le_def, row_val j.isLt]
  rw [weight]
  split
  · next ha =>
    have e : (∑ d : Fin 128, keyBlock x1 h j (ix2 a d) * headCols x0 h (ix2 r d)) * c2
        = ((Attention.score (headQ q h) (headK kv h) r (row j a) * (Real.log 2)⁻¹ : ℝ) : EReal) := by
      have e1 : ∀ d : Fin 128, keyBlock x1 h j (ix2 a d) * headCols x0 h (ix2 r d)
          = ((headK kv h (row j a) d * q (ix2 r ⟨h.val * 128 + d.val, by omega⟩) : ℝ) : EReal) := fun d => by
        rw [keyBlock_real h1, EReal.coe_mul, ← h0, ← col_eq]
        rfl
      rw [Finset.sum_congr rfl fun d _ => e1 d, ← Attention.coe_sum, c2, ← EReal.coe_mul, Attention.score]
      congr 1
      rw [← mul_assoc, Finset.sum_mul]
      congr 1
      refine Finset.sum_congr rfl fun d _ => ?_
      rw [headQ]
      ring
    rw [e, lse_real hl, ← EReal.coe_sub, Ideal.exp2_coe]
    exact congrArg _ (Attention.two_rpow (headQ q h) (headK kv h) (s h) r (row j a) (hle.mp ha) _ rfl)
  · next ha => rw [Attention.weight_of_lt _ _ _ _ fun h => ha (hle.mpr h), EReal.coe_zero]

include h0 h1 h2 ho hl in
theorem scoreGrad_real : scoreGrad j (keyBlock x1 h j) (valBlock x1 h j) (headCols x0 h) (headCols x2 h) (headLse l h)
      (headSums o x2 h) a r
    = (Attention.scoreGrad (headQ q h) (headK kv h) (headV kv h) (headG g h) r (row j a) : EReal) := by
  have e : ∑ d : Fin 128, valBlock x1 h j (ix2 a d) * headCols x2 h (ix2 r d)
      = (Attention.weightGrad (headV kv h) (headG g h) r (row j a) : EReal) := by
    rw [Attention.weightGrad, Attention.coe_sum]
    refine Finset.sum_congr rfl fun d _ => ?_
    rw [valBlock_real h1, cols_real h2, mul_comm, EReal.coe_mul]
  rw [scoreGrad, weight_real h0 h1 hl, e, sums_real h2 ho, ← EReal.coe_sub, ← EReal.coe_mul, Attention.scoreGrad]

include h0 h1 h2 ho hl in
/-- The query gradients. -/
theorem dqAfter_real : dqAfter x0 o x2 x1 l h 11 (ix2 r d)
    = (Attention.queryGrad (headQ q h) (headK kv h) (headV kv h) (headG g h) r d : EReal) := by
  show (∑ j ∈ Finset.range 11, ∑ a : Fin 768, scoreGrad j (keyBlock x1 h j) (valBlock x1 h j) (headCols x0 h) (headCols x2 h) (headLse l h)
      (headSums o x2 h) a r * keyBlock x1 h j (ix2 a d)) = _
  rw [Attention.queryGrad, ← sum_rows, Attention.coe_sum]
  refine Finset.sum_congr rfl fun j hj => ?_
  rw [Attention.coe_sum]
  refine Finset.sum_congr rfl fun a _ => ?_
  have e := scoreGrad_real h0 h1 h2 ho hl h ⟨j, Finset.mem_range.mp hj⟩ a r
  have e' := keyBlock_real h1 h ⟨j, Finset.mem_range.mp hj⟩ a d
  simp only at e e'
  rw [e, e', EReal.coe_mul]

include h0 h1 h2 ho hl in
/-- The key and value gradients. -/
theorem dkvBlock_real (y : Fin 256) : dkvBlock x0 o x2 x1 l h j (ix2 a y)
    = ((if y.val < 128 then
        Attention.keyGrad (headQ q h) (headK kv h) (headV kv h) (headG g h) (row j a) ⟨y.val % 128, by omega⟩
      else Attention.valGrad (headQ q h) (headK kv h) (headG g h) (row j a) ⟨y.val % 128, by omega⟩ : ℝ) : EReal) := by
  show (if hy : y.val < 128 then
      dkSum j (keyBlock x1 h j) (valBlock x1 h j) (headCols x0 h) (headCols x2 h) (headLse l h) (headSums o x2 h) a ⟨y.val, hy⟩ * sc
    else dvSum j (keyBlock x1 h j) (headCols x0 h) (headCols x2 h) (headLse l h) a ⟨y.val - 128, _⟩) = _
  split
  · next hy =>
    rw [show (⟨y.val, hy⟩ : Fin 128) = ⟨y.val % 128, by omega⟩ from Fin.ext (Nat.mod_eq_of_lt hy).symm]
    have e : ∀ r, scoreGrad j (keyBlock x1 h j) (valBlock x1 h j) (headCols x0 h) (headCols x2 h) (headLse l h) (headSums o x2 h) a r
          * headCols x0 h (ix2 r ⟨y.val % 128, by omega⟩)
        = ((Attention.scoreGrad (headQ q h) (headK kv h) (headV kv h) (headG g h) r (row j a)
            * q (ix2 r ⟨h.val * 128 + y.val % 128, by omega⟩) : ℝ) : EReal) := fun r => by
      rw [scoreGrad_real h0 h1 h2 ho hl, EReal.coe_mul, ← h0]
      refine congrArg (_ * ·) ?_
      show x0 (ix2 r (col h ⟨y.val % 128, _⟩)) = _
      rw [col_eq]
    rw [dkSum, Finset.sum_congr rfl fun r _ => e r, ← Attention.coe_sum, sc, ← EReal.coe_mul, Attention.keyGrad, Finset.sum_mul]
    refine congrArg _ (Finset.sum_congr rfl fun r _ => ?_)
    rw [headQ, mul_assoc]
  · next hy =>
    have hy' := y.isLt
    rw [show (⟨y.val - 128, by omega⟩ : Fin 128) = ⟨y.val % 128, by omega⟩ from Fin.ext (by show y.val - 128 = y.val % 128; omega)]
    rw [dvSum, Attention.valGrad, Attention.coe_sum]
    refine Finset.sum_congr rfl fun r _ => ?_
    rw [weight_real h0 h1 hl, cols_real h2, EReal.coe_mul]

end

end Cert.KernelIdeal.Grad

end
-- ==== Proof.HostValue.lean ====
/-
What the kernel is called on at finite arguments: the attention's output and each row's log-sum, as real numbers.
-/
module

public import proofs.«01_k».proof.Proof.HostStages
public import proofs.«01_k».proof.Proof.KernelValue

@[expose] public section

set_option maxRecDepth 16384

noncomputable section

namespace Cert.KernelIdeal.Host

open Cert.KernelIdeal.Gen Cert.KernelIdeal.Grad
open Idealize.ShloMosaic Idealize.ShloMosaic.TcCoe
open Cert.ReferenceIdeal.Grad (headQ headG headK headV soft total)

section
variable {q : S8448x1024.Idx → ℝ} {kv : S8448x2048.Idx → ℝ}
variable {x0 : FVec Ideal S8448x1024 .bf16} {x1 : FVec Ideal S8448x2048 .bf16}
variable (h0 : ∀ i, x0 i = (q i : EReal)) (h1 : ∀ i, x1 i = (kv i : EReal))

variable (hk : ∀ h r d, Cert.ReferenceIdeal.Grad.keys x1 (ix3 h r d) = (headK kv h r d : EReal))

include h0 hk in
theorem allScores_real (h : Fin 8) (r a : Fin 8448) : allScores x0 x1 (ix3 h r a)
    = if a ≤ r then (Attention.score (headQ q h) (headK kv h) r a : EReal) else ⊥ :=
  Cert.ReferenceIdeal.Grad.scores_real (Q := headQ q) (K := headK kv) (Cert.ReferenceIdeal.Grad.scaled_real h0)
    (by rw [keyHeads_eq]; exact hk) h r a

include h0 hk in
/-- Every row has a real maximum, with which the exponentials are real. -/
theorem top_exps_real : ∃ s : Fin 8 → Fin 8448 → ℝ, (∀ h r, rowTop (allScores x0 x1) (ix2 h r) = (s h r : EReal))
    ∧ ∀ h r a, expTop (allScores x0 x1) (ix3 h r a) = (Attention.shifted (headQ q h) (headK kv h) (s h) r a : EReal) := by
  have hS := allScores_real h0 hk
  choose s hs using fun h r => Cert.ReferenceIdeal.Grad.top_real h r hS
  have ht : ∀ h r, rowTop (allScores x0 x1) (ix2 h r) = (s h r : EReal) := fun h r => (rowTop_at h r _).trans (hs h r)
  exact ⟨s, ht, fun h r a => by rw [expTop_at, hS, ht, Attention.exp_masked, Attention.shifted]⟩

variable {s : Fin 8 → Fin 8448 → ℝ} {E : Cert.ReferenceIdeal.Grad.Sq} {M : Cert.ReferenceIdeal.Grad.Rw}
variable (hE : ∀ h r a, E (ix3 h r a) = (Attention.shifted (headQ q h) (headK kv h) (s h) r a : EReal))
variable (hM : ∀ h r, M (ix2 h r) = (s h r : EReal))

include hE in
theorem output_mix (h : Fin 8) (r : Fin 8448) (d : Fin 128) : output (soft E) (valHeads x1) (ix2 r (col h d))
    = ∑ a, (Attention.weight (headQ q h) (headK kv h) r a : EReal) * Cert.ReferenceIdeal.Grad.vals x1 (ix3 h a d) := by
  have hc := col_val h.isLt d
  have hd := d.isLt
  rw [output_at]
  refine Finset.sum_congr rfl fun a _ => ?_
  rw [show (⟨(col h d).val / 128, by omega⟩ : Fin 8) = h from Fin.ext (by show (col h d).val / 128 = h.val; omega),
    show (⟨(col h d).val % 128, by omega⟩ : Fin 128) = d from Fin.ext (by show (col h d).val % 128 = d.val; omega),
    Cert.ReferenceIdeal.Grad.soft_real h r a hE, valHeads_eq]

include h1 hE in
theorem output_real (h : Fin 8) (r : Fin 8448) (d : Fin 128) : output (soft E) (valHeads x1) (ix2 r (col h d))
    = (Attention.out (headQ q h) (headK kv h) (headV kv h) r d : EReal) := by
  rw [output_mix hE, Attention.out, Attention.coe_sum]
  exact Finset.sum_congr rfl fun a _ => by rw [Cert.ReferenceIdeal.Grad.vals_real h1, EReal.coe_mul]

include hE hM in
theorem logSums_real (h : Fin 8) (r : Fin 8448) : logSums M (total E) (ix4 h (blockOf r) 0 (inBlock r))
    = (((s h r + Real.log (Attention.shiftedNorm (headQ q h) (headK kv h) (s h) r)) / Real.log 2 : ℝ) : EReal) := by
  have e : (⟨(blockOf r).val * 768 + (inBlock r).val, by omega⟩ : Fin 8448) = r :=
    Fin.ext (by show r.val / 768 * 768 + r.val % 768 = r.val; omega)
  have hp := Attention.shiftedNorm_pos (headQ q h) (headK kv h) (s h) r
  rw [logSums_at, e, hM, Cert.ReferenceIdeal.Grad.total_real h r hE, Ideal.log_coe, Ideal.log_coe, if_neg (not_le.mpr hp),
    if_neg (by norm_num), ← EReal.coe_add, Attention.div_real _ _ (Real.log_pos (by norm_num)).ne']

end

end Cert.KernelIdeal.Host

end
-- ==== Proof.Results.lean ====
/-
The two programs' results are equal at finite arguments: both are the attention's gradients in real numbers.
-/
module

public import proofs.«01_k».proof.Proof.Launch
public import proofs.«01_k».proof.Proof.HostRun
public import proofs.«01_k».proof.Proof.HostValue

@[expose] public section

set_option maxRecDepth 16384

noncomputable section

namespace Cert.Attention

open Idealize.ShloMosaic Idealize.ShloMosaic.TcCoe
open Cert.KernelIdeal.Grad (dqResult dkvResult dqAfter dkvBlock dqAfter_real dkvBlock_real row blockOf inBlock row_blockOf)
open Cert.KernelIdeal.Host (output logSums rowTop expTop allScores valHeads)
open Cert.ReferenceIdeal.Grad (soft total exps grads keys scaled heads headQ headK headV headG)

section
variable {q g : Cert.KernelIdeal.S8448x1024.Idx → ℝ} {kv : Cert.KernelIdeal.S8448x2048.Idx → ℝ}
variable {x0 x2 : Vec Ideal Cert.KernelIdeal.S8448x1024 .bf16} {x1 : Vec Ideal Cert.KernelIdeal.S8448x2048 .bf16}
variable (h0 : ∀ i, x0 i = (q i : EReal)) (h1 : ∀ i, x1 i = (kv i : EReal)) (h2 : ∀ i, x2 i = (g i : EReal))

include h0 h1 h2 in
/-- The query gradients of the two programs. -/
theorem query_eq (R : Fin 8448) (C : Fin 1024) :
    dqAfter x0 (output (soft (expTop (allScores x0 x1))) (valHeads x1)) x2 x1
        (logSums (rowTop (allScores x0 x1)) (total (expTop (allScores x0 x1)))) (C.val / 128) 11 (ix2 R ⟨C.val % 128, Nat.mod_lt _ (by decide)⟩)
      = Cert.ReferenceIdeal.Grad.queryGrad (grads x0 x1 x2) (keys x1) (ix2 R C) := by
  obtain ⟨s, hs, hE⟩ := Cert.KernelIdeal.Host.top_exps_real h0 (Cert.ReferenceIdeal.Grad.keys_real h1)
  rw [Cert.ReferenceIdeal.Grad.queryGrad_real (Cert.ReferenceIdeal.Grad.grads_real h0 h1 h2) (Cert.ReferenceIdeal.Grad.keys_real h1)]
  exact dqAfter_real h0 h1 h2 (Cert.KernelIdeal.Host.output_real h1 hE) (Cert.KernelIdeal.Host.logSums_real hE hs)
    ⟨C.val / 128, by omega⟩ R _

include h0 h1 h2 in
/-- The key and value gradients of the two programs. -/
theorem key_value_eq (R : Fin 8448) (C : Fin 2048) :
    dkvBlock x0 (output (soft (expTop (allScores x0 x1))) (valHeads x1)) x2 x1
        (logSums (rowTop (allScores x0 x1)) (total (expTop (allScores x0 x1)))) (C.val / 256) (R.val / 768)
        (ix2 ⟨R.val % 768, Nat.mod_lt _ (by decide)⟩ ⟨C.val % 256, Nat.mod_lt _ (by decide)⟩)
      = Cert.ReferenceIdeal.Grad.keyValGrad (grads x0 x1 x2) (soft (exps x0 x1)) (scaled x0) (heads x2) (ix2 R C) := by
  obtain ⟨s, hs, hE⟩ := Cert.KernelIdeal.Host.top_exps_real h0 (Cert.ReferenceIdeal.Grad.keys_real h1)
  rw [Cert.ReferenceIdeal.Grad.keyValGrad_real (Cert.ReferenceIdeal.Grad.grads_real h0 h1 h2) (Cert.ReferenceIdeal.Grad.weights_real h0 h1)
    (Cert.ReferenceIdeal.Grad.scaled_real h0) (Cert.ReferenceIdeal.Grad.heads_real h2)]
  refine (dkvBlock_real h0 h1 h2 (Cert.KernelIdeal.Host.output_real h1 hE) (Cert.KernelIdeal.Host.logSums_real hE hs)
    ⟨C.val / 256, by omega⟩ (blockOf R) (inBlock R) ⟨C.val % 256, by omega⟩).trans ?_
  rw [row_blockOf]
  have e : (⟨C.val % 256 % 128, by omega⟩ : Fin 128) = ⟨C.val % 128, by omega⟩ := Fin.ext (by show C.val % 256 % 128 = C.val % 128; omega)
  simp only [e]
  by_cases hc : C.val % 256 < 128
  · rw [if_pos hc, if_pos (by omega)]
  · rw [if_neg hc, if_neg (by omega)]

end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
variable {q g : Cert.KernelIdeal.S8448x1024.Idx → ℝ} {kv : Cert.KernelIdeal.S8448x2048.Idx → ℝ}

theorem result0_eq
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h0 : ∀ i, m ((c.tc : Thread Cert.KernelIdeal.nD Cert.KernelIdeal.τ).loc Cert.KernelIdeal.main_arg0) i = (q i : EReal))
    (h1 : ∀ i, m ((c.tc : Thread Cert.KernelIdeal.nD Cert.KernelIdeal.τ).loc Cert.KernelIdeal.main_arg1) i = (kv i : EReal))
    (h2 : ∀ i, m ((c.tc : Thread Cert.KernelIdeal.nD Cert.KernelIdeal.τ).loc Cert.KernelIdeal.main_arg2) i = (g i : EReal)) :
    Cert.ReferenceIdeal.Value.res_out0 m' c = dqResult m c := by
  rw [Cert.ReferenceIdeal.Grad.result0, e0, e1, e2]
  funext y
  obtain ⟨R, C, rfl⟩ : ∃ R C, y = ix2 R C := ⟨y 0, y 1, (ix2_eta y).symm⟩
  refine (query_eq h0 h1 h2 R C).symm.trans ?_
  show _ = dqAfter (Cert.KernelIdeal.Gen.V m c Cert.KernelIdeal.main_arg0) (Cert.KernelIdeal.Gen.V m c Cert.KernelIdeal.main_v32)
    (Cert.KernelIdeal.Gen.V m c Cert.KernelIdeal.main_arg2) (Cert.KernelIdeal.Gen.V m c Cert.KernelIdeal.main_arg1)
    (Cert.KernelIdeal.Gen.V m c Cert.KernelIdeal.main_v39) (C.val / 128) 11 (ix2 R ⟨C.val % 128, Nat.mod_lt _ (by decide)⟩)
  rw [Cert.KernelIdeal.Host.V_output, Cert.KernelIdeal.Host.V_logSums, Cert.KernelIdeal.Gen.V_main_arg0, Cert.KernelIdeal.Gen.V_main_arg1,
    Cert.KernelIdeal.Gen.V_main_arg2]

theorem result1_eq
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h0 : ∀ i, m ((c.tc : Thread Cert.KernelIdeal.nD Cert.KernelIdeal.τ).loc Cert.KernelIdeal.main_arg0) i = (q i : EReal))
    (h1 : ∀ i, m ((c.tc : Thread Cert.KernelIdeal.nD Cert.KernelIdeal.τ).loc Cert.KernelIdeal.main_arg1) i = (kv i : EReal))
    (h2 : ∀ i, m ((c.tc : Thread Cert.KernelIdeal.nD Cert.KernelIdeal.τ).loc Cert.KernelIdeal.main_arg2) i = (g i : EReal)) :
    Cert.ReferenceIdeal.Value.res_out1 m' c = dkvResult m c := by
  rw [Cert.ReferenceIdeal.Grad.result1, e0, e1, e2]
  funext y
  obtain ⟨R, C, rfl⟩ : ∃ R C, y = ix2 R C := ⟨y 0, y 1, (ix2_eta y).symm⟩
  refine (key_value_eq h0 h1 h2 R C).symm.trans ?_
  show _ = dkvBlock (Cert.KernelIdeal.Gen.V m c Cert.KernelIdeal.main_arg0) (Cert.KernelIdeal.Gen.V m c Cert.KernelIdeal.main_v32)
    (Cert.KernelIdeal.Gen.V m c Cert.KernelIdeal.main_arg2) (Cert.KernelIdeal.Gen.V m c Cert.KernelIdeal.main_arg1)
    (Cert.KernelIdeal.Gen.V m c Cert.KernelIdeal.main_v39) (C.val / 256) (R.val / 768)
    (ix2 ⟨R.val % 768, Nat.mod_lt _ (by decide)⟩ ⟨C.val % 256, Nat.mod_lt _ (by decide)⟩)
  rw [Cert.KernelIdeal.Host.V_output, Cert.KernelIdeal.Host.V_logSums, Cert.KernelIdeal.Gen.V_main_arg0, Cert.KernelIdeal.Gen.V_main_arg1,
    Cert.KernelIdeal.Gen.V_main_arg2]

end

end Cert.Attention

end
-- ==== Proof.Blocks.lean ====
/-
Sums over the rows of a whole array, block by block, and products with the constants one and one half.
-/
module

public import Idealize.ShloMosaic.Lib.Pointwise
public import Idealize.ShloMosaic.Lib.IdealHost
public import Idealize.ShloMosaic.Lib.Tactic

@[expose] public section

noncomputable section

namespace Cert.Ffn

open Idealize.ShloMosaic

/-- Row `r` of block `b`, of the 11 blocks of 768 rows. -/
def row (b : ℕ) (r : Fin 768) : Fin 8448 := Fin.ofNat 8448 (768 * b + r.val)

theorem row_val {b : ℕ} (hb : b < 11) (r : Fin 768) : (row b r).val = 768 * b + r.val := by
  have := r.isLt
  exact Nat.mod_eq_of_lt (by omega)

/-- Position `s` of half `j`, of an axis of 2816. -/
def half (j : ℕ) (s : Fin 1408) : Fin 2816 := Fin.ofNat 2816 (1408 * j + s.val)

theorem half_val {j : ℕ} (hj : j < 2) (s : Fin 1408) : (half j s).val = 1408 * j + s.val := by
  have := s.isLt
  exact Nat.mod_eq_of_lt (by omega)

/-- Column `s` of half `q`, of the 1024 columns. -/
def col (q : ℕ) (s : Fin 512) : Fin 1024 := Fin.ofNat 1024 (512 * q + s.val)

theorem col_val {q : ℕ} (hq : q < 2) (s : Fin 512) : (col q s).val = 512 * q + s.val := by
  have := s.isLt
  exact Nat.mod_eq_of_lt (by omega)

/-- A column of the first half of the feed-forward's first weight. -/
def lo (j : Fin 2816) : Fin 5632 := ⟨j.val, by omega⟩
/-- A column of its second half. -/
def hi (j : Fin 2816) : Fin 5632 := ⟨2816 + j.val, by omega⟩

/-- A sum over the rows, block by block. -/
theorem sum_rows (f : Fin 8448 → EReal) : ∑ b ∈ Finset.range 11, ∑ r : Fin 768, f (row b r) = ∑ k : Fin 8448, f k := by
  rw [Fin.sum_univ_tiles 11 768 rfl f, Finset.sum_range]
  refine Finset.sum_congr rfl fun b _ => Finset.sum_congr rfl fun r _ => congrArg f (Fin.ext ?_)
  rw [row_val b.isLt]
  show 768 * b.val + r.val = b.val * 768 + r.val
  omega

/-- The share of the sum over the rows, for half `n / 11` of a summand, that point `n` of a run of 11 points adds. -/
def share (f : ℕ → Fin 8448 → EReal) (n : ℕ) : EReal := ∑ r : Fin 768, f (n / 11) (row (n % 11) r)

/-- The shares of a half's 11 points add up to its whole sum. -/
theorem sum_shares (f : ℕ → Fin 8448 → EReal) (j : ℕ) : ∑ b ∈ Finset.range 11, share f (11 * j + b) = ∑ k : Fin 8448, f j k := by
  refine Eq.trans (Finset.sum_congr rfl fun b hb => ?_) (sum_rows (f j))
  have hb' : b < 11 := Finset.mem_range.1 hb
  rw [share, show (11 * j + b) % 11 = b by omega, show (11 * j + b) / 11 = j by omega]

theorem ofBits_half : (Ideal.ofBits .f32 0x3F000000#32 : EReal) = ((1 / 2 : ℝ) : EReal) := by
  simp [Ideal.ofBits, Ideal.ieee, -EReal.coe_mul]
  norm_num

theorem ofBits_one : (Ideal.ofBits .f32 0x3F800000#32 : EReal) = 1 := by
  rw [← EReal.coe_one]
  simp [Ideal.ofBits, Ideal.ieee, -EReal.coe_mul]
  norm_num

/-- One half of a sum is the sum of the halves, infinite terms included. -/
theorem half_mul_sum {α : Type*} (s : Finset α) (f : α → EReal) :
    ((1 / 2 : ℝ) : EReal) * ∑ k ∈ s, f k = ∑ k ∈ s, ((1 / 2 : ℝ) : EReal) * f k := by
  classical
  induction s using Finset.induction_on with
  | empty => simp
  | insert a s ha ih =>
    rw [Finset.sum_insert ha, Finset.sum_insert ha, ← ih, EReal.left_distrib_of_nonneg_of_ne_top (by exact_mod_cast (by norm_num : (0 : ℝ) ≤ 1 / 2)) (EReal.coe_ne_top _)]

end Cert.Ffn

end
-- ==== Proof.ActGradClaims.lean ====
/-
The gradients of the gate and of the up half. With `dact` one half of the product of the output's gradient and the transposed
weight, and `sg` the gate's logistic, the kernel has `(dact * u) * (sg * (1 + g * (1 - sg)))` and `dact * (g * sg)`; the reference
has the first one multiplied out, `(dact * u) * sg + (g * (dact * u)) * (sg * (1 - sg))`. The two agree for a real `dact * u` and any
gate, an infinite one included.
-/
module

public import proofs.«01_k».proof.Defs
public import proofs.«01_k».proof.Proof.Blocks
public import proofs.«01_k».proof.Proof.Finite
public import proofs.«01_k».proof.Proof.Softmax
public import proofs.«01_k».proof.Proof.Gen.ActGrad.Frame
public import proofs.«01_k».proof.Proof.Gen.ActGradIdeal.Value
public import proofs.«01_k».proof.Proof.Gen.ActGradReferenceIdeal.Run
public import Idealize.ShloMosaic.Lib.Pipeline.Value
public import Idealize.ShloMosaic.Lib.Pipeline.ValueKit

@[expose] public section

set_option maxRecDepth 16384

noncomputable section

open Idealize.ShloMosaic Idealize.ShloMosaic.TcCoe Idealize.SL.Sem

/-! ## The precondition -/

namespace Cert.Pre_finite_acts

instance facts : Facts where
  bcast_S_S8448x1024 := by decide
  reducesTo_S8448x1024_S_d0_1 := by decide
  h_S_ := by decide
  bitsLt_bf16_f32 := by decide
  bcast_S_S2816x1024 := by decide
  reducesTo_S2816x1024_S_d0_1 := by decide
  bcast_S_S8448x2816 := by decide
  reducesTo_S8448x2816_S_d0_1 := by decide

/-- Where the predicate holds, the gradient, the weight and the up half are real, entry by entry. -/
theorem reals_of_fn (x0 : FVec Ideal S8448x1024 .f32) (x1 : FVec Ideal S2816x1024 .bf16) (x2 x3 : FVec Ideal S8448x2816 .bf16)
    (h : fn (F := Ideal) x0 x1 x2 x3 = fun _ => 1#1) :
    (∀ i, ∃ r : ℝ, x0 i = (r : EReal)) ∧ (∀ i, ∃ r : ℝ, x1 i = (r : EReal)) ∧ ∀ i, ∃ r : ℝ, x3 i = (r : EReal) := by
  have h := congrFun h ix0
  dsimp only [fn] at h
  obtain ⟨h01, h3⟩ := IntOp.andi_eq_one.1 h
  obtain ⟨h0, h1⟩ := IntOp.andi_eq_one.1 h01
  exact ⟨fun i => Cert.Pre_finite.real_of_abs_lt _ (Host.reduce_andi_all _ _ _ _ ix0 h0 i),
    fun i => Cert.Pre_finite.real_of_abs_lt _ (Host.reduce_andi_all _ _ _ _ ix0 h1 i),
    fun i => Cert.Pre_finite.real_of_abs_lt _ (Host.reduce_andi_all _ _ _ _ ix0 h3 i)⟩

end Cert.Pre_finite_acts

namespace Cert.ActGradIdeal.Grad

open Cert.ActGradIdeal.Gen Cert.Ffn

/-! ## The gate's slope -/

/-- A sum of products of reals is real. -/
theorem sum_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  exact ⟨∑ k, a k * b k, by
    rw [Cert.Attention.coe_sum]
    exact Finset.sum_congr rfl fun k _ => by rw [ha, hb, EReal.coe_mul]⟩

/-- The slope of `g * logistic g`, multiplied out, for a real factor `x`: an infinite gate has the logistic 0 or 1 and the slope 0 or 1. -/
theorem slope_eq (x : ℝ) (g : EReal) :
    (x : EReal) * Ideal.logistic g + (g * x) * (Ideal.logistic g * (1 - Ideal.logistic g))
      = x * (Ideal.logistic g * (1 + g * (1 - Ideal.logistic g))) := by
  induction g using EReal.rec with
  | bot => simp
  | top =>
    have h : (1 : EReal) - 1 = 0 := by rw [← EReal.coe_one, ← EReal.coe_sub, sub_self, EReal.coe_zero]
    simp [h]
  | coe g =>
    rw [Ideal.logistic_coe]
    norm_cast
    ring

/-! ## One block -/

section
variable (d : Vec Ideal S768x1024 .f32) (w : Vec Ideal S1024x1408 .bf16) (g u : Vec Ideal S768x1408 .bf16) (a : Fin 768) (b : Fin 1408)

theorem gate_apply : k0_pay4 (F := Ideal) d w g u (ix2 a b)
    = (((1 / 2 : ℝ) : EReal) * ∑ k : Fin 1024, d (ix2 a k) * w (ix2 k b)) * u (ix2 a b)
      * (Ideal.logistic (g (ix2 a b)) * (1 + g (ix2 a b) * (1 - Ideal.logistic (g (ix2 a b))))) := by
  rw [← ofBits_half, Ideal.logistic, ← zero_sub]
  pointwise [k0_pay4, k0_pay1, k0_pay2, k0_pay3]

theorem up_apply : k0_pay5 (F := Ideal) d w g (ix2 a b)
    = (((1 / 2 : ℝ) : EReal) * ∑ k : Fin 1024, d (ix2 a k) * w (ix2 k b)) * (g (ix2 a b) * Ideal.logistic (g (ix2 a b))) := by
  rw [← ofBits_half, Ideal.logistic, ← zero_sub]
  pointwise [k0_pay5, k0_pay1, k0_pay2, k0_pay3]

end

/-! ## The arrays the region finds -/

theorem index0 : ∀ t : Fin grid0.N, win0_0.index t = ![t.val % 11, 0] := by decide +kernel
theorem index1 : ∀ t : Fin grid0.N, win0_1.index t = ![0, t.val / 11] := by decide +kernel
theorem index2 : ∀ t : Fin grid0.N, win0_2.index t = ![t.val % 11, t.val / 11] := by decide +kernel
theorem index3 : ∀ t : Fin grid0.N, win0_3.index t = ![t.val % 11, t.val / 11] := by decide +kernel
theorem index4 : ∀ t : Fin grid0.N, win0_4.index t = ![t.val % 11, t.val / 11] := by decide +kernel
theorem index5 : ∀ t : Fin grid0.N, win0_5.index t = ![t.val % 11, t.val / 11] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

variable (m : (ℓ : Loc nD τ sig) → Buf (Elt Ideal) ℓ) (ρ : Dev nD → PrngReg) (c : Dev nD) (t : Fin cfg0.N)

/-- The gradient of the layer's output on entry. -/
abbrev dh2 : Vec Ideal S8448x1024 .f32 := m ((c : Thread nD τ).loc main_arg0)
/-- The second weight on entry. -/
abbrev wdown : Vec Ideal S2816x1024 .bf16 := m ((c : Thread nD τ).loc main_arg1)
/-- The saved gate on entry. -/
abbrev gate : Vec Ideal S8448x2816 .bf16 := m ((c : Thread nD τ).loc main_arg2)
/-- The saved up half on entry. -/
abbrev up : Vec Ideal S8448x2816 .bf16 := m ((c : Thread nD τ).loc main_arg3)

theorem V_weight : (V m c main_v0 : Vec Ideal S1024x2816 .bf16) = fun y => wdown m c (ix2 (y 1) (y 0)) := by
  show StableHlo.after hostOps0 (fun b => m (c, b)) _ = _
  simp only [hostOps0, StableHlo.TRef.unary, StableHlo.TRef.toBuf, StableHlo.TRef.ofBuf, cast_eq]
  after_results_simp
  funext y
  idx_vars y
  pointwise []

theorem iblk0 : (iblk m c 0 t : Vec Ideal S768x1024 .f32) = fun y => dh2 m c (ix2 (row (t.val % 11) (y 0)) (y 1)) := by
  rw [dh2, ← V_main_arg0 m c]
  funext y
  have := row_val (block_lt t) (y 0)
  blk_ext [iblk, index0 t]

theorem iblk1 : (iblk m c 1 t : Vec Ideal S1024x1408 .bf16) = fun y => wdown m c (ix2 (half (t.val / 11) (y 1)) (y 0)) := by
  have h : (iblk m c 1 t : Vec Ideal S1024x1408 .bf16) = fun y => (V m c main_v0 : Vec Ideal S1024x2816 .bf16) (ix2 (y 0) (half (t.val / 11) (y 1))) := by
    funext y
    have := half_val (half_lt t) (y 1)
    blk_ext [iblk, index1 t]
  rw [h, V_weight]
  rfl

theorem iblk2 : (iblk m c 2 t : Vec Ideal S768x1408 .bf16) = fun y => gate m c (ix2 (row (t.val % 11) (y 0)) (half (t.val / 11) (y 1))) := by
  rw [gate, ← V_main_arg2 m c]
  funext y
  have := row_val (block_lt t) (y 0)
  have := half_val (half_lt t) (y 1)
  blk_ext [iblk, index2 t]

theorem iblk3 : (iblk m c 3 t : Vec Ideal S768x1408 .bf16) = fun y => up m c (ix2 (row (t.val % 11) (y 0)) (half (t.val / 11) (y 1))) := by
  rw [up, ← V_main_arg3 m c]
  funext y
  have := row_val (block_lt t) (y 0)
  have := half_val (half_lt t) (y 1)
  blk_ext [iblk, index3 t]

/-! ## The results -/

section
variable (D : Vec Ideal S8448x1024 .f32) (W : Vec Ideal S2816x1024 .bf16) (G U : Vec Ideal S8448x2816 .bf16)

/-- The gradient of the activation: one half of the product with the transposed weight. -/
def dact (a : Fin 8448) (b : Fin 2816) : EReal := ((1 / 2 : ℝ) : EReal) * ∑ k : Fin 1024, D (ix2 a k) * W (ix2 b k)

def gateResult : Vec Ideal S8448x2816 .bf16 := fun y =>
  dact D W (y 0) (y 1) * U y * (Ideal.logistic (G y) * (1 + G y * (1 - Ideal.logistic (G y))))

def upResult : Vec Ideal S8448x2816 .bf16 := fun y => dact D W (y 0) (y 1) * (G y * Ideal.logistic (G y))

end

theorem gate_final : (dats m 0 c).arrAt 4 cfg0.N = gateResult (dh2 m c) (wdown m c) (gate m c) (up m c) := by
  refine (dats m 0 c).arrAt_eq_of_covers 4 _ (by decide +kernel) fun t hf y => ?_
  have := row_val (block_lt t) (y 0)
  have := half_val (half_lt t) (y 1)
  blk_simp
  rw [after0_4]
  frame_out
  have e : k0_pay4 (F := Ideal) (iblk m c 0 t) (iblk m c 1 t) (iblk m c 2 t) (iblk m c 3 t) y
      = gateResult (dh2 m c) (wdown m c) (gate m c) (up m c) (ix2 (row (t.val % 11) (y 0)) (half (t.val / 11) (y 1))) := by
    rw [iblk0, iblk1, iblk2, iblk3]
    idx_vars y
    rw [gate_apply]
    rfl
  refine e.trans (congrArg (gateResult (dh2 m c) (wdown m c) (gate m c) (up m c)) ?_)
  blk_ext [index4 t]

theorem up_final : (dats m 0 c).arrAt 5 cfg0.N = upResult (dh2 m c) (wdown m c) (gate m c) := by
  refine (dats m 0 c).arrAt_eq_of_covers 5 _ (by decide +kernel) fun t hf y => ?_
  have := row_val (block_lt t) (y 0)
  have := half_val (half_lt t) (y 1)
  blk_simp
  rw [after0_5]
  frame_out
  have e : k0_pay5 (F := Ideal) (iblk m c 0 t) (iblk m c 1 t) (iblk m c 2 t) y
      = upResult (dh2 m c) (wdown m c) (gate m c) (ix2 (row (t.val % 11) (y 0)) (half (t.val / 11) (y 1))) := by
    rw [iblk0, iblk1, iblk2]
    idx_vars y
    rw [up_apply]
    rfl
  refine e.trans (congrArg (upResult (dh2 m c) (wdown m c) (gate m c)) ?_)
  blk_ext [index5 t]

/-! ## The reference's stages -/

section
variable (D : Vec Ideal S8448x1024 .f32) (W : Vec Ideal S2816x1024 .bf16) (G U : Vec Ideal S8448x2816 .bf16)
variable (h₀ : FTy.bits .bf16 < FTy.bits .f32)

/-- The reference halves the gradient before it multiplies. -/
def refDact : FVec Ideal S8448x2816 .f32 :=
  Host.dotGeneral (F := Ideal) Cert.ActGradReferenceIdeal.dot_S8448x1024_S2816x1024_S8448x2816_1_1_0_0_n_n none
    (mulf (broadcastInDim S8448x1024 ![] Cert.ActGradReferenceIdeal.Facts₀.bcast_S_S8448x1024 (constant Cert.ActGradReferenceIdeal.S_ .f32 0x3F000000#32)) D)
    (extf (φ := .bf16) .f32 W h₀)

theorem refDact_apply (a : Fin 8448) (b : Fin 2816) : refDact D W h₀ (ix2 a b) = dact D W a b := by
  rw [dact, half_mul_sum, ← ofBits_half]
  pointwise [refDact]
  exact Finset.sum_congr rfl fun k _ => mul_assoc _ _ _

/-- The array of ones. -/
def ones : FVec Ideal S8448x2816 .f32 :=
  broadcastInDim S8448x2816 ![] Cert.ActGradReferenceIdeal.Facts₀.bcast_S_S8448x2816 (constant Cert.ActGradReferenceIdeal.S_ .f32 0x3F800000#32)

/-- The gate's logistic. -/
def refLogistic : FVec Ideal S8448x2816 .f32 :=
  Host.divf ones (addf ones (Host.exp (Host.negf (extf (φ := .bf16) .f32 G h₀))))

theorem refLogistic_apply (y : S8448x2816.Idx) : refLogistic G h₀ y = Ideal.logistic (G y) := by
  idx_vars y
  pointwise [refLogistic, ones]
  rfl

/-- The gate's gradient, multiplied out. -/
def refGate : FVec Ideal S8448x2816 .bf16 :=
  truncf .bf16 (addf (mulf (mulf (refDact D W h₀) (extf (φ := .bf16) .f32 U h₀)) (refLogistic G h₀))
    (mulf (mulf (extf (φ := .bf16) .f32 G h₀) (mulf (refDact D W h₀) (extf (φ := .bf16) .f32 U h₀)))
      (mulf (refLogistic G h₀) (subf ones (refLogistic G h₀))))) h₀

theorem refGate_eq (hD : ∀ i, ∃ r : ℝ, D i = (r : EReal)) (hW : ∀ i, ∃ r : ℝ, W i = (r : EReal)) (hU : ∀ i, ∃ r : ℝ, U i = (r : EReal)) :
    refGate D W G U h₀ = gateResult D W G U := by
  funext y
  idx_vars y
  have e : refGate D W G U h₀ (ix2 y0 y1) = refDact D W h₀ (ix2 y0 y1) * U (ix2 y0 y1) * refLogistic G h₀ (ix2 y0 y1)
      + (G (ix2 y0 y1) * (refDact D W h₀ (ix2 y0 y1) * U (ix2 y0 y1))) * (refLogistic G h₀ (ix2 y0 y1) * (1 - refLogistic G h₀ (ix2 y0 y1))) := by
    pointwise [refGate, ones]
  obtain ⟨s, hs⟩ := sum_real (fun k : Fin 1024 => D (ix2 y0 k)) (fun k => W (ix2 y1 k)) (fun _ => hD _) fun _ => hW _
  obtain ⟨u, hu⟩ := hU (ix2 y0 y1)
  have hx : dact D W y0 y1 * U (ix2 y0 y1) = ((1 / 2 * s * u : ℝ) : EReal) := by rw [dact, hs, hu, EReal.coe_mul, EReal.coe_mul]
  rw [e, refDact_apply, refLogistic_apply, hx, slope_eq, ← hx]
  rfl

/-- The up half's gradient. -/
def refUp : FVec Ideal S8448x2816 .bf16 :=
  truncf .bf16 (mulf (mulf (extf (φ := .bf16) .f32 G h₀) (refLogistic G h₀)) (refDact D W h₀)) h₀

theorem refUp_eq : refUp D W G h₀ = upResult D W G := by
  funext y
  idx_vars y
  have e : refUp D W G h₀ (ix2 y0 y1) = (G (ix2 y0 y1) * refLogistic G h₀ (ix2 y0 y1)) * refDact D W h₀ (ix2 y0 y1) := by
    pointwise [refUp]
  rw [e, refDact_apply, refLogistic_apply, mul_comm]
  rfl

end

/-! ## The claims -/

theorem quiescent_ActGrad : Cert.quiescent_ActGrad := fun m g _ => Cert.ActGrad.Gen.frame m g

theorem quiescent_ActGradIdeal : Cert.quiescent_ActGradIdeal := fun m g _ => Cert.ActGradIdeal.Gen.frame m g

theorem quiescent_ActGradIdeal_pre_finite_acts : Cert.quiescent_ActGradIdeal_pre_finite_acts := fun m g _ => Cert.ActGradIdeal.Gen.frame m g

theorem quiescent_ActGradReferenceIdeal : Cert.quiescent_ActGradReferenceIdeal := fun m g _ =>
  (θ_run _ _ _).mono (fun r h => ⟨fun c => (h c).2.2, sem_eq_zero_of_no_sems (by decide) _⟩) (Cert.ActGradReferenceIdeal.Value.run (F := Ideal) m g)

theorem quiescent_ActGradReferenceIdeal_pre_finite_acts : Cert.quiescent_ActGradReferenceIdeal_pre_finite_acts := fun m g _ =>
  quiescent_ActGradReferenceIdeal m g trivial

theorem preserves : Cert.preserves_ActGrad_ActGradIdeal := trivial

theorem algebraic : Cert.algebraic_ActGradIdeal_ActGradReferenceIdeal_pre_finite_acts := by
  intro m g m' g' hpre hargs
  refine ⟨fun c => gateResult (dh2 m c) (wdown m c) (gate m c) (up m c), fun c => upResult (dh2 m c) (wdown m c) (gate m c), ?_, ?_⟩
  · exact (θ_run _ _ _).mono (fun r h c => ⟨(h c).1.trans (gate_final m c), (h c).2.1.trans (up_final m c), (h c).2.2⟩) (Cert.ActGradIdeal.Value.run_blocks m g)
  · refine (θ_run _ _ _).mono (fun r h c => ?_) (Cert.ActGradReferenceIdeal.Value.run (F := Ideal) m' g')
    obtain ⟨e0, e1, e2, e3⟩ := hargs c
    obtain ⟨hD, hW, hU⟩ := Cert.Pre_finite_acts.reals_of_fn _ _ _ _ (hpre c)
    refine ⟨(h c).1.trans ?_, (h c).2.1.trans ?_, (h c).2.2⟩
    · rw [e0, e1, e2, e3]
      exact refGate_eq (dh2 m c) (wdown m c) (gate m c) (up m c) _ hD hW hU
    · rw [e0, e1, e2]
      exact refUp_eq (dh2 m c) (wdown m c) (gate m c) _

end Cert.ActGradIdeal.Grad

end
-- ==== Proof.InputGradClaims.lean ====
/-
The gradient of the feed-forward input: the kernel adds two products with the transposed halves of the weight, the reference
multiplies the two gradients set side by side by the whole weight. Both have, at row `a` and column `b`, the sum over `j` of
`dg[a, j] * w_gu[b, j]` plus the sum over `j` of `du[a, j] * w_gu[b, 2816 + j]`.
-/
module

public import proofs.«01_k».proof.Defs
public import proofs.«01_k».proof.Proof.Blocks
public import proofs.«01_k».proof.Proof.Gen.InputGrad.Frame
public import proofs.«01_k».proof.Proof.Gen.InputGradIdeal.Value
public import proofs.«01_k».proof.Proof.Gen.InputGradReferenceIdeal.Run
public import Idealize.ShloMosaic.Lib.Pipeline.Value
public import Idealize.ShloMosaic.Lib.Pipeline.ValueKit

@[expose] public section

set_option maxRecDepth 16384

noncomputable section

namespace Cert.InputGradIdeal.Grad

open Cert.InputGradIdeal.Gen Cert.Ffn
open Idealize.ShloMosaic Idealize.ShloMosaic.TcCoe Idealize.SL.Sem

/-! ## One block -/

theorem block_apply (g u : Vec Ideal S768x2816 .bf16) (wg wu : Vec Ideal S2816x512 .bf16) (a : Fin 768) (b : Fin 512) :
    k0_pay1 (F := Ideal) g u wg wu (ix2 a b) = (∑ j : Fin 2816, g (ix2 a j) * wg (ix2 j b)) + ∑ j : Fin 2816, u (ix2 a j) * wu (ix2 j b) := by
  pointwise [k0_pay1]

/-! ## The arrays the region finds -/

theorem index0 : ∀ t : Fin grid0.N, win0_0.index t = ![t.val % 11, 0] := by decide +kernel
theorem index1 : ∀ t : Fin grid0.N, win0_1.index t = ![t.val % 11, 0] := by decide +kernel
theorem index2 : ∀ t : Fin grid0.N, win0_2.index t = ![0, t.val / 11] := by decide +kernel
theorem index3 : ∀ t : Fin grid0.N, win0_3.index t = ![0, t.val / 11] := by decide +kernel
theorem index4 : ∀ t : Fin grid0.N, win0_4.index t = ![t.val % 11, t.val / 11] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

variable (m : (ℓ : Loc nD τ sig) → Buf (Elt Ideal) ℓ) (ρ : Dev nD → PrngReg) (c : Dev nD) (t : Fin cfg0.N)

/-- The gate's gradient on entry. -/
abbrev dg : Vec Ideal S8448x2816 .bf16 := m ((c : Thread nD τ).loc main_arg0)
/-- The up half's gradient on entry. -/
abbrev du : Vec Ideal S8448x2816 .bf16 := m ((c : Thread nD τ).loc main_arg1)
/-- The weight on entry. -/
abbrev wgu : Vec Ideal S1024x5632 .bf16 := m ((c : Thread nD τ).loc main_arg2)

theorem V_gate : (V m c main_v1 : Vec Ideal S2816x1024 .bf16) = fun y => wgu m c (ix2 (y 1) (lo (y 0))) := by
  show StableHlo.after hostOps0 (fun b => m (c, b)) _ = _
  simp only [hostOps0, StableHlo.TRef.unary, StableHlo.TRef.toBuf, StableHlo.TRef.ofBuf, cast_eq]
  after_results_simp
  funext y
  idx_vars y
  pointwise []
  rfl

theorem V_up : (V m c main_v2 : Vec Ideal S2816x1024 .bf16) = fun y => wgu m c (ix2 (y 1) (hi (y 0))) := by
  show StableHlo.after hostOps0 (fun b => m (c, b)) _ = _
  simp only [hostOps0, StableHlo.TRef.unary, StableHlo.TRef.toBuf, StableHlo.TRef.ofBuf, cast_eq]
  after_results_simp
  funext y
  idx_vars y
  pointwise []
  rfl

theorem iblk0 : (iblk m c 0 t : Vec Ideal S768x2816 .bf16) = fun y => dg m c (ix2 (row (t.val % 11) (y 0)) (y 1)) := by
  rw [dg, ← V_main_arg0 m c]
  funext y
  have := row_val (block_lt t) (y 0)
  blk_ext [iblk, index0 t]

theorem iblk1 : (iblk m c 1 t : Vec Ideal S768x2816 .bf16) = fun y => du m c (ix2 (row (t.val % 11) (y 0)) (y 1)) := by
  rw [du, ← V_main_arg1 m c]
  funext y
  have := row_val (block_lt t) (y 0)
  blk_ext [iblk, index1 t]

theorem iblk2 : (iblk m c 2 t : Vec Ideal S2816x512 .bf16) = fun y => wgu m c (ix2 (col (t.val / 11) (y 1)) (lo (y 0))) := by
  have h : (iblk m c 2 t : Vec Ideal S2816x512 .bf16) = fun y => (V m c main_v1 : Vec Ideal S2816x1024 .bf16) (ix2 (y 0) (col (t.val / 11) (y 1))) := by
    funext y
    have := col_val (half_lt t) (y 1)
    blk_ext [iblk, index2 t]
  rw [h, V_gate]
  rfl

theorem iblk3 : (iblk m c 3 t : Vec Ideal S2816x512 .bf16) = fun y => wgu m c (ix2 (col (t.val / 11) (y 1)) (hi (y 0))) := by
  have h : (iblk m c 3 t : Vec Ideal S2816x512 .bf16) = fun y => (V m c main_v2 : Vec Ideal S2816x1024 .bf16) (ix2 (y 0) (col (t.val / 11) (y 1))) := by
    funext y
    have := col_val (half_lt t) (y 1)
    blk_ext [iblk, index3 t]
  rw [h, V_up]
  rfl

/-! ## The result -/

/-- The two products with the transposed halves, added. -/
def result (G U : Vec Ideal S8448x2816 .bf16) (W : Vec Ideal S1024x5632 .bf16) : Vec Ideal S8448x1024 .f32 :=
  fun y => (∑ j : Fin 2816, G (ix2 (y 0) j) * W (ix2 (y 1) (lo j))) + ∑ j : Fin 2816, U (ix2 (y 0) j) * W (ix2 (y 1) (hi j))

theorem final : (dats m 0 c).arrAt 4 cfg0.N = result (dg m c) (du m c) (wgu m c) := by
  refine (dats m 0 c).arrAt_eq_of_covers 4 _ (by decide +kernel) fun t hf y => ?_
  have := row_val (block_lt t) (y 0)
  have := col_val (half_lt t) (y 1)
  blk_simp
  rw [after0_4]
  frame_out
  have e : k0_pay1 (F := Ideal) (iblk m c 0 t) (iblk m c 1 t) (iblk m c 2 t) (iblk m c 3 t) y
      = result (dg m c) (du m c) (wgu m c) (ix2 (row (t.val % 11) (y 0)) (col (t.val / 11) (y 1))) := by
    rw [iblk0, iblk1, iblk2, iblk3]
    idx_vars y
    rw [block_apply]
    rfl
  refine e.trans (congrArg (result (dg m c) (du m c) (wgu m c)) ?_)
  blk_ext [index4 t]

/-! ## The claims -/

/-- The reference's one product over the two gradients side by side. -/
theorem reference_result (G U : Vec Ideal S8448x2816 .bf16) (W : Vec Ideal S1024x5632 .bf16) (h₀ : FTy.bits .bf16 < FTy.bits .f32) (h₁) :
    (Host.dotGeneral (F := Ideal) Cert.InputGradReferenceIdeal.dot_S8448x5632_S1024x5632_S8448x1024_1_1_0_0_n_n none
      (concatenate Cert.InputGradReferenceIdeal.S8448x5632 1 [⟨S8448x2816, (extf (φ := .bf16) .f32 G h₀)⟩, ⟨S8448x2816, (extf (φ := .bf16) .f32 U h₀)⟩] h₁)
      (extf (φ := .bf16) .f32 W h₀) : FVec Ideal S8448x1024 .f32) = result G U W := by
  funext y
  idx_vars y
  pointwise [result, lo, hi]

theorem quiescent_InputGrad : Cert.quiescent_InputGrad := fun m g _ => Cert.InputGrad.Gen.frame m g

theorem quiescent_InputGradIdeal : Cert.quiescent_InputGradIdeal := fun m g _ => Cert.InputGradIdeal.Gen.frame m g

theorem quiescent_InputGradReferenceIdeal : Cert.quiescent_InputGradReferenceIdeal := fun m g _ =>
  (θ_run _ _ _).mono (fun r h => ⟨fun c => (h c).2, sem_eq_zero_of_no_sems (by decide) _⟩) (Cert.InputGradReferenceIdeal.Value.run (F := Ideal) m g)

theorem preserves : Cert.preserves_InputGrad_InputGradIdeal := trivial

theorem algebraic : Cert.algebraic_InputGradIdeal_InputGradReferenceIdeal := by
  intro m g m' g' _ hargs
  refine ⟨fun c => result (dg m c) (du m c) (wgu m c), ?_, ?_⟩
  · exact (θ_run _ _ _).mono (fun r h c => ⟨(h c).1.trans (final m c), (h c).2⟩) (Cert.InputGradIdeal.Value.run_blocks m g)
  · refine (θ_run _ _ _).mono (fun r h c => ?_) (Cert.InputGradReferenceIdeal.Value.run (F := Ideal) m' g')
    obtain ⟨e0, e1, e2⟩ := hargs c
    refine ⟨(h c).1.trans ?_, (h c).2⟩
    rw [e0, e1, e2]
    exact reference_result _ _ _ _ _

end Cert.InputGradIdeal.Grad

end
-- ==== Proof.UpGradClaims.lean ====
/-
The gradient of the gate's (or the up half's) weight: the kernel adds the products of 11 blocks of rows, the reference multiplies
the whole arrays. Both have, at row `a` and column `b`, the sum over the rows `k` of `xn[k, a] * dg[k, b]`.
-/
module

public import proofs.«01_k».proof.Defs
public import proofs.«01_k».proof.Proof.Blocks
public import proofs.«01_k».proof.Proof.Gen.UpGrad.Frame
public import proofs.«01_k».proof.Proof.Gen.UpGradIdeal.Value
public import proofs.«01_k».proof.Proof.Gen.UpGradReferenceIdeal.Run
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.UpGradIdeal.Grad

open Cert.UpGradIdeal.Gen Cert.Ffn
open Idealize.ShloMosaic Idealize.ShloMosaic.TcCoe Idealize.SL.Sem

/-! ## One block -/

section
variable (x : Vec Ideal S768x1024 .bf16) (d : Vec Ideal S768x1408 .bf16) (acc : Vec Ideal S1024x1408 .f32) (a : Fin 1024) (b : Fin 1408)

theorem start_apply : k0_pay1 (F := Ideal) (ix2 a b) = 0 := by
  pointwise [k0_pay1]

theorem step_apply : k0_pay2 (F := Ideal) acc x d (ix2 a b) = acc (ix2 a b) + ∑ r : Fin 768, x (ix2 r a) * d (ix2 r b) := by
  pointwise [k0_pay2]

theorem end_apply : k0_pay3 (F := Ideal) acc (ix2 a b) = acc (ix2 a b) := by
  pointwise [k0_pay3]

end

/-! ## The blocks of the arguments -/

theorem index0 : ∀ t : Fin grid0.N, win0_0.index t = ![t.val % 11, 0] := by decide +kernel
theorem index1 : ∀ t : Fin grid0.N, win0_1.index t = ![t.val % 11, t.val / 11] := by decide +kernel
theorem index2 : ∀ t : Fin grid0.N, win0_2.index t = ![0, t.val / 11] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

variable (m : (ℓ : Loc nD τ sig) → Buf (Elt Ideal) ℓ) (ρ : Dev nD → PrngReg) (c : Dev nD) (t : Fin cfg0.N)

/-- The input on entry, the normalised rows. -/
abbrev xn : Vec Ideal S8448x1024 .bf16 := m ((c : Thread nD τ).loc main_arg0)
/-- The gradient of the gate (or of the up half) on entry. -/
abbrev dg : Vec Ideal S8448x2816 .bf16 := m ((c : Thread nD τ).loc main_arg1)

theorem iblk0 : (iblk m c 0 t : Vec Ideal S768x1024 .bf16) = fun y => xn m c (ix2 (row (t.val % 11) (y 0)) (y 1)) := by
  rw [xn, ← V_main_arg0 m c]
  funext y
  have := row_val (block_lt t) (y 0)
  blk_ext [iblk, index0 t]

theorem iblk1 : (iblk m c 1 t : Vec Ideal S768x1408 .bf16) = fun y => dg m c (ix2 (row (t.val % 11) (y 0)) (half (t.val / 11) (y 1))) := by
  rw [dg, ← V_main_arg1 m c]
  funext y
  have := row_val (block_lt t) (y 0)
  have := half_val (half_lt t) (y 1)
  blk_ext [iblk, index1 t]

/-! ## The sum over the blocks -/

/-- The product of the transposed input and the gradient. -/
def result (X : Vec Ideal S8448x1024 .bf16) (D : Vec Ideal S8448x2816 .bf16) : Vec Ideal S1024x2816 .bf16 :=
  fun y => ∑ k : Fin 8448, X (ix2 k (y 0)) * D (ix2 k (y 1))

/-- The summands at an index of a block. -/
def summand (X : Vec Ideal S8448x1024 .bf16) (D : Vec Ideal S8448x2816 .bf16) (y : S1024x1408.Idx) (j : ℕ) (k : Fin 8448) : EReal :=
  X (ix2 k (y 0)) * D (ix2 k (half j (y 1)))

theorem acc_first (h : t.val % 11 = 0) (y : S1024x1408.Idx) : (outsAt0 m c t.val t.isLt).2 y = 0 + share (summand (xn m c) (dg m c) y) t.val := by
  rw [outsAt0_A m c t h (by omega)]
  frame_out
  idx_vars y
  rw [step_apply, start_apply, iblk0, iblk1]
  rfl

theorem acc_next (h : ¬t.val % 11 = 0) (y : S1024x1408.Idx) :
    (outsAt0 m c t.val t.isLt).2 y
      = (outsAt0 m c (t.val - 1) (Nat.lt_of_le_of_lt (Nat.sub_le _ _) t.isLt)).2 y + share (summand (xn m c) (dg m c) y) t.val := by
  by_cases h1 : t.val % 11 = 10
  all_goals
    first | rw [outsAt0_C m c t h h1] | rw [outsAt0_B m c t h h1]
    frame_out
    simp only [read_unread_whole]
    idx_vars y
    rw [step_apply, iblk0, iblk1]
    rfl

/-- The point that writes a block back leaves the whole sum in it. -/
theorem out_last (h : t.val % 11 = 10) (y : S1024x1408.Idx) :
    (outsAt0 m c t.val t.isLt).1 y = result (xn m c) (dg m c) (ix2 (y 0) (half (t.val / 11) (y 1))) := by
  have e : (outsAt0 m c t.val t.isLt).1 y = (outsAt0 m c t.val t.isLt).2 y := by
    rw [outsAt0_C m c t (by omega) h]
    frame_out
    idx_vars y
    exact end_apply _ _ _
  rw [e, Pipeline.eq_sum_of_reset_step_apply_of_mod (fun n h => (outsAt0 m c n h).2) 11 (fun _ => 0) (fun n y => share (summand (xn m c) (dg m c) y) n)
    (acc_first m c) (acc_next m c) t h y, zero_add, sum_shares]
  rfl

theorem final : (dats m 0 c).arrAt 2 cfg0.N = result (xn m c) (dg m c) := by
  refine (dats m 0 c).arrAt_eq_of_covers 2 _ (by decide +kernel) fun t hf y => ?_
  have := half_val (half_lt t) (y 1)
  blk_simp
  rw [after0_2, out_last m c t ((flush0_2 t).mp hf)]
  refine congrArg (result (xn m c) (dg m c)) ?_
  blk_ext [index2 t]

/-! ## The claims -/

/-- The reference's product over the whole arrays. -/
theorem reference_result (X : Vec Ideal S8448x1024 .bf16) (D : Vec Ideal S8448x2816 .bf16) (h₀ : FTy.bits .bf16 < FTy.bits .f32) (h₁ h₂) :
    (truncf .bf16 (transpose S1024x2816 [1, 0] (Host.dotGeneral (F := Ideal) Cert.UpGradReferenceIdeal.dot_S8448x2816_S8448x1024_S2816x1024_0_0_1_1_n_n none
      (extf (φ := .bf16) .f32 D h₀) (extf (φ := .bf16) .f32 X h₀) : FVec Ideal Cert.UpGradReferenceIdeal.S2816x1024 .f32) h₁) h₂ : FVec Ideal S1024x2816 .bf16) = result X D := by
  funext y
  idx_vars y
  pointwise [result]
  exact Finset.sum_congr rfl fun k _ => mul_comm _ _

theorem quiescent_UpGrad : Cert.quiescent_UpGrad := fun m g _ => Cert.UpGrad.Gen.frame m g

theorem quiescent_UpGradIdeal : Cert.quiescent_UpGradIdeal := fun m g _ => Cert.UpGradIdeal.Gen.frame m g

theorem quiescent_UpGradReferenceIdeal : Cert.quiescent_UpGradReferenceIdeal := fun m g _ =>
  (θ_run _ _ _).mono (fun r h => ⟨fun c => (h c).2, sem_eq_zero_of_no_sems (by decide) _⟩) (Cert.UpGradReferenceIdeal.Value.run (F := Ideal) m g)

theorem preserves : Cert.preserves_UpGrad_UpGradIdeal := trivial

theorem algebraic : Cert.algebraic_UpGradIdeal_UpGradReferenceIdeal := by
  intro m g m' g' _ hargs
  refine ⟨fun c => result (xn m c) (dg m c), ?_, ?_⟩
  · exact (θ_run _ _ _).mono (fun r h c => ⟨(h c).1.trans (final m c), (h c).2⟩) (Cert.UpGradIdeal.Value.run_blocks m g)
  · refine (θ_run _ _ _).mono (fun r h c => ?_) (Cert.UpGradReferenceIdeal.Value.run (F := Ideal) m' g')
    obtain ⟨e0, e1⟩ := hargs c
    refine ⟨(h c).1.trans ?_, (h c).2⟩
    rw [e0, e1]
    exact reference_result _ _ _ _ _

end Cert.UpGradIdeal.Grad

end
-- ==== Proof.DownGradClaims.lean ====
/-
The gradient of the second weight: the kernel adds the products of 11 blocks of rows and halves the sum, the reference halves the
output's gradient and multiplies the whole arrays. Both have, at row `a` and column `b`, one half of the sum over the rows `k` of
`act[k, a] * dh2[k, b]`: halving a sum halves its terms, infinite ones included.
-/
module

public import proofs.«01_k».proof.Defs
public import proofs.«01_k».proof.Proof.Blocks
public import proofs.«01_k».proof.Proof.Gen.DownGrad.Frame
public import proofs.«01_k».proof.Proof.Gen.DownGradIdeal.Value
public import proofs.«01_k».proof.Proof.Gen.DownGradReferenceIdeal.Run
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.DownGradIdeal.Grad

open Cert.DownGradIdeal.Gen Cert.Ffn
open Idealize.ShloMosaic Idealize.ShloMosaic.TcCoe Idealize.SL.Sem

/-! ## One block -/

section
variable (x : Vec Ideal S768x1408 .bf16) (d : Vec Ideal S768x1024 .f32) (acc : Vec Ideal S1408x1024 .f32) (a : Fin 1408) (b : Fin 1024)

theorem start_apply : k0_pay1 (F := Ideal) (ix2 a b) = 0 := by
  pointwise [k0_pay1]

theorem step_apply : k0_pay2 (F := Ideal) acc x d (ix2 a b) = acc (ix2 a b) + ∑ r : Fin 768, x (ix2 r a) * d (ix2 r b) := by
  pointwise [k0_pay2]

theorem end_apply : k0_pay3 (F := Ideal) acc (ix2 a b) = ((1 / 2 : ℝ) : EReal) * acc (ix2 a b) := by
  rw [← ofBits_half]
  pointwise [k0_pay3]

end

/-! ## The blocks of the arguments -/

theorem index0 : ∀ t : Fin grid0.N, win0_0.index t = ![t.val % 11, t.val / 11] := by decide +kernel
theorem index1 : ∀ t : Fin grid0.N, win0_1.index t = ![t.val % 11, 0] := by decide +kernel
theorem index2 : ∀ t : Fin grid0.N, win0_2.index t = ![t.val / 11, 0] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

variable (m : (ℓ : Loc nD τ sig) → Buf (Elt Ideal) ℓ) (ρ : Dev nD → PrngReg) (c : Dev nD) (t : Fin cfg0.N)

/-- The saved activations on entry. -/
abbrev act : Vec Ideal S8448x2816 .bf16 := m ((c : Thread nD τ).loc main_arg0)
/-- The gradient of the layer's output on entry. -/
abbrev dh2 : Vec Ideal S8448x1024 .f32 := m ((c : Thread nD τ).loc main_arg1)

theorem iblk0 : (iblk m c 0 t : Vec Ideal S768x1408 .bf16) = fun y => act m c (ix2 (row (t.val % 11) (y 0)) (half (t.val / 11) (y 1))) := by
  rw [act, ← V_main_arg0 m c]
  funext y
  have := row_val (block_lt t) (y 0)
  have := half_val (half_lt t) (y 1)
  blk_ext [iblk, index0 t]

theorem iblk1 : (iblk m c 1 t : Vec Ideal S768x1024 .f32) = fun y => dh2 m c (ix2 (row (t.val % 11) (y 0)) (y 1)) := by
  rw [dh2, ← V_main_arg1 m c]
  funext y
  have := row_val (block_lt t) (y 0)
  blk_ext [iblk, index1 t]

/-! ## The sum over the blocks -/

/-- One half of the product of the transposed activations and the gradient. -/
def result (A : Vec Ideal S8448x2816 .bf16) (D : Vec Ideal S8448x1024 .f32) : Vec Ideal S2816x1024 .bf16 :=
  fun y => ((1 / 2 : ℝ) : EReal) * ∑ k : Fin 8448, A (ix2 k (y 0)) * D (ix2 k (y 1))

/-- The summands at an index of a block. -/
def summand (A : Vec Ideal S8448x2816 .bf16) (D : Vec Ideal S8448x1024 .f32) (y : S1408x1024.Idx) (j : ℕ) (k : Fin 8448) : EReal :=
  A (ix2 k (half j (y 0))) * D (ix2 k (y 1))

theorem acc_first (h : t.val % 11 = 0) (y : S1408x1024.Idx) : (outsAt0 m c t.val t.isLt).2 y = 0 + share (summand (act m c) (dh2 m c) y) t.val := by
  rw [outsAt0_A m c t h (by omega)]
  frame_out
  idx_vars y
  rw [step_apply, start_apply, iblk0, iblk1]
  rfl

theorem acc_next (h : ¬t.val % 11 = 0) (y : S1408x1024.Idx) :
    (outsAt0 m c t.val t.isLt).2 y
      = (outsAt0 m c (t.val - 1) (Nat.lt_of_le_of_lt (Nat.sub_le _ _) t.isLt)).2 y + share (summand (act m c) (dh2 m c) y) t.val := by
  by_cases h1 : t.val % 11 = 10
  all_goals
    first | rw [outsAt0_C m c t h h1] | rw [outsAt0_B m c t h h1]
    frame_out
    simp only [read_unread_whole]
    idx_vars y
    rw [step_apply, iblk0, iblk1]
    rfl

/-- The point that writes a block back leaves half the whole sum in it. -/
theorem out_last (h : t.val % 11 = 10) (y : S1408x1024.Idx) :
    (outsAt0 m c t.val t.isLt).1 y = result (act m c) (dh2 m c) (ix2 (half (t.val / 11) (y 0)) (y 1)) := by
  have e : (outsAt0 m c t.val t.isLt).1 y = ((1 / 2 : ℝ) : EReal) * (outsAt0 m c t.val t.isLt).2 y := by
    rw [outsAt0_C m c t (by omega) h]
    frame_out
    idx_vars y
    exact end_apply _ _ _
  rw [e, Pipeline.eq_sum_of_reset_step_apply_of_mod (fun n h => (outsAt0 m c n h).2) 11 (fun _ => 0)
    (fun n y => share (summand (act m c) (dh2 m c) y) n) (acc_first m c) (acc_next m c) t h y, zero_add, sum_shares]
  rfl

theorem final : (dats m 0 c).arrAt 2 cfg0.N = result (act m c) (dh2 m c) := by
  refine (dats m 0 c).arrAt_eq_of_covers 2 _ (by decide +kernel) fun t hf y => ?_
  have := half_val (half_lt t) (y 0)
  blk_simp
  rw [after0_2, out_last m c t ((flush0_2 t).mp hf)]
  refine congrArg (result (act m c) (dh2 m c)) ?_
  blk_ext [index2 t]

/-! ## The claims -/

/-- The reference halves the gradient before it multiplies. -/
theorem reference_result (A : Vec Ideal S8448x2816 .bf16) (D : Vec Ideal S8448x1024 .f32) (h₀ : FTy.bits .bf16 < FTy.bits .f32) (h₁ h₂ h₃) :
    (truncf .bf16 (transpose S2816x1024 [1, 0] (Host.dotGeneral (F := Ideal) Cert.DownGradReferenceIdeal.dot_S8448x1024_S8448x2816_S1024x2816_0_0_1_1_n_n none
      (mulf (broadcastInDim S8448x1024 ![] h₁ (constant Cert.DownGradReferenceIdeal.S_ .f32 0x3F000000#32)) D)
      (extf (φ := .bf16) .f32 A h₀) : FVec Ideal Cert.DownGradReferenceIdeal.S1024x2816 .f32) h₂) h₃ : FVec Ideal S2816x1024 .bf16) = result A D := by
  funext y
  idx_vars y
  rw [result, half_mul_sum, ← ofBits_half]
  pointwise []
  exact Finset.sum_congr rfl fun k _ => by rw [mul_assoc, mul_comm (D _)]

theorem quiescent_DownGrad : Cert.quiescent_DownGrad := fun m g _ => Cert.DownGrad.Gen.frame m g

theorem quiescent_DownGradIdeal : Cert.quiescent_DownGradIdeal := fun m g _ => Cert.DownGradIdeal.Gen.frame m g

theorem quiescent_DownGradReferenceIdeal : Cert.quiescent_DownGradReferenceIdeal := fun m g _ =>
  (θ_run _ _ _).mono (fun r h => ⟨fun c => (h c).2, sem_eq_zero_of_no_sems (by decide) _⟩) (Cert.DownGradReferenceIdeal.Value.run (F := Ideal) m g)

theorem preserves : Cert.preserves_DownGrad_DownGradIdeal := trivial

theorem algebraic : Cert.algebraic_DownGradIdeal_DownGradReferenceIdeal := by
  intro m g m' g' _ hargs
  refine ⟨fun c => result (act m c) (dh2 m c), ?_, ?_⟩
  · exact (θ_run _ _ _).mono (fun r h c => ⟨(h c).1.trans (final m c), (h c).2⟩) (Cert.DownGradIdeal.Value.run_blocks m g)
  · refine (θ_run _ _ _).mono (fun r h c => ?_) (Cert.DownGradReferenceIdeal.Value.run (F := Ideal) m' g')
    obtain ⟨e0, e1⟩ := hargs c
    refine ⟨(h c).1.trans ?_, (h c).2⟩
    rw [e0, e1]
    exact reference_result _ _ _ _ _ _

end Cert.DownGradIdeal.Grad

end
-- ==== Proof.MergeGradClaims.lean ====
/-
The gradients of the two branches and of their gates. With `dm` the product of the output's gradient and the transposed weight and `s`
the logistic of a gate, the kernel has `dm * s` for the branch and `dm * y * s * (1 - s)` for the gate, and the reference
`s * dm` and `(dm * y) * (s * (1 - s))`: the same products in another order, infinite factors included.
-/
module

public import proofs.«01_k».proof.Defs
public import proofs.«01_k».proof.Proof.Blocks
public import proofs.«01_k».proof.Proof.Gen.MergeGrad.Frame
public import proofs.«01_k».proof.Proof.Gen.MergeGradIdeal.Value
public import proofs.«01_k».proof.Proof.Gen.MergeGradReferenceIdeal.Run
public import Idealize.ShloMosaic.Lib.Pipeline.Value
public import Idealize.ShloMosaic.Lib.Pipeline.ValueKit

@[expose] public section

set_option maxRecDepth 16384

noncomputable section

namespace Cert.MergeGradIdeal.Grad

open Cert.MergeGradIdeal.Gen Cert.Ffn
open Idealize.ShloMosaic Idealize.ShloMosaic.TcCoe Idealize.SL.Sem

/-! ## One block -/

section
variable (d : Vec Ideal S768x1024 .f32) (w : Vec Ideal S1024x512 .bf16) (y g : Vec Ideal S768x512 .bf16) (a : Fin 768) (b : Fin 512)

theorem product_apply : k0_pay5 (F := Ideal) d w (ix2 a b) = ∑ k : Fin 1024, d (ix2 a k) * w (ix2 k b) := by
  pointwise [k0_pay5]

theorem logisticA_apply : k0_pay6 (F := Ideal) g (ix2 a b) = Ideal.logistic (g (ix2 a b)) := by
  rw [Ideal.logistic, ← zero_sub]
  pointwise [k0_pay6]

theorem logisticB_apply : k0_pay7 (F := Ideal) g (ix2 a b) = Ideal.logistic (g (ix2 a b)) := by
  rw [Ideal.logistic, ← zero_sub]
  pointwise [k0_pay7]

theorem branchA_apply : k0_pay1 (F := Ideal) (k0_pay8 d w g) (ix2 a b)
    = (∑ k : Fin 1024, d (ix2 a k) * w (ix2 k b)) * Ideal.logistic (g (ix2 a b)) := by
  rw [← product_apply, ← logisticA_apply]
  rfl

theorem branchB_apply : k0_pay2 (F := Ideal) (k0_pay9 d w g) (ix2 a b)
    = (∑ k : Fin 1024, d (ix2 a k) * w (ix2 k b)) * Ideal.logistic (g (ix2 a b)) := by
  rw [← product_apply, ← logisticB_apply]
  rfl

theorem gateA_apply : k0_pay3 (F := Ideal) (k0_pay10 d w y g) (ix2 a b)
    = (∑ k : Fin 1024, d (ix2 a k) * w (ix2 k b)) * y (ix2 a b) * Ideal.logistic (g (ix2 a b)) * (1 - Ideal.logistic (g (ix2 a b))) := by
  rw [← product_apply, ← logisticA_apply, ← ofBits_one]
  rfl

theorem gateB_apply : k0_pay4 (F := Ideal) (k0_pay7 g) (k0_pay11 d w y g) k0_pay12 (ix2 a b)
    = (∑ k : Fin 1024, d (ix2 a k) * w (ix2 k b)) * y (ix2 a b) * Ideal.logistic (g (ix2 a b)) * (1 - Ideal.logistic (g (ix2 a b))) := by
  rw [← product_apply, ← logisticB_apply, ← ofBits_one]
  rfl

end

/-! ## The arrays the region finds -/

theorem index0 : ∀ t : Fin grid0.N, win0_0.index t = ![t.val % 11, 0] := by decide +kernel
theorem index1 : ∀ t : Fin grid0.N, win0_1.index t = ![0, t.val / 11] := by decide +kernel
theorem index2 : ∀ t : Fin grid0.N, win0_2.index t = ![t.val % 11, t.val / 11] := by decide +kernel
theorem index3 : ∀ t : Fin grid0.N, win0_3.index t = ![t.val % 11, t.val / 11] := by decide +kernel
theorem index4 : ∀ t : Fin grid0.N, win0_4.index t = ![t.val % 11, t.val / 11] := by decide +kernel
theorem index5 : ∀ t : Fin grid0.N, win0_5.index t = ![t.val % 11, t.val / 11 + 2] := by decide +kernel
theorem index6 : ∀ t : Fin grid0.N, win0_6.index t = ![t.val % 11, t.val / 11] := by decide +kernel
theorem index7 : ∀ t : Fin grid0.N, win0_7.index t = ![t.val % 11, t.val / 11] := by decide +kernel
theorem index8 : ∀ t : Fin grid0.N, win0_8.index t = ![t.val % 11, t.val / 11] := by decide +kernel
theorem index9 : ∀ t : Fin grid0.N, win0_9.index t = ![t.val % 11, t.val / 11] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

/-- The column of a branch's gate, of the first branch. -/
def colA (j : Fin 1024) : Fin 2048 := ⟨j.val, by omega⟩
/-- The column of a branch's gate, of the second. -/
def colB (j : Fin 1024) : Fin 2048 := ⟨1024 + j.val, by omega⟩

variable (m : (ℓ : Loc nD τ sig) → Buf (Elt Ideal) ℓ) (ρ : Dev nD → PrngReg) (c : Dev nD) (t : Fin cfg0.N)

/-- The gradient of the output on entry. -/
abbrev dh2 : Vec Ideal S8448x1024 .f32 := m ((c : Thread nD τ).loc main_arg0)
/-- The output weight on entry. -/
abbrev wout : Vec Ideal S1024x1024 .bf16 := m ((c : Thread nD τ).loc main_arg1)
/-- The first branch on entry. -/
abbrev ya : Vec Ideal S8448x1024 .bf16 := m ((c : Thread nD τ).loc main_arg2)
/-- The second branch on entry. -/
abbrev yb : Vec Ideal S8448x1024 .bf16 := m ((c : Thread nD τ).loc main_arg3)
/-- The gates on entry, side by side. -/
abbrev gates : Vec Ideal S8448x2048 .bf16 := m ((c : Thread nD τ).loc main_arg4)

theorem V_weight : (V m c main_v0 : Vec Ideal S1024x1024 .bf16) = fun y => wout m c (ix2 (y 1) (y 0)) := by
  show StableHlo.after hostOps0 (fun b => m (c, b)) _ = _
  simp only [hostOps0, StableHlo.TRef.unary, StableHlo.TRef.toBuf, StableHlo.TRef.ofBuf, cast_eq]
  after_results_simp
  funext y
  idx_vars y
  pointwise []

theorem iblk0 : (iblk m c 0 t : Vec Ideal S768x1024 .f32) = fun y => dh2 m c (ix2 (row (t.val % 11) (y 0)) (y 1)) := by
  rw [dh2, ← V_main_arg0 m c]
  funext y
  have := row_val (block_lt t) (y 0)
  blk_ext [iblk, index0 t]

theorem iblk1 : (iblk m c 1 t : Vec Ideal S1024x512 .bf16) = fun y => wout m c (ix2 (col (t.val / 11) (y 1)) (y 0)) := by
  have h : (iblk m c 1 t : Vec Ideal S1024x512 .bf16) = fun y => (V m c main_v0 : Vec Ideal S1024x1024 .bf16) (ix2 (y 0) (col (t.val / 11) (y 1))) := by
    funext y
    have := col_val (half_lt t) (y 1)
    blk_ext [iblk, index1 t]
  rw [h, V_weight]
  rfl

theorem iblk2 : (iblk m c 2 t : Vec Ideal S768x512 .bf16) = fun y => ya m c (ix2 (row (t.val % 11) (y 0)) (col (t.val / 11) (y 1))) := by
  rw [ya, ← V_main_arg2 m c]
  funext y
  have := row_val (block_lt t) (y 0)
  have := col_val (half_lt t) (y 1)
  blk_ext [iblk, index2 t]

theorem iblk3 : (iblk m c 3 t : Vec Ideal S768x512 .bf16) = fun y => yb m c (ix2 (row (t.val % 11) (y 0)) (col (t.val / 11) (y 1))) := by
  rw [yb, ← V_main_arg3 m c]
  funext y
  have := row_val (block_lt t) (y 0)
  have := col_val (half_lt t) (y 1)
  blk_ext [iblk, index3 t]

theorem iblk4 : (iblk m c 4 t : Vec Ideal S768x512 .bf16) = fun y => gates m c (ix2 (row (t.val % 11) (y 0)) (colA (col (t.val / 11) (y 1)))) := by
  rw [gates, ← V_main_arg4 m c]
  funext y
  have := row_val (block_lt t) (y 0)
  have : (colA (col (t.val / 11) (y 1))).val = 512 * (t.val / 11) + (y 1).val := col_val (half_lt t) (y 1)
  blk_ext [iblk, index4 t]

theorem iblk5 : (iblk m c 5 t : Vec Ideal S768x512 .bf16) = fun y => gates m c (ix2 (row (t.val % 11) (y 0)) (colB (col (t.val / 11) (y 1)))) := by
  rw [gates, ← V_main_arg4 m c]
  funext y
  have := row_val (block_lt t) (y 0)
  have : (colB (col (t.val / 11) (y 1))).val = 1024 + (512 * (t.val / 11) + (y 1).val) := congrArg (1024 + ·) (col_val (half_lt t) (y 1))
  blk_ext [iblk, index5 t]

/-! ## The results -/

section
variable (D : Vec Ideal S8448x1024 .f32) (W : Vec Ideal S1024x1024 .bf16) (Y : Vec Ideal S8448x1024 .bf16) (G : Vec Ideal S8448x2048 .bf16)
variable (q : Fin 1024 → Fin 2048)

/-- The gradient of the merged branches: the product with the transposed weight. -/
def dmerged (a : Fin 8448) (b : Fin 1024) : EReal := ∑ k : Fin 1024, D (ix2 a k) * W (ix2 b k)

/-- The gradient of the branch whose gates lie in the columns `q`. -/
def branchResult : Vec Ideal S8448x1024 .bf16 := fun y => dmerged D W (y 0) (y 1) * Ideal.logistic (G (ix2 (y 0) (q (y 1))))

/-- The gradient of these gates. -/
def gateResult : Vec Ideal S8448x1024 .bf16 := fun y =>
  dmerged D W (y 0) (y 1) * Y y * Ideal.logistic (G (ix2 (y 0) (q (y 1)))) * (1 - Ideal.logistic (G (ix2 (y 0) (q (y 1)))))

end

theorem branchA_final : (dats m 0 c).arrAt 6 cfg0.N = branchResult (dh2 m c) (wout m c) (gates m c) colA := by
  refine (dats m 0 c).arrAt_eq_of_covers 6 _ (by decide +kernel) fun t hf y => ?_
  have := row_val (block_lt t) (y 0)
  have := col_val (half_lt t) (y 1)
  blk_simp
  rw [after0_6]
  frame_out
  have e : k0_pay1 (F := Ideal) (k0_pay8 (iblk m c 0 t) (iblk m c 1 t) (iblk m c 4 t)) y
      = branchResult (dh2 m c) (wout m c) (gates m c) colA (ix2 (row (t.val % 11) (y 0)) (col (t.val / 11) (y 1))) := by
    rw [iblk0, iblk1, iblk4]
    idx_vars y
    rw [branchA_apply]
    rfl
  refine e.trans (congrArg (branchResult (dh2 m c) (wout m c) (gates m c) colA) ?_)
  blk_ext [index6 t]

theorem branchB_final : (dats m 0 c).arrAt 7 cfg0.N = branchResult (dh2 m c) (wout m c) (gates m c) colB := by
  refine (dats m 0 c).arrAt_eq_of_covers 7 _ (by decide +kernel) fun t hf y => ?_
  have := row_val (block_lt t) (y 0)
  have := col_val (half_lt t) (y 1)
  blk_simp
  rw [after0_7]
  frame_out
  have e : k0_pay2 (F := Ideal) (k0_pay9 (iblk m c 0 t) (iblk m c 1 t) (iblk m c 5 t)) y
      = branchResult (dh2 m c) (wout m c) (gates m c) colB (ix2 (row (t.val % 11) (y 0)) (col (t.val / 11) (y 1))) := by
    rw [iblk0, iblk1, iblk5]
    idx_vars y
    rw [branchB_apply]
    rfl
  refine e.trans (congrArg (branchResult (dh2 m c) (wout m c) (gates m c) colB) ?_)
  blk_ext [index7 t]

theorem gateA_final : (dats m 0 c).arrAt 8 cfg0.N = gateResult (dh2 m c) (wout m c) (ya m c) (gates m c) colA := by
  refine (dats m 0 c).arrAt_eq_of_covers 8 _ (by decide +kernel) fun t hf y => ?_
  have := row_val (block_lt t) (y 0)
  have := col_val (half_lt t) (y 1)
  blk_simp
  rw [after0_8]
  frame_out
  have e : k0_pay3 (F := Ideal) (k0_pay10 (iblk m c 0 t) (iblk m c 1 t) (iblk m c 2 t) (iblk m c 4 t)) y
      = gateResult (dh2 m c) (wout m c) (ya m c) (gates m c) colA (ix2 (row (t.val % 11) (y 0)) (col (t.val / 11) (y 1))) := by
    rw [iblk0, iblk1, iblk2, iblk4]
    idx_vars y
    rw [gateA_apply]
    rfl
  refine e.trans (congrArg (gateResult (dh2 m c) (wout m c) (ya m c) (gates m c) colA) ?_)
  blk_ext [index8 t]

theorem gateB_final : (dats m 0 c).arrAt 9 cfg0.N = gateResult (dh2 m c) (wout m c) (yb m c) (gates m c) colB := by
  refine (dats m 0 c).arrAt_eq_of_covers 9 _ (by decide +kernel) fun t hf y => ?_
  have := row_val (block_lt t) (y 0)
  have := col_val (half_lt t) (y 1)
  blk_simp
  rw [after0_9]
  frame_out
  have e : k0_pay4 (F := Ideal) (k0_pay7 (iblk m c 5 t)) (k0_pay11 (iblk m c 0 t) (iblk m c 1 t) (iblk m c 3 t) (iblk m c 5 t)) k0_pay12 y
      = gateResult (dh2 m c) (wout m c) (yb m c) (gates m c) colB (ix2 (row (t.val % 11) (y 0)) (col (t.val / 11) (y 1))) := by
    rw [iblk0, iblk1, iblk3, iblk5]
    idx_vars y
    rw [gateB_apply]
    rfl
  refine e.trans (congrArg (gateResult (dh2 m c) (wout m c) (yb m c) (gates m c) colB) ?_)
  blk_ext [index9 t]

/-! ## The reference's stages -/

section
variable (D : Vec Ideal S8448x1024 .f32) (W : Vec Ideal S1024x1024 .bf16) (Y : Vec Ideal S8448x1024 .bf16) (G : Vec Ideal S8448x2048 .bf16)
variable (h₀ : FTy.bits .bf16 < FTy.bits .f32) (q : Fin 1024 → Fin 2048)

def refDmerged : FVec Ideal S8448x1024 .f32 :=
  Host.dotGeneral (F := Ideal) (φ₁ := .f32) Cert.MergeGradReferenceIdeal.dot_S8448x1024_S1024x1024_S8448x1024_1_1_0_0_n_n none D (extf (φ := .bf16) .f32 W h₀)

theorem refDmerged_apply (a : Fin 8448) (b : Fin 1024) : refDmerged D W h₀ (ix2 a b) = dmerged D W a b := by
  pointwise [refDmerged, dmerged]

/-- The array of ones. -/
def ones : FVec Ideal S8448x1024 .f32 :=
  broadcastInDim S8448x1024 ![] Cert.MergeGradReferenceIdeal.Facts₀.bcast_S_S8448x1024 (constant Cert.MergeGradReferenceIdeal.S_ .f32 0x3F800000#32)

/-- The logistic of an array of gates. -/
def refLogistic (z : FVec Ideal S8448x1024 .f32) : FVec Ideal S8448x1024 .f32 := Host.divf ones (addf ones (Host.exp (Host.negf z)))

theorem refLogistic_apply (z : FVec Ideal S8448x1024 .f32) (a : Fin 8448) (b : Fin 1024) : refLogistic z (ix2 a b) = Ideal.logistic (z (ix2 a b)) := by
  rw [Ideal.logistic]
  pointwise [refLogistic, ones]

/-- The first branch's gates. -/
def refGatesA : FVec Ideal S8448x1024 .f32 :=
  extractStridedSlice S8448x1024 ![0, 0] (extf (φ := .bf16) .f32 G h₀) Cert.MergeGradReferenceIdeal.Facts₀.slices_S8448x2048_S8448x1024_0_0

theorem refGatesA_apply (a : Fin 8448) (b : Fin 1024) : refGatesA G h₀ (ix2 a b) = G (ix2 a (colA b)) := by
  pointwise [refGatesA, colA]

/-- The second branch's gates. -/
def refGatesB : FVec Ideal S8448x1024 .f32 :=
  extractStridedSlice S8448x1024 ![0, 1024] (extf (φ := .bf16) .f32 G h₀) Cert.MergeGradReferenceIdeal.Facts₀.slices_S8448x2048_S8448x1024_0_1024

theorem refGatesB_apply (a : Fin 8448) (b : Fin 1024) : refGatesB G h₀ (ix2 a b) = G (ix2 a (colB b)) := by
  pointwise [refGatesB, colB]

variable (z : FVec Ideal S8448x1024 .f32) (hz : ∀ a b, z (ix2 a b) = G (ix2 a (q b)))

/-- A branch's gradient. -/
def refBranch : FVec Ideal S8448x1024 .bf16 := truncf .bf16 (mulf (refLogistic z) (refDmerged D W h₀)) h₀

include hz in
theorem refBranch_eq : refBranch D W h₀ z = branchResult D W G q := by
  funext y
  idx_vars y
  have e : refBranch D W h₀ z (ix2 y0 y1) = refLogistic z (ix2 y0 y1) * refDmerged D W h₀ (ix2 y0 y1) := by
    pointwise [refBranch]
  rw [e, refLogistic_apply, refDmerged_apply, hz, mul_comm]
  rfl

/-- The gradient of a branch's gates. -/
def refGate : FVec Ideal S8448x1024 .bf16 :=
  truncf .bf16 (mulf (mulf (refDmerged D W h₀) (extf (φ := .bf16) .f32 Y h₀)) (mulf (refLogistic z) (subf ones (refLogistic z)))) h₀

include hz in
theorem refGate_eq : refGate D W Y h₀ z = gateResult D W Y G q := by
  funext y
  idx_vars y
  have e : refGate D W Y h₀ z (ix2 y0 y1)
      = refDmerged D W h₀ (ix2 y0 y1) * Y (ix2 y0 y1) * (refLogistic z (ix2 y0 y1) * (1 - refLogistic z (ix2 y0 y1))) := by
    pointwise [refGate, ones]
  rw [e, refLogistic_apply, refDmerged_apply, hz, ← mul_assoc]
  rfl

end

/-! ## The claims -/

theorem quiescent_MergeGrad : Cert.quiescent_MergeGrad := fun m g _ => Cert.MergeGrad.Gen.frame m g

theorem quiescent_MergeGradIdeal : Cert.quiescent_MergeGradIdeal := fun m g _ => Cert.MergeGradIdeal.Gen.frame m g

theorem quiescent_MergeGradReferenceIdeal : Cert.quiescent_MergeGradReferenceIdeal := fun m g _ =>
  (θ_run _ _ _).mono (fun r h => ⟨fun c => (h c).2.2.2.2, sem_eq_zero_of_no_sems (by decide) _⟩) (Cert.MergeGradReferenceIdeal.Value.run (F := Ideal) m g)

theorem preserves : Cert.preserves_MergeGrad_MergeGradIdeal := trivial

theorem algebraic : Cert.algebraic_MergeGradIdeal_MergeGradReferenceIdeal := by
  intro m g m' g' _ hargs
  refine ⟨fun c => branchResult (dh2 m c) (wout m c) (gates m c) colA, fun c => branchResult (dh2 m c) (wout m c) (gates m c) colB,
    fun c => gateResult (dh2 m c) (wout m c) (ya m c) (gates m c) colA, fun c => gateResult (dh2 m c) (wout m c) (yb m c) (gates m c) colB, ?_, ?_⟩
  · exact (θ_run _ _ _).mono (fun r h c => ⟨(h c).1.trans (branchA_final m c), (h c).2.1.trans (branchB_final m c),
      (h c).2.2.1.trans (gateA_final m c), (h c).2.2.2.1.trans (gateB_final m c), (h c).2.2.2.2⟩) (Cert.MergeGradIdeal.Value.run_blocks m g)
  · refine (θ_run _ _ _).mono (fun r h c => ?_) (Cert.MergeGradReferenceIdeal.Value.run (F := Ideal) m' g')
    obtain ⟨e0, e1, e2, e3, e4⟩ := hargs c
    refine ⟨(h c).1.trans ?_, (h c).2.1.trans ?_, (h c).2.2.1.trans ?_, (h c).2.2.2.1.trans ?_, (h c).2.2.2.2⟩
    · rw [e0, e1, e4]
      exact refBranch_eq (dh2 m c) (wout m c) (gates m c) _ colA _ (refGatesA_apply (gates m c) _)
    · rw [e0, e1, e4]
      exact refBranch_eq (dh2 m c) (wout m c) (gates m c) _ colB _ (refGatesB_apply (gates m c) _)
    · rw [e0, e1, e2, e4]
      exact refGate_eq (dh2 m c) (wout m c) (ya m c) (gates m c) _ colA _ (refGatesA_apply (gates m c) _)
    · rw [e0, e1, e3, e4]
      exact refGate_eq (dh2 m c) (wout m c) (yb m c) (gates m c) _ colB _ (refGatesB_apply (gates m c) _)

end Cert.MergeGradIdeal.Grad

end
-- ==== Proof.MixInputGradClaims.lean ====
/-
The gradient of the mixer's normed input: the kernel multiplies by the transposed weight, the reference contracts over the weight's
columns. Both have, at row `a` and column `b`, the sum over `j` of `dz[a, j] * w[b, j]`.
-/
module

public import proofs.«01_k».proof.Defs
public import proofs.«01_k».proof.Proof.Blocks
public import proofs.«01_k».proof.Proof.Gen.MixInputGrad.Frame
public import proofs.«01_k».proof.Proof.Gen.MixInputGradIdeal.Value
public import proofs.«01_k».proof.Proof.Gen.MixInputGradReferenceIdeal.Run
public import Idealize.ShloMosaic.Lib.Pipeline.Value
public import Idealize.ShloMosaic.Lib.Pipeline.ValueKit

@[expose] public section

set_option maxRecDepth 16384

noncomputable section

namespace Cert.MixInputGradIdeal.Grad

open Cert.MixInputGradIdeal.Gen Cert.Ffn
open Idealize.ShloMosaic Idealize.ShloMosaic.TcCoe Idealize.SL.Sem

/-! ## One block -/

theorem block_apply (z : Vec Ideal S768x5120 .bf16) (w : Vec Ideal S5120x512 .bf16) (a : Fin 768) (b : Fin 512) :
    k0_pay1 (F := Ideal) z w (ix2 a b) = ∑ j : Fin 5120, z (ix2 a j) * w (ix2 j b) := by
  pointwise [k0_pay1]

/-! ## The arrays the region finds -/

theorem index0 : ∀ t : Fin grid0.N, win0_0.index t = ![t.val % 11, 0] := by decide +kernel
theorem index1 : ∀ t : Fin grid0.N, win0_1.index t = ![0, t.val / 11] := by decide +kernel
theorem index2 : ∀ t : Fin grid0.N, win0_2.index t = ![t.val % 11, t.val / 11] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

variable (m : (ℓ : Loc nD τ sig) → Buf (Elt Ideal) ℓ) (ρ : Dev nD → PrngReg) (c : Dev nD) (t : Fin cfg0.N)

/-- The gradient of the projection's columns on entry. -/
abbrev dz : Vec Ideal S8448x5120 .bf16 := m ((c : Thread nD τ).loc main_arg0)
/-- The weight on entry. -/
abbrev win : Vec Ideal S1024x5120 .bf16 := m ((c : Thread nD τ).loc main_arg1)

theorem V_weight : (V m c main_v0 : Vec Ideal S5120x1024 .bf16) = fun y => win m c (ix2 (y 1) (y 0)) := by
  show StableHlo.after hostOps0 (fun b => m (c, b)) _ = _
  simp only [hostOps0, StableHlo.TRef.unary, StableHlo.TRef.toBuf, StableHlo.TRef.ofBuf, cast_eq]
  after_results_simp
  funext y
  idx_vars y
  pointwise []

theorem iblk0 : (iblk m c 0 t : Vec Ideal S768x5120 .bf16) = fun y => dz m c (ix2 (row (t.val % 11) (y 0)) (y 1)) := by
  rw [dz, ← V_main_arg0 m c]
  funext y
  have := row_val (block_lt t) (y 0)
  blk_ext [iblk, index0 t]

theorem iblk1 : (iblk m c 1 t : Vec Ideal S5120x512 .bf16) = fun y => win m c (ix2 (col (t.val / 11) (y 1)) (y 0)) := by
  have h : (iblk m c 1 t : Vec Ideal S5120x512 .bf16) = fun y => (V m c main_v0 : Vec Ideal S5120x1024 .bf16) (ix2 (y 0) (col (t.val / 11) (y 1))) := by
    funext y
    have := col_val (half_lt t) (y 1)
    blk_ext [iblk, index1 t]
  rw [h, V_weight]
  rfl

/-! ## The result -/

/-- The product with the transposed weight. -/
def result (Z : Vec Ideal S8448x5120 .bf16) (W : Vec Ideal S1024x5120 .bf16) : Vec Ideal S8448x1024 .f32 :=
  fun y => ∑ j : Fin 5120, Z (ix2 (y 0) j) * W (ix2 (y 1) j)

theorem final : (dats m 0 c).arrAt 2 cfg0.N = result (dz m c) (win m c) := by
  refine (dats m 0 c).arrAt_eq_of_covers 2 _ (by decide +kernel) fun t hf y => ?_
  have := row_val (block_lt t) (y 0)
  have := col_val (half_lt t) (y 1)
  blk_simp
  rw [after0_2]
  frame_out
  have e : k0_pay1 (F := Ideal) (iblk m c 0 t) (iblk m c 1 t) y = result (dz m c) (win m c) (ix2 (row (t.val % 11) (y 0)) (col (t.val / 11) (y 1))) := by
    rw [iblk0, iblk1]
    idx_vars y
    rw [block_apply]
    rfl
  refine e.trans (congrArg (result (dz m c) (win m c)) ?_)
  blk_ext [index2 t]

/-! ## The claims -/

/-- The reference's product contracts over the weight's columns. -/
theorem reference_result (Z : Vec Ideal S8448x5120 .bf16) (W : Vec Ideal S1024x5120 .bf16) (h₀ : FTy.bits .bf16 < FTy.bits .f32) :
    (Host.dotGeneral (F := Ideal) Cert.MixInputGradReferenceIdeal.dot_S8448x5120_S1024x5120_S8448x1024_1_1_0_0_n_n none
      (extf (φ := .bf16) .f32 Z h₀) (extf (φ := .bf16) .f32 W h₀) : FVec Ideal S8448x1024 .f32) = result Z W := by
  funext y
  idx_vars y
  pointwise [result]

theorem quiescent_MixInputGrad : Cert.quiescent_MixInputGrad := fun m g _ => Cert.MixInputGrad.Gen.frame m g

theorem quiescent_MixInputGradIdeal : Cert.quiescent_MixInputGradIdeal := fun m g _ => Cert.MixInputGradIdeal.Gen.frame m g

theorem quiescent_MixInputGradReferenceIdeal : Cert.quiescent_MixInputGradReferenceIdeal := fun m g _ =>
  (θ_run _ _ _).mono (fun r h => ⟨fun c => (h c).2, sem_eq_zero_of_no_sems (by decide) _⟩) (Cert.MixInputGradReferenceIdeal.Value.run (F := Ideal) m g)

theorem preserves : Cert.preserves_MixInputGrad_MixInputGradIdeal := trivial

theorem algebraic : Cert.algebraic_MixInputGradIdeal_MixInputGradReferenceIdeal := by
  intro m g m' g' _ hargs
  refine ⟨fun c => result (dz m c) (win m c), ?_, ?_⟩
  · exact (θ_run _ _ _).mono (fun r h c => ⟨(h c).1.trans (final m c), (h c).2⟩) (Cert.MixInputGradIdeal.Value.run_blocks m g)
  · refine (θ_run _ _ _).mono (fun r h c => ?_) (Cert.MixInputGradReferenceIdeal.Value.run (F := Ideal) m' g')
    obtain ⟨e0, e1⟩ := hargs c
    refine ⟨(h c).1.trans ?_, (h c).2⟩
    rw [e0, e1]
    exact reference_result _ _ _

end Cert.MixInputGradIdeal.Grad

end
-- ==== Proof.InWeightGradClaims.lean ====
/-
The gradient of the input projection's weight: the kernel adds the products of 11 blocks of rows, for each quarter of the columns,
and the reference multiplies the whole arrays. Both have, at row `a` and column `b`, the sum over the rows `k` of `u[k, a] * dz[k, b]`.
-/
module

public import proofs.«01_k».proof.Defs
public import proofs.«01_k».proof.Proof.Blocks
public import proofs.«01_k».proof.Proof.Gen.InWeightGrad.Frame
public import proofs.«01_k».proof.Proof.Gen.InWeightGradIdeal.Value
public import proofs.«01_k».proof.Proof.Gen.InWeightGradReferenceIdeal.Run
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.InWeightGradIdeal.Grad

open Cert.InWeightGradIdeal.Gen Cert.Ffn
open Idealize.ShloMosaic Idealize.ShloMosaic.TcCoe Idealize.SL.Sem

/-! ## One block -/

section
variable (x : Vec Ideal S768x1024 .bf16) (d : Vec Ideal S768x1280 .bf16) (acc : Vec Ideal S1024x1280 .f32) (a : Fin 1024) (b : Fin 1280)

theorem start_apply : k0_pay1 (F := Ideal) (ix2 a b) = 0 := by
  pointwise [k0_pay1]

theorem step_apply : k0_pay2 (F := Ideal) acc x d (ix2 a b) = acc (ix2 a b) + ∑ r : Fin 768, x (ix2 r a) * d (ix2 r b) := by
  pointwise [k0_pay2]

theorem end_apply : k0_pay3 (F := Ideal) acc (ix2 a b) = acc (ix2 a b) := by
  pointwise [k0_pay3]

end

/-! ## The blocks of the arguments -/

theorem index0 : ∀ t : Fin grid0.N, win0_0.index t = ![t.val % 11, 0] := by decide +kernel
theorem index1 : ∀ t : Fin grid0.N, win0_1.index t = ![t.val % 11, t.val / 11] := by decide +kernel
theorem index2 : ∀ t : Fin grid0.N, win0_2.index t = ![0, t.val / 11] := by decide +kernel

theorem quarter_lt (t : Fin grid0.N) : t.val / 11 < 4 := by
  have ht : t.val < 44 := Nat.lt_of_lt_of_eq t.isLt N_0
  omega
theorem block_lt (t : Fin grid0.N) : t.val % 11 < 11 := Nat.mod_lt _ (by decide)

/-- Column `s` of quarter `j`, of the 5120 columns. -/
def quarter (j : ℕ) (s : Fin 1280) : Fin 5120 := Fin.ofNat 5120 (1280 * j + s.val)

theorem quarter_val {j : ℕ} (hj : j < 4) (s : Fin 1280) : (quarter j s).val = 1280 * j + s.val := by
  have := s.isLt
  exact Nat.mod_eq_of_lt (by omega)

variable (m : (ℓ : Loc nD τ sig) → Buf (Elt Ideal) ℓ) (ρ : Dev nD → PrngReg) (c : Dev nD) (t : Fin cfg0.N)

/-- The mixer's input on entry, the normalised rows. -/
abbrev u : Vec Ideal S8448x1024 .bf16 := m ((c : Thread nD τ).loc main_arg0)
/-- The gradient of the projection's columns on entry. -/
abbrev dz : Vec Ideal S8448x5120 .bf16 := m ((c : Thread nD τ).loc main_arg1)

theorem iblk0 : (iblk m c 0 t : Vec Ideal S768x1024 .bf16) = fun y => u m c (ix2 (row (t.val % 11) (y 0)) (y 1)) := by
  rw [u, ← V_main_arg0 m c]
  funext y
  have := row_val (block_lt t) (y 0)
  blk_ext [iblk, index0 t]

theorem iblk1 : (iblk m c 1 t : Vec Ideal S768x1280 .bf16) = fun y => dz m c (ix2 (row (t.val % 11) (y 0)) (quarter (t.val / 11) (y 1))) := by
  rw [dz, ← V_main_arg1 m c]
  funext y
  have := row_val (block_lt t) (y 0)
  have := quarter_val (quarter_lt t) (y 1)
  blk_ext [iblk, index1 t]

/-! ## The sum over the blocks -/

/-- The product of the transposed input and the gradient. -/
def result (X : Vec Ideal S8448x1024 .bf16) (D : Vec Ideal S8448x5120 .bf16) : Vec Ideal S1024x5120 .f32 :=
  fun y => ∑ k : Fin 8448, X (ix2 k (y 0)) * D (ix2 k (y 1))

/-- The summands at an index of a block. -/
def summand (X : Vec Ideal S8448x1024 .bf16) (D : Vec Ideal S8448x5120 .bf16) (y : S1024x1280.Idx) (j : ℕ) (k : Fin 8448) : EReal :=
  X (ix2 k (y 0)) * D (ix2 k (quarter j (y 1)))

theorem acc_first (h : t.val % 11 = 0) (y : S1024x1280.Idx) : (outsAt0 m c t.val t.isLt).2 y = 0 + share (summand (u m c) (dz m c) y) t.val := by
  rw [outsAt0_A m c t h (by omega)]
  frame_out
  idx_vars y
  rw [step_apply, start_apply, iblk0, iblk1]
  rfl

theorem acc_next (h : ¬t.val % 11 = 0) (y : S1024x1280.Idx) :
    (outsAt0 m c t.val t.isLt).2 y
      = (outsAt0 m c (t.val - 1) (Nat.lt_of_le_of_lt (Nat.sub_le _ _) t.isLt)).2 y + share (summand (u m c) (dz m c) y) t.val := by
  by_cases h1 : t.val % 11 = 10
  all_goals
    first | rw [outsAt0_C m c t h h1] | rw [outsAt0_B m c t h h1]
    frame_out
    simp only [read_unread_whole]
    idx_vars y
    rw [step_apply, iblk0, iblk1]
    rfl

/-- The point that writes a block back leaves the whole sum in it. -/
theorem out_last (h : t.val % 11 = 10) (y : S1024x1280.Idx) :
    (outsAt0 m c t.val t.isLt).1 y = result (u m c) (dz m c) (ix2 (y 0) (quarter (t.val / 11) (y 1))) := by
  have e : (outsAt0 m c t.val t.isLt).1 y = (outsAt0 m c t.val t.isLt).2 y := by
    rw [outsAt0_C m c t (by omega) h]
    frame_out
    idx_vars y
    exact end_apply _ _ _
  rw [e, Pipeline.eq_sum_of_reset_step_apply_of_mod (fun n h => (outsAt0 m c n h).2) 11 (fun _ => 0) (fun n y => share (summand (u m c) (dz m c) y) n)
    (acc_first m c) (acc_next m c) t h y, zero_add, sum_shares]
  rfl

theorem final : (dats m 0 c).arrAt 2 cfg0.N = result (u m c) (dz m c) := by
  refine (dats m 0 c).arrAt_eq_of_covers 2 _ (by decide +kernel) fun t hf y => ?_
  have := quarter_val (quarter_lt t) (y 1)
  blk_simp
  rw [after0_2, out_last m c t ((flush0_2 t).mp hf)]
  refine congrArg (result (u m c) (dz m c)) ?_
  blk_ext [index2 t]

/-! ## The claims -/

/-- The reference's product over the whole arrays. -/
theorem reference_result (X : Vec Ideal S8448x1024 .bf16) (D : Vec Ideal S8448x5120 .bf16) (h₀ : FTy.bits .bf16 < FTy.bits .f32) (h₁) :
    (transpose S1024x5120 [1, 0] (Host.dotGeneral (F := Ideal) Cert.InWeightGradReferenceIdeal.dot_S8448x5120_S8448x1024_S5120x1024_0_0_1_1_n_n none
      (extf (φ := .bf16) .f32 D h₀) (extf (φ := .bf16) .f32 X h₀) : FVec Ideal Cert.InWeightGradReferenceIdeal.S5120x1024 .f32) h₁ : FVec Ideal S1024x5120 .f32) = result X D := by
  funext y
  idx_vars y
  pointwise [result]
  exact Finset.sum_congr rfl fun k _ => mul_comm _ _

theorem quiescent_InWeightGrad : Cert.quiescent_InWeightGrad := fun m g _ => Cert.InWeightGrad.Gen.frame m g

theorem quiescent_InWeightGradIdeal : Cert.quiescent_InWeightGradIdeal := fun m g _ => Cert.InWeightGradIdeal.Gen.frame m g

theorem quiescent_InWeightGradReferenceIdeal : Cert.quiescent_InWeightGradReferenceIdeal := fun m g _ =>
  (θ_run _ _ _).mono (fun r h => ⟨fun c => (h c).2, sem_eq_zero_of_no_sems (by decide) _⟩) (Cert.InWeightGradReferenceIdeal.Value.run (F := Ideal) m g)

theorem preserves : Cert.preserves_InWeightGrad_InWeightGradIdeal := trivial

theorem algebraic : Cert.algebraic_InWeightGradIdeal_InWeightGradReferenceIdeal := by
  intro m g m' g' _ hargs
  refine ⟨fun c => result (u m c) (dz m c), ?_, ?_⟩
  · exact (θ_run _ _ _).mono (fun r h c => ⟨(h c).1.trans (final m c), (h c).2⟩) (Cert.InWeightGradIdeal.Value.run_blocks m g)
  · refine (θ_run _ _ _).mono (fun r h c => ?_) (Cert.InWeightGradReferenceIdeal.Value.run (F := Ideal) m' g')
    obtain ⟨e0, e1⟩ := hargs c
    refine ⟨(h c).1.trans ?_, (h c).2⟩
    rw [e0, e1]
    exact reference_result _ _ _ _

end Cert.InWeightGradIdeal.Grad

end
-- ==== Proof.GatedHalvesClaims.lean ====
/-
The gate and up halves of the feed-forward, and silu(gate) * up: the kernel multiplies the rows by a block of columns of each half of
the weight, the reference multiplies by the whole weight and splits the product. The gate's logistic is the same quotient on both sides.
-/
module

public import proofs.«01_k».proof.Defs
public import proofs.«01_k».proof.Proof.Blocks
public import proofs.«01_k».proof.Proof.Gen.GatedHalves.Frame
public import proofs.«01_k».proof.Proof.Gen.GatedHalvesIdeal.Value
public import proofs.«01_k».proof.Proof.Gen.GatedHalvesReferenceIdeal.Run
public import Idealize.ShloMosaic.Lib.Pipeline.Value
public import Idealize.ShloMosaic.Lib.Pipeline.ValueKit

@[expose] public section

set_option maxRecDepth 16384

noncomputable section

namespace Cert.GatedHalvesIdeal.Halves

open Cert.GatedHalvesIdeal.Gen Cert.Ffn
open Idealize.ShloMosaic Idealize.ShloMosaic.TcCoe Idealize.SL.Sem

/-! ## One block -/

section
variable (x : Vec Ideal S768x1024 .bf16) (w v : Vec Ideal S1024x1408 .bf16) (a : Fin 768) (b : Fin 1408)

theorem gate_apply : k0_pay3 (F := Ideal) x w (ix2 a b) = ∑ k : Fin 1024, x (ix2 a k) * w (ix2 k b) := by
  pointwise [k0_pay3, k0_pay1]

theorem up_apply : k0_pay4 (F := Ideal) x w (ix2 a b) = ∑ k : Fin 1024, x (ix2 a k) * w (ix2 k b) := by
  pointwise [k0_pay4, k0_pay2]

theorem act_apply : k0_pay5 (F := Ideal) x w v (ix2 a b)
    = (∑ k : Fin 1024, x (ix2 a k) * w (ix2 k b)) * Ideal.logistic (∑ k : Fin 1024, x (ix2 a k) * w (ix2 k b)) * ∑ k : Fin 1024, x (ix2 a k) * v (ix2 k b) := by
  rw [Ideal.logistic, ← zero_sub]
  pointwise [k0_pay5, k0_pay1, k0_pay2]

end

/-! ## The blocks of the arguments -/

theorem index0 : ∀ t : Fin grid0.N, win0_0.index t = ![t.val % 11, 0] := by decide +kernel
theorem index1 : ∀ t : Fin grid0.N, win0_1.index t = ![0, t.val / 11] := by decide +kernel
theorem index2 : ∀ t : Fin grid0.N, win0_2.index t = ![0, t.val / 11 + 2] := by decide +kernel
theorem index3 : ∀ t : Fin grid0.N, win0_3.index t = ![t.val % 11, t.val / 11] := by decide +kernel
theorem index4 : ∀ t : Fin grid0.N, win0_4.index t = ![t.val % 11, t.val / 11] := by decide +kernel
theorem index5 : ∀ t : Fin grid0.N, win0_5.index t = ![t.val % 11, t.val / 11] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

variable (m : (ℓ : Loc nD τ sig) → Buf (Elt Ideal) ℓ) (ρ : Dev nD → PrngReg) (c : Dev nD) (t : Fin cfg0.N)

/-- The input on entry, the normalised rows. -/
abbrev xn : Vec Ideal S8448x1024 .bf16 := m ((c : Thread nD τ).loc main_arg0)
/-- The weight on entry. -/
abbrev wgu : Vec Ideal S1024x5632 .bf16 := m ((c : Thread nD τ).loc main_arg1)

theorem iblk0 : (iblk m c 0 t : Vec Ideal S768x1024 .bf16) = fun y => xn m c (ix2 (row (t.val % 11) (y 0)) (y 1)) := by
  rw [xn, ← V_main_arg0 m c]
  funext y
  have := row_val (block_lt t) (y 0)
  blk_ext [iblk, index0 t]

theorem iblk1 : (iblk m c 1 t : Vec Ideal S1024x1408 .bf16) = fun y => wgu m c (ix2 (y 0) (lo (half (t.val / 11) (y 1)))) := by
  rw [wgu, ← V_main_arg1 m c]
  funext y
  have : (lo (half (t.val / 11) (y 1))).val = 1408 * (t.val / 11) + (y 1).val := half_val (half_lt t) (y 1)
  blk_ext [iblk, index1 t]

theorem iblk2 : (iblk m c 2 t : Vec Ideal S1024x1408 .bf16) = fun y => wgu m c (ix2 (y 0) (hi (half (t.val / 11) (y 1)))) := by
  rw [wgu, ← V_main_arg1 m c]
  funext y
  have : (hi (half (t.val / 11) (y 1))).val = 2816 + (1408 * (t.val / 11) + (y 1).val) := congrArg (2816 + ·) (half_val (half_lt t) (y 1))
  blk_ext [iblk, index2 t]

/-! ## The results -/

section
variable (X : Vec Ideal S8448x1024 .bf16) (W : Vec Ideal S1024x5632 .bf16)

/-- The product with the weight. -/
def prod (a : Fin 8448) (b : Fin 5632) : EReal := ∑ k : Fin 1024, X (ix2 a k) * W (ix2 k b)

def gateResult : Vec Ideal S8448x2816 .bf16 := fun y => prod X W (y 0) (lo (y 1))

def upResult : Vec Ideal S8448x2816 .bf16 := fun y => prod X W (y 0) (hi (y 1))

def actResult : Vec Ideal S8448x2816 .bf16 := fun y =>
  prod X W (y 0) (lo (y 1)) * Ideal.logistic (prod X W (y 0) (lo (y 1))) * prod X W (y 0) (hi (y 1))

end

theorem gate_final : (dats m 0 c).arrAt 3 cfg0.N = gateResult (xn m c) (wgu m c) := by
  refine (dats m 0 c).arrAt_eq_of_covers 3 _ (by decide +kernel) fun t hf y => ?_
  have := row_val (block_lt t) (y 0)
  have := half_val (half_lt t) (y 1)
  blk_simp
  rw [after0_3]
  frame_out
  have e : k0_pay3 (F := Ideal) (iblk m c 0 t) (iblk m c 1 t) y
      = gateResult (xn m c) (wgu m c) (ix2 (row (t.val % 11) (y 0)) (half (t.val / 11) (y 1))) := by
    rw [iblk0, iblk1]
    idx_vars y
    rw [gate_apply]
    rfl
  refine e.trans (congrArg (gateResult (xn m c) (wgu m c)) ?_)
  blk_ext [index3 t]

theorem up_final : (dats m 0 c).arrAt 4 cfg0.N = upResult (xn m c) (wgu m c) := by
  refine (dats m 0 c).arrAt_eq_of_covers 4 _ (by decide +kernel) fun t hf y => ?_
  have := row_val (block_lt t) (y 0)
  have := half_val (half_lt t) (y 1)
  blk_simp
  rw [after0_4]
  frame_out
  have e : k0_pay4 (F := Ideal) (iblk m c 0 t) (iblk m c 2 t) y
      = upResult (xn m c) (wgu m c) (ix2 (row (t.val % 11) (y 0)) (half (t.val / 11) (y 1))) := by
    rw [iblk0, iblk2]
    idx_vars y
    rw [up_apply]
    rfl
  refine e.trans (congrArg (upResult (xn m c) (wgu m c)) ?_)
  blk_ext [index4 t]

theorem act_final : (dats m 0 c).arrAt 5 cfg0.N = actResult (xn m c) (wgu m c) := by
  refine (dats m 0 c).arrAt_eq_of_covers 5 _ (by decide +kernel) fun t hf y => ?_
  have := row_val (block_lt t) (y 0)
  have := half_val (half_lt t) (y 1)
  blk_simp
  rw [after0_5]
  frame_out
  have e : k0_pay5 (F := Ideal) (iblk m c 0 t) (iblk m c 1 t) (iblk m c 2 t) y
      = actResult (xn m c) (wgu m c) (ix2 (row (t.val % 11) (y 0)) (half (t.val / 11) (y 1))) := by
    rw [iblk0, iblk1, iblk2]
    idx_vars y
    rw [act_apply]
    rfl
  refine e.trans (congrArg (actResult (xn m c) (wgu m c)) ?_)
  blk_ext [index5 t]

/-! ## The reference's stages -/

section
variable (X : Vec Ideal S8448x1024 .bf16) (W : Vec Ideal S1024x5632 .bf16) (h₀ : FTy.bits .bf16 < FTy.bits .f32)

/-- The product with the whole weight. -/
def refProd : FVec Ideal Cert.GatedHalvesReferenceIdeal.S8448x5632 .f32 :=
  Host.dotGeneral (F := Ideal) Cert.GatedHalvesReferenceIdeal.dot_S8448x1024_S1024x5632_S8448x5632_1_0_0_1_n_n none
    (extf (φ := .bf16) .f32 X h₀) (extf (φ := .bf16) .f32 W h₀)

theorem refProd_apply (a : Fin 8448) (b : Fin 5632) : refProd X W h₀ (ix2 a b) = prod X W a b := by
  pointwise [refProd, prod]

/-- Its first half of the columns. -/
def refGate : FVec Ideal S8448x2816 .f32 :=
  extractStridedSlice S8448x2816 ![0, 0] (refProd X W h₀) Cert.GatedHalvesReferenceIdeal.Facts₀.slices_S8448x5632_S8448x2816_0_0

theorem refGate_apply (a : Fin 8448) (b : Fin 2816) : refGate X W h₀ (ix2 a b) = prod X W a (lo b) := by
  rw [← refProd_apply X W h₀]
  pointwise [refGate, lo]

/-- Its second half. -/
def refUp : FVec Ideal S8448x2816 .f32 :=
  extractStridedSlice S8448x2816 ![0, 2816] (refProd X W h₀) Cert.GatedHalvesReferenceIdeal.Facts₀.slices_S8448x5632_S8448x2816_0_2816

theorem refUp_apply (a : Fin 8448) (b : Fin 2816) : refUp X W h₀ (ix2 a b) = prod X W a (hi b) := by
  rw [← refProd_apply X W h₀]
  pointwise [refUp, hi]

/-- The array of ones. -/
def ones : FVec Ideal S8448x2816 .f32 :=
  broadcastInDim S8448x2816 ![] Cert.GatedHalvesReferenceIdeal.Facts₀.bcast_S_S8448x2816 (constant Cert.GatedHalvesReferenceIdeal.S_ .f32 0x3F800000#32)

/-- silu(gate) * up. -/
def refAct : FVec Ideal S8448x2816 .bf16 :=
  truncf .bf16 (mulf (mulf (refGate X W h₀) (Host.divf ones (addf ones (Host.exp (Host.negf (refGate X W h₀)))))) (refUp X W h₀)) h₀

theorem gate_reference : (truncf .bf16 (refGate X W h₀) h₀ : FVec Ideal S8448x2816 .bf16) = gateResult X W := by
  funext y
  idx_vars y
  exact refGate_apply X W h₀ y0 y1

theorem up_reference : (truncf .bf16 (refUp X W h₀) h₀ : FVec Ideal S8448x2816 .bf16) = upResult X W := by
  funext y
  idx_vars y
  exact refUp_apply X W h₀ y0 y1

theorem act_reference : refAct X W h₀ = actResult X W := by
  funext y
  idx_vars y
  have e : refAct X W h₀ (ix2 y0 y1) = refGate X W h₀ (ix2 y0 y1) * Ideal.logistic (refGate X W h₀ (ix2 y0 y1)) * refUp X W h₀ (ix2 y0 y1) := by
    rw [Ideal.logistic]
    pointwise [refAct, ones]
  rw [e, refGate_apply, refUp_apply]
  rfl

end

/-! ## The claims -/

theorem quiescent_GatedHalves : Cert.quiescent_GatedHalves := fun m g _ => Cert.GatedHalves.Gen.frame m g

theorem quiescent_GatedHalvesIdeal : Cert.quiescent_GatedHalvesIdeal := fun m g _ => Cert.GatedHalvesIdeal.Gen.frame m g

theorem quiescent_GatedHalvesReferenceIdeal : Cert.quiescent_GatedHalvesReferenceIdeal := fun m g _ =>
  (θ_run _ _ _).mono (fun r h => ⟨fun c => (h c).2.2.2, sem_eq_zero_of_no_sems (by decide) _⟩) (Cert.GatedHalvesReferenceIdeal.Value.run (F := Ideal) m g)

theorem preserves : Cert.preserves_GatedHalves_GatedHalvesIdeal := trivial

theorem algebraic : Cert.algebraic_GatedHalvesIdeal_GatedHalvesReferenceIdeal := by
  intro m g m' g' _ hargs
  refine ⟨fun c => gateResult (xn m c) (wgu m c), fun c => upResult (xn m c) (wgu m c), fun c => actResult (xn m c) (wgu m c), ?_, ?_⟩
  · exact (θ_run _ _ _).mono (fun r h c => ⟨(h c).1.trans (gate_final m c), (h c).2.1.trans (up_final m c), (h c).2.2.1.trans (act_final m c), (h c).2.2.2⟩)
      (Cert.GatedHalvesIdeal.Value.run_blocks m g)
  · refine (θ_run _ _ _).mono (fun r h c => ?_) (Cert.GatedHalvesReferenceIdeal.Value.run (F := Ideal) m' g')
    obtain ⟨e0, e1⟩ := hargs c
    refine ⟨(h c).1.trans ?_, (h c).2.1.trans ?_, (h c).2.2.1.trans ?_, (h c).2.2.2⟩
    · rw [e0, e1]
      exact gate_reference (xn m c) (wgu m c) _
    · rw [e0, e1]
      exact up_reference (xn m c) (wgu m c) _
    · rw [e0, e1]
      exact act_reference (xn m c) (wgu m c) _

end Cert.GatedHalvesIdeal.Halves

end
-- ==== Proof.HalfLayerClaims.lean ====
/-
The half layer's output `h + 0.5 * (act @ w_down)`, and its norm `x * rsqrt(mean(x * x) + eps) * w`, the mean over each row: the kernel makes
both for a block of rows, the reference for the whole array, with the same operations in the same order.
-/
module

public import proofs.«01_k».proof.Defs
public import proofs.«01_k».proof.Proof.Blocks
public import proofs.«01_k».proof.Proof.Gen.HalfLayer.Frame
public import proofs.«01_k».proof.Proof.Gen.HalfLayerIdeal.Value
public import proofs.«01_k».proof.Proof.Gen.HalfLayerReferenceIdeal.Run
public import Idealize.ShloMosaic.Lib.Pipeline.Value
public import Idealize.ShloMosaic.Lib.Pipeline.ValueKit

@[expose] public section

set_option maxRecDepth 16384

noncomputable section

namespace Cert.HalfLayerIdeal.Half

open Cert.HalfLayerIdeal.Gen Cert.Ffn
open Idealize.ShloMosaic Idealize.ShloMosaic.TcCoe Idealize.SL.Sem

/-! ## One row -/

/-- A row over the root of its mean square, times a weight. -/
def normed (x : Fin 1024 → EReal) (w : EReal) (b : Fin 1024) : EReal :=
  x b * Ideal.rsqrt (Ideal.div (∑ j : Fin 1024, x j * x j) (Ideal.ofBits .f32 0x44800000#32) + Ideal.ofBits .f32 0x358637BD#32) * w

/-! ## One block -/

section
variable (x : Vec Ideal S768x2816 .bf16) (w : Vec Ideal S2816x1024 .bf16) (h : Vec Ideal S768x1024 .f32) (n : Vec Ideal S1x1024 .f32) (a : Fin 768) (b : Fin 1024)

theorem out_apply : k0_pay1 (F := Ideal) x w h (ix2 a b) = h (ix2 a b) + ((1 / 2 : ℝ) : EReal) * ∑ k : Fin 2816, x (ix2 a k) * w (ix2 k b) := by
  rw [← ofBits_half]
  pointwise [k0_pay1]

theorem norm_apply : k0_pay2 (F := Ideal) x w h n (ix2 a b) = normed (fun j => k0_pay1 (F := Ideal) x w h (ix2 a j)) (n (ix2 0 b)) b := by
  pointwise [k0_pay2, normed]

end

/-! ## The blocks of the arguments -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The activations on entry. -/
abbrev act : Vec Ideal S8448x2816 .bf16 := m ((c : Thread nD τ).loc main_arg0)
/-- The second weight on entry. -/
abbrev wdown : Vec Ideal S2816x1024 .bf16 := m ((c : Thread nD τ).loc main_arg1)
/-- The layer's input on entry. -/
abbrev hin : Vec Ideal S8448x1024 .f32 := m ((c : Thread nD τ).loc main_arg2)
/-- The norm's weight on entry. -/
abbrev nw : Vec Ideal S1x1024 .f32 := m ((c : Thread nD τ).loc main_arg3)

theorem iblk0 : (iblk m c 0 t : Vec Ideal S768x2816 .bf16) = fun y => act m c (ix2 (row t.val (y 0)) (y 1)) := by
  rw [act, ← V_main_arg0 m c]
  funext y
  have := row_val (block_lt t) (y 0)
  blk_ext [iblk, index0 t]

theorem iblk1 : (iblk m c 1 t : Vec Ideal S2816x1024 .bf16) = wdown m c := by
  rw [wdown, ← V_main_arg1 m c]
  funext y
  blk_ext [iblk, index1 t]

theorem iblk2 : (iblk m c 2 t : Vec Ideal S768x1024 .f32) = fun y => hin m c (ix2 (row t.val (y 0)) (y 1)) := by
  rw [hin, ← V_main_arg2 m c]
  funext y
  have := row_val (block_lt t) (y 0)
  blk_ext [iblk, index2 t]

theorem iblk3 : (iblk m c 3 t : Vec Ideal S1x1024 .f32) = nw m c := by
  rw [nw, ← V_main_arg3 m c]
  funext y
  blk_ext [iblk, index3 t]

/-! ## The results -/

section
variable (A : Vec Ideal S8448x2816 .bf16) (W : Vec Ideal S2816x1024 .bf16) (H : Vec Ideal S8448x1024 .f32) (N : Vec Ideal S1x1024 .f32)

/-- The half layer's output at an index. -/
def out (a : Fin 8448) (b : Fin 1024) : EReal := H (ix2 a b) + ((1 / 2 : ℝ) : EReal) * ∑ k : Fin 2816, A (ix2 a k) * W (ix2 k b)

def outResult : Vec Ideal S8448x1024 .f32 := fun y => out A W H (y 0) (y 1)

def normResult : Vec Ideal S8448x1024 .bf16 := fun y => normed (out A W H (y 0)) (N (ix2 0 (y 1))) (y 1)

end

theorem out_block (a : Fin 768) (b : Fin 1024) : k0_pay1 (F := Ideal) (iblk m c 0 t) (iblk m c 1 t) (iblk m c 2 t) (ix2 a b)
    = out (act m c) (wdown m c) (hin m c) (row t.val a) b := by
  rw [iblk0, iblk1, iblk2, out_apply]
  rfl

theorem out_final : (dats m 0 c).arrAt 4 cfg0.N = outResult (act m c) (wdown m c) (hin m c) := by
  refine (dats m 0 c).arrAt_eq_of_covers 4 _ (by decide +kernel) fun t hf y => ?_
  have := row_val (block_lt t) (y 0)
  blk_simp
  rw [after0_4]
  frame_out
  have e : k0_pay1 (F := Ideal) (iblk m c 0 t) (iblk m c 1 t) (iblk m c 2 t) y
      = outResult (act m c) (wdown m c) (hin m c) (ix2 (row t.val (y 0)) (y 1)) := by
    idx_vars y
    exact out_block m c t y0 y1
  refine e.trans (congrArg (outResult (act m c) (wdown m c) (hin m c)) ?_)
  blk_ext [index4 t]

theorem norm_final : (dats m 0 c).arrAt 5 cfg0.N = normResult (act m c) (wdown m c) (hin m c) (nw m c) := by
  refine (dats m 0 c).arrAt_eq_of_covers 5 _ (by decide +kernel) fun t hf y => ?_
  have := row_val (block_lt t) (y 0)
  blk_simp
  rw [after0_5]
  frame_out
  have e : k0_pay2 (F := Ideal) (iblk m c 0 t) (iblk m c 1 t) (iblk m c 2 t) (iblk m c 3 t) y
      = normResult (act m c) (wdown m c) (hin m c) (nw m c) (ix2 (row t.val (y 0)) (y 1)) := by
    idx_vars y
    rw [norm_apply, iblk3]
    exact congrArg (fun x => normed x _ _) (funext fun j => out_block m c t y0 j)
  refine e.trans (congrArg (normResult (act m c) (wdown m c) (hin m c) (nw m c)) ?_)
  blk_ext [index5 t]

/-! ## The reference's stages -/

section
variable (A : Vec Ideal S8448x2816 .bf16) (W : Vec Ideal S2816x1024 .bf16) (H : Vec Ideal S8448x1024 .f32) (N : Vec Ideal S1x1024 .f32)
variable (h₀ : FTy.bits .bf16 < FTy.bits .f32)

open Cert.HalfLayerReferenceIdeal.Facts₀ in
def refOut : FVec Ideal S8448x1024 .f32 :=
  addf H (mulf (broadcastInDim S8448x1024 ![] bcast_S_S8448x1024 (constant Cert.HalfLayerReferenceIdeal.S_ .f32 0x3F000000#32))
    (Host.dotGeneral (F := Ideal) Cert.HalfLayerReferenceIdeal.dot_S8448x2816_S2816x1024_S8448x1024_1_0_0_1_n_n none
      (extf (φ := .bf16) .f32 A h₀) (extf (φ := .bf16) .f32 W h₀)))

theorem refOut_eq : refOut A W H h₀ = outResult A W H := by
  funext y
  idx_vars y
  show _ = out A W H y0 y1
  rw [out, ← ofBits_half]
  pointwise [refOut]

open Cert.HalfLayerReferenceIdeal Cert.HalfLayerReferenceIdeal.Facts₀ in
/-- The norm of an array's rows. -/
def refNorm (x : FVec Ideal S8448x1024 .f32) : FVec Ideal S8448x1024 .bf16 :=
  truncf .bf16 (mulf (mulf x (broadcastInDim S8448x1024 ![0, 1] bcast_S8448x1_S8448x1024_0_1 (Host.rsqrt (addf (Host.divf
    (broadcastInDim S8448x1 ![0] bcast_S8448_S8448x1_0 (Host.reduceAdd (mulf x x) (constant S_ .f32 0x00000000#32) reducesTo_S8448x1024_S8448_d1 h_S_))
    (broadcastInDim S8448x1 ![] bcast_S_S8448x1 (constant S_ .f32 0x44800000#32))) (broadcastInDim S8448x1 ![] bcast_S_S8448x1 (constant S_ .f32 0x358637BD#32))))))
    (broadcastInDim S8448x1024 ![0, 1] bcast_S1x1024_S8448x1024_0_1 (broadcastInDim S1x1024 ![1] bcast_S1024_S1x1024_1 (shapeCast _ N shapeCasts_S1x1024_S1024)))) h₀

theorem refNorm_apply (x : FVec Ideal S8448x1024 .f32) (a : Fin 8448) (b : Fin 1024) :
    refNorm N h₀ x (ix2 a b) = normed (fun j => x (ix2 a j)) (N (ix2 0 b)) b := by
  pointwise [refNorm, normed]

theorem norm_reference : refNorm N h₀ (refOut A W H h₀) = normResult A W H N := by
  funext y
  idx_vars y
  rw [refNorm_apply, refOut_eq]
  rfl

end

/-! ## The claims -/

theorem quiescent_HalfLayer : Cert.quiescent_HalfLayer := fun m g _ => Cert.HalfLayer.Gen.frame m g

theorem quiescent_HalfLayerIdeal : Cert.quiescent_HalfLayerIdeal := fun m g _ => Cert.HalfLayerIdeal.Gen.frame m g

theorem quiescent_HalfLayerReferenceIdeal : Cert.quiescent_HalfLayerReferenceIdeal := fun m g _ =>
  (θ_run _ _ _).mono (fun r h => ⟨fun c => (h c).2.2, sem_eq_zero_of_no_sems (by decide) _⟩) (Cert.HalfLayerReferenceIdeal.Value.run (F := Ideal) m g)

theorem preserves : Cert.preserves_HalfLayer_HalfLayerIdeal := trivial

theorem algebraic : Cert.algebraic_HalfLayerIdeal_HalfLayerReferenceIdeal := by
  intro m g m' g' _ hargs
  refine ⟨fun c => outResult (act m c) (wdown m c) (hin m c), fun c => normResult (act m c) (wdown m c) (hin m c) (nw m c), ?_, ?_⟩
  · exact (θ_run _ _ _).mono (fun r h c => ⟨(h c).1.trans (out_final m c), (h c).2.1.trans (norm_final m c), (h c).2.2⟩) (Cert.HalfLayerIdeal.Value.run_blocks m g)
  · refine (θ_run _ _ _).mono (fun r h c => ?_) (Cert.HalfLayerReferenceIdeal.Value.run (F := Ideal) m' g')
    obtain ⟨e0, e1, e2, e3⟩ := hargs c
    refine ⟨(h c).1.trans ?_, (h c).2.1.trans ?_, (h c).2.2⟩
    · rw [e0, e1, e2]
      exact refOut_eq (act m c) (wdown m c) (hin m c) _
    · rw [e0, e1, e2, e3]
      exact norm_reference (act m c) (wdown m c) (hin m c) (nw m c) _

end Cert.HalfLayerIdeal.Half

end
-- ==== Proof.OnlineSoftmax.lean ====
/-
A softmax taken in one pass over blocks of keys, over extended reals: a running maximum, with the sums of the powers of two of the
scores less the maximum rescaled when it grows. Nothing here speaks of a program.
-/
module

public import proofs.«01_k».proof.Proof.Share
public import proofs.«01_k».proof.Proof.RefValue

@[expose] public section

noncomputable section

namespace Cert.Attention

open Idealize.ShloMosaic
open Cert.KernelIdeal.Grad (row row_val sum_rows)

/-- The scale of the scores. -/
def scale : ℝ := 3424635 / 33554432
/-- The scale of the scores, over the logarithm of two. -/
def rate : ℝ := (3424635 / 33554432) * (Real.log 2)⁻¹

theorem log_two_pos : 0 < Real.log 2 := Real.log_pos (by norm_num)
theorem rate_pos : 0 < rate := mul_pos (by norm_num) (inv_pos.mpr log_two_pos)
theorem rate_eq : rate = scale / Real.log 2 := (div_eq_mul_inv _ _).symm

/-- The power of two of a score less a shift, at the rate; nothing for a masked score. -/
def power (μ : ℝ) (s : EReal) : ℝ := if s = ⊥ then 0 else (2 : ℝ) ^ ((s.toReal - μ) * rate)

theorem exp2_real {s : EReal} (hs : s ≠ ⊤) (μ : ℝ) : Ideal.exp2 ((s - (μ : EReal)) * (rate : EReal)) = (power μ s : EReal) := by
  induction s with
  | bot => rw [EReal.bot_sub, EReal.bot_mul_coe_of_pos rate_pos, Ideal.exp2_bot, power, if_pos rfl, EReal.coe_zero]
  | top => exact absurd rfl hs
  | coe x =>
    rw [← EReal.coe_sub, ← EReal.coe_mul, Ideal.exp2_coe, power, if_neg (EReal.coe_ne_bot _), EReal.toReal_coe]
    rfl

theorem power_nonneg (μ : ℝ) (s : EReal) : 0 ≤ power μ s := by
  unfold power
  split
  · exact le_rfl
  · exact Real.rpow_nonneg (by norm_num) _

/-- A nonnegative real factor goes into a sum of extended reals. -/
theorem coe_mul_sum {κ : Type} {p : ℝ} (hp : 0 ≤ p) (s : Finset κ) (f : κ → EReal) : (p : EReal) * ∑ i ∈ s, f i = ∑ i ∈ s, (p : EReal) * f i := by
  classical
  induction s using Finset.induction_on with
  | empty => rw [Finset.sum_empty, Finset.sum_empty, mul_zero]
  | insert a s ha ih =>
    rw [Finset.sum_insert ha, Finset.sum_insert ha, EReal.left_distrib_of_nonneg_of_ne_top (EReal.coe_nonneg.mpr hp) (EReal.coe_ne_top _), ih]

/-- A change of the shift. -/
theorem power_shift (μ μ' : ℝ) (s : EReal) : power μ' (μ : EReal) * power μ s = power μ' s := by
  rw [power, if_neg (EReal.coe_ne_bot _), EReal.toReal_coe]
  unfold power
  split
  · rw [mul_zero]
  · rw [← Real.rpow_add (by norm_num)]
    congr 1
    ring

section
variable {ι : Type} (S : ℕ → Fin 768 → EReal) (V : ℕ → Fin 768 → ι → EReal)

/-- What is carried after the first `n` blocks: nothing before the first; then a real shift, and the sums of the powers alone and
times the values. -/
def Carried (n : ℕ) (M L : EReal) (A : ι → EReal) : Prop :=
  (n = 0 ∧ M = ⊥ ∧ L = 0 ∧ ∀ d, A d = 0)
  ∨ ∃ μ : ℝ, M = (μ : EReal) ∧ L = ((∑ b ∈ Finset.range n, ∑ y, power μ (S b y) : ℝ) : EReal)
    ∧ ∀ d, A d = ∑ b ∈ Finset.range n, ∑ y, V b y d * (power μ (S b y) : EReal)

variable {S V}

/-- One more block, with a score in it that is not masked. -/
theorem Carried.step {n : ℕ} {M L M' : EReal} {A : ι → EReal} (h : Carried S V n M L A) (hS : ∀ y, S n y ≠ ⊤) (y0 : Fin 768)
    (h0 : S n y0 ≠ ⊥) (hM : M' = max M (Finset.univ.fold max ⊥ fun y => S n y)) :
    Carried S V (n + 1) M' (Ideal.exp2 ((M - M') * (rate : EReal)) * L + ∑ y, Ideal.exp2 ((S n y - M') * (rate : EReal)))
      fun d => Ideal.exp2 ((M - M') * (rate : EReal)) * A d + ∑ y, V n y d * Ideal.exp2 ((S n y - M') * (rate : EReal)) := by
  obtain ⟨τ, hτ⟩ := fold_max_real _ y0 h0 hS
  rw [hτ] at hM
  have hp : ∀ μ' : ℝ, (∑ y, Ideal.exp2 ((S n y - (μ' : EReal)) * (rate : EReal))) = ((∑ y, power μ' (S n y) : ℝ) : EReal) := fun μ' => by
    rw [coe_sum]
    exact Finset.sum_congr rfl fun y _ => exp2_real (hS y) μ'
  have hv : ∀ (μ' : ℝ) (d : ι), (∑ y, V n y d * Ideal.exp2 ((S n y - (μ' : EReal)) * (rate : EReal)))
      = ∑ y, V n y d * (power μ' (S n y) : EReal) := fun μ' d =>
    Finset.sum_congr rfl fun y _ => by rw [exp2_real (hS y) μ']
  right
  rcases h with ⟨rfl, rfl, rfl, hA⟩ | ⟨μ, rfl, rfl, hA⟩
  · have e : M' = (τ : EReal) := hM.trans (max_eq_right bot_le)
    subst e
    refine ⟨τ, rfl, ?_, fun d => ?_⟩
    · rw [mul_zero, zero_add, hp, Finset.sum_range_succ, Finset.sum_range_zero, zero_add]
    · simp only [hA]
      rw [mul_zero, zero_add, hv, Finset.sum_range_succ, Finset.sum_range_zero, zero_add]
  · have e : M' = ((max μ τ : ℝ) : EReal) := hM.trans (EReal.coe_strictMono.monotone.map_max).symm
    subst e
    refine ⟨max μ τ, rfl, ?_, fun d => ?_⟩
    · rw [exp2_real (EReal.coe_ne_top _), hp, ← EReal.coe_mul, ← EReal.coe_add, Finset.sum_range_succ, Finset.mul_sum]
      simp only [Finset.mul_sum, power_shift]
    · simp only [hA]
      rw [exp2_real (EReal.coe_ne_top _), hv, Finset.sum_range_succ]
      simp only [coe_mul_sum (power_nonneg _ _), mul_left_comm _ (V _ _ _), ← EReal.coe_mul, power_shift]

end

/-! ## The whole row -/

section
variable (q k : Fin 8448 → Fin 128 → ℝ) (v : Fin 8448 → Fin 128 → EReal)

/-- The masked scores of a row before scaling, block by block. -/
def blockScore (r : Fin 8448) (b : ℕ) (y : Fin 768) : EReal :=
  if row b y ≤ r then ((∑ d, k (row b y) d * q r d : ℝ) : EReal) else ⊥
/-- The values, block by block. -/
def blockVal (b : ℕ) (y : Fin 768) (d : Fin 128) : EReal := v (row b y) d
/-- The attention's output, of values that may be infinite. -/
def mix (r : Fin 8448) (d : Fin 128) : EReal := ∑ a, (weight q k r a : EReal) * v a d

theorem blockScore_ne_top (r : Fin 8448) (b : ℕ) (y : Fin 768) : blockScore q k r b y ≠ ⊤ := by
  unfold blockScore
  split
  · exact EReal.coe_ne_top _
  · exact bot_ne_top

variable {q k v}
variable {Q : Fin 8448 → Fin 128 → ℝ} (hQ : ∀ r d, Q r d = q r d * (3424635 / 33554432))

include hQ in
theorem power_eq (μ : ℝ) (r : Fin 8448) (b : ℕ) (y : Fin 768) :
    power μ (blockScore q k r b y) = shifted Q k (fun _ => μ * scale) r (row b y) := by
  unfold power blockScore shifted
  by_cases h : row b y ≤ r
  · rw [if_pos h, if_pos h, if_neg (EReal.coe_ne_bot _), EReal.toReal_coe, Real.rpow_def_of_pos (by norm_num)]
    congr 1
    have e : score Q k r (row b y) = (∑ d, k (row b y) d * q r d) * scale := by
      rw [score, Finset.sum_mul]
      refine Finset.sum_congr rfl fun d _ => ?_
      rw [hQ, scale]
      ring
    rw [e, rate_eq]
    have := log_two_pos.ne'
    field_simp
  · rw [if_neg h, if_neg h, if_pos rfl]

/-- The blocks up to the row's own hold all the keys that the row sees. -/
theorem sum_seen {M : Type} [AddCommMonoid M] (f : Fin 8448 → M) (r : Fin 8448) (i : ℕ) (hi : i < 11) (hr : r.val < 768 * (i + 1)) (hf : ∀ a, ¬ a ≤ r → f a = 0) :
    ∑ b ∈ Finset.range (i + 1), ∑ y, f (row b y) = ∑ a, f a := by
  rw [← sum_rows]
  refine Finset.sum_subset (fun b hb => ?_) fun b hb hb' => Finset.sum_eq_zero fun y _ => hf _ fun h => ?_
  · rw [Finset.mem_range] at hb ⊢
    omega
  · rw [Finset.mem_range] at hb hb'
    rw [Fin.le_def, row_val hb] at h
    omega

include hQ in
/-- The quotient of the sums after the last block is the attention's output, and the log-sum is that of the row. -/
theorem Carried.last {r : Fin 8448} {i : ℕ} (hi : i < 11) (hr : r.val < 768 * (i + 1)) {M L : EReal} {A : Fin 128 → EReal}
    (h : Carried (blockScore q k r) (blockVal v) (i + 1) M L A) :
    (∀ d, Ideal.div (A d) L = mix Q k v r d)
    ∧ M * (rate : EReal) + Ideal.log L * (((Real.log 2)⁻¹ : ℝ) : EReal) = ((Real.log (norm Q k r) / Real.log 2 : ℝ) : EReal) := by
  rcases h with ⟨h, -⟩ | ⟨μ, rfl, rfl, hA⟩
  · exact absurd h (Nat.succ_ne_zero i)
  have hz : ∀ a, ¬ a ≤ r → shifted Q k (fun _ => μ * scale) r a = 0 := fun a ha => if_neg ha
  have hL : ∑ b ∈ Finset.range (i + 1), ∑ y, power μ (blockScore q k r b y) = shiftedNorm Q k (fun _ => μ * scale) r := by
    simp only [power_eq hQ]
    exact sum_seen _ r i hi hr hz
  have hpos := shiftedNorm_pos Q k (fun _ => μ * scale) r
  constructor
  · intro d
    rw [hA, hL, Ideal.div, if_neg (EReal.coe_ne_zero.mpr hpos.ne'), ← EReal.coe_inv, mul_comm]
    simp only [power_eq hQ]
    refine (congrArg (_ * ·) (sum_seen (fun a => v a d * (shifted Q k (fun _ => μ * scale) r a : EReal)) r i hi hr
      fun a ha => by rw [hz a ha, EReal.coe_zero, mul_zero])).trans ?_
    rw [coe_mul_sum (inv_nonneg.mpr hpos.le), mix]
    refine Finset.sum_congr rfl fun a _ => ?_
    rw [← shifted_weight Q k fun _ => μ * scale, div_eq_mul_inv, EReal.coe_mul]
    ac_rfl
  · rw [hL, Ideal.log_coe, if_neg (not_le.mpr hpos), ← EReal.coe_mul, ← EReal.coe_mul, ← EReal.coe_add]
    congr 1
    rw [shiftedNorm_eq, Real.log_mul (norm_pos Q k r).ne' (Real.exp_pos _).ne', Real.log_exp, rate_eq]
    ring

/-- The log-sum does not depend on the shift. -/
theorem shifted_log (s : Fin 8448 → ℝ) (r : Fin 8448) : s r + Real.log (shiftedNorm Q k s r) = Real.log (norm Q k r) := by
  rw [shiftedNorm_eq, Real.log_mul (norm_pos Q k r).ne' (Real.exp_pos _).ne', Real.log_exp]
  ring

end

end Cert.Attention

end
-- ==== Proof.AttnForwardTile.lean ====
/-
The vectors that the attention kernel computes on one block of keys and one block of query rows, read at an index: the masked
scores, the running maximum, and the sums kept with it. A column is a query row.
-/
module

public import proofs.«01_k».proof.Proof.OnlineSoftmax
public import proofs.«01_k».proof.Proof.Gen.AttnForwardIdeal.Skeleton
public import Idealize.ShloMosaic.Lib.Pointwise

@[expose] public section

set_option maxRecDepth 16384

noncomputable section

namespace Cert.AttnForwardIdeal.Pass

open Cert.AttnForwardIdeal.Gen
open Cert.Attention (rate ofBits_neg_inf Carried)
open Idealize.ShloMosaic Idealize.ShloMosaic.TcCoe

theorem named_rate : (Named.named κ "scale_log2e" 0x3E16C740#32 : Ideal .f32) = (rate : EReal) :=
  IdealRules.named_const.ideal_named_scalar _ _ _ _ rfl

theorem named_mask : (Named.named κ "mask" 0xF149F2CA#32 : Ideal .f32) = (⊥ : EReal) :=
  IdealRules.named_const.ideal_named_scalar _ _ _ _ rfl

theorem named_log2e : (Named.named κ "log2e" 0x3FB8AA3B#32 : Ideal .f32) = (((Real.log 2)⁻¹ : ℝ) : EReal) :=
  IdealRules.named_const.ideal_named_scalar _ _ _ _ rfl

variable (q k : Vec Ideal S768x128 .bf16) (m l : FVec Ideal S1x768 .f32) (acc : FVec Ideal S128x768 .f32) (v : Vec Ideal S1x1x128x768 .bf16)

/-- The score of key `a` in query row `r`, before scaling. -/
def sc (a r : Fin 768) : EReal := ∑ d : Fin 128, k (ix2 a d) * q (ix2 r d)

theorem pay8_apply (a r : Fin 768) : k0_pay8 (F := Ideal) q k (ix2 a r) = sc q k a r := by
  pointwise [k0_pay8, sc]

theorem pay9_apply (r : Fin 768) :
    k0_pay9 (F := Ideal) q m k (ix2 0 r) = max (m (ix2 0 r)) (Finset.univ.fold max ⊥ fun a => sc q k a r) := by
  pointwise [k0_pay9]
  rw [ofBits_neg_inf]
  simp only [pay8_apply]

theorem pay10_apply (a r : Fin 768) :
    k0_pay10 (F := Ideal) q m k (ix2 a r) = Ideal.exp2 ((sc q k a r - k0_pay9 (F := Ideal) q m k (ix2 0 r)) * (rate : EReal)) := by
  pointwise [k0_pay10]
  rw [named_rate, pay8_apply]
  rfl

theorem pay11_apply (r : Fin 768) :
    k0_pay11 (F := Ideal) q m k (ix2 0 r) = Ideal.exp2 ((m (ix2 0 r) - k0_pay9 (F := Ideal) q m k (ix2 0 r)) * (rate : EReal)) := by
  pointwise [k0_pay11]
  rw [named_rate]
  rfl

theorem pay12_apply (r : Fin 768) :
    k0_pay12 (F := Ideal) q m l k (ix2 0 r)
      = Ideal.exp2 ((m (ix2 0 r) - k0_pay9 (F := Ideal) q m k (ix2 0 r)) * (rate : EReal)) * l (ix2 0 r)
        + ∑ a : Fin 768, Ideal.exp2 ((sc q k a r - k0_pay9 (F := Ideal) q m k (ix2 0 r)) * (rate : EReal)) := by
  pointwise [k0_pay12]
  simp only [pay10_apply, pay11_apply]

theorem pay13_apply (d : Fin 128) (r : Fin 768) :
    k0_pay13 (F := Ideal) q m acc k v (ix2 d r)
      = Ideal.exp2 ((m (ix2 0 r) - k0_pay9 (F := Ideal) q m k (ix2 0 r)) * (rate : EReal)) * acc (ix2 d r)
        + ∑ a : Fin 768, v (ix4 0 0 d a) * Ideal.exp2 ((sc q k a r - k0_pay9 (F := Ideal) q m k (ix2 0 r)) * (rate : EReal)) := by
  pointwise [k0_pay13]
  simp only [pay10_apply, pay11_apply]

/-- The score on the diagonal block, masked where the key comes after the row. -/
def scM (a r : Fin 768) : EReal := if a.val ≤ r.val then sc q k a r else ⊥

theorem pay20_apply (i : grid0.Coords) (a r : Fin 768) : k0_pay20 (F := Ideal) i q k (ix2 a r) = scM q k a r := by
  pointwise [k0_pay20, scM, sc]
  rw [named_mask, Scalar.select]
  exact if_congr (Cert.KernelIdeal.Grad.mask_iff i a r) rfl rfl

theorem pay21_apply (i : grid0.Coords) (r : Fin 768) :
    k0_pay21 (F := Ideal) i q m k (ix2 0 r) = max (m (ix2 0 r)) (Finset.univ.fold max ⊥ fun a => scM q k a r) := by
  pointwise [k0_pay21]
  rw [ofBits_neg_inf]
  simp only [pay20_apply]

theorem pay22_apply (i : grid0.Coords) (a r : Fin 768) :
    k0_pay22 (F := Ideal) i q m k (ix2 a r) = Ideal.exp2 ((scM q k a r - k0_pay21 (F := Ideal) i q m k (ix2 0 r)) * (rate : EReal)) := by
  pointwise [k0_pay22]
  rw [named_rate, pay20_apply]
  rfl

theorem pay23_apply (i : grid0.Coords) (r : Fin 768) :
    k0_pay23 (F := Ideal) i q m k (ix2 0 r) = (m (ix2 0 r) - k0_pay21 (F := Ideal) i q m k (ix2 0 r)) * (rate : EReal) := by
  pointwise [k0_pay23]
  rw [named_rate]

section
variable (p : FVec Ideal S768x768 .f32) (e M : FVec Ideal S1x768 .f32)

theorem pay2_apply (r : Fin 768) :
    k0_pay2 (F := Ideal) l p e (ix2 0 r) = Ideal.exp2 (e (ix2 0 r)) * l (ix2 0 r) + ∑ a : Fin 768, p (ix2 a r) := by
  pointwise [k0_pay2, k0_pay1]
  rfl

theorem pay3_apply (r : Fin 768) (d : Fin 128) :
    k0_pay3 (F := Ideal) l acc p e v (ix2 r d)
      = Ideal.div (Ideal.exp2 (e (ix2 0 r)) * acc (ix2 d r) + ∑ a : Fin 768, v (ix4 0 0 d a) * p (ix2 a r))
          (k0_pay2 (F := Ideal) l p e (ix2 0 r)) := by
  pointwise [k0_pay3, k0_pay1]
  rfl

theorem pay4_apply (r : Fin 768) :
    k0_pay4 (F := Ideal) l M p e (ix4 0 0 0 r)
      = M (ix2 0 r) * (rate : EReal) + Ideal.log (k0_pay2 (F := Ideal) l p e (ix2 0 r)) * (((Real.log 2)⁻¹ : ℝ) : EReal) := by
  pointwise [k0_pay4]
  rw [named_rate, named_log2e]
end

/-! ## What is carried from block to block -/

section
variable {S : ℕ → Fin 768 → EReal} {V : ℕ → Fin 768 → Fin 128 → EReal} {n : ℕ} {r : Fin 768}
  (h : Carried S V n (m (ix2 0 r)) (l (ix2 0 r)) fun d => acc (ix2 d r))
  (hv : ∀ (a : Fin 768) (d : Fin 128), v (ix4 0 0 d a) = V n a d) (hS : ∀ a, S n a ≠ ⊤) (y0 : Fin 768) (h0 : S n y0 ≠ ⊥)

include h hv hS h0 in
/-- A trip of the loop takes in one more block. -/
theorem carried_next (hs : ∀ a, sc q k a r = S n a) :
    Carried S V (n + 1) (k0_pay9 (F := Ideal) q m k (ix2 0 r)) (k0_pay12 (F := Ideal) q m l k (ix2 0 r))
      fun d => k0_pay13 (F := Ideal) q m acc k v (ix2 d r) := by
  have hM := pay9_apply q k m r
  simp only [hs] at hM
  simp only [pay12_apply, pay13_apply, hs, hv]
  exact h.step hS y0 h0 hM

include h hv hS h0 in
/-- The diagonal block is taken in after the loop. -/
theorem carried_diag (i : grid0.Coords) (hs : ∀ a, scM q k a r = S n a) :
    Carried S V (n + 1) (k0_pay21 (F := Ideal) i q m k (ix2 0 r))
      (k0_pay2 (F := Ideal) l (k0_pay22 (F := Ideal) i q m k) (k0_pay23 (F := Ideal) i q m k) (ix2 0 r))
      fun d => Ideal.exp2 (k0_pay23 (F := Ideal) i q m k (ix2 0 r)) * acc (ix2 d r)
        + ∑ a : Fin 768, v (ix4 0 0 d a) * k0_pay22 (F := Ideal) i q m k (ix2 a r) := by
  have hM := pay21_apply q k m i r
  simp only [hs] at hM
  simp only [pay2_apply, pay22_apply, pay23_apply, hs, hv]
  exact h.step hS y0 h0 hM
end

end Cert.AttnForwardIdeal.Pass

end
-- ==== Proof.AttnForwardRun.lean ====
/-
The attention kernel's body in closed form: the loop over the earlier blocks of keys, then the diagonal block.
-/
module

public import proofs.«01_k».proof.Proof.AttnForwardTile
public import proofs.«01_k».proof.Proof.Gen.AttnForwardIdeal.Frame
public import proofs.«01_k».proof.Proof.Gen.AttnForwardIdeal.Value
public import Idealize.ShloMosaic.Lib.Pipeline.ReadBack
public import Idealize.ShloMosaic.Lib.Pipeline.ValueKit

@[expose] public section

set_option maxRecDepth 16384

noncomputable section

namespace Cert.AttnForwardIdeal.Pass

open Cert.AttnForwardIdeal.Gen
open Cert.Attention (rate Carried blockScore blockScore_ne_top blockVal)
open Cert.KernelIdeal.Grad (row row_val)
open Idealize.ShloMosaic Idealize.ShloMosaic.TcCoe

/-! ## Where the body loads -/

section
variable (i : grid0.Coords)

theorem coord_lt : (i 1).val < 11 := (i 1).isLt

theorem isInt_i : Affine.IsInt (BitVec.ofNat 32 (i 1).val) (i 1).val :=
  Affine.ofNat _ ⟨rfl, by have := coord_lt i; omega⟩

theorem off5_eq : k0_off5 i = ![768 * (i 1).val, 0] := by
  have hi := coord_lt i
  have h : Affine.IsInt (Scalar.muli (BitVec.ofNat 32 (i 1).val) 768#32) ((i 1).val * 768) :=
    Affine.muli (isInt_i i) (Affine.ofNat 768 ⟨rfl, by omega⟩) ⟨by norm_num, by omega, by omega⟩
  have := Affine.toNat_of h (by omega)
  show ![(Scalar.muli (BitVec.ofNat 32 (i 1).val) 768#32).toNat, 0] = _
  congr 1
  omega

theorem off6_eq : k0_off6 i = ![0, (i 1).val, 0, 0] := by
  have := Affine.toNat_of (isInt_i i) (by omega)
  show ![0, (BitVec.ofNat 32 (i 1).val).toNat, 0, 0] = _
  congr 2
  omega

theorem trips1_eq : (k0_t1_loop i).trips = (i 1).val := by
  revert i; decide +kernel

theorem trips2_eq : (k0_t2_loop i).trips = 0 := by
  revert i; decide +kernel

variable (n : Fin (k0_t1_loop i).trips)

theorem trip_lt : n.val < (i 1).val := lt_of_lt_of_eq n.isLt (trips1_eq i)

theorem isInt_iv : Affine.IsInt (Scf.iv 0#32 1#32 n) n.val := by
  have := trip_lt i n
  have := coord_lt i
  exact Affine.iv (Affine.ofNat 0 ⟨rfl, by omega⟩) (Affine.ofNat 1 ⟨rfl, by omega⟩) n.val ⟨by push_cast; ring, by omega, by omega⟩

theorem off1_eq : k0_off1 i n = ![768 * n.val, 0] := by
  have := trip_lt i n
  have := coord_lt i
  have h : Affine.IsInt (Scalar.muli (Scf.iv 0#32 1#32 n) 768#32) (n.val * 768) :=
    Affine.muli (isInt_iv i n) (Affine.ofNat 768 ⟨rfl, by omega⟩) ⟨by norm_num, by omega, by omega⟩
  have := Affine.toNat_of h (by omega)
  show ![(Scalar.muli (Scf.iv 0#32 1#32 n) 768#32).toNat, 0] = _
  congr 1
  omega

theorem off2_eq : k0_off2 i n = ![0, n.val, 0, 0] := by
  have := Affine.toNat_of (isInt_iv i n) (by omega)
  show ![0, (Scf.iv 0#32 1#32 n).toNat, 0, 0] = _
  congr 2
  omega
end

section
variable {e : EltTy}

/-- The load of 768 rows at `off`. -/
abbrev ldRows (M : Memref sig .tc .vmem S8448x128 e) (f : M.view.ty.Contents (Elt Ideal)) (off : Fin 2 → ℕ)
    (inb : ∀ a, off a + (![768, 128] : Fin 2 → ℕ) a ≤ S8448x128.size a) : Vec Ideal S768x128 e :=
  View.readAt (Elt Ideal) M.view (Rect.unit (s := S8448x128) off ![768, 128] inb).toLoadRect f

/-- The load of one block of values at `off`. -/
abbrev ldVals (M : Memref sig .tc .vmem S1x11x128x768 e) (f : M.view.ty.Contents (Elt Ideal)) (off : Fin 4 → ℕ)
    (inb : ∀ a, off a + (![1, 1, 128, 768] : Fin 4 → ℕ) a ≤ S1x11x128x768.size a) : Vec Ideal S1x1x128x768 e :=
  View.readAt (Elt Ideal) M.view (Rect.unit (s := S1x11x128x768) off ![1, 1, 128, 768] inb).toLoadRect f

theorem read_rows (M : Memref sig .tc .vmem S8448x128 e) (f : M.view.ty.Contents (Elt Ideal)) {off : Fin 2 → ℕ}
    (inb : ∀ a, off a + (![768, 128] : Fin 2 → ℕ) a ≤ S8448x128.size a) {b : ℕ} (hb : b < 11) (h : off = ![768 * b, 0])
    (r : Fin 768) (d : Fin 128) :
    ldRows M f off inb (ix2 r d) = M.view.read (Elt Ideal) f (ix2 (row b r) d) := by
  subst h
  refine congrArg (M.view.read (Elt Ideal) f) (funext fun a => Fin.ext ?_)
  fin_cases a
  · show 768 * b + 1 * r.val = (row b r).val
    rw [row_val hb]; omega
  · show 0 + 1 * d.val = d.val
    omega

theorem read_vals (M : Memref sig .tc .vmem S1x11x128x768 e) (f : M.view.ty.Contents (Elt Ideal)) {off : Fin 4 → ℕ}
    (inb : ∀ a, off a + (![1, 1, 128, 768] : Fin 4 → ℕ) a ≤ S1x11x128x768.size a) {b : ℕ} (hb : b < 11) (h : off = ![0, b, 0, 0])
    (d : Fin 128) (r : Fin 768) :
    ldVals M f off inb (ix4 0 0 d r) = M.view.read (Elt Ideal) f (ix4 0 ⟨b, hb⟩ d r) := by
  subst h
  refine congrArg (M.view.read (Elt Ideal) f) (funext fun a => Fin.ext ?_)
  fin_cases a
  · rfl
  · show b + 1 * 0 = b
    omega
  · show 0 + 1 * d.val = d.val
    omega
  · show 0 + 1 * r.val = r.val
    omega
end

/-! ## The loop -/

section
variable (c : Dev nD) (i : grid0.Coords)
  (qM : Memref sig .tc .vmem S768x128 .bf16) (hqM : qM.IsWhole) (kM : Memref sig .tc .vmem S8448x128 .bf16) (hkM : kM.IsWhole)
  (vM : Memref sig .tc .vmem S1x11x128x768 .bf16) (hvM : vM.IsWhole) (oM : Memref sig .tc .vmem S768x128 .bf16) (hoM : oM.IsWhole)
  (lM : Memref sig .tc .vmem S1x1x1x768 .f32) (hlM : lM.IsWhole) (bd : Option Variants.none.V)
  (x : Vec Ideal S768x128 .bf16) (X : kM.view.ty.Contents (Elt Ideal)) (Y : vM.view.ty.Contents (Elt Ideal))

theorem tripR_eq (n : Fin (k0_t1_loop i).trips) (s : FVec Ideal S1x768 .f32 × FVec Ideal S1x768 .f32 × FVec Ideal S128x768 .f32) :
    tripR_k0_t1 (F := Ideal) Variants.none c bd i qM hqM kM hkM vM hvM oM hoM lM hlM x X Y n s
      = (k0_pay9 x s.1 (ldRows kM X (k0_off1 i n) (k0_off1_inb i n)),
        k0_pay12 x s.1 s.2.1 (ldRows kM X (k0_off1 i n) (k0_off1_inb i n)),
        k0_pay13 x s.1 s.2.2 (ldRows kM X (k0_off1 i n) (k0_off1_inb i n)) (ldVals vM Y (k0_off2 i n) (k0_off2_inb i n))) := by
  unfold tripR_k0_t1 trip_k0_t1
  rfl

/-- What the loop carries before its trip `n`. -/
def state (n : ℕ) : FVec Ideal S1x768 .f32 × FVec Ideal S1x768 .f32 × FVec Ideal S128x768 .f32 :=
  st_k0_t1 (F := Ideal) Variants.none c bd i qM hqM kM hkM vM hvM oM hoM lM hlM x X Y (k0_pay5, k0_pay6, k0_pay7) n

variable {q k : Fin 8448 → Fin 128 → ℝ} {v : Fin 8448 → Fin 128 → EReal}
  (hx : ∀ r d, x (ix2 r d) = (q (row (i 1).val r) d : EReal))
  (hX : ∀ r d, kM.view.read (Elt Ideal) X (ix2 r d) = (k r d : EReal))
  (hY : ∀ b d y, vM.view.read (Elt Ideal) Y (ix4 0 b d y) = v (row b.val y) d)

include hx hX in
theorem score_eq {b : ℕ} (hb : b < 11) {off : Fin 2 → ℕ} (inb : ∀ a, off a + (![768, 128] : Fin 2 → ℕ) a ≤ S8448x128.size a)
    (h : off = ![768 * b, 0]) (a r : Fin 768) :
    sc x (ldRows kM X off inb) a r = ((∑ d, k (row b a) d * q (row (i 1).val r) d : ℝ) : EReal) := by
  rw [sc, Cert.Attention.coe_sum]
  exact Finset.sum_congr rfl fun d _ => by rw [read_rows kM X inb hb h, hX, hx, EReal.coe_mul]

include hx hX hY in
theorem loop_carried (n : ℕ) (hn : n ≤ (k0_t1_loop i).trips) (r : Fin 768) :
    Carried (blockScore q k (row (i 1).val r)) (blockVal v) n
      ((state c i qM hqM kM hkM vM hvM oM hoM lM hlM bd x X Y n).1 (ix2 0 r))
      ((state c i qM hqM kM hkM vM hvM oM hoM lM hlM bd x X Y n).2.1 (ix2 0 r))
      fun d => (state c i qM hqM kM hkM vM hvM oM hoM lM hlM bd x X Y n).2.2 (ix2 d r) := by
  induction n with
  | zero =>
    refine Or.inl ⟨rfl, ?_, ?_, fun d => ?_⟩
    · show k0_pay5 (F := Ideal) (ix2 0 r) = ⊥
      pointwise [k0_pay5]
      exact named_mask
    · show k0_pay6 (F := Ideal) (ix2 0 r) = 0
      pointwise [k0_pay6]
    · show k0_pay7 (F := Ideal) (ix2 d r) = 0
      pointwise [k0_pay7]
  | succ n ih =>
    have hs := st_k0_t1_succ (F := Ideal) Variants.none c bd i qM hqM kM hkM vM hvM oM hoM lM hlM x X Y (k0_pay5, k0_pay6, k0_pay7) ⟨n, hn⟩
    rw [tripR_eq] at hs
    have hl := trip_lt i ⟨n, hn⟩
    have hi := coord_lt i
    have hr := r.isLt
    have hle : ∀ y : Fin 768, row n y ≤ row (i 1).val r := fun y => by
      have hl' : n < (i 1).val := hl
      have hy := y.isLt
      rw [Fin.le_def, row_val (by omega), row_val hi]
      omega
    have hb : n < 11 := lt_trans hl hi
    have key := carried_next (S := blockScore q k (row (i 1).val r)) (V := blockVal v) (r := r) x (ldRows kM X (k0_off1 i ⟨n, hn⟩) (k0_off1_inb i ⟨n, hn⟩)) _ _ _
      (ldVals vM Y (k0_off2 i ⟨n, hn⟩) (k0_off2_inb i ⟨n, hn⟩)) (ih (by omega))
      (fun a d => (read_vals vM Y _ hb (off2_eq i ⟨n, hn⟩) d a).trans (hY _ _ _))
      (blockScore_ne_top q k _ n) r (by rw [blockScore, if_pos (hle r)]; exact EReal.coe_ne_bot _)
      fun a => by rw [score_eq i kM x X hx hX hb _ (off1_eq i ⟨n, hn⟩), blockScore, if_pos (hle a)]
    unfold state at key ⊢
    rw [hs]
    exact key

/-- The state after the loop. -/
abbrev after := state c i qM hqM kM hkM vM hvM oM hoM lM hlM bd x X Y (k0_t1_loop i).trips

/-- The diagonal block's keys and values. -/
abbrev diagK := ldRows kM X (k0_off5 i) (k0_off5_inb i)
abbrev diagV := ldVals vM Y (k0_off6 i) (k0_off6_inb i)

end

section
variable (c : Dev nD) (i : grid0.Coords)
  (qM : Memref sig .tc .vmem S768x128 .bf16) (hqM : qM.IsWhole) (kM : Memref sig .tc .vmem S8448x128 .bf16) (hkM : kM.IsWhole)
  (vM : Memref sig .tc .vmem S1x11x128x768 .bf16) (hvM : vM.IsWhole) (oM : Memref sig .tc .vmem S768x128 .bf16) (hoM : oM.IsWhole)
  (lM : Memref sig .tc .vmem S1x1x1x768 .f32) (hlM : lM.IsWhole)
  (x : Vec Ideal S768x128 .bf16) (X : Vec Ideal S8448x128 .bf16) (Y : Vec Ideal S1x11x128x768 .bf16)

/-- The state after both loops: the second makes no trip. -/
theorem after_eq :
    st_k0_t2 (F := Ideal) Variants.none c none i qM hqM kM hkM vM hvM oM hoM lM hlM x (hkM.unread X) (hvM.unread Y)
        (after c i qM hqM kM hkM vM hvM oM hoM lM hlM none x (hkM.unread X) (hvM.unread Y)) (k0_t2_loop i).trips
      = after c i qM hqM kM hkM vM hvM oM hoM lM hlM none x (hkM.unread X) (hvM.unread Y) := by
  rw [trips2_eq]
  rfl

theorem diagK_eq : View.ld X (Rect.unit (s := S8448x128) (k0_off5 i) ![768, 128] (k0_off5_inb i)) = diagK i kM (hkM.unread X) := by
  rw [diagK, ldRows, View.readAt_eq_ld, hkM.read_unread]

theorem diagV_eq : View.ld Y (Rect.unit (s := S1x11x128x768) (k0_off6 i) ![1, 1, 128, 768] (k0_off6_inb i)) = diagV i vM (hvM.unread Y) := by
  rw [diagV, ldVals, View.readAt_eq_ld, hvM.read_unread]

/-- The stored output, of the state after the loops and the diagonal block. -/
def lastOut (s : FVec Ideal S1x768 .f32 × FVec Ideal S1x768 .f32 × FVec Ideal S128x768 .f32) (y : Vec Ideal S768x128 .bf16)
    (z : Vec Ideal S1x1x128x768 .bf16) : FVec Ideal S768x128 .bf16 :=
  k0_pay3 (F := Ideal) s.2.1 s.2.2 (k0_pay22 (F := Ideal) i x s.1 y) (k0_pay23 (F := Ideal) i x s.1 y) z

/-- The stored log-sums. -/
def lastSums (s : FVec Ideal S1x768 .f32 × FVec Ideal S1x768 .f32 × FVec Ideal S128x768 .f32) (y : Vec Ideal S768x128 .bf16) :
    FVec Ideal S1x1x1x768 .f32 :=
  k0_pay4 (F := Ideal) s.2.1 (k0_pay21 (F := Ideal) i x s.1 y) (k0_pay22 (F := Ideal) i x s.1 y) (k0_pay23 (F := Ideal) i x s.1 y)

theorem out3_eq : out0_A_3 (F := Ideal) c i qM hqM kM hkM vM hvM oM hoM lM hlM x X Y
    = lastOut i x (after c i qM hqM kM hkM vM hvM oM hoM lM hlM none x (hkM.unread X) (hvM.unread Y)) (diagK i kM (hkM.unread X))
        (diagV i vM (hvM.unread Y)) := by
  rw [← after_eq, ← diagK_eq, ← diagV_eq]
  unfold out0_A_3
  frame_out
  rfl

theorem out4_eq : out0_A_4 (F := Ideal) c i qM hqM kM hkM vM hvM oM hoM lM hlM x X Y
    = lastSums i x (after c i qM hqM kM hkM vM hvM oM hoM lM hlM none x (hkM.unread X) (hvM.unread Y)) (diagK i kM (hkM.unread X)) := by
  rw [← after_eq, ← diagK_eq]
  unfold out0_A_4
  frame_out
  rfl

variable {Q q k : Fin 8448 → Fin 128 → ℝ} {v : Fin 8448 → Fin 128 → EReal} (hQ : ∀ r d, Q r d = q r d * (3424635 / 33554432))
  (hx : ∀ r d, x (ix2 r d) = (q (row (i 1).val r) d : EReal))
  (hX : ∀ r d, X (ix2 r d) = (k r d : EReal))
  (hY : ∀ b d y, Y (ix4 0 b d y) = v (row b.val y) d)

include hx hX hY in
theorem diag_carried (r : Fin 768) :
    Carried (blockScore q k (row (i 1).val r)) (blockVal v) ((i 1).val + 1) (k0_pay21 (F := Ideal) i x
        (after c i qM hqM kM hkM vM hvM oM hoM lM hlM none x (hkM.unread X) (hvM.unread Y)).1 (diagK i kM (hkM.unread X)) (ix2 0 r))
      (k0_pay2 (F := Ideal) (after c i qM hqM kM hkM vM hvM oM hoM lM hlM none x (hkM.unread X) (hvM.unread Y)).2.1
        (k0_pay22 (F := Ideal) i x (after c i qM hqM kM hkM vM hvM oM hoM lM hlM none x (hkM.unread X) (hvM.unread Y)).1 (diagK i kM (hkM.unread X)))
        (k0_pay23 (F := Ideal) i x (after c i qM hqM kM hkM vM hvM oM hoM lM hlM none x (hkM.unread X) (hvM.unread Y)).1 (diagK i kM (hkM.unread X))) (ix2 0 r))
      fun d => Ideal.exp2 (k0_pay23 (F := Ideal) i x (after c i qM hqM kM hkM vM hvM oM hoM lM hlM none x (hkM.unread X) (hvM.unread Y)).1
            (diagK i kM (hkM.unread X)) (ix2 0 r))
          * (after c i qM hqM kM hkM vM hvM oM hoM lM hlM none x (hkM.unread X) (hvM.unread Y)).2.2 (ix2 d r)
        + ∑ a : Fin 768, diagV i vM (hvM.unread Y) (ix4 0 0 d a)
          * k0_pay22 (F := Ideal) i x (after c i qM hqM kM hkM vM hvM oM hoM lM hlM none x (hkM.unread X) (hvM.unread Y)).1
              (diagK i kM (hkM.unread X)) (ix2 a r) := by
  have hX' : ∀ r d, kM.view.read (Elt Ideal) (hkM.unread X) (ix2 r d) = (k r d : EReal) := fun r d => by rw [hkM.read_unread, hX]
  have hY' : ∀ b d y, vM.view.read (Elt Ideal) (hvM.unread Y) (ix4 0 b d y) = v (row b.val y) d := fun b d y => by
    rw [hvM.read_unread, hY]
  have hl := loop_carried c i qM hqM kM hkM vM hvM oM hoM lM hlM none x (hkM.unread X) (hvM.unread Y) hx hX' hY' _ le_rfl r
  have hi := coord_lt i
  rw [trips1_eq] at hl
  refine carried_diag (S := blockScore q k (row (i 1).val r)) (V := blockVal v) (r := r) x (diagK i kM (hkM.unread X)) _
    (after c i qM hqM kM hkM vM hvM oM hoM lM hlM none x (hkM.unread X) (hvM.unread Y)).2.1
    (after c i qM hqM kM hkM vM hvM oM hoM lM hlM none x (hkM.unread X) (hvM.unread Y)).2.2
    (diagV i vM (hvM.unread Y)) ?_
    (fun a d => (read_vals vM _ _ hi (off6_eq i) d a).trans (hY' _ _ _))
    (blockScore_ne_top q k _ _) r (by rw [blockScore, if_pos le_rfl]; exact EReal.coe_ne_bot _) i fun a => ?_
  · rw [after, trips1_eq]
    exact hl
  · rw [scM, score_eq i kM x _ hx hX' hi _ (off5_eq i), blockScore]
    refine if_congr ?_ rfl rfl
    rw [Fin.le_def, row_val hi, row_val hi]
    omega

include hQ hx hX hY in
/-- The body's stored output and log-sums at real queries and keys. -/
theorem out_real (r : Fin 768) :
    (∀ d, out0_A_3 (F := Ideal) c i qM hqM kM hkM vM hvM oM hoM lM hlM x X Y (ix2 r d)
      = Cert.Attention.mix Q k v (row (i 1).val r) d)
    ∧ out0_A_4 (F := Ideal) c i qM hqM kM hkM vM hvM oM hoM lM hlM x X Y (ix4 0 0 0 r)
      = ((Real.log (Cert.Attention.norm Q k (row (i 1).val r)) / Real.log 2 : ℝ) : EReal) := by
  have hi := coord_lt i
  have hr := r.isLt
  have h := (diag_carried c i qM hqM kM hkM vM hvM oM hoM lM hlM x X Y hx hX hY r).last hQ hi (by rw [row_val hi]; omega)
  rw [out3_eq, out4_eq]
  refine ⟨fun d => ?_, ?_⟩
  · rw [lastOut, pay3_apply]
    exact h.1 d
  · rw [lastSums, pay4_apply]
    exact h.2

end

end Cert.AttnForwardIdeal.Pass

end
-- ==== Proof.AttnForwardClaims.lean ====
/-
The attention's output and each row's log-sum, causal, in eight heads: the kernel takes the softmax in one pass over blocks of keys,
with a running maximum; the reference takes it of whole rows.
-/
module

public import proofs.«01_k».proof.Defs
public import proofs.«01_k».proof.Pre_finite_rows
public import proofs.«01_k».proof.Proof.AttnForwardRun
public import proofs.«01_k».proof.Proof.Finite
public import proofs.«01_k».proof.Proof.HostValue
public import proofs.«01_k».proof.Proof.Gen.AttnForward.Frame
public import proofs.«01_k».proof.Proof.Gen.AttnForwardIdeal.Value
public import proofs.«01_k».proof.Proof.Gen.AttnForwardReferenceIdeal.Run

@[expose] public section

set_option maxRecDepth 16384

noncomputable section

namespace Cert.Pre_finite_rows

open Idealize.ShloMosaic

instance facts : Facts where
  bitsLt_bf16_f32 := by decide
  bcast_S_S8448x1024 := by decide
  reducesTo_S8448x1024_S_d0_1 := by decide
  h_S_ := by decide
  shapeCasts_S8448x2048_S67584x256 := by decide
  slices_S67584x256_S67584x128_0_0 := by decide
  bcast_S_S67584x128 := by decide
  reducesTo_S67584x128_S_d0_1 := by decide

/-- Row `r` of head `h`'s keys, among the rows of all heads' keys. -/
theorem key_at (x : FVec Ideal S8448x2048 .bf16) (h : Fin 8) (r : Fin 8448) (d : Fin 128) :
    extractStridedSlice S67584x128 ![0, 0] (shapeCast S67584x256 x Facts.shapeCasts_S8448x2048_S67584x256)
      Facts.slices_S67584x256_S67584x128_0_0 (ix2 ⟨r.val * 8 + h.val, by omega⟩ d) = x (ix2 r ⟨h.val * 256 + d.val, by omega⟩) := by
  pointwise
  refine congrArg (fun j => x (ix2 r j)) (Fin.ext ?_)
  show (r.val * 8 + h.val) % 8 * 256 + d.val = h.val * 256 + d.val
  omega

theorem reals_of_fn (x0 : FVec Ideal S8448x1024 .bf16) (x1 : FVec Ideal S8448x2048 .bf16) (h : fn (F := Ideal) x0 x1 = fun _ => 1#1) :
    ∃ (q : S8448x1024.Idx → ℝ) (kv : S8448x2048.Idx → ℝ), (∀ i, x0 i = (q i : EReal))
      ∧ ∀ h r d, x1 (ix2 r ⟨h.val * 256 + d.val, by omega⟩) = (Cert.ReferenceIdeal.Grad.headK kv h r d : EReal) := by
  have h := congrFun h ix0
  dsimp only [fn] at h
  obtain ⟨h0, h1⟩ := IntOp.andi_eq_one.1 h
  obtain ⟨q, hq⟩ := Cert.Pre_finite.reals_of_all x0 _ _ _ _ ix0 h0
  obtain ⟨k, hk⟩ := Cert.Pre_finite.reals_of_all _ _ _ _ _ ix0 h1
  refine ⟨q, fun i => (x1 i).toReal, hq, fun h r d => ?_⟩
  have e := (key_at x1 h r d).symm.trans (hk _)
  rw [Cert.ReferenceIdeal.Grad.headK, e, EReal.toReal_coe]

end Cert.Pre_finite_rows

namespace Cert.AttnForwardIdeal.Pass

open Cert.AttnForwardIdeal.Gen
open Cert.KernelIdeal.Grad (row row_val row_blockOf blockOf inBlock blockOf_row inBlock_row col keyCol valCol col_val keyCol_val valCol_val)
open Cert.KernelIdeal.Host (output logSums rowTop expTop allScores valHeads)
open Cert.ReferenceIdeal.Grad (soft total headQ headK headV)
open Idealize.ShloMosaic Idealize.ShloMosaic.TcCoe Idealize.SL.Sem

/-! ## The blocks of the arguments -/

theorem index0 : ∀ t : Fin grid0.N, win0_0.index t = ![(grid0.coords t 1).val, (grid0.coords t 0).val] := by decide +kernel
theorem index1 : ∀ t : Fin grid0.N, win0_1.index t = ![0, 2 * (grid0.coords t 0).val] := by decide +kernel
theorem index2 : ∀ t : Fin grid0.N, win0_2.index t = ![(grid0.coords t 0).val, 0, 0, 0] := by decide +kernel
theorem index3 : ∀ t : Fin grid0.N, win0_3.index t = ![(grid0.coords t 1).val, (grid0.coords t 0).val] := by decide +kernel
theorem index4 : ∀ t : Fin grid0.N, win0_4.index t = ![(grid0.coords t 0).val, (grid0.coords t 1).val, 0, 0] := by decide +kernel

variable (m : (ℓ : Loc nD τ sig) → Buf (Elt Ideal) ℓ) (ρ : Dev nD → PrngReg) (c : Dev nD) (t : Fin cfg0.N)

/-- The head of a point of the grid. -/
def headAt (t : Fin grid0.N) : Fin 8 := ⟨(grid0.coords t 0).val, (grid0.coords t 0).isLt⟩
/-- The block of rows of a point of the grid. -/
def blockAt (t : Fin grid0.N) : Fin 11 := ⟨(grid0.coords t 1).val, (grid0.coords t 1).isLt⟩

theorem at_row (r : Fin 768) : (row (blockAt t).val r).val = (grid0.coords t 1).val * 768 + r.val :=
  (row_val (blockAt t).isLt r).trans (congrArg (· + r.val) (Nat.mul_comm _ _))

theorem at_col (d : Fin 128) : (col (headAt t).val d).val = (grid0.coords t 0).val * 128 + d.val :=
  (col_val (headAt t).isLt d).trans (congrArg (· + d.val) (Nat.mul_comm _ _))

theorem at_key (d : Fin 128) : (keyCol (headAt t).val d).val = (grid0.coords t 0).val * 256 + d.val :=
  (keyCol_val (headAt t).isLt d).trans (congrArg (· + d.val) (Nat.mul_comm _ _))

theorem at_val (h : Fin 8) (d : Fin 128) : (valCol h.val d).val = h.val * 256 + 128 + d.val := by
  rw [valCol_val h.isLt]
  omega

/-- The queries on entry. -/
abbrev qs : Vec Ideal S8448x1024 .bf16 := m ((c : Thread nD τ).loc main_arg0)
/-- The keys and values on entry. -/
abbrev kvs : Vec Ideal S8448x2048 .bf16 := m ((c : Thread nD τ).loc main_arg1)

theorem iblk0 (r : Fin 768) (d : Fin 128) : (iblk m c 0 t : Vec Ideal S768x128 .bf16) (ix2 r d)
    = qs m c (ix2 (row (blockAt t).val r) (col (headAt t).val d)) := by
  rw [qs, ← V_main_arg0 m c]
  have := at_row t r
  have := at_col t d
  blk_ext [iblk, index0 t]

theorem iblk1 (r : Fin 8448) (d : Fin 128) : (iblk m c 1 t : Vec Ideal S8448x128 .bf16) (ix2 r d)
    = kvs m c (ix2 r (keyCol (headAt t).val d)) := by
  rw [kvs, ← V_main_arg1 m c]
  have := at_key t d
  blk_ext [iblk, index1 t]

theorem V_values (h : Fin 8) (b : Fin 11) (d : Fin 128) (y : Fin 768) : (V m c main_v3 : Vec Ideal S8x11x128x768 .bf16) (ix4 h b d y)
    = kvs m c (ix2 (row b.val y) (valCol h.val d)) := by
  have e : (V m c main_v3 : Vec Ideal S8x11x128x768 .bf16)
      = transpose S8x11x128x768 [2, 0, 3, 1] (shapeCast S11x768x8x128 (extractStridedSlice S11x768x8x1x128 ![0, 0, 0, 1, 0]
          (shapeCast S11x768x8x2x128 (kvs m c) shapeCasts_S8448x2048_S11x768x8x2x128) slices_S11x768x8x2x128_S11x768x8x1x128_0_0_0_1_0)
          shapeCasts_S11x768x8x1x128_S11x768x8x128) transposes_S11x768x8x128_S8x11x128x768_2_0_3_1 := by
    show StableHlo.after hostOps0 (fun b => m (c, b)) _ = _
    simp only [hostOps0, StableHlo.TRef.unary, StableHlo.TRef.toBuf, StableHlo.TRef.ofBuf, cast_eq]
    after_results_simp
    rfl
  rw [e]
  have e1 : row b.val y = ⟨b.val * 768 + y.val, by omega⟩ := Fin.ext (by rw [row_val b.isLt]; show _ = b.val * 768 + y.val; omega)
  have e2 : valCol h.val d = ⟨h.val * 256 + 128 + d.val, by omega⟩ := Fin.ext (at_val h d)
  rw [e1, e2]
  pointwise

theorem iblk2 (b : Fin 11) (d : Fin 128) (y : Fin 768) : (iblk m c 2 t : Vec Ideal S1x11x128x768 .bf16) (ix4 0 b d y)
    = kvs m c (ix2 (row b.val y) (valCol (headAt t).val d)) := by
  rw [← V_values m c (headAt t) b d y]
  unfold headAt
  blk_ext [iblk, index2 t]

/-! ## The results -/

/-- The attention's output. -/
def outResult : Vec Ideal S8448x1024 .bf16 := output (soft (expTop (allScores (qs m c) (kvs m c)))) (valHeads (kvs m c))

/-- Each row's log-sum to the base two. -/
def sumResult : Vec Ideal S8x11x1x768 .f32 :=
  logSums (rowTop (allScores (qs m c) (kvs m c))) (total (expTop (allScores (qs m c) (kvs m c))))

section
variable {q : S8448x1024.Idx → ℝ} {kv : S8448x2048.Idx → ℝ}
  (h0 : ∀ i, qs m c i = (q i : EReal)) (hk : ∀ h r d, kvs m c (ix2 r ⟨h.val * 256 + d.val, by omega⟩) = (headK kv h r d : EReal))

include h0 hk

theorem point (r : Fin 768) :
    (∀ d, (outsAt0 m c t).1 (ix2 r d) = outResult m c (ix2 (row (blockAt t).val r) (col (headAt t).val d)))
    ∧ (outsAt0 m c t).2 (ix4 0 0 0 r) = sumResult m c (ix4 (headAt t) (blockAt t) 0 r) := by
  obtain ⟨s, hs, hE⟩ := Cert.KernelIdeal.Host.top_exps_real h0
    fun h r d => (Cert.ReferenceIdeal.Grad.keys_at h r d (kvs m c)).trans (hk h r d)
  have hx (r : Fin 768) (d : Fin 128) : (iblk m c 0 t : Vec Ideal S768x128 .bf16) (ix2 r d)
      = (q (ix2 (row (blockAt t).val r) ⟨(headAt t).val * 128 + d.val, by omega⟩) : EReal) := by
    rw [iblk0, h0, show col (headAt t).val d = ⟨(headAt t).val * 128 + d.val, by omega⟩ from Fin.ext (at_col t d)]
  have hX (r : Fin 8448) (d : Fin 128) : (iblk m c 1 t : Vec Ideal S8448x128 .bf16) (ix2 r d) = (headK kv (headAt t) r d : EReal) := by
    rw [iblk1, show keyCol (headAt t).val d = ⟨(headAt t).val * 256 + d.val, by omega⟩ from Fin.ext (at_key t d)]
    exact hk _ _ _
  have hY (b : Fin 11) (d : Fin 128) (y : Fin 768) : (iblk m c 2 t : Vec Ideal S1x11x128x768 .bf16) (ix4 0 b d y)
      = Cert.ReferenceIdeal.Grad.vals (kvs m c) (ix3 (headAt t) (row b.val y) d) := by
    rw [iblk2, Cert.ReferenceIdeal.Grad.vals_at, show valCol (headAt t).val d = ⟨(headAt t).val * 256 + 128 + d.val, by omega⟩ from Fin.ext (at_val (headAt t) d)]
  have e := Cert.KernelIdeal.Host.logSums_real hE hs (headAt t) (row (blockAt t).val r)
  rw [blockOf_row (blockAt t).isLt, inBlock_row (blockAt t).isLt, Cert.Attention.shifted_log] at e
  have o := Cert.KernelIdeal.Host.output_mix (x1 := kvs m c) hE (headAt t) (row (blockAt t).val r)
  have k := out_real c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (Q := headQ q (headAt t)) (q := fun r d => q (ix2 r ⟨(headAt t).val * 128 + d.val, by omega⟩))
    (k := headK kv (headAt t)) (v := fun a d => Cert.ReferenceIdeal.Grad.vals (kvs m c) (ix3 (headAt t) a d)) (fun _ _ => rfl) hx hX hY r
  unfold outResult sumResult outsAt0
  rw [show ((grid0.coords t) 1).val = (blockAt t).val from rfl] at k
  rw [e]
  dsimp only
  refine ⟨fun d => ?_, ?_⟩
  · rw [o d]
    have k1 := k.1 d
    rw [Cert.Attention.mix] at k1
    with_reducible exact k1
  · have k2 := k.2
    with_reducible exact k2

theorem out_final : (dats m 0 c).arrAt 3 cfg0.N = outResult m c := by
  refine (dats m 0 c).arrAt_eq_of_covers 3 _ (by decide +kernel) fun t hf y => ?_
  have h2 := at_row t (y 0)
  have h3 := at_col t (y 1)
  blk_simp
  rw [after0_3]
  have e : (outsAt0 m c t).1 y = outResult m c (ix2 (row (blockAt t).val (y 0)) (col (headAt t).val (y 1))) := by
    idx_vars y
    exact (point m c t h0 hk y0).1 y1
  refine e.trans (congrArg (outResult m c) ?_)
  blk_ext [index3 t]

theorem sum_final : (dats m 0 c).arrAt 4 cfg0.N = sumResult m c := by
  refine (dats m 0 c).arrAt_eq_of_covers 4 _ (by decide +kernel) fun t hf y => ?_
  blk_simp
  rw [after0_4]
  have e : (outsAt0 m c t).2 y = sumResult m c (ix4 (headAt t) (blockAt t) 0 (y 3)) := by
    idx_vars y
    obtain rfl := Subsingleton.elim y0 0
    obtain rfl := Subsingleton.elim y1 0
    obtain rfl := Subsingleton.elim y2 0
    exact (point m c t h0 hk y3).2
  refine e.trans (congrArg (sumResult m c) ?_)
  unfold blockAt headAt
  blk_ext [index4 t]

end

/-! ## The claims -/

theorem quiescent_AttnForward : Cert.quiescent_AttnForward := fun m g _ => Cert.AttnForward.Gen.frame m g

theorem quiescent_AttnForwardIdeal : Cert.quiescent_AttnForwardIdeal := fun m g _ => Cert.AttnForwardIdeal.Gen.frame m g

theorem quiescent_AttnForwardIdeal_finite_rows : Cert.quiescent_AttnForwardIdeal_pre_finite_rows :=
  fun m g _ => Cert.AttnForwardIdeal.Gen.frame m g

theorem quiescent_AttnForwardReferenceIdeal : Cert.quiescent_AttnForwardReferenceIdeal := fun m g _ =>
  (θ_run _ _ _).mono (fun r h => ⟨fun c => (h c).2.2, sem_eq_zero_of_no_sems (by decide) _⟩) (Cert.AttnForwardReferenceIdeal.Value.run (F := Ideal) m g)

theorem quiescent_AttnForwardReferenceIdeal_finite_rows : Cert.quiescent_AttnForwardReferenceIdeal_pre_finite_rows :=
  fun m g _ => quiescent_AttnForwardReferenceIdeal m g trivial

theorem preserves : Cert.preserves_AttnForward_AttnForwardIdeal :=
  ⟨IdealRules.named_const.statement κ "mask" .f32 0xF149F2CA#32 _ rfl,
    IdealRules.named_const.statement κ "scale_log2e" .f32 0x3E16C740#32 _ rfl,
    IdealRules.named_const.statement κ "log2e" .f32 0x3FB8AA3B#32 _ rfl⟩

theorem result0 (m' : (ℓ : Loc Cert.AttnForwardReferenceIdeal.nD Cert.AttnForwardReferenceIdeal.τ Cert.AttnForwardReferenceIdeal.sig) → Buf (Elt Ideal) ℓ) :
    Cert.AttnForwardReferenceIdeal.Value.res_out0 m' c
      = output (soft (expTop (allScores
          (m' ((c.tc : Thread Cert.AttnForwardReferenceIdeal.nD Cert.AttnForwardReferenceIdeal.τ).loc Cert.AttnForwardReferenceIdeal.main_arg0))
          (m' ((c.tc : Thread Cert.AttnForwardReferenceIdeal.nD Cert.AttnForwardReferenceIdeal.τ).loc Cert.AttnForwardReferenceIdeal.main_arg1)))))
          (valHeads (m' ((c.tc : Thread Cert.AttnForwardReferenceIdeal.nD Cert.AttnForwardReferenceIdeal.τ).loc Cert.AttnForwardReferenceIdeal.main_arg1))) := rfl

theorem result1 (m' : (ℓ : Loc Cert.AttnForwardReferenceIdeal.nD Cert.AttnForwardReferenceIdeal.τ Cert.AttnForwardReferenceIdeal.sig) → Buf (Elt Ideal) ℓ) :
    Cert.AttnForwardReferenceIdeal.Value.res_out1 m' c
      = logSums (rowTop (allScores
          (m' ((c.tc : Thread Cert.AttnForwardReferenceIdeal.nD Cert.AttnForwardReferenceIdeal.τ).loc Cert.AttnForwardReferenceIdeal.main_arg0))
          (m' ((c.tc : Thread Cert.AttnForwardReferenceIdeal.nD Cert.AttnForwardReferenceIdeal.τ).loc Cert.AttnForwardReferenceIdeal.main_arg1))))
          (total (expTop (allScores
          (m' ((c.tc : Thread Cert.AttnForwardReferenceIdeal.nD Cert.AttnForwardReferenceIdeal.τ).loc Cert.AttnForwardReferenceIdeal.main_arg0))
          (m' ((c.tc : Thread Cert.AttnForwardReferenceIdeal.nD Cert.AttnForwardReferenceIdeal.τ).loc Cert.AttnForwardReferenceIdeal.main_arg1))))) := rfl

theorem algebraic : Cert.algebraic_AttnForwardIdeal_AttnForwardReferenceIdeal_pre_finite_rows := by
  intro m g m' g' hpre hargs
  refine ⟨fun c => outResult m c, fun c => sumResult m c, ?_, ?_⟩
  · refine (θ_run _ _ _).mono (fun r h c => ?_) (Cert.AttnForwardIdeal.Value.run_blocks m g)
    obtain ⟨q, kv, h0, hk⟩ := Cert.Pre_finite_rows.reals_of_fn _ _ (hpre c)
    exact ⟨(h c).1.trans (out_final m c h0 hk), (h c).2.1.trans (sum_final m c h0 hk), (h c).2.2⟩
  · refine (θ_run _ _ _).mono (fun r h c => ?_) (Cert.AttnForwardReferenceIdeal.Value.run (F := Ideal) m' g')
    obtain ⟨e0, e1⟩ := hargs c
    refine ⟨(h c).1.trans ((result0 c m').trans ?_), (h c).2.1.trans ((result1 c m').trans ?_), (h c).2.2⟩
    · rw [e0, e1]
      rfl
    · rw [e0, e1]
      rfl

end Cert.AttnForwardIdeal.Pass

end
-- ==== Proof.MixColumnsClaims.lean ====
/-
The input projection's columns before the gates': the kernel multiplies by 1024 columns of the weight at a time, the reference multiplies
by the whole weight and cuts the columns out. Both have, at row `a` and column `b`, the sum over `k` of `u[a, k] * w[k, b]`.
-/
module

public import proofs.«01_k».proof.Defs
public import proofs.«01_k».proof.Proof.Blocks
public import proofs.«01_k».proof.Proof.Gen.MixColumns.Frame
public import proofs.«01_k».proof.Proof.Gen.MixColumnsIdeal.Value
public import proofs.«01_k».proof.Proof.Gen.MixColumnsReferenceIdeal.Run
public import Idealize.ShloMosaic.Lib.Pipeline.Value
public import Idealize.ShloMosaic.Lib.Pipeline.ValueKit

@[expose] public section

set_option maxRecDepth 16384

noncomputable section

namespace Cert.MixColumnsIdeal.Cols

open Cert.MixColumnsIdeal.Gen Cert.Ffn
open Idealize.ShloMosaic Idealize.ShloMosaic.TcCoe Idealize.SL.Sem

/-! ## One block -/

theorem block_apply (x : Vec Ideal S768x1024 .bf16) (w : Vec Ideal S1024x1024 .bf16) (a : Fin 768) (b : Fin 1024) :
    k0_pay1 (F := Ideal) x w (ix2 a b) = ∑ k : Fin 1024, x (ix2 a k) * w (ix2 k b) := by
  pointwise [k0_pay1]

/-! ## The blocks of the arguments -/

theorem index0 : ∀ t : Fin grid0.N, win0_0.index t = ![t.val % 11, 0] := by decide +kernel
theorem index1 : ∀ t : Fin grid0.N, win0_1.index t = ![0, t.val / 11] := by decide +kernel
theorem index2 : ∀ t : Fin grid0.N, win0_2.index t = ![t.val % 11, t.val / 11] := by decide +kernel

theorem part_lt (t : Fin grid0.N) : t.val / 11 < 3 := by
  have ht : t.val < 33 := Nat.lt_of_lt_of_eq t.isLt N_0
  omega
theorem block_lt (t : Fin grid0.N) : t.val % 11 < 11 := Nat.mod_lt _ (by decide)

/-- Column `s` of third `q`, of the 3072 columns. -/
def third (q : ℕ) (s : Fin 1024) : Fin 3072 := Fin.ofNat 3072 (1024 * q + s.val)

theorem third_val {q : ℕ} (hq : q < 3) (s : Fin 1024) : (third q s).val = 1024 * q + s.val := by
  have := s.isLt
  exact Nat.mod_eq_of_lt (by omega)

/-- The place of a column in the whole weight. -/
def inCol (j : Fin 3072) : Fin 5120 := ⟨j.val, by omega⟩

variable (m : (ℓ : Loc nD τ sig) → Buf (Elt Ideal) ℓ) (ρ : Dev nD → PrngReg) (c : Dev nD) (t : Fin cfg0.N)

/-- The mixer's input on entry, the normalised rows. -/
abbrev u : Vec Ideal S8448x1024 .bf16 := m ((c : Thread nD τ).loc main_arg0)
/-- The input projection's weight on entry. -/
abbrev win : Vec Ideal S1024x5120 .bf16 := m ((c : Thread nD τ).loc main_arg1)

theorem iblk0 : (iblk m c 0 t : Vec Ideal S768x1024 .bf16) = fun y => u m c (ix2 (row (t.val % 11) (y 0)) (y 1)) := by
  rw [u, ← V_main_arg0 m c]
  funext y
  have := row_val (block_lt t) (y 0)
  blk_ext [iblk, index0 t]

theorem iblk1 : (iblk m c 1 t : Vec Ideal S1024x1024 .bf16) = fun y => win m c (ix2 (y 0) (inCol (third (t.val / 11) (y 1)))) := by
  rw [win, ← V_main_arg1 m c]
  funext y
  have : (inCol (third (t.val / 11) (y 1))).val = 1024 * (t.val / 11) + (y 1).val := third_val (part_lt t) (y 1)
  blk_ext [iblk, index1 t]

/-! ## The result -/

/-- These columns of the product. -/
def result (X : Vec Ideal S8448x1024 .bf16) (W : Vec Ideal S1024x5120 .bf16) : Vec Ideal S8448x3072 .f32 :=
  fun y => ∑ k : Fin 1024, X (ix2 (y 0) k) * W (ix2 k (inCol (y 1)))

theorem final : (dats m 0 c).arrAt 2 cfg0.N = result (u m c) (win m c) := by
  refine (dats m 0 c).arrAt_eq_of_covers 2 _ (by decide +kernel) fun t hf y => ?_
  have := row_val (block_lt t) (y 0)
  have := third_val (part_lt t) (y 1)
  blk_simp
  rw [after0_2]
  frame_out
  have e : k0_pay1 (F := Ideal) (iblk m c 0 t) (iblk m c 1 t) y = result (u m c) (win m c) (ix2 (row (t.val % 11) (y 0)) (third (t.val / 11) (y 1))) := by
    rw [iblk0, iblk1]
    idx_vars y
    rw [block_apply]
    rfl
  refine e.trans (congrArg (result (u m c) (win m c)) ?_)
  blk_ext [index2 t]

/-- The reference's columns are cut out of the whole product. -/
theorem reference_result (X : Vec Ideal S8448x1024 .bf16) (W : Vec Ideal S1024x5120 .bf16) (h₀ : FTy.bits .bf16 < FTy.bits .f32) :
    (extractStridedSlice S8448x3072 ![0, 0] (Host.dotGeneral (F := Ideal) Cert.MixColumnsReferenceIdeal.dot_S8448x1024_S1024x5120_S8448x5120_1_0_0_1_n_n none
      (extf (φ := .bf16) .f32 X h₀) (extf (φ := .bf16) .f32 W h₀)) Cert.MixColumnsReferenceIdeal.Facts₀.slices_S8448x5120_S8448x3072_0_0 : FVec Ideal S8448x3072 .f32) = result X W := by
  funext y
  idx_vars y
  pointwise [result, inCol]

/-! ## The claims -/

theorem quiescent_MixColumns : Cert.quiescent_MixColumns := fun m g _ => Cert.MixColumns.Gen.frame m g

theorem quiescent_MixColumnsIdeal : Cert.quiescent_MixColumnsIdeal := fun m g _ => Cert.MixColumnsIdeal.Gen.frame m g

theorem quiescent_MixColumnsReferenceIdeal : Cert.quiescent_MixColumnsReferenceIdeal := fun m g _ =>
  (θ_run _ _ _).mono (fun r h => ⟨fun c => (h c).2, sem_eq_zero_of_no_sems (by decide) _⟩) (Cert.MixColumnsReferenceIdeal.Value.run (F := Ideal) m g)

theorem preserves : Cert.preserves_MixColumns_MixColumnsIdeal := trivial

theorem algebraic : Cert.algebraic_MixColumnsIdeal_MixColumnsReferenceIdeal := by
  intro m g m' g' _ hargs
  refine ⟨fun c => result (u m c) (win m c), ?_, ?_⟩
  · exact (θ_run _ _ _).mono (fun r h c => ⟨(h c).1.trans (final m c), (h c).2⟩) (Cert.MixColumnsIdeal.Value.run_blocks m g)
  · refine (θ_run _ _ _).mono (fun r h c => ?_) (Cert.MixColumnsReferenceIdeal.Value.run (F := Ideal) m' g')
    obtain ⟨e0, e1⟩ := hargs c
    refine ⟨(h c).1.trans ?_, (h c).2⟩
    rw [e0, e1]
    exact reference_result _ _ _

end Cert.MixColumnsIdeal.Cols

end
-- ==== Proof.GateColumnsClaims.lean ====
/-
The input projection's gate columns: the kernel multiplies by 1024 columns of the weight at a time, from column 3072 on, the reference
multiplies by the whole weight and cuts the columns out.
-/
module

public import proofs.«01_k».proof.Defs
public import proofs.«01_k».proof.Proof.Blocks
public import proofs.«01_k».proof.Proof.Gen.GateColumns.Frame
public import proofs.«01_k».proof.Proof.Gen.GateColumnsIdeal.Value
public import proofs.«01_k».proof.Proof.Gen.GateColumnsReferenceIdeal.Run
public import Idealize.ShloMosaic.Lib.Pipeline.Value
public import Idealize.ShloMosaic.Lib.Pipeline.ValueKit

@[expose] public section

set_option maxRecDepth 16384

noncomputable section

namespace Cert.GateColumnsIdeal.Cols

open Cert.GateColumnsIdeal.Gen Cert.Ffn
open Idealize.ShloMosaic Idealize.ShloMosaic.TcCoe Idealize.SL.Sem

/-! ## One block -/

theorem block_apply (x : Vec Ideal S768x1024 .bf16) (w : Vec Ideal S1024x1024 .bf16) (a : Fin 768) (b : Fin 1024) :
    k0_pay1 (F := Ideal) x w (ix2 a b) = ∑ k : Fin 1024, x (ix2 a k) * w (ix2 k b) := by
  pointwise [k0_pay1]

/-! ## The blocks of the arguments -/

theorem index0 : ∀ t : Fin grid0.N, win0_0.index t = ![t.val % 11, 0] := by decide +kernel
theorem index1 : ∀ t : Fin grid0.N, win0_1.index t = ![0, t.val / 11 + 3] := by decide +kernel
theorem index2 : ∀ t : Fin grid0.N, win0_2.index t = ![t.val % 11, t.val / 11] := by decide +kernel

theorem part_lt (t : Fin grid0.N) : t.val / 11 < 2 := by
  have ht : t.val < 22 := Nat.lt_of_lt_of_eq t.isLt N_0
  omega
theorem block_lt (t : Fin grid0.N) : t.val % 11 < 11 := Nat.mod_lt _ (by decide)

/-- Column `s` of half `q`, of the 2048 gate columns. -/
def gatePart (q : ℕ) (s : Fin 1024) : Fin 2048 := Fin.ofNat 2048 (1024 * q + s.val)

theorem gatePart_val {q : ℕ} (hq : q < 2) (s : Fin 1024) : (gatePart q s).val = 1024 * q + s.val := by
  have := s.isLt
  exact Nat.mod_eq_of_lt (by omega)

/-- The place of a gate column in the whole weight. -/
def gateCol (j : Fin 2048) : Fin 5120 := ⟨3072 + j.val, by omega⟩

variable (m : (ℓ : Loc nD τ sig) → Buf (Elt Ideal) ℓ) (ρ : Dev nD → PrngReg) (c : Dev nD) (t : Fin cfg0.N)

/-- The mixer's input on entry, the normalised rows. -/
abbrev u : Vec Ideal S8448x1024 .bf16 := m ((c : Thread nD τ).loc main_arg0)
/-- The input projection's weight on entry. -/
abbrev win : Vec Ideal S1024x5120 .bf16 := m ((c : Thread nD τ).loc main_arg1)

theorem iblk0 : (iblk m c 0 t : Vec Ideal S768x1024 .bf16) = fun y => u m c (ix2 (row (t.val % 11) (y 0)) (y 1)) := by
  rw [u, ← V_main_arg0 m c]
  funext y
  have := row_val (block_lt t) (y 0)
  blk_ext [iblk, index0 t]

theorem iblk1 : (iblk m c 1 t : Vec Ideal S1024x1024 .bf16) = fun y => win m c (ix2 (y 0) (gateCol (gatePart (t.val / 11) (y 1)))) := by
  rw [win, ← V_main_arg1 m c]
  funext y
  have : (gateCol (gatePart (t.val / 11) (y 1))).val = 3072 + (1024 * (t.val / 11) + (y 1).val) := congrArg (3072 + ·) (gatePart_val (part_lt t) (y 1))
  blk_ext [iblk, index1 t]

/-! ## The result -/

/-- These columns of the product. -/
def result (X : Vec Ideal S8448x1024 .bf16) (W : Vec Ideal S1024x5120 .bf16) : Vec Ideal S8448x2048 .bf16 :=
  fun y => ∑ k : Fin 1024, X (ix2 (y 0) k) * W (ix2 k (gateCol (y 1)))

theorem final : (dats m 0 c).arrAt 2 cfg0.N = result (u m c) (win m c) := by
  refine (dats m 0 c).arrAt_eq_of_covers 2 _ (by decide +kernel) fun t hf y => ?_
  have := row_val (block_lt t) (y 0)
  have := gatePart_val (part_lt t) (y 1)
  blk_simp
  rw [after0_2]
  frame_out
  have e : k0_pay1 (F := Ideal) (iblk m c 0 t) (iblk m c 1 t) y = result (u m c) (win m c) (ix2 (row (t.val % 11) (y 0)) (gatePart (t.val / 11) (y 1))) := by
    rw [iblk0, iblk1]
    idx_vars y
    rw [block_apply]
    rfl
  refine e.trans (congrArg (result (u m c) (win m c)) ?_)
  blk_ext [index2 t]

/-- The reference's columns are cut out of the whole product. -/
theorem reference_result (X : Vec Ideal S8448x1024 .bf16) (W : Vec Ideal S1024x5120 .bf16) (h₀ : FTy.bits .bf16 < FTy.bits .f32) (h₁ : FTy.bits .bf16 < FTy.bits .f32) :
    (truncf .bf16 (extractStridedSlice S8448x2048 ![0, 3072] (Host.dotGeneral (F := Ideal) Cert.GateColumnsReferenceIdeal.dot_S8448x1024_S1024x5120_S8448x5120_1_0_0_1_n_n none
      (extf (φ := .bf16) .f32 X h₀) (extf (φ := .bf16) .f32 W h₀)) Cert.GateColumnsReferenceIdeal.Facts₀.slices_S8448x5120_S8448x2048_0_3072) h₁ : FVec Ideal S8448x2048 .bf16) = result X W := by
  funext y
  idx_vars y
  pointwise [result, gateCol]

/-! ## The claims -/

theorem quiescent_GateColumns : Cert.quiescent_GateColumns := fun m g _ => Cert.GateColumns.Gen.frame m g

theorem quiescent_GateColumnsIdeal : Cert.quiescent_GateColumnsIdeal := fun m g _ => Cert.GateColumnsIdeal.Gen.frame m g

theorem quiescent_GateColumnsReferenceIdeal : Cert.quiescent_GateColumnsReferenceIdeal := fun m g _ =>
  (θ_run _ _ _).mono (fun r h => ⟨fun c => (h c).2, sem_eq_zero_of_no_sems (by decide) _⟩) (Cert.GateColumnsReferenceIdeal.Value.run (F := Ideal) m g)

theorem preserves : Cert.preserves_GateColumns_GateColumnsIdeal := trivial

theorem algebraic : Cert.algebraic_GateColumnsIdeal_GateColumnsReferenceIdeal := by
  intro m g m' g' _ hargs
  refine ⟨fun c => result (u m c) (win m c), ?_, ?_⟩
  · exact (θ_run _ _ _).mono (fun r h c => ⟨(h c).1.trans (final m c), (h c).2⟩) (Cert.GateColumnsIdeal.Value.run_blocks m g)
  · refine (θ_run _ _ _).mono (fun r h c => ?_) (Cert.GateColumnsReferenceIdeal.Value.run (F := Ideal) m' g')
    obtain ⟨e0, e1⟩ := hargs c
    refine ⟨(h c).1.trans ?_, (h c).2⟩
    rw [e0, e1]
    exact reference_result _ _ _ _

end Cert.GateColumnsIdeal.Cols

end
-- ==== Proof.MergeClaims.lean ====
/-
The two branches, each the product of what it computed and its weight, and their sum weighted by the logistics of their gates: the kernel makes
them for a block of rows and half of the columns, the reference for the whole arrays, with the same operations in the same order.
-/
module

public import proofs.«01_k».proof.Defs
public import proofs.«01_k».proof.Proof.Blocks
public import proofs.«01_k».proof.Proof.Gen.Merge.Frame
public import proofs.«01_k».proof.Proof.Gen.MergeIdeal.Value
public import proofs.«01_k».proof.Proof.Gen.MergeReferenceIdeal.Run
public import Idealize.ShloMosaic.Lib.Pipeline.Value
public import Idealize.ShloMosaic.Lib.Pipeline.ValueKit
public import proofs.«01_k».proof.Proof.MergeGradClaims

@[expose] public section

set_option maxRecDepth 16384

noncomputable section

namespace Cert.MergeIdeal.Fwd

open Cert.MergeIdeal.Gen Cert.Ffn
open Cert.MergeGradIdeal.Grad (colA colB refLogistic refLogistic_apply refGatesA refGatesA_apply refGatesB refGatesB_apply)
open Idealize.ShloMosaic Idealize.ShloMosaic.TcCoe Idealize.SL.Sem

/-! ## One block -/

section
variable (x : Vec Ideal S768x1024 .bf16) (v : Vec Ideal S1024x512 .bf16) (z : Vec Ideal S768x512 .bf16) (w : Vec Ideal S512x512 .bf16)
variable (g h : Vec Ideal S768x512 .bf16) (a : Fin 768) (b : Fin 512)

theorem branchA_apply : k0_pay3 (F := Ideal) x v (ix2 a b) = ∑ k : Fin 1024, x (ix2 a k) * v (ix2 k b) := by
  pointwise [k0_pay3, k0_pay1]

theorem branchB_apply : k0_pay4 (F := Ideal) z w (ix2 a b) = ∑ k : Fin 512, z (ix2 a k) * w (ix2 k b) := by
  pointwise [k0_pay4, k0_pay2]

theorem merged_apply : k0_pay5 (F := Ideal) x z v w g h (ix2 a b)
    = Ideal.logistic (g (ix2 a b)) * (∑ k : Fin 1024, x (ix2 a k) * v (ix2 k b)) + Ideal.logistic (h (ix2 a b)) * ∑ k : Fin 512, z (ix2 a k) * w (ix2 k b) := by
  rw [Ideal.logistic, Ideal.logistic, ← zero_sub, ← zero_sub]
  pointwise [k0_pay5, k0_pay1, k0_pay2]

end

/-! ## The blocks of the arguments -/

theorem index0 : ∀ t : Fin grid0.N, win0_0.index t = ![t.val % 11, 0] := by decide +kernel
theorem index1 : ∀ t : Fin grid0.N, win0_1.index t = ![t.val % 11, 0] := by decide +kernel
theorem index2 : ∀ t : Fin grid0.N, win0_2.index t = ![0, t.val / 11] := by decide +kernel
theorem index3 : ∀ t : Fin grid0.N, win0_3.index t = ![0, t.val / 11] := by decide +kernel
theorem index4 : ∀ t : Fin grid0.N, win0_4.index t = ![t.val % 11, t.val / 11] := by decide +kernel
theorem index5 : ∀ t : Fin grid0.N, win0_5.index t = ![t.val % 11, t.val / 11 + 2] := by decide +kernel
theorem index6 : ∀ t : Fin grid0.N, win0_6.index t = ![t.val % 11, t.val / 11] := by decide +kernel
theorem index7 : ∀ t : Fin grid0.N, win0_7.index t = ![t.val % 11, t.val / 11] := by decide +kernel
theorem index8 : ∀ t : Fin grid0.N, win0_8.index t = ![t.val % 11, t.val / 11] := by decide +kernel

theorem half_lt (t : Fin grid0.N) : t.val / 11 < 2 := by
  have ht : t.val < 22 := Nat.lt_of_lt_of_eq t.isLt N_0
  omega
theorem block_lt (t : Fin grid0.N) : t.val % 11 < 11 := Nat.mod_lt _ (by decide)

variable (m : (ℓ : Loc nD τ sig) → Buf (Elt Ideal) ℓ) (ρ : Dev nD → PrngReg) (c : Dev nD) (t : Fin cfg0.N)

/-- The attention's output on entry. -/
abbrev oa : Vec Ideal S8448x1024 .bf16 := m ((c : Thread nD τ).loc main_arg0)
/-- The recurrence's output on entry. -/
abbrev ob : Vec Ideal S8448x512 .bf16 := m ((c : Thread nD τ).loc main_arg1)
/-- The weight that projects the attention's output, on entry. -/
abbrev wpa : Vec Ideal S1024x1024 .bf16 := m ((c : Thread nD τ).loc main_arg2)
/-- The weight that projects the recurrence's output, on entry. -/
abbrev wpr : Vec Ideal S512x1024 .bf16 := m ((c : Thread nD τ).loc main_arg3)
/-- The gates on entry, side by side. -/
abbrev gates : Vec Ideal S8448x2048 .bf16 := m ((c : Thread nD τ).loc main_arg4)

theorem iblk0 : (iblk m c 0 t : Vec Ideal S768x1024 .bf16) = fun y => oa m c (ix2 (row (t.val % 11) (y 0)) (y 1)) := by
  rw [oa, ← V_main_arg0 m c]
  funext y
  have := row_val (block_lt t) (y 0)
  blk_ext [iblk, index0 t]

theorem iblk1 : (iblk m c 1 t : Vec Ideal S768x512 .bf16) = fun y => ob m c (ix2 (row (t.val % 11) (y 0)) (y 1)) := by
  rw [ob, ← V_main_arg1 m c]
  funext y
  have := row_val (block_lt t) (y 0)
  blk_ext [iblk, index1 t]

theorem iblk2 : (iblk m c 2 t : Vec Ideal S1024x512 .bf16) = fun y => wpa m c (ix2 (y 0) (col (t.val / 11) (y 1))) := by
  rw [wpa, ← V_main_arg2 m c]
  funext y
  have := col_val (half_lt t) (y 1)
  blk_ext [iblk, index2 t]

theorem iblk3 : (iblk m c 3 t : Vec Ideal S512x512 .bf16) = fun y => wpr m c (ix2 (y 0) (col (t.val / 11) (y 1))) := by
  rw [wpr, ← V_main_arg3 m c]
  funext y
  have := col_val (half_lt t) (y 1)
  blk_ext [iblk, index3 t]

theorem iblk4 : (iblk m c 4 t : Vec Ideal S768x512 .bf16) = fun y => gates m c (ix2 (row (t.val % 11) (y 0)) (colA (col (t.val / 11) (y 1)))) := by
  rw [gates, ← V_main_arg4 m c]
  funext y
  have := row_val (block_lt t) (y 0)
  have : (colA (col (t.val / 11) (y 1))).val = 512 * (t.val / 11) + (y 1).val := col_val (half_lt t) (y 1)
  blk_ext [iblk, index4 t]

theorem iblk5 : (iblk m c 5 t : Vec Ideal S768x512 .bf16) = fun y => gates m c (ix2 (row (t.val % 11) (y 0)) (colB (col (t.val / 11) (y 1)))) := by
  rw [gates, ← V_main_arg4 m c]
  funext y
  have := row_val (block_lt t) (y 0)
  have : (colB (col (t.val / 11) (y 1))).val = 1024 + (512 * (t.val / 11) + (y 1).val) := congrArg (1024 + ·) (col_val (half_lt t) (y 1))
  blk_ext [iblk, index5 t]

/-! ## The results -/

section
variable (A : Vec Ideal S8448x1024 .bf16) (B : Vec Ideal S8448x512 .bf16) (V : Vec Ideal S1024x1024 .bf16) (W : Vec Ideal S512x1024 .bf16) (G : Vec Ideal S8448x2048 .bf16)

/-- The attention's branch. -/
def branchA : Vec Ideal S8448x1024 .bf16 := fun y => ∑ k : Fin 1024, A (ix2 (y 0) k) * V (ix2 k (y 1))

/-- The recurrence's branch. -/
def branchB : Vec Ideal S8448x1024 .bf16 := fun y => ∑ k : Fin 512, B (ix2 (y 0) k) * W (ix2 k (y 1))

/-- The two, weighted by the logistics of their gates. -/
def mergedResult : Vec Ideal S8448x1024 .bf16 := fun y =>
  Ideal.logistic (G (ix2 (y 0) (colA (y 1)))) * branchA A V y + Ideal.logistic (G (ix2 (y 0) (colB (y 1)))) * branchB B W y

end

theorem branchA_final : (dats m 0 c).arrAt 6 cfg0.N = branchA (oa m c) (wpa m c) := by
  refine (dats m 0 c).arrAt_eq_of_covers 6 _ (by decide +kernel) fun t hf y => ?_
  have := row_val (block_lt t) (y 0)
  have := col_val (half_lt t) (y 1)
  blk_simp
  rw [after0_6]
  frame_out
  have e : k0_pay3 (F := Ideal) (iblk m c 0 t) (iblk m c 2 t) y = branchA (oa m c) (wpa m c) (ix2 (row (t.val % 11) (y 0)) (col (t.val / 11) (y 1))) := by
    rw [iblk0, iblk2]
    idx_vars y
    rw [branchA_apply]
    rfl
  refine e.trans (congrArg (branchA (oa m c) (wpa m c)) ?_)
  blk_ext [index6 t]

theorem branchB_final : (dats m 0 c).arrAt 7 cfg0.N = branchB (ob m c) (wpr m c) := by
  refine (dats m 0 c).arrAt_eq_of_covers 7 _ (by decide +kernel) fun t hf y => ?_
  have := row_val (block_lt t) (y 0)
  have := col_val (half_lt t) (y 1)
  blk_simp
  rw [after0_7]
  frame_out
  have e : k0_pay4 (F := Ideal) (iblk m c 1 t) (iblk m c 3 t) y = branchB (ob m c) (wpr m c) (ix2 (row (t.val % 11) (y 0)) (col (t.val / 11) (y 1))) := by
    rw [iblk1, iblk3]
    idx_vars y
    rw [branchB_apply]
    rfl
  refine e.trans (congrArg (branchB (ob m c) (wpr m c)) ?_)
  blk_ext [index7 t]

theorem merged_final : (dats m 0 c).arrAt 8 cfg0.N = mergedResult (oa m c) (ob m c) (wpa m c) (wpr m c) (gates m c) := by
  refine (dats m 0 c).arrAt_eq_of_covers 8 _ (by decide +kernel) fun t hf y => ?_
  have := row_val (block_lt t) (y 0)
  have := col_val (half_lt t) (y 1)
  blk_simp
  rw [after0_8]
  frame_out
  have e : k0_pay5 (F := Ideal) (iblk m c 0 t) (iblk m c 1 t) (iblk m c 2 t) (iblk m c 3 t) (iblk m c 4 t) (iblk m c 5 t) y
      = mergedResult (oa m c) (ob m c) (wpa m c) (wpr m c) (gates m c) (ix2 (row (t.val % 11) (y 0)) (col (t.val / 11) (y 1))) := by
    rw [iblk0, iblk1, iblk2, iblk3, iblk4, iblk5]
    idx_vars y
    rw [merged_apply]
    rfl
  refine e.trans (congrArg (mergedResult (oa m c) (ob m c) (wpa m c) (wpr m c) (gates m c)) ?_)
  blk_ext [index8 t]

/-! ## The reference's stages -/

section
variable (A : Vec Ideal S8448x1024 .bf16) (B : Vec Ideal S8448x512 .bf16) (V : Vec Ideal S1024x1024 .bf16) (W : Vec Ideal S512x1024 .bf16) (G : Vec Ideal S8448x2048 .bf16)
variable (h₀ : FTy.bits .bf16 < FTy.bits .f32)

def refBranchA : FVec Ideal S8448x1024 .f32 :=
  Host.dotGeneral (F := Ideal) Cert.MergeReferenceIdeal.dot_S8448x1024_S1024x1024_S8448x1024_1_0_0_1_n_n none (extf (φ := .bf16) .f32 A h₀) (extf (φ := .bf16) .f32 V h₀)

def refBranchB : FVec Ideal S8448x1024 .f32 :=
  Host.dotGeneral (F := Ideal) Cert.MergeReferenceIdeal.dot_S8448x512_S512x1024_S8448x1024_1_0_0_1_n_n none (extf (φ := .bf16) .f32 B h₀) (extf (φ := .bf16) .f32 W h₀)

theorem refBranchA_eq : (truncf .bf16 (refBranchA A V h₀) h₀ : FVec Ideal S8448x1024 .bf16) = branchA A V := by
  funext y
  idx_vars y
  pointwise [refBranchA, branchA]

theorem refBranchB_eq : (truncf .bf16 (refBranchB B W h₀) h₀ : FVec Ideal S8448x1024 .bf16) = branchB B W := by
  funext y
  idx_vars y
  pointwise [refBranchB, branchB]

def refMerged : FVec Ideal S8448x1024 .bf16 :=
  truncf .bf16 (addf (mulf (refLogistic (refGatesA G h₀)) (refBranchA A V h₀)) (mulf (refLogistic (refGatesB G h₀)) (refBranchB B W h₀))) h₀

theorem refMerged_eq : refMerged A B V W G h₀ = mergedResult A B V W G := by
  funext y
  idx_vars y
  have e : refMerged A B V W G h₀ (ix2 y0 y1)
      = refLogistic (refGatesA G h₀) (ix2 y0 y1) * (truncf .bf16 (refBranchA A V h₀) h₀ : FVec Ideal S8448x1024 .bf16) (ix2 y0 y1)
        + refLogistic (refGatesB G h₀) (ix2 y0 y1) * (truncf .bf16 (refBranchB B W h₀) h₀ : FVec Ideal S8448x1024 .bf16) (ix2 y0 y1) := by
    pointwise [refMerged]
  rw [e, refLogistic_apply, refLogistic_apply, refGatesA_apply, refGatesB_apply, refBranchA_eq, refBranchB_eq]
  rfl

end

/-! ## The claims -/

theorem quiescent_Merge : Cert.quiescent_Merge := fun m g _ => Cert.Merge.Gen.frame m g

theorem quiescent_MergeIdeal : Cert.quiescent_MergeIdeal := fun m g _ => Cert.MergeIdeal.Gen.frame m g

theorem quiescent_MergeReferenceIdeal : Cert.quiescent_MergeReferenceIdeal := fun m g _ =>
  (θ_run _ _ _).mono (fun r h => ⟨fun c => (h c).2.2.2, sem_eq_zero_of_no_sems (by decide) _⟩) (Cert.MergeReferenceIdeal.Value.run (F := Ideal) m g)

theorem preserves : Cert.preserves_Merge_MergeIdeal := trivial

theorem algebraic : Cert.algebraic_MergeIdeal_MergeReferenceIdeal := by
  intro m g m' g' _ hargs
  refine ⟨fun c => branchA (oa m c) (wpa m c), fun c => branchB (ob m c) (wpr m c), fun c => mergedResult (oa m c) (ob m c) (wpa m c) (wpr m c) (gates m c), ?_, ?_⟩
  · exact (θ_run _ _ _).mono (fun r h c => ⟨(h c).1.trans (branchA_final m c), (h c).2.1.trans (branchB_final m c),
      (h c).2.2.1.trans (merged_final m c), (h c).2.2.2⟩) (Cert.MergeIdeal.Value.run_blocks m g)
  · refine (θ_run _ _ _).mono (fun r h c => ?_) (Cert.MergeReferenceIdeal.Value.run (F := Ideal) m' g')
    obtain ⟨e0, e1, e2, e3, e4⟩ := hargs c
    refine ⟨(h c).1.trans ?_, (h c).2.1.trans ?_, (h c).2.2.1.trans ?_, (h c).2.2.2⟩
    · rw [e0, e2]
      exact refBranchA_eq (oa m c) (wpa m c) _
    · rw [e1, e3]
      exact refBranchB_eq (ob m c) (wpr m c) _
    · rw [e0, e1, e2, e3, e4]
      exact refMerged_eq (oa m c) (ob m c) (wpa m c) (wpr m c) (gates m c) _

end Cert.MergeIdeal.Fwd

end
-- ==== Proof.MixOutClaims.lean ====
/-
The mixer's output `h + merged @ w_out`, and the next part's norm of it: the kernel makes both for a block of rows, the reference for the
whole array. The norm's lines are those of the half layer's output.
-/
module

public import proofs.«01_k».proof.Defs
public import proofs.«01_k».proof.Proof.Blocks
public import proofs.«01_k».proof.Proof.Gen.MixOut.Frame
public import proofs.«01_k».proof.Proof.Gen.MixOutIdeal.Value
public import proofs.«01_k».proof.Proof.Gen.MixOutReferenceIdeal.Run
public import Idealize.ShloMosaic.Lib.Pipeline.Value
public import Idealize.ShloMosaic.Lib.Pipeline.ValueKit
public import proofs.«01_k».proof.Proof.HalfLayerClaims

@[expose] public section

set_option maxRecDepth 16384

noncomputable section

namespace Cert.MixOutIdeal.Out

open Cert.MixOutIdeal.Gen Cert.Ffn
open Cert.HalfLayerIdeal.Half (normed refNorm refNorm_apply)
open Idealize.ShloMosaic Idealize.ShloMosaic.TcCoe Idealize.SL.Sem

/-! ## One block -/

section
variable (x : Vec Ideal S768x1024 .bf16) (w : Vec Ideal S1024x1024 .bf16) (h : Vec Ideal S768x1024 .f32) (n : Vec Ideal S1x1024 .f32) (a : Fin 768) (b : Fin 1024)

theorem out_apply : k0_pay1 (F := Ideal) x w h (ix2 a b) = h (ix2 a b) + ∑ k : Fin 1024, x (ix2 a k) * w (ix2 k b) := by
  pointwise [k0_pay1]

theorem norm_apply : k0_pay2 (F := Ideal) x w h n (ix2 a b) = normed (fun j => k0_pay1 (F := Ideal) x w h (ix2 a j)) (n (ix2 0 b)) b := by
  pointwise [k0_pay2, normed]

end

/-! ## The blocks of the arguments -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![0, 0] := by decide +kernel
theorem index4 : ∀ t : Fin grid0.N, win0_4.index t = ![t.val, 0] := by decide +kernel
theorem index5 : ∀ t : Fin grid0.N, win0_5.index t = ![t.val, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The merged branches on entry. -/
abbrev merged : Vec Ideal S8448x1024 .bf16 := m ((c : Thread nD τ).loc main_arg0)
/-- The output weight on entry. -/
abbrev wout : Vec Ideal S1024x1024 .bf16 := m ((c : Thread nD τ).loc main_arg1)
/-- The mixer's input before its norm, on entry. -/
abbrev hin : Vec Ideal S8448x1024 .f32 := m ((c : Thread nD τ).loc main_arg2)
/-- The norm's weight on entry. -/
abbrev nw : Vec Ideal S1x1024 .f32 := m ((c : Thread nD τ).loc main_arg3)

theorem iblk0 : (iblk m c 0 t : Vec Ideal S768x1024 .bf16) = fun y => merged m c (ix2 (row t.val (y 0)) (y 1)) := by
  rw [merged, ← V_main_arg0 m c]
  funext y
  have := row_val (block_lt t) (y 0)
  blk_ext [iblk, index0 t]

theorem iblk1 : (iblk m c 1 t : Vec Ideal S1024x1024 .bf16) = wout m c := by
  rw [wout, ← V_main_arg1 m c]
  funext y
  blk_ext [iblk, index1 t]

theorem iblk2 : (iblk m c 2 t : Vec Ideal S768x1024 .f32) = fun y => hin m c (ix2 (row t.val (y 0)) (y 1)) := by
  rw [hin, ← V_main_arg2 m c]
  funext y
  have := row_val (block_lt t) (y 0)
  blk_ext [iblk, index2 t]

theorem iblk3 : (iblk m c 3 t : Vec Ideal S1x1024 .f32) = nw m c := by
  rw [nw, ← V_main_arg3 m c]
  funext y
  blk_ext [iblk, index3 t]

/-! ## The results -/

section
variable (A : Vec Ideal S8448x1024 .bf16) (W : Vec Ideal S1024x1024 .bf16) (H : Vec Ideal S8448x1024 .f32) (N : Vec Ideal S1x1024 .f32)

/-- The mixer's output at an index. -/
def out (a : Fin 8448) (b : Fin 1024) : EReal := H (ix2 a b) + ∑ k : Fin 1024, A (ix2 a k) * W (ix2 k b)

def outResult : Vec Ideal S8448x1024 .f32 := fun y => out A W H (y 0) (y 1)

def normResult : Vec Ideal S8448x1024 .bf16 := fun y => normed (out A W H (y 0)) (N (ix2 0 (y 1))) (y 1)

end

theorem out_block (a : Fin 768) (b : Fin 1024) : k0_pay1 (F := Ideal) (iblk m c 0 t) (iblk m c 1 t) (iblk m c 2 t) (ix2 a b)
    = out (merged m c) (wout m c) (hin m c) (row t.val a) b := by
  rw [iblk0, iblk1, iblk2, out_apply]
  rfl

theorem out_final : (dats m 0 c).arrAt 4 cfg0.N = outResult (merged m c) (wout m c) (hin m c) := by
  refine (dats m 0 c).arrAt_eq_of_covers 4 _ (by decide +kernel) fun t hf y => ?_
  have := row_val (block_lt t) (y 0)
  blk_simp
  rw [after0_4]
  frame_out
  have e : k0_pay1 (F := Ideal) (iblk m c 0 t) (iblk m c 1 t) (iblk m c 2 t) y
      = outResult (merged m c) (wout m c) (hin m c) (ix2 (row t.val (y 0)) (y 1)) := by
    idx_vars y
    exact out_block m c t y0 y1
  refine e.trans (congrArg (outResult (merged m c) (wout m c) (hin m c)) ?_)
  blk_ext [index4 t]

theorem norm_final : (dats m 0 c).arrAt 5 cfg0.N = normResult (merged m c) (wout m c) (hin m c) (nw m c) := by
  refine (dats m 0 c).arrAt_eq_of_covers 5 _ (by decide +kernel) fun t hf y => ?_
  have := row_val (block_lt t) (y 0)
  blk_simp
  rw [after0_5]
  frame_out
  have e : k0_pay2 (F := Ideal) (iblk m c 0 t) (iblk m c 1 t) (iblk m c 2 t) (iblk m c 3 t) y
      = normResult (merged m c) (wout m c) (hin m c) (nw m c) (ix2 (row t.val (y 0)) (y 1)) := by
    idx_vars y
    rw [norm_apply, iblk3]
    exact congrArg (fun x => normed x _ _) (funext fun j => out_block m c t y0 j)
  refine e.trans (congrArg (normResult (merged m c) (wout m c) (hin m c) (nw m c)) ?_)
  blk_ext [index5 t]

/-! ## The reference's stages -/

section
variable (A : Vec Ideal S8448x1024 .bf16) (W : Vec Ideal S1024x1024 .bf16) (H : Vec Ideal S8448x1024 .f32) (N : Vec Ideal S1x1024 .f32)
variable (h₀ : FTy.bits .bf16 < FTy.bits .f32)

def refOut : FVec Ideal S8448x1024 .f32 :=
  addf H (Host.dotGeneral (F := Ideal) Cert.MixOutReferenceIdeal.dot_S8448x1024_S1024x1024_S8448x1024_1_0_0_1_n_n none
    (extf (φ := .bf16) .f32 A h₀) (extf (φ := .bf16) .f32 W h₀))

theorem refOut_eq : refOut A W H h₀ = outResult A W H := by
  funext y
  idx_vars y
  show _ = out A W H y0 y1
  rw [out]
  pointwise [refOut]

theorem norm_reference : refNorm N h₀ (refOut A W H h₀) = normResult A W H N := by
  funext y
  idx_vars y
  rw [refNorm_apply, refOut_eq]
  rfl

end

/-! ## The claims -/

theorem quiescent_MixOut : Cert.quiescent_MixOut := fun m g _ => Cert.MixOut.Gen.frame m g

theorem quiescent_MixOutIdeal : Cert.quiescent_MixOutIdeal := fun m g _ => Cert.MixOutIdeal.Gen.frame m g

theorem quiescent_MixOutReferenceIdeal : Cert.quiescent_MixOutReferenceIdeal := fun m g _ =>
  (θ_run _ _ _).mono (fun r h => ⟨fun c => (h c).2.2, sem_eq_zero_of_no_sems (by decide) _⟩) (Cert.MixOutReferenceIdeal.Value.run (F := Ideal) m g)

theorem preserves : Cert.preserves_MixOut_MixOutIdeal := trivial

theorem algebraic : Cert.algebraic_MixOutIdeal_MixOutReferenceIdeal := by
  intro m g m' g' _ hargs
  refine ⟨fun c => outResult (merged m c) (wout m c) (hin m c), fun c => normResult (merged m c) (wout m c) (hin m c) (nw m c), ?_, ?_⟩
  · exact (θ_run _ _ _).mono (fun r h c => ⟨(h c).1.trans (out_final m c), (h c).2.1.trans (norm_final m c), (h c).2.2⟩) (Cert.MixOutIdeal.Value.run_blocks m g)
  · refine (θ_run _ _ _).mono (fun r h c => ?_) (Cert.MixOutReferenceIdeal.Value.run (F := Ideal) m' g')
    obtain ⟨e0, e1, e2, e3⟩ := hargs c
    refine ⟨(h c).1.trans ?_, (h c).2.1.trans ?_, (h c).2.2⟩
    · rw [e0, e1, e2]
      exact refOut_eq (merged m c) (wout m c) (hin m c) _
    · rw [e0, e1, e2, e3]
      exact norm_reference (merged m c) (wout m c) (hin m c) (nw m c) _

end Cert.MixOutIdeal.Out

end
-- ==== Proof.OutWeightGradClaims.lean ====
/-
The gradient of the output weight: the kernel adds the products of 11 blocks of rows, the reference multiplies the whole arrays. Both have,
at row `a` and column `b`, the sum over the rows `k` of `merged[k, a] * dh2[k, b]`.
-/
module

public import proofs.«01_k».proof.Defs
public import proofs.«01_k».proof.Proof.Blocks
public import proofs.«01_k».proof.Proof.Gen.OutWeightGrad.Frame
public import proofs.«01_k».proof.Proof.Gen.OutWeightGradIdeal.Value
public import proofs.«01_k».proof.Proof.Gen.OutWeightGradReferenceIdeal.Run
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.OutWeightGradIdeal.Grad

open Cert.OutWeightGradIdeal.Gen Cert.Ffn
open Idealize.ShloMosaic Idealize.ShloMosaic.TcCoe Idealize.SL.Sem

/-! ## One block -/

section
variable (x : Vec Ideal S768x1024 .bf16) (d : Vec Ideal S768x1024 .f32) (acc : Vec Ideal S1024x1024 .f32) (a : Fin 1024) (b : Fin 1024)

theorem start_apply : k0_pay1 (F := Ideal) (ix2 a b) = 0 := by
  pointwise [k0_pay1]

theorem step_apply : k0_pay2 (F := Ideal) acc x d (ix2 a b) = acc (ix2 a b) + ∑ r : Fin 768, x (ix2 r a) * d (ix2 r b) := by
  pointwise [k0_pay2]

theorem end_apply : k0_pay3 (F := Ideal) acc (ix2 a b) = acc (ix2 a b) := by
  pointwise [k0_pay3]

end

/-! ## The blocks of the arguments -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The merged branches on entry. -/
abbrev merged : Vec Ideal S8448x1024 .bf16 := m ((c : Thread nD τ).loc main_arg0)
/-- The gradient of the output on entry. -/
abbrev dh2 : Vec Ideal S8448x1024 .f32 := m ((c : Thread nD τ).loc main_arg1)

theorem iblk0 : (iblk m c 0 t : Vec Ideal S768x1024 .bf16) = fun y => merged m c (ix2 (row t.val (y 0)) (y 1)) := by
  rw [merged, ← V_main_arg0 m c]
  funext y
  have := row_val (block_lt t) (y 0)
  blk_ext [iblk, index0 t]

theorem iblk1 : (iblk m c 1 t : Vec Ideal S768x1024 .f32) = fun y => dh2 m c (ix2 (row t.val (y 0)) (y 1)) := by
  rw [dh2, ← V_main_arg1 m c]
  funext y
  have := row_val (block_lt t) (y 0)
  blk_ext [iblk, index1 t]

/-! ## The sum over the blocks -/

/-- The product of the two arrays over the rows. -/
def result (X : Vec Ideal S8448x1024 .bf16) (D : Vec Ideal S8448x1024 .f32) : Vec Ideal S1024x1024 .bf16 :=
  fun y => ∑ k : Fin 8448, X (ix2 k (y 0)) * D (ix2 k (y 1))

/-- The summands at an index. -/
def summand (X : Vec Ideal S8448x1024 .bf16) (D : Vec Ideal S8448x1024 .f32) (y : S1024x1024.Idx) (_ : ℕ) (k : Fin 8448) : EReal :=
  X (ix2 k (y 0)) * D (ix2 k (y 1))

/-- What a point adds, its number being that of its block of rows. -/
theorem share_eq (y : S1024x1024.Idx) : (∑ r : Fin 768, merged m c (ix2 (row t.val r) (y 0)) * dh2 m c (ix2 (row t.val r) (y 1)))
    = share (summand (merged m c) (dh2 m c) y) t.val := by
  rw [share, Nat.mod_eq_of_lt (block_lt t)]
  rfl

theorem acc_first (h : t.val % 11 = 0) (y : S1024x1024.Idx) : (outsAt0 m c t.val t.isLt).2 y = 0 + share (summand (merged m c) (dh2 m c) y) t.val := by
  rw [outsAt0_A m c t h (by omega)]
  frame_out
  rw [← share_eq]
  idx_vars y
  rw [step_apply, start_apply, iblk0, iblk1]
  rfl

theorem acc_next (h : ¬t.val % 11 = 0) (y : S1024x1024.Idx) :
    (outsAt0 m c t.val t.isLt).2 y
      = (outsAt0 m c (t.val - 1) (Nat.lt_of_le_of_lt (Nat.sub_le _ _) t.isLt)).2 y + share (summand (merged m c) (dh2 m c) y) t.val := by
  by_cases h1 : t.val % 11 = 10
  all_goals
    first | rw [outsAt0_C m c t h h1] | rw [outsAt0_B m c t h h1]
    frame_out
    simp only [read_unread_whole]
    rw [← share_eq]
    idx_vars y
    rw [step_apply, iblk0, iblk1]
    rfl

/-- The last point leaves the whole sum in the block that is written back. -/
theorem out_last (h : t.val % 11 = 10) (y : S1024x1024.Idx) : (outsAt0 m c t.val t.isLt).1 y = result (merged m c) (dh2 m c) y := by
  have e : (outsAt0 m c t.val t.isLt).1 y = (outsAt0 m c t.val t.isLt).2 y := by
    rw [outsAt0_C m c t (by omega) h]
    frame_out
    idx_vars y
    exact end_apply _ _ _
  rw [e, Pipeline.eq_sum_of_reset_step_apply_of_mod (fun n h => (outsAt0 m c n h).2) 11 (fun _ => 0) (fun n y => share (summand (merged m c) (dh2 m c) y) n)
    (acc_first m c) (acc_next m c) t h y, zero_add, sum_shares]
  rfl

theorem final : (dats m 0 c).arrAt 2 cfg0.N = result (merged m c) (dh2 m c) := by
  refine (dats m 0 c).arrAt_eq_of_covers 2 _ (by decide +kernel) fun t hf y => ?_
  blk_simp
  rw [after0_2, out_last m c t ((flush0_2 t).mp hf)]
  refine congrArg (result (merged m c) (dh2 m c)) ?_
  blk_ext [index2 t]

/-- The reference's product over the whole arrays. -/
theorem reference_result (X : Vec Ideal S8448x1024 .bf16) (D : Vec Ideal S8448x1024 .f32) (h₀ : FTy.bits .bf16 < FTy.bits .f32) (h₁) (h₂ : FTy.bits .bf16 < FTy.bits .f32) :
    (truncf .bf16 (transpose S1024x1024 [1, 0] (Host.dotGeneral (F := Ideal) (φ₁ := .f32) Cert.OutWeightGradReferenceIdeal.dot_S8448x1024_S8448x1024_S1024x1024_0_0_1_1_n_n none
      D (extf (φ := .bf16) .f32 X h₀) : FVec Ideal Cert.OutWeightGradReferenceIdeal.S1024x1024 .f32) h₁) h₂ : FVec Ideal S1024x1024 .bf16) = result X D := by
  funext y
  idx_vars y
  pointwise [result]
  exact Finset.sum_congr rfl fun k _ => mul_comm _ _

/-! ## The claims -/

theorem quiescent_OutWeightGrad : Cert.quiescent_OutWeightGrad := fun m g _ => Cert.OutWeightGrad.Gen.frame m g

theorem quiescent_OutWeightGradIdeal : Cert.quiescent_OutWeightGradIdeal := fun m g _ => Cert.OutWeightGradIdeal.Gen.frame m g

theorem quiescent_OutWeightGradReferenceIdeal : Cert.quiescent_OutWeightGradReferenceIdeal := fun m g _ =>
  (θ_run _ _ _).mono (fun r h => ⟨fun c => (h c).2, sem_eq_zero_of_no_sems (by decide) _⟩) (Cert.OutWeightGradReferenceIdeal.Value.run (F := Ideal) m g)

theorem preserves : Cert.preserves_OutWeightGrad_OutWeightGradIdeal := trivial

theorem algebraic : Cert.algebraic_OutWeightGradIdeal_OutWeightGradReferenceIdeal := by
  intro m g m' g' _ hargs
  refine ⟨fun c => result (merged m c) (dh2 m c), ?_, ?_⟩
  · exact (θ_run _ _ _).mono (fun r h c => ⟨(h c).1.trans (final m c), (h c).2⟩) (Cert.OutWeightGradIdeal.Value.run_blocks m g)
  · refine (θ_run _ _ _).mono (fun r h c => ?_) (Cert.OutWeightGradReferenceIdeal.Value.run (F := Ideal) m' g')
    obtain ⟨e0, e1⟩ := hargs c
    refine ⟨(h c).1.trans ?_, (h c).2⟩
    rw [e0, e1]
    exact reference_result _ _ _ _ _

end Cert.OutWeightGradIdeal.Grad

end
-- ==== Proof.AttnOutGradClaims.lean ====
/-
The gradient of the attention's output: the kernel multiplies blocks of rows by the transposed weight, the reference contracts over the
weight's columns.
-/
module

public import proofs.«01_k».proof.Defs
public import proofs.«01_k».proof.Proof.Blocks
public import proofs.«01_k».proof.Proof.Gen.AttnOutGrad.Frame
public import proofs.«01_k».proof.Proof.Gen.AttnOutGradIdeal.Value
public import proofs.«01_k».proof.Proof.Gen.AttnOutGradReferenceIdeal.Run
public import Idealize.ShloMosaic.Lib.Pipeline.Value
public import Idealize.ShloMosaic.Lib.Pipeline.ValueKit

@[expose] public section

set_option maxRecDepth 16384

noncomputable section

namespace Cert.AttnOutGradIdeal.Grad

open Cert.AttnOutGradIdeal.Gen Cert.Ffn
open Idealize.ShloMosaic Idealize.ShloMosaic.TcCoe Idealize.SL.Sem

/-! ## One block -/

theorem block_apply (d : Vec Ideal S768x1024 .bf16) (w : Vec Ideal S1024x1024 .bf16) (a : Fin 768) (b : Fin 1024) :
    k0_pay1 (F := Ideal) d w (ix2 a b) = ∑ j : Fin 1024, d (ix2 a j) * w (ix2 j b) := by
  pointwise [k0_pay1]

/-! ## The arrays the region finds -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The gradient of the attention's branch on entry. -/
abbrev dya : Vec Ideal S8448x1024 .bf16 := m ((c : Thread nD τ).loc main_arg0)
/-- The weight that projects its output, on entry. -/
abbrev wpa : Vec Ideal S1024x1024 .bf16 := m ((c : Thread nD τ).loc main_arg1)

theorem V_weight : (V m c main_v0 : Vec Ideal S1024x1024 .bf16) = fun y => wpa m c (ix2 (y 1) (y 0)) := by
  show StableHlo.after hostOps0 (fun b => m (c, b)) _ = _
  simp only [hostOps0, StableHlo.TRef.unary, StableHlo.TRef.toBuf, StableHlo.TRef.ofBuf, cast_eq]
  after_results_simp
  funext y
  idx_vars y
  pointwise []

theorem iblk0 : (iblk m c 0 t : Vec Ideal S768x1024 .bf16) = fun y => dya m c (ix2 (row t.val (y 0)) (y 1)) := by
  rw [dya, ← V_main_arg0 m c]
  funext y
  have := row_val (block_lt t) (y 0)
  blk_ext [iblk, index0 t]

theorem iblk1 : (iblk m c 1 t : Vec Ideal S1024x1024 .bf16) = fun y => wpa m c (ix2 (y 1) (y 0)) := by
  have h : (iblk m c 1 t : Vec Ideal S1024x1024 .bf16) = V m c main_v0 := by
    funext y
    blk_ext [iblk, index1 t]
  rw [h, V_weight]
  rfl

/-! ## The result -/

/-- The product with the transposed weight. -/
def result (D : Vec Ideal S8448x1024 .bf16) (W : Vec Ideal S1024x1024 .bf16) : Vec Ideal S8448x1024 .bf16 :=
  fun y => ∑ j : Fin 1024, D (ix2 (y 0) j) * W (ix2 (y 1) j)

theorem final : (dats m 0 c).arrAt 2 cfg0.N = result (dya m c) (wpa m c) := by
  refine (dats m 0 c).arrAt_eq_of_covers 2 _ (by decide +kernel) fun t hf y => ?_
  have := row_val (block_lt t) (y 0)
  blk_simp
  rw [after0_2]
  frame_out
  have e : k0_pay1 (F := Ideal) (iblk m c 0 t) (iblk m c 1 t) y = result (dya m c) (wpa m c) (ix2 (row t.val (y 0)) (y 1)) := by
    rw [iblk0, iblk1]
    idx_vars y
    rw [block_apply]
    rfl
  refine e.trans (congrArg (result (dya m c) (wpa m c)) ?_)
  blk_ext [index2 t]

/-- The reference's product contracts over the weight's columns. -/
theorem reference_result (D : Vec Ideal S8448x1024 .bf16) (W : Vec Ideal S1024x1024 .bf16) (h₀ h₁ : FTy.bits .bf16 < FTy.bits .f32) :
    (truncf .bf16 (Host.dotGeneral (F := Ideal) Cert.AttnOutGradReferenceIdeal.dot_S8448x1024_S1024x1024_S8448x1024_1_1_0_0_n_n none
      (extf (φ := .bf16) .f32 D h₀) (extf (φ := .bf16) .f32 W h₀) : FVec Ideal S8448x1024 .f32) h₁ : FVec Ideal S8448x1024 .bf16) = result D W := by
  funext y
  idx_vars y
  pointwise [result]

/-! ## The claims -/

theorem quiescent_AttnOutGrad : Cert.quiescent_AttnOutGrad := fun m g _ => Cert.AttnOutGrad.Gen.frame m g

theorem quiescent_AttnOutGradIdeal : Cert.quiescent_AttnOutGradIdeal := fun m g _ => Cert.AttnOutGradIdeal.Gen.frame m g

theorem quiescent_AttnOutGradReferenceIdeal : Cert.quiescent_AttnOutGradReferenceIdeal := fun m g _ =>
  (θ_run _ _ _).mono (fun r h => ⟨fun c => (h c).2, sem_eq_zero_of_no_sems (by decide) _⟩) (Cert.AttnOutGradReferenceIdeal.Value.run (F := Ideal) m g)

theorem preserves : Cert.preserves_AttnOutGrad_AttnOutGradIdeal := trivial

theorem algebraic : Cert.algebraic_AttnOutGradIdeal_AttnOutGradReferenceIdeal := by
  intro m g m' g' _ hargs
  refine ⟨fun c => result (dya m c) (wpa m c), ?_, ?_⟩
  · exact (θ_run _ _ _).mono (fun r h c => ⟨(h c).1.trans (final m c), (h c).2⟩) (Cert.AttnOutGradIdeal.Value.run_blocks m g)
  · refine (θ_run _ _ _).mono (fun r h c => ?_) (Cert.AttnOutGradReferenceIdeal.Value.run (F := Ideal) m' g')
    obtain ⟨e0, e1⟩ := hargs c
    refine ⟨(h c).1.trans ?_, (h c).2⟩
    rw [e0, e1]
    exact reference_result _ _ _ _

end Cert.AttnOutGradIdeal.Grad

end
-- ==== Proof.RecOutGradClaims.lean ====
/-
The gradient of the recurrence's output: the kernel multiplies blocks of rows by the transposed weight, the reference contracts over the
weight's columns.
-/
module

public import proofs.«01_k».proof.Defs
public import proofs.«01_k».proof.Proof.Blocks
public import proofs.«01_k».proof.Proof.Gen.RecOutGrad.Frame
public import proofs.«01_k».proof.Proof.Gen.RecOutGradIdeal.Value
public import proofs.«01_k».proof.Proof.Gen.RecOutGradReferenceIdeal.Run
public import Idealize.ShloMosaic.Lib.Pipeline.Value
public import Idealize.ShloMosaic.Lib.Pipeline.ValueKit

@[expose] public section

set_option maxRecDepth 16384

noncomputable section

namespace Cert.RecOutGradIdeal.Grad

open Cert.RecOutGradIdeal.Gen Cert.Ffn
open Idealize.ShloMosaic Idealize.ShloMosaic.TcCoe Idealize.SL.Sem

/-! ## One block -/

theorem block_apply (d : Vec Ideal S768x1024 .bf16) (w : Vec Ideal S1024x512 .bf16) (a : Fin 768) (b : Fin 512) :
    k0_pay1 (F := Ideal) d w (ix2 a b) = ∑ j : Fin 1024, d (ix2 a j) * w (ix2 j b) := by
  pointwise [k0_pay1]

/-! ## The arrays the region finds -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The gradient of the recurrence's branch on entry. -/
abbrev dyb : Vec Ideal S8448x1024 .bf16 := m ((c : Thread nD τ).loc main_arg0)
/-- The weight that projects its output, on entry. -/
abbrev wpr : Vec Ideal S512x1024 .bf16 := m ((c : Thread nD τ).loc main_arg1)

theorem V_weight : (V m c main_v0 : Vec Ideal S1024x512 .bf16) = fun y => wpr m c (ix2 (y 1) (y 0)) := by
  show StableHlo.after hostOps0 (fun b => m (c, b)) _ = _
  simp only [hostOps0, StableHlo.TRef.unary, StableHlo.TRef.toBuf, StableHlo.TRef.ofBuf, cast_eq]
  after_results_simp
  funext y
  idx_vars y
  pointwise []

theorem iblk0 : (iblk m c 0 t : Vec Ideal S768x1024 .bf16) = fun y => dyb m c (ix2 (row t.val (y 0)) (y 1)) := by
  rw [dyb, ← V_main_arg0 m c]
  funext y
  have := row_val (block_lt t) (y 0)
  blk_ext [iblk, index0 t]

theorem iblk1 : (iblk m c 1 t : Vec Ideal S1024x512 .bf16) = fun y => wpr m c (ix2 (y 1) (y 0)) := by
  have h : (iblk m c 1 t : Vec Ideal S1024x512 .bf16) = V m c main_v0 := by
    funext y
    blk_ext [iblk, index1 t]
  rw [h, V_weight]
  rfl

/-! ## The result -/

/-- The product with the transposed weight. -/
def result (D : Vec Ideal S8448x1024 .bf16) (W : Vec Ideal S512x1024 .bf16) : Vec Ideal S8448x512 .bf16 :=
  fun y => ∑ j : Fin 1024, D (ix2 (y 0) j) * W (ix2 (y 1) j)

theorem final : (dats m 0 c).arrAt 2 cfg0.N = result (dyb m c) (wpr m c) := by
  refine (dats m 0 c).arrAt_eq_of_covers 2 _ (by decide +kernel) fun t hf y => ?_
  have := row_val (block_lt t) (y 0)
  blk_simp
  rw [after0_2]
  frame_out
  have e : k0_pay1 (F := Ideal) (iblk m c 0 t) (iblk m c 1 t) y = result (dyb m c) (wpr m c) (ix2 (row t.val (y 0)) (y 1)) := by
    rw [iblk0, iblk1]
    idx_vars y
    rw [block_apply]
    rfl
  refine e.trans (congrArg (result (dyb m c) (wpr m c)) ?_)
  blk_ext [index2 t]

/-- The reference's product contracts over the weight's columns. -/
theorem reference_result (D : Vec Ideal S8448x1024 .bf16) (W : Vec Ideal S512x1024 .bf16) (h₀ h₁ : FTy.bits .bf16 < FTy.bits .f32) :
    (truncf .bf16 (Host.dotGeneral (F := Ideal) Cert.RecOutGradReferenceIdeal.dot_S8448x1024_S512x1024_S8448x512_1_1_0_0_n_n none
      (extf (φ := .bf16) .f32 D h₀) (extf (φ := .bf16) .f32 W h₀) : FVec Ideal S8448x512 .f32) h₁ : FVec Ideal S8448x512 .bf16) = result D W := by
  funext y
  idx_vars y
  pointwise [result]

/-! ## The claims -/

theorem quiescent_RecOutGrad : Cert.quiescent_RecOutGrad := fun m g _ => Cert.RecOutGrad.Gen.frame m g

theorem quiescent_RecOutGradIdeal : Cert.quiescent_RecOutGradIdeal := fun m g _ => Cert.RecOutGradIdeal.Gen.frame m g

theorem quiescent_RecOutGradReferenceIdeal : Cert.quiescent_RecOutGradReferenceIdeal := fun m g _ =>
  (θ_run _ _ _).mono (fun r h => ⟨fun c => (h c).2, sem_eq_zero_of_no_sems (by decide) _⟩) (Cert.RecOutGradReferenceIdeal.Value.run (F := Ideal) m g)

theorem preserves : Cert.preserves_RecOutGrad_RecOutGradIdeal := trivial

theorem algebraic : Cert.algebraic_RecOutGradIdeal_RecOutGradReferenceIdeal := by
  intro m g m' g' _ hargs
  refine ⟨fun c => result (dyb m c) (wpr m c), ?_, ?_⟩
  · exact (θ_run _ _ _).mono (fun r h c => ⟨(h c).1.trans (final m c), (h c).2⟩) (Cert.RecOutGradIdeal.Value.run_blocks m g)
  · refine (θ_run _ _ _).mono (fun r h c => ?_) (Cert.RecOutGradReferenceIdeal.Value.run (F := Ideal) m' g')
    obtain ⟨e0, e1⟩ := hargs c
    refine ⟨(h c).1.trans ?_, (h c).2⟩
    rw [e0, e1]
    exact reference_result _ _ _ _

end Cert.RecOutGradIdeal.Grad

end
-- ==== Proof.AttnProjGradClaims.lean ====
/-
The gradient of the weight that projects the attention's output: 11 blocks of rows added up, against one product over all rows.
-/
module

public import proofs.«01_k».proof.Defs
public import proofs.«01_k».proof.Proof.Blocks
public import proofs.«01_k».proof.Proof.Gen.AttnProjGrad.Frame
public import proofs.«01_k».proof.Proof.Gen.AttnProjGradIdeal.Value
public import proofs.«01_k».proof.Proof.Gen.AttnProjGradReferenceIdeal.Run
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.AttnProjGradIdeal.Grad

open Cert.AttnProjGradIdeal.Gen Cert.Ffn
open Idealize.ShloMosaic Idealize.ShloMosaic.TcCoe Idealize.SL.Sem

/-! ## One block -/

section
variable (x : Vec Ideal S768x1024 .bf16) (d : Vec Ideal S768x1024 .bf16) (acc : Vec Ideal S1024x1024 .f32) (a : Fin 1024) (b : Fin 1024)

theorem start_apply : k0_pay1 (F := Ideal) (ix2 a b) = 0 := by
  pointwise [k0_pay1]

theorem step_apply : k0_pay2 (F := Ideal) acc x d (ix2 a b) = acc (ix2 a b) + ∑ r : Fin 768, x (ix2 r a) * d (ix2 r b) := by
  pointwise [k0_pay2]

theorem end_apply : k0_pay3 (F := Ideal) acc (ix2 a b) = acc (ix2 a b) := by
  pointwise [k0_pay3]

end

/-! ## The blocks of the arguments -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The attention's output on entry. -/
abbrev oa : Vec Ideal S8448x1024 .bf16 := m ((c : Thread nD τ).loc main_arg0)
/-- The gradient of its branch on entry. -/
abbrev dya : Vec Ideal S8448x1024 .bf16 := m ((c : Thread nD τ).loc main_arg1)

theorem iblk0 : (iblk m c 0 t : Vec Ideal S768x1024 .bf16) = fun y => oa m c (ix2 (row t.val (y 0)) (y 1)) := by
  rw [oa, ← V_main_arg0 m c]
  funext y
  have := row_val (block_lt t) (y 0)
  blk_ext [iblk, index0 t]

theorem iblk1 : (iblk m c 1 t : Vec Ideal S768x1024 .bf16) = fun y => dya m c (ix2 (row t.val (y 0)) (y 1)) := by
  rw [dya, ← V_main_arg1 m c]
  funext y
  have := row_val (block_lt t) (y 0)
  blk_ext [iblk, index1 t]

/-! ## The sum over the blocks -/

/-- The product of the two arrays over the rows. -/
def result (X : Vec Ideal S8448x1024 .bf16) (D : Vec Ideal S8448x1024 .bf16) : Vec Ideal S1024x1024 .f32 :=
  fun y => ∑ k : Fin 8448, X (ix2 k (y 0)) * D (ix2 k (y 1))

/-- The summands at an index. -/
def summand (X : Vec Ideal S8448x1024 .bf16) (D : Vec Ideal S8448x1024 .bf16) (y : S1024x1024.Idx) (_ : ℕ) (k : Fin 8448) : EReal :=
  X (ix2 k (y 0)) * D (ix2 k (y 1))

/-- What a point adds, its number being that of its block of rows. -/
theorem share_eq (y : S1024x1024.Idx) : (∑ r : Fin 768, oa m c (ix2 (row t.val r) (y 0)) * dya m c (ix2 (row t.val r) (y 1)))
    = share (summand (oa m c) (dya m c) y) t.val := by
  rw [share, Nat.mod_eq_of_lt (block_lt t)]
  rfl

theorem acc_first (h : t.val % 11 = 0) (y : S1024x1024.Idx) : (outsAt0 m c t.val t.isLt).2 y = 0 + share (summand (oa m c) (dya m c) y) t.val := by
  rw [outsAt0_A m c t h (by omega)]
  frame_out
  rw [← share_eq]
  idx_vars y
  rw [step_apply, start_apply, iblk0, iblk1]
  rfl

theorem acc_next (h : ¬t.val % 11 = 0) (y : S1024x1024.Idx) :
    (outsAt0 m c t.val t.isLt).2 y
      = (outsAt0 m c (t.val - 1) (Nat.lt_of_le_of_lt (Nat.sub_le _ _) t.isLt)).2 y + share (summand (oa m c) (dya m c) y) t.val := by
  by_cases h1 : t.val % 11 = 10
  all_goals
    first | rw [outsAt0_C m c t h h1] | rw [outsAt0_B m c t h h1]
    frame_out
    simp only [read_unread_whole]
    rw [← share_eq]
    idx_vars y
    rw [step_apply, iblk0, iblk1]
    rfl

/-- The last point leaves the whole sum in the block that is written back. -/
theorem out_last (h : t.val % 11 = 10) (y : S1024x1024.Idx) : (outsAt0 m c t.val t.isLt).1 y = result (oa m c) (dya m c) y := by
  have e : (outsAt0 m c t.val t.isLt).1 y = (outsAt0 m c t.val t.isLt).2 y := by
    rw [outsAt0_C m c t (by omega) h]
    frame_out
    idx_vars y
    exact end_apply _ _ _
  rw [e, Pipeline.eq_sum_of_reset_step_apply_of_mod (fun n h => (outsAt0 m c n h).2) 11 (fun _ => 0) (fun n y => share (summand (oa m c) (dya m c) y) n)
    (acc_first m c) (acc_next m c) t h y, zero_add, sum_shares]
  rfl

theorem final : (dats m 0 c).arrAt 2 cfg0.N = result (oa m c) (dya m c) := by
  refine (dats m 0 c).arrAt_eq_of_covers 2 _ (by decide +kernel) fun t hf y => ?_
  blk_simp
  rw [after0_2, out_last m c t ((flush0_2 t).mp hf)]
  refine congrArg (result (oa m c) (dya m c)) ?_
  blk_ext [index2 t]

/-- The reference's product over the whole arrays. -/
theorem reference_result (X : Vec Ideal S8448x1024 .bf16) (D : Vec Ideal S8448x1024 .bf16) (h₀ : FTy.bits .bf16 < FTy.bits .f32) (h₁) :
    (transpose S1024x1024 [1, 0] (Host.dotGeneral (F := Ideal) Cert.AttnProjGradReferenceIdeal.dot_S8448x1024_S8448x1024_S1024x1024_0_0_1_1_n_n none
      (extf (φ := .bf16) .f32 D h₀) (extf (φ := .bf16) .f32 X h₀) : FVec Ideal Cert.AttnProjGradReferenceIdeal.S1024x1024 .f32) h₁ : FVec Ideal S1024x1024 .f32) = result X D := by
  funext y
  idx_vars y
  pointwise [result]
  exact Finset.sum_congr rfl fun k _ => mul_comm _ _

/-! ## The claims -/

theorem quiescent_AttnProjGrad : Cert.quiescent_AttnProjGrad := fun m g _ => Cert.AttnProjGrad.Gen.frame m g

theorem quiescent_AttnProjGradIdeal : Cert.quiescent_AttnProjGradIdeal := fun m g _ => Cert.AttnProjGradIdeal.Gen.frame m g

theorem quiescent_AttnProjGradReferenceIdeal : Cert.quiescent_AttnProjGradReferenceIdeal := fun m g _ =>
  (θ_run _ _ _).mono (fun r h => ⟨fun c => (h c).2, sem_eq_zero_of_no_sems (by decide) _⟩) (Cert.AttnProjGradReferenceIdeal.Value.run (F := Ideal) m g)

theorem preserves : Cert.preserves_AttnProjGrad_AttnProjGradIdeal := trivial

theorem algebraic : Cert.algebraic_AttnProjGradIdeal_AttnProjGradReferenceIdeal := by
  intro m g m' g' _ hargs
  refine ⟨fun c => result (oa m c) (dya m c), ?_, ?_⟩
  · exact (θ_run _ _ _).mono (fun r h c => ⟨(h c).1.trans (final m c), (h c).2⟩) (Cert.AttnProjGradIdeal.Value.run_blocks m g)
  · refine (θ_run _ _ _).mono (fun r h c => ?_) (Cert.AttnProjGradReferenceIdeal.Value.run (F := Ideal) m' g')
    obtain ⟨e0, e1⟩ := hargs c
    refine ⟨(h c).1.trans ?_, (h c).2⟩
    rw [e0, e1]
    exact reference_result _ _ _ _

end Cert.AttnProjGradIdeal.Grad

end
-- ==== Proof.RecProjGradClaims.lean ====
/-
The gradient of the weight that projects the recurrence's output: 11 blocks of rows added up, against one product over all rows.
-/
module

public import proofs.«01_k».proof.Defs
public import proofs.«01_k».proof.Proof.Blocks
public import proofs.«01_k».proof.Proof.Gen.RecProjGrad.Frame
public import proofs.«01_k».proof.Proof.Gen.RecProjGradIdeal.Value
public import proofs.«01_k».proof.Proof.Gen.RecProjGradReferenceIdeal.Run
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.RecProjGradIdeal.Grad

open Cert.RecProjGradIdeal.Gen Cert.Ffn
open Idealize.ShloMosaic Idealize.ShloMosaic.TcCoe Idealize.SL.Sem

/-! ## One block -/

section
variable (x : Vec Ideal S768x512 .bf16) (d : Vec Ideal S768x1024 .bf16) (acc : Vec Ideal S512x1024 .f32) (a : Fin 512) (b : Fin 1024)

theorem start_apply : k0_pay1 (F := Ideal) (ix2 a b) = 0 := by
  pointwise [k0_pay1]

theorem step_apply : k0_pay2 (F := Ideal) acc x d (ix2 a b) = acc (ix2 a b) + ∑ r : Fin 768, x (ix2 r a) * d (ix2 r b) := by
  pointwise [k0_pay2]

theorem end_apply : k0_pay3 (F := Ideal) acc (ix2 a b) = acc (ix2 a b) := by
  pointwise [k0_pay3]

end

/-! ## The blocks of the arguments -/

theorem index0 : ∀ t : Fin grid0.N, win0_0.index t = ![t.val, 0] := by decide +kernel
theorem index1 : ∀ t : Fin grid0.N, win0_1.index t = ![t.val, 0] := by decide +kernel
theorem index2 : ∀ t : Fin grid0.N, win0_2.index t = ![0, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The recurrence's output on entry. -/
abbrev ob : Vec Ideal S8448x512 .bf16 := m ((c : Thread nD τ).loc main_arg0)
/-- The gradient of its branch on entry. -/
abbrev dyb : Vec Ideal S8448x1024 .bf16 := m ((c : Thread nD τ).loc main_arg1)

theorem iblk0 : (iblk m c 0 t : Vec Ideal S768x512 .bf16) = fun y => ob m c (ix2 (row t.val (y 0)) (y 1)) := by
  rw [ob, ← V_main_arg0 m c]
  funext y
  have := row_val (block_lt t) (y 0)
  blk_ext [iblk, index0 t]

theorem iblk1 : (iblk m c 1 t : Vec Ideal S768x1024 .bf16) = fun y => dyb m c (ix2 (row t.val (y 0)) (y 1)) := by
  rw [dyb, ← V_main_arg1 m c]
  funext y
  have := row_val (block_lt t) (y 0)
  blk_ext [iblk, index1 t]

/-! ## The sum over the blocks -/

/-- The product of the two arrays over the rows. -/
def result (X : Vec Ideal S8448x512 .bf16) (D : Vec Ideal S8448x1024 .bf16) : Vec Ideal S512x1024 .bf16 :=
  fun y => ∑ k : Fin 8448, X (ix2 k (y 0)) * D (ix2 k (y 1))

/-- The summands at an index. -/
def summand (X : Vec Ideal S8448x512 .bf16) (D : Vec Ideal S8448x1024 .bf16) (y : S512x1024.Idx) (_ : ℕ) (k : Fin 8448) : EReal :=
  X (ix2 k (y 0)) * D (ix2 k (y 1))

/-- What a point adds, its number being that of its block of rows. -/
theorem share_eq (y : S512x1024.Idx) : (∑ r : Fin 768, ob m c (ix2 (row t.val r) (y 0)) * dyb m c (ix2 (row t.val r) (y 1)))
    = share (summand (ob m c) (dyb m c) y) t.val := by
  rw [share, Nat.mod_eq_of_lt (block_lt t)]
  rfl

theorem acc_first (h : t.val % 11 = 0) (y : S512x1024.Idx) : (outsAt0 m c t.val t.isLt).2 y = 0 + share (summand (ob m c) (dyb m c) y) t.val := by
  rw [outsAt0_A m c t h (by omega)]
  frame_out
  rw [← share_eq]
  idx_vars y
  rw [step_apply, start_apply, iblk0, iblk1]
  rfl

theorem acc_next (h : ¬t.val % 11 = 0) (y : S512x1024.Idx) :
    (outsAt0 m c t.val t.isLt).2 y
      = (outsAt0 m c (t.val - 1) (Nat.lt_of_le_of_lt (Nat.sub_le _ _) t.isLt)).2 y + share (summand (ob m c) (dyb m c) y) t.val := by
  by_cases h1 : t.val % 11 = 10
  all_goals
    first | rw [outsAt0_C m c t h h1] | rw [outsAt0_B m c t h h1]
    frame_out
    simp only [read_unread_whole]
    rw [← share_eq]
    idx_vars y
    rw [step_apply, iblk0, iblk1]
    rfl

/-- The last point leaves the whole sum in the block that is written back. -/
theorem out_last (h : t.val % 11 = 10) (y : S512x1024.Idx) : (outsAt0 m c t.val t.isLt).1 y = result (ob m c) (dyb m c) y := by
  have e : (outsAt0 m c t.val t.isLt).1 y = (outsAt0 m c t.val t.isLt).2 y := by
    rw [outsAt0_C m c t (by omega) h]
    frame_out
    idx_vars y
    exact end_apply _ _ _
  rw [e, Pipeline.eq_sum_of_reset_step_apply_of_mod (fun n h => (outsAt0 m c n h).2) 11 (fun _ => 0) (fun n y => share (summand (ob m c) (dyb m c) y) n)
    (acc_first m c) (acc_next m c) t h y, zero_add, sum_shares]
  rfl

theorem final : (dats m 0 c).arrAt 2 cfg0.N = result (ob m c) (dyb m c) := by
  refine (dats m 0 c).arrAt_eq_of_covers 2 _ (by decide +kernel) fun t hf y => ?_
  blk_simp
  rw [after0_2, out_last m c t ((flush0_2 t).mp hf)]
  refine congrArg (result (ob m c) (dyb m c)) ?_
  blk_ext [index2 t]

/-- The reference's product over the whole arrays. -/
theorem reference_result (X : Vec Ideal S8448x512 .bf16) (D : Vec Ideal S8448x1024 .bf16) (h₀ : FTy.bits .bf16 < FTy.bits .f32) (h₁) (h₂ : FTy.bits .bf16 < FTy.bits .f32) :
    (truncf .bf16 (transpose S512x1024 [1, 0] (Host.dotGeneral (F := Ideal) Cert.RecProjGradReferenceIdeal.dot_S8448x1024_S8448x512_S1024x512_0_0_1_1_n_n none
      (extf (φ := .bf16) .f32 D h₀) (extf (φ := .bf16) .f32 X h₀) : FVec Ideal Cert.RecProjGradReferenceIdeal.S1024x512 .f32) h₁) h₂ : FVec Ideal S512x1024 .bf16) = result X D := by
  funext y
  idx_vars y
  pointwise [result]
  exact Finset.sum_congr rfl fun k _ => mul_comm _ _

/-! ## The claims -/

theorem quiescent_RecProjGrad : Cert.quiescent_RecProjGrad := fun m g _ => Cert.RecProjGrad.Gen.frame m g

theorem quiescent_RecProjGradIdeal : Cert.quiescent_RecProjGradIdeal := fun m g _ => Cert.RecProjGradIdeal.Gen.frame m g

theorem quiescent_RecProjGradReferenceIdeal : Cert.quiescent_RecProjGradReferenceIdeal := fun m g _ =>
  (θ_run _ _ _).mono (fun r h => ⟨fun c => (h c).2, sem_eq_zero_of_no_sems (by decide) _⟩) (Cert.RecProjGradReferenceIdeal.Value.run (F := Ideal) m g)

theorem preserves : Cert.preserves_RecProjGrad_RecProjGradIdeal := trivial

theorem algebraic : Cert.algebraic_RecProjGradIdeal_RecProjGradReferenceIdeal := by
  intro m g m' g' _ hargs
  refine ⟨fun c => result (ob m c) (dyb m c), ?_, ?_⟩
  · exact (θ_run _ _ _).mono (fun r h c => ⟨(h c).1.trans (final m c), (h c).2⟩) (Cert.RecProjGradIdeal.Value.run_blocks m g)
  · refine (θ_run _ _ _).mono (fun r h c => ?_) (Cert.RecProjGradReferenceIdeal.Value.run (F := Ideal) m' g')
    obtain ⟨e0, e1⟩ := hargs c
    refine ⟨(h c).1.trans ?_, (h c).2⟩
    rw [e0, e1]
    exact reference_result _ _ _ _ _

end Cert.RecProjGradIdeal.Grad

end
-- ==== Proof.NormRow.lean ====
/-
One row of the gradient of a norm, infinite entries included: the kernel's form `r * (t - xhat * mean(t * xhat))` is the derivative of
`x * r` that the reference takes, `t * r` plus twice the row times the derivative of the root of its mean square.
-/
module

public import proofs.«01_k».proof.Proof.Blocks

@[expose] public section

noncomputable section

namespace Cert.Norm

open Idealize.ShloMosaic

theorem ofBits_count : (Ideal.ofBits .f32 0x44800000#32 : EReal) = ((1024 : ℝ) : EReal) := by
  simp [Ideal.ofBits, Ideal.ieee, -EReal.coe_mul]
  norm_num

theorem ofBits_eps : (Ideal.ofBits .f32 0x358637BD#32 : EReal) = ((8796093 / 8796093022208 : ℝ) : EReal) := by
  simp [Ideal.ofBits, Ideal.ieee, -EReal.coe_mul]
  norm_num

theorem ofBits_neg_half : (Ideal.ofBits .f32 0xBF000000#32 : EReal) = ((-1 / 2 : ℝ) : EReal) := by
  simp [Ideal.ofBits, Ideal.ieee, -EReal.coe_mul]
  norm_num

/-- A row's mean square, the small constant added. -/
def square (x : Fin 1024 → EReal) : EReal := Ideal.div (∑ j : Fin 1024, x j * x j) (Ideal.ofBits .f32 0x44800000#32) + Ideal.ofBits .f32 0x358637BD#32

/-- One over its root. -/
def root (x : Fin 1024 → EReal) : EReal := Ideal.rsqrt (square x)

/-- The kernel's gradient of a row, `t` being the gradient of the normed row. -/
def back (x t : Fin 1024 → EReal) (b : Fin 1024) : EReal :=
  root x * (t b - x b * root x * Ideal.div (∑ j : Fin 1024, t j * (x j * root x)) (Ideal.ofBits .f32 0x44800000#32))

/-- The gradient of the mean square, which the reference multiplies by the row twice. -/
def squareGrad (x t : Fin 1024 → EReal) : EReal :=
  Ideal.div ((∑ j : Fin 1024, x j * t j) * (Ideal.ofBits .f32 0xBF000000#32 * Ideal.div (root x) (square x))) (Ideal.ofBits .f32 0x44800000#32)

theorem div_count (y : EReal) : Ideal.div y (Ideal.ofBits .f32 0x44800000#32) = y * ((1 / 1024 : ℝ) : EReal) := by
  rw [ofBits_count, Ideal.div, if_neg (by exact_mod_cast (by norm_num : (1024 : ℝ) ≠ 0)), ← EReal.coe_inv, one_div]

theorem mul_self_nonneg (x : EReal) : 0 ≤ x * x := by
  induction x with
  | bot => simp
  | top => simp
  | coe r => exact_mod_cast _root_.mul_self_nonneg r

/-- A mean square is infinite, or a positive number. -/
theorem square_cases (x : Fin 1024 → EReal) : square x = ⊤ ∨ ∃ v : ℝ, 0 < v ∧ square x = (v : EReal) := by
  have h : 0 ≤ ∑ j : Fin 1024, x j * x j := Finset.sum_nonneg fun j _ => mul_self_nonneg (x j)
  rw [square, div_count, ofBits_eps]
  generalize ∑ j : Fin 1024, x j * x j = s at h
  induction s with
  | bot => exact absurd h (by simp)
  | top =>
    left
    rw [EReal.top_mul_coe_of_pos (by norm_num)]
    rfl
  | coe r =>
    have h' : 0 ≤ r := by exact_mod_cast h
    exact .inr ⟨r * (1 / 1024) + 8796093 / 8796093022208, by positivity, by push_cast; rfl⟩

theorem mul_sum {α : Type*} {r : ℝ} (hr : 0 ≤ r) (s : Finset α) (f : α → EReal) : (r : EReal) * ∑ k ∈ s, f k = ∑ k ∈ s, (r : EReal) * f k := by
  classical
  induction s using Finset.induction_on with
  | empty => simp
  | insert a s ha ih =>
    rw [Finset.sum_insert ha, Finset.sum_insert ha, ← ih, EReal.left_distrib_of_nonneg_of_ne_top (by exact_mod_cast hr) (EReal.coe_ne_top _)]

theorem add_self (y : EReal) : y + y = ((2 : ℝ) : EReal) * y := by
  induction y with
  | bot => rw [EReal.coe_mul_bot_of_pos (by norm_num)]; rfl
  | top => rw [EReal.coe_mul_top_of_pos (by norm_num)]; rfl
  | coe r => exact_mod_cast (two_mul r).symm

/-- The two forms of a row's gradient are equal. -/
theorem back_eq (x t : Fin 1024 → EReal) (b : Fin 1024) : back x t b = t b * root x + (x b * squareGrad x t + squareGrad x t * x b) := by
  rw [back, squareGrad, div_count, div_count, ofBits_neg_half]
  obtain h | ⟨v, hv, h⟩ := square_cases x
  · simp [root, h, Ideal.div]
  · have hs : 0 < Real.sqrt v := Real.sqrt_pos.2 hv
    have hr : root x = (((Real.sqrt v)⁻¹ : ℝ) : EReal) := by
      rw [root, h, Ideal.rsqrt_coe, if_neg hv.le.not_gt, if_neg hv.ne']
    have hd : Ideal.div (root x) (square x) = (((Real.sqrt v)⁻¹ * v⁻¹ : ℝ) : EReal) := by
      rw [hr, h, Ideal.div, if_neg (by exact_mod_cast hv.ne'), ← EReal.coe_inv, EReal.coe_mul]
    have hsum : ∑ j : Fin 1024, t j * (x j * root x) = root x * ∑ j : Fin 1024, x j * t j := by
      rw [hr, mul_sum (inv_nonneg.2 hs.le)]
      exact Finset.sum_congr rfl fun j _ => by rw [mul_comm, mul_assoc, mul_left_comm]
    rw [hsum, hd, hr]
    generalize ∑ j : Fin 1024, x j * t j = S
    have hv' : v = Real.sqrt v * Real.sqrt v := (Real.mul_self_sqrt hv.le).symm
    generalize Real.sqrt v = q at hs hv'
    rw [sub_eq_add_neg, EReal.left_distrib_of_nonneg_of_ne_top (by exact_mod_cast (inv_nonneg.2 hs.le)) (EReal.coe_ne_top _), mul_comm (t b)]
    congr 1
    rw [mul_comm _ (x b), add_self, ← EReal.neg_mul, ← EReal.neg_mul, ← neg_one_mul (x b)]
    have e : ((-1 : EReal)) = ((-1 : ℝ) : EReal) := by simp
    rw [e]
    have l : ((q⁻¹ : ℝ) : EReal) * (((-1 : ℝ) : EReal) * x b * ((q⁻¹ : ℝ) : EReal) * (((q⁻¹ : ℝ) : EReal) * S * ((1 / 1024 : ℝ) : EReal)))
        = x b * S * ((q⁻¹ * -1 * q⁻¹ * q⁻¹ * (1 / 1024) : ℝ) : EReal) := by
      push_cast
      ac_rfl
    have r : ((2 : ℝ) : EReal) * (x b * (S * (((-1 / 2 : ℝ) : EReal) * ((q⁻¹ * v⁻¹ : ℝ) : EReal)) * ((1 / 1024 : ℝ) : EReal)))
        = x b * S * ((2 * (-1 / 2) * (q⁻¹ * v⁻¹) * (1 / 1024) : ℝ) : EReal) := by
      simp only [EReal.coe_mul]
      ac_rfl
    rw [l, r]
    congr 2
    rw [hv']
    field_simp
    try norm_num

end Cert.Norm

end
-- ==== Proof.NormGradClaims.lean ====
/-
The gradients through a norm: the kernel makes a block of rows of the input's gradient and adds the blocks' shares of the weight's gradient,
the reference differentiates the norm's lines over the whole array.
-/
module

public import proofs.«01_k».proof.Defs
public import proofs.«01_k».proof.Proof.Blocks
public import proofs.«01_k».proof.Proof.NormRow
public import proofs.«01_k».proof.Proof.Gen.NormGrad.Frame
public import proofs.«01_k».proof.Proof.Gen.NormGradIdeal.Value
public import proofs.«01_k».proof.Proof.Gen.NormGradReferenceIdeal.Run
public import Idealize.ShloMosaic.Lib.Pipeline.Value
public import Idealize.ShloMosaic.Lib.Pipeline.ValueKit
public import Idealize.ShloMosaic.Lib.Pipeline.ReadBack

@[expose] public section

set_option maxRecDepth 16384

noncomputable section

namespace Cert.NormGradIdeal.Grad

open Cert.NormGradIdeal.Gen Cert.Ffn
open Cert.Norm (square root back squareGrad back_eq)
open Idealize.ShloMosaic Idealize.ShloMosaic.TcCoe Idealize.SL.Sem

/-! ## One block -/

section
variable (x : Vec Ideal S768x1024 .f32) (w : Vec Ideal S1x1024 .f32) (d e : Vec Ideal S768x1024 .f32) (acc : Vec Ideal S1x1024 .f32)
variable (a : Fin 768) (b : Fin 1024)

theorem root_apply : k0_pay1 (F := Ideal) x (ix2 a 0) = root (fun j => x (ix2 a j)) := by
  pointwise [k0_pay1, root, square]

theorem row_apply : k0_pay2 (F := Ideal) x (ix2 a b) = x (ix2 a b) * root (fun j => x (ix2 a j)) := by
  rw [← root_apply]
  pointwise [k0_pay2]

theorem grad_apply : k0_pay3 (F := Ideal) x w d e (ix2 a b)
    = e (ix2 a b) + back (fun j => x (ix2 a j)) (fun j => d (ix2 a j) * w (ix2 0 j)) b := by
  pointwise [k0_pay3, back]
  simp only [row_apply, root_apply]

theorem start_apply : k0_pay4 (F := Ideal) (ix2 0 b) = 0 := by
  pointwise [k0_pay4]

theorem step_apply : k0_pay5 (F := Ideal) x d acc (ix2 0 b)
    = acc (ix2 0 b) + ∑ r : Fin 768, d (ix2 r b) * (x (ix2 r b) * root (fun j => x (ix2 r j))) := by
  pointwise [k0_pay5]
  simp only [row_apply]

end

/-! ## The blocks of the arguments -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel
theorem index3 : ∀ t : Fin grid0.N, win0_3.index t = ![t.val, 0] := by decide +kernel
theorem index4 : ∀ t : Fin grid0.N, win0_4.index t = ![t.val, 0] := by decide +kernel
theorem index5 : ∀ t : Fin grid0.N, win0_5.index t = ![0, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The norm's input on entry. -/
abbrev hin : Vec Ideal S8448x1024 .f32 := m ((c : Thread nD τ).loc main_arg0)
/-- The norm's weight on entry. -/
abbrev nw : Vec Ideal S1x1024 .f32 := m ((c : Thread nD τ).loc main_arg1)
/-- The gradient of the norm's output on entry. -/
abbrev dxn : Vec Ideal S8448x1024 .f32 := m ((c : Thread nD τ).loc main_arg2)
/-- The gradient that reaches the norm's input by the other path, on entry. -/
abbrev dother : Vec Ideal S8448x1024 .f32 := m ((c : Thread nD τ).loc main_arg3)

theorem iblk0 : (iblk m c 0 t : Vec Ideal S768x1024 .f32) = fun y => hin m c (ix2 (row t.val (y 0)) (y 1)) := by
  rw [hin, ← V_main_arg0 m c]
  funext y
  have := row_val (block_lt t) (y 0)
  blk_ext [iblk, index0 t]

theorem iblk1 : (iblk m c 1 t : Vec Ideal S1x1024 .f32) = nw m c := by
  rw [nw, ← V_main_arg1 m c]
  funext y
  blk_ext [iblk, index1 t]

theorem iblk2 : (iblk m c 2 t : Vec Ideal S768x1024 .f32) = fun y => dxn m c (ix2 (row t.val (y 0)) (y 1)) := by
  rw [dxn, ← V_main_arg2 m c]
  funext y
  have := row_val (block_lt t) (y 0)
  blk_ext [iblk, index2 t]

theorem iblk3 : (iblk m c 3 t : Vec Ideal S768x1024 .f32) = fun y => dother m c (ix2 (row t.val (y 0)) (y 1)) := by
  rw [dother, ← V_main_arg3 m c]
  funext y
  have := row_val (block_lt t) (y 0)
  blk_ext [iblk, index3 t]

/-! ## The input's gradient -/

section
variable (H : Vec Ideal S8448x1024 .f32) (W : Vec Ideal S1x1024 .f32) (D E : Vec Ideal S8448x1024 .f32)

/-- The other path's gradient and the norm's, row by row. -/
def inResult : Vec Ideal S8448x1024 .f32 :=
  fun y => E y + back (fun j => H (ix2 (y 0) j)) (fun j => D (ix2 (y 0) j) * W (ix2 0 j)) (y 1)

/-- The weight's gradient: the sum over the rows of the output's gradient times the row over its root. -/
def weightResult : Vec Ideal S1x1024 .f32 :=
  fun y => ∑ k : Fin 8448, D (ix2 k (y 1)) * (H (ix2 k (y 1)) * root (fun j => H (ix2 k j)))

/-- The summands of the weight's gradient at an index. -/
def summand (y : S1x1024.Idx) (_ : ℕ) (k : Fin 8448) : EReal :=
  D (ix2 k (y 1)) * (H (ix2 k (y 1)) * root (fun j => H (ix2 k j)))

end

theorem in_block (y : S768x1024.Idx) : (outsAt0 m c t.val t.isLt).1 y
    = inResult (hin m c) (nw m c) (dxn m c) (dother m c) (ix2 (row t.val (y 0)) (y 1)) := by
  by_cases h : t.val % 11 = 0
  all_goals
    first | rw [outsAt0_A m c t h] | rw [outsAt0_B m c t h]
    frame_out
    idx_vars y
    rw [grad_apply, iblk0, iblk1, iblk2, iblk3]
    rfl

theorem in_final : (dats m 0 c).arrAt 4 cfg0.N = inResult (hin m c) (nw m c) (dxn m c) (dother m c) := by
  refine (dats m 0 c).arrAt_eq_of_covers 4 _ (by decide +kernel) fun t hf y => ?_
  have := row_val (block_lt t) (y 0)
  blk_simp
  rw [after0_4, in_block]
  refine congrArg (inResult (hin m c) (nw m c) (dxn m c) (dother m c)) ?_
  blk_ext [index4 t]

/-! ## The weight's gradient -/

/-- What a point adds, its number being that of its block of rows. -/
theorem share_eq (y : S1x1024.Idx) :
    (∑ r : Fin 768, dxn m c (ix2 (row t.val r) (y 1)) * (hin m c (ix2 (row t.val r) (y 1)) * root (fun j => hin m c (ix2 (row t.val r) j))))
      = share (summand (hin m c) (dxn m c) y) t.val := by
  rw [share, Nat.mod_eq_of_lt (block_lt t)]
  rfl

theorem acc_first (h : t.val % 11 = 0) (y : S1x1024.Idx) : (outsAt0 m c t.val t.isLt).2 y = 0 + share (summand (hin m c) (dxn m c) y) t.val := by
  rw [outsAt0_A m c t h]
  frame_out
  rw [← share_eq]
  idx_vars y
  rw [Subsingleton.elim y0 0, step_apply, start_apply, iblk0, iblk2]
  rfl

theorem acc_next (h : ¬t.val % 11 = 0) (y : S1x1024.Idx) :
    (outsAt0 m c t.val t.isLt).2 y
      = (outsAt0 m c (t.val - 1) (Nat.lt_of_le_of_lt (Nat.sub_le _ _) t.isLt)).2 y + share (summand (hin m c) (dxn m c) y) t.val := by
  rw [outsAt0_B m c t h]
  frame_out
  rw [← share_eq]
  idx_vars y
  rw [Subsingleton.elim y0 0, step_apply, iblk0, iblk2]
  rfl

/-- The last point leaves the whole sum. -/
theorem weight_last (h : t.val % 11 = 10) (y : S1x1024.Idx) : (outsAt0 m c t.val t.isLt).2 y = weightResult (hin m c) (dxn m c) y := by
  rw [Pipeline.eq_sum_of_reset_step_apply_of_mod (fun n h => (outsAt0 m c n h).2) 11 (fun _ => 0) (fun n y => share (summand (hin m c) (dxn m c) y) n)
    (acc_first m c) (acc_next m c) t h y, zero_add, sum_shares]
  rfl

theorem weight_final : (dats m 0 c).arrAt 5 cfg0.N = weightResult (hin m c) (dxn m c) := by
  refine (dats m 0 c).arrAt_eq_of_covers 5 _ (by decide +kernel) fun t hf y => ?_
  blk_simp
  rw [after0_5, weight_last m c t ((flush0_5 t).mp hf)]
  refine congrArg (weightResult (hin m c) (dxn m c)) ?_
  blk_ext [index5 t]

/-! ## The reference's stages -/

section
open Cert.NormGradReferenceIdeal Cert.NormGradReferenceIdeal.Facts₀

variable (H : FVec Ideal S8448x1024 .f32) (W : FVec Ideal S1x1024 .f32) (D E : FVec Ideal S8448x1024 .f32)

def refSquare : FVec Ideal S8448x1 .f32 :=
  addf (Host.divf (broadcastInDim S8448x1 ![0] bcast_S8448_S8448x1_0 (Host.reduceAdd (mulf H H) (constant S_ .f32 0x00000000#32) reducesTo_S8448x1024_S8448_d1 h_S_))
    (broadcastInDim S8448x1 ![] bcast_S_S8448x1 (constant S_ .f32 0x44800000#32))) (broadcastInDim S8448x1 ![] bcast_S_S8448x1 (constant S_ .f32 0x358637BD#32))

theorem refSquare_apply (a : Fin 8448) : refSquare H (ix2 a 0) = square (fun j => H (ix2 a j)) := by
  pointwise [refSquare, square]

def refRoot : FVec Ideal S8448x1 .f32 := Host.rsqrt (refSquare H)

theorem refRoot_apply (a : Fin 8448) : refRoot H (ix2 a 0) = root (fun j => H (ix2 a j)) := by
  rw [root, ← refSquare_apply]
  pointwise [refRoot]

def refRow : FVec Ideal S8448x1024 .f32 := mulf H (broadcastInDim S8448x1024 ![0, 1] bcast_S8448x1_S8448x1024_0_1 (refRoot H))

theorem refRow_apply (a : Fin 8448) (b : Fin 1024) : refRow H (ix2 a b) = H (ix2 a b) * root (fun j => H (ix2 a j)) := by
  rw [← refRoot_apply]
  pointwise [refRow]

/-- The gradient of the row over its root. -/
def refT : FVec Ideal S8448x1024 .f32 :=
  mulf D (broadcastInDim S8448x1024 ![0, 1] bcast_S1x1024_S8448x1024_0_1 (broadcastInDim S1x1024 ![1] bcast_S1024_S1x1024_1 (shapeCast _ W shapeCasts_S1x1024_S1024)))

theorem refT_apply (a : Fin 8448) (b : Fin 1024) : refT W D (ix2 a b) = D (ix2 a b) * W (ix2 0 b) := by
  pointwise [refT]

def refDot : FVec Ideal S8448x1 .f32 :=
  shapeCast _ (Host.reduceAdd (mulf H (refT W D)) (constant S_ .f32 0x00000000#32) reducesTo_S8448x1024_S8448_d1 h_S_) shapeCasts_S8448_S8448x1

theorem refDot_apply (a : Fin 8448) : refDot H W D (ix2 a 0) = ∑ j : Fin 1024, H (ix2 a j) * (D (ix2 a j) * W (ix2 0 j)) := by
  pointwise [refDot]
  exact Finset.sum_congr rfl fun j _ => congrArg (H (ix2 a j) * ·) (refT_apply W D a j)

def refMean : FVec Ideal S8448x1 .f32 :=
  Host.divf (mulf (refDot H W D) (mulf (broadcastInDim S8448x1 ![] bcast_S_S8448x1 (constant S_ .f32 0xBF000000#32)) (Host.divf (refRoot H) (refSquare H))))
    (broadcastInDim S8448x1 ![] bcast_S_S8448x1 (constant S_ .f32 0x44800000#32))

theorem refMean_apply (a : Fin 8448) : refMean H W D (ix2 a 0) = squareGrad (fun j => H (ix2 a j)) (fun j => D (ix2 a j) * W (ix2 0 j)) := by
  rw [squareGrad, ← refDot_apply, ← refRoot_apply, ← refSquare_apply]
  pointwise [refMean]

def refSlope : FVec Ideal S8448x1024 .f32 :=
  broadcastInDim S8448x1024 ![0] bcast_S8448_S8448x1024_0 (Host.reduceAdd (refMean H W D) (constant S_ .f32 0x00000000#32) reducesTo_S8448x1_S8448_d1 h_S_)

theorem refSlope_apply (a : Fin 8448) (b : Fin 1024) : refSlope H W D (ix2 a b) = squareGrad (fun j => H (ix2 a j)) (fun j => D (ix2 a j) * W (ix2 0 j)) := by
  rw [← refMean_apply]
  pointwise [refSlope]
  exact Fintype.sum_subsingleton _ 0

def refIn : FVec Ideal S8448x1024 .f32 :=
  addf (addf (addf E (mulf (refT W D) (broadcastInDim S8448x1024 ![0, 1] bcast_S8448x1_S8448x1024_0_1 (refRoot H)))) (mulf H (refSlope H W D))) (mulf (refSlope H W D) H)

theorem in_reference : refIn H W D E = inResult H W D E := by
  funext y
  idx_vars y
  have e : refIn H W D E (ix2 y0 y1) = E (ix2 y0 y1) + refT W D (ix2 y0 y1) * refRoot H (ix2 y0 0) + H (ix2 y0 y1) * refSlope H W D (ix2 y0 y1)
      + refSlope H W D (ix2 y0 y1) * H (ix2 y0 y1) := by
    pointwise [refIn]
  rw [e, refT_apply, refRoot_apply, refSlope_apply, add_assoc, add_assoc]
  exact congrArg _ (back_eq (fun j => H (ix2 y0 j)) (fun j => D (ix2 y0 j) * W (ix2 0 j)) y1).symm

def refWeight : FVec Ideal S1x1024 .f32 :=
  broadcastInDim S1x1024 ![1] bcast_S1024_S1x1024_1 (Host.reduceAdd (shapeCast S1x1024 (Host.reduceAdd (mulf (refRow H) D) (constant S_ .f32 0x00000000#32)
    reducesTo_S8448x1024_S1024_d0 h_S_)
    Cert.NormGradReferenceIdeal.Facts₀.shapeCasts_S1024_S1x1024) (constant S_ .f32 0x00000000#32) reducesTo_S1x1024_S1024_d0 h_S_)

theorem weight_reference : refWeight H D = weightResult H D := by
  funext y
  idx_vars y
  have e : refWeight H D (ix2 y0 y1) = ∑ k : Fin 8448, refRow H (ix2 k y1) * D (ix2 k y1) := by
    pointwise [refWeight]
    exact Fintype.sum_subsingleton _ 0
  rw [e]
  exact Finset.sum_congr rfl fun k _ => (congrArg (· * _) (refRow_apply H k y1)).trans (mul_comm _ _)

end

/-! ## The claims -/

theorem quiescent_NormGrad : Cert.quiescent_NormGrad := fun m g _ => Cert.NormGrad.Gen.frame m g

theorem quiescent_NormGradIdeal : Cert.quiescent_NormGradIdeal := fun m g _ => Cert.NormGradIdeal.Gen.frame m g

theorem quiescent_NormGradReferenceIdeal : Cert.quiescent_NormGradReferenceIdeal := fun m g _ =>
  (θ_run _ _ _).mono (fun r h => ⟨fun c => (h c).2.2, sem_eq_zero_of_no_sems (by decide) _⟩) (Cert.NormGradReferenceIdeal.Value.run (F := Ideal) m g)

theorem preserves : Cert.preserves_NormGrad_NormGradIdeal := trivial

theorem algebraic : Cert.algebraic_NormGradIdeal_NormGradReferenceIdeal := by
  intro m g m' g' _ hargs
  refine ⟨fun c => inResult (hin m c) (nw m c) (dxn m c) (dother m c), fun c => weightResult (hin m c) (dxn m c), ?_, ?_⟩
  · exact (θ_run _ _ _).mono (fun r h c => ⟨(h c).1.trans (in_final m c), (h c).2.1.trans (weight_final m c), (h c).2.2⟩) (Cert.NormGradIdeal.Value.run_blocks m g)
  · refine (θ_run _ _ _).mono (fun r h c => ?_) (Cert.NormGradReferenceIdeal.Value.run (F := Ideal) m' g')
    obtain ⟨e0, e1, e2, e3⟩ := hargs c
    refine ⟨(h c).1.trans ?_, (h c).2.1.trans ?_, (h c).2.2⟩
    · unfold Cert.NormGradReferenceIdeal.Value.res_main_v38
      rw [e0, e1, e2, e3]
      exact in_reference (hin m c) (nw m c) (dxn m c) (dother m c)
    · rw [e0, e2]
      exact weight_reference (hin m c) (dxn m c)

end Cert.NormGradIdeal.Grad

end
-- ==== Proof.FirstNormClaims.lean ====
/-
The norm of the layer's input: the kernel norms blocks of rows, the reference the whole array. The lines are those of the norm that ends a
half layer.
-/
module

public import proofs.«01_k».proof.Defs
public import proofs.«01_k».proof.Proof.Blocks
public import proofs.«01_k».proof.Proof.Gen.FirstNorm.Frame
public import proofs.«01_k».proof.Proof.Gen.FirstNormIdeal.Value
public import proofs.«01_k».proof.Proof.Gen.FirstNormReferenceIdeal.Run
public import Idealize.ShloMosaic.Lib.Pipeline.Value
public import Idealize.ShloMosaic.Lib.Pipeline.ValueKit
public import proofs.«01_k».proof.Proof.HalfLayerClaims

@[expose] public section

set_option maxRecDepth 16384

noncomputable section

namespace Cert.FirstNormIdeal.Norm

open Cert.FirstNormIdeal.Gen Cert.Ffn
open Cert.HalfLayerIdeal.Half (normed refNorm refNorm_apply)
open Idealize.ShloMosaic Idealize.ShloMosaic.TcCoe Idealize.SL.Sem

/-! ## One block -/

theorem norm_apply (x : Vec Ideal S768x1024 .f32) (n : Vec Ideal S1x1024 .f32) (a : Fin 768) (b : Fin 1024) :
    k0_pay1 (F := Ideal) x n (ix2 a b) = normed (fun j => x (ix2 a j)) (n (ix2 0 b)) b := by
  pointwise [k0_pay1, normed]

/-! ## The blocks of the arguments -/

theorem index0 : ∀ t : Fin grid0.N, win0_0.index t = ![t.val, 0] := by decide +kernel
theorem index1 : ∀ t : Fin grid0.N, win0_1.index t = ![0, 0] := by decide +kernel
theorem index2 : ∀ t : Fin grid0.N, win0_2.index t = ![t.val, 0] := by decide +kernel

theorem block_lt (t : Fin grid0.N) : t.val < 11 := Nat.lt_of_lt_of_eq t.isLt N_0

variable (m : (ℓ : Loc nD τ sig) → Buf (Elt Ideal) ℓ) (ρ : Dev nD → PrngReg) (c : Dev nD) (t : Fin cfg0.N)

/-- The layer's input on entry. -/
abbrev hin : Vec Ideal S8448x1024 .f32 := m ((c : Thread nD τ).loc main_arg0)
/-- The norm's weight on entry. -/
abbrev nw : Vec Ideal S1x1024 .f32 := m ((c : Thread nD τ).loc main_arg1)

theorem iblk0 : (iblk m c 0 t : Vec Ideal S768x1024 .f32) = fun y => hin m c (ix2 (row t.val (y 0)) (y 1)) := by
  rw [hin, ← V_main_arg0 m c]
  funext y
  have := row_val (block_lt t) (y 0)
  blk_ext [iblk, index0 t]

theorem iblk1 : (iblk m c 1 t : Vec Ideal S1x1024 .f32) = nw m c := by
  rw [nw, ← V_main_arg1 m c]
  funext y
  blk_ext [iblk, index1 t]

/-! ## The result -/

/-- The norm of each row. -/
def result (H : Vec Ideal S8448x1024 .f32) (N : Vec Ideal S1x1024 .f32) : Vec Ideal S8448x1024 .bf16 :=
  fun y => normed (fun j => H (ix2 (y 0) j)) (N (ix2 0 (y 1))) (y 1)

theorem final : (dats m 0 c).arrAt 2 cfg0.N = result (hin m c) (nw m c) := by
  refine (dats m 0 c).arrAt_eq_of_covers 2 _ (by decide +kernel) fun t hf y => ?_
  have := row_val (block_lt t) (y 0)
  blk_simp
  rw [after0_2]
  frame_out
  have e : k0_pay1 (F := Ideal) (iblk m c 0 t) (iblk m c 1 t) y = result (hin m c) (nw m c) (ix2 (row t.val (y 0)) (y 1)) := by
    rw [iblk0, iblk1]
    idx_vars y
    rw [norm_apply]
    rfl
  refine e.trans (congrArg (result (hin m c) (nw m c)) ?_)
  blk_ext [index2 t]

/-- The reference's norm of the whole array. -/
theorem reference_result (H : Vec Ideal S8448x1024 .f32) (N : Vec Ideal S1x1024 .f32) (h₀) : refNorm N h₀ H = result H N := by
  funext y
  idx_vars y
  rw [refNorm_apply]
  rfl

/-! ## The claims -/

theorem quiescent_FirstNorm : Cert.quiescent_FirstNorm := fun m g _ => Cert.FirstNorm.Gen.frame m g

theorem quiescent_FirstNormIdeal : Cert.quiescent_FirstNormIdeal := fun m g _ => Cert.FirstNormIdeal.Gen.frame m g

theorem quiescent_FirstNormReferenceIdeal : Cert.quiescent_FirstNormReferenceIdeal := fun m g _ =>
  (θ_run _ _ _).mono (fun r h => ⟨fun c => (h c).2, sem_eq_zero_of_no_sems (by decide) _⟩) (Cert.FirstNormReferenceIdeal.Value.run (F := Ideal) m g)

theorem preserves : Cert.preserves_FirstNorm_FirstNormIdeal := trivial

theorem algebraic : Cert.algebraic_FirstNormIdeal_FirstNormReferenceIdeal := by
  intro m g m' g' _ hargs
  refine ⟨fun c => result (hin m c) (nw m c), ?_, ?_⟩
  · exact (θ_run _ _ _).mono (fun r h c => ⟨(h c).1.trans (final m c), (h c).2⟩) (Cert.FirstNormIdeal.Value.run_blocks m g)
  · refine (θ_run _ _ _).mono (fun r h c => ?_) (Cert.FirstNormReferenceIdeal.Value.run (F := Ideal) m' g')
    obtain ⟨e0, e1⟩ := hargs c
    refine ⟨(h c).1.trans ?_, (h c).2⟩
    rw [e0, e1]
    exact reference_result (hin m c) (nw m c) _

end Cert.FirstNormIdeal.Norm

end
-- ==== Proof.lean ====
/-
The proof of the claim. The attention gradient: both kernel programs run and end quiescent with their arguments unchanged, the ideal one
differs from the printed one by its named constant alone, and its results are the gradients that the reference has, at finite arguments.
The other calls, gradients and forward parts: the same of each; of these the forward attention alone has named constants.
-/
module

public import proofs.«01_k».proof.Defs
public import proofs.«01_k».proof.Proof.PlainFrame
public import proofs.«01_k».proof.Proof.Gen.ReferenceIdeal.Run
public import proofs.«01_k».proof.Proof.Finite
public import proofs.«01_k».proof.Proof.Results
public import proofs.«01_k».proof.Proof.ActGradClaims
public import proofs.«01_k».proof.Proof.InputGradClaims
public import proofs.«01_k».proof.Proof.UpGradClaims
public import proofs.«01_k».proof.Proof.DownGradClaims
public import proofs.«01_k».proof.Proof.MergeGradClaims
public import proofs.«01_k».proof.Proof.MixInputGradClaims
public import proofs.«01_k».proof.Proof.InWeightGradClaims
public import proofs.«01_k».proof.Proof.GatedHalvesClaims
public import proofs.«01_k».proof.Proof.HalfLayerClaims
public import proofs.«01_k».proof.Proof.AttnForwardClaims
public import proofs.«01_k».proof.Proof.MixColumnsClaims
public import proofs.«01_k».proof.Proof.GateColumnsClaims
public import proofs.«01_k».proof.Proof.MergeClaims
public import proofs.«01_k».proof.Proof.MixOutClaims
public import proofs.«01_k».proof.Proof.OutWeightGradClaims
public import proofs.«01_k».proof.Proof.AttnOutGradClaims
public import proofs.«01_k».proof.Proof.RecOutGradClaims
public import proofs.«01_k».proof.Proof.AttnProjGradClaims
public import proofs.«01_k».proof.Proof.RecProjGradClaims
public import proofs.«01_k».proof.Proof.NormGradClaims
public import proofs.«01_k».proof.Proof.FirstNormClaims

@[expose] public section

noncomputable section

namespace Cert.Proof

open Idealize.ShloMosaic Idealize.SL.Sem

/-- The reference runs, its arguments end unchanged, and it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2, sem_eq_zero_of_no_sems (by decide) _⟩) (Cert.ReferenceIdeal.Value.run m g)

theorem quiescent_Kernel : Cert.quiescent_Kernel := fun m g _ => Cert.Kernel.Plain.frame m g

theorem quiescent_KernelIdeal : Cert.quiescent_KernelIdeal := fun m g _ => Cert.KernelIdeal.Grad.frame m g

theorem quiescent_KernelIdeal_pre_finite : Cert.quiescent_KernelIdeal_pre_finite := fun m g _ => Cert.KernelIdeal.Grad.frame m g

theorem quiescent_ReferenceIdeal : Cert.quiescent_ReferenceIdeal := fun m g _ => reference_frame m g

theorem quiescent_ReferenceIdeal_pre_finite : Cert.quiescent_ReferenceIdeal_pre_finite := fun m g _ => reference_frame m g

theorem preserves : Cert.preserves_Kernel_KernelIdeal :=
  IdealRules.named_const.statement Cert.KernelIdeal.κ "scale_log2e" .f32 0x3E16C740#32
    (((3424635 / 33554432) * (Real.log 2)⁻¹ : ℝ) : EReal) rfl

theorem algebraic : Cert.algebraic_KernelIdeal_ReferenceIdeal_pre_finite := by
  intro m g m' g' hpre hargs
  refine ⟨fun c => Cert.KernelIdeal.Grad.dqResult m c, fun c => Cert.KernelIdeal.Grad.dkvResult m c, ?_, ?_⟩
  · exact (θ_run _ _ _).mono (fun r h c => ⟨(h.1 c).1, (h.1 c).2, h.2.1 c⟩)
      (θ_run_and (Cert.KernelIdeal.Grad.run_results m g) (Cert.KernelIdeal.Grad.frame m g))
  · refine (θ_run _ _ _).mono (fun r h c => ?_) (Cert.ReferenceIdeal.Value.run m' g')
    obtain ⟨q, kv, gr, h0, h1, h2⟩ := Cert.Pre_finite.reals_of_fn _ _ _ (hpre c)
    obtain ⟨e0, e1, e2⟩ := hargs c
    exact ⟨(h c).1.trans (Cert.Attention.result0_eq m m' c e0 e1 e2 h0 h1 h2),
      (h c).2.1.trans (Cert.Attention.result1_eq m m' c e0 e1 e2 h0 h1 h2), (h c).2.2⟩

theorem claim : Cert.Claim :=
  ⟨Cert.Kernel.Gen.facts, Cert.KernelIdeal.Gen.facts, Cert.ReferenceIdeal.Gen.facts,
    Cert.ActGrad.Gen.facts, Cert.ActGradIdeal.Gen.facts, Cert.ActGradReferenceIdeal.Gen.facts,
    Cert.InputGrad.Gen.facts, Cert.InputGradIdeal.Gen.facts, Cert.InputGradReferenceIdeal.Gen.facts,
    Cert.UpGrad.Gen.facts, Cert.UpGradIdeal.Gen.facts, Cert.UpGradReferenceIdeal.Gen.facts,
    Cert.DownGrad.Gen.facts, Cert.DownGradIdeal.Gen.facts, Cert.DownGradReferenceIdeal.Gen.facts,
    Cert.MergeGrad.Gen.facts, Cert.MergeGradIdeal.Gen.facts, Cert.MergeGradReferenceIdeal.Gen.facts,
    Cert.MixInputGrad.Gen.facts, Cert.MixInputGradIdeal.Gen.facts, Cert.MixInputGradReferenceIdeal.Gen.facts,
    Cert.InWeightGrad.Gen.facts, Cert.InWeightGradIdeal.Gen.facts, Cert.InWeightGradReferenceIdeal.Gen.facts,
    Cert.GatedHalves.Gen.facts, Cert.GatedHalvesIdeal.Gen.facts, Cert.GatedHalvesReferenceIdeal.Gen.facts,
    Cert.HalfLayer.Gen.facts, Cert.HalfLayerIdeal.Gen.facts, Cert.HalfLayerReferenceIdeal.Gen.facts,
    Cert.AttnForward.Gen.facts, Cert.AttnForwardIdeal.Gen.facts, Cert.AttnForwardReferenceIdeal.Gen.facts,
    Cert.MixColumns.Gen.facts, Cert.MixColumnsIdeal.Gen.facts, Cert.MixColumnsReferenceIdeal.Gen.facts,
    Cert.GateColumns.Gen.facts, Cert.GateColumnsIdeal.Gen.facts, Cert.GateColumnsReferenceIdeal.Gen.facts,
    Cert.Merge.Gen.facts, Cert.MergeIdeal.Gen.facts, Cert.MergeReferenceIdeal.Gen.facts,
    Cert.MixOut.Gen.facts, Cert.MixOutIdeal.Gen.facts, Cert.MixOutReferenceIdeal.Gen.facts,
    Cert.OutWeightGrad.Gen.facts, Cert.OutWeightGradIdeal.Gen.facts, Cert.OutWeightGradReferenceIdeal.Gen.facts,
    Cert.AttnOutGrad.Gen.facts, Cert.AttnOutGradIdeal.Gen.facts, Cert.AttnOutGradReferenceIdeal.Gen.facts,
    Cert.RecOutGrad.Gen.facts, Cert.RecOutGradIdeal.Gen.facts, Cert.RecOutGradReferenceIdeal.Gen.facts,
    Cert.AttnProjGrad.Gen.facts, Cert.AttnProjGradIdeal.Gen.facts, Cert.AttnProjGradReferenceIdeal.Gen.facts,
    Cert.RecProjGrad.Gen.facts, Cert.RecProjGradIdeal.Gen.facts, Cert.RecProjGradReferenceIdeal.Gen.facts,
    Cert.NormGrad.Gen.facts, Cert.NormGradIdeal.Gen.facts, Cert.NormGradReferenceIdeal.Gen.facts,
    Cert.FirstNorm.Gen.facts, Cert.FirstNormIdeal.Gen.facts, Cert.FirstNormReferenceIdeal.Gen.facts,
    Cert.Pre_finite.facts, Cert.Pre_finite_acts.facts, Cert.Pre_finite_rows.facts,
    quiescent_Kernel, quiescent_KernelIdeal, quiescent_KernelIdeal_pre_finite, quiescent_ReferenceIdeal, quiescent_ReferenceIdeal_pre_finite,
    Cert.ActGradIdeal.Grad.quiescent_ActGrad, Cert.ActGradIdeal.Grad.quiescent_ActGradIdeal,
    Cert.ActGradIdeal.Grad.quiescent_ActGradIdeal_pre_finite_acts, Cert.ActGradIdeal.Grad.quiescent_ActGradReferenceIdeal,
    Cert.ActGradIdeal.Grad.quiescent_ActGradReferenceIdeal_pre_finite_acts,
    Cert.InputGradIdeal.Grad.quiescent_InputGrad, Cert.InputGradIdeal.Grad.quiescent_InputGradIdeal,
    Cert.InputGradIdeal.Grad.quiescent_InputGradReferenceIdeal,
    Cert.UpGradIdeal.Grad.quiescent_UpGrad, Cert.UpGradIdeal.Grad.quiescent_UpGradIdeal, Cert.UpGradIdeal.Grad.quiescent_UpGradReferenceIdeal,
    Cert.DownGradIdeal.Grad.quiescent_DownGrad, Cert.DownGradIdeal.Grad.quiescent_DownGradIdeal,
    Cert.DownGradIdeal.Grad.quiescent_DownGradReferenceIdeal,
    Cert.MergeGradIdeal.Grad.quiescent_MergeGrad, Cert.MergeGradIdeal.Grad.quiescent_MergeGradIdeal, Cert.MergeGradIdeal.Grad.quiescent_MergeGradReferenceIdeal,
    Cert.MixInputGradIdeal.Grad.quiescent_MixInputGrad, Cert.MixInputGradIdeal.Grad.quiescent_MixInputGradIdeal, Cert.MixInputGradIdeal.Grad.quiescent_MixInputGradReferenceIdeal,
    Cert.InWeightGradIdeal.Grad.quiescent_InWeightGrad, Cert.InWeightGradIdeal.Grad.quiescent_InWeightGradIdeal, Cert.InWeightGradIdeal.Grad.quiescent_InWeightGradReferenceIdeal,
    Cert.GatedHalvesIdeal.Halves.quiescent_GatedHalves, Cert.GatedHalvesIdeal.Halves.quiescent_GatedHalvesIdeal, Cert.GatedHalvesIdeal.Halves.quiescent_GatedHalvesReferenceIdeal,
    Cert.HalfLayerIdeal.Half.quiescent_HalfLayer, Cert.HalfLayerIdeal.Half.quiescent_HalfLayerIdeal, Cert.HalfLayerIdeal.Half.quiescent_HalfLayerReferenceIdeal,
    Cert.AttnForwardIdeal.Pass.quiescent_AttnForward, Cert.AttnForwardIdeal.Pass.quiescent_AttnForwardIdeal,
    Cert.AttnForwardIdeal.Pass.quiescent_AttnForwardIdeal_finite_rows, Cert.AttnForwardIdeal.Pass.quiescent_AttnForwardReferenceIdeal,
    Cert.AttnForwardIdeal.Pass.quiescent_AttnForwardReferenceIdeal_finite_rows,
    Cert.MixColumnsIdeal.Cols.quiescent_MixColumns, Cert.MixColumnsIdeal.Cols.quiescent_MixColumnsIdeal, Cert.MixColumnsIdeal.Cols.quiescent_MixColumnsReferenceIdeal,
    Cert.GateColumnsIdeal.Cols.quiescent_GateColumns, Cert.GateColumnsIdeal.Cols.quiescent_GateColumnsIdeal, Cert.GateColumnsIdeal.Cols.quiescent_GateColumnsReferenceIdeal,
    Cert.MergeIdeal.Fwd.quiescent_Merge, Cert.MergeIdeal.Fwd.quiescent_MergeIdeal, Cert.MergeIdeal.Fwd.quiescent_MergeReferenceIdeal,
    Cert.MixOutIdeal.Out.quiescent_MixOut, Cert.MixOutIdeal.Out.quiescent_MixOutIdeal, Cert.MixOutIdeal.Out.quiescent_MixOutReferenceIdeal,
    Cert.OutWeightGradIdeal.Grad.quiescent_OutWeightGrad, Cert.OutWeightGradIdeal.Grad.quiescent_OutWeightGradIdeal, Cert.OutWeightGradIdeal.Grad.quiescent_OutWeightGradReferenceIdeal,
    Cert.AttnOutGradIdeal.Grad.quiescent_AttnOutGrad, Cert.AttnOutGradIdeal.Grad.quiescent_AttnOutGradIdeal, Cert.AttnOutGradIdeal.Grad.quiescent_AttnOutGradReferenceIdeal,
    Cert.RecOutGradIdeal.Grad.quiescent_RecOutGrad, Cert.RecOutGradIdeal.Grad.quiescent_RecOutGradIdeal, Cert.RecOutGradIdeal.Grad.quiescent_RecOutGradReferenceIdeal,
    Cert.AttnProjGradIdeal.Grad.quiescent_AttnProjGrad, Cert.AttnProjGradIdeal.Grad.quiescent_AttnProjGradIdeal, Cert.AttnProjGradIdeal.Grad.quiescent_AttnProjGradReferenceIdeal,
    Cert.RecProjGradIdeal.Grad.quiescent_RecProjGrad, Cert.RecProjGradIdeal.Grad.quiescent_RecProjGradIdeal, Cert.RecProjGradIdeal.Grad.quiescent_RecProjGradReferenceIdeal,
    Cert.NormGradIdeal.Grad.quiescent_NormGrad, Cert.NormGradIdeal.Grad.quiescent_NormGradIdeal, Cert.NormGradIdeal.Grad.quiescent_NormGradReferenceIdeal,
    Cert.FirstNormIdeal.Norm.quiescent_FirstNorm, Cert.FirstNormIdeal.Norm.quiescent_FirstNormIdeal, Cert.FirstNormIdeal.Norm.quiescent_FirstNormReferenceIdeal,
    preserves, algebraic, Cert.ActGradIdeal.Grad.preserves, Cert.ActGradIdeal.Grad.algebraic,
    Cert.InputGradIdeal.Grad.preserves, Cert.InputGradIdeal.Grad.algebraic, Cert.UpGradIdeal.Grad.preserves, Cert.UpGradIdeal.Grad.algebraic,
    Cert.DownGradIdeal.Grad.preserves, Cert.DownGradIdeal.Grad.algebraic,
    Cert.MergeGradIdeal.Grad.preserves, Cert.MergeGradIdeal.Grad.algebraic,
    Cert.MixInputGradIdeal.Grad.preserves, Cert.MixInputGradIdeal.Grad.algebraic,
    Cert.InWeightGradIdeal.Grad.preserves, Cert.InWeightGradIdeal.Grad.algebraic,
    Cert.GatedHalvesIdeal.Halves.preserves, Cert.GatedHalvesIdeal.Halves.algebraic,
    Cert.HalfLayerIdeal.Half.preserves, Cert.HalfLayerIdeal.Half.algebraic,
    Cert.AttnForwardIdeal.Pass.preserves, Cert.AttnForwardIdeal.Pass.algebraic,
    Cert.MixColumnsIdeal.Cols.preserves, Cert.MixColumnsIdeal.Cols.algebraic,
    Cert.GateColumnsIdeal.Cols.preserves, Cert.GateColumnsIdeal.Cols.algebraic,
    Cert.MergeIdeal.Fwd.preserves, Cert.MergeIdeal.Fwd.algebraic,
    Cert.MixOutIdeal.Out.preserves, Cert.MixOutIdeal.Out.algebraic,
    Cert.OutWeightGradIdeal.Grad.preserves, Cert.OutWeightGradIdeal.Grad.algebraic,
    Cert.AttnOutGradIdeal.Grad.preserves, Cert.AttnOutGradIdeal.Grad.algebraic,
    Cert.RecOutGradIdeal.Grad.preserves, Cert.RecOutGradIdeal.Grad.algebraic,
    Cert.AttnProjGradIdeal.Grad.preserves, Cert.AttnProjGradIdeal.Grad.algebraic,
    Cert.RecProjGradIdeal.Grad.preserves, Cert.RecProjGradIdeal.Grad.algebraic,
    Cert.NormGradIdeal.Grad.preserves, Cert.NormGradIdeal.Grad.algebraic,
    Cert.FirstNormIdeal.Norm.preserves, Cert.FirstNormIdeal.Norm.algebraic⟩

end Cert.Proof

end
